-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S4x2x128x512 : Shape := ⟨4, ![4, 2, 128, 512]⟩
abbrev S32x128 : Shape := ⟨2, ![32, 128]⟩
abbrev S4x2 : Shape := ⟨2, ![4, 2]⟩
abbrev S4 : Shape := ⟨1, ![4]⟩
abbrev S1 : Shape := ⟨1, ![1]⟩
abbrev S_ : Shape := ⟨0, ![]⟩
abbrev S128x128 : Shape := ⟨2, ![128, 128]⟩
abbrev S1x1 : Shape := ⟨2, ![1, 1]⟩
abbrev S1x1x128x512 : Shape := ⟨4, ![1, 1, 128, 512]⟩
abbrev S128x512 : Shape := ⟨2, ![128, 512]⟩
abbrev S128x1024 : Shape := ⟨2, ![128, 1024]⟩
abbrev S1x128x1024 : Shape := ⟨3, ![1, 128, 1024]⟩
abbrev S1x1x1 : Shape := ⟨3, ![1, 1, 1]⟩
abbrev S1x128 : Shape := ⟨2, ![1, 128]⟩
abbrev S1x32x128 : Shape := ⟨3, ![1, 32, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S4096x2048, .f32⟩
  | .local _ .vmem, ⟨0, _⟩ => ⟨S4096x128, .f32⟩
  | .local _ .vmem, ⟨1, _⟩ => ⟨S128x2048, .f32⟩
  | .local _ .vmem, ⟨2, _⟩ => ⟨S4096x2048, .f32⟩
  | .local _ .vmem, ⟨3, _⟩ => ⟨S4x2x128x512, .f32⟩
  | .local _ .vmem, ⟨4, _⟩ => ⟨S4096x2048, .fp8e4m3⟩
  | .local _ .vmem, ⟨5, _⟩ => ⟨S32x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 9 37 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_101 : BitVec 32 := 1#32
  let v132 : BitVec 32 := Scalar.muli v130 c1_i32_101
  let v133 : BitVec 32 := Scalar.addi c0_i32_102 v132
  v133.toNat
def k0_dev2 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_104 : BitVec 32 := 1#32
  let v134 : BitVec 32 := Scalar.muli v129 c1_i32_104
  let v135 : BitVec 32 := Scalar.addi c0_i32_105 v134
  v135.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c128_i32 : BitVec 32 := 128#32
  let v136 : BitVec 32 := Scalar.muli v128 c128_i32
  let v137 : Index := Scalar.indexCast v136
  let c0 : Index := 0#32
  ![v137.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c128_i32_109 : BitVec 32 := 128#32
  let v143 : BitVec 32 := Scalar.muli v128 c128_i32_109
  let v144 : Index := Scalar.indexCast v143
  let c0_110 : Index := 0#32
  ![v144.toNat, 0]
def k0_off3 (d0 : Dev nD) (c0_i32_111 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v146 : BitVec 32 := Scalar.subi v128 c0_i32_111
  let c64_i32 : BitVec 32 := 64#32
  let v147 : BitVec 32 := Scalar.addi v146 c64_i32
  let c32_i32_112 : BitVec 32 := 32#32
  let v148 : BitVec 32 := Scalar.remsi v147 c32_i32_112
  let c128_i32_113 : BitVec 32 := 128#32
  let v149 : BitVec 32 := Scalar.muli v148 c128_i32_113
  let c0_i32_124 : BitVec 32 := 0#32
  ![v149.toNat, 0]
def k0_dev3 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_120 : BitVec 32 := 1#32
  let v150 : BitVec 32 := Scalar.muli v129 c1_i32_120
  let v151 : BitVec 32 := Scalar.addi c0_i32_121 v150
  v151.toNat
def k0_off4 (d0 : Dev nD) (c0_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v159 : BitVec 32 := Scalar.subi v128 c0_i32_125
  let c64_i32_126 : BitVec 32 := 64#32
  let v160 : BitVec 32 := Scalar.addi v159 c64_i32_126
  let c32_i32_127 : BitVec 32 := 32#32
  let v161 : BitVec 32 := Scalar.remsi v160 c32_i32_127
  let c128_i32_128 : BitVec 32 := 128#32
  let v162 : BitVec 32 := Scalar.muli v161 c128_i32_128
  let c512_i32 : BitVec 32 := 512#32
  ![v162.toNat, 512]
def k0_dev4 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_135 : BitVec 32 := 1#32
  let v163 : BitVec 32 := Scalar.muli v129 c1_i32_135
  let v164 : BitVec 32 := Scalar.addi c0_i32_136 v163
  v164.toNat
def k0_off5 (d0 : Dev nD) (c0_i32_139 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v172 : BitVec 32 := Scalar.addi v128 c0_i32_139
  let c64_i32_140 : BitVec 32 := 64#32
  let v173 : BitVec 32 := Scalar.addi v172 c64_i32_140
  let c32_i32_141 : BitVec 32 := 32#32
  let v174 : BitVec 32 := Scalar.remsi v173 c32_i32_141
  let c128_i32_142 : BitVec 32 := 128#32
  let v175 : BitVec 32 := Scalar.muli v174 c128_i32_142
  let c1024_i32 : BitVec 32 := 1024#32
  ![v175.toNat, 1024]
def k0_dev5 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_149 : BitVec 32 := 1#32
  let v176 : BitVec 32 := Scalar.muli v130 c1_i32_149
  let v177 : BitVec 32 := Scalar.addi c0_i32_150 v176
  v177.toNat
def k0_off6 (d0 : Dev nD) (c0_i32_153 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v185 : BitVec 32 := Scalar.addi v128 c0_i32_153
  let c64_i32_154 : BitVec 32 := 64#32
  let v186 : BitVec 32 := Scalar.addi v185 c64_i32_154
  let c32_i32_155 : BitVec 32 := 32#32
  let v187 : BitVec 32 := Scalar.remsi v186 c32_i32_155
  let c128_i32_156 : BitVec 32 := 128#32
  let v188 : BitVec 32 := Scalar.muli v187 c128_i32_156
  let c1536_i32 : BitVec 32 := 1536#32
  ![v188.toNat, 1536]
def k0_dev6 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_163 : BitVec 32 := 1#32
  let v189 : BitVec 32 := Scalar.muli v130 c1_i32_163
  let v190 : BitVec 32 := Scalar.addi c0_i32_164 v189
  v190.toNat
def k0_off7 (d0 : Dev nD) (c0_i32_167 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v198 : BitVec 32 := Scalar.subi v128 c0_i32_167
  let c1_i32_168 : BitVec 32 := 1#32
  let v199 : BitVec 32 := Scalar.subi v198 c1_i32_168
  let c64_i32_169 : BitVec 32 := 64#32
  let v200 : BitVec 32 := Scalar.addi v199 c64_i32_169
  let c32_i32_170 : BitVec 32 := 32#32
  let v201 : BitVec 32 := Scalar.remsi v200 c32_i32_170
  let c128_i32_171 : BitVec 32 := 128#32
  let v202 : BitVec 32 := Scalar.muli v201 c128_i32_171
  let v203 : Index := Scalar.indexCast v202
  let c0_172 : Index := 0#32
  ![v203.toNat, 0]
def k0_off8 (d0 : Dev nD) (c0_i32_167 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v198 : BitVec 32 := Scalar.subi v128 c0_i32_167
  let c1_i32_168 : BitVec 32 := 1#32
  let v199 : BitVec 32 := Scalar.subi v198 c1_i32_168
  let c64_i32_169 : BitVec 32 := 64#32
  let v200 : BitVec 32 := Scalar.addi v199 c64_i32_169
  let c32_i32_170 : BitVec 32 := 32#32
  let v201 : BitVec 32 := Scalar.remsi v200 c32_i32_170
  let c128_i32_176 : BitVec 32 := 128#32
  let v209 : BitVec 32 := Scalar.muli v201 c128_i32_176
  let v210 : Index := Scalar.indexCast v209
  let c0_177 : Index := 0#32
  ![v210.toNat, 0]
def k0_off9 (d0 : Dev nD) (c0_i32_178 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v212 : BitVec 32 := Scalar.addi v128 c0_i32_178
  let c1_i32_179 : BitVec 32 := 1#32
  let v213 : BitVec 32 := Scalar.addi v212 c1_i32_179
  let c64_i32_180 : BitVec 32 := 64#32
  let v214 : BitVec 32 := Scalar.addi v213 c64_i32_180
  let c32_i32_181 : BitVec 32 := 32#32
  let v215 : BitVec 32 := Scalar.remsi v214 c32_i32_181
  let c128_i32_182 : BitVec 32 := 128#32
  let v216 : BitVec 32 := Scalar.muli v215 c128_i32_182
  let v217 : Index := Scalar.indexCast v216
  let c0_183 : Index := 0#32
  ![v217.toNat, 0]
def k0_off10 (d0 : Dev nD) (c0_i32_178 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v212 : BitVec 32 := Scalar.addi v128 c0_i32_178
  let c1_i32_179 : BitVec 32 := 1#32
  let v213 : BitVec 32 := Scalar.addi v212 c1_i32_179
  let c64_i32_180 : BitVec 32 := 64#32
  let v214 : BitVec 32 := Scalar.addi v213 c64_i32_180
  let c32_i32_181 : BitVec 32 := 32#32
  let v215 : BitVec 32 := Scalar.remsi v214 c32_i32_181
  let c128_i32_186 : BitVec 32 := 128#32
  let v223 : BitVec 32 := Scalar.muli v215 c128_i32_186
  let v224 : Index := Scalar.indexCast v223
  let c1024_187 : Index := 1024#32
  ![v224.toNat, 1024]
def k0_off11 (d0 : Dev nD) (c0_i32_188 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v226 : BitVec 32 := Scalar.subi v128 c0_i32_188
  let c1_i32_189 : BitVec 32 := 1#32
  let v227 : BitVec 32 := Scalar.subi v226 c1_i32_189
  let c64_i32_190 : BitVec 32 := 64#32
  let v228 : BitVec 32 := Scalar.addi v227 c64_i32_190
  let c32_i32_191 : BitVec 32 := 32#32
  let v229 : BitVec 32 := Scalar.remsi v228 c32_i32_191
  let c128_i32_203 : BitVec 32 := 128#32
  let v237 : BitVec 32 := Scalar.muli v229 c128_i32_203
  let v238 : Index := Scalar.indexCast v237
  let c0_204 : Index := 0#32
  ![v238.toNat, 0]
def k0_dev7 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_213 : BitVec 32 := 1#32
  let v249 : BitVec 32 := Scalar.muli v130 c1_i32_213
  let v250 : BitVec 32 := Scalar.addi c0_i32_214 v249
  v250.toNat
def k0_dev8 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_225 : BitVec 32 := 1#32
  let v255 : BitVec 32 := Scalar.muli v129 c1_i32_225
  let v256 : BitVec 32 := Scalar.addi c0_i32_226 v255
  v256.toNat
def k0_off12 (d0 : Dev nD) (c0_i32_230 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v264 : BitVec 32 := Scalar.subi v128 c0_i32_230
  let c1_i32_231 : BitVec 32 := 1#32
  let v265 : BitVec 32 := Scalar.subi v264 c1_i32_231
  let c64_i32_232 : BitVec 32 := 64#32
  let v266 : BitVec 32 := Scalar.addi v265 c64_i32_232
  let c32_i32_233 : BitVec 32 := 32#32
  let v267 : BitVec 32 := Scalar.remsi v266 c32_i32_233
  let c128_i32_245 : BitVec 32 := 128#32
  let v275 : BitVec 32 := Scalar.muli v267 c128_i32_245
  let v276 : Index := Scalar.indexCast v275
  let c512 : Index := 512#32
  ![v276.toNat, 512]
def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_253 : BitVec 32 := 1#32
  let v287 : BitVec 32 := Scalar.muli v130 c1_i32_253
  let v288 : BitVec 32 := Scalar.addi c0_i32_254 v287
  v288.toNat
def k0_dev10 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_265 : BitVec 32 := 1#32
  let v293 : BitVec 32 := Scalar.muli v129 c1_i32_265
  let v294 : BitVec 32 := Scalar.addi c0_i32_266 v293
  v294.toNat
def k0_off13 (d0 : Dev nD) (c0_i32_270 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v302 : BitVec 32 := Scalar.addi v128 c0_i32_270
  let c1_i32_271 : BitVec 32 := 1#32
  let v303 : BitVec 32 := Scalar.addi v302 c1_i32_271
  let c64_i32_272 : BitVec 32 := 64#32
  let v304 : BitVec 32 := Scalar.addi v303 c64_i32_272
  let c32_i32_273 : BitVec 32 := 32#32
  let v305 : BitVec 32 := Scalar.remsi v304 c32_i32_273
  let c128_i32_285 : BitVec 32 := 128#32
  let v313 : BitVec 32 := Scalar.muli v305 c128_i32_285
  let v314 : Index := Scalar.indexCast v313
  let c1024_286 : Index := 1024#32
  ![v314.toNat, 1024]
def k0_dev11 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_294 : BitVec 32 := 1#32
  let v325 : BitVec 32 := Scalar.muli v129 c1_i32_294
  let v326 : BitVec 32 := Scalar.addi c0_i32_295 v325
  v326.toNat
def k0_dev12 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_306 : BitVec 32 := 1#32
  let v331 : BitVec 32 := Scalar.muli v130 c1_i32_306
  let v332 : BitVec 32 := Scalar.addi c0_i32_307 v331
  v332.toNat
def k0_off14 (d0 : Dev nD) (c0_i32_311 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v340 : BitVec 32 := Scalar.addi v128 c0_i32_311
  let c1_i32_312 : BitVec 32 := 1#32
  let v341 : BitVec 32 := Scalar.addi v340 c1_i32_312
  let c64_i32_313 : BitVec 32 := 64#32
  let v342 : BitVec 32 := Scalar.addi v341 c64_i32_313
  let c32_i32_314 : BitVec 32 := 32#32
  let v343 : BitVec 32 := Scalar.remsi v342 c32_i32_314
  let c128_i32_326 : BitVec 32 := 128#32
  let v351 : BitVec 32 := Scalar.muli v343 c128_i32_326
  let v352 : Index := Scalar.indexCast v351
  let c1536 : Index := 1536#32
  ![v352.toNat, 1536]
def k0_dev13 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_334 : BitVec 32 := 1#32
  let v363 : BitVec 32 := Scalar.muli v129 c1_i32_334
  let v364 : BitVec 32 := Scalar.addi c0_i32_335 v363
  v364.toNat
def k0_dev14 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_346 : BitVec 32 := 1#32
  let v369 : BitVec 32 := Scalar.muli v130 c1_i32_346
  let v370 : BitVec 32 := Scalar.addi c0_i32_347 v369
  v370.toNat
def k0_dev15 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_398 : BitVec 32 := 1#32
  let v429 : BitVec 32 := Scalar.muli v130 c1_i32_398
  let v430 : BitVec 32 := Scalar.addi c0_i32_399 v429
  v430.toNat
def k0_dev16 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_423 : BitVec 32 := 1#32
  let v442 : BitVec 32 := Scalar.muli v129 c1_i32_423
  let v443 : BitVec 32 := Scalar.addi c0_i32_424 v442
  v443.toNat
def k0_dev17 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_453 : BitVec 32 := 1#32
  let v474 : BitVec 32 := Scalar.muli v130 c1_i32_453
  let v475 : BitVec 32 := Scalar.addi c0_i32_454 v474
  v475.toNat
def k0_dev18 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_478 : BitVec 32 := 1#32
  let v487 : BitVec 32 := Scalar.muli v129 c1_i32_478
  let v488 : BitVec 32 := Scalar.addi c0_i32_479 v487
  v488.toNat
def k0_dev19 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_508 : BitVec 32 := 1#32
  let v519 : BitVec 32 := Scalar.muli v129 c1_i32_508
  let v520 : BitVec 32 := Scalar.addi c0_i32_509 v519
  v520.toNat
def k0_dev20 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_533 : BitVec 32 := 1#32
  let v532 : BitVec 32 := Scalar.muli v130 c1_i32_533
  let v533 : BitVec 32 := Scalar.addi c0_i32_534 v532
  v533.toNat
def k0_dev21 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_563 : BitVec 32 := 1#32
  let v564 : BitVec 32 := Scalar.muli v129 c1_i32_563
  let v565 : BitVec 32 := Scalar.addi c0_i32_564 v564
  v565.toNat
def k0_dev22 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_588 : BitVec 32 := 1#32
  let v577 : BitVec 32 := Scalar.muli v130 c1_i32_588
  let v578 : BitVec 32 := Scalar.addi c0_i32_589 v577
  v578.toNat
def k0_dev23 (d0 : Dev nD) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_640 : BitVec 32 := 1#32
  let v637 : BitVec 32 := Scalar.muli v130 c1_i32_640
  let v638 : BitVec 32 := Scalar.addi c0_i32_641 v637
  v638.toNat
def k0_dev24 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_665 : BitVec 32 := 1#32
  let v650 : BitVec 32 := Scalar.muli v129 c1_i32_665
  let v651 : BitVec 32 := Scalar.addi c0_i32_666 v650
  v651.toNat
def k0_dev25 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_695 : BitVec 32 := 1#32
  let v682 : BitVec 32 := Scalar.muli v130 c1_i32_695
  let v683 : BitVec 32 := Scalar.addi c0_i32_696 v682
  v683.toNat
def k0_dev26 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_720 : BitVec 32 := 1#32
  let v695 : BitVec 32 := Scalar.muli v129 c1_i32_720
  let v696 : BitVec 32 := Scalar.addi c0_i32_721 v695
  v696.toNat
def k0_dev27 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_750 : BitVec 32 := 1#32
  let v727 : BitVec 32 := Scalar.muli v129 c1_i32_750
  let v728 : BitVec 32 := Scalar.addi c0_i32_751 v727
  v728.toNat
def k0_dev28 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_775 : BitVec 32 := 1#32
  let v740 : BitVec 32 := Scalar.muli v130 c1_i32_775
  let v741 : BitVec 32 := Scalar.addi c0_i32_776 v740
  v741.toNat
def k0_dev29 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_805 : BitVec 32 := 1#32
  let v772 : BitVec 32 := Scalar.muli v129 c1_i32_805
  let v773 : BitVec 32 := Scalar.addi c0_i32_806 v772
  v773.toNat
def k0_dev30 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_830 : BitVec 32 := 1#32
  let v785 : BitVec 32 := Scalar.muli v130 c1_i32_830
  let v786 : BitVec 32 := Scalar.addi c0_i32_831 v785
  v786.toNat
def k0_dev31 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_882 : BitVec 32 := 1#32
  let v845 : BitVec 32 := Scalar.muli v130 c1_i32_882
  let v846 : BitVec 32 := Scalar.addi c0_i32_883 v845
  v846.toNat
def k0_dev32 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_907 : BitVec 32 := 1#32
  let v858 : BitVec 32 := Scalar.muli v129 c1_i32_907
  let v859 : BitVec 32 := Scalar.addi c0_i32_908 v858
  v859.toNat
def k0_dev33 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_937 : BitVec 32 := 1#32
  let v890 : BitVec 32 := Scalar.muli v130 c1_i32_937
  let v891 : BitVec 32 := Scalar.addi c0_i32_938 v890
  v891.toNat
def k0_dev34 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_962 : BitVec 32 := 1#32
  let v903 : BitVec 32 := Scalar.muli v129 c1_i32_962
  let v904 : BitVec 32 := Scalar.addi c0_i32_963 v903
  v904.toNat
def k0_dev35 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_992 : BitVec 32 := 1#32
  let v935 : BitVec 32 := Scalar.muli v129 c1_i32_992
  let v936 : BitVec 32 := Scalar.addi c0_i32_993 v935
  v936.toNat
def k0_dev36 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1017 : BitVec 32 := 1#32
  let v948 : BitVec 32 := Scalar.muli v130 c1_i32_1017
  let v949 : BitVec 32 := Scalar.addi c0_i32_1018 v948
  v949.toNat
def k0_dev37 (d0 : Dev nD) : Nat :=
  let c0_i32_1048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1047 : BitVec 32 := 1#32
  let v980 : BitVec 32 := Scalar.muli v129 c1_i32_1047
  let v981 : BitVec 32 := Scalar.addi c0_i32_1048 v980
  v981.toNat
def k0_dev38 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1072 : BitVec 32 := 1#32
  let v993 : BitVec 32 := Scalar.muli v130 c1_i32_1072
  let v994 : BitVec 32 := Scalar.addi c0_i32_1073 v993
  v994.toNat
def k0_dev39 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1124 : BitVec 32 := 1#32
  let v1053 : BitVec 32 := Scalar.muli v130 c1_i32_1124
  let v1054 : BitVec 32 := Scalar.addi c0_i32_1125 v1053
  v1054.toNat
def k0_dev40 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1149 : BitVec 32 := 1#32
  let v1066 : BitVec 32 := Scalar.muli v129 c1_i32_1149
  let v1067 : BitVec 32 := Scalar.addi c0_i32_1150 v1066
  v1067.toNat
def k0_dev41 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1179 : BitVec 32 := 1#32
  let v1098 : BitVec 32 := Scalar.muli v130 c1_i32_1179
  let v1099 : BitVec 32 := Scalar.addi c0_i32_1180 v1098
  v1099.toNat
def k0_dev42 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1204 : BitVec 32 := 1#32
  let v1111 : BitVec 32 := Scalar.muli v129 c1_i32_1204
  let v1112 : BitVec 32 := Scalar.addi c0_i32_1205 v1111
  v1112.toNat
def k0_dev43 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1234 : BitVec 32 := 1#32
  let v1143 : BitVec 32 := Scalar.muli v129 c1_i32_1234
  let v1144 : BitVec 32 := Scalar.addi c0_i32_1235 v1143
  v1144.toNat
def k0_dev44 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1259 : BitVec 32 := 1#32
  let v1156 : BitVec 32 := Scalar.muli v130 c1_i32_1259
  let v1157 : BitVec 32 := Scalar.addi c0_i32_1260 v1156
  v1157.toNat
def k0_dev45 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1289 : BitVec 32 := 1#32
  let v1188 : BitVec 32 := Scalar.muli v129 c1_i32_1289
  let v1189 : BitVec 32 := Scalar.addi c0_i32_1290 v1188
  v1189.toNat
def k0_dev46 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1314 : BitVec 32 := 1#32
  let v1201 : BitVec 32 := Scalar.muli v130 c1_i32_1314
  let v1202 : BitVec 32 := Scalar.addi c0_i32_1315 v1201
  v1202.toNat
def k0_dev47 (d0 : Dev nD) : Nat :=
  let c0_i32_1367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1366 : BitVec 32 := 1#32
  let v1261 : BitVec 32 := Scalar.muli v130 c1_i32_1366
  let v1262 : BitVec 32 := Scalar.addi c0_i32_1367 v1261
  v1262.toNat
def k0_dev48 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1391 : BitVec 32 := 1#32
  let v1274 : BitVec 32 := Scalar.muli v129 c1_i32_1391
  let v1275 : BitVec 32 := Scalar.addi c0_i32_1392 v1274
  v1275.toNat
def k0_dev49 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1421 : BitVec 32 := 1#32
  let v1306 : BitVec 32 := Scalar.muli v130 c1_i32_1421
  let v1307 : BitVec 32 := Scalar.addi c0_i32_1422 v1306
  v1307.toNat
def k0_dev50 (d0 : Dev nD) : Nat :=
  let c0_i32_1447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1446 : BitVec 32 := 1#32
  let v1319 : BitVec 32 := Scalar.muli v129 c1_i32_1446
  let v1320 : BitVec 32 := Scalar.addi c0_i32_1447 v1319
  v1320.toNat
def k0_dev51 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1476 : BitVec 32 := 1#32
  let v1351 : BitVec 32 := Scalar.muli v129 c1_i32_1476
  let v1352 : BitVec 32 := Scalar.addi c0_i32_1477 v1351
  v1352.toNat
def k0_dev52 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1501 : BitVec 32 := 1#32
  let v1364 : BitVec 32 := Scalar.muli v130 c1_i32_1501
  let v1365 : BitVec 32 := Scalar.addi c0_i32_1502 v1364
  v1365.toNat
def k0_dev53 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1531 : BitVec 32 := 1#32
  let v1396 : BitVec 32 := Scalar.muli v129 c1_i32_1531
  let v1397 : BitVec 32 := Scalar.addi c0_i32_1532 v1396
  v1397.toNat
def k0_dev54 (d0 : Dev nD) : Nat :=
  let c0_i32_1557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1556 : BitVec 32 := 1#32
  let v1409 : BitVec 32 := Scalar.muli v130 c1_i32_1556
  let v1410 : BitVec 32 := Scalar.addi c0_i32_1557 v1409
  v1410.toNat
def k0_dev55 (d0 : Dev nD) : Nat :=
  let c0_i32_1609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1608 : BitVec 32 := 1#32
  let v1469 : BitVec 32 := Scalar.muli v130 c1_i32_1608
  let v1470 : BitVec 32 := Scalar.addi c0_i32_1609 v1469
  v1470.toNat
def k0_dev56 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1633 : BitVec 32 := 1#32
  let v1482 : BitVec 32 := Scalar.muli v129 c1_i32_1633
  let v1483 : BitVec 32 := Scalar.addi c0_i32_1634 v1482
  v1483.toNat
def k0_dev57 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1663 : BitVec 32 := 1#32
  let v1514 : BitVec 32 := Scalar.muli v130 c1_i32_1663
  let v1515 : BitVec 32 := Scalar.addi c0_i32_1664 v1514
  v1515.toNat
def k0_dev58 (d0 : Dev nD) : Nat :=
  let c0_i32_1689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1688 : BitVec 32 := 1#32
  let v1527 : BitVec 32 := Scalar.muli v129 c1_i32_1688
  let v1528 : BitVec 32 := Scalar.addi c0_i32_1689 v1527
  v1528.toNat
def k0_dev59 (d0 : Dev nD) : Nat :=
  let c0_i32_1719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1718 : BitVec 32 := 1#32
  let v1559 : BitVec 32 := Scalar.muli v129 c1_i32_1718
  let v1560 : BitVec 32 := Scalar.addi c0_i32_1719 v1559
  v1560.toNat
def k0_dev60 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1743 : BitVec 32 := 1#32
  let v1572 : BitVec 32 := Scalar.muli v130 c1_i32_1743
  let v1573 : BitVec 32 := Scalar.addi c0_i32_1744 v1572
  v1573.toNat
def k0_dev61 (d0 : Dev nD) : Nat :=
  let c0_i32_1774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1773 : BitVec 32 := 1#32
  let v1604 : BitVec 32 := Scalar.muli v129 c1_i32_1773
  let v1605 : BitVec 32 := Scalar.addi c0_i32_1774 v1604
  v1605.toNat
def k0_dev62 (d0 : Dev nD) : Nat :=
  let c0_i32_1799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1798 : BitVec 32 := 1#32
  let v1617 : BitVec 32 := Scalar.muli v130 c1_i32_1798
  let v1618 : BitVec 32 := Scalar.addi c0_i32_1799 v1617
  v1618.toNat
def k0_dev63 (d0 : Dev nD) : Nat :=
  let c0_i32_1851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1850 : BitVec 32 := 1#32
  let v1677 : BitVec 32 := Scalar.muli v130 c1_i32_1850
  let v1678 : BitVec 32 := Scalar.addi c0_i32_1851 v1677
  v1678.toNat
def k0_dev64 (d0 : Dev nD) : Nat :=
  let c0_i32_1876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1875 : BitVec 32 := 1#32
  let v1690 : BitVec 32 := Scalar.muli v129 c1_i32_1875
  let v1691 : BitVec 32 := Scalar.addi c0_i32_1876 v1690
  v1691.toNat
def k0_dev65 (d0 : Dev nD) : Nat :=
  let c0_i32_1906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1905 : BitVec 32 := 1#32
  let v1722 : BitVec 32 := Scalar.muli v130 c1_i32_1905
  let v1723 : BitVec 32 := Scalar.addi c0_i32_1906 v1722
  v1723.toNat
def k0_dev66 (d0 : Dev nD) : Nat :=
  let c0_i32_1931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1930 : BitVec 32 := 1#32
  let v1735 : BitVec 32 := Scalar.muli v129 c1_i32_1930
  let v1736 : BitVec 32 := Scalar.addi c0_i32_1931 v1735
  v1736.toNat
def k0_dev67 (d0 : Dev nD) : Nat :=
  let c0_i32_1961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_1960 : BitVec 32 := 1#32
  let v1767 : BitVec 32 := Scalar.muli v129 c1_i32_1960
  let v1768 : BitVec 32 := Scalar.addi c0_i32_1961 v1767
  v1768.toNat
def k0_dev68 (d0 : Dev nD) : Nat :=
  let c0_i32_1986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_1985 : BitVec 32 := 1#32
  let v1780 : BitVec 32 := Scalar.muli v130 c1_i32_1985
  let v1781 : BitVec 32 := Scalar.addi c0_i32_1986 v1780
  v1781.toNat
def k0_dev69 (d0 : Dev nD) : Nat :=
  let c0_i32_2016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2015 : BitVec 32 := 1#32
  let v1812 : BitVec 32 := Scalar.muli v129 c1_i32_2015
  let v1813 : BitVec 32 := Scalar.addi c0_i32_2016 v1812
  v1813.toNat
def k0_dev70 (d0 : Dev nD) : Nat :=
  let c0_i32_2041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2040 : BitVec 32 := 1#32
  let v1825 : BitVec 32 := Scalar.muli v130 c1_i32_2040
  let v1826 : BitVec 32 := Scalar.addi c0_i32_2041 v1825
  v1826.toNat
def k0_dev71 (d0 : Dev nD) : Nat :=
  let c0_i32_2093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2092 : BitVec 32 := 1#32
  let v1885 : BitVec 32 := Scalar.muli v130 c1_i32_2092
  let v1886 : BitVec 32 := Scalar.addi c0_i32_2093 v1885
  v1886.toNat
def k0_dev72 (d0 : Dev nD) : Nat :=
  let c0_i32_2118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2117 : BitVec 32 := 1#32
  let v1898 : BitVec 32 := Scalar.muli v129 c1_i32_2117
  let v1899 : BitVec 32 := Scalar.addi c0_i32_2118 v1898
  v1899.toNat
def k0_dev73 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2147 : BitVec 32 := 1#32
  let v1930 : BitVec 32 := Scalar.muli v130 c1_i32_2147
  let v1931 : BitVec 32 := Scalar.addi c0_i32_2148 v1930
  v1931.toNat
def k0_dev74 (d0 : Dev nD) : Nat :=
  let c0_i32_2173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2172 : BitVec 32 := 1#32
  let v1943 : BitVec 32 := Scalar.muli v129 c1_i32_2172
  let v1944 : BitVec 32 := Scalar.addi c0_i32_2173 v1943
  v1944.toNat
def k0_dev75 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2202 : BitVec 32 := 1#32
  let v1975 : BitVec 32 := Scalar.muli v129 c1_i32_2202
  let v1976 : BitVec 32 := Scalar.addi c0_i32_2203 v1975
  v1976.toNat
def k0_dev76 (d0 : Dev nD) : Nat :=
  let c0_i32_2228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2227 : BitVec 32 := 1#32
  let v1988 : BitVec 32 := Scalar.muli v130 c1_i32_2227
  let v1989 : BitVec 32 := Scalar.addi c0_i32_2228 v1988
  v1989.toNat
def k0_dev77 (d0 : Dev nD) : Nat :=
  let c0_i32_2258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2257 : BitVec 32 := 1#32
  let v2020 : BitVec 32 := Scalar.muli v129 c1_i32_2257
  let v2021 : BitVec 32 := Scalar.addi c0_i32_2258 v2020
  v2021.toNat
def k0_dev78 (d0 : Dev nD) : Nat :=
  let c0_i32_2283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2282 : BitVec 32 := 1#32
  let v2033 : BitVec 32 := Scalar.muli v130 c1_i32_2282
  let v2034 : BitVec 32 := Scalar.addi c0_i32_2283 v2033
  v2034.toNat
def k0_dev79 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2334 : BitVec 32 := 1#32
  let v2093 : BitVec 32 := Scalar.muli v130 c1_i32_2334
  let v2094 : BitVec 32 := Scalar.addi c0_i32_2335 v2093
  v2094.toNat
def k0_dev80 (d0 : Dev nD) : Nat :=
  let c0_i32_2360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2359 : BitVec 32 := 1#32
  let v2106 : BitVec 32 := Scalar.muli v129 c1_i32_2359
  let v2107 : BitVec 32 := Scalar.addi c0_i32_2360 v2106
  v2107.toNat
def k0_dev81 (d0 : Dev nD) : Nat :=
  let c0_i32_2390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2389 : BitVec 32 := 1#32
  let v2138 : BitVec 32 := Scalar.muli v130 c1_i32_2389
  let v2139 : BitVec 32 := Scalar.addi c0_i32_2390 v2138
  v2139.toNat
def k0_dev82 (d0 : Dev nD) : Nat :=
  let c0_i32_2415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2414 : BitVec 32 := 1#32
  let v2151 : BitVec 32 := Scalar.muli v129 c1_i32_2414
  let v2152 : BitVec 32 := Scalar.addi c0_i32_2415 v2151
  v2152.toNat
def k0_dev83 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2444 : BitVec 32 := 1#32
  let v2183 : BitVec 32 := Scalar.muli v129 c1_i32_2444
  let v2184 : BitVec 32 := Scalar.addi c0_i32_2445 v2183
  v2184.toNat
def k0_dev84 (d0 : Dev nD) : Nat :=
  let c0_i32_2470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2469 : BitVec 32 := 1#32
  let v2196 : BitVec 32 := Scalar.muli v130 c1_i32_2469
  let v2197 : BitVec 32 := Scalar.addi c0_i32_2470 v2196
  v2197.toNat
def k0_dev85 (d0 : Dev nD) : Nat :=
  let c0_i32_2500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2499 : BitVec 32 := 1#32
  let v2228 : BitVec 32 := Scalar.muli v129 c1_i32_2499
  let v2229 : BitVec 32 := Scalar.addi c0_i32_2500 v2228
  v2229.toNat
def k0_dev86 (d0 : Dev nD) : Nat :=
  let c0_i32_2525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2524 : BitVec 32 := 1#32
  let v2241 : BitVec 32 := Scalar.muli v130 c1_i32_2524
  let v2242 : BitVec 32 := Scalar.addi c0_i32_2525 v2241
  v2242.toNat
def k0_dev87 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2576 : BitVec 32 := 1#32
  let v2301 : BitVec 32 := Scalar.muli v130 c1_i32_2576
  let v2302 : BitVec 32 := Scalar.addi c0_i32_2577 v2301
  v2302.toNat
def k0_dev88 (d0 : Dev nD) : Nat :=
  let c0_i32_2602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2601 : BitVec 32 := 1#32
  let v2314 : BitVec 32 := Scalar.muli v129 c1_i32_2601
  let v2315 : BitVec 32 := Scalar.addi c0_i32_2602 v2314
  v2315.toNat
def k0_dev89 (d0 : Dev nD) : Nat :=
  let c0_i32_2632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2631 : BitVec 32 := 1#32
  let v2346 : BitVec 32 := Scalar.muli v130 c1_i32_2631
  let v2347 : BitVec 32 := Scalar.addi c0_i32_2632 v2346
  v2347.toNat
def k0_dev90 (d0 : Dev nD) : Nat :=
  let c0_i32_2657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2656 : BitVec 32 := 1#32
  let v2359 : BitVec 32 := Scalar.muli v129 c1_i32_2656
  let v2360 : BitVec 32 := Scalar.addi c0_i32_2657 v2359
  v2360.toNat
def k0_dev91 (d0 : Dev nD) : Nat :=
  let c0_i32_2687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2686 : BitVec 32 := 1#32
  let v2391 : BitVec 32 := Scalar.muli v129 c1_i32_2686
  let v2392 : BitVec 32 := Scalar.addi c0_i32_2687 v2391
  v2392.toNat
def k0_dev92 (d0 : Dev nD) : Nat :=
  let c0_i32_2712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2711 : BitVec 32 := 1#32
  let v2404 : BitVec 32 := Scalar.muli v130 c1_i32_2711
  let v2405 : BitVec 32 := Scalar.addi c0_i32_2712 v2404
  v2405.toNat
def k0_dev93 (d0 : Dev nD) : Nat :=
  let c0_i32_2742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2741 : BitVec 32 := 1#32
  let v2436 : BitVec 32 := Scalar.muli v129 c1_i32_2741
  let v2437 : BitVec 32 := Scalar.addi c0_i32_2742 v2436
  v2437.toNat
def k0_dev94 (d0 : Dev nD) : Nat :=
  let c0_i32_2767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2766 : BitVec 32 := 1#32
  let v2449 : BitVec 32 := Scalar.muli v130 c1_i32_2766
  let v2450 : BitVec 32 := Scalar.addi c0_i32_2767 v2449
  v2450.toNat
def k0_dev95 (d0 : Dev nD) : Nat :=
  let c0_i32_2819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2818 : BitVec 32 := 1#32
  let v2509 : BitVec 32 := Scalar.muli v130 c1_i32_2818
  let v2510 : BitVec 32 := Scalar.addi c0_i32_2819 v2509
  v2510.toNat
def k0_dev96 (d0 : Dev nD) : Nat :=
  let c0_i32_2844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2843 : BitVec 32 := 1#32
  let v2522 : BitVec 32 := Scalar.muli v129 c1_i32_2843
  let v2523 : BitVec 32 := Scalar.addi c0_i32_2844 v2522
  v2523.toNat
def k0_dev97 (d0 : Dev nD) : Nat :=
  let c0_i32_2874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2873 : BitVec 32 := 1#32
  let v2554 : BitVec 32 := Scalar.muli v130 c1_i32_2873
  let v2555 : BitVec 32 := Scalar.addi c0_i32_2874 v2554
  v2555.toNat
def k0_dev98 (d0 : Dev nD) : Nat :=
  let c0_i32_2899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2898 : BitVec 32 := 1#32
  let v2567 : BitVec 32 := Scalar.muli v129 c1_i32_2898
  let v2568 : BitVec 32 := Scalar.addi c0_i32_2899 v2567
  v2568.toNat
def k0_dev99 (d0 : Dev nD) : Nat :=
  let c0_i32_2929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2928 : BitVec 32 := 1#32
  let v2599 : BitVec 32 := Scalar.muli v129 c1_i32_2928
  let v2600 : BitVec 32 := Scalar.addi c0_i32_2929 v2599
  v2600.toNat
def k0_dev100 (d0 : Dev nD) : Nat :=
  let c0_i32_2954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_2953 : BitVec 32 := 1#32
  let v2612 : BitVec 32 := Scalar.muli v130 c1_i32_2953
  let v2613 : BitVec 32 := Scalar.addi c0_i32_2954 v2612
  v2613.toNat
def k0_dev101 (d0 : Dev nD) : Nat :=
  let c0_i32_2984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_2983 : BitVec 32 := 1#32
  let v2644 : BitVec 32 := Scalar.muli v129 c1_i32_2983
  let v2645 : BitVec 32 := Scalar.addi c0_i32_2984 v2644
  v2645.toNat
def k0_dev102 (d0 : Dev nD) : Nat :=
  let c0_i32_3009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3008 : BitVec 32 := 1#32
  let v2657 : BitVec 32 := Scalar.muli v130 c1_i32_3008
  let v2658 : BitVec 32 := Scalar.addi c0_i32_3009 v2657
  v2658.toNat
def k0_dev103 (d0 : Dev nD) : Nat :=
  let c0_i32_3061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3060 : BitVec 32 := 1#32
  let v2717 : BitVec 32 := Scalar.muli v130 c1_i32_3060
  let v2718 : BitVec 32 := Scalar.addi c0_i32_3061 v2717
  v2718.toNat
def k0_dev104 (d0 : Dev nD) : Nat :=
  let c0_i32_3086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3085 : BitVec 32 := 1#32
  let v2730 : BitVec 32 := Scalar.muli v129 c1_i32_3085
  let v2731 : BitVec 32 := Scalar.addi c0_i32_3086 v2730
  v2731.toNat
def k0_dev105 (d0 : Dev nD) : Nat :=
  let c0_i32_3116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3115 : BitVec 32 := 1#32
  let v2762 : BitVec 32 := Scalar.muli v130 c1_i32_3115
  let v2763 : BitVec 32 := Scalar.addi c0_i32_3116 v2762
  v2763.toNat
def k0_dev106 (d0 : Dev nD) : Nat :=
  let c0_i32_3141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3140 : BitVec 32 := 1#32
  let v2775 : BitVec 32 := Scalar.muli v129 c1_i32_3140
  let v2776 : BitVec 32 := Scalar.addi c0_i32_3141 v2775
  v2776.toNat
def k0_dev107 (d0 : Dev nD) : Nat :=
  let c0_i32_3171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3170 : BitVec 32 := 1#32
  let v2807 : BitVec 32 := Scalar.muli v129 c1_i32_3170
  let v2808 : BitVec 32 := Scalar.addi c0_i32_3171 v2807
  v2808.toNat
def k0_dev108 (d0 : Dev nD) : Nat :=
  let c0_i32_3196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3195 : BitVec 32 := 1#32
  let v2820 : BitVec 32 := Scalar.muli v130 c1_i32_3195
  let v2821 : BitVec 32 := Scalar.addi c0_i32_3196 v2820
  v2821.toNat
def k0_dev109 (d0 : Dev nD) : Nat :=
  let c0_i32_3226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3225 : BitVec 32 := 1#32
  let v2852 : BitVec 32 := Scalar.muli v129 c1_i32_3225
  let v2853 : BitVec 32 := Scalar.addi c0_i32_3226 v2852
  v2853.toNat
def k0_dev110 (d0 : Dev nD) : Nat :=
  let c0_i32_3251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3250 : BitVec 32 := 1#32
  let v2865 : BitVec 32 := Scalar.muli v130 c1_i32_3250
  let v2866 : BitVec 32 := Scalar.addi c0_i32_3251 v2865
  v2866.toNat
def k0_dev111 (d0 : Dev nD) : Nat :=
  let c0_i32_3303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3302 : BitVec 32 := 1#32
  let v2925 : BitVec 32 := Scalar.muli v130 c1_i32_3302
  let v2926 : BitVec 32 := Scalar.addi c0_i32_3303 v2925
  v2926.toNat
def k0_dev112 (d0 : Dev nD) : Nat :=
  let c0_i32_3328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3327 : BitVec 32 := 1#32
  let v2938 : BitVec 32 := Scalar.muli v129 c1_i32_3327
  let v2939 : BitVec 32 := Scalar.addi c0_i32_3328 v2938
  v2939.toNat
def k0_dev113 (d0 : Dev nD) : Nat :=
  let c0_i32_3358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3357 : BitVec 32 := 1#32
  let v2970 : BitVec 32 := Scalar.muli v130 c1_i32_3357
  let v2971 : BitVec 32 := Scalar.addi c0_i32_3358 v2970
  v2971.toNat
def k0_dev114 (d0 : Dev nD) : Nat :=
  let c0_i32_3383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3382 : BitVec 32 := 1#32
  let v2983 : BitVec 32 := Scalar.muli v129 c1_i32_3382
  let v2984 : BitVec 32 := Scalar.addi c0_i32_3383 v2983
  v2984.toNat
def k0_dev115 (d0 : Dev nD) : Nat :=
  let c0_i32_3413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3412 : BitVec 32 := 1#32
  let v3015 : BitVec 32 := Scalar.muli v129 c1_i32_3412
  let v3016 : BitVec 32 := Scalar.addi c0_i32_3413 v3015
  v3016.toNat
def k0_dev116 (d0 : Dev nD) : Nat :=
  let c0_i32_3438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3437 : BitVec 32 := 1#32
  let v3028 : BitVec 32 := Scalar.muli v130 c1_i32_3437
  let v3029 : BitVec 32 := Scalar.addi c0_i32_3438 v3028
  v3029.toNat
def k0_dev117 (d0 : Dev nD) : Nat :=
  let c0_i32_3468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3467 : BitVec 32 := 1#32
  let v3060 : BitVec 32 := Scalar.muli v129 c1_i32_3467
  let v3061 : BitVec 32 := Scalar.addi c0_i32_3468 v3060
  v3061.toNat
def k0_dev118 (d0 : Dev nD) : Nat :=
  let c0_i32_3493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3492 : BitVec 32 := 1#32
  let v3073 : BitVec 32 := Scalar.muli v130 c1_i32_3492
  let v3074 : BitVec 32 := Scalar.addi c0_i32_3493 v3073
  v3074.toNat
def k0_dev119 (d0 : Dev nD) : Nat :=
  let c0_i32_3545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3544 : BitVec 32 := 1#32
  let v3133 : BitVec 32 := Scalar.muli v130 c1_i32_3544
  let v3134 : BitVec 32 := Scalar.addi c0_i32_3545 v3133
  v3134.toNat
def k0_dev120 (d0 : Dev nD) : Nat :=
  let c0_i32_3570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3569 : BitVec 32 := 1#32
  let v3146 : BitVec 32 := Scalar.muli v129 c1_i32_3569
  let v3147 : BitVec 32 := Scalar.addi c0_i32_3570 v3146
  v3147.toNat
def k0_dev121 (d0 : Dev nD) : Nat :=
  let c0_i32_3600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3599 : BitVec 32 := 1#32
  let v3178 : BitVec 32 := Scalar.muli v130 c1_i32_3599
  let v3179 : BitVec 32 := Scalar.addi c0_i32_3600 v3178
  v3179.toNat
def k0_dev122 (d0 : Dev nD) : Nat :=
  let c0_i32_3625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3624 : BitVec 32 := 1#32
  let v3191 : BitVec 32 := Scalar.muli v129 c1_i32_3624
  let v3192 : BitVec 32 := Scalar.addi c0_i32_3625 v3191
  v3192.toNat
def k0_dev123 (d0 : Dev nD) : Nat :=
  let c0_i32_3655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3654 : BitVec 32 := 1#32
  let v3223 : BitVec 32 := Scalar.muli v129 c1_i32_3654
  let v3224 : BitVec 32 := Scalar.addi c0_i32_3655 v3223
  v3224.toNat
def k0_dev124 (d0 : Dev nD) : Nat :=
  let c0_i32_3680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3679 : BitVec 32 := 1#32
  let v3236 : BitVec 32 := Scalar.muli v130 c1_i32_3679
  let v3237 : BitVec 32 := Scalar.addi c0_i32_3680 v3236
  v3237.toNat
def k0_dev125 (d0 : Dev nD) : Nat :=
  let c0_i32_3710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3709 : BitVec 32 := 1#32
  let v3268 : BitVec 32 := Scalar.muli v129 c1_i32_3709
  let v3269 : BitVec 32 := Scalar.addi c0_i32_3710 v3268
  v3269.toNat
def k0_dev126 (d0 : Dev nD) : Nat :=
  let c0_i32_3735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3734 : BitVec 32 := 1#32
  let v3281 : BitVec 32 := Scalar.muli v130 c1_i32_3734
  let v3282 : BitVec 32 := Scalar.addi c0_i32_3735 v3281
  v3282.toNat
def k0_dev127 (d0 : Dev nD) : Nat :=
  let c0_i32_3787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3786 : BitVec 32 := 1#32
  let v3341 : BitVec 32 := Scalar.muli v130 c1_i32_3786
  let v3342 : BitVec 32 := Scalar.addi c0_i32_3787 v3341
  v3342.toNat
def k0_dev128 (d0 : Dev nD) : Nat :=
  let c0_i32_3812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3811 : BitVec 32 := 1#32
  let v3354 : BitVec 32 := Scalar.muli v129 c1_i32_3811
  let v3355 : BitVec 32 := Scalar.addi c0_i32_3812 v3354
  v3355.toNat
def k0_dev129 (d0 : Dev nD) : Nat :=
  let c0_i32_3842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3841 : BitVec 32 := 1#32
  let v3386 : BitVec 32 := Scalar.muli v130 c1_i32_3841
  let v3387 : BitVec 32 := Scalar.addi c0_i32_3842 v3386
  v3387.toNat
def k0_dev130 (d0 : Dev nD) : Nat :=
  let c0_i32_3867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3866 : BitVec 32 := 1#32
  let v3399 : BitVec 32 := Scalar.muli v129 c1_i32_3866
  let v3400 : BitVec 32 := Scalar.addi c0_i32_3867 v3399
  v3400.toNat
def k0_dev131 (d0 : Dev nD) : Nat :=
  let c0_i32_3897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3896 : BitVec 32 := 1#32
  let v3431 : BitVec 32 := Scalar.muli v129 c1_i32_3896
  let v3432 : BitVec 32 := Scalar.addi c0_i32_3897 v3431
  v3432.toNat
def k0_dev132 (d0 : Dev nD) : Nat :=
  let c0_i32_3922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3921 : BitVec 32 := 1#32
  let v3444 : BitVec 32 := Scalar.muli v130 c1_i32_3921
  let v3445 : BitVec 32 := Scalar.addi c0_i32_3922 v3444
  v3445.toNat
def k0_dev133 (d0 : Dev nD) : Nat :=
  let c0_i32_3952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_3951 : BitVec 32 := 1#32
  let v3476 : BitVec 32 := Scalar.muli v129 c1_i32_3951
  let v3477 : BitVec 32 := Scalar.addi c0_i32_3952 v3476
  v3477.toNat
def k0_dev134 (d0 : Dev nD) : Nat :=
  let c0_i32_3977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_3976 : BitVec 32 := 1#32
  let v3489 : BitVec 32 := Scalar.muli v130 c1_i32_3976
  let v3490 : BitVec 32 := Scalar.addi c0_i32_3977 v3489
  v3490.toNat
def k0_dev135 (d0 : Dev nD) : Nat :=
  let c0_i32_4029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4028 : BitVec 32 := 1#32
  let v3549 : BitVec 32 := Scalar.muli v130 c1_i32_4028
  let v3550 : BitVec 32 := Scalar.addi c0_i32_4029 v3549
  v3550.toNat
def k0_dev136 (d0 : Dev nD) : Nat :=
  let c0_i32_4054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4053 : BitVec 32 := 1#32
  let v3562 : BitVec 32 := Scalar.muli v129 c1_i32_4053
  let v3563 : BitVec 32 := Scalar.addi c0_i32_4054 v3562
  v3563.toNat
def k0_dev137 (d0 : Dev nD) : Nat :=
  let c0_i32_4084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4083 : BitVec 32 := 1#32
  let v3594 : BitVec 32 := Scalar.muli v130 c1_i32_4083
  let v3595 : BitVec 32 := Scalar.addi c0_i32_4084 v3594
  v3595.toNat
def k0_dev138 (d0 : Dev nD) : Nat :=
  let c0_i32_4109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4108 : BitVec 32 := 1#32
  let v3607 : BitVec 32 := Scalar.muli v129 c1_i32_4108
  let v3608 : BitVec 32 := Scalar.addi c0_i32_4109 v3607
  v3608.toNat
def k0_dev139 (d0 : Dev nD) : Nat :=
  let c0_i32_4139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4138 : BitVec 32 := 1#32
  let v3639 : BitVec 32 := Scalar.muli v129 c1_i32_4138
  let v3640 : BitVec 32 := Scalar.addi c0_i32_4139 v3639
  v3640.toNat
def k0_dev140 (d0 : Dev nD) : Nat :=
  let c0_i32_4164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4163 : BitVec 32 := 1#32
  let v3652 : BitVec 32 := Scalar.muli v130 c1_i32_4163
  let v3653 : BitVec 32 := Scalar.addi c0_i32_4164 v3652
  v3653.toNat
def k0_dev141 (d0 : Dev nD) : Nat :=
  let c0_i32_4194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4193 : BitVec 32 := 1#32
  let v3684 : BitVec 32 := Scalar.muli v129 c1_i32_4193
  let v3685 : BitVec 32 := Scalar.addi c0_i32_4194 v3684
  v3685.toNat
def k0_dev142 (d0 : Dev nD) : Nat :=
  let c0_i32_4219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4218 : BitVec 32 := 1#32
  let v3697 : BitVec 32 := Scalar.muli v130 c1_i32_4218
  let v3698 : BitVec 32 := Scalar.addi c0_i32_4219 v3697
  v3698.toNat
def k0_dev143 (d0 : Dev nD) : Nat :=
  let c0_i32_4271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4270 : BitVec 32 := 1#32
  let v3757 : BitVec 32 := Scalar.muli v130 c1_i32_4270
  let v3758 : BitVec 32 := Scalar.addi c0_i32_4271 v3757
  v3758.toNat
def k0_dev144 (d0 : Dev nD) : Nat :=
  let c0_i32_4296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4295 : BitVec 32 := 1#32
  let v3770 : BitVec 32 := Scalar.muli v129 c1_i32_4295
  let v3771 : BitVec 32 := Scalar.addi c0_i32_4296 v3770
  v3771.toNat
def k0_dev145 (d0 : Dev nD) : Nat :=
  let c0_i32_4326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4325 : BitVec 32 := 1#32
  let v3802 : BitVec 32 := Scalar.muli v130 c1_i32_4325
  let v3803 : BitVec 32 := Scalar.addi c0_i32_4326 v3802
  v3803.toNat
def k0_dev146 (d0 : Dev nD) : Nat :=
  let c0_i32_4351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4350 : BitVec 32 := 1#32
  let v3815 : BitVec 32 := Scalar.muli v129 c1_i32_4350
  let v3816 : BitVec 32 := Scalar.addi c0_i32_4351 v3815
  v3816.toNat
def k0_dev147 (d0 : Dev nD) : Nat :=
  let c0_i32_4381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4380 : BitVec 32 := 1#32
  let v3847 : BitVec 32 := Scalar.muli v129 c1_i32_4380
  let v3848 : BitVec 32 := Scalar.addi c0_i32_4381 v3847
  v3848.toNat
def k0_dev148 (d0 : Dev nD) : Nat :=
  let c0_i32_4406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4405 : BitVec 32 := 1#32
  let v3860 : BitVec 32 := Scalar.muli v130 c1_i32_4405
  let v3861 : BitVec 32 := Scalar.addi c0_i32_4406 v3860
  v3861.toNat
def k0_dev149 (d0 : Dev nD) : Nat :=
  let c0_i32_4436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4435 : BitVec 32 := 1#32
  let v3892 : BitVec 32 := Scalar.muli v129 c1_i32_4435
  let v3893 : BitVec 32 := Scalar.addi c0_i32_4436 v3892
  v3893.toNat
def k0_dev150 (d0 : Dev nD) : Nat :=
  let c0_i32_4461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4460 : BitVec 32 := 1#32
  let v3905 : BitVec 32 := Scalar.muli v130 c1_i32_4460
  let v3906 : BitVec 32 := Scalar.addi c0_i32_4461 v3905
  v3906.toNat
def k0_dev151 (d0 : Dev nD) : Nat :=
  let c0_i32_4513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4512 : BitVec 32 := 1#32
  let v3965 : BitVec 32 := Scalar.muli v130 c1_i32_4512
  let v3966 : BitVec 32 := Scalar.addi c0_i32_4513 v3965
  v3966.toNat
def k0_dev152 (d0 : Dev nD) : Nat :=
  let c0_i32_4538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4537 : BitVec 32 := 1#32
  let v3978 : BitVec 32 := Scalar.muli v129 c1_i32_4537
  let v3979 : BitVec 32 := Scalar.addi c0_i32_4538 v3978
  v3979.toNat
def k0_dev153 (d0 : Dev nD) : Nat :=
  let c0_i32_4568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4567 : BitVec 32 := 1#32
  let v4010 : BitVec 32 := Scalar.muli v130 c1_i32_4567
  let v4011 : BitVec 32 := Scalar.addi c0_i32_4568 v4010
  v4011.toNat
def k0_dev154 (d0 : Dev nD) : Nat :=
  let c0_i32_4593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4592 : BitVec 32 := 1#32
  let v4023 : BitVec 32 := Scalar.muli v129 c1_i32_4592
  let v4024 : BitVec 32 := Scalar.addi c0_i32_4593 v4023
  v4024.toNat
def k0_dev155 (d0 : Dev nD) : Nat :=
  let c0_i32_4623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4622 : BitVec 32 := 1#32
  let v4055 : BitVec 32 := Scalar.muli v129 c1_i32_4622
  let v4056 : BitVec 32 := Scalar.addi c0_i32_4623 v4055
  v4056.toNat
def k0_dev156 (d0 : Dev nD) : Nat :=
  let c0_i32_4648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4647 : BitVec 32 := 1#32
  let v4068 : BitVec 32 := Scalar.muli v130 c1_i32_4647
  let v4069 : BitVec 32 := Scalar.addi c0_i32_4648 v4068
  v4069.toNat
def k0_dev157 (d0 : Dev nD) : Nat :=
  let c0_i32_4678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4677 : BitVec 32 := 1#32
  let v4100 : BitVec 32 := Scalar.muli v129 c1_i32_4677
  let v4101 : BitVec 32 := Scalar.addi c0_i32_4678 v4100
  v4101.toNat
def k0_dev158 (d0 : Dev nD) : Nat :=
  let c0_i32_4703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4702 : BitVec 32 := 1#32
  let v4113 : BitVec 32 := Scalar.muli v130 c1_i32_4702
  let v4114 : BitVec 32 := Scalar.addi c0_i32_4703 v4113
  v4114.toNat
def k0_dev159 (d0 : Dev nD) : Nat :=
  let c0_i32_4755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4754 : BitVec 32 := 1#32
  let v4173 : BitVec 32 := Scalar.muli v130 c1_i32_4754
  let v4174 : BitVec 32 := Scalar.addi c0_i32_4755 v4173
  v4174.toNat
def k0_dev160 (d0 : Dev nD) : Nat :=
  let c0_i32_4780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4779 : BitVec 32 := 1#32
  let v4186 : BitVec 32 := Scalar.muli v129 c1_i32_4779
  let v4187 : BitVec 32 := Scalar.addi c0_i32_4780 v4186
  v4187.toNat
def k0_dev161 (d0 : Dev nD) : Nat :=
  let c0_i32_4810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4809 : BitVec 32 := 1#32
  let v4218 : BitVec 32 := Scalar.muli v130 c1_i32_4809
  let v4219 : BitVec 32 := Scalar.addi c0_i32_4810 v4218
  v4219.toNat
def k0_dev162 (d0 : Dev nD) : Nat :=
  let c0_i32_4835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4834 : BitVec 32 := 1#32
  let v4231 : BitVec 32 := Scalar.muli v129 c1_i32_4834
  let v4232 : BitVec 32 := Scalar.addi c0_i32_4835 v4231
  v4232.toNat
def k0_dev163 (d0 : Dev nD) : Nat :=
  let c0_i32_4865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4864 : BitVec 32 := 1#32
  let v4263 : BitVec 32 := Scalar.muli v129 c1_i32_4864
  let v4264 : BitVec 32 := Scalar.addi c0_i32_4865 v4263
  v4264.toNat
def k0_dev164 (d0 : Dev nD) : Nat :=
  let c0_i32_4890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4889 : BitVec 32 := 1#32
  let v4276 : BitVec 32 := Scalar.muli v130 c1_i32_4889
  let v4277 : BitVec 32 := Scalar.addi c0_i32_4890 v4276
  v4277.toNat
def k0_dev165 (d0 : Dev nD) : Nat :=
  let c0_i32_4920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_4919 : BitVec 32 := 1#32
  let v4308 : BitVec 32 := Scalar.muli v129 c1_i32_4919
  let v4309 : BitVec 32 := Scalar.addi c0_i32_4920 v4308
  v4309.toNat
def k0_dev166 (d0 : Dev nD) : Nat :=
  let c0_i32_4945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4944 : BitVec 32 := 1#32
  let v4321 : BitVec 32 := Scalar.muli v130 c1_i32_4944
  let v4322 : BitVec 32 := Scalar.addi c0_i32_4945 v4321
  v4322.toNat
def k0_dev167 (d0 : Dev nD) : Nat :=
  let c0_i32_4997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_4996 : BitVec 32 := 1#32
  let v4381 : BitVec 32 := Scalar.muli v130 c1_i32_4996
  let v4382 : BitVec 32 := Scalar.addi c0_i32_4997 v4381
  v4382.toNat
def k0_dev168 (d0 : Dev nD) : Nat :=
  let c0_i32_5022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5021 : BitVec 32 := 1#32
  let v4394 : BitVec 32 := Scalar.muli v129 c1_i32_5021
  let v4395 : BitVec 32 := Scalar.addi c0_i32_5022 v4394
  v4395.toNat
def k0_dev169 (d0 : Dev nD) : Nat :=
  let c0_i32_5052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5051 : BitVec 32 := 1#32
  let v4426 : BitVec 32 := Scalar.muli v130 c1_i32_5051
  let v4427 : BitVec 32 := Scalar.addi c0_i32_5052 v4426
  v4427.toNat
def k0_dev170 (d0 : Dev nD) : Nat :=
  let c0_i32_5077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5076 : BitVec 32 := 1#32
  let v4439 : BitVec 32 := Scalar.muli v129 c1_i32_5076
  let v4440 : BitVec 32 := Scalar.addi c0_i32_5077 v4439
  v4440.toNat
def k0_dev171 (d0 : Dev nD) : Nat :=
  let c0_i32_5107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5106 : BitVec 32 := 1#32
  let v4471 : BitVec 32 := Scalar.muli v129 c1_i32_5106
  let v4472 : BitVec 32 := Scalar.addi c0_i32_5107 v4471
  v4472.toNat
def k0_dev172 (d0 : Dev nD) : Nat :=
  let c0_i32_5132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5131 : BitVec 32 := 1#32
  let v4484 : BitVec 32 := Scalar.muli v130 c1_i32_5131
  let v4485 : BitVec 32 := Scalar.addi c0_i32_5132 v4484
  v4485.toNat
def k0_dev173 (d0 : Dev nD) : Nat :=
  let c0_i32_5162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5161 : BitVec 32 := 1#32
  let v4516 : BitVec 32 := Scalar.muli v129 c1_i32_5161
  let v4517 : BitVec 32 := Scalar.addi c0_i32_5162 v4516
  v4517.toNat
def k0_dev174 (d0 : Dev nD) : Nat :=
  let c0_i32_5187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5186 : BitVec 32 := 1#32
  let v4529 : BitVec 32 := Scalar.muli v130 c1_i32_5186
  let v4530 : BitVec 32 := Scalar.addi c0_i32_5187 v4529
  v4530.toNat
def k0_dev175 (d0 : Dev nD) : Nat :=
  let c0_i32_5239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5238 : BitVec 32 := 1#32
  let v4589 : BitVec 32 := Scalar.muli v130 c1_i32_5238
  let v4590 : BitVec 32 := Scalar.addi c0_i32_5239 v4589
  v4590.toNat
def k0_dev176 (d0 : Dev nD) : Nat :=
  let c0_i32_5264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5263 : BitVec 32 := 1#32
  let v4602 : BitVec 32 := Scalar.muli v129 c1_i32_5263
  let v4603 : BitVec 32 := Scalar.addi c0_i32_5264 v4602
  v4603.toNat
def k0_dev177 (d0 : Dev nD) : Nat :=
  let c0_i32_5294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5293 : BitVec 32 := 1#32
  let v4634 : BitVec 32 := Scalar.muli v130 c1_i32_5293
  let v4635 : BitVec 32 := Scalar.addi c0_i32_5294 v4634
  v4635.toNat
def k0_dev178 (d0 : Dev nD) : Nat :=
  let c0_i32_5319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5318 : BitVec 32 := 1#32
  let v4647 : BitVec 32 := Scalar.muli v129 c1_i32_5318
  let v4648 : BitVec 32 := Scalar.addi c0_i32_5319 v4647
  v4648.toNat
def k0_dev179 (d0 : Dev nD) : Nat :=
  let c0_i32_5349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5348 : BitVec 32 := 1#32
  let v4679 : BitVec 32 := Scalar.muli v129 c1_i32_5348
  let v4680 : BitVec 32 := Scalar.addi c0_i32_5349 v4679
  v4680.toNat
def k0_dev180 (d0 : Dev nD) : Nat :=
  let c0_i32_5374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5373 : BitVec 32 := 1#32
  let v4692 : BitVec 32 := Scalar.muli v130 c1_i32_5373
  let v4693 : BitVec 32 := Scalar.addi c0_i32_5374 v4692
  v4693.toNat
def k0_dev181 (d0 : Dev nD) : Nat :=
  let c0_i32_5404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5403 : BitVec 32 := 1#32
  let v4724 : BitVec 32 := Scalar.muli v129 c1_i32_5403
  let v4725 : BitVec 32 := Scalar.addi c0_i32_5404 v4724
  v4725.toNat
def k0_dev182 (d0 : Dev nD) : Nat :=
  let c0_i32_5429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5428 : BitVec 32 := 1#32
  let v4737 : BitVec 32 := Scalar.muli v130 c1_i32_5428
  let v4738 : BitVec 32 := Scalar.addi c0_i32_5429 v4737
  v4738.toNat
def k0_dev183 (d0 : Dev nD) : Nat :=
  let c0_i32_5481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5480 : BitVec 32 := 1#32
  let v4797 : BitVec 32 := Scalar.muli v130 c1_i32_5480
  let v4798 : BitVec 32 := Scalar.addi c0_i32_5481 v4797
  v4798.toNat
def k0_dev184 (d0 : Dev nD) : Nat :=
  let c0_i32_5506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5505 : BitVec 32 := 1#32
  let v4810 : BitVec 32 := Scalar.muli v129 c1_i32_5505
  let v4811 : BitVec 32 := Scalar.addi c0_i32_5506 v4810
  v4811.toNat
def k0_dev185 (d0 : Dev nD) : Nat :=
  let c0_i32_5536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5535 : BitVec 32 := 1#32
  let v4842 : BitVec 32 := Scalar.muli v130 c1_i32_5535
  let v4843 : BitVec 32 := Scalar.addi c0_i32_5536 v4842
  v4843.toNat
def k0_dev186 (d0 : Dev nD) : Nat :=
  let c0_i32_5561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5560 : BitVec 32 := 1#32
  let v4855 : BitVec 32 := Scalar.muli v129 c1_i32_5560
  let v4856 : BitVec 32 := Scalar.addi c0_i32_5561 v4855
  v4856.toNat
def k0_dev187 (d0 : Dev nD) : Nat :=
  let c0_i32_5591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5590 : BitVec 32 := 1#32
  let v4887 : BitVec 32 := Scalar.muli v129 c1_i32_5590
  let v4888 : BitVec 32 := Scalar.addi c0_i32_5591 v4887
  v4888.toNat
def k0_dev188 (d0 : Dev nD) : Nat :=
  let c0_i32_5616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5615 : BitVec 32 := 1#32
  let v4900 : BitVec 32 := Scalar.muli v130 c1_i32_5615
  let v4901 : BitVec 32 := Scalar.addi c0_i32_5616 v4900
  v4901.toNat
def k0_dev189 (d0 : Dev nD) : Nat :=
  let c0_i32_5646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5645 : BitVec 32 := 1#32
  let v4932 : BitVec 32 := Scalar.muli v129 c1_i32_5645
  let v4933 : BitVec 32 := Scalar.addi c0_i32_5646 v4932
  v4933.toNat
def k0_dev190 (d0 : Dev nD) : Nat :=
  let c0_i32_5671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5670 : BitVec 32 := 1#32
  let v4945 : BitVec 32 := Scalar.muli v130 c1_i32_5670
  let v4946 : BitVec 32 := Scalar.addi c0_i32_5671 v4945
  v4946.toNat
def k0_dev191 (d0 : Dev nD) : Nat :=
  let c0_i32_5723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5722 : BitVec 32 := 1#32
  let v5005 : BitVec 32 := Scalar.muli v130 c1_i32_5722
  let v5006 : BitVec 32 := Scalar.addi c0_i32_5723 v5005
  v5006.toNat
def k0_dev192 (d0 : Dev nD) : Nat :=
  let c0_i32_5748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5747 : BitVec 32 := 1#32
  let v5018 : BitVec 32 := Scalar.muli v129 c1_i32_5747
  let v5019 : BitVec 32 := Scalar.addi c0_i32_5748 v5018
  v5019.toNat
def k0_dev193 (d0 : Dev nD) : Nat :=
  let c0_i32_5778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5777 : BitVec 32 := 1#32
  let v5050 : BitVec 32 := Scalar.muli v130 c1_i32_5777
  let v5051 : BitVec 32 := Scalar.addi c0_i32_5778 v5050
  v5051.toNat
def k0_dev194 (d0 : Dev nD) : Nat :=
  let c0_i32_5803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5802 : BitVec 32 := 1#32
  let v5063 : BitVec 32 := Scalar.muli v129 c1_i32_5802
  let v5064 : BitVec 32 := Scalar.addi c0_i32_5803 v5063
  v5064.toNat
def k0_dev195 (d0 : Dev nD) : Nat :=
  let c0_i32_5833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5832 : BitVec 32 := 1#32
  let v5095 : BitVec 32 := Scalar.muli v129 c1_i32_5832
  let v5096 : BitVec 32 := Scalar.addi c0_i32_5833 v5095
  v5096.toNat
def k0_dev196 (d0 : Dev nD) : Nat :=
  let c0_i32_5858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5857 : BitVec 32 := 1#32
  let v5108 : BitVec 32 := Scalar.muli v130 c1_i32_5857
  let v5109 : BitVec 32 := Scalar.addi c0_i32_5858 v5108
  v5109.toNat
def k0_dev197 (d0 : Dev nD) : Nat :=
  let c0_i32_5888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5887 : BitVec 32 := 1#32
  let v5140 : BitVec 32 := Scalar.muli v129 c1_i32_5887
  let v5141 : BitVec 32 := Scalar.addi c0_i32_5888 v5140
  v5141.toNat
def k0_dev198 (d0 : Dev nD) : Nat :=
  let c0_i32_5913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5912 : BitVec 32 := 1#32
  let v5153 : BitVec 32 := Scalar.muli v130 c1_i32_5912
  let v5154 : BitVec 32 := Scalar.addi c0_i32_5913 v5153
  v5154.toNat
def k0_dev199 (d0 : Dev nD) : Nat :=
  let c0_i32_5965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_5964 : BitVec 32 := 1#32
  let v5213 : BitVec 32 := Scalar.muli v130 c1_i32_5964
  let v5214 : BitVec 32 := Scalar.addi c0_i32_5965 v5213
  v5214.toNat
def k0_dev200 (d0 : Dev nD) : Nat :=
  let c0_i32_5990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_5989 : BitVec 32 := 1#32
  let v5226 : BitVec 32 := Scalar.muli v129 c1_i32_5989
  let v5227 : BitVec 32 := Scalar.addi c0_i32_5990 v5226
  v5227.toNat
def k0_dev201 (d0 : Dev nD) : Nat :=
  let c0_i32_6020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6019 : BitVec 32 := 1#32
  let v5258 : BitVec 32 := Scalar.muli v130 c1_i32_6019
  let v5259 : BitVec 32 := Scalar.addi c0_i32_6020 v5258
  v5259.toNat
def k0_dev202 (d0 : Dev nD) : Nat :=
  let c0_i32_6045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6044 : BitVec 32 := 1#32
  let v5271 : BitVec 32 := Scalar.muli v129 c1_i32_6044
  let v5272 : BitVec 32 := Scalar.addi c0_i32_6045 v5271
  v5272.toNat
def k0_dev203 (d0 : Dev nD) : Nat :=
  let c0_i32_6075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6074 : BitVec 32 := 1#32
  let v5303 : BitVec 32 := Scalar.muli v129 c1_i32_6074
  let v5304 : BitVec 32 := Scalar.addi c0_i32_6075 v5303
  v5304.toNat
def k0_dev204 (d0 : Dev nD) : Nat :=
  let c0_i32_6100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6099 : BitVec 32 := 1#32
  let v5316 : BitVec 32 := Scalar.muli v130 c1_i32_6099
  let v5317 : BitVec 32 := Scalar.addi c0_i32_6100 v5316
  v5317.toNat
def k0_dev205 (d0 : Dev nD) : Nat :=
  let c0_i32_6130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6129 : BitVec 32 := 1#32
  let v5348 : BitVec 32 := Scalar.muli v129 c1_i32_6129
  let v5349 : BitVec 32 := Scalar.addi c0_i32_6130 v5348
  v5349.toNat
def k0_dev206 (d0 : Dev nD) : Nat :=
  let c0_i32_6155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6154 : BitVec 32 := 1#32
  let v5361 : BitVec 32 := Scalar.muli v130 c1_i32_6154
  let v5362 : BitVec 32 := Scalar.addi c0_i32_6155 v5361
  v5362.toNat
def k0_dev207 (d0 : Dev nD) : Nat :=
  let c0_i32_6207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6206 : BitVec 32 := 1#32
  let v5421 : BitVec 32 := Scalar.muli v130 c1_i32_6206
  let v5422 : BitVec 32 := Scalar.addi c0_i32_6207 v5421
  v5422.toNat
def k0_dev208 (d0 : Dev nD) : Nat :=
  let c0_i32_6232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6231 : BitVec 32 := 1#32
  let v5434 : BitVec 32 := Scalar.muli v129 c1_i32_6231
  let v5435 : BitVec 32 := Scalar.addi c0_i32_6232 v5434
  v5435.toNat
def k0_dev209 (d0 : Dev nD) : Nat :=
  let c0_i32_6262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6261 : BitVec 32 := 1#32
  let v5466 : BitVec 32 := Scalar.muli v130 c1_i32_6261
  let v5467 : BitVec 32 := Scalar.addi c0_i32_6262 v5466
  v5467.toNat
def k0_dev210 (d0 : Dev nD) : Nat :=
  let c0_i32_6287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6286 : BitVec 32 := 1#32
  let v5479 : BitVec 32 := Scalar.muli v129 c1_i32_6286
  let v5480 : BitVec 32 := Scalar.addi c0_i32_6287 v5479
  v5480.toNat
def k0_dev211 (d0 : Dev nD) : Nat :=
  let c0_i32_6317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6316 : BitVec 32 := 1#32
  let v5511 : BitVec 32 := Scalar.muli v129 c1_i32_6316
  let v5512 : BitVec 32 := Scalar.addi c0_i32_6317 v5511
  v5512.toNat
def k0_dev212 (d0 : Dev nD) : Nat :=
  let c0_i32_6342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6341 : BitVec 32 := 1#32
  let v5524 : BitVec 32 := Scalar.muli v130 c1_i32_6341
  let v5525 : BitVec 32 := Scalar.addi c0_i32_6342 v5524
  v5525.toNat
def k0_dev213 (d0 : Dev nD) : Nat :=
  let c0_i32_6372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6371 : BitVec 32 := 1#32
  let v5556 : BitVec 32 := Scalar.muli v129 c1_i32_6371
  let v5557 : BitVec 32 := Scalar.addi c0_i32_6372 v5556
  v5557.toNat
def k0_dev214 (d0 : Dev nD) : Nat :=
  let c0_i32_6397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6396 : BitVec 32 := 1#32
  let v5569 : BitVec 32 := Scalar.muli v130 c1_i32_6396
  let v5570 : BitVec 32 := Scalar.addi c0_i32_6397 v5569
  v5570.toNat
def k0_dev215 (d0 : Dev nD) : Nat :=
  let c0_i32_6449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6448 : BitVec 32 := 1#32
  let v5629 : BitVec 32 := Scalar.muli v130 c1_i32_6448
  let v5630 : BitVec 32 := Scalar.addi c0_i32_6449 v5629
  v5630.toNat
def k0_dev216 (d0 : Dev nD) : Nat :=
  let c0_i32_6474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6473 : BitVec 32 := 1#32
  let v5642 : BitVec 32 := Scalar.muli v129 c1_i32_6473
  let v5643 : BitVec 32 := Scalar.addi c0_i32_6474 v5642
  v5643.toNat
def k0_dev217 (d0 : Dev nD) : Nat :=
  let c0_i32_6504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6503 : BitVec 32 := 1#32
  let v5674 : BitVec 32 := Scalar.muli v130 c1_i32_6503
  let v5675 : BitVec 32 := Scalar.addi c0_i32_6504 v5674
  v5675.toNat
def k0_dev218 (d0 : Dev nD) : Nat :=
  let c0_i32_6529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6528 : BitVec 32 := 1#32
  let v5687 : BitVec 32 := Scalar.muli v129 c1_i32_6528
  let v5688 : BitVec 32 := Scalar.addi c0_i32_6529 v5687
  v5688.toNat
def k0_dev219 (d0 : Dev nD) : Nat :=
  let c0_i32_6559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6558 : BitVec 32 := 1#32
  let v5719 : BitVec 32 := Scalar.muli v129 c1_i32_6558
  let v5720 : BitVec 32 := Scalar.addi c0_i32_6559 v5719
  v5720.toNat
def k0_dev220 (d0 : Dev nD) : Nat :=
  let c0_i32_6584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6583 : BitVec 32 := 1#32
  let v5732 : BitVec 32 := Scalar.muli v130 c1_i32_6583
  let v5733 : BitVec 32 := Scalar.addi c0_i32_6584 v5732
  v5733.toNat
def k0_dev221 (d0 : Dev nD) : Nat :=
  let c0_i32_6614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6613 : BitVec 32 := 1#32
  let v5764 : BitVec 32 := Scalar.muli v129 c1_i32_6613
  let v5765 : BitVec 32 := Scalar.addi c0_i32_6614 v5764
  v5765.toNat
def k0_dev222 (d0 : Dev nD) : Nat :=
  let c0_i32_6639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6638 : BitVec 32 := 1#32
  let v5777 : BitVec 32 := Scalar.muli v130 c1_i32_6638
  let v5778 : BitVec 32 := Scalar.addi c0_i32_6639 v5777
  v5778.toNat
def k0_dev223 (d0 : Dev nD) : Nat :=
  let c0_i32_6691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6690 : BitVec 32 := 1#32
  let v5837 : BitVec 32 := Scalar.muli v130 c1_i32_6690
  let v5838 : BitVec 32 := Scalar.addi c0_i32_6691 v5837
  v5838.toNat
def k0_dev224 (d0 : Dev nD) : Nat :=
  let c0_i32_6716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6715 : BitVec 32 := 1#32
  let v5850 : BitVec 32 := Scalar.muli v129 c1_i32_6715
  let v5851 : BitVec 32 := Scalar.addi c0_i32_6716 v5850
  v5851.toNat
def k0_dev225 (d0 : Dev nD) : Nat :=
  let c0_i32_6746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6745 : BitVec 32 := 1#32
  let v5882 : BitVec 32 := Scalar.muli v130 c1_i32_6745
  let v5883 : BitVec 32 := Scalar.addi c0_i32_6746 v5882
  v5883.toNat
def k0_dev226 (d0 : Dev nD) : Nat :=
  let c0_i32_6771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6770 : BitVec 32 := 1#32
  let v5895 : BitVec 32 := Scalar.muli v129 c1_i32_6770
  let v5896 : BitVec 32 := Scalar.addi c0_i32_6771 v5895
  v5896.toNat
def k0_dev227 (d0 : Dev nD) : Nat :=
  let c0_i32_6801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6800 : BitVec 32 := 1#32
  let v5927 : BitVec 32 := Scalar.muli v129 c1_i32_6800
  let v5928 : BitVec 32 := Scalar.addi c0_i32_6801 v5927
  v5928.toNat
def k0_dev228 (d0 : Dev nD) : Nat :=
  let c0_i32_6826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6825 : BitVec 32 := 1#32
  let v5940 : BitVec 32 := Scalar.muli v130 c1_i32_6825
  let v5941 : BitVec 32 := Scalar.addi c0_i32_6826 v5940
  v5941.toNat
def k0_dev229 (d0 : Dev nD) : Nat :=
  let c0_i32_6856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6855 : BitVec 32 := 1#32
  let v5972 : BitVec 32 := Scalar.muli v129 c1_i32_6855
  let v5973 : BitVec 32 := Scalar.addi c0_i32_6856 v5972
  v5973.toNat
def k0_dev230 (d0 : Dev nD) : Nat :=
  let c0_i32_6881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6880 : BitVec 32 := 1#32
  let v5985 : BitVec 32 := Scalar.muli v130 c1_i32_6880
  let v5986 : BitVec 32 := Scalar.addi c0_i32_6881 v5985
  v5986.toNat
def k0_dev231 (d0 : Dev nD) : Nat :=
  let c0_i32_6933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6932 : BitVec 32 := 1#32
  let v6045 : BitVec 32 := Scalar.muli v130 c1_i32_6932
  let v6046 : BitVec 32 := Scalar.addi c0_i32_6933 v6045
  v6046.toNat
def k0_dev232 (d0 : Dev nD) : Nat :=
  let c0_i32_6958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_6957 : BitVec 32 := 1#32
  let v6058 : BitVec 32 := Scalar.muli v129 c1_i32_6957
  let v6059 : BitVec 32 := Scalar.addi c0_i32_6958 v6058
  v6059.toNat
def k0_dev233 (d0 : Dev nD) : Nat :=
  let c0_i32_6988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_6987 : BitVec 32 := 1#32
  let v6090 : BitVec 32 := Scalar.muli v130 c1_i32_6987
  let v6091 : BitVec 32 := Scalar.addi c0_i32_6988 v6090
  v6091.toNat
def k0_dev234 (d0 : Dev nD) : Nat :=
  let c0_i32_7013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_7012 : BitVec 32 := 1#32
  let v6103 : BitVec 32 := Scalar.muli v129 c1_i32_7012
  let v6104 : BitVec 32 := Scalar.addi c0_i32_7013 v6103
  v6104.toNat
def k0_dev235 (d0 : Dev nD) : Nat :=
  let c0_i32_7043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_7042 : BitVec 32 := 1#32
  let v6135 : BitVec 32 := Scalar.muli v129 c1_i32_7042
  let v6136 : BitVec 32 := Scalar.addi c0_i32_7043 v6135
  v6136.toNat
def k0_dev236 (d0 : Dev nD) : Nat :=
  let c0_i32_7068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_7067 : BitVec 32 := 1#32
  let v6148 : BitVec 32 := Scalar.muli v130 c1_i32_7067
  let v6149 : BitVec 32 := Scalar.addi c0_i32_7068 v6148
  v6149.toNat
def k0_dev237 (d0 : Dev nD) : Nat :=
  let c0_i32_7098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_7097 : BitVec 32 := 1#32
  let v6180 : BitVec 32 := Scalar.muli v129 c1_i32_7097
  let v6181 : BitVec 32 := Scalar.addi c0_i32_7098 v6180
  v6181.toNat
def k0_dev238 (d0 : Dev nD) : Nat :=
  let c0_i32_7123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_7122 : BitVec 32 := 1#32
  let v6193 : BitVec 32 := Scalar.muli v130 c1_i32_7122
  let v6194 : BitVec 32 := Scalar.addi c0_i32_7123 v6193
  v6194.toNat
def k0_dev239 (d0 : Dev nD) : Nat :=
  let c0_i32_7196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_7195 : BitVec 32 := 1#32
  let v6262 : BitVec 32 := Scalar.muli v129 c1_i32_7195
  let v6263 : BitVec 32 := Scalar.addi c0_i32_7196 v6262
  v6263.toNat
def k0_dev240 (d0 : Dev nD) : Nat :=
  let c0_i32_7247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_7246 : BitVec 32 := 1#32
  let v6303 : BitVec 32 := Scalar.muli v129 c1_i32_7246
  let v6304 : BitVec 32 := Scalar.addi c0_i32_7247 v6303
  v6304.toNat
def k0_dev241 (d0 : Dev nD) : Nat :=
  let c0_i32_7298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_7297 : BitVec 32 := 1#32
  let v6344 : BitVec 32 := Scalar.muli v130 c1_i32_7297
  let v6345 : BitVec 32 := Scalar.addi c0_i32_7298 v6344
  v6345.toNat
def k0_dev242 (d0 : Dev nD) : Nat :=
  let c0_i32_7349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_7348 : BitVec 32 := 1#32
  let v6385 : BitVec 32 := Scalar.muli v130 c1_i32_7348
  let v6386 : BitVec 32 := Scalar.addi c0_i32_7349 v6385
  v6386.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c1_i32_7467 : BitVec 32 := 1#32
  let v6506 : BitVec 32 := Scalar.addi v128 c1_i32_7467
  let c64_i32_7468 : BitVec 32 := 64#32
  let v6507 : BitVec 32 := Scalar.addi v6506 c64_i32_7468
  let c32_i32_7469 : BitVec 32 := 32#32
  let v6508 : BitVec 32 := Scalar.remsi v6507 c32_i32_7469
  let c128_i32_7473 : BitVec 32 := 128#32
  let v6512 : BitVec 32 := Scalar.muli v6508 c128_i32_7473
  let v6513 : Index := Scalar.indexCast v6512
  let c0_7474 : Index := 0#32
  ![v6513.toNat, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c1_i32_7470 : BitVec 32 := 1#32
  let v6509 : BitVec 32 := Scalar.subi v128 c1_i32_7470
  let c64_i32_7471 : BitVec 32 := 64#32
  let v6510 : BitVec 32 := Scalar.addi v6509 c64_i32_7471
  let c32_i32_7472 : BitVec 32 := 32#32
  let v6511 : BitVec 32 := Scalar.remsi v6510 c32_i32_7472
  let c128_i32_7476 : BitVec 32 := 128#32
  let v6521 : BitVec 32 := Scalar.muli v6511 c128_i32_7476
  let v6522 : Index := Scalar.indexCast v6521
  let c1024_7477 : Index := 1024#32
  ![v6522.toNat, 1024]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v6532 : Index := Scalar.indexCast v2
  let c0_7479 : Index := 0#32
  ![v6532.toNat, 0]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_7487 : BitVec 32 := 0#32
  ![v2.toNat, 0]
def k0_dev243 (d0 : Dev nD) : Nat :=
  let c0_i32_7486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7480 : BitVec 32 := 1#32
  let v6536 : BitVec 32 := Scalar.addi v2 c1_i32_7480
  let c64_i32_7481 : BitVec 32 := 64#32
  let v6537 : BitVec 32 := Scalar.addi v6536 c64_i32_7481
  let c32_i32_7482 : BitVec 32 := 32#32
  let v6538 : BitVec 32 := Scalar.remsi v6537 c32_i32_7482
  let c1_i32_7485 : BitVec 32 := 1#32
  let v6539 : BitVec 32 := Scalar.muli v6538 c1_i32_7485
  let v6540 : BitVec 32 := Scalar.addi c0_i32_7486 v6539
  v6540.toNat
def k0_dev244 (d0 : Dev nD) : Nat :=
  let c0_i32_7495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7489 : BitVec 32 := 2#32
  let v6547 : BitVec 32 := Scalar.addi v2 c2_i32_7489
  let c64_i32_7490 : BitVec 32 := 64#32
  let v6548 : BitVec 32 := Scalar.addi v6547 c64_i32_7490
  let c32_i32_7491 : BitVec 32 := 32#32
  let v6549 : BitVec 32 := Scalar.remsi v6548 c32_i32_7491
  let c1_i32_7494 : BitVec 32 := 1#32
  let v6550 : BitVec 32 := Scalar.muli v6549 c1_i32_7494
  let v6551 : BitVec 32 := Scalar.addi c0_i32_7495 v6550
  v6551.toNat
def k0_dev245 (d0 : Dev nD) : Nat :=
  let c0_i32_7504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_7498 : BitVec 32 := 3#32
  let v6558 : BitVec 32 := Scalar.addi v2 c3_i32_7498
  let c64_i32_7499 : BitVec 32 := 64#32
  let v6559 : BitVec 32 := Scalar.addi v6558 c64_i32_7499
  let c32_i32_7500 : BitVec 32 := 32#32
  let v6560 : BitVec 32 := Scalar.remsi v6559 c32_i32_7500
  let c1_i32_7503 : BitVec 32 := 1#32
  let v6561 : BitVec 32 := Scalar.muli v6560 c1_i32_7503
  let v6562 : BitVec 32 := Scalar.addi c0_i32_7504 v6561
  v6562.toNat
def k0_dev246 (d0 : Dev nD) : Nat :=
  let c0_i32_7513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7507 : BitVec 32 := 4#32
  let v6569 : BitVec 32 := Scalar.addi v2 c4_i32_7507
  let c64_i32_7508 : BitVec 32 := 64#32
  let v6570 : BitVec 32 := Scalar.addi v6569 c64_i32_7508
  let c32_i32_7509 : BitVec 32 := 32#32
  let v6571 : BitVec 32 := Scalar.remsi v6570 c32_i32_7509
  let c1_i32_7512 : BitVec 32 := 1#32
  let v6572 : BitVec 32 := Scalar.muli v6571 c1_i32_7512
  let v6573 : BitVec 32 := Scalar.addi c0_i32_7513 v6572
  v6573.toNat
def k0_dev247 (d0 : Dev nD) : Nat :=
  let c0_i32_7522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_7516 : BitVec 32 := 5#32
  let v6580 : BitVec 32 := Scalar.addi v2 c5_i32_7516
  let c64_i32_7517 : BitVec 32 := 64#32
  let v6581 : BitVec 32 := Scalar.addi v6580 c64_i32_7517
  let c32_i32_7518 : BitVec 32 := 32#32
  let v6582 : BitVec 32 := Scalar.remsi v6581 c32_i32_7518
  let c1_i32_7521 : BitVec 32 := 1#32
  let v6583 : BitVec 32 := Scalar.muli v6582 c1_i32_7521
  let v6584 : BitVec 32 := Scalar.addi c0_i32_7522 v6583
  v6584.toNat
def k0_dev248 (d0 : Dev nD) : Nat :=
  let c0_i32_7531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_7525 : BitVec 32 := 6#32
  let v6591 : BitVec 32 := Scalar.addi v2 c6_i32_7525
  let c64_i32_7526 : BitVec 32 := 64#32
  let v6592 : BitVec 32 := Scalar.addi v6591 c64_i32_7526
  let c32_i32_7527 : BitVec 32 := 32#32
  let v6593 : BitVec 32 := Scalar.remsi v6592 c32_i32_7527
  let c1_i32_7530 : BitVec 32 := 1#32
  let v6594 : BitVec 32 := Scalar.muli v6593 c1_i32_7530
  let v6595 : BitVec 32 := Scalar.addi c0_i32_7531 v6594
  v6595.toNat
def k0_dev249 (d0 : Dev nD) : Nat :=
  let c0_i32_7540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_7534 : BitVec 32 := 7#32
  let v6602 : BitVec 32 := Scalar.addi v2 c7_i32_7534
  let c64_i32_7535 : BitVec 32 := 64#32
  let v6603 : BitVec 32 := Scalar.addi v6602 c64_i32_7535
  let c32_i32_7536 : BitVec 32 := 32#32
  let v6604 : BitVec 32 := Scalar.remsi v6603 c32_i32_7536
  let c1_i32_7539 : BitVec 32 := 1#32
  let v6605 : BitVec 32 := Scalar.muli v6604 c1_i32_7539
  let v6606 : BitVec 32 := Scalar.addi c0_i32_7540 v6605
  v6606.toNat
def k0_dev250 (d0 : Dev nD) : Nat :=
  let c0_i32_7549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_7543 : BitVec 32 := 8#32
  let v6613 : BitVec 32 := Scalar.addi v2 c8_i32_7543
  let c64_i32_7544 : BitVec 32 := 64#32
  let v6614 : BitVec 32 := Scalar.addi v6613 c64_i32_7544
  let c32_i32_7545 : BitVec 32 := 32#32
  let v6615 : BitVec 32 := Scalar.remsi v6614 c32_i32_7545
  let c1_i32_7548 : BitVec 32 := 1#32
  let v6616 : BitVec 32 := Scalar.muli v6615 c1_i32_7548
  let v6617 : BitVec 32 := Scalar.addi c0_i32_7549 v6616
  v6617.toNat
def k0_dev251 (d0 : Dev nD) : Nat :=
  let c0_i32_7558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_7552 : BitVec 32 := 9#32
  let v6624 : BitVec 32 := Scalar.addi v2 c9_i32_7552
  let c64_i32_7553 : BitVec 32 := 64#32
  let v6625 : BitVec 32 := Scalar.addi v6624 c64_i32_7553
  let c32_i32_7554 : BitVec 32 := 32#32
  let v6626 : BitVec 32 := Scalar.remsi v6625 c32_i32_7554
  let c1_i32_7557 : BitVec 32 := 1#32
  let v6627 : BitVec 32 := Scalar.muli v6626 c1_i32_7557
  let v6628 : BitVec 32 := Scalar.addi c0_i32_7558 v6627
  v6628.toNat
def k0_dev252 (d0 : Dev nD) : Nat :=
  let c0_i32_7567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_7561 : BitVec 32 := 10#32
  let v6635 : BitVec 32 := Scalar.addi v2 c10_i32_7561
  let c64_i32_7562 : BitVec 32 := 64#32
  let v6636 : BitVec 32 := Scalar.addi v6635 c64_i32_7562
  let c32_i32_7563 : BitVec 32 := 32#32
  let v6637 : BitVec 32 := Scalar.remsi v6636 c32_i32_7563
  let c1_i32_7566 : BitVec 32 := 1#32
  let v6638 : BitVec 32 := Scalar.muli v6637 c1_i32_7566
  let v6639 : BitVec 32 := Scalar.addi c0_i32_7567 v6638
  v6639.toNat
def k0_dev253 (d0 : Dev nD) : Nat :=
  let c0_i32_7576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_7570 : BitVec 32 := 11#32
  let v6646 : BitVec 32 := Scalar.addi v2 c11_i32_7570
  let c64_i32_7571 : BitVec 32 := 64#32
  let v6647 : BitVec 32 := Scalar.addi v6646 c64_i32_7571
  let c32_i32_7572 : BitVec 32 := 32#32
  let v6648 : BitVec 32 := Scalar.remsi v6647 c32_i32_7572
  let c1_i32_7575 : BitVec 32 := 1#32
  let v6649 : BitVec 32 := Scalar.muli v6648 c1_i32_7575
  let v6650 : BitVec 32 := Scalar.addi c0_i32_7576 v6649
  v6650.toNat
def k0_dev254 (d0 : Dev nD) : Nat :=
  let c0_i32_7585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_7579 : BitVec 32 := 12#32
  let v6657 : BitVec 32 := Scalar.addi v2 c12_i32_7579
  let c64_i32_7580 : BitVec 32 := 64#32
  let v6658 : BitVec 32 := Scalar.addi v6657 c64_i32_7580
  let c32_i32_7581 : BitVec 32 := 32#32
  let v6659 : BitVec 32 := Scalar.remsi v6658 c32_i32_7581
  let c1_i32_7584 : BitVec 32 := 1#32
  let v6660 : BitVec 32 := Scalar.muli v6659 c1_i32_7584
  let v6661 : BitVec 32 := Scalar.addi c0_i32_7585 v6660
  v6661.toNat
def k0_dev255 (d0 : Dev nD) : Nat :=
  let c0_i32_7594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_7588 : BitVec 32 := 13#32
  let v6668 : BitVec 32 := Scalar.addi v2 c13_i32_7588
  let c64_i32_7589 : BitVec 32 := 64#32
  let v6669 : BitVec 32 := Scalar.addi v6668 c64_i32_7589
  let c32_i32_7590 : BitVec 32 := 32#32
  let v6670 : BitVec 32 := Scalar.remsi v6669 c32_i32_7590
  let c1_i32_7593 : BitVec 32 := 1#32
  let v6671 : BitVec 32 := Scalar.muli v6670 c1_i32_7593
  let v6672 : BitVec 32 := Scalar.addi c0_i32_7594 v6671
  v6672.toNat
def k0_dev256 (d0 : Dev nD) : Nat :=
  let c0_i32_7603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_7597 : BitVec 32 := 14#32
  let v6679 : BitVec 32 := Scalar.addi v2 c14_i32_7597
  let c64_i32_7598 : BitVec 32 := 64#32
  let v6680 : BitVec 32 := Scalar.addi v6679 c64_i32_7598
  let c32_i32_7599 : BitVec 32 := 32#32
  let v6681 : BitVec 32 := Scalar.remsi v6680 c32_i32_7599
  let c1_i32_7602 : BitVec 32 := 1#32
  let v6682 : BitVec 32 := Scalar.muli v6681 c1_i32_7602
  let v6683 : BitVec 32 := Scalar.addi c0_i32_7603 v6682
  v6683.toNat
def k0_dev257 (d0 : Dev nD) : Nat :=
  let c0_i32_7612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_7606 : BitVec 32 := 15#32
  let v6690 : BitVec 32 := Scalar.addi v2 c15_i32_7606
  let c64_i32_7607 : BitVec 32 := 64#32
  let v6691 : BitVec 32 := Scalar.addi v6690 c64_i32_7607
  let c32_i32_7608 : BitVec 32 := 32#32
  let v6692 : BitVec 32 := Scalar.remsi v6691 c32_i32_7608
  let c1_i32_7611 : BitVec 32 := 1#32
  let v6693 : BitVec 32 := Scalar.muli v6692 c1_i32_7611
  let v6694 : BitVec 32 := Scalar.addi c0_i32_7612 v6693
  v6694.toNat
def k0_dev258 (d0 : Dev nD) : Nat :=
  let c0_i32_7621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7615 : BitVec 32 := 16#32
  let v6701 : BitVec 32 := Scalar.addi v2 c16_i32_7615
  let c64_i32_7616 : BitVec 32 := 64#32
  let v6702 : BitVec 32 := Scalar.addi v6701 c64_i32_7616
  let c32_i32_7617 : BitVec 32 := 32#32
  let v6703 : BitVec 32 := Scalar.remsi v6702 c32_i32_7617
  let c1_i32_7620 : BitVec 32 := 1#32
  let v6704 : BitVec 32 := Scalar.muli v6703 c1_i32_7620
  let v6705 : BitVec 32 := Scalar.addi c0_i32_7621 v6704
  v6705.toNat
def k0_dev259 (d0 : Dev nD) : Nat :=
  let c0_i32_7630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_7624 : BitVec 32 := 17#32
  let v6712 : BitVec 32 := Scalar.addi v2 c17_i32_7624
  let c64_i32_7625 : BitVec 32 := 64#32
  let v6713 : BitVec 32 := Scalar.addi v6712 c64_i32_7625
  let c32_i32_7626 : BitVec 32 := 32#32
  let v6714 : BitVec 32 := Scalar.remsi v6713 c32_i32_7626
  let c1_i32_7629 : BitVec 32 := 1#32
  let v6715 : BitVec 32 := Scalar.muli v6714 c1_i32_7629
  let v6716 : BitVec 32 := Scalar.addi c0_i32_7630 v6715
  v6716.toNat
def k0_dev260 (d0 : Dev nD) : Nat :=
  let c0_i32_7639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_7633 : BitVec 32 := 18#32
  let v6723 : BitVec 32 := Scalar.addi v2 c18_i32_7633
  let c64_i32_7634 : BitVec 32 := 64#32
  let v6724 : BitVec 32 := Scalar.addi v6723 c64_i32_7634
  let c32_i32_7635 : BitVec 32 := 32#32
  let v6725 : BitVec 32 := Scalar.remsi v6724 c32_i32_7635
  let c1_i32_7638 : BitVec 32 := 1#32
  let v6726 : BitVec 32 := Scalar.muli v6725 c1_i32_7638
  let v6727 : BitVec 32 := Scalar.addi c0_i32_7639 v6726
  v6727.toNat
def k0_dev261 (d0 : Dev nD) : Nat :=
  let c0_i32_7648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_7642 : BitVec 32 := 19#32
  let v6734 : BitVec 32 := Scalar.addi v2 c19_i32_7642
  let c64_i32_7643 : BitVec 32 := 64#32
  let v6735 : BitVec 32 := Scalar.addi v6734 c64_i32_7643
  let c32_i32_7644 : BitVec 32 := 32#32
  let v6736 : BitVec 32 := Scalar.remsi v6735 c32_i32_7644
  let c1_i32_7647 : BitVec 32 := 1#32
  let v6737 : BitVec 32 := Scalar.muli v6736 c1_i32_7647
  let v6738 : BitVec 32 := Scalar.addi c0_i32_7648 v6737
  v6738.toNat
def k0_dev262 (d0 : Dev nD) : Nat :=
  let c0_i32_7657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_7651 : BitVec 32 := 20#32
  let v6745 : BitVec 32 := Scalar.addi v2 c20_i32_7651
  let c64_i32_7652 : BitVec 32 := 64#32
  let v6746 : BitVec 32 := Scalar.addi v6745 c64_i32_7652
  let c32_i32_7653 : BitVec 32 := 32#32
  let v6747 : BitVec 32 := Scalar.remsi v6746 c32_i32_7653
  let c1_i32_7656 : BitVec 32 := 1#32
  let v6748 : BitVec 32 := Scalar.muli v6747 c1_i32_7656
  let v6749 : BitVec 32 := Scalar.addi c0_i32_7657 v6748
  v6749.toNat
def k0_dev263 (d0 : Dev nD) : Nat :=
  let c0_i32_7666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_7660 : BitVec 32 := 21#32
  let v6756 : BitVec 32 := Scalar.addi v2 c21_i32_7660
  let c64_i32_7661 : BitVec 32 := 64#32
  let v6757 : BitVec 32 := Scalar.addi v6756 c64_i32_7661
  let c32_i32_7662 : BitVec 32 := 32#32
  let v6758 : BitVec 32 := Scalar.remsi v6757 c32_i32_7662
  let c1_i32_7665 : BitVec 32 := 1#32
  let v6759 : BitVec 32 := Scalar.muli v6758 c1_i32_7665
  let v6760 : BitVec 32 := Scalar.addi c0_i32_7666 v6759
  v6760.toNat
def k0_dev264 (d0 : Dev nD) : Nat :=
  let c0_i32_7675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_7669 : BitVec 32 := 22#32
  let v6767 : BitVec 32 := Scalar.addi v2 c22_i32_7669
  let c64_i32_7670 : BitVec 32 := 64#32
  let v6768 : BitVec 32 := Scalar.addi v6767 c64_i32_7670
  let c32_i32_7671 : BitVec 32 := 32#32
  let v6769 : BitVec 32 := Scalar.remsi v6768 c32_i32_7671
  let c1_i32_7674 : BitVec 32 := 1#32
  let v6770 : BitVec 32 := Scalar.muli v6769 c1_i32_7674
  let v6771 : BitVec 32 := Scalar.addi c0_i32_7675 v6770
  v6771.toNat
def k0_dev265 (d0 : Dev nD) : Nat :=
  let c0_i32_7684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_7678 : BitVec 32 := 23#32
  let v6778 : BitVec 32 := Scalar.addi v2 c23_i32_7678
  let c64_i32_7679 : BitVec 32 := 64#32
  let v6779 : BitVec 32 := Scalar.addi v6778 c64_i32_7679
  let c32_i32_7680 : BitVec 32 := 32#32
  let v6780 : BitVec 32 := Scalar.remsi v6779 c32_i32_7680
  let c1_i32_7683 : BitVec 32 := 1#32
  let v6781 : BitVec 32 := Scalar.muli v6780 c1_i32_7683
  let v6782 : BitVec 32 := Scalar.addi c0_i32_7684 v6781
  v6782.toNat
def k0_dev266 (d0 : Dev nD) : Nat :=
  let c0_i32_7693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_7687 : BitVec 32 := 24#32
  let v6789 : BitVec 32 := Scalar.addi v2 c24_i32_7687
  let c64_i32_7688 : BitVec 32 := 64#32
  let v6790 : BitVec 32 := Scalar.addi v6789 c64_i32_7688
  let c32_i32_7689 : BitVec 32 := 32#32
  let v6791 : BitVec 32 := Scalar.remsi v6790 c32_i32_7689
  let c1_i32_7692 : BitVec 32 := 1#32
  let v6792 : BitVec 32 := Scalar.muli v6791 c1_i32_7692
  let v6793 : BitVec 32 := Scalar.addi c0_i32_7693 v6792
  v6793.toNat
def k0_dev267 (d0 : Dev nD) : Nat :=
  let c0_i32_7702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_7696 : BitVec 32 := 25#32
  let v6800 : BitVec 32 := Scalar.addi v2 c25_i32_7696
  let c64_i32_7697 : BitVec 32 := 64#32
  let v6801 : BitVec 32 := Scalar.addi v6800 c64_i32_7697
  let c32_i32_7698 : BitVec 32 := 32#32
  let v6802 : BitVec 32 := Scalar.remsi v6801 c32_i32_7698
  let c1_i32_7701 : BitVec 32 := 1#32
  let v6803 : BitVec 32 := Scalar.muli v6802 c1_i32_7701
  let v6804 : BitVec 32 := Scalar.addi c0_i32_7702 v6803
  v6804.toNat
def k0_dev268 (d0 : Dev nD) : Nat :=
  let c0_i32_7711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_7705 : BitVec 32 := 26#32
  let v6811 : BitVec 32 := Scalar.addi v2 c26_i32_7705
  let c64_i32_7706 : BitVec 32 := 64#32
  let v6812 : BitVec 32 := Scalar.addi v6811 c64_i32_7706
  let c32_i32_7707 : BitVec 32 := 32#32
  let v6813 : BitVec 32 := Scalar.remsi v6812 c32_i32_7707
  let c1_i32_7710 : BitVec 32 := 1#32
  let v6814 : BitVec 32 := Scalar.muli v6813 c1_i32_7710
  let v6815 : BitVec 32 := Scalar.addi c0_i32_7711 v6814
  v6815.toNat
def k0_dev269 (d0 : Dev nD) : Nat :=
  let c0_i32_7720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_7714 : BitVec 32 := 27#32
  let v6822 : BitVec 32 := Scalar.addi v2 c27_i32_7714
  let c64_i32_7715 : BitVec 32 := 64#32
  let v6823 : BitVec 32 := Scalar.addi v6822 c64_i32_7715
  let c32_i32_7716 : BitVec 32 := 32#32
  let v6824 : BitVec 32 := Scalar.remsi v6823 c32_i32_7716
  let c1_i32_7719 : BitVec 32 := 1#32
  let v6825 : BitVec 32 := Scalar.muli v6824 c1_i32_7719
  let v6826 : BitVec 32 := Scalar.addi c0_i32_7720 v6825
  v6826.toNat
def k0_dev270 (d0 : Dev nD) : Nat :=
  let c0_i32_7729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_7723 : BitVec 32 := 28#32
  let v6833 : BitVec 32 := Scalar.addi v2 c28_i32_7723
  let c64_i32_7724 : BitVec 32 := 64#32
  let v6834 : BitVec 32 := Scalar.addi v6833 c64_i32_7724
  let c32_i32_7725 : BitVec 32 := 32#32
  let v6835 : BitVec 32 := Scalar.remsi v6834 c32_i32_7725
  let c1_i32_7728 : BitVec 32 := 1#32
  let v6836 : BitVec 32 := Scalar.muli v6835 c1_i32_7728
  let v6837 : BitVec 32 := Scalar.addi c0_i32_7729 v6836
  v6837.toNat
def k0_dev271 (d0 : Dev nD) : Nat :=
  let c0_i32_7738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_7732 : BitVec 32 := 29#32
  let v6844 : BitVec 32 := Scalar.addi v2 c29_i32_7732
  let c64_i32_7733 : BitVec 32 := 64#32
  let v6845 : BitVec 32 := Scalar.addi v6844 c64_i32_7733
  let c32_i32_7734 : BitVec 32 := 32#32
  let v6846 : BitVec 32 := Scalar.remsi v6845 c32_i32_7734
  let c1_i32_7737 : BitVec 32 := 1#32
  let v6847 : BitVec 32 := Scalar.muli v6846 c1_i32_7737
  let v6848 : BitVec 32 := Scalar.addi c0_i32_7738 v6847
  v6848.toNat
def k0_dev272 (d0 : Dev nD) : Nat :=
  let c0_i32_7747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_7741 : BitVec 32 := 30#32
  let v6855 : BitVec 32 := Scalar.addi v2 c30_i32_7741
  let c64_i32_7742 : BitVec 32 := 64#32
  let v6856 : BitVec 32 := Scalar.addi v6855 c64_i32_7742
  let c32_i32_7743 : BitVec 32 := 32#32
  let v6857 : BitVec 32 := Scalar.remsi v6856 c32_i32_7743
  let c1_i32_7746 : BitVec 32 := 1#32
  let v6858 : BitVec 32 := Scalar.muli v6857 c1_i32_7746
  let v6859 : BitVec 32 := Scalar.addi c0_i32_7747 v6858
  v6859.toNat
def k0_dev273 (d0 : Dev nD) : Nat :=
  let c0_i32_7756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_7750 : BitVec 32 := 31#32
  let v6866 : BitVec 32 := Scalar.addi v2 c31_i32_7750
  let c64_i32_7751 : BitVec 32 := 64#32
  let v6867 : BitVec 32 := Scalar.addi v6866 c64_i32_7751
  let c32_i32_7752 : BitVec 32 := 32#32
  let v6868 : BitVec 32 := Scalar.remsi v6867 c32_i32_7752
  let c1_i32_7755 : BitVec 32 := 1#32
  let v6869 : BitVec 32 := Scalar.muli v6868 c1_i32_7755
  let v6870 : BitVec 32 := Scalar.addi c0_i32_7756 v6869
  v6870.toNat
def k0_off19 (d0 : Dev nD) (c0_i32_8195 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c1_i32_8194 : BitVec 32 := 1#32
  let v7269 : BitVec 32 := Scalar.addi v128 c1_i32_8194
  let v7270 : BitVec 32 := Scalar.subi v7269 c0_i32_8195
  let c64_i32_8196 : BitVec 32 := 64#32
  let v7271 : BitVec 32 := Scalar.addi v7270 c64_i32_8196
  let c32_i32_8197 : BitVec 32 := 32#32
  let v7272 : BitVec 32 := Scalar.remsi v7271 c32_i32_8197
  let c128_i32_8198 : BitVec 32 := 128#32
  let v7273 : BitVec 32 := Scalar.muli v7272 c128_i32_8198
  let c0_i32_8205 : BitVec 32 := 0#32
  ![v7273.toNat, 0]
def k0_dev274 (d0 : Dev nD) : Nat :=
  let c0_i32_8204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8203 : BitVec 32 := 1#32
  let v7274 : BitVec 32 := Scalar.muli v129 c1_i32_8203
  let v7275 : BitVec 32 := Scalar.addi c0_i32_8204 v7274
  v7275.toNat
def k0_off20 (d0 : Dev nD) (c0_i32_8208 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c1_i32_8207 : BitVec 32 := 1#32
  let v7282 : BitVec 32 := Scalar.subi v128 c1_i32_8207
  let v7283 : BitVec 32 := Scalar.subi v7282 c0_i32_8208
  let c64_i32_8209 : BitVec 32 := 64#32
  let v7284 : BitVec 32 := Scalar.addi v7283 c64_i32_8209
  let c32_i32_8210 : BitVec 32 := 32#32
  let v7285 : BitVec 32 := Scalar.remsi v7284 c32_i32_8210
  let c128_i32_8211 : BitVec 32 := 128#32
  let v7286 : BitVec 32 := Scalar.muli v7285 c128_i32_8211
  let c1024_i32_8218 : BitVec 32 := 1024#32
  ![v7286.toNat, 1024]
def k0_dev275 (d0 : Dev nD) : Nat :=
  let c0_i32_8217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8216 : BitVec 32 := 1#32
  let v7287 : BitVec 32 := Scalar.muli v129 c1_i32_8216
  let v7288 : BitVec 32 := Scalar.addi c0_i32_8217 v7287
  v7288.toNat
def k0_off21 (d0 : Dev nD) (c0_i32_8221 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c1_i32_8220 : BitVec 32 := 1#32
  let v7295 : BitVec 32 := Scalar.addi v128 c1_i32_8220
  let v7296 : BitVec 32 := Scalar.addi v7295 c0_i32_8221
  let c64_i32_8222 : BitVec 32 := 64#32
  let v7297 : BitVec 32 := Scalar.addi v7296 c64_i32_8222
  let c32_i32_8223 : BitVec 32 := 32#32
  let v7298 : BitVec 32 := Scalar.remsi v7297 c32_i32_8223
  let c128_i32_8224 : BitVec 32 := 128#32
  let v7299 : BitVec 32 := Scalar.muli v7298 c128_i32_8224
  let c0_i32_8231 : BitVec 32 := 0#32
  ![v7299.toNat, 0]
def k0_dev276 (d0 : Dev nD) : Nat :=
  let c0_i32_8230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8229 : BitVec 32 := 1#32
  let v7300 : BitVec 32 := Scalar.muli v130 c1_i32_8229
  let v7301 : BitVec 32 := Scalar.addi c0_i32_8230 v7300
  v7301.toNat
def k0_off22 (d0 : Dev nD) (c0_i32_8234 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c1_i32_8233 : BitVec 32 := 1#32
  let v7308 : BitVec 32 := Scalar.subi v128 c1_i32_8233
  let v7309 : BitVec 32 := Scalar.addi v7308 c0_i32_8234
  let c64_i32_8235 : BitVec 32 := 64#32
  let v7310 : BitVec 32 := Scalar.addi v7309 c64_i32_8235
  let c32_i32_8236 : BitVec 32 := 32#32
  let v7311 : BitVec 32 := Scalar.remsi v7310 c32_i32_8236
  let c128_i32_8237 : BitVec 32 := 128#32
  let v7312 : BitVec 32 := Scalar.muli v7311 c128_i32_8237
  let c1024_i32_8244 : BitVec 32 := 1024#32
  ![v7312.toNat, 1024]
def k0_dev277 (d0 : Dev nD) : Nat :=
  let c0_i32_8243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8242 : BitVec 32 := 1#32
  let v7313 : BitVec 32 := Scalar.muli v130 c1_i32_8242
  let v7314 : BitVec 32 := Scalar.addi c0_i32_8243 v7313
  v7314.toNat
def k0_dev278 (d0 : Dev nD) : Nat :=
  let c0_i32_8257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8256 : BitVec 32 := 1#32
  let v7329 : BitVec 32 := Scalar.muli v130 c1_i32_8256
  let v7330 : BitVec 32 := Scalar.addi c0_i32_8257 v7329
  v7330.toNat
def k0_dev279 (d0 : Dev nD) : Nat :=
  let c0_i32_8268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8267 : BitVec 32 := 1#32
  let v7336 : BitVec 32 := Scalar.muli v129 c1_i32_8267
  let v7337 : BitVec 32 := Scalar.addi c0_i32_8268 v7336
  v7337.toNat
def k0_off23 (d0 : Dev nD) (c0_i32_8271 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v7344 : BitVec 32 := Scalar.subi v128 c0_i32_8271
  let c64_i32_8272 : BitVec 32 := 64#32
  let v7345 : BitVec 32 := Scalar.addi v7344 c64_i32_8272
  let c32_i32_8273 : BitVec 32 := 32#32
  let v7346 : BitVec 32 := Scalar.remsi v7345 c32_i32_8273
  let c128_i32_8274 : BitVec 32 := 128#32
  let v7347 : BitVec 32 := Scalar.muli v7346 c128_i32_8274
  let v7348 : Index := Scalar.indexCast v7347
  let c0_8275 : Index := 0#32
  ![v7348.toNat, 0]
def k0_dev280 (d0 : Dev nD) : Nat :=
  let c0_i32_8288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8287 : BitVec 32 := 1#32
  let v7363 : BitVec 32 := Scalar.muli v130 c1_i32_8287
  let v7364 : BitVec 32 := Scalar.addi c0_i32_8288 v7363
  v7364.toNat
def k0_dev281 (d0 : Dev nD) : Nat :=
  let c0_i32_8299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8298 : BitVec 32 := 1#32
  let v7370 : BitVec 32 := Scalar.muli v129 c1_i32_8298
  let v7371 : BitVec 32 := Scalar.addi c0_i32_8299 v7370
  v7371.toNat
def k0_off24 (d0 : Dev nD) (c0_i32_8303 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c2_i32_8302 : BitVec 32 := 2#32
  let v7378 : BitVec 32 := Scalar.subi v128 c2_i32_8302
  let v7379 : BitVec 32 := Scalar.subi v7378 c0_i32_8303
  let c64_i32_8304 : BitVec 32 := 64#32
  let v7380 : BitVec 32 := Scalar.addi v7379 c64_i32_8304
  let c32_i32_8305 : BitVec 32 := 32#32
  let v7381 : BitVec 32 := Scalar.remsi v7380 c32_i32_8305
  let c128_i32_8306 : BitVec 32 := 128#32
  let v7382 : BitVec 32 := Scalar.muli v7381 c128_i32_8306
  let v7383 : Index := Scalar.indexCast v7382
  let c1024_8307 : Index := 1024#32
  ![v7383.toNat, 1024]
def k0_dev282 (d0 : Dev nD) : Nat :=
  let c0_i32_8320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8319 : BitVec 32 := 1#32
  let v7398 : BitVec 32 := Scalar.muli v129 c1_i32_8319
  let v7399 : BitVec 32 := Scalar.addi c0_i32_8320 v7398
  v7399.toNat
def k0_dev283 (d0 : Dev nD) : Nat :=
  let c0_i32_8331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8330 : BitVec 32 := 1#32
  let v7405 : BitVec 32 := Scalar.muli v130 c1_i32_8330
  let v7406 : BitVec 32 := Scalar.addi c0_i32_8331 v7405
  v7406.toNat
def k0_off25 (d0 : Dev nD) (c0_i32_8335 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let c2_i32_8334 : BitVec 32 := 2#32
  let v7413 : BitVec 32 := Scalar.addi v128 c2_i32_8334
  let v7414 : BitVec 32 := Scalar.addi v7413 c0_i32_8335
  let c64_i32_8336 : BitVec 32 := 64#32
  let v7415 : BitVec 32 := Scalar.addi v7414 c64_i32_8336
  let c32_i32_8337 : BitVec 32 := 32#32
  let v7416 : BitVec 32 := Scalar.remsi v7415 c32_i32_8337
  let c128_i32_8338 : BitVec 32 := 128#32
  let v7417 : BitVec 32 := Scalar.muli v7416 c128_i32_8338
  let v7418 : Index := Scalar.indexCast v7417
  let c0_8339 : Index := 0#32
  ![v7418.toNat, 0]
def k0_dev284 (d0 : Dev nD) : Nat :=
  let c0_i32_8352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8351 : BitVec 32 := 1#32
  let v7433 : BitVec 32 := Scalar.muli v129 c1_i32_8351
  let v7434 : BitVec 32 := Scalar.addi c0_i32_8352 v7433
  v7434.toNat
def k0_dev285 (d0 : Dev nD) : Nat :=
  let c0_i32_8363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8362 : BitVec 32 := 1#32
  let v7440 : BitVec 32 := Scalar.muli v130 c1_i32_8362
  let v7441 : BitVec 32 := Scalar.addi c0_i32_8363 v7440
  v7441.toNat
def k0_off26 (d0 : Dev nD) (c0_i32_8366 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c31_i32_97 : BitVec 32 := 31#32
  let c2_i32_92 : BitVec 32 := 2#32
  let v123 : BitVec 1 := Scalar.cmpi .eq v2 c2_i32_92
  let c30_i32_93 : BitVec 32 := 30#32
  let c5_i32_88 : BitVec 32 := 5#32
  let v119 : BitVec 1 := Scalar.cmpi .eq v2 c5_i32_88
  let c29_i32_89 : BitVec 32 := 29#32
  let c6_i32_84 : BitVec 32 := 6#32
  let v115 : BitVec 1 := Scalar.cmpi .eq v2 c6_i32_84
  let c28_i32_85 : BitVec 32 := 28#32
  let c14_i32_80 : BitVec 32 := 14#32
  let v111 : BitVec 1 := Scalar.cmpi .eq v2 c14_i32_80
  let c27_i32_81 : BitVec 32 := 27#32
  let c13_i32_76 : BitVec 32 := 13#32
  let v107 : BitVec 1 := Scalar.cmpi .eq v2 c13_i32_76
  let c26_i32_77 : BitVec 32 := 26#32
  let c10_i32_72 : BitVec 32 := 10#32
  let v103 : BitVec 1 := Scalar.cmpi .eq v2 c10_i32_72
  let c25_i32_73 : BitVec 32 := 25#32
  let c9_i32_68 : BitVec 32 := 9#32
  let v99 : BitVec 1 := Scalar.cmpi .eq v2 c9_i32_68
  let c24_i32_69 : BitVec 32 := 24#32
  let c17_i32_64 : BitVec 32 := 17#32
  let v95 : BitVec 1 := Scalar.cmpi .eq v2 c17_i32_64
  let c23_i32_65 : BitVec 32 := 23#32
  let c18_i32_60 : BitVec 32 := 18#32
  let v91 : BitVec 1 := Scalar.cmpi .eq v2 c18_i32_60
  let c22_i32_61 : BitVec 32 := 22#32
  let c21_i32_56 : BitVec 32 := 21#32
  let v87 : BitVec 1 := Scalar.cmpi .eq v2 c21_i32_56
  let c21_i32_57 : BitVec 32 := 21#32
  let c22_i32_53 : BitVec 32 := 22#32
  let v83 : BitVec 1 := Scalar.cmpi .eq v2 c22_i32_53
  let c20_i32_54 : BitVec 32 := 20#32
  let c30_i32_50 : BitVec 32 := 30#32
  let v79 : BitVec 1 := Scalar.cmpi .eq v2 c30_i32_50
  let c19_i32_51 : BitVec 32 := 19#32
  let c29_i32_48 : BitVec 32 := 29#32
  let v75 : BitVec 1 := Scalar.cmpi .eq v2 c29_i32_48
  let c18_i32 : BitVec 32 := 18#32
  let c26_i32_46 : BitVec 32 := 26#32
  let v71 : BitVec 1 := Scalar.cmpi .eq v2 c26_i32_46
  let c17_i32 : BitVec 32 := 17#32
  let c25_i32_43 : BitVec 32 := 25#32
  let v67 : BitVec 1 := Scalar.cmpi .eq v2 c25_i32_43
  let c16_i32_44 : BitVec 32 := 16#32
  let c24_i32_40 : BitVec 32 := 24#32
  let v63 : BitVec 1 := Scalar.cmpi .eq v2 c24_i32_40
  let c15_i32_41 : BitVec 32 := 15#32
  let c27_i32_38 : BitVec 32 := 27#32
  let v59 : BitVec 1 := Scalar.cmpi .eq v2 c27_i32_38
  let c14_i32 : BitVec 32 := 14#32
  let c28_i32_36 : BitVec 32 := 28#32
  let v55 : BitVec 1 := Scalar.cmpi .eq v2 c28_i32_36
  let c13_i32 : BitVec 32 := 13#32
  let c31_i32_33 : BitVec 32 := 31#32
  let v51 : BitVec 1 := Scalar.cmpi .eq v2 c31_i32_33
  let c12_i32_34 : BitVec 32 := 12#32
  let c23_i32_30 : BitVec 32 := 23#32
  let v47 : BitVec 1 := Scalar.cmpi .eq v2 c23_i32_30
  let c11_i32_31 : BitVec 32 := 11#32
  let c20_i32_28 : BitVec 32 := 20#32
  let v43 : BitVec 1 := Scalar.cmpi .eq v2 c20_i32_28
  let c10_i32 : BitVec 32 := 10#32
  let c19_i32_26 : BitVec 32 := 19#32
  let v39 : BitVec 1 := Scalar.cmpi .eq v2 c19_i32_26
  let c9_i32 : BitVec 32 := 9#32
  let c16_i32_23 : BitVec 32 := 16#32
  let v35 : BitVec 1 := Scalar.cmpi .eq v2 c16_i32_23
  let c8_i32_24 : BitVec 32 := 8#32
  let c8_i32_20 : BitVec 32 := 8#32
  let v31 : BitVec 1 := Scalar.cmpi .eq v2 c8_i32_20
  let c7_i32_21 : BitVec 32 := 7#32
  let c11_i32_18 : BitVec 32 := 11#32
  let v27 : BitVec 1 := Scalar.cmpi .eq v2 c11_i32_18
  let c6_i32 : BitVec 32 := 6#32
  let c12_i32_16 : BitVec 32 := 12#32
  let v23 : BitVec 1 := Scalar.cmpi .eq v2 c12_i32_16
  let c5_i32 : BitVec 32 := 5#32
  let c15_i32_13 : BitVec 32 := 15#32
  let v19 : BitVec 1 := Scalar.cmpi .eq v2 c15_i32_13
  let c4_i32_14 : BitVec 32 := 4#32
  let c7_i32_10 : BitVec 32 := 7#32
  let v15 : BitVec 1 := Scalar.cmpi .eq v2 c7_i32_10
  let c3_i32_11 : BitVec 32 := 3#32
  let c4_i32_8 : BitVec 32 := 4#32
  let v11 : BitVec 1 := Scalar.cmpi .eq v2 c4_i32_8
  let c2_i32 : BitVec 32 := 2#32
  let c3_i32_5 : BitVec 32 := 3#32
  let v7 : BitVec 1 := Scalar.cmpi .eq v2 c3_i32_5
  let c1_i32_6 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v8 : BitVec 32 := Scalar.select v7 c1_i32_6 v4
  let v12 : BitVec 32 := Scalar.select v11 c2_i32 v8
  let v16 : BitVec 32 := Scalar.select v15 c3_i32_11 v12
  let v20 : BitVec 32 := Scalar.select v19 c4_i32_14 v16
  let v24 : BitVec 32 := Scalar.select v23 c5_i32 v20
  let v28 : BitVec 32 := Scalar.select v27 c6_i32 v24
  let v32 : BitVec 32 := Scalar.select v31 c7_i32_21 v28
  let v36 : BitVec 32 := Scalar.select v35 c8_i32_24 v32
  let v40 : BitVec 32 := Scalar.select v39 c9_i32 v36
  let v44 : BitVec 32 := Scalar.select v43 c10_i32 v40
  let v48 : BitVec 32 := Scalar.select v47 c11_i32_31 v44
  let v52 : BitVec 32 := Scalar.select v51 c12_i32_34 v48
  let v56 : BitVec 32 := Scalar.select v55 c13_i32 v52
  let v60 : BitVec 32 := Scalar.select v59 c14_i32 v56
  let v64 : BitVec 32 := Scalar.select v63 c15_i32_41 v60
  let v68 : BitVec 32 := Scalar.select v67 c16_i32_44 v64
  let v72 : BitVec 32 := Scalar.select v71 c17_i32 v68
  let v76 : BitVec 32 := Scalar.select v75 c18_i32 v72
  let v80 : BitVec 32 := Scalar.select v79 c19_i32_51 v76
  let v84 : BitVec 32 := Scalar.select v83 c20_i32_54 v80
  let v88 : BitVec 32 := Scalar.select v87 c21_i32_57 v84
  let v92 : BitVec 32 := Scalar.select v91 c22_i32_61 v88
  let v96 : BitVec 32 := Scalar.select v95 c23_i32_65 v92
  let v100 : BitVec 32 := Scalar.select v99 c24_i32_69 v96
  let v104 : BitVec 32 := Scalar.select v103 c25_i32_73 v100
  let v108 : BitVec 32 := Scalar.select v107 c26_i32_77 v104
  let v112 : BitVec 32 := Scalar.select v111 c27_i32_81 v108
  let v116 : BitVec 32 := Scalar.select v115 c28_i32_85 v112
  let v120 : BitVec 32 := Scalar.select v119 c29_i32_89 v116
  let v124 : BitVec 32 := Scalar.select v123 c30_i32_93 v120
  let v128 : BitVec 32 := Scalar.select v127 c31_i32_97 v124
  let v7448 : BitVec 32 := Scalar.addi v128 c0_i32_8366
  let c64_i32_8367 : BitVec 32 := 64#32
  let v7449 : BitVec 32 := Scalar.addi v7448 c64_i32_8367
  let c32_i32_8368 : BitVec 32 := 32#32
  let v7450 : BitVec 32 := Scalar.remsi v7449 c32_i32_8368
  let c128_i32_8369 : BitVec 32 := 128#32
  let v7451 : BitVec 32 := Scalar.muli v7450 c128_i32_8369
  let v7452 : Index := Scalar.indexCast v7451
  let c1024_8370 : Index := 1024#32
  ![v7452.toNat, 1024]
def k0_dev286 (d0 : Dev nD) : Nat :=
  let c0_i32_8383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8382 : BitVec 32 := 1#32
  let v7467 : BitVec 32 := Scalar.muli v130 c1_i32_8382
  let v7468 : BitVec 32 := Scalar.addi c0_i32_8383 v7467
  v7468.toNat
def k0_dev287 (d0 : Dev nD) : Nat :=
  let c0_i32_8404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8403 : BitVec 32 := 1#32
  let v7480 : BitVec 32 := Scalar.muli v129 c1_i32_8403
  let v7481 : BitVec 32 := Scalar.addi c0_i32_8404 v7480
  v7481.toNat
def k0_dev288 (d0 : Dev nD) : Nat :=
  let c0_i32_8424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8423 : BitVec 32 := 1#32
  let v7507 : BitVec 32 := Scalar.muli v130 c1_i32_8423
  let v7508 : BitVec 32 := Scalar.addi c0_i32_8424 v7507
  v7508.toNat
def k0_dev289 (d0 : Dev nD) : Nat :=
  let c0_i32_8445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8444 : BitVec 32 := 1#32
  let v7520 : BitVec 32 := Scalar.muli v129 c1_i32_8444
  let v7521 : BitVec 32 := Scalar.addi c0_i32_8445 v7520
  v7521.toNat
def k0_dev290 (d0 : Dev nD) : Nat :=
  let c0_i32_8466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8465 : BitVec 32 := 1#32
  let v7548 : BitVec 32 := Scalar.muli v129 c1_i32_8465
  let v7549 : BitVec 32 := Scalar.addi c0_i32_8466 v7548
  v7549.toNat
def k0_dev291 (d0 : Dev nD) : Nat :=
  let c0_i32_8487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8486 : BitVec 32 := 1#32
  let v7561 : BitVec 32 := Scalar.muli v130 c1_i32_8486
  let v7562 : BitVec 32 := Scalar.addi c0_i32_8487 v7561
  v7562.toNat
def k0_dev292 (d0 : Dev nD) : Nat :=
  let c0_i32_8508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8507 : BitVec 32 := 1#32
  let v7589 : BitVec 32 := Scalar.muli v129 c1_i32_8507
  let v7590 : BitVec 32 := Scalar.addi c0_i32_8508 v7589
  v7590.toNat
def k0_dev293 (d0 : Dev nD) : Nat :=
  let c0_i32_8529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8528 : BitVec 32 := 1#32
  let v7602 : BitVec 32 := Scalar.muli v130 c1_i32_8528
  let v7603 : BitVec 32 := Scalar.addi c0_i32_8529 v7602
  v7603.toNat
def k0_dev294 (d0 : Dev nD) : Nat :=
  let c0_i32_8549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8548 : BitVec 32 := 1#32
  let v7629 : BitVec 32 := Scalar.muli v130 c1_i32_8548
  let v7630 : BitVec 32 := Scalar.addi c0_i32_8549 v7629
  v7630.toNat

variable {F : FTy → Type} [FloatOps F]

def k0_dev295 (d0 : Dev nD) : Nat :=
  let c0_i32_8570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8569 : BitVec 32 := 1#32
  let v7642 : BitVec 32 := Scalar.muli v129 c1_i32_8569
  let v7643 : BitVec 32 := Scalar.addi c0_i32_8570 v7642
  v7643.toNat
def k0_dev296 (d0 : Dev nD) : Nat :=
  let c0_i32_8590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8589 : BitVec 32 := 1#32
  let v7669 : BitVec 32 := Scalar.muli v130 c1_i32_8589
  let v7670 : BitVec 32 := Scalar.addi c0_i32_8590 v7669
  v7670.toNat
def k0_dev297 (d0 : Dev nD) : Nat :=
  let c0_i32_8611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8610 : BitVec 32 := 1#32
  let v7682 : BitVec 32 := Scalar.muli v129 c1_i32_8610
  let v7683 : BitVec 32 := Scalar.addi c0_i32_8611 v7682
  v7683.toNat
def k0_dev298 (d0 : Dev nD) : Nat :=
  let c0_i32_8632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8631 : BitVec 32 := 1#32
  let v7710 : BitVec 32 := Scalar.muli v129 c1_i32_8631
  let v7711 : BitVec 32 := Scalar.addi c0_i32_8632 v7710
  v7711.toNat
def k0_dev299 (d0 : Dev nD) : Nat :=
  let c0_i32_8653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8652 : BitVec 32 := 1#32
  let v7723 : BitVec 32 := Scalar.muli v130 c1_i32_8652
  let v7724 : BitVec 32 := Scalar.addi c0_i32_8653 v7723
  v7724.toNat
def k0_dev300 (d0 : Dev nD) : Nat :=
  let c0_i32_8674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8673 : BitVec 32 := 1#32
  let v7751 : BitVec 32 := Scalar.muli v129 c1_i32_8673
  let v7752 : BitVec 32 := Scalar.addi c0_i32_8674 v7751
  v7752.toNat
def k0_dev301 (d0 : Dev nD) : Nat :=
  let c0_i32_8695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8694 : BitVec 32 := 1#32
  let v7764 : BitVec 32 := Scalar.muli v130 c1_i32_8694
  let v7765 : BitVec 32 := Scalar.addi c0_i32_8695 v7764
  v7765.toNat
def k0_dev302 (d0 : Dev nD) : Nat :=
  let c0_i32_8715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8714 : BitVec 32 := 1#32
  let v7791 : BitVec 32 := Scalar.muli v130 c1_i32_8714
  let v7792 : BitVec 32 := Scalar.addi c0_i32_8715 v7791
  v7792.toNat
def k0_dev303 (d0 : Dev nD) : Nat :=
  let c0_i32_8736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8735 : BitVec 32 := 1#32
  let v7804 : BitVec 32 := Scalar.muli v129 c1_i32_8735
  let v7805 : BitVec 32 := Scalar.addi c0_i32_8736 v7804
  v7805.toNat
def k0_dev304 (d0 : Dev nD) : Nat :=
  let c0_i32_8756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8755 : BitVec 32 := 1#32
  let v7831 : BitVec 32 := Scalar.muli v130 c1_i32_8755
  let v7832 : BitVec 32 := Scalar.addi c0_i32_8756 v7831
  v7832.toNat
def k0_dev305 (d0 : Dev nD) : Nat :=
  let c0_i32_8777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8776 : BitVec 32 := 1#32
  let v7844 : BitVec 32 := Scalar.muli v129 c1_i32_8776
  let v7845 : BitVec 32 := Scalar.addi c0_i32_8777 v7844
  v7845.toNat
def k0_dev306 (d0 : Dev nD) : Nat :=
  let c0_i32_8798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8797 : BitVec 32 := 1#32
  let v7872 : BitVec 32 := Scalar.muli v129 c1_i32_8797
  let v7873 : BitVec 32 := Scalar.addi c0_i32_8798 v7872
  v7873.toNat
def k0_dev307 (d0 : Dev nD) : Nat :=
  let c0_i32_8819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8818 : BitVec 32 := 1#32
  let v7885 : BitVec 32 := Scalar.muli v130 c1_i32_8818
  let v7886 : BitVec 32 := Scalar.addi c0_i32_8819 v7885
  v7886.toNat
def k0_dev308 (d0 : Dev nD) : Nat :=
  let c0_i32_8840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8839 : BitVec 32 := 1#32
  let v7913 : BitVec 32 := Scalar.muli v129 c1_i32_8839
  let v7914 : BitVec 32 := Scalar.addi c0_i32_8840 v7913
  v7914.toNat
def k0_dev309 (d0 : Dev nD) : Nat :=
  let c0_i32_8861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8860 : BitVec 32 := 1#32
  let v7926 : BitVec 32 := Scalar.muli v130 c1_i32_8860
  let v7927 : BitVec 32 := Scalar.addi c0_i32_8861 v7926
  v7927.toNat
def k0_dev310 (d0 : Dev nD) : Nat :=
  let c0_i32_8881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8880 : BitVec 32 := 1#32
  let v7953 : BitVec 32 := Scalar.muli v130 c1_i32_8880
  let v7954 : BitVec 32 := Scalar.addi c0_i32_8881 v7953
  v7954.toNat
def k0_dev311 (d0 : Dev nD) : Nat :=
  let c0_i32_8902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8901 : BitVec 32 := 1#32
  let v7966 : BitVec 32 := Scalar.muli v129 c1_i32_8901
  let v7967 : BitVec 32 := Scalar.addi c0_i32_8902 v7966
  v7967.toNat
def k0_dev312 (d0 : Dev nD) : Nat :=
  let c0_i32_8922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8921 : BitVec 32 := 1#32
  let v7993 : BitVec 32 := Scalar.muli v130 c1_i32_8921
  let v7994 : BitVec 32 := Scalar.addi c0_i32_8922 v7993
  v7994.toNat
def k0_dev313 (d0 : Dev nD) : Nat :=
  let c0_i32_8943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8942 : BitVec 32 := 1#32
  let v8006 : BitVec 32 := Scalar.muli v129 c1_i32_8942
  let v8007 : BitVec 32 := Scalar.addi c0_i32_8943 v8006
  v8007.toNat
def k0_dev314 (d0 : Dev nD) : Nat :=
  let c0_i32_8964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_8963 : BitVec 32 := 1#32
  let v8034 : BitVec 32 := Scalar.muli v129 c1_i32_8963
  let v8035 : BitVec 32 := Scalar.addi c0_i32_8964 v8034
  v8035.toNat
def k0_dev315 (d0 : Dev nD) : Nat :=
  let c0_i32_8985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_8984 : BitVec 32 := 1#32
  let v8047 : BitVec 32 := Scalar.muli v130 c1_i32_8984
  let v8048 : BitVec 32 := Scalar.addi c0_i32_8985 v8047
  v8048.toNat
def k0_dev316 (d0 : Dev nD) : Nat :=
  let c0_i32_9006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9005 : BitVec 32 := 1#32
  let v8075 : BitVec 32 := Scalar.muli v129 c1_i32_9005
  let v8076 : BitVec 32 := Scalar.addi c0_i32_9006 v8075
  v8076.toNat
def k0_dev317 (d0 : Dev nD) : Nat :=
  let c0_i32_9027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9026 : BitVec 32 := 1#32
  let v8088 : BitVec 32 := Scalar.muli v130 c1_i32_9026
  let v8089 : BitVec 32 := Scalar.addi c0_i32_9027 v8088
  v8089.toNat
def k0_dev318 (d0 : Dev nD) : Nat :=
  let c0_i32_9047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9046 : BitVec 32 := 1#32
  let v8115 : BitVec 32 := Scalar.muli v130 c1_i32_9046
  let v8116 : BitVec 32 := Scalar.addi c0_i32_9047 v8115
  v8116.toNat
def k0_dev319 (d0 : Dev nD) : Nat :=
  let c0_i32_9068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9067 : BitVec 32 := 1#32
  let v8128 : BitVec 32 := Scalar.muli v129 c1_i32_9067
  let v8129 : BitVec 32 := Scalar.addi c0_i32_9068 v8128
  v8129.toNat
def k0_dev320 (d0 : Dev nD) : Nat :=
  let c0_i32_9088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9087 : BitVec 32 := 1#32
  let v8155 : BitVec 32 := Scalar.muli v130 c1_i32_9087
  let v8156 : BitVec 32 := Scalar.addi c0_i32_9088 v8155
  v8156.toNat
def k0_dev321 (d0 : Dev nD) : Nat :=
  let c0_i32_9109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9108 : BitVec 32 := 1#32
  let v8168 : BitVec 32 := Scalar.muli v129 c1_i32_9108
  let v8169 : BitVec 32 := Scalar.addi c0_i32_9109 v8168
  v8169.toNat
def k0_dev322 (d0 : Dev nD) : Nat :=
  let c0_i32_9130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9129 : BitVec 32 := 1#32
  let v8196 : BitVec 32 := Scalar.muli v129 c1_i32_9129
  let v8197 : BitVec 32 := Scalar.addi c0_i32_9130 v8196
  v8197.toNat
def k0_dev323 (d0 : Dev nD) : Nat :=
  let c0_i32_9151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9150 : BitVec 32 := 1#32
  let v8209 : BitVec 32 := Scalar.muli v130 c1_i32_9150
  let v8210 : BitVec 32 := Scalar.addi c0_i32_9151 v8209
  v8210.toNat
def k0_dev324 (d0 : Dev nD) : Nat :=
  let c0_i32_9172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9171 : BitVec 32 := 1#32
  let v8237 : BitVec 32 := Scalar.muli v129 c1_i32_9171
  let v8238 : BitVec 32 := Scalar.addi c0_i32_9172 v8237
  v8238.toNat
def k0_dev325 (d0 : Dev nD) : Nat :=
  let c0_i32_9193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9192 : BitVec 32 := 1#32
  let v8250 : BitVec 32 := Scalar.muli v130 c1_i32_9192
  let v8251 : BitVec 32 := Scalar.addi c0_i32_9193 v8250
  v8251.toNat
def k0_dev326 (d0 : Dev nD) : Nat :=
  let c0_i32_9213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9212 : BitVec 32 := 1#32
  let v8277 : BitVec 32 := Scalar.muli v130 c1_i32_9212
  let v8278 : BitVec 32 := Scalar.addi c0_i32_9213 v8277
  v8278.toNat
def k0_dev327 (d0 : Dev nD) : Nat :=
  let c0_i32_9234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9233 : BitVec 32 := 1#32
  let v8290 : BitVec 32 := Scalar.muli v129 c1_i32_9233
  let v8291 : BitVec 32 := Scalar.addi c0_i32_9234 v8290
  v8291.toNat
def k0_dev328 (d0 : Dev nD) : Nat :=
  let c0_i32_9254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9253 : BitVec 32 := 1#32
  let v8317 : BitVec 32 := Scalar.muli v130 c1_i32_9253
  let v8318 : BitVec 32 := Scalar.addi c0_i32_9254 v8317
  v8318.toNat
def k0_dev329 (d0 : Dev nD) : Nat :=
  let c0_i32_9275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9274 : BitVec 32 := 1#32
  let v8330 : BitVec 32 := Scalar.muli v129 c1_i32_9274
  let v8331 : BitVec 32 := Scalar.addi c0_i32_9275 v8330
  v8331.toNat
def k0_dev330 (d0 : Dev nD) : Nat :=
  let c0_i32_9296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9295 : BitVec 32 := 1#32
  let v8358 : BitVec 32 := Scalar.muli v129 c1_i32_9295
  let v8359 : BitVec 32 := Scalar.addi c0_i32_9296 v8358
  v8359.toNat
def k0_dev331 (d0 : Dev nD) : Nat :=
  let c0_i32_9317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9316 : BitVec 32 := 1#32
  let v8371 : BitVec 32 := Scalar.muli v130 c1_i32_9316
  let v8372 : BitVec 32 := Scalar.addi c0_i32_9317 v8371
  v8372.toNat
def k0_dev332 (d0 : Dev nD) : Nat :=
  let c0_i32_9338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9337 : BitVec 32 := 1#32
  let v8399 : BitVec 32 := Scalar.muli v129 c1_i32_9337
  let v8400 : BitVec 32 := Scalar.addi c0_i32_9338 v8399
  v8400.toNat
def k0_dev333 (d0 : Dev nD) : Nat :=
  let c0_i32_9359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9358 : BitVec 32 := 1#32
  let v8412 : BitVec 32 := Scalar.muli v130 c1_i32_9358
  let v8413 : BitVec 32 := Scalar.addi c0_i32_9359 v8412
  v8413.toNat
def k0_dev334 (d0 : Dev nD) : Nat :=
  let c0_i32_9379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9378 : BitVec 32 := 1#32
  let v8439 : BitVec 32 := Scalar.muli v130 c1_i32_9378
  let v8440 : BitVec 32 := Scalar.addi c0_i32_9379 v8439
  v8440.toNat
def k0_dev335 (d0 : Dev nD) : Nat :=
  let c0_i32_9400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9399 : BitVec 32 := 1#32
  let v8452 : BitVec 32 := Scalar.muli v129 c1_i32_9399
  let v8453 : BitVec 32 := Scalar.addi c0_i32_9400 v8452
  v8453.toNat
def k0_dev336 (d0 : Dev nD) : Nat :=
  let c0_i32_9420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9419 : BitVec 32 := 1#32
  let v8479 : BitVec 32 := Scalar.muli v130 c1_i32_9419
  let v8480 : BitVec 32 := Scalar.addi c0_i32_9420 v8479
  v8480.toNat
def k0_dev337 (d0 : Dev nD) : Nat :=
  let c0_i32_9441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9440 : BitVec 32 := 1#32
  let v8492 : BitVec 32 := Scalar.muli v129 c1_i32_9440
  let v8493 : BitVec 32 := Scalar.addi c0_i32_9441 v8492
  v8493.toNat
def k0_dev338 (d0 : Dev nD) : Nat :=
  let c0_i32_9462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9461 : BitVec 32 := 1#32
  let v8520 : BitVec 32 := Scalar.muli v129 c1_i32_9461
  let v8521 : BitVec 32 := Scalar.addi c0_i32_9462 v8520
  v8521.toNat
def k0_dev339 (d0 : Dev nD) : Nat :=
  let c0_i32_9483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9482 : BitVec 32 := 1#32
  let v8533 : BitVec 32 := Scalar.muli v130 c1_i32_9482
  let v8534 : BitVec 32 := Scalar.addi c0_i32_9483 v8533
  v8534.toNat
def k0_dev340 (d0 : Dev nD) : Nat :=
  let c0_i32_9504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9503 : BitVec 32 := 1#32
  let v8561 : BitVec 32 := Scalar.muli v129 c1_i32_9503
  let v8562 : BitVec 32 := Scalar.addi c0_i32_9504 v8561
  v8562.toNat
def k0_dev341 (d0 : Dev nD) : Nat :=
  let c0_i32_9525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9524 : BitVec 32 := 1#32
  let v8574 : BitVec 32 := Scalar.muli v130 c1_i32_9524
  let v8575 : BitVec 32 := Scalar.addi c0_i32_9525 v8574
  v8575.toNat
def k0_dev342 (d0 : Dev nD) : Nat :=
  let c0_i32_9545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9544 : BitVec 32 := 1#32
  let v8601 : BitVec 32 := Scalar.muli v130 c1_i32_9544
  let v8602 : BitVec 32 := Scalar.addi c0_i32_9545 v8601
  v8602.toNat
def k0_dev343 (d0 : Dev nD) : Nat :=
  let c0_i32_9566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9565 : BitVec 32 := 1#32
  let v8614 : BitVec 32 := Scalar.muli v129 c1_i32_9565
  let v8615 : BitVec 32 := Scalar.addi c0_i32_9566 v8614
  v8615.toNat
def k0_dev344 (d0 : Dev nD) : Nat :=
  let c0_i32_9586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9585 : BitVec 32 := 1#32
  let v8641 : BitVec 32 := Scalar.muli v130 c1_i32_9585
  let v8642 : BitVec 32 := Scalar.addi c0_i32_9586 v8641
  v8642.toNat
def k0_dev345 (d0 : Dev nD) : Nat :=
  let c0_i32_9607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9606 : BitVec 32 := 1#32
  let v8654 : BitVec 32 := Scalar.muli v129 c1_i32_9606
  let v8655 : BitVec 32 := Scalar.addi c0_i32_9607 v8654
  v8655.toNat
def k0_dev346 (d0 : Dev nD) : Nat :=
  let c0_i32_9628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9627 : BitVec 32 := 1#32
  let v8682 : BitVec 32 := Scalar.muli v129 c1_i32_9627
  let v8683 : BitVec 32 := Scalar.addi c0_i32_9628 v8682
  v8683.toNat
def k0_dev347 (d0 : Dev nD) : Nat :=
  let c0_i32_9649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9648 : BitVec 32 := 1#32
  let v8695 : BitVec 32 := Scalar.muli v130 c1_i32_9648
  let v8696 : BitVec 32 := Scalar.addi c0_i32_9649 v8695
  v8696.toNat
def k0_dev348 (d0 : Dev nD) : Nat :=
  let c0_i32_9670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9669 : BitVec 32 := 1#32
  let v8723 : BitVec 32 := Scalar.muli v129 c1_i32_9669
  let v8724 : BitVec 32 := Scalar.addi c0_i32_9670 v8723
  v8724.toNat
def k0_dev349 (d0 : Dev nD) : Nat :=
  let c0_i32_9691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9690 : BitVec 32 := 1#32
  let v8736 : BitVec 32 := Scalar.muli v130 c1_i32_9690
  let v8737 : BitVec 32 := Scalar.addi c0_i32_9691 v8736
  v8737.toNat
def k0_dev350 (d0 : Dev nD) : Nat :=
  let c0_i32_9711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9710 : BitVec 32 := 1#32
  let v8763 : BitVec 32 := Scalar.muli v130 c1_i32_9710
  let v8764 : BitVec 32 := Scalar.addi c0_i32_9711 v8763
  v8764.toNat
def k0_dev351 (d0 : Dev nD) : Nat :=
  let c0_i32_9732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9731 : BitVec 32 := 1#32
  let v8776 : BitVec 32 := Scalar.muli v129 c1_i32_9731
  let v8777 : BitVec 32 := Scalar.addi c0_i32_9732 v8776
  v8777.toNat
def k0_dev352 (d0 : Dev nD) : Nat :=
  let c0_i32_9752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9751 : BitVec 32 := 1#32
  let v8803 : BitVec 32 := Scalar.muli v130 c1_i32_9751
  let v8804 : BitVec 32 := Scalar.addi c0_i32_9752 v8803
  v8804.toNat
def k0_dev353 (d0 : Dev nD) : Nat :=
  let c0_i32_9773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9772 : BitVec 32 := 1#32
  let v8816 : BitVec 32 := Scalar.muli v129 c1_i32_9772
  let v8817 : BitVec 32 := Scalar.addi c0_i32_9773 v8816
  v8817.toNat
def k0_dev354 (d0 : Dev nD) : Nat :=
  let c0_i32_9794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9793 : BitVec 32 := 1#32
  let v8844 : BitVec 32 := Scalar.muli v129 c1_i32_9793
  let v8845 : BitVec 32 := Scalar.addi c0_i32_9794 v8844
  v8845.toNat
def k0_dev355 (d0 : Dev nD) : Nat :=
  let c0_i32_9815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9814 : BitVec 32 := 1#32
  let v8857 : BitVec 32 := Scalar.muli v130 c1_i32_9814
  let v8858 : BitVec 32 := Scalar.addi c0_i32_9815 v8857
  v8858.toNat
def k0_dev356 (d0 : Dev nD) : Nat :=
  let c0_i32_9836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9835 : BitVec 32 := 1#32
  let v8885 : BitVec 32 := Scalar.muli v129 c1_i32_9835
  let v8886 : BitVec 32 := Scalar.addi c0_i32_9836 v8885
  v8886.toNat
def k0_dev357 (d0 : Dev nD) : Nat :=
  let c0_i32_9857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9856 : BitVec 32 := 1#32
  let v8898 : BitVec 32 := Scalar.muli v130 c1_i32_9856
  let v8899 : BitVec 32 := Scalar.addi c0_i32_9857 v8898
  v8899.toNat
def k0_dev358 (d0 : Dev nD) : Nat :=
  let c0_i32_9877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9876 : BitVec 32 := 1#32
  let v8925 : BitVec 32 := Scalar.muli v130 c1_i32_9876
  let v8926 : BitVec 32 := Scalar.addi c0_i32_9877 v8925
  v8926.toNat
def k0_dev359 (d0 : Dev nD) : Nat :=
  let c0_i32_9898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9897 : BitVec 32 := 1#32
  let v8938 : BitVec 32 := Scalar.muli v129 c1_i32_9897
  let v8939 : BitVec 32 := Scalar.addi c0_i32_9898 v8938
  v8939.toNat
def k0_dev360 (d0 : Dev nD) : Nat :=
  let c0_i32_9918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9917 : BitVec 32 := 1#32
  let v8965 : BitVec 32 := Scalar.muli v130 c1_i32_9917
  let v8966 : BitVec 32 := Scalar.addi c0_i32_9918 v8965
  v8966.toNat
def k0_dev361 (d0 : Dev nD) : Nat :=
  let c0_i32_9939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9938 : BitVec 32 := 1#32
  let v8978 : BitVec 32 := Scalar.muli v129 c1_i32_9938
  let v8979 : BitVec 32 := Scalar.addi c0_i32_9939 v8978
  v8979.toNat
def k0_dev362 (d0 : Dev nD) : Nat :=
  let c0_i32_9960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_9959 : BitVec 32 := 1#32
  let v9006 : BitVec 32 := Scalar.muli v129 c1_i32_9959
  let v9007 : BitVec 32 := Scalar.addi c0_i32_9960 v9006
  v9007.toNat
def k0_dev363 (d0 : Dev nD) : Nat :=
  let c0_i32_9981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_9980 : BitVec 32 := 1#32
  let v9019 : BitVec 32 := Scalar.muli v130 c1_i32_9980
  let v9020 : BitVec 32 := Scalar.addi c0_i32_9981 v9019
  v9020.toNat
def k0_dev364 (d0 : Dev nD) : Nat :=
  let c0_i32_10002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10001 : BitVec 32 := 1#32
  let v9047 : BitVec 32 := Scalar.muli v129 c1_i32_10001
  let v9048 : BitVec 32 := Scalar.addi c0_i32_10002 v9047
  v9048.toNat
def k0_dev365 (d0 : Dev nD) : Nat :=
  let c0_i32_10023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10022 : BitVec 32 := 1#32
  let v9060 : BitVec 32 := Scalar.muli v130 c1_i32_10022
  let v9061 : BitVec 32 := Scalar.addi c0_i32_10023 v9060
  v9061.toNat
def k0_dev366 (d0 : Dev nD) : Nat :=
  let c0_i32_10043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10042 : BitVec 32 := 1#32
  let v9087 : BitVec 32 := Scalar.muli v130 c1_i32_10042
  let v9088 : BitVec 32 := Scalar.addi c0_i32_10043 v9087
  v9088.toNat
def k0_dev367 (d0 : Dev nD) : Nat :=
  let c0_i32_10064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10063 : BitVec 32 := 1#32
  let v9100 : BitVec 32 := Scalar.muli v129 c1_i32_10063
  let v9101 : BitVec 32 := Scalar.addi c0_i32_10064 v9100
  v9101.toNat
def k0_dev368 (d0 : Dev nD) : Nat :=
  let c0_i32_10084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10083 : BitVec 32 := 1#32
  let v9127 : BitVec 32 := Scalar.muli v130 c1_i32_10083
  let v9128 : BitVec 32 := Scalar.addi c0_i32_10084 v9127
  v9128.toNat
def k0_dev369 (d0 : Dev nD) : Nat :=
  let c0_i32_10105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10104 : BitVec 32 := 1#32
  let v9140 : BitVec 32 := Scalar.muli v129 c1_i32_10104
  let v9141 : BitVec 32 := Scalar.addi c0_i32_10105 v9140
  v9141.toNat
def k0_dev370 (d0 : Dev nD) : Nat :=
  let c0_i32_10126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10125 : BitVec 32 := 1#32
  let v9168 : BitVec 32 := Scalar.muli v129 c1_i32_10125
  let v9169 : BitVec 32 := Scalar.addi c0_i32_10126 v9168
  v9169.toNat
def k0_dev371 (d0 : Dev nD) : Nat :=
  let c0_i32_10147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10146 : BitVec 32 := 1#32
  let v9181 : BitVec 32 := Scalar.muli v130 c1_i32_10146
  let v9182 : BitVec 32 := Scalar.addi c0_i32_10147 v9181
  v9182.toNat
def k0_dev372 (d0 : Dev nD) : Nat :=
  let c0_i32_10168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10167 : BitVec 32 := 1#32
  let v9209 : BitVec 32 := Scalar.muli v129 c1_i32_10167
  let v9210 : BitVec 32 := Scalar.addi c0_i32_10168 v9209
  v9210.toNat
def k0_dev373 (d0 : Dev nD) : Nat :=
  let c0_i32_10189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10188 : BitVec 32 := 1#32
  let v9222 : BitVec 32 := Scalar.muli v130 c1_i32_10188
  let v9223 : BitVec 32 := Scalar.addi c0_i32_10189 v9222
  v9223.toNat
def k0_dev374 (d0 : Dev nD) : Nat :=
  let c0_i32_10209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10208 : BitVec 32 := 1#32
  let v9249 : BitVec 32 := Scalar.muli v130 c1_i32_10208
  let v9250 : BitVec 32 := Scalar.addi c0_i32_10209 v9249
  v9250.toNat
def k0_dev375 (d0 : Dev nD) : Nat :=
  let c0_i32_10230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10229 : BitVec 32 := 1#32
  let v9262 : BitVec 32 := Scalar.muli v129 c1_i32_10229
  let v9263 : BitVec 32 := Scalar.addi c0_i32_10230 v9262
  v9263.toNat
def k0_dev376 (d0 : Dev nD) : Nat :=
  let c0_i32_10250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10249 : BitVec 32 := 1#32
  let v9289 : BitVec 32 := Scalar.muli v130 c1_i32_10249
  let v9290 : BitVec 32 := Scalar.addi c0_i32_10250 v9289
  v9290.toNat
def k0_dev377 (d0 : Dev nD) : Nat :=
  let c0_i32_10271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10270 : BitVec 32 := 1#32
  let v9302 : BitVec 32 := Scalar.muli v129 c1_i32_10270
  let v9303 : BitVec 32 := Scalar.addi c0_i32_10271 v9302
  v9303.toNat
def k0_dev378 (d0 : Dev nD) : Nat :=
  let c0_i32_10292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10291 : BitVec 32 := 1#32
  let v9330 : BitVec 32 := Scalar.muli v129 c1_i32_10291
  let v9331 : BitVec 32 := Scalar.addi c0_i32_10292 v9330
  v9331.toNat
def k0_dev379 (d0 : Dev nD) : Nat :=
  let c0_i32_10313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10312 : BitVec 32 := 1#32
  let v9343 : BitVec 32 := Scalar.muli v130 c1_i32_10312
  let v9344 : BitVec 32 := Scalar.addi c0_i32_10313 v9343
  v9344.toNat
def k0_dev380 (d0 : Dev nD) : Nat :=
  let c0_i32_10334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10333 : BitVec 32 := 1#32
  let v9371 : BitVec 32 := Scalar.muli v129 c1_i32_10333
  let v9372 : BitVec 32 := Scalar.addi c0_i32_10334 v9371
  v9372.toNat
def k0_dev381 (d0 : Dev nD) : Nat :=
  let c0_i32_10355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10354 : BitVec 32 := 1#32
  let v9384 : BitVec 32 := Scalar.muli v130 c1_i32_10354
  let v9385 : BitVec 32 := Scalar.addi c0_i32_10355 v9384
  v9385.toNat
def k0_dev382 (d0 : Dev nD) : Nat :=
  let c0_i32_10375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10374 : BitVec 32 := 1#32
  let v9411 : BitVec 32 := Scalar.muli v130 c1_i32_10374
  let v9412 : BitVec 32 := Scalar.addi c0_i32_10375 v9411
  v9412.toNat
def k0_dev383 (d0 : Dev nD) : Nat :=
  let c0_i32_10396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10395 : BitVec 32 := 1#32
  let v9424 : BitVec 32 := Scalar.muli v129 c1_i32_10395
  let v9425 : BitVec 32 := Scalar.addi c0_i32_10396 v9424
  v9425.toNat
def k0_dev384 (d0 : Dev nD) : Nat :=
  let c0_i32_10416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10415 : BitVec 32 := 1#32
  let v9451 : BitVec 32 := Scalar.muli v130 c1_i32_10415
  let v9452 : BitVec 32 := Scalar.addi c0_i32_10416 v9451
  v9452.toNat
def k0_dev385 (d0 : Dev nD) : Nat :=
  let c0_i32_10437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10436 : BitVec 32 := 1#32
  let v9464 : BitVec 32 := Scalar.muli v129 c1_i32_10436
  let v9465 : BitVec 32 := Scalar.addi c0_i32_10437 v9464
  v9465.toNat
def k0_dev386 (d0 : Dev nD) : Nat :=
  let c0_i32_10475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10474 : BitVec 32 := 1#32
  let v9501 : BitVec 32 := Scalar.muli v130 c1_i32_10474
  let v9502 : BitVec 32 := Scalar.addi c0_i32_10475 v9501
  v9502.toNat
def k0_dev387 (d0 : Dev nD) : Nat :=
  let c0_i32_10513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c2_i32_99 : BitVec 32 := 2#32
  let c2_i32_92 : BitVec 32 := 2#32
  let v123 : BitVec 1 := Scalar.cmpi .eq v2 c2_i32_92
  let c5_i32_95 : BitVec 32 := 5#32
  let c5_i32_88 : BitVec 32 := 5#32
  let v119 : BitVec 1 := Scalar.cmpi .eq v2 c5_i32_88
  let c6_i32_91 : BitVec 32 := 6#32
  let c6_i32_84 : BitVec 32 := 6#32
  let v115 : BitVec 1 := Scalar.cmpi .eq v2 c6_i32_84
  let c14_i32_87 : BitVec 32 := 14#32
  let c14_i32_80 : BitVec 32 := 14#32
  let v111 : BitVec 1 := Scalar.cmpi .eq v2 c14_i32_80
  let c13_i32_83 : BitVec 32 := 13#32
  let c13_i32_76 : BitVec 32 := 13#32
  let v107 : BitVec 1 := Scalar.cmpi .eq v2 c13_i32_76
  let c10_i32_79 : BitVec 32 := 10#32
  let c10_i32_72 : BitVec 32 := 10#32
  let v103 : BitVec 1 := Scalar.cmpi .eq v2 c10_i32_72
  let c9_i32_75 : BitVec 32 := 9#32
  let c9_i32_68 : BitVec 32 := 9#32
  let v99 : BitVec 1 := Scalar.cmpi .eq v2 c9_i32_68
  let c17_i32_71 : BitVec 32 := 17#32
  let c17_i32_64 : BitVec 32 := 17#32
  let v95 : BitVec 1 := Scalar.cmpi .eq v2 c17_i32_64
  let c18_i32_67 : BitVec 32 := 18#32
  let c18_i32_60 : BitVec 32 := 18#32
  let v91 : BitVec 1 := Scalar.cmpi .eq v2 c18_i32_60
  let c21_i32_63 : BitVec 32 := 21#32
  let c21_i32_56 : BitVec 32 := 21#32
  let v87 : BitVec 1 := Scalar.cmpi .eq v2 c21_i32_56
  let c22_i32_59 : BitVec 32 := 22#32
  let c22_i32_53 : BitVec 32 := 22#32
  let v83 : BitVec 1 := Scalar.cmpi .eq v2 c22_i32_53
  let c30_i32_55 : BitVec 32 := 30#32
  let c30_i32_50 : BitVec 32 := 30#32
  let v79 : BitVec 1 := Scalar.cmpi .eq v2 c30_i32_50
  let c29_i32_52 : BitVec 32 := 29#32
  let c29_i32_48 : BitVec 32 := 29#32
  let v75 : BitVec 1 := Scalar.cmpi .eq v2 c29_i32_48
  let c26_i32_49 : BitVec 32 := 26#32
  let c26_i32_46 : BitVec 32 := 26#32
  let v71 : BitVec 1 := Scalar.cmpi .eq v2 c26_i32_46
  let c25_i32_47 : BitVec 32 := 25#32
  let c25_i32_43 : BitVec 32 := 25#32
  let v67 : BitVec 1 := Scalar.cmpi .eq v2 c25_i32_43
  let c24_i32_45 : BitVec 32 := 24#32
  let c24_i32_40 : BitVec 32 := 24#32
  let v63 : BitVec 1 := Scalar.cmpi .eq v2 c24_i32_40
  let c27_i32_42 : BitVec 32 := 27#32
  let c27_i32_38 : BitVec 32 := 27#32
  let v59 : BitVec 1 := Scalar.cmpi .eq v2 c27_i32_38
  let c28_i32_39 : BitVec 32 := 28#32
  let c28_i32_36 : BitVec 32 := 28#32
  let v55 : BitVec 1 := Scalar.cmpi .eq v2 c28_i32_36
  let c31_i32_37 : BitVec 32 := 31#32
  let c31_i32_33 : BitVec 32 := 31#32
  let v51 : BitVec 1 := Scalar.cmpi .eq v2 c31_i32_33
  let c23_i32_35 : BitVec 32 := 23#32
  let c23_i32_30 : BitVec 32 := 23#32
  let v47 : BitVec 1 := Scalar.cmpi .eq v2 c23_i32_30
  let c20_i32_32 : BitVec 32 := 20#32
  let c20_i32_28 : BitVec 32 := 20#32
  let v43 : BitVec 1 := Scalar.cmpi .eq v2 c20_i32_28
  let c19_i32_29 : BitVec 32 := 19#32
  let c19_i32_26 : BitVec 32 := 19#32
  let v39 : BitVec 1 := Scalar.cmpi .eq v2 c19_i32_26
  let c16_i32_27 : BitVec 32 := 16#32
  let c16_i32_23 : BitVec 32 := 16#32
  let v35 : BitVec 1 := Scalar.cmpi .eq v2 c16_i32_23
  let c8_i32_25 : BitVec 32 := 8#32
  let c8_i32_20 : BitVec 32 := 8#32
  let v31 : BitVec 1 := Scalar.cmpi .eq v2 c8_i32_20
  let c11_i32_22 : BitVec 32 := 11#32
  let c11_i32_18 : BitVec 32 := 11#32
  let v27 : BitVec 1 := Scalar.cmpi .eq v2 c11_i32_18
  let c12_i32_19 : BitVec 32 := 12#32
  let c12_i32_16 : BitVec 32 := 12#32
  let v23 : BitVec 1 := Scalar.cmpi .eq v2 c12_i32_16
  let c15_i32_17 : BitVec 32 := 15#32
  let c15_i32_13 : BitVec 32 := 15#32
  let v19 : BitVec 1 := Scalar.cmpi .eq v2 c15_i32_13
  let c7_i32_15 : BitVec 32 := 7#32
  let c7_i32_10 : BitVec 32 := 7#32
  let v15 : BitVec 1 := Scalar.cmpi .eq v2 c7_i32_10
  let c4_i32_12 : BitVec 32 := 4#32
  let c4_i32_8 : BitVec 32 := 4#32
  let v11 : BitVec 1 := Scalar.cmpi .eq v2 c4_i32_8
  let c3_i32_9 : BitVec 32 := 3#32
  let c3_i32_5 : BitVec 32 := 3#32
  let v7 : BitVec 1 := Scalar.cmpi .eq v2 c3_i32_5
  let c0_i32_7 : BitVec 32 := 0#32
  let c0_i32 : BitVec 32 := 0#32
  let v3 : BitVec 1 := Scalar.cmpi .eq v2 c0_i32
  let c1_i32_3 : BitVec 32 := 1#32
  let c0_i32_4 : BitVec 32 := 0#32
  let v6 : BitVec 32 := Scalar.select v3 c1_i32_3 c0_i32_4
  let v10 : BitVec 32 := Scalar.select v7 c0_i32_7 v6
  let v14 : BitVec 32 := Scalar.select v11 c3_i32_9 v10
  let v18 : BitVec 32 := Scalar.select v15 c4_i32_12 v14
  let v22 : BitVec 32 := Scalar.select v19 c7_i32_15 v18
  let v26 : BitVec 32 := Scalar.select v23 c15_i32_17 v22
  let v30 : BitVec 32 := Scalar.select v27 c12_i32_19 v26
  let v34 : BitVec 32 := Scalar.select v31 c11_i32_22 v30
  let v38 : BitVec 32 := Scalar.select v35 c8_i32_25 v34
  let v42 : BitVec 32 := Scalar.select v39 c16_i32_27 v38
  let v46 : BitVec 32 := Scalar.select v43 c19_i32_29 v42
  let v50 : BitVec 32 := Scalar.select v47 c20_i32_32 v46
  let v54 : BitVec 32 := Scalar.select v51 c23_i32_35 v50
  let v58 : BitVec 32 := Scalar.select v55 c31_i32_37 v54
  let v62 : BitVec 32 := Scalar.select v59 c28_i32_39 v58
  let v66 : BitVec 32 := Scalar.select v63 c27_i32_42 v62
  let v70 : BitVec 32 := Scalar.select v67 c24_i32_45 v66
  let v74 : BitVec 32 := Scalar.select v71 c25_i32_47 v70
  let v78 : BitVec 32 := Scalar.select v75 c26_i32_49 v74
  let v82 : BitVec 32 := Scalar.select v79 c29_i32_52 v78
  let v86 : BitVec 32 := Scalar.select v83 c30_i32_55 v82
  let v90 : BitVec 32 := Scalar.select v87 c22_i32_59 v86
  let v94 : BitVec 32 := Scalar.select v91 c21_i32_63 v90
  let v98 : BitVec 32 := Scalar.select v95 c18_i32_67 v94
  let v102 : BitVec 32 := Scalar.select v99 c17_i32_71 v98
  let v106 : BitVec 32 := Scalar.select v103 c9_i32_75 v102
  let v110 : BitVec 32 := Scalar.select v107 c10_i32_79 v106
  let v114 : BitVec 32 := Scalar.select v111 c13_i32_83 v110
  let v118 : BitVec 32 := Scalar.select v115 c14_i32_87 v114
  let v122 : BitVec 32 := Scalar.select v119 c6_i32_91 v118
  let v126 : BitVec 32 := Scalar.select v123 c5_i32_95 v122
  let v130 : BitVec 32 := Scalar.select v127 c2_i32_99 v126
  let c1_i32_10512 : BitVec 32 := 1#32
  let v9538 : BitVec 32 := Scalar.muli v130 c1_i32_10512
  let v9539 : BitVec 32 := Scalar.addi c0_i32_10513 v9538
  v9539.toNat
def k0_dev388 (d0 : Dev nD) : Nat :=
  let c0_i32_10550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10549 : BitVec 32 := 1#32
  let v9574 : BitVec 32 := Scalar.muli v129 c1_i32_10549
  let v9575 : BitVec 32 := Scalar.addi c0_i32_10550 v9574
  v9575.toNat
def k0_dev389 (d0 : Dev nD) : Nat :=
  let c0_i32_10587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v127 : BitVec 1 := Scalar.cmpi .eq v2 c1_i32_96
  let c0_i32_98 : BitVec 32 := 0#32
  let c2_i32_92 : BitVec 32 := 2#32
  let v123 : BitVec 1 := Scalar.cmpi .eq v2 c2_i32_92
  let c1_i32_94 : BitVec 32 := 1#32
  let c5_i32_88 : BitVec 32 := 5#32
  let v119 : BitVec 1 := Scalar.cmpi .eq v2 c5_i32_88
  let c2_i32_90 : BitVec 32 := 2#32
  let c6_i32_84 : BitVec 32 := 6#32
  let v115 : BitVec 1 := Scalar.cmpi .eq v2 c6_i32_84
  let c5_i32_86 : BitVec 32 := 5#32
  let c14_i32_80 : BitVec 32 := 14#32
  let v111 : BitVec 1 := Scalar.cmpi .eq v2 c14_i32_80
  let c6_i32_82 : BitVec 32 := 6#32
  let c13_i32_76 : BitVec 32 := 13#32
  let v107 : BitVec 1 := Scalar.cmpi .eq v2 c13_i32_76
  let c14_i32_78 : BitVec 32 := 14#32
  let c10_i32_72 : BitVec 32 := 10#32
  let v103 : BitVec 1 := Scalar.cmpi .eq v2 c10_i32_72
  let c13_i32_74 : BitVec 32 := 13#32
  let c9_i32_68 : BitVec 32 := 9#32
  let v99 : BitVec 1 := Scalar.cmpi .eq v2 c9_i32_68
  let c10_i32_70 : BitVec 32 := 10#32
  let c17_i32_64 : BitVec 32 := 17#32
  let v95 : BitVec 1 := Scalar.cmpi .eq v2 c17_i32_64
  let c9_i32_66 : BitVec 32 := 9#32
  let c18_i32_60 : BitVec 32 := 18#32
  let v91 : BitVec 1 := Scalar.cmpi .eq v2 c18_i32_60
  let c17_i32_62 : BitVec 32 := 17#32
  let c21_i32_56 : BitVec 32 := 21#32
  let v87 : BitVec 1 := Scalar.cmpi .eq v2 c21_i32_56
  let c18_i32_58 : BitVec 32 := 18#32
  let c22_i32_53 : BitVec 32 := 22#32
  let v83 : BitVec 1 := Scalar.cmpi .eq v2 c22_i32_53
  let c21_i32 : BitVec 32 := 21#32
  let c30_i32_50 : BitVec 32 := 30#32
  let v79 : BitVec 1 := Scalar.cmpi .eq v2 c30_i32_50
  let c22_i32 : BitVec 32 := 22#32
  let c29_i32_48 : BitVec 32 := 29#32
  let v75 : BitVec 1 := Scalar.cmpi .eq v2 c29_i32_48
  let c30_i32 : BitVec 32 := 30#32
  let c26_i32_46 : BitVec 32 := 26#32
  let v71 : BitVec 1 := Scalar.cmpi .eq v2 c26_i32_46
  let c29_i32 : BitVec 32 := 29#32
  let c25_i32_43 : BitVec 32 := 25#32
  let v67 : BitVec 1 := Scalar.cmpi .eq v2 c25_i32_43
  let c26_i32 : BitVec 32 := 26#32
  let c24_i32_40 : BitVec 32 := 24#32
  let v63 : BitVec 1 := Scalar.cmpi .eq v2 c24_i32_40
  let c25_i32 : BitVec 32 := 25#32
  let c27_i32_38 : BitVec 32 := 27#32
  let v59 : BitVec 1 := Scalar.cmpi .eq v2 c27_i32_38
  let c24_i32 : BitVec 32 := 24#32
  let c28_i32_36 : BitVec 32 := 28#32
  let v55 : BitVec 1 := Scalar.cmpi .eq v2 c28_i32_36
  let c27_i32 : BitVec 32 := 27#32
  let c31_i32_33 : BitVec 32 := 31#32
  let v51 : BitVec 1 := Scalar.cmpi .eq v2 c31_i32_33
  let c28_i32 : BitVec 32 := 28#32
  let c23_i32_30 : BitVec 32 := 23#32
  let v47 : BitVec 1 := Scalar.cmpi .eq v2 c23_i32_30
  let c31_i32 : BitVec 32 := 31#32
  let c20_i32_28 : BitVec 32 := 20#32
  let v43 : BitVec 1 := Scalar.cmpi .eq v2 c20_i32_28
  let c23_i32 : BitVec 32 := 23#32
  let c19_i32_26 : BitVec 32 := 19#32
  let v39 : BitVec 1 := Scalar.cmpi .eq v2 c19_i32_26
  let c20_i32 : BitVec 32 := 20#32
  let c16_i32_23 : BitVec 32 := 16#32
  let v35 : BitVec 1 := Scalar.cmpi .eq v2 c16_i32_23
  let c19_i32 : BitVec 32 := 19#32
  let c8_i32_20 : BitVec 32 := 8#32
  let v31 : BitVec 1 := Scalar.cmpi .eq v2 c8_i32_20
  let c16_i32 : BitVec 32 := 16#32
  let c11_i32_18 : BitVec 32 := 11#32
  let v27 : BitVec 1 := Scalar.cmpi .eq v2 c11_i32_18
  let c8_i32 : BitVec 32 := 8#32
  let c12_i32_16 : BitVec 32 := 12#32
  let v23 : BitVec 1 := Scalar.cmpi .eq v2 c12_i32_16
  let c11_i32 : BitVec 32 := 11#32
  let c15_i32_13 : BitVec 32 := 15#32
  let v19 : BitVec 1 := Scalar.cmpi .eq v2 c15_i32_13
  let c12_i32 : BitVec 32 := 12#32
  let c7_i32_10 : BitVec 32 := 7#32
  let v15 : BitVec 1 := Scalar.cmpi .eq v2 c7_i32_10
  let c15_i32 : BitVec 32 := 15#32
  let c4_i32_8 : BitVec 32 := 4#32
  let v11 : BitVec 1 := Scalar.cmpi .eq v2 c4_i32_8
  let c7_i32 : BitVec 32 := 7#32
  let c3_i32_5 : BitVec 32 := 3#32
  let v7 : BitVec 1 := Scalar.cmpi .eq v2 c3_i32_5
  let c4_i32 : BitVec 32 := 4#32
  let c0_i32 : BitVec 32 := 0#32
  let v3 : BitVec 1 := Scalar.cmpi .eq v2 c0_i32
  let c3_i32 : BitVec 32 := 3#32
  let c0_i32_2 : BitVec 32 := 0#32
  let v5 : BitVec 32 := Scalar.select v3 c3_i32 c0_i32_2
  let v9 : BitVec 32 := Scalar.select v7 c4_i32 v5
  let v13 : BitVec 32 := Scalar.select v11 c7_i32 v9
  let v17 : BitVec 32 := Scalar.select v15 c15_i32 v13
  let v21 : BitVec 32 := Scalar.select v19 c12_i32 v17
  let v25 : BitVec 32 := Scalar.select v23 c11_i32 v21
  let v29 : BitVec 32 := Scalar.select v27 c8_i32 v25
  let v33 : BitVec 32 := Scalar.select v31 c16_i32 v29
  let v37 : BitVec 32 := Scalar.select v35 c19_i32 v33
  let v41 : BitVec 32 := Scalar.select v39 c20_i32 v37
  let v45 : BitVec 32 := Scalar.select v43 c23_i32 v41
  let v49 : BitVec 32 := Scalar.select v47 c31_i32 v45
  let v53 : BitVec 32 := Scalar.select v51 c28_i32 v49
  let v57 : BitVec 32 := Scalar.select v55 c27_i32 v53
  let v61 : BitVec 32 := Scalar.select v59 c24_i32 v57
  let v65 : BitVec 32 := Scalar.select v63 c25_i32 v61
  let v69 : BitVec 32 := Scalar.select v67 c26_i32 v65
  let v73 : BitVec 32 := Scalar.select v71 c29_i32 v69
  let v77 : BitVec 32 := Scalar.select v75 c30_i32 v73
  let v81 : BitVec 32 := Scalar.select v79 c22_i32 v77
  let v85 : BitVec 32 := Scalar.select v83 c21_i32 v81
  let v89 : BitVec 32 := Scalar.select v87 c18_i32_58 v85
  let v93 : BitVec 32 := Scalar.select v91 c17_i32_62 v89
  let v97 : BitVec 32 := Scalar.select v95 c9_i32_66 v93
  let v101 : BitVec 32 := Scalar.select v99 c10_i32_70 v97
  let v105 : BitVec 32 := Scalar.select v103 c13_i32_74 v101
  let v109 : BitVec 32 := Scalar.select v107 c14_i32_78 v105
  let v113 : BitVec 32 := Scalar.select v111 c6_i32_82 v109
  let v117 : BitVec 32 := Scalar.select v115 c5_i32_86 v113
  let v121 : BitVec 32 := Scalar.select v119 c2_i32_90 v117
  let v125 : BitVec 32 := Scalar.select v123 c1_i32_94 v121
  let v129 : BitVec 32 := Scalar.select v127 c0_i32_98 v125
  let c1_i32_10586 : BitVec 32 := 1#32
  let v9610 : BitVec 32 := Scalar.muli v129 c1_i32_10586
  let v9611 : BitVec 32 := Scalar.addi c0_i32_10587 v9610
  v9611.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Shape.lean ====
/-
  The kernel's body in rounds. The printed body is one long sequence of memory operations; here the same sequence is
  written once as a program over the ring (or lane) `r` and the step `g`: `body A d`, and `body_eq` says the printed
  body is it. Both are the same term after unfolding, so the equation holds by definition.
-/
module

public import proofs.«01_k».proof.KernelIdeal
public import Idealize.ShloMosaic.Lib.Pipeline.Regions

@[expose] public section

set_option maxRecDepth 16384

noncomputable section

namespace Cert.KernelIdeal.Px

open Cert.KernelIdeal
open Idealize.ShloMosaic Idealize.ShloMosaic.TcCoe
open Idealize.SL Idealize.SL.Sem

variable {F : FTy → Type} [FloatOps F] [Facts]
open Facts₀ Facts

/-! ### What the operations compute -/

/-- The own chunk of the product, all columns, -/
def prodAll (v : Vec F S128x128 .f32) (u : Vec F S128x2048 .f32) : FVec F S128x2048 .f32 :=
  matmul dot_S128x128_S128x2048_S128x2048_1_0_0_1_n_n none (shapeCast S128x128 v shapeCasts_S128x128_S128x128)
    (shapeCast S128x2048 u shapeCasts_S128x2048_S128x2048) (constant S128x2048 .f32 0x00000000#32)
/-- a chunk on half of them; -/
def prodHalf (v : Vec F S128x128 .f32) (u : Vec F S128x1024 .f32) : FVec F S128x1024 .f32 :=
  matmul dot_S128x128_S128x1024_S128x1024_1_0_0_1_n_n none (shapeCast S128x128 v shapeCasts_S128x128_S128x128)
    (shapeCast S128x1024 u shapeCasts_S128x1024_S128x1024) (constant S128x1024 .f32 0x00000000#32)
/-- the own piece and the received one summed; -/
def sumPiece (v : Vec F S128x512 .f32) (u : Vec F S1x1x128x512 .f32) : FVec F S128x512 .f32 :=
  addf (shapeCast S128x512 v shapeCasts_S128x512_S128x512) (shapeCast S128x512 u shapeCasts_S1x1x128x512_S128x512)
/-- the largest magnitude of a half chunk, -/
def maxHalf (v : Vec F S128x1024 .f32) : F .f32 :=
  extractAt ![0, 0, 0] (shapeCast S1x1x1 (multiReduction .maximumf [1, 2] S1
    (shapeCast S1x128x1024 (absf (shapeCast S128x1024 v shapeCasts_S128x1024_S128x1024)) shapeCasts_S128x1024_S1x128x1024)
    0xFF800000#32 reduces_S1x128x1024_S1 (.inl rfl) rfl) shapeCasts_S1_S1x1x1) inpos_S1x1x1_p0_0_0
/-- of both halves, on a row; -/
def maxRow (v u : Vec F S128x1024 .f32) : FVec F S1x128 .f32 :=
  shapeCast S1x128 (broadcast S1x128 (Scalar.maximumf (maxHalf v) (maxHalf u))) shapeCasts_S1x128_S1x128
/-- the scale, from every device's row; -/
def scaleOf (v : Vec F S32x128 .f32) : F .f32 :=
  Scalar.divf (extractAt ![0, 0, 0] (shapeCast S1x1x1 (multiReduction .maximumf [1, 2] S1
    (shapeCast S1x32x128 v shapeCasts_S32x128_S1x32x128) 0xFF800000#32 reduces_S1x32x128_S1 (.inl rfl) rfl) shapeCasts_S1_S1x1x1) inpos_S1x1x1_p0_0_0)
    (Scalar.ofBits .f32 0x43E00000#32)
/-- a half chunk quantised at a scale, -/
def quantise (sc : F .f32) (v : Vec F S128x1024 .f32) : FVec F S128x1024 .fp8e4m3 :=
  shapeCast S128x1024 (truncf .fp8e4m3 (divf (shapeCast S128x1024 v shapeCasts_S128x1024_S128x1024) (broadcast S128x1024 sc)) bitsLt_fp8e4m3_f32)
    shapeCasts_S128x1024_S128x1024
/-- and back. -/
def dequantise (sc : F .f32) (v : Vec F S128x1024 .fp8e4m3) : FVec F S128x1024 .f32 :=
  mulf (extf .f32 v bitsLt_fp8e4m3_f32) (broadcast S128x1024 sc)

/-- What the body is called with. -/
structure Args where
  x : Memref sig .tc .vmem S4096x128 .f32
  w : Memref sig .tc .vmem S128x2048 .f32
  o : Memref sig .tc .vmem S4096x2048 .f32
  cm : Memref sig .tc .vmem S4x2x128x512 .f32
  q : Memref sig .tc .vmem S4096x2048 .fp8e4m3
  hq : q.IsWhole
  am : Memref sig .tc .vmem S32x128 .f32
  rsS : DmaSems sig S4x2
  rsR : DmaSems sig S4x2
  rsC : Sems sig S4
  amS : DmaSems sig S1
  amR : DmaSems sig S1
  agS : DmaSems sig S4x2
  agR : DmaSems sig S4x2
  agC : Sems sig S4

/-- A program of the kernel that returns nothing. -/
abbrev Pg (F : FTy → Type) [FloatOps F] := Prog (TpuEff nD τ sig (Elt F) Λ₀ .tc) PUnit

/-- How many steps ring `r` makes: 31 in the reduce-scatter (`false`), the lane's length in the all-gather (`true`). -/
def len : Bool → Fin 4 → ℕ
  | false, _ => 31
  | true, ⟨0, _⟩ => 16
  | true, ⟨1, _⟩ => 16
  | true, ⟨2, _⟩ => 15
  | true, ⟨_ + 3, _⟩ => 15

/-! ### Semaphores and slots by ring and slot -/

theorem inb42 : ∀ (r : Fin 4) (s : Fin 2), ∀ a, (![r.val, s.val] : Fin 2 → ℕ) a + S1x1.size a ≤ S4x2.size a := by decide
theorem inb4 : ∀ (r : Fin 4), ∀ a, (![r.val] : Fin 1 → ℕ) a + S1.size a ≤ S4.size a := by decide
theorem inbC : ∀ (r : Fin 4) (s : Fin 2), ∀ a, (![r.val, s.val, 0, 0] : Fin 4 → ℕ) a + S1x1x128x512.size a ≤ S4x2x128x512.size a := by decide

/-- The semaphore at row `r`, column `s` of an array of four by two, -/
abbrev sem2 (S : DmaSems sig S4x2) (r : Fin 4) (s : Fin 2) : DmaSem sig :=
  ((S.slice (Rect.unit (s := S4x2) ![r.val, s.val] S1x1.size (inb42 r s))).squeeze S_ squeezes_S1x1_S_).sem
/-- at entry `r` of an array of four, -/
abbrev sem4 (S : Sems sig S4) (r : Fin 4) : Sem sig :=
  ((S.slice (Rect.unit (s := S4) ![r.val] S1.size (inb4 r))).squeeze S_ squeezes_S1_S_).sem
/-- the only one of an array of one. -/
abbrev sem1 (S : DmaSems sig S1) : DmaSem sig :=
  ((S.slice (Rect.unit (s := S1) ![0] S1.size inb_S1_S1_0)).squeeze S_ squeezes_S1_S_).sem

/-- The communication slot `s` of ring `r`. -/
abbrev slotM (A : Args) (r : Fin 4) (s : Fin 2) : Memref sig .tc .vmem S128x512 .f32 :=
  (A.cm.slice (Rect.unit (s := S4x2x128x512) ![r.val, s.val, 0, 0] S1x1x128x512.size (inbC r s)) (fun _ => rfl)).squeeze S128x512 squeezes_S1x1x128x512_S128x512

/-- The slot a step uses. -/
def par (g : ℕ) : Fin 2 := ⟨g % 2, Nat.mod_lt _ (by decide)⟩

/-! ### Offsets by ring and step -/

/-- Where the piece ring `r` sends at step `g` lies, -/
def srcOff (d : Dev nD) (r : Fin 4) (g : Fin 31) : Fin 2 → ℕ :=
  match r with
  | ⟨0, _⟩ => k0_off3 d (BitVec.ofNat 32 g.val)
  | ⟨1, _⟩ => k0_off4 d (BitVec.ofNat 32 g.val)
  | ⟨2, _⟩ => k0_off5 d (BitVec.ofNat 32 g.val)
  | ⟨_ + 3, _⟩ => k0_off6 d (BitVec.ofNat 32 g.val)
theorem srcOff_inb (d : Dev nD) (r : Fin 4) (g : Fin 31) : ∀ a, srcOff d r g a + S128x512.size a ≤ S4096x2048.size a :=
  match r with
  | ⟨0, _⟩ => k0_off3_inb d g
  | ⟨1, _⟩ => k0_off4_inb d g
  | ⟨2, _⟩ => k0_off5_inb d g
  | ⟨_ + 3, _⟩ => k0_off6_inb d g
/-- where the one it accumulates into lies, -/
def accOff (d : Dev nD) (r : Fin 4) (g : Fin 31) : Fin 2 → ℕ :=
  match r with
  | ⟨0, _⟩ => k0_off11 d (BitVec.ofNat 32 g.val)
  | ⟨1, _⟩ => k0_off12 d (BitVec.ofNat 32 g.val)
  | ⟨2, _⟩ => k0_off13 d (BitVec.ofNat 32 g.val)
  | ⟨_ + 3, _⟩ => k0_off14 d (BitVec.ofNat 32 g.val)
theorem accOff_inb (d : Dev nD) (r : Fin 4) (g : Fin 31) : ∀ a, accOff d r g a + S128x512.size a ≤ S4096x2048.size a :=
  match r with
  | ⟨0, _⟩ => k0_off11_inb d g
  | ⟨1, _⟩ => k0_off12_inb d g
  | ⟨2, _⟩ => k0_off13_inb d g
  | ⟨_ + 3, _⟩ => k0_off14_inb d g
/-- where the piece lane `r` sends at step `t` lies, -/
def agOff (d : Dev nD) (r : Fin 4) (t : ℕ) : Fin 2 → ℕ :=
  match r with
  | ⟨0, _⟩ => k0_off19 d (BitVec.ofNat 32 t)
  | ⟨1, _⟩ => k0_off20 d (BitVec.ofNat 32 t)
  | ⟨2, _⟩ => k0_off21 d (BitVec.ofNat 32 t)
  | ⟨_ + 3, _⟩ => k0_off22 d (BitVec.ofNat 32 t)
theorem agOff_inb (d : Dev nD) (r : Fin 4) (t : ℕ) (h : t < len true r) : ∀ a, agOff d r t a + S128x1024.size a ≤ S4096x2048.size a :=
  match r, h with
  | ⟨0, _⟩, h => k0_off19_inb d ⟨t, h⟩
  | ⟨1, _⟩, h => k0_off20_inb d ⟨t, h⟩
  | ⟨2, _⟩, h => k0_off21_inb d ⟨t, h⟩
  | ⟨_ + 3, _⟩, h => k0_off22_inb d ⟨t, h⟩
theorem agOff_words (d : Dev nD) (r : Fin 4) (t : ℕ) (h : t < len true r) :
    (Rect.unit (s := S4096x2048) (agOff d r t) S128x1024.size (agOff_inb d r t h)).WholeWords (EltTy.packing .fp8e4m3) :=
  match r, h with
  | ⟨0, _⟩, h => k0_off19_wordsfp8e4m3 d ⟨t, h⟩
  | ⟨1, _⟩, h => k0_off20_wordsfp8e4m3 d ⟨t, h⟩
  | ⟨2, _⟩, h => k0_off21_wordsfp8e4m3 d ⟨t, h⟩
  | ⟨_ + 3, _⟩, h => k0_off22_wordsfp8e4m3 d ⟨t, h⟩
/-- where the one it receives lies. -/
def agIn (d : Dev nD) (r : Fin 4) (t : ℕ) : Fin 2 → ℕ :=
  match r with
  | ⟨0, _⟩ => k0_off23 d (BitVec.ofNat 32 t)
  | ⟨1, _⟩ => k0_off24 d (BitVec.ofNat 32 t)
  | ⟨2, _⟩ => k0_off25 d (BitVec.ofNat 32 t)
  | ⟨_ + 3, _⟩ => k0_off26 d (BitVec.ofNat 32 t)
theorem agIn_inb (d : Dev nD) (r : Fin 4) (t : ℕ) (h : t < len true r) : ∀ a, agIn d r t a + S128x1024.size a ≤ S4096x2048.size a :=
  match r, h with
  | ⟨0, _⟩, h => k0_off23_inb d ⟨t, h⟩
  | ⟨1, _⟩, h => k0_off24_inb d ⟨t, h⟩
  | ⟨2, _⟩, h => k0_off25_inb d ⟨t, h⟩
  | ⟨_ + 3, _⟩, h => k0_off26_inb d ⟨t, h⟩

/-! ### Devices -/

/-- The device before, and after, on the ring, as the kernel computes them. -/
abbrev prvD (d : Dev nD) : Dev nD := ⟨k0_dev1 d, k0_dev1_lt d⟩
abbrev nxtD (d : Dev nD) : Dev nD := ⟨k0_dev2 d, k0_dev2_lt d⟩
/-- Where ring `r` sends: forward for `r < 2`, backward after; -/
def dstD (d : Dev nD) (r : Fin 4) : Dev nD :=
  match r with
  | ⟨0, _⟩ => nxtD d
  | ⟨1, _⟩ => nxtD d
  | ⟨2, _⟩ => prvD d
  | ⟨_ + 3, _⟩ => prvD d
/-- and whence it receives. -/
def srcD (d : Dev nD) (r : Fin 4) : Dev nD :=
  match r with
  | ⟨0, _⟩ => prvD d
  | ⟨1, _⟩ => prvD d
  | ⟨2, _⟩ => nxtD d
  | ⟨_ + 3, _⟩ => nxtD d

/-! ### The operations -/

/-- A copy of the piece of step `g` of ring `r` into the neighbour's slot, -/
def rsSend (A : Args) (d : Dev nD) (r : Fin 4) (g : Fin 31) : Pg F :=
  Prog.lift (.enqueueDma (A.o.slice (Rect.unit (s := S4096x2048) (srcOff d r g) S128x512.size (srcOff_inb d r g)) (fun _ => rfl))
    (.remote (Dev.tc (dstD d r)) (slotM A r (par g.val)) (.dma (sem2 A.rsS r (par g.val)))) (.dma (sem2 A.rsR r (par g.val)))
    (View.wordExact_bits rfl) ((View.wordExact_bits rfl).reshape _ _) ⟨⟨rfl, Or.inl rfl⟩, trivial⟩)
/-- the wait for the piece of step `g`, -/
def rsWaitR (A : Args) (d : Dev nD) (r : Fin 4) (g : Fin 31) : Pg F :=
  Prog.lift (.waitDma2 (sem2 A.rsR r (par g.val)) (A.o.slice (Rect.unit (s := S4096x2048) (srcOff d r g) S128x512.size (srcOff_inb d r g)) (fun _ => rfl))
    (slotM A r (par g.val)) (View.wordExact_bits rfl) ((View.wordExact_bits rfl).reshape _ _))
/-- the wait for its own copy's end. -/
def rsWaitS (A : Args) (d : Dev nD) (r : Fin 4) (g : Fin 31) : Pg F :=
  Prog.lift (.waitDma2 (sem2 A.rsS r (par g.val)) (slotM A r (par g.val)) (A.o.slice (Rect.unit (s := S4096x2048) (srcOff d r g) S128x512.size (srcOff_inb d r g)) (fun _ => rfl))
    ((View.wordExact_bits rfl).reshape _ _) (View.wordExact_bits rfl))

/-- The accumulation of the received piece. -/
def rsAcc (A : Args) (d : Dev nD) (r : Fin 4) (g : Fin 31) : Pg F := do
  let v : Vec F S128x512 .f32 ← Prog.lift (.load A.o (Rect.unit (s := S4096x2048) (accOff d r g) S128x512.size (accOff_inb d r g)).toLoadRect (View.loadsAt_vmem h_S128x512))
  let u : Vec F S1x1x128x512 .f32 ← Prog.lift (.load A.cm (Rect.unit (s := S4x2x128x512) ![r.val, (par g.val).val, 0, 0] S1x1x128x512.size (inbC r (par g.val))).toLoadRect (View.loadsAt_vmem h_S1x1x128x512))
  let _ : Vec F S128x512 .f32 ← Prog.lift (.load A.o (Rect.unit (s := S4096x2048) (accOff d r g) S128x512.size (accOff_inb d r g)).toLoadRect (View.loadsAt_vmem h_S128x512))
  Prog.lift (.store A.o (Rect.unit (s := S4096x2048) (accOff d r g) S128x512.size (accOff_inb d r g)) (sumPiece v u) Finset.univ (View.stores_vmem_bits_univ h_S128x512 rfl) (.inl rfl))

/-- Ring `r` at step `g`: the piece received and accumulated, the credit returned, the next piece sent. -/
def rsRing (A : Args) (d : Dev nD) (r : Fin 4) (g : Fin 31) : Pg F := do
  rsWaitR A d r g
  rsAcc A d r g
  if g.val < 29 then semSignalWord (srcD d r) (sem4 A.rsC r) 1#32 else pure ⟨⟩
  if h : g.val < 30 then do
    if h1 : 0 < g.val then do
      semWaitWord (sem4 A.rsC r) 1#32
      rsWaitS A d r ⟨g.val - 1, by omega⟩
    else pure ⟨⟩
    rsSend A d r ⟨g.val + 1, by omega⟩
  else pure ⟨⟩

/-- The device's own chunk of the product, all columns, -/
def gemmOwn (A : Args) (d : Dev nD) : Pg F := do
  let v : Vec F S128x128 .f32 ← Prog.lift (.load A.x (Rect.unit (s := S4096x128) (k0_off1 d) S128x128.size (k0_off1_inb d)).toLoadRect (View.loadsAt_vmem h_S128x128))
  let u : Vec F S128x2048 .f32 ← Prog.lift (.load A.w (Rect.unit (s := S128x2048) ![0, 0] S128x2048.size inb_S128x2048_S128x2048_0_0).toLoadRect (View.loadsAt_vmem h_S128x2048))
  let _ : Vec F S128x2048 .f32 ← Prog.lift (.load A.o (Rect.unit (s := S4096x2048) (k0_off2 d) S128x2048.size (k0_off2_inb d)).toLoadRect (View.loadsAt_vmem h_S128x2048))
  Prog.lift (.store A.o (Rect.unit (s := S4096x2048) (k0_off2 d) S128x2048.size (k0_off2_inb d)) (prodAll v u) Finset.univ (View.stores_vmem_bits_univ h_S128x2048 rfl) (.inl rfl))
/-- the chunk step `g` needs on the left half, -/
def gemmL (A : Args) (d : Dev nD) (g : Fin 31) : Pg F := do
  let v : Vec F S128x128 .f32 ← Prog.lift (.load A.x (Rect.unit (s := S4096x128) (k0_off7 d (BitVec.ofNat 32 g.val)) S128x128.size (k0_off7_inb d g)).toLoadRect (View.loadsAt_vmem h_S128x128))
  let u : Vec F S128x1024 .f32 ← Prog.lift (.load A.w (Rect.unit (s := S128x2048) ![0, 0] S128x1024.size inb_S128x2048_S128x1024_0_0).toLoadRect (View.loadsAt_vmem h_S128x1024))
  let _ : Vec F S128x1024 .f32 ← Prog.lift (.load A.o (Rect.unit (s := S4096x2048) (k0_off8 d (BitVec.ofNat 32 g.val)) S128x1024.size (k0_off8_inb d g)).toLoadRect (View.loadsAt_vmem h_S128x1024))
  Prog.lift (.store A.o (Rect.unit (s := S4096x2048) (k0_off8 d (BitVec.ofNat 32 g.val)) S128x1024.size (k0_off8_inb d g)) (prodHalf v u) Finset.univ (View.stores_vmem_bits_univ h_S128x1024 rfl) (.inl rfl))
/-- and on the right half. -/
def gemmR (A : Args) (d : Dev nD) (g : Fin 31) : Pg F := do
  let v : Vec F S128x128 .f32 ← Prog.lift (.load A.x (Rect.unit (s := S4096x128) (k0_off9 d (BitVec.ofNat 32 g.val)) S128x128.size (k0_off9_inb d g)).toLoadRect (View.loadsAt_vmem h_S128x128))
  let u : Vec F S128x1024 .f32 ← Prog.lift (.load A.w (Rect.unit (s := S128x2048) ![0, 1024] S128x1024.size inb_S128x2048_S128x1024_0_1024).toLoadRect (View.loadsAt_vmem h_S128x1024))
  let _ : Vec F S128x1024 .f32 ← Prog.lift (.load A.o (Rect.unit (s := S4096x2048) (k0_off10 d (BitVec.ofNat 32 g.val)) S128x1024.size (k0_off10_inb d g)).toLoadRect (View.loadsAt_vmem h_S128x1024))
  Prog.lift (.store A.o (Rect.unit (s := S4096x2048) (k0_off10 d (BitVec.ofNat 32 g.val)) S128x1024.size (k0_off10_inb d g)) (prodHalf v u) Finset.univ (View.stores_vmem_bits_univ h_S128x1024 rfl) (.inl rfl))

/-- Step `g` of the reduce-scatter. -/
def rsStep (A : Args) (d : Dev nD) (g : Fin 31) : Pg F := do
  gemmL A d g
  gemmR A d g
  rsRing A d ⟨0, by decide⟩ g
  rsRing A d ⟨1, by decide⟩ g
  rsRing A d ⟨2, by decide⟩ g
  rsRing A d ⟨3, by decide⟩ g

/-- `n` programs of `f`, from `s` on. -/
def loop (f : ℕ → Pg F) : ℕ → ℕ → Pg F
  | _, 0 => pure ⟨⟩
  | s, n + 1 => do f s; loop f (s + 1) n

/-- The barrier's semaphore. -/
abbrev barS : Sem sig := (SemArray.scalar (sig.barrier 0 rfl) : Sems sig S_).sem

/-- The barrier with both neighbours. -/
def barrier (d : Dev nD) : Pg F := do
  semSignalWord (prvD d) barS 1#32
  semSignalWord (nxtD d) barS 1#32
  semWaitWord barS 2#32

/-- The `i`-th peer the device sends its maximum to. -/
def peer (d : Dev nD) (i : ℕ) : Dev nD :=
  match i with
  | 0 => ⟨k0_dev243 d, k0_dev243_lt d⟩
  | 1 => ⟨k0_dev244 d, k0_dev244_lt d⟩
  | 2 => ⟨k0_dev245 d, k0_dev245_lt d⟩
  | 3 => ⟨k0_dev246 d, k0_dev246_lt d⟩
  | 4 => ⟨k0_dev247 d, k0_dev247_lt d⟩
  | 5 => ⟨k0_dev248 d, k0_dev248_lt d⟩
  | 6 => ⟨k0_dev249 d, k0_dev249_lt d⟩
  | 7 => ⟨k0_dev250 d, k0_dev250_lt d⟩
  | 8 => ⟨k0_dev251 d, k0_dev251_lt d⟩
  | 9 => ⟨k0_dev252 d, k0_dev252_lt d⟩
  | 10 => ⟨k0_dev253 d, k0_dev253_lt d⟩
  | 11 => ⟨k0_dev254 d, k0_dev254_lt d⟩
  | 12 => ⟨k0_dev255 d, k0_dev255_lt d⟩
  | 13 => ⟨k0_dev256 d, k0_dev256_lt d⟩
  | 14 => ⟨k0_dev257 d, k0_dev257_lt d⟩
  | 15 => ⟨k0_dev258 d, k0_dev258_lt d⟩
  | 16 => ⟨k0_dev259 d, k0_dev259_lt d⟩
  | 17 => ⟨k0_dev260 d, k0_dev260_lt d⟩
  | 18 => ⟨k0_dev261 d, k0_dev261_lt d⟩
  | 19 => ⟨k0_dev262 d, k0_dev262_lt d⟩
  | 20 => ⟨k0_dev263 d, k0_dev263_lt d⟩
  | 21 => ⟨k0_dev264 d, k0_dev264_lt d⟩
  | 22 => ⟨k0_dev265 d, k0_dev265_lt d⟩
  | 23 => ⟨k0_dev266 d, k0_dev266_lt d⟩
  | 24 => ⟨k0_dev267 d, k0_dev267_lt d⟩
  | 25 => ⟨k0_dev268 d, k0_dev268_lt d⟩
  | 26 => ⟨k0_dev269 d, k0_dev269_lt d⟩
  | 27 => ⟨k0_dev270 d, k0_dev270_lt d⟩
  | 28 => ⟨k0_dev271 d, k0_dev271_lt d⟩
  | 29 => ⟨k0_dev272 d, k0_dev272_lt d⟩
  | _ => ⟨k0_dev273 d, k0_dev273_lt d⟩

/-- The device's row of the buffer of maxima. -/
abbrev rowM (A : Args) (d : Dev nD) : Memref sig .tc .vmem S1x128 .f32 :=
  A.am.slice (Rect.unit (s := S32x128) (k0_off18 d) S1x128.size (k0_off18_inb d)) (fun _ => rfl)

/-- The device's own maximum into its row, -/
def amOwn (A : Args) (d : Dev nD) : Pg F := do
  let v : Vec F S128x1024 .f32 ← Prog.lift (.load A.o (Rect.unit (s := S4096x2048) (k0_off15 d) S128x1024.size (k0_off15_inb d)).toLoadRect (View.loadsAt_vmem h_S128x1024))
  let u : Vec F S128x1024 .f32 ← Prog.lift (.load A.o (Rect.unit (s := S4096x2048) (k0_off16 d) S128x1024.size (k0_off16_inb d)).toLoadRect (View.loadsAt_vmem h_S128x1024))
  let _ : Vec F S1x128 .f32 ← Prog.lift (.load A.am (Rect.unit (s := S32x128) (k0_off17 d) S1x128.size (k0_off17_inb d)).toLoadRect (View.loadsAt_vmem h_S1x128))
  Prog.lift (.store A.am (Rect.unit (s := S32x128) (k0_off17 d) S1x128.size (k0_off17_inb d)) (maxRow v u) Finset.univ (View.stores_vmem_bits_univ h_S1x128 rfl) (.inl rfl))
/-- sent to a peer, -/
def amSend (A : Args) (d : Dev nD) (i : ℕ) : Pg F :=
  Prog.lift (.enqueueDma (rowM A d) (.remote (Dev.tc (peer d i)) (rowM A d) (.dma (sem1 A.amS))) (.dma (sem1 A.amR))
    (View.wordExact_bits rfl) (View.wordExact_bits rfl) ⟨⟨rfl, Or.inl rfl⟩, trivial⟩)
/-- the waits for one of the copies sent, -/
def amWaitS (A : Args) (d : Dev nD) : Pg F :=
  Prog.lift (.waitDma2 (sem1 A.amS) (rowM A d) (rowM A d) (View.wordExact_bits rfl) (View.wordExact_bits rfl))
/-- and for one received. -/
def amWaitR (A : Args) (d : Dev nD) : Pg F :=
  Prog.lift (.waitDma2 (sem1 A.amR) (rowM A d) (rowM A d) (View.wordExact_bits rfl) (View.wordExact_bits rfl))

/-- The last two copies of every ring ended. -/
def rsDrain (A : Args) (d : Dev nD) (g : Fin 31) : Pg F := do
  rsWaitS A d ⟨0, by decide⟩ g
  rsWaitS A d ⟨1, by decide⟩ g
  rsWaitS A d ⟨2, by decide⟩ g
  rsWaitS A d ⟨3, by decide⟩ g

/-- Everything before the quantisation. -/
def reduce (A : Args) (d : Dev nD) : Pg F := do
  barrier d
  gemmOwn A d
  rsSend A d ⟨0, by decide⟩ ⟨0, by decide⟩
  rsSend A d ⟨1, by decide⟩ ⟨0, by decide⟩
  rsSend A d ⟨2, by decide⟩ ⟨0, by decide⟩
  rsSend A d ⟨3, by decide⟩ ⟨0, by decide⟩
  loop (fun g => if h : g < 31 then rsStep A d ⟨g, h⟩ else pure ⟨⟩) 0 31
  amOwn A d
  loop (fun i => amSend A d i) 0 31
  loop (fun _ => amWaitS A d) 0 31
  loop (fun _ => amWaitR A d) 0 31
  rsDrain A d ⟨29, by decide⟩
  rsDrain A d ⟨30, by decide⟩

/-- A half chunk at `off`, quantised and written back at the scale. -/
def quantAt (A : Args) (off : Fin 2 → ℕ) (hb : ∀ a, off a + S128x1024.size a ≤ S4096x2048.size a)
    (hp : (Rect.unit (s := S4096x2048) off S128x1024.size hb).PackedRows (EltTy.packing .fp8e4m3)) (sc : F .f32) : Pg F := do
  let v : Vec F S128x1024 .f32 ← Prog.lift (.load A.o (Rect.unit (s := S4096x2048) off S128x1024.size hb).toLoadRect (View.loadsAt_vmem h_S128x1024))
  let _ : Vec F S128x1024 .fp8e4m3 ← Prog.lift (.load A.q (Rect.unit (s := S4096x2048) off S128x1024.size hb).toLoadRect (View.loadsAt_vmem h_S128x1024))
  Prog.lift (.store A.q (Rect.unit (s := S4096x2048) off S128x1024.size hb) (quantise sc v) Finset.univ (View.stores_vmem h_S128x1024 (A.hq.storeExact_slice rfl _ hp) (fun _ => rfl)) (.inl rfl))
  let u : Vec F S128x1024 .fp8e4m3 ← Prog.lift (.load A.q (Rect.unit (s := S4096x2048) off S128x1024.size hb).toLoadRect (View.loadsAt_vmem h_S128x1024))
  let _ : Vec F S128x1024 .f32 ← Prog.lift (.load A.o (Rect.unit (s := S4096x2048) off S128x1024.size hb).toLoadRect (View.loadsAt_vmem h_S128x1024))
  Prog.lift (.store A.o (Rect.unit (s := S4096x2048) off S128x1024.size hb) (dequantise sc u) Finset.univ (View.stores_vmem_bits_univ h_S128x1024 rfl) (.inl rfl))

/-- The piece lane `r` sends at step `t`: the same rectangle on both sides. -/
abbrev agM (A : Args) (d : Dev nD) (r : Fin 4) (t : ℕ) (h : t < len true r) : Memref sig .tc .vmem S128x1024 .fp8e4m3 :=
  A.q.slice (Rect.unit (s := S4096x2048) (agOff d r t) S128x1024.size (agOff_inb d r t h)) (fun _ => rfl)

def agSend (A : Args) (d : Dev nD) (r : Fin 4) (t : ℕ) (h : t < len true r) : Pg F :=
  Prog.lift (.enqueueDma (agM A d r t h) (.remote (Dev.tc (dstD d r)) (agM A d r t h) (.dma (sem2 A.agS r (par t)))) (.dma (sem2 A.agR r (par t)))
    (A.hq.wordExact_slice rfl _ (agOff_words d r t h)) (A.hq.wordExact_slice rfl _ (agOff_words d r t h)) ⟨⟨rfl, Or.inl rfl⟩, trivial⟩)
def agWaitR (A : Args) (d : Dev nD) (r : Fin 4) (t : ℕ) (h : t < len true r) : Pg F :=
  Prog.lift (.waitDma2 (sem2 A.agR r (par t)) (agM A d r t h) (agM A d r t h)
    (A.hq.wordExact_slice rfl _ (agOff_words d r t h)) (A.hq.wordExact_slice rfl _ (agOff_words d r t h)))
def agWaitS (A : Args) (d : Dev nD) (r : Fin 4) (t : ℕ) (h : t < len true r) : Pg F :=
  Prog.lift (.waitDma2 (sem2 A.agS r (par t)) (agM A d r t h) (agM A d r t h)
    (A.hq.wordExact_slice rfl _ (agOff_words d r t h)) (A.hq.wordExact_slice rfl _ (agOff_words d r t h)))
/-- The received piece into the result. -/
def agOut (A : Args) (d : Dev nD) (sc : F .f32) (r : Fin 4) (t : ℕ) (h : t < len true r) : Pg F := do
  let u : Vec F S128x1024 .fp8e4m3 ← Prog.lift (.load A.q (Rect.unit (s := S4096x2048) (agIn d r t) S128x1024.size (agIn_inb d r t h)).toLoadRect (View.loadsAt_vmem h_S128x1024))
  let _ : Vec F S128x1024 .f32 ← Prog.lift (.load A.o (Rect.unit (s := S4096x2048) (agIn d r t) S128x1024.size (agIn_inb d r t h)).toLoadRect (View.loadsAt_vmem h_S128x1024))
  Prog.lift (.store A.o (Rect.unit (s := S4096x2048) (agIn d r t) S128x1024.size (agIn_inb d r t h)) (dequantise sc u) Finset.univ (View.stores_vmem_bits_univ h_S128x1024 rfl) (.inl rfl))

/-- Lane `r` at step `t`. -/
def agLane (A : Args) (d : Dev nD) (sc : F .f32) (r : Fin 4) (t : ℕ) (h : t < len true r) : Pg F := do
  agWaitR A d r t h
  if t + 2 < len true r then semSignalWord (srcD d r) (sem4 A.agC r) 1#32 else pure ⟨⟩
  if h' : t + 1 < len true r then do
    if h1 : 0 < t then do
      semWaitWord (sem4 A.agC r) 1#32
      agWaitS A d r (t - 1) (by omega)
    else pure ⟨⟩
    agSend A d r (t + 1) h'
  else pure ⟨⟩
  agOut A d sc r t h

def agStep (A : Args) (d : Dev nD) (sc : F .f32) (t : ℕ) : Pg F := do
  if h : t < len true ⟨0, by decide⟩ then agLane A d sc ⟨0, by decide⟩ t h else pure ⟨⟩
  if h : t < len true ⟨1, by decide⟩ then agLane A d sc ⟨1, by decide⟩ t h else pure ⟨⟩
  if h : t < len true ⟨2, by decide⟩ then agLane A d sc ⟨2, by decide⟩ t h else pure ⟨⟩
  if h : t < len true ⟨3, by decide⟩ then agLane A d sc ⟨3, by decide⟩ t h else pure ⟨⟩

/-- The last two copies of a lane ended. -/
def agDrain (A : Args) (d : Dev nD) : Pg F := do
  agWaitS A d ⟨0, by decide⟩ 14 (by decide)
  agWaitS A d ⟨0, by decide⟩ 15 (by decide)
  agWaitS A d ⟨1, by decide⟩ 14 (by decide)
  agWaitS A d ⟨1, by decide⟩ 15 (by decide)
  agWaitS A d ⟨2, by decide⟩ 13 (by decide)
  agWaitS A d ⟨2, by decide⟩ 14 (by decide)
  agWaitS A d ⟨3, by decide⟩ 13 (by decide)
  agWaitS A d ⟨3, by decide⟩ 14 (by decide)

/-- The all-gather of the quantised chunks. -/
def gather (A : Args) (d : Dev nD) (sc : F .f32) : Pg F := do
  agSend A d ⟨0, by decide⟩ 0 (by decide)
  agSend A d ⟨1, by decide⟩ 0 (by decide)
  agSend A d ⟨2, by decide⟩ 0 (by decide)
  agSend A d ⟨3, by decide⟩ 0 (by decide)
  loop (fun t => agStep A d sc t) 0 16
  agDrain A d

/-- The whole body. -/
def body (A : Args) : Pg F := do
  let d : Dev nD ← Prog.lift .deviceId
  reduce A d
  let am : Vec F S32x128 .f32 ← Prog.lift (.load A.am (Rect.unit (s := S32x128) ![0, 0] S32x128.size inb_S32x128_S32x128_0_0).toLoadRect (View.loadsAt_vmem h_S32x128))
  quantAt A (k0_off15 d) (k0_off15_inb d) (k0_off15_packedfp8e4m3 d) (scaleOf am)
  quantAt A (k0_off16 d) (k0_off16_inb d) (k0_off16_packedfp8e4m3 d) (scaleOf am)
  gather A d (scaleOf am)

set_option maxRecDepth 65536 in
/-- The printed body is this program. -/
theorem body_eq (a0 : Memref sig .tc .vmem S4096x128 .f32) (h0 : a0.IsWhole) (a1 : Memref sig .tc .vmem S128x2048 .f32) (h1 : a1.IsWhole) (a2 : Memref sig .tc .vmem S4096x2048 .f32) (h2 : a2.IsWhole) (a3 : Memref sig .tc .vmem S4x2x128x512 .f32) (h3 : a3.IsWhole) (a4 : Memref sig .tc .vmem S4096x2048 .fp8e4m3) (h4 : a4.IsWhole) (a5 : Memref sig .tc .vmem S32x128 .f32) (h5 : a5.IsWhole) (a6 : DmaSems sig S4x2) (a7 : DmaSems sig S4x2) (a8 : Sems sig S4) (a9 : DmaSems sig S1) (a10 : DmaSems sig S1) (a11 : DmaSems sig S4x2) (a12 : DmaSems sig S4x2) (a13 : Sems sig S4) :
    cc0_body (F := F) a0 h0 a1 h1 a2 h2 a3 h3 a4 h4 a5 h5 a6 a7 a8 a9 a10 a11 a12 a13
      = body ⟨a0, a1, a2, a3, a4, h4, a5, a6, a7, a8, a9, a10, a11, a12, a13⟩ := by
  chain_rfl

end Cert.KernelIdeal.Px

end
-- ==== Proof.Ring.lean ====
/-
  The ring's arithmetic: where each device stands, its neighbours, and every offset and device the kernel computes in
  closed form.
-/
module

public import proofs.«01_k».proof.Proof.Shape

@[expose] public section

set_option maxRecDepth 16384

noncomputable section

namespace Cert.KernelIdeal.Px

open Cert.KernelIdeal
open Idealize.ShloMosaic Idealize.ShloMosaic.TcCoe
open Idealize.SL Idealize.SL.Sem

/-- The device at a place of the ring, -/
def devAt (p : Fin 32) : Dev nD :=
  ![0, 3, 4, 7, 15, 12, 11, 8, 16, 19, 20, 23, 31, 28, 27, 24, 25, 26, 29, 30, 22, 21, 18, 17, 9, 10, 13, 14, 6, 5, 2, 1] p
/-- and the place a device has. -/
def pos (d : Dev nD) : Fin 32 :=
  ![0, 31, 30, 1, 2, 29, 28, 3, 7, 24, 25, 6, 5, 26, 27, 4, 8, 23, 22, 9, 10, 21, 20, 11, 15, 16, 17, 14, 13, 18, 19, 12] d

theorem pos_devAt : ∀ p, pos (devAt p) = p := by decide
theorem devAt_pos : ∀ d, devAt (pos d) = d := by decide

theorem fin_sub_add : ∀ a : Fin 32, a - 1 + 1 = a := by decide
theorem fin_add_sub : ∀ a : Fin 32, a + 1 - 1 = a := by decide
theorem fin_sub_add2 : ∀ a b : Fin 32, a - b + b = a := by decide
theorem fin_add_sub2 : ∀ a b : Fin 32, a + b - b = a := by decide

/-- The next device and the one before. -/
def nxt (d : Dev nD) : Dev nD := devAt (pos d + 1)
def prv (d : Dev nD) : Dev nD := devAt (pos d - 1)
theorem nxt_prv (d : Dev nD) : nxt (prv d) = d := by unfold nxt prv; rw [pos_devAt, fin_sub_add, devAt_pos]
theorem prv_nxt (d : Dev nD) : prv (nxt d) = d := by unfold nxt prv; rw [pos_devAt, fin_add_sub, devAt_pos]
theorem pos_nxt (d : Dev nD) : pos (nxt d) = pos d + 1 := pos_devAt _
theorem pos_prv (d : Dev nD) : pos (prv d) = pos d - 1 := pos_devAt _

/-- Where ring `r` sends, and whence it receives. -/
def dst (r : Fin 4) (d : Dev nD) : Dev nD := if r.val < 2 then nxt d else prv d
def src (r : Fin 4) (d : Dev nD) : Dev nD := if r.val < 2 then prv d else nxt d
theorem src_dst (r : Fin 4) (d : Dev nD) : src r (dst r d) = d := by unfold src dst; split <;> simp only [nxt_prv, prv_nxt]
theorem dst_src (r : Fin 4) (d : Dev nD) : dst r (src r d) = d := by unfold src dst; split <;> simp only [nxt_prv, prv_nxt]

/-- The chunk ring `r` is at on its `g`-th step: the device's own place, going back for `r < 2`, forth after. -/
def rel (d : Dev nD) (r : Fin 4) (g : ℕ) : Fin 32 := if r.val < 2 then pos d - Fin.ofNat 32 g else pos d + Fin.ofNat 32 g
/-- The chunk lane `r` is at in the all-gather. -/
def relG (d : Dev nD) (r : Fin 4) (t : ℕ) : Fin 32 :=
  (if r.val % 2 = 0 then pos d + 1 else pos d - 1) + (if r.val < 2 then - Fin.ofNat 32 t else Fin.ofNat 32 t)

theorem ofNat_succ32 (g : ℕ) : (Fin.ofNat 32 (g + 1)) = Fin.ofNat 32 g + 1 := by
  apply Fin.ext; simp [Fin.add_def, Fin.ofNat]

theorem fin_a : ∀ a x : Fin 32, a + 1 - (x + 1) = a - x := by decide
theorem fin_b : ∀ a x : Fin 32, a - 1 + (x + 1) = a + x := by decide
theorem fin_c : ∀ a x : Fin 32, a + 1 + 1 + -(x + 1) = a + 1 + -x := by decide
theorem fin_d : ∀ a x : Fin 32, a + 1 - 1 + -(x + 1) = a - 1 + -x := by decide
theorem fin_e : ∀ a x : Fin 32, a - 1 + 1 + (x + 1) = a + 1 + x := by decide
theorem fin_f : ∀ a x : Fin 32, a - 1 - 1 + (x + 1) = a - 1 + x := by decide

theorem rel_dst (d : Dev nD) (r : Fin 4) (g : ℕ) : rel (dst r d) r (g + 1) = rel d r g := by
  unfold rel dst; rw [ofNat_succ32]
  by_cases h : r.val < 2
  · simp only [h, if_true]; rw [pos_nxt, fin_a]
  · simp only [h, if_false]; rw [pos_prv, fin_b]
theorem rel_src (d : Dev nD) (r : Fin 4) (g : ℕ) : rel (src r d) r g = rel d r (g + 1) := by
  conv_rhs => rw [← dst_src r d]
  rw [rel_dst]
theorem relG_dst (d : Dev nD) (r : Fin 4) (g : ℕ) : relG (dst r d) r (g + 1) = relG d r g := by
  unfold relG dst; rw [ofNat_succ32]
  by_cases h : r.val < 2
  · simp only [h, if_true]; rw [pos_nxt]; split; exact fin_c _ _; exact fin_d _ _
  · simp only [h, if_false]; rw [pos_prv]; split; exact fin_e _ _; exact fin_f _ _
theorem relG_src (d : Dev nD) (r : Fin 4) (g : ℕ) : relG (src r d) r g = relG d r (g + 1) := by
  conv_rhs => rw [← dst_src r d]
  rw [relG_dst]

/-- The `i`-th peer. -/
def peerOf (i : ℕ) (d : Dev nD) : Dev nD := ((d : Fin 32) + Fin.ofNat 32 (i + 1) : Fin 32)
def peerInv (i : ℕ) (d : Dev nD) : Dev nD := ((d : Fin 32) - Fin.ofNat 32 (i + 1) : Fin 32)
theorem peerInv_peerOf (i : ℕ) (d : Dev nD) : peerInv i (peerOf i d) = d := by
  show (d : Fin 32) + _ - _ = (d : Fin 32)
  exact fin_add_sub2 _ _
theorem peerOf_peerInv (i : ℕ) (d : Dev nD) : peerOf i (peerInv i d) = d := by
  show (d : Fin 32) - _ + _ = (d : Fin 32)
  exact fin_sub_add2 _ _

/-! ### The kernel's own words -/

theorem dev1_eq (h : ∀ d : Dev nD, k0_dev1 d < nD) : ∀ d, (⟨k0_dev1 d, h d⟩ : Dev nD) = prv d := by
  have : ∀ d : Dev nD, k0_dev1 d = (prv d).val := by decide +kernel
  exact fun d => Fin.ext (this d)
theorem dev2_eq (h : ∀ d : Dev nD, k0_dev2 d < nD) : ∀ d, (⟨k0_dev2 d, h d⟩ : Dev nD) = nxt d := by
  have : ∀ d : Dev nD, k0_dev2 d = (nxt d).val := by decide +kernel
  exact fun d => Fin.ext (this d)

theorem ext2 {f : Fin 2 → ℕ} {a b : ℕ} (h : f 0 = a ∧ f 1 = b) : f = ![a, b] := by
  funext i; fin_cases i; exact h.1; exact h.2

theorem off1_eq (d : Dev nD) : k0_off1 d = ![128 * (rel d 0 0).val, 0] :=
  ext2 ((by decide +kernel : ∀ d : Dev nD, k0_off1 d 0 = 128 * (rel d 0 0).val ∧ k0_off1 d 1 = 0) d)
theorem off2_eq (d : Dev nD) : k0_off2 d = ![128 * (rel d 0 0).val, 0] :=
  ext2 ((by decide +kernel : ∀ d : Dev nD, k0_off2 d 0 = 128 * (rel d 0 0).val ∧ k0_off2 d 1 = 0) d)
theorem off3_eq (d : Dev nD) (g : Fin 31) : k0_off3 d (BitVec.ofNat 32 g.val) = ![128 * (rel d 0 g.val).val, 0] :=
  ext2 ((by decide +kernel : ∀ (d : Dev nD) (g : Fin 31), k0_off3 d (BitVec.ofNat 32 g.val) 0 = 128 * (rel d 0 g.val).val ∧ k0_off3 d (BitVec.ofNat 32 g.val) 1 = 0) d g)
theorem off4_eq (d : Dev nD) (g : Fin 31) : k0_off4 d (BitVec.ofNat 32 g.val) = ![128 * (rel d 1 g.val).val, 512] :=
  ext2 ((by decide +kernel : ∀ (d : Dev nD) (g : Fin 31), k0_off4 d (BitVec.ofNat 32 g.val) 0 = 128 * (rel d 1 g.val).val ∧ k0_off4 d (BitVec.ofNat 32 g.val) 1 = 512) d g)
theorem off5_eq (d : Dev nD) (g : Fin 31) : k0_off5 d (BitVec.ofNat 32 g.val) = ![128 * (rel d 2 g.val).val, 1024] :=
  ext2 ((by decide +kernel : ∀ (d : Dev nD) (g : Fin 31), k0_off5 d (BitVec.ofNat 32 g.val) 0 = 128 * (rel d 2 g.val).val ∧ k0_off5 d (BitVec.ofNat 32 g.val) 1 = 1024) d g)
theorem off6_eq (d : Dev nD) (g : Fin 31) : k0_off6 d (BitVec.ofNat 32 g.val) = ![128 * (rel d 3 g.val).val, 1536] :=
  ext2 ((by decide +kernel : ∀ (d : Dev nD) (g : Fin 31), k0_off6 d (BitVec.ofNat 32 g.val) 0 = 128 * (rel d 3 g.val).val ∧ k0_off6 d (BitVec.ofNat 32 g.val) 1 = 1536) d g)
theorem off7_eq (d : Dev nD) (g : Fin 31) : k0_off7 d (BitVec.ofNat 32 g.val) = ![128 * (rel d 0 (g.val + 1)).val, 0] :=
  ext2 ((by decide +kernel : ∀ (d : Dev nD) (g : Fin 31), k0_off7 d (BitVec.ofNat 32 g.val) 0 = 128 * (rel d 0 (g.val + 1)).val ∧ k0_off7 d (BitVec.ofNat 32 g.val) 1 = 0) d g)
theorem off8_eq (d : Dev nD) (g : Fin 31) : k0_off8 d (BitVec.ofNat 32 g.val) = ![128 * (rel d 0 (g.val + 1)).val, 0] :=
  ext2 ((by decide +kernel : ∀ (d : Dev nD) (g : Fin 31), k0_off8 d (BitVec.ofNat 32 g.val) 0 = 128 * (rel d 0 (g.val + 1)).val ∧ k0_off8 d (BitVec.ofNat 32 g.val) 1 = 0) d g)
theorem off9_eq (d : Dev nD) (g : Fin 31) : k0_off9 d (BitVec.ofNat 32 g.val) = ![128 * (rel d 2 (g.val + 1)).val, 0] :=
  ext2 ((by decide +kernel : ∀ (d : Dev nD) (g : Fin 31), k0_off9 d (BitVec.ofNat 32 g.val) 0 = 128 * (rel d 2 (g.val + 1)).val ∧ k0_off9 d (BitVec.ofNat 32 g.val) 1 = 0) d g)
theorem off10_eq (d : Dev nD) (g : Fin 31) : k0_off10 d (BitVec.ofNat 32 g.val) = ![128 * (rel d 2 (g.val + 1)).val, 1024] :=
  ext2 ((by decide +kernel : ∀ (d : Dev nD) (g : Fin 31), k0_off10 d (BitVec.ofNat 32 g.val) 0 = 128 * (rel d 2 (g.val + 1)).val ∧ k0_off10 d (BitVec.ofNat 32 g.val) 1 = 1024) d g)
theorem off11_eq (d : Dev nD) (g : Fin 31) : k0_off11 d (BitVec.ofNat 32 g.val) = ![128 * (rel d 0 (g.val + 1)).val, 0] :=
  ext2 ((by decide +kernel : ∀ (d : Dev nD) (g : Fin 31), k0_off11 d (BitVec.ofNat 32 g.val) 0 = 128 * (rel d 0 (g.val + 1)).val ∧ k0_off11 d (BitVec.ofNat 32 g.val) 1 = 0) d g)
theorem off12_eq (d : Dev nD) (g : Fin 31) : k0_off12 d (BitVec.ofNat 32 g.val) = ![128 * (rel d 1 (g.val + 1)).val, 512] :=
  ext2 ((by decide +kernel : ∀ (d : Dev nD) (g : Fin 31), k0_off12 d (BitVec.ofNat 32 g.val) 0 = 128 * (rel d 1 (g.val + 1)).val ∧ k0_off12 d (BitVec.ofNat 32 g.val) 1 = 512) d g)
theorem off13_eq (d : Dev nD) (g : Fin 31) : k0_off13 d (BitVec.ofNat 32 g.val) = ![128 * (rel d 2 (g.val + 1)).val, 1024] :=
  ext2 ((by decide +kernel : ∀ (d : Dev nD) (g : Fin 31), k0_off13 d (BitVec.ofNat 32 g.val) 0 = 128 * (rel d 2 (g.val + 1)).val ∧ k0_off13 d (BitVec.ofNat 32 g.val) 1 = 1024) d g)
theorem off14_eq (d : Dev nD) (g : Fin 31) : k0_off14 d (BitVec.ofNat 32 g.val) = ![128 * (rel d 3 (g.val + 1)).val, 1536] :=
  ext2 ((by decide +kernel : ∀ (d : Dev nD) (g : Fin 31), k0_off14 d (BitVec.ofNat 32 g.val) 0 = 128 * (rel d 3 (g.val + 1)).val ∧ k0_off14 d (BitVec.ofNat 32 g.val) 1 = 1536) d g)
theorem off15_eq (d : Dev nD) : k0_off15 d = ![128 * (relG d 0 0).val, 0] :=
  ext2 ((by decide +kernel : ∀ d : Dev nD, k0_off15 d 0 = 128 * (relG d 0 0).val ∧ k0_off15 d 1 = 0) d)
theorem off16_eq (d : Dev nD) : k0_off16 d = ![128 * (relG d 1 0).val, 1024] :=
  ext2 ((by decide +kernel : ∀ d : Dev nD, k0_off16 d 0 = 128 * (relG d 1 0).val ∧ k0_off16 d 1 = 1024) d)
theorem off17_eq (d : Dev nD) : k0_off17 d = ![d.val, 0] :=
  ext2 ((by decide +kernel : ∀ d : Dev nD, k0_off17 d 0 = d.val ∧ k0_off17 d 1 = 0) d)
theorem off18_eq (d : Dev nD) : k0_off18 d = ![d.val, 0] :=
  ext2 ((by decide +kernel : ∀ d : Dev nD, k0_off18 d 0 = d.val ∧ k0_off18 d 1 = 0) d)
theorem off19_eq (d : Dev nD) (g : Fin 16) : k0_off19 d (BitVec.ofNat 32 g.val) = ![128 * (relG d 0 g.val).val, 0] :=
  ext2 ((by decide +kernel : ∀ (d : Dev nD) (g : Fin 16), k0_off19 d (BitVec.ofNat 32 g.val) 0 = 128 * (relG d 0 g.val).val ∧ k0_off19 d (BitVec.ofNat 32 g.val) 1 = 0) d g)
theorem off20_eq (d : Dev nD) (g : Fin 16) : k0_off20 d (BitVec.ofNat 32 g.val) = ![128 * (relG d 1 g.val).val, 1024] :=
  ext2 ((by decide +kernel : ∀ (d : Dev nD) (g : Fin 16), k0_off20 d (BitVec.ofNat 32 g.val) 0 = 128 * (relG d 1 g.val).val ∧ k0_off20 d (BitVec.ofNat 32 g.val) 1 = 1024) d g)
theorem off21_eq (d : Dev nD) (g : Fin 15) : k0_off21 d (BitVec.ofNat 32 g.val) = ![128 * (relG d 2 g.val).val, 0] :=
  ext2 ((by decide +kernel : ∀ (d : Dev nD) (g : Fin 15), k0_off21 d (BitVec.ofNat 32 g.val) 0 = 128 * (relG d 2 g.val).val ∧ k0_off21 d (BitVec.ofNat 32 g.val) 1 = 0) d g)
theorem off22_eq (d : Dev nD) (g : Fin 15) : k0_off22 d (BitVec.ofNat 32 g.val) = ![128 * (relG d 3 g.val).val, 1024] :=
  ext2 ((by decide +kernel : ∀ (d : Dev nD) (g : Fin 15), k0_off22 d (BitVec.ofNat 32 g.val) 0 = 128 * (relG d 3 g.val).val ∧ k0_off22 d (BitVec.ofNat 32 g.val) 1 = 1024) d g)
theorem off23_eq (d : Dev nD) (g : Fin 16) : k0_off23 d (BitVec.ofNat 32 g.val) = ![128 * (relG d 0 (g.val + 1)).val, 0] :=
  ext2 ((by decide +kernel : ∀ (d : Dev nD) (g : Fin 16), k0_off23 d (BitVec.ofNat 32 g.val) 0 = 128 * (relG d 0 (g.val + 1)).val ∧ k0_off23 d (BitVec.ofNat 32 g.val) 1 = 0) d g)
theorem off24_eq (d : Dev nD) (g : Fin 16) : k0_off24 d (BitVec.ofNat 32 g.val) = ![128 * (relG d 1 (g.val + 1)).val, 1024] :=
  ext2 ((by decide +kernel : ∀ (d : Dev nD) (g : Fin 16), k0_off24 d (BitVec.ofNat 32 g.val) 0 = 128 * (relG d 1 (g.val + 1)).val ∧ k0_off24 d (BitVec.ofNat 32 g.val) 1 = 1024) d g)
theorem off25_eq (d : Dev nD) (g : Fin 15) : k0_off25 d (BitVec.ofNat 32 g.val) = ![128 * (relG d 2 (g.val + 1)).val, 0] :=
  ext2 ((by decide +kernel : ∀ (d : Dev nD) (g : Fin 15), k0_off25 d (BitVec.ofNat 32 g.val) 0 = 128 * (relG d 2 (g.val + 1)).val ∧ k0_off25 d (BitVec.ofNat 32 g.val) 1 = 0) d g)
theorem off26_eq (d : Dev nD) (g : Fin 15) : k0_off26 d (BitVec.ofNat 32 g.val) = ![128 * (relG d 3 (g.val + 1)).val, 1024] :=
  ext2 ((by decide +kernel : ∀ (d : Dev nD) (g : Fin 15), k0_off26 d (BitVec.ofNat 32 g.val) 0 = 128 * (relG d 3 (g.val + 1)).val ∧ k0_off26 d (BitVec.ofNat 32 g.val) 1 = 1024) d g)

theorem srcOff_eq (d : Dev nD) (r : Fin 4) (g : Fin 31) : srcOff d r g = ![128 * (rel d r g.val).val, 512 * r.val] := by
  fin_cases r; exact off3_eq d g; exact off4_eq d g; exact off5_eq d g; exact off6_eq d g
theorem accOff_eq (d : Dev nD) (r : Fin 4) (g : Fin 31) : accOff d r g = ![128 * (rel d r (g.val + 1)).val, 512 * r.val] := by
  fin_cases r; exact off11_eq d g; exact off12_eq d g; exact off13_eq d g; exact off14_eq d g
theorem agOff_eq (d : Dev nD) (r : Fin 4) (t : ℕ) (h : t < len true r) : agOff d r t = ![128 * (relG d r t).val, 1024 * (r.val % 2)] := by
  fin_cases r; exact off19_eq d ⟨t, h⟩; exact off20_eq d ⟨t, h⟩; exact off21_eq d ⟨t, h⟩; exact off22_eq d ⟨t, h⟩
theorem agIn_eq (d : Dev nD) (r : Fin 4) (t : ℕ) (h : t < len true r) : agIn d r t = ![128 * (relG d r (t + 1)).val, 1024 * (r.val % 2)] := by
  fin_cases r; exact off23_eq d ⟨t, h⟩; exact off24_eq d ⟨t, h⟩; exact off25_eq d ⟨t, h⟩; exact off26_eq d ⟨t, h⟩

section
variable [Facts]
theorem dstD_eq (d : Dev nD) (r : Fin 4) : dstD d r = dst r d := by
  fin_cases r
  · exact dev2_eq Facts₀.k0_dev2_lt d
  · exact dev2_eq Facts₀.k0_dev2_lt d
  · exact dev1_eq Facts₀.k0_dev1_lt d
  · exact dev1_eq Facts₀.k0_dev1_lt d
theorem srcD_eq (d : Dev nD) (r : Fin 4) : srcD d r = src r d := by
  fin_cases r
  · exact dev1_eq Facts₀.k0_dev1_lt d
  · exact dev1_eq Facts₀.k0_dev1_lt d
  · exact dev2_eq Facts₀.k0_dev2_lt d
  · exact dev2_eq Facts₀.k0_dev2_lt d
theorem peer_eq (d : Dev nD) : (i : ℕ) → i < 31 → peer d i = peerOf i d
  | 0, _ => Fin.ext ((by decide +kernel : ∀ d : Dev nD, k0_dev243 d = (peerOf 0 d).val) d)
  | 1, _ => Fin.ext ((by decide +kernel : ∀ d : Dev nD, k0_dev244 d = (peerOf 1 d).val) d)
  | 2, _ => Fin.ext ((by decide +kernel : ∀ d : Dev nD, k0_dev245 d = (peerOf 2 d).val) d)
  | 3, _ => Fin.ext ((by decide +kernel : ∀ d : Dev nD, k0_dev246 d = (peerOf 3 d).val) d)
  | 4, _ => Fin.ext ((by decide +kernel : ∀ d : Dev nD, k0_dev247 d = (peerOf 4 d).val) d)
  | 5, _ => Fin.ext ((by decide +kernel : ∀ d : Dev nD, k0_dev248 d = (peerOf 5 d).val) d)
  | 6, _ => Fin.ext ((by decide +kernel : ∀ d : Dev nD, k0_dev249 d = (peerOf 6 d).val) d)
  | 7, _ => Fin.ext ((by decide +kernel : ∀ d : Dev nD, k0_dev250 d = (peerOf 7 d).val) d)
  | 8, _ => Fin.ext ((by decide +kernel : ∀ d : Dev nD, k0_dev251 d = (peerOf 8 d).val) d)
  | 9, _ => Fin.ext ((by decide +kernel : ∀ d : Dev nD, k0_dev252 d = (peerOf 9 d).val) d)
  | 10, _ => Fin.ext ((by decide +kernel : ∀ d : Dev nD, k0_dev253 d = (peerOf 10 d).val) d)
  | 11, _ => Fin.ext ((by decide +kernel : ∀ d : Dev nD, k0_dev254 d = (peerOf 11 d).val) d)
  | 12, _ => Fin.ext ((by decide +kernel : ∀ d : Dev nD, k0_dev255 d = (peerOf 12 d).val) d)
  | 13, _ => Fin.ext ((by decide +kernel : ∀ d : Dev nD, k0_dev256 d = (peerOf 13 d).val) d)
  | 14, _ => Fin.ext ((by decide +kernel : ∀ d : Dev nD, k0_dev257 d = (peerOf 14 d).val) d)
  | 15, _ => Fin.ext ((by decide +kernel : ∀ d : Dev nD, k0_dev258 d = (peerOf 15 d).val) d)
  | 16, _ => Fin.ext ((by decide +kernel : ∀ d : Dev nD, k0_dev259 d = (peerOf 16 d).val) d)
  | 17, _ => Fin.ext ((by decide +kernel : ∀ d : Dev nD, k0_dev260 d = (peerOf 17 d).val) d)
  | 18, _ => Fin.ext ((by decide +kernel : ∀ d : Dev nD, k0_dev261 d = (peerOf 18 d).val) d)
  | 19, _ => Fin.ext ((by decide +kernel : ∀ d : Dev nD, k0_dev262 d = (peerOf 19 d).val) d)
  | 20, _ => Fin.ext ((by decide +kernel : ∀ d : Dev nD, k0_dev263 d = (peerOf 20 d).val) d)
  | 21, _ => Fin.ext ((by decide +kernel : ∀ d : Dev nD, k0_dev264 d = (peerOf 21 d).val) d)
  | 22, _ => Fin.ext ((by decide +kernel : ∀ d : Dev nD, k0_dev265 d = (peerOf 22 d).val) d)
  | 23, _ => Fin.ext ((by decide +kernel : ∀ d : Dev nD, k0_dev266 d = (peerOf 23 d).val) d)
  | 24, _ => Fin.ext ((by decide +kernel : ∀ d : Dev nD, k0_dev267 d = (peerOf 24 d).val) d)
  | 25, _ => Fin.ext ((by decide +kernel : ∀ d : Dev nD, k0_dev268 d = (peerOf 25 d).val) d)
  | 26, _ => Fin.ext ((by decide +kernel : ∀ d : Dev nD, k0_dev269 d = (peerOf 26 d).val) d)
  | 27, _ => Fin.ext ((by decide +kernel : ∀ d : Dev nD, k0_dev270 d = (peerOf 27 d).val) d)
  | 28, _ => Fin.ext ((by decide +kernel : ∀ d : Dev nD, k0_dev271 d = (peerOf 28 d).val) d)
  | 29, _ => Fin.ext ((by decide +kernel : ∀ d : Dev nD, k0_dev272 d = (peerOf 29 d).val) d)
  | 30, _ => Fin.ext ((by decide +kernel : ∀ d : Dev nD, k0_dev273 d = (peerOf 30 d).val) d)
  | n + 31, h => absurd h (by omega)
end

end Cert.KernelIdeal.Px

end
-- ==== Proof.Cells.lean ====
/-
  The protocol of the kernel: its events, its semaphore cells in rounds, what each payment hands over.

  An event is one payment made to a device: a barrier signal, a credit, a piece copied along a ring (`false`: the
  reduce-scatter, `true`: the all-gather), a row of maxima. Every event has one payer per payee (`tgt`), a time in the
  payer's program (`time`, which is also its level) and a cell (`kind`).
-/
module

public import proofs.«01_k».proof.Proof.Ring
public import Idealize.ShloMosaic.Lib.Pipeline.Launch
public import Idealize.ShloMosaic.Lib.Tactic
public import Idealize.ShloMosaic.Lib.Release

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ### Events -/

inductive Ev where
  | bar (n : Bool)
  | credit (ph : Bool) (r : Fin 4) (e : ℕ)
  | send (ph : Bool) (r : Fin 4) (g : ℕ)
  | amax (i : ℕ)
deriving DecidableEq

/-- The events there are. -/
def Ok : Ev → Prop
  | .bar _ => True
  | .credit ph r e => e + 2 < len ph r
  | .send ph r g => g < len ph r
  | .amax i => i < 31

theorem len_le (ph : Bool) (r : Fin 4) : len ph r ≤ 31 := by revert ph r; decide
theorem len_ge (ph : Bool) (r : Fin 4) : 15 ≤ len ph r := by revert ph r; decide
theorem len_true (r : Fin 4) : len true r ≤ 16 := by revert r; decide
theorem len_false (r : Fin 4) : len false r = 31 := rfl

def evs : Finset Ev :=
  ((Finset.univ : Finset Bool).image Ev.bar)
    ∪ (((Finset.univ : Finset (Bool × Fin 4 × Fin 31)).filter fun x => x.2.2.val + 2 < len x.1 x.2.1).image fun x => Ev.credit x.1 x.2.1 x.2.2.val)
    ∪ (((Finset.univ : Finset (Bool × Fin 4 × Fin 31)).filter fun x => x.2.2.val < len x.1 x.2.1).image fun x => Ev.send x.1 x.2.1 x.2.2.val)
    ∪ ((Finset.range 31).image Ev.amax)

theorem mem_evs (e : Ev) : e ∈ evs ↔ Ok e := by
  unfold evs
  simp only [Finset.mem_union, Finset.mem_image, Finset.mem_filter, Finset.mem_univ, true_and, Finset.mem_range, Prod.exists]
  cases e with
  | bar n => simp [Ok]
  | credit ph r e =>
    simp only [Ok, reduceCtorEq, exists_false, or_false, false_or, Ev.credit.injEq, and_false]
    constructor
    · rintro ⟨a, b, c, h, rfl, rfl, rfl⟩; exact h
    · intro h; exact ⟨ph, r, ⟨e, by have := len_le ph r; omega⟩, h, rfl, rfl, rfl⟩
  | send ph r e =>
    simp only [Ok, reduceCtorEq, exists_false, or_false, false_or, Ev.send.injEq, and_false]
    constructor
    · rintro ⟨a, b, c, h, rfl, rfl, rfl⟩; exact h
    · intro h; exact ⟨ph, r, ⟨e, by have := len_le ph r; omega⟩, h, rfl, rfl, rfl⟩
  | amax i => simp [Ok]

/-- When, in its payer's program, an event is paid. -/
def base : Bool → ℕ
  | false => 8
  | true => 296
def time : Ev → ℕ
  | .bar n => if n then 2 else 1
  | .credit ph r e => base ph + 8 * (e + 1) + 2 * r.val
  | .send ph r g => base ph + 8 * g + 2 * r.val + 1
  | .amax i => 264 + i

theorem time_inj {a b : Ev} (ha : Ok a) (hb : Ok b) (h : time a = time b) : a = b := by
  have hl := len_le; have hlt := len_true
  cases a with
  | bar n => cases b with
    | bar n' => cases n <;> cases n' <;> simp [time] at h ⊢
    | credit ph r e => cases ph <;> cases n <;> simp only [time, base, if_true, if_false, Bool.false_eq_true] at h <;> omega
    | send ph r e => cases ph <;> cases n <;> simp only [time, base, if_true, if_false, Bool.false_eq_true] at h <;> omega
    | amax i => cases n <;> simp only [time, base, if_true, if_false, Bool.false_eq_true] at h <;> omega
  | credit ph r e => cases b with
    | bar n => cases ph <;> cases n <;> simp only [time, base, if_true, if_false, Bool.false_eq_true] at h <;> omega
    | credit ph' r' e' =>
      have h1 := hl ph r; have h2 := hl ph' r'; simp only [Ok] at ha hb
      cases ph <;> cases ph' <;> simp only [time, base] at h
      · have : r.val = r'.val ∧ e = e' := by omega
        obtain ⟨h3, rfl⟩ := this; rw [Fin.ext h3]
      · omega
      · omega
      · have : r.val = r'.val ∧ e = e' := by omega
        obtain ⟨h3, rfl⟩ := this; rw [Fin.ext h3]
    | send ph' r' e' =>
      have h1 := hl ph r; have h2 := hl ph' r'; simp only [Ok] at ha hb
      cases ph <;> cases ph' <;> simp only [time, base] at h <;> omega
    | amax i => have h1 := hl ph r; simp only [Ok] at ha hb; cases ph <;> simp only [time, base] at h <;> omega
  | send ph r e => cases b with
    | bar n => cases ph <;> cases n <;> simp only [time, base, if_true, if_false, Bool.false_eq_true] at h <;> omega
    | send ph' r' e' =>
      have h1 := hl ph r; have h2 := hl ph' r'; simp only [Ok] at ha hb
      cases ph <;> cases ph' <;> simp only [time, base] at h
      · have : r.val = r'.val ∧ e = e' := by omega
        obtain ⟨h3, rfl⟩ := this; rw [Fin.ext h3]
      · omega
      · omega
      · have : r.val = r'.val ∧ e = e' := by omega
        obtain ⟨h3, rfl⟩ := this; rw [Fin.ext h3]
    | credit ph' r' e' =>
      have h1 := hl ph r; have h2 := hl ph' r'; simp only [Ok] at ha hb
      cases ph <;> cases ph' <;> simp only [time, base] at h <;> omega
    | amax i => have h1 := hl ph r; simp only [Ok] at ha hb; cases ph <;> simp only [time, base] at h <;> omega
  | amax i => cases b with
    | bar n => cases n <;> simp only [time, base, if_true, if_false, Bool.false_eq_true] at h <;> omega
    | credit ph r e => have h1 := hl ph r; simp only [Ok] at ha hb; cases ph <;> simp only [time, base] at h <;> omega
    | send ph r e => have h1 := hl ph r; simp only [Ok] at ha hb; cases ph <;> simp only [time, base] at h <;> omega
    | amax i' => simp only [time] at h; have : i = i' := by omega
                 rw [this]

theorem time_pos (e : Ev) : 0 < time e := by
  cases e with
  | bar n => cases n <;> simp [time]
  | credit ph r e => cases ph <;> simp only [time, base] <;> omega
  | send ph r e => simp only [time]; omega
  | amax i => simp only [time]; omega

theorem time_lt {e : Ev} (h : Ok e) : time e < 432 := by
  have hl := len_le; have hlt := len_true
  cases e with
  | bar n => cases n <;> simp [time]
  | credit ph r e =>
    simp only [Ok] at h; cases ph
    · have := hl false r; simp only [time, base]; omega
    · have := hlt r; simp only [time, base]; omega
  | send ph r e =>
    simp only [Ok] at h; cases ph
    · have := hl false r; simp only [time, base]; omega
    · have := hlt r; simp only [time, base]; omega
  | amax i => simp only [Ok] at h; simp only [time]; omega

/-- Whom device `c` pays at an event. -/
def tgt (c : Dev nD) : Ev → Dev nD
  | .bar n => if n then nxt c else prv c
  | .credit _ r _ => src r c
  | .send _ r _ => dst r c
  | .amax i => peerOf i c
/-- Who pays device `c`. -/
def payer (c : Dev nD) : Ev → Dev nD
  | .bar n => if n then prv c else nxt c
  | .credit _ r _ => dst r c
  | .send _ r _ => src r c
  | .amax i => peerInv i c

theorem tgt_payer (c : Dev nD) (e : Ev) : tgt (payer c e) e = c := by
  cases e with
  | bar n => cases n <;> simp [tgt, payer, nxt_prv, prv_nxt]
  | credit _ r _ => exact src_dst r c
  | send _ r _ => exact dst_src r c
  | amax i => exact peerOf_peerInv i c
theorem payer_tgt (c : Dev nD) (e : Ev) : payer (tgt c e) e = c := by
  cases e with
  | bar n => cases n <;> simp [tgt, payer, nxt_prv, prv_nxt]
  | credit _ r _ => exact dst_src r c
  | send _ r _ => exact src_dst r c
  | amax i => exact peerInv_peerOf i c
/-- The event as a permutation of the devices. -/
def swap (e : Ev) : Dev nD ≃ Dev nD := ⟨fun c => tgt c e, fun c => payer c e, fun c => payer_tgt c e, fun c => tgt_payer c e⟩

/-! ### Cells -/

/-- The kernel's own semaphores; `none` is the barrier's. -/
inductive Ow where
  | snd (ph : Bool) (r : Fin 4) (s : Fin 2)
  | rcv (ph : Bool) (r : Fin 4) (s : Fin 2)
  | cr (ph : Bool) (r : Fin 4)
  | ams
  | amr
deriving DecidableEq

instance : Fintype Ow where
  elems := ((Finset.univ : Finset (Bool × Fin 4 × Fin 2)).image fun x => Ow.snd x.1 x.2.1 x.2.2)
    ∪ ((Finset.univ : Finset (Bool × Fin 4 × Fin 2)).image fun x => Ow.rcv x.1 x.2.1 x.2.2)
    ∪ ((Finset.univ : Finset (Bool × Fin 4)).image fun x => Ow.cr x.1 x.2) ∪ {Ow.ams, Ow.amr}
  complete := by intro a; cases a <;> simp

def semOf : Option Ow → SemLoc sig
  | none => .reg 8
  | some (.snd false r s) => .dma ⟨3 + (2 * r.val + s.val), by have := r.isLt; have := s.isLt; show _ < 37; omega⟩
  | some (.snd true r s) => .dma ⟨21 + (2 * r.val + s.val), by have := r.isLt; have := s.isLt; show _ < 37; omega⟩
  | some (.rcv false r s) => .dma ⟨11 + (2 * r.val + s.val), by have := r.isLt; have := s.isLt; show _ < 37; omega⟩
  | some (.rcv true r s) => .dma ⟨29 + (2 * r.val + s.val), by have := r.isLt; have := s.isLt; show _ < 37; omega⟩
  | some (.cr false r) => .reg ⟨r.val, by have := r.isLt; show _ < 9; omega⟩
  | some (.cr true r) => .reg ⟨4 + r.val, by have := r.isLt; show _ < 9; omega⟩
  | some .ams => .dma 19
  | some .amr => .dma 20

theorem semOf_inj : Function.Injective semOf := fun a b =>
  (by decide +kernel : ∀ a b : Option Ow, semOf a = semOf b → a = b) a b

abbrev Ck : Type := Dev nD × Option Ow
def cell (k : Ck) : GSem nD τ sig := ((k.1 : Thread nD τ), semOf k.2)
theorem cell_inj : Function.Injective cell := by
  rintro ⟨c, k⟩ ⟨c', k'⟩ h
  have h1 : (c : Thread nD τ) = c' := congrArg Prod.fst h
  have h2 : semOf k = semOf k' := congrArg Prod.snd h
  rw [Prod.mk.injEq]
  exact ⟨congrArg Prod.fst h1, semOf_inj h2⟩

/-- The cell an event pays at its payee, -/
def kind : Ev → Option Ow
  | .bar _ => none
  | .credit ph r _ => some (.cr ph r)
  | .send ph r g => some (.rcv ph r (par g))
  | .amax _ => some .amr
/-- and the one it pays at its payer, where it is a copy. -/
def skind : Ev → Option Ow
  | .send ph r g => some (.snd ph r (par g))
  | .amax _ => some .ams
  | _ => none
/-- The round of its cell it belongs to. -/
def rnd : Ev → ℕ
  | .send _ _ g => g / 2
  | _ => 0
/-- Whether it is a copy. -/
def isDma : Ev → Bool
  | .send _ _ _ => true
  | .amax _ => true
  | _ => false

def dutiesK : Option Ow → ℕ → Finset Ev
  | none, ρ => if ρ = 0 then {.bar false, .bar true} else ∅
  | some (.snd ph r s), ρ => if 2 * ρ + s.val < len ph r then {.send ph r (2 * ρ + s.val)} else ∅
  | some (.rcv ph r s), ρ => if 2 * ρ + s.val < len ph r then {.send ph r (2 * ρ + s.val)} else ∅
  | some (.cr ph r), ρ => if ρ = 0 then (Finset.range (len ph r - 2)).image (Ev.credit ph r) else ∅
  | some .ams, ρ => if ρ = 0 then (Finset.range 31).image Ev.amax else ∅
  | some .amr, ρ => if ρ = 0 then (Finset.range 31).image Ev.amax else ∅

theorem par_div (g : ℕ) : 2 * (g / 2) + (par g).val = g := by simp only [par]; omega

theorem mem_duties {e : Ev} (h : Ok e) : e ∈ dutiesK (kind e) (rnd e) := by
  cases e with
  | bar n => cases n <;> simp [dutiesK, kind, rnd]
  | credit ph r e => simp only [Ok] at h; simp only [dutiesK, kind, rnd, if_true, Finset.mem_image, Finset.mem_range]; exact ⟨e, by omega, rfl⟩
  | send ph r g => simp only [Ok] at h; simp only [dutiesK, kind, rnd, par_div, h, if_true, Finset.mem_singleton]
  | amax i => simp only [Ok] at h; simp [dutiesK, kind, rnd, h]
theorem mem_sduties {e : Ev} (h : Ok e) (hd : isDma e = true) : e ∈ dutiesK (skind e) (rnd e) := by
  cases e with
  | bar n => cases hd
  | credit ph r e => cases hd
  | send ph r g => simp only [Ok] at h; simp only [dutiesK, skind, rnd, par_div, h, if_true, Finset.mem_singleton]
  | amax i => simp only [Ok] at h; simp [dutiesK, skind, rnd, h]

theorem duties_snd {ph : Bool} {r : Fin 4} {g : ℕ} (h : g < len ph r) : dutiesK (some (.snd ph r (par g))) (g / 2) = {.send ph r g} := by
  simp only [dutiesK, par_div, h, if_true]
theorem duties_rcv {ph : Bool} {r : Fin 4} {g : ℕ} (h : g < len ph r) : dutiesK (some (.rcv ph r (par g))) (g / 2) = {.send ph r g} := by
  simp only [dutiesK, par_div, h, if_true]

/-! ### The program's semaphores are these -/

section Sems
variable [Facts]

theorem rsS_eq (r : Fin 4) (s : Fin 2) : SemLoc.dma (sem2 cc0_scratch3 r s) = semOf (some (.snd false r s)) := by
  fin_cases r <;> fin_cases s <;> chain_rfl
theorem rsR_eq (r : Fin 4) (s : Fin 2) : SemLoc.dma (sem2 cc0_scratch4 r s) = semOf (some (.rcv false r s)) := by
  fin_cases r <;> fin_cases s <;> chain_rfl
theorem rsC_eq (r : Fin 4) : SemLoc.reg (sem4 cc0_scratch5 r) = semOf (some (.cr false r)) := by
  fin_cases r <;> chain_rfl
theorem amS_eq : SemLoc.dma (sem1 cc0_scratch6) = semOf (some .ams) := by chain_rfl
theorem amR_eq : SemLoc.dma (sem1 cc0_scratch7) = semOf (some .amr) := by chain_rfl
theorem agS_eq (r : Fin 4) (s : Fin 2) : SemLoc.dma (sem2 cc0_scratch8 r s) = semOf (some (.snd true r s)) := by
  fin_cases r <;> fin_cases s <;> chain_rfl
theorem agR_eq (r : Fin 4) (s : Fin 2) : SemLoc.dma (sem2 cc0_scratch9 r s) = semOf (some (.rcv true r s)) := by
  fin_cases r <;> fin_cases s <;> chain_rfl
theorem agC_eq (r : Fin 4) : SemLoc.reg (sem4 cc0_scratch10 r) = semOf (some (.cr true r)) := by
  fin_cases r <;> chain_rfl
theorem bar_eq : SemLoc.reg barS = semOf none := by chain_rfl

end Sems

attribute [irreducible] evs

end Cert.KernelIdeal.Px

end
-- ==== Proof.Sched.lean ====
/-
  What each payment hands over, and what the buffers hold: the partial sums of the reduce-scatter, the row of maxima,
  the quantised and the dequantised result, each as contents of a whole buffer, compared only where they are held.
-/
module

public import proofs.«01_k».proof.Proof.Cells

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

/-! ### The resource algebra -/

abbrev Ix : Type := Option Ev
abbrev UR : Type := URounds (GSem nD τ sig) Unit
abbrev UE : Type := URounds (GSem nD τ sig) Ev
abbrev Ky : Type := Dev nD × Ev
abbrev USl : Type := USlots Ky
abbrev UU : Type := UR × (UE × USl)

local notation "𝕄" => MT nD τ sig Ix (Elt F) ℕ UU ℕ

/-- The pipeline's rounds, the kernel's, and the releases, inside the algebra. -/
def EP : Emb UR 𝕄 := (Emb.inl : Emb UR UU).trans (uEmb (nD := nD) (sig := sig) (Ix := Ix) (Val := Elt F) (Name := ℕ) (U := UU) (Lvl := ℕ)).toEmb
def ER : Emb UE 𝕄 := ((Emb.inl : Emb UE (UE × USl)).trans (Emb.inr : Emb (UE × USl) UU)).trans (uEmb (nD := nD) (sig := sig) (Ix := Ix) (Val := Elt F) (Name := ℕ) (U := UU) (Lvl := ℕ)).toEmb
def ES : Emb USl 𝕄 := ((Emb.inr : Emb USl (UE × USl)).trans (Emb.inr : Emb (UE × USl) UU)).trans (uEmb (nD := nD) (sig := sig) (Ix := Ix) (Val := Elt F) (Name := ℕ) (U := UU) (Lvl := ℕ)).toEmb

instance EP_landsIn : (EP : Emb UR 𝕄).LandsIn (upEmb : UEmb _ 𝕄) := by unfold EP; infer_instance
instance ER_landsIn : (ER : Emb UE 𝕄).LandsIn (upEmb : UEmb _ 𝕄) := by unfold ER; infer_instance
instance ES_landsIn : (ES : Emb USl 𝕄).LandsIn (upEmb : UEmb _ 𝕄) := by unfold ES; infer_instance

/-! ### The buffers and their pieces -/

abbrev xM : Memref sig .tc .vmem S4096x128 .f32 := Memref.whole cc0_stg0_0
abbrev wM : Memref sig .tc .vmem S128x2048 .f32 := Memref.whole cc0_stg1_0
abbrev oM : Memref sig .tc .vmem S4096x2048 .f32 := Memref.whole cc0_stg2_0
abbrev cM : Memref sig .tc .vmem S4x2x128x512 .f32 := Memref.whole cc0_scratch0
abbrev qM : Memref sig .tc .vmem S4096x2048 .fp8e4m3 := Memref.whole cc0_scratch1
abbrev aM : Memref sig .tc .vmem S32x128 .f32 := Memref.whole cc0_scratch2

/-- What the pipeline calls the body with. -/
abbrev A0 : Args := ⟨xM, wM, oM, cM, qM, Memref.isWhole_whole _, aM, cc0_scratch3, cc0_scratch4, cc0_scratch5, cc0_scratch6, cc0_scratch7,
  cc0_scratch8, cc0_scratch9, cc0_scratch10⟩

theorem inb_of {R C a b p q : ℕ} (h0 : p + a ≤ R) (h1 : q + b ≤ C) : ∀ x, (![p, q] : Fin 2 → ℕ) x + (![a, b] : Fin 2 → ℕ) x ≤ (![R, C] : Fin 2 → ℕ) x := by
  intro x; fin_cases x; exact h0; exact h1
theorem pieceR_inb (k : Fin 32) (r : Fin 4) : ∀ a, (![128 * k.val, 512 * r.val] : Fin 2 → ℕ) a + S128x512.size a ≤ S4096x2048.size a :=
  inb_of (by omega) (by omega)
theorem halfR_inb (k : Fin 32) (h : Fin 2) : ∀ a, (![128 * k.val, 1024 * h.val] : Fin 2 → ℕ) a + S128x1024.size a ≤ S4096x2048.size a :=
  inb_of (by omega) (by omega)
theorem chunkR_inb (k : Fin 32) : ∀ a, (![128 * k.val, 0] : Fin 2 → ℕ) a + S128x2048.size a ≤ S4096x2048.size a :=
  inb_of (by omega) (by omega)
theorem xR_inb (k : Fin 32) : ∀ a, (![128 * k.val, 0] : Fin 2 → ℕ) a + S128x128.size a ≤ S4096x128.size a :=
  inb_of (by omega) (by omega)
theorem wR_inb (h : Fin 2) : ∀ a, (![0, 1024 * h.val] : Fin 2 → ℕ) a + S128x1024.size a ≤ S128x2048.size a :=
  inb_of (by omega) (by omega)
theorem rowR_inb (d : Dev nD) : ∀ a, (![d.val, 0] : Fin 2 → ℕ) a + S1x128.size a ≤ S32x128.size a :=
  inb_of (by have : d.val < 32 := d.isLt; omega) (by omega)

/-- The piece of chunk `k` ring `r` carries, a half chunk, a whole chunk; -/
abbrev pieceR (k : Fin 32) (r : Fin 4) : Rect S4096x2048 := Rect.unit ![128 * k.val, 512 * r.val] S128x512.size (pieceR_inb k r)
abbrev halfR (k : Fin 32) (h : Fin 2) : Rect S4096x2048 := Rect.unit ![128 * k.val, 1024 * h.val] S128x1024.size (halfR_inb k h)
abbrev chunkR (k : Fin 32) : Rect S4096x2048 := Rect.unit ![128 * k.val, 0] S128x2048.size (chunkR_inb k)
/-- the rows of `x` chunk `k` is made of, and the columns of `w`; -/
abbrev xR (k : Fin 32) : Rect S4096x128 := Rect.unit ![128 * k.val, 0] S128x128.size (xR_inb k)
abbrev wR (h : Fin 2) : Rect S128x2048 := Rect.unit ![0, 1024 * h.val] S128x1024.size (wR_inb h)
abbrev wAllR : Rect S128x2048 := Rect.unit ![0, 0] S128x2048.size Facts₀.inb_S128x2048_S128x2048_0_0
/-- a row of maxima; a slot. -/
abbrev rowR (d : Dev nD) : Rect S32x128 := Rect.unit ![d.val, 0] S1x128.size (rowR_inb d)
abbrev slotR (r : Fin 4) (s : Fin 2) : Rect S4x2x128x512 := Rect.unit ![r.val, s.val, 0, 0] S1x1x128x512.size (inbC r s)

/-- Which chunk, half, ring an element belongs to, and where in them it lies. -/
def chunkOf (i : S4096x2048.Idx) : Fin 32 := ⟨(i 0).val / 128, by have : (i 0).val < 4096 := (i 0).isLt; omega⟩
def halfOf (i : S4096x2048.Idx) : Fin 2 := ⟨(i 1).val / 1024, by have : (i 1).val < 2048 := (i 1).isLt; omega⟩
def ringOf (i : S4096x2048.Idx) : Fin 4 := ⟨(i 1).val / 512, by have : (i 1).val < 2048 := (i 1).isLt; omega⟩
def inHalf (i : S4096x2048.Idx) : S128x1024.Idx := fun a => match a with
  | ⟨0, _⟩ => ⟨(i 0).val % 128, Nat.mod_lt _ (by decide)⟩
  | ⟨1, _⟩ => ⟨(i 1).val % 1024, Nat.mod_lt _ (by decide)⟩
def inChunk (i : S4096x2048.Idx) : S128x2048.Idx := fun a => match a with
  | ⟨0, _⟩ => ⟨(i 0).val % 128, Nat.mod_lt _ (by decide)⟩
  | ⟨1, _⟩ => ⟨(i 1).val, (i 1).isLt⟩
def inRow (i : S32x128.Idx) : S1x128.Idx := fun a => match a with
  | ⟨0, _⟩ => ⟨0, Nat.one_pos⟩
  | ⟨1, _⟩ => ⟨(i 1).val, (i 1).isLt⟩
def inSlot (i : S4x2x128x512.Idx) : S128x512.Idx := fun a => match a with
  | ⟨0, _⟩ => ⟨(i 2).val, (i 2).isLt⟩
  | ⟨1, _⟩ => ⟨(i 3).val, (i 3).isLt⟩

/-- The half of ring `r`, of lane `r`. -/
def hfP (r : Fin 4) : Fin 2 := ⟨r.val / 2, by omega⟩
def hfL (r : Fin 4) : Fin 2 := ⟨r.val % 2, by omega⟩

/-! ### Contents -/

section Values
variable (X : Dev nD → S4096x128.Idx → Elt F .f32) (W : Dev nD → S128x2048.Idx → Elt F .f32)

/-- Device `c`'s product. -/
def prodV (c : Dev nD) : S4096x2048.Idx → Elt F .f32 := fun i =>
  if chunkOf i = rel c 0 0 then prodAll (fun j => X c ((xR (chunkOf i)).emb j)) (fun j => W c (wAllR.emb j)) (inChunk i)
  else prodHalf (fun j => X c ((xR (chunkOf i)).emb j)) (fun j => W c ((wR (halfOf i)).emb j)) (inHalf i)

/-- What device `c` holds of ring `r` after `g` sums. -/
def sumV (r : Fin 4) : ℕ → Dev nD → S4096x2048.Idx → Elt F .f32
  | 0, c => prodV X W c
  | g + 1, c => fun i => FloatOps.addf (prodV X W c i) (sumV r g (src r c) i)

/-- The slot of ring `r` on device `c` once the piece of step `g` is in it. -/
def slotV (c : Dev nD) (r : Fin 4) (g : ℕ) : S4x2x128x512.Idx → Elt F .f32 := fun i =>
  sumV X W r g (src r c) ((pieceR (rel c r (g + 1)) r).emb (inSlot i))

/-- The reduced product. -/
def redV : S4096x2048.Idx → Elt F .f32 := fun i =>
  sumV X W (ringOf i) 31 (if (ringOf i).val < 2 then devAt (chunkOf i - 1) else devAt (chunkOf i + 1)) i

/-- A half chunk of contents. -/
def halfV {e : EltTy} (f : S4096x2048.Idx → Elt F e) (k : Fin 32) (h : Fin 2) : S128x1024.Idx → Elt F e := fun j => f ((halfR k h).emb j)

/-- The rows of maxima. -/
def maxV : S32x128.Idx → Elt F .f32 := fun i =>
  maxRow (halfV (redV X W) (relG (⟨(i 0).val, (i 0).isLt⟩ : Dev nD) 0 0) 0) (halfV (redV X W) (relG (⟨(i 0).val, (i 0).isLt⟩ : Dev nD) 1 0) 1) (inRow i)
def scaleV : F .f32 := scaleOf (fun j => maxV X W ((Rect.unit (s := S32x128) ![0, 0] S32x128.size Facts₀.inb_S32x128_S32x128_0_0).emb j))
/-- The quantised result, -/
def quantV : S4096x2048.Idx → Elt F .fp8e4m3 := fun i =>
  quantise (scaleV X W) (halfV (redV X W) (chunkOf i) (halfOf i)) (inHalf i)
/-- and the result. -/
def outV : S4096x2048.Idx → Elt F .f32 := fun i =>
  dequantise (scaleV X W) (halfV (quantV X W) (chunkOf i) (halfOf i)) (inHalf i)

end Values

/-! ### What is held of the buffers -/

def oP (c : Dev nD) (k : Fin 32) (r : Fin 4) (f : S4096x2048.Idx → Elt F .f32) : sProp 𝕄 :=
  ((c : Thread nD τ).loc cc0_stg2_0) ↦[(pieceR k r).set]{fullShare} f
def oG (c : Dev nD) (k : Fin 32) (r : Fin 4) : sProp 𝕄 := iprop(∃ f, oP c k r f)
def cP (c : Dev nD) (r : Fin 4) (s : Fin 2) (f : S4x2x128x512.Idx → Elt F .f32) : sProp 𝕄 :=
  ((c : Thread nD τ).loc cc0_scratch0) ↦[(slotR r s).set]{fullShare} f
def cG (c : Dev nD) (r : Fin 4) (s : Fin 2) : sProp 𝕄 := iprop(∃ f, cP c r s f)
def qP (c : Dev nD) (k : Fin 32) (h : Fin 2) (q : PosShare TreeShare) (f : S4096x2048.Idx → Elt F .fp8e4m3) : sProp 𝕄 :=
  ((c : Thread nD τ).loc cc0_scratch1) ↦[(halfR k h).set]{q} f
def qG (c : Dev nD) (k : Fin 32) (h : Fin 2) : sProp 𝕄 := iprop(∃ f, qP c k h fullShare f)
def aP (c : Dev nD) (d : Dev nD) (q : PosShare TreeShare) (f : S32x128.Idx → Elt F .f32) : sProp 𝕄 :=
  ((c : Thread nD τ).loc cc0_scratch2) ↦[(rowR d).set]{q} f
def aG (c : Dev nD) (d : Dev nD) : sProp 𝕄 := iprop(∃ f, aP c d fullShare f)

instance oP_st (c k r f) : BI.Storable (upEmb : UEmb _ 𝕄) (oP (F := F) c k r f) := by unfold oP; infer_instance
instance oG_st (c k r) : BI.Storable (upEmb : UEmb _ 𝕄) (oG (F := F) c k r) := by unfold oG; infer_instance
instance cP_st (c r s f) : BI.Storable (upEmb : UEmb _ 𝕄) (cP (F := F) c r s f) := by unfold cP; infer_instance
instance cG_st (c r s) : BI.Storable (upEmb : UEmb _ 𝕄) (cG (F := F) c r s) := by unfold cG; infer_instance
instance qP_st (c k h q f) : BI.Storable (upEmb : UEmb _ 𝕄) (qP (F := F) c k h q f) := by unfold qP; infer_instance
instance qG_st (c k h) : BI.Storable (upEmb : UEmb _ 𝕄) (qG (F := F) c k h) := by unfold qG; infer_instance
instance aP_st (c d q f) : BI.Storable (upEmb : UEmb _ 𝕄) (aP (F := F) c d q f) := by unfold aP; infer_instance
instance aG_st (c d) : BI.Storable (upEmb : UEmb _ 𝕄) (aG (F := F) c d) := by unfold aG; infer_instance

/-- What a copy lands in on device `n`. -/
def land (k : Ky) : sProp 𝕄 := match k.2 with
  | .send false r g => cG k.1 r (par g)
  | .send true r g => qG k.1 (relG k.1 r (g + 1)) (hfL r)
  | .amax i => aG k.1 (peerInv i k.1)
  | _ => iprop(emp)
instance land_st (k : Ky) : BI.Storable (upEmb : UEmb _ 𝕄) (land (F := F) k) := by
  obtain ⟨n, e⟩ := k
  unfold land
  split <;> infer_instance

/-! ### Facts that travel -/

/-- What is released on entering the kernel. -/
def first : Ev → Bool
  | .send false _ g => decide (g < 2)
  | .send true _ _ => true
  | .amax _ => true
  | _ => false
def entered (n : Dev nD) : sProp 𝕄 := bigSep (evs.filter fun e => first e = true) fun e => released ES ((n, e) : Ky) 1
/-- Device `n` is ready for the copy of step `g`. -/
def ready (n : Dev nD) (ph : Bool) (r : Fin 4) (g : ℕ) : sProp 𝕄 :=
  iprop(released ES ((n, .send ph r g) : Ky) 1 ∗ reached ER (cell (n, some (.rcv ph r (par g)))) (g / 2))
/-- The `k` devices from `c` back along ring `r` have entered. -/
def heardOf (r : Fin 4) (c : Dev nD) (k : ℕ) : sProp 𝕄 := bigSep (Finset.range k) fun j => entered ((src r)^[j] c)
/-- The credits up to `e`. -/
def credits (n : Dev nD) (ph : Bool) (r : Fin 4) (e : ℕ) : sProp 𝕄 := bigSep (Finset.range (e + 1)) fun j => ready n ph r (j + 2)

instance entered_ps (n) : BI.Persistent (entered (F := F) n) := by unfold entered; infer_instance
instance entered_st (n) : BI.Storable (upEmb : UEmb _ 𝕄) (entered (F := F) n) := by unfold entered; infer_instance
instance ready_ps (n ph r g) : BI.Persistent (ready (F := F) n ph r g) := by unfold ready; infer_instance
instance ready_st (n ph r g) : BI.Storable (upEmb : UEmb _ 𝕄) (ready (F := F) n ph r g) := by unfold ready; infer_instance
instance heardOf_ps (r c k) : BI.Persistent (heardOf (F := F) r c k) := by unfold heardOf; infer_instance
instance heardOf_st (r c k) : BI.Storable (upEmb : UEmb _ 𝕄) (heardOf (F := F) r c k) := by unfold heardOf; infer_instance
instance credits_ps (n ph r e) : BI.Persistent (credits (F := F) n ph r e) := by unfold credits; infer_instance
instance credits_st (n ph r e) : BI.Storable (upEmb : UEmb _ 𝕄) (credits (F := F) n ph r e) := by unfold credits; infer_instance

/-! ### The schedule -/

section Sched
variable (X : Dev nD → S4096x128.Idx → Elt F .f32) (W : Dev nD → S128x2048.Idx → Elt F .f32)

/-- The share a lane sends a piece at, and what it keeps. -/
def shr (r : Fin 4) : PosShare TreeShare := if r.val < 2 then PosShare.left fullShare else PosShare.right fullShare
def shrC (r : Fin 4) : PosShare TreeShare := if r.val < 2 then PosShare.right fullShare else PosShare.left fullShare

/-- What an event's payment hands its payee, -/
def payR (c : Dev nD) : Ev → sProp 𝕄
  | .bar n => entered (payer c (.bar n))
  | .credit ph r e => credits (dst r c) ph r e
  | .send false r g => iprop(cP c r (par g) (slotV X W c r g) ∗ heardOf r (src r c) (g + 1))
  | .send true r g => qP c (relG c r (g + 1)) (hfL r) fullShare (quantV X W)
  | .amax i => aP c (peerInv i c) fullShare (maxV X W)
/-- and, for a copy, its payer. -/
def payS (c : Dev nD) : Ev → sProp 𝕄
  | .send false r g => oG c (rel c r g) r
  | .send true r g => qP c (relG c r g) (hfL r) (shr r) (quantV X W)
  | .amax i => aP c c (Transfers.shareTokN fullShare i) (maxV X W)
  | _ => iprop(emp)
def isSnd : Option Ow → Bool
  | some (.snd _ _ _) => true
  | some .ams => true
  | _ => false
def payK (k : Ck) (e : Ev) : sProp 𝕄 := if isSnd k.2 = true then payS X W k.1 e else payR X W k.1 e

instance payR_st (c e) : BI.Storable (upEmb : UEmb _ 𝕄) (payR X W c e) := by
  unfold payR; split <;> infer_instance
instance payS_st (c e) : BI.Storable (upEmb : UEmb _ 𝕄) (payS X W c e) := by
  unfold payS; split <;> infer_instance
instance payK_st (k e) : BI.Storable (upEmb : UEmb _ 𝕄) (payK X W k e) := by
  unfold payK; split <;> infer_instance

/-- What a copy credits. -/
def crd : Bool → ℕ
  | false => (slotM A0 0 0).view.dmaCredit
  | true => (qM.slice (halfR 0 0) (fun _ => rfl) : Memref sig .tc .vmem S128x1024 .fp8e4m3).view.dmaCredit
def amt : Ev → ℕ
  | .bar _ => 1
  | .credit _ _ _ => 1
  | .send ph _ _ => crd ph
  | .amax _ => (aM.slice (rowR 0) (fun _ => rfl) : Memref sig .tc .vmem S1x128 .f32).view.dmaCredit
theorem amt_pos (e : Ev) : 0 < amt e := by
  cases e with
  | bar n => exact Nat.one_pos
  | credit ph r e => exact Nat.one_pos
  | send ph r g => exact match ph with
      | false => View.dmaCredit_pos _ (show 0 < S128x512.numel by decide)
      | true => View.dmaCredit_pos _ (show 0 < S128x1024.numel by decide)
  | amax i => exact View.dmaCredit_pos _ (show 0 < S1x128.numel by decide)

def Rd : Rounds.Schedule (GSem nD τ sig) Ev 𝕄 where
  duties g := Function.extend cell (fun k => dutiesK k.2) (fun _ _ => ∅) g
  amount _ _ e := amt e
  payload g _ e := Function.extend cell (fun k => payK X W k) (fun _ _ => iprop(emp)) g e
  amount_pos _ _ e _ := amt_pos e

theorem Rd_duties (k : Ck) (ρ : ℕ) : (Rd X W).duties (cell k) ρ = dutiesK k.2 ρ :=
  congrFun (cell_inj.extend_apply (fun k => dutiesK k.2) (fun _ _ => ∅) k) ρ
theorem Rd_payload (k : Ck) (ρ : ℕ) (e : Ev) : (Rd X W).payload (cell k) ρ e = payK X W k e :=
  congrFun (cell_inj.extend_apply (fun k => payK X W k) (fun _ _ => iprop(emp)) k) e
theorem Rd_amount (g : GSem nD τ sig) (ρ : ℕ) (e : Ev) : (Rd X W).amount g ρ e = amt e := rfl
theorem Rd_expect (k : Ck) (ρ : ℕ) : (Rd X W).expect (cell k) ρ = ∑ e ∈ dutiesK k.2 ρ, amt e := by
  unfold Schedule.expect Schedule.amountOf; rw [Rd_duties]; rfl

instance Rd_st (g ρ e) : BI.Storable (upEmb : UEmb _ 𝕄) ((Rd X W).payload g ρ e) := by
  by_cases h : ∃ k, cell k = g
  · obtain ⟨k, rfl⟩ := h; rw [Rd_payload]; infer_instance
  · have : (Rd X W).payload g ρ e = iprop(emp) := congrFun (Function.extend_apply' (fun k => payK X W k) (fun _ _ => iprop(emp)) g h) e
    rw [this]; infer_instance

end Sched

/-! ### What is owed, and the levels -/

def owe (c : Dev nD) (e : Ev) : CellTallies nD τ sig Ix := tallyAt (cell (tgt c e, kind e)) (some e) (amt e)
/-- What device `c` owes from time `t` on. -/
def owed (c : Dev nD) (t : ℕ) : CellTallies nD τ sig Ix := ∑ e ∈ evs.filter (fun e => t ≤ time e), owe c e

theorem owed_pay (c : Dev nD) {e : Ev} (h : Ok e) : owed c (time e) = owed c (time e + 1) + owe c e := by
  have : evs.filter (fun e' => time e ≤ time e') = insert e (evs.filter (fun e' => time e + 1 ≤ time e')) := by
    ext e'
    simp only [Finset.mem_filter, Finset.mem_insert, mem_evs]
    constructor
    · rintro ⟨h1, h2⟩
      by_cases h3 : time e = time e'
      · exact .inl (time_inj h1 h h3.symm)
      · exact .inr ⟨h1, by omega⟩
    · rintro (h1 | ⟨h1, h2⟩)
      · rw [h1]; exact ⟨h, Nat.le_refl _⟩
      · exact ⟨h1, by omega⟩
  unfold owed
  rw [this, Finset.sum_insert, add_comm]
  simp only [Finset.mem_filter, not_and]; intro _; omega

theorem owed_skip (c : Dev nD) {t t' : ℕ} (hle : t ≤ t') (h : ∀ e, Ok e → ¬ (t ≤ time e ∧ time e < t')) : owed c t = owed c t' := by
  have : evs.filter (fun e => t ≤ time e) = evs.filter (fun e => t' ≤ time e) := Finset.filter_congr fun e he => by
    constructor
    · intro h2; by_contra hn; exact h e ((mem_evs e).mp he) ⟨h2, by omega⟩
    · intro h2; omega
  unfold owed; rw [this]

theorem owed_end (c : Dev nD) : owed c 432 = 0 := by
  unfold owed
  rw [Finset.sum_eq_zero]
  intro e he
  simp only [Finset.mem_filter, mem_evs] at he
  have := time_lt he.1; omega

def L (g : GSem nD τ sig) : Finset Ix := if g.1.2 = .tc then insert none (evs.image some) else ∅
def lv (g : GSem nD τ sig) : Ix → ℕ
  | none => 0
  | some e => time e
theorem L_of_ne (g : GSem nD τ sig) (h : g.1.2 ≠ .tc) : L g = ∅ := if_neg h
theorem L_cell (k : Ck) : L (cell k) = insert none (evs.image some) := if_pos rfl

theorem owed_at {c : Dev nD} {t : ℕ} {g : GSem nD τ sig} {u : Ix} (h : 0 < owed c t g u) :
    ∃ e, Ok e ∧ t ≤ time e ∧ g = cell (tgt c e, kind e) ∧ u = some e := by
  unfold owed at h
  rw [Finset.sum_apply, Finsupp.finset_sum_apply] at h
  obtain ⟨e, he, hp⟩ := Finset.exists_ne_zero_of_sum_ne_zero (Nat.pos_iff_ne_zero.mp h)
  simp only [Finset.mem_filter, mem_evs] at he
  refine ⟨e, he.1, he.2, ?_⟩
  unfold owe at hp
  rw [tallyAt_apply] at hp
  by_contra hn
  exact hp (if_neg hn)

/-- A wait at an event's index, or at none, while nothing at or below its level is owed. -/
theorem mayWait (c : Dev nD) (sm : SemLoc sig) (u : Ix) (t : ℕ) (hu : u ∈ insert none (evs.image some)) (h : lv ((c : Thread nD τ), sm) u < t) :
    (levAts L lv : sProp 𝕄) ⊢ MayWait (c : Thread nD τ) sm u (owed c t) :=
  MayOwe.of_cut (L := L) (lev := lv) (lv ((c : Thread nD τ), sm) u)
    (fun p hp => by rw [Finset.mem_singleton.mp hp]; show u ∈ L _; unfold L; rw [if_pos rfl]; exact hu)
    (fun g u hg => by
      obtain ⟨e, h1, h2, rfl, rfl⟩ := owed_at hg
      rw [L_cell]; exact Finset.mem_insert_of_mem (Finset.mem_image_of_mem _ ((mem_evs e).mpr h1)))
    (fun p hp => by rw [Finset.mem_singleton.mp hp])
    (fun g u hg => by
      obtain ⟨e, h1, h2, rfl, rfl⟩ := owed_at hg
      show _ < time e; omega)

end Cert.KernelIdeal.Px

end
-- ==== Proof.Prims.lean ====
/-
  The rules the kernel's steps are proved with: a triple over the invariants, its composition, and one rule for each
  kind of event — a copy sent, a signal, a wait for a copy's end, a wait on a semaphore several events pay.
-/
module

public import proofs.«01_k».proof.Proof.Sched

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

variable (X : Dev nD → S4096x128.Idx → Elt F .f32) (W : Dev nD → S128x2048.Idx → Elt F .f32)
variable (κ : Ck → ℕ) (ν : Ky → ℕ)

theorem sep_sdiff {I : Type} [DecidableEq I] {s t : Finset I} (h : t ⊆ s) (Φ : I → sProp 𝕄) : bigSep s Φ = iprop(bigSep t Φ ∗ bigSep (s \ t) Φ) :=
  bigSep_sdiff_split h
theorem sep_erase {I : Type} [DecidableEq I] {s : Finset I} {i : I} (h : i ∈ s) (Φ : I → sProp 𝕄) : bigSep s Φ = iprop(Φ i ∗ bigSep (s.erase i) Φ) :=
  bigSep_erase h
theorem sep_elim {I : Type} [DecidableEq I] {s : Finset I} {i : I} (h : i ∈ s) (Φ : I → sProp 𝕄) : bigSep s Φ ⊢ Φ i :=
  bigSep_elim h

/-- The events that are copies, at each device. -/
def keys : Finset Ky := Finset.univ ×ˢ evs.filter (fun e => isDma e = true)
theorem mem_keys {n : Dev nD} {e : Ev} (h : Ok e) (hd : isDma e = true) : ((n, e) : Ky) ∈ keys := by
  unfold keys; rw [Finset.mem_product, Finset.mem_filter]
  exact ⟨Finset.mem_univ _, (mem_evs e).mpr h, hd⟩

/-- The invariants, the levels, and that every cell has reached its first round. -/
def Cx : sProp 𝕄 :=
  iprop(levAts L lv ∗ (bigSep Finset.univ fun k : Ck => cellInv ER (Rd X W) (κ k) (cell k))
    ∗ (bigSep keys fun k => slotInv ES (ν k) k (land k)) ∗ (bigSep Finset.univ fun k : Ck => reached ER (cell k) 0))
instance Cx_ps : BI.Persistent (Cx X W κ ν) := by unfold Cx; infer_instance

theorem Cx_lev : Cx X W κ ν ⊢ levAts L lv := by unfold Cx; iintro ⟨H, -⟩; iexact H
theorem Cx_inv (k : Ck) : Cx X W κ ν ⊢ cellInv ER (Rd X W) (κ k) (cell k) := by
  have h : (bigSep Finset.univ fun k : Ck => (cellInv ER (Rd X W) (κ k) (cell k) : sProp 𝕄)) ⊢ cellInv ER (Rd X W) (κ k) (cell k) := bigSep_elim (Finset.mem_univ k)
  unfold Cx; iintro ⟨-, H, -⟩
  iapply h; iexact H
theorem Cx_slot {k : Ky} (hk : k ∈ keys) : Cx X W κ ν ⊢ slotInv ES (ν k) k (land k) := by
  have h : (bigSep keys fun k : Ky => (slotInv ES (ν k) k (land k) : sProp 𝕄)) ⊢ slotInv ES (ν k) k (land k) := bigSep_elim hk
  unfold Cx; iintro ⟨-, -, H, -⟩
  iapply h; iexact H
theorem Cx_reached (k : Ck) : Cx X W κ ν ⊢ reached ER (cell k) 0 := by
  have h : (bigSep Finset.univ fun k : Ck => (reached ER (cell k) 0 : sProp 𝕄)) ⊢ reached ER (cell k) 0 := bigSep_elim (Finset.mem_univ k)
  unfold Cx; iintro ⟨-, -, -, H⟩
  iapply h; iexact H

abbrev 𝒱₀ : Variants := Variants.none

/-- The weakest precondition at device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- From `P` the program `p` ends in `P'`, under the invariants. -/
def Tri (c : Dev nD) (P : sProp 𝕄) (p : Pg F) (P' : sProp 𝕄) : Prop :=
  ∀ Q : PUnit → sProp 𝕄, iprop(Cx X W κ ν ∗ P ∗ (P' -∗ Q ⟨⟩)) ⊢ WP c p Q

variable {X W κ ν}
variable {c : Dev nD} {P P' P₁ P₂ R Y : sProp (MT nD τ sig Ix (Elt F) ℕ UU ℕ)} {p q : Pg F}

theorem Tri.seq (h : Tri X W κ ν c P p R) (h' : Tri X W κ ν c R q P') : Tri X W κ ν c P (p >>= fun _ => q) P' := by
  intro Q
  unfold WP; rw [wp_bind]
  iintro ⟨#HC, HP, HQ⟩
  iapply (h _)
  isplitr; · iexact HC
  isplitl [HP]; · iexact HP
  iintro HR
  iapply (h' Q)
  isplitr; · iexact HC
  isplitl [HR]; · iexact HR
  iexact HQ

theorem Tri.pre (h : Tri X W κ ν c P₁ p P') (hp : iprop(Cx X W κ ν ∗ P) ⊢ (|={Set.univ}=> P₁ : sProp 𝕄)) : Tri X W κ ν c P p P' := by
  intro Q
  iintro ⟨#HC, HP, HQ⟩
  imod hp $$ [HP] with HP
  · isplitr; · iexact HC
    iexact HP
  iapply (h Q)
  isplitr; · iexact HC
  isplitl [HP] <;> iassumption

theorem Tri.post (h : Tri X W κ ν c P p P₁) (hp : P₁ ⊢ P') : Tri X W κ ν c P p P' := by
  intro Q
  iintro ⟨#HC, HP, HQ⟩
  iapply (h Q)
  isplitr; · iexact HC
  isplitl [HP]; · iexact HP
  iintro H
  iapply HQ
  iapply hp; iexact H

theorem Tri.conseq (h : Tri X W κ ν c P₁ p P₂) (h1 : P ⊢ P₁) (h2 : P₂ ⊢ P') : Tri X W κ ν c P p P' :=
  (h.pre (by iintro ⟨-, H⟩; imodintro; iapply h1; iexact H)).post h2

theorem Tri.frame (h : Tri X W κ ν c P p P') : Tri X W κ ν c iprop(P ∗ Y) p iprop(P' ∗ Y) := by
  intro Q
  iintro ⟨#HC, ⟨HP, HY⟩, HQ⟩
  iapply (h Q)
  isplitr; · iexact HC
  isplitl [HP]; · iexact HP
  iintro H
  iapply HQ
  isplitl [H] <;> iassumption

theorem Tri.skip : Tri X W κ ν c P (pure ⟨⟩) P := by
  intro Q
  iintro ⟨-, HP, HQ⟩
  simp only [Prog.pure_eq_ret, wp_ret]
  imodintro
  iapply HQ; iexact HP

theorem Tri.iter {f : ℕ → Pg F} {I : ℕ → sProp 𝕄} (s n : ℕ) (h : ∀ i, s ≤ i → i < s + n → Tri X W κ ν c (I i) (f i) (I (i + 1))) :
    Tri X W κ ν c (I s) (loop f s n) (I (s + n)) := by
  induction n generalizing s with
  | zero => exact (Tri.skip : Tri X W κ ν c (I s) (pure ⟨⟩) (I s))
  | succ n ih =>
    have := ih (s + 1) fun i h1 h2 => h i (by omega) (by omega)
    rw [show s + 1 + n = s + (n + 1) by omega] at this
    exact Tri.seq (q := loop f (s + 1) n) (h s (Nat.le_refl s) (by omega)) this

/-! ### What is owed -/

/-- Device `c` owes what it owes from time `t` on. -/
def ow (c : Dev nD) (t : ℕ) : sProp 𝕄 := iprop(∃ Wt, owes (c : Thread nD τ) (owed c t) Wt)

theorem ow_skip (c : Dev nD) {t t' : ℕ} (hle : t ≤ t') (h : ∀ e, Ok e → ¬ (t ≤ time e ∧ time e < t')) : (ow c t : sProp 𝕄) = ow c t' := by
  unfold ow; rw [owed_skip c hle h]

/-! ### The events -/

theorem payK_snd {e : Ev} (h : isDma e = true) : payK X W (c, skind e) e = payS X W c e := by
  cases e with
  | send ph r g => exact if_pos rfl
  | amax i => exact if_pos rfl
  | bar n => cases h
  | credit ph r e => cases h
theorem payK_rcv (e : Ev) : payK X W (c, kind e) e = payR X W c e := by
  cases e with
  | send ph r g => exact if_neg Bool.false_ne_true
  | amax i => exact if_neg Bool.false_ne_true
  | bar n => exact if_neg Bool.false_ne_true
  | credit ph r e => exact if_neg Bool.false_ne_true

/-- A copy sent: the place it lands in taken, both ends paid. -/
theorem tr_send {e : Ev} (hok : Ok e) (hdm : isDma e = true) (n : Dev nD) (hn : n = tgt c e) {s : Shape} {et : EltTy}
    {src : Memref sig .tc .vmem s et} {dst : Memref sig (Dev.tc n : Thread nD τ).2.kind .vmem s et} {sS sem : SemLoc sig}
    (hS : sS = semOf (skind e)) (hR : sem = semOf (kind e))
    {hsc : dst.view.ref.isScScratch = false} {hsrc : src.view.WordExact} {hdst : dst.view.WordExact}
    {hsem : DmaTarget.Typed .vmem sem (.remote (Dev.tc n : Thread nD τ) dst sS hsc)}
    {qs : PosShare TreeShare} {fs : Buf (Elt F) (src.view.loc (c : Thread nD τ))} {Z : sProp 𝕄} {t' : ℕ} (ht : t' = time e + 1)
    (hN : dst.view.amount sem = amt e)
    (hland : land ((n, e) : Ky) ⊢ iprop(∃ fd : Buf (Elt F) (dst.view.loc (Dev.tc n : Thread nD τ)), dst.view.loc (Dev.tc n : Thread nD τ) ↦[dst.view.set]{fullShare} fd))
    (hpay₁ : (src.view.loc (c : Thread nD τ) ↦[src.view.set]{qs} fs) ⊢ payS X W c e)
    (hpay₂ : ∀ fd : Buf (Elt F) (dst.view.loc (Dev.tc n : Thread nD τ)),
      iprop((dst.view.loc (Dev.tc n : Thread nD τ) ↦[dst.view.set]{fullShare} (dst.view.write (Elt F) fd (src.view.read (Elt F) fs) Finset.univ)) ∗ Z) ⊢ payR X W n e) :
    Tri X W κ ν c
      iprop((src.view.loc (c : Thread nD τ) ↦[src.view.set]{qs} fs) ∗ Z ∗ ow c (time e)
        ∗ dutyTok ER (cell (c, skind e)) (rnd e) e ∗ dutyTok ER (cell (tgt c e, kind e)) (rnd e) e ∗ writeTok ES ((tgt c e, e) : Ky) 1
        ∗ reached ER (cell (c, skind e)) (rnd e) ∗ reached ER (cell (tgt c e, kind e)) (rnd e) ∗ released ES ((tgt c e, e) : Ky) 1)
      (Prog.lift (.enqueueDma src (.remote (Dev.tc n : Thread nD τ) dst sS hsc) sem hsrc hdst hsem))
      iprop(cred (tallyAt (cell (c, skind e)) none (amt e)) ∗ ow c t') := by
  subst hn hS hR ht
  intro Q
  unfold ow
  iintro ⟨#HC, ⟨Hs, HZ, ⟨%Wt, HO⟩, Ht1, Ht2, Hw, #Hr1, #Hr2, #Hrel⟩, HQ⟩
  ihave #HI1 := (Cx_inv X W κ ν (c, skind e)) $$ HC
  ihave #HI2 := (Cx_inv X W κ ν (tgt c e, kind e)) $$ HC
  ihave #HIs := (Cx_slot X W κ ν (mem_keys (n := tgt c e) hok hdm)) $$ HC
  imod (slot_take ES (k := ((tgt c e, e) : Ky)) (Set.mem_univ _) 1) $$ [Hw] with Hd
  · isplitr; · iexact HIs
    isplitr; · iexact Hrel
    iexact Hw
  ihave Hd' := hland $$ Hd
  icases Hd' with ⟨%fd, Hd⟩
  unfold Prog.lift
  iapply (Rounds.wp_send_pointsTo_with 𝒱₀ ER (Rd X W) (c : Thread nD τ) none (sS := semOf (skind e)) (sem := semOf (kind e)) (κ₁ := κ (c, skind e)) (κ₂ := κ (tgt c e, kind e))
    (r₁ := rnd e) (r₂ := rnd e) (d₁ := e) (d₂ := e) (fd := fd) (F := Z)
    (by have := Rd_duties X W (c, skind e) (rnd e); unfold cell at this; rw [this]; exact mem_sduties hok hdm)
    (by have := Rd_duties X W (tgt c e, kind e) (rnd e); unfold cell at this; rw [this]; exact mem_duties hok)
    (some e) none (amt e) hN rfl rfl (owed c (time e + 1)) (owed_pay c hok) (W := Wt)
    (by have := Rd_payload X W (c, skind e) (rnd e) e; unfold cell at this; rw [this, payK_snd hdm]; exact hpay₁)
    (by have := Rd_payload X W (tgt c e, kind e) (rnd e) e; unfold cell at this; rw [this, payK_rcv]; exact hpay₂ fd)) $$ [Hs HZ HO Ht1 Ht2 Hd]
  · isplitr; · iexact HI1
    isplitr; · iexact HI2
    isplitl [Hs]; · iexact Hs
    isplitl [Hd HZ]
    · isplitl [Hd] <;> iassumption
    isplitl [HO]; · iexact HO
    isplitl [Ht1]; · iexact Ht1
    isplitr; · iexact Hr1
    isplitl [Ht2]; · iexact Ht2
    iexact Hr2
  iintro ⟨Hc, HO⟩
  rw [wp_ret]
  imodintro
  iapply HQ
  isplitl [Hc]; · iexact Hc
  iexists Wt; iexact HO

/-- A signal, paying an event that is no copy. -/
theorem tr_signal {e : Ev} (hok : Ok e) (n : Dev nD) (hn : n = tgt c e) {sm : Sem sig} (hR : SemLoc.reg sm = semOf (kind e)) (ha : amt e = 1) {t' : ℕ} (ht : t' = time e + 1) :
    Tri X W κ ν c
      iprop(ow c (time e) ∗ dutyTok ER (cell (tgt c e, kind e)) (rnd e) e ∗ reached ER (cell (tgt c e, kind e)) (rnd e) ∗ payR X W (tgt c e) e)
      (semSignalWord n sm 1#32)
      (ow c t') := by
  subst hn ht
  intro Q
  unfold ow
  iintro ⟨#HC, ⟨⟨%Wt, HO⟩, Ht, #Hr, Hp⟩, HQ⟩
  ihave #HI := (Cx_inv X W κ ν (tgt c e, kind e)) $$ HC
  have e1 : cell (tgt c e, kind e) = ((tgt c e : Thread nD τ), SemLoc.reg sm) := by unfold cell; rw [hR]
  have hpay := (Rd_payload X W (tgt c e, kind e) (rnd e) e).trans (payK_rcv e)
  have hdut := Rd_duties X W (tgt c e, kind e) (rnd e)
  have hO := owed_pay c hok
  unfold owe at hO
  rw [e1] at hpay hdut hO ⊢
  rw [ha] at hO
  simp only [semSignalWord]
  iapply (Rounds.wp_signal 𝒱₀ ER (Rd X W) (c : Thread nD τ) none (dst := (tgt c e : Thread nD τ)) (κ := κ (tgt c e, kind e)) (r := rnd e) (d := e) (k' := 1)
      (by rw [hdut]; exact mem_duties hok) ha (some e) (owed c (time e + 1)) hO) $$ [HO Ht Hp]
  · isplitr; · iexact HI
    isplitl [HO]; · iexact HO
    isplitl [Ht]; · iexact Ht
    isplitl [Hp]; · rw [hpay]; iexact Hp
    iexact Hr
  iintro HO
  rw [wp_ret]
  imodintro
  iapply HQ
  iexists Wt; iexact HO

/-- A wait for the one duty of a round. -/
theorem tr_wait_one {k : Option Ow} {ρ : ℕ} {e : Ev} (hD : dutiesK k ρ = {e}) {sm : SemLoc sig} (hsm : sm = semOf k) {k' : ℕ} (hk : k' = amt e)
    {w : TpuEff nD τ sig (Elt F) Λ₀ .tc PUnit} (hw : ∀ K : PUnit → sProp 𝕄, wpE (defs₀ (F := F)) 𝒱₀ (c : Thread nD τ) none Set.univ w K = waitSpec (c : Thread nD τ) Set.univ sm k' K)
    (u : Ix) (t : ℕ) (hu : u ∈ insert none (evs.image some)) (hlt : lv (cell (c, k)) u < t) :
    Tri X W κ ν c
      iprop(cred (tallyAt (cell (c, k)) u (amt e)) ∗ ow c t ∗ atPos ER (cell (c, k)) ρ ∅ 0)
      (Prog.lift w)
      iprop(ow c t ∗ atPos ER (cell (c, k)) (ρ + 1) ∅ 0 ∗ reached ER (cell (c, k)) (ρ + 1) ∗ payK X W (c, k) e) := by
  subst hsm hk
  intro Q
  unfold ow Prog.lift
  iintro ⟨#HC, ⟨Hc, ⟨%Wt, HO⟩, Hat⟩, HQ⟩
  ihave #HI := (Cx_inv X W κ ν (c, k)) $$ HC
  ihave #Hlev := (Cx_lev X W κ ν) $$ HC
  iapply (Rounds.wp_wait_rest_token 𝒱₀ ER (Rd X W) (c : Thread nD τ) none (κ := κ (c, k)) (sm := semOf k)
      hw (Set.mem_univ _) u (O := owed c t) (W := Wt) (R := ρ) (m := 0) (T := ∅)
      (by have := Rd_expect X W (c, k) ρ; unfold cell at this; rw [this, hD, Finset.sum_singleton, Nat.zero_add])) $$ [Hc HO Hat]
  · isplitr; · iexact HI
    isplitl [Hc]; · iexact Hc
    isplitl [HO]; · iexact HO
    isplitr; · iapply (mayWait c (semOf k) u t hu hlt); iexact Hlev
    iexact Hat
  iintro ⟨HO, Hat, #Hr, Hpay⟩
  rw [wp_ret]
  imodintro
  iapply HQ
  isplitl [HO]; · iexists _; iexact HO
  isplitl [Hat]; · iexact Hat
  isplitr; · iexact Hr
  have e1 : bigSep ((Rd X W).duties ((c : Thread nD τ), semOf k) ρ \ ∅) (fun d => (Rd X W).payload ((c : Thread nD τ), semOf k) ρ d) = payK X W (c, k) e := by
    have h1 := Rd_duties X W (c, k) ρ; have h2 := Rd_payload X W (c, k) ρ e; unfold cell at h1 h2
    rw [h1, hD, Finset.sdiff_empty, bigSep_singleton, h2]
  iapply (Entails.of_eq e1); iexact Hpay

/-- Where device `c` stands on a semaphore several events pay, after `i` waits. -/
def mp (X : Dev nD → S4096x128.Idx → Elt F .f32) (W : Dev nD → S128x2048.Idx → Elt F .f32) (c : Dev nD) (k : Option Ow) (a i : ℕ) : sProp 𝕄 :=
  if i = (dutiesK k 0).card then iprop(atPos ER (cell (c, k)) 1 ∅ 0 ∗ bigSep (dutiesK k 0) fun e => payK X W (c, k) e)
  else iprop(∃ T : Finset Ev, ⌜T ⊆ dutiesK k 0 ∧ (a = 1 → i ≤ T.card)⌝ ∗ atPos ER (cell (c, k)) 0 T (a * i) ∗ bigSep T fun e => payK X W (c, k) e)

theorem mp_zero {k : Option Ow} {a : ℕ} (h : (dutiesK k 0).card ≠ 0) : atPos ER (cell (c, k)) 0 ∅ 0 ⊢ mp X W c k a 0 := by
  unfold mp; rw [if_neg (Ne.symm h)]
  iintro H
  iexists ∅
  isplitr; · ipureintro; exact ⟨Finset.empty_subset _, fun _ => Nat.zero_le _⟩
  isplitl [H]; · rw [Nat.mul_zero]; iexact H
  rw [bigSep_empty]; iempintro

theorem tr_wait_multi {k : Option Ow} {a i : ℕ} (ha : ∀ e ∈ dutiesK k 0, amt e = a) (hi : i < (dutiesK k 0).card) {sm : SemLoc sig} (hsm : sm = semOf k)
    {w : TpuEff nD τ sig (Elt F) Λ₀ .tc PUnit} (hw : ∀ K : PUnit → sProp 𝕄, wpE (defs₀ (F := F)) 𝒱₀ (c : Thread nD τ) none Set.univ w K = waitSpec (c : Thread nD τ) Set.univ sm a K)
    (u : Ix) (t : ℕ) (hu : u ∈ insert none (evs.image some)) (hlt : lv (cell (c, k)) u < t) :
    Tri X W κ ν c
      iprop(cred (tallyAt (cell (c, k)) u a) ∗ ow c t ∗ mp X W c k a i)
      (Prog.lift w)
      iprop(ow c t ∗ mp X W c k a (i + 1)) := by
  subst hsm
  have hexp : (Rd X W).expect ((c : Thread nD τ), semOf k) 0 = a * (dutiesK k 0).card := by
    have := Rd_expect X W (c, k) 0; unfold cell at this
    rw [this, Finset.sum_congr rfl ha, Finset.sum_const, smul_eq_mul, mul_comm]
  have hdut : (Rd X W).duties ((c : Thread nD τ), semOf k) 0 = dutiesK k 0 := Rd_duties X W (c, k) 0
  have hpay : ∀ S : Finset Ev, bigSep S (fun d => (Rd X W).payload ((c : Thread nD τ), semOf k) 0 d) = bigSep S (fun e => payK X W (c, k) e) := fun S =>
    bigSep_congr fun e _ => Rd_payload X W (c, k) 0 e
  intro Q
  unfold ow Prog.lift
  iintro ⟨#HC, ⟨Hc, ⟨%Wt, HO⟩, Hmp⟩, HQ⟩
  ihave #HI := (Cx_inv X W κ ν (c, k)) $$ HC
  ihave #Hlev := (Cx_lev X W κ ν) $$ HC
  have e0 : mp X W c k a i = iprop(∃ T : Finset Ev, ⌜T ⊆ dutiesK k 0 ∧ (a = 1 → i ≤ T.card)⌝ ∗ atPos ER (cell (c, k)) 0 T (a * i) ∗ bigSep T fun e => payK X W (c, k) e) := if_neg (by omega)
  ihave Hmp := (Entails.of_eq e0) $$ Hmp
  icases Hmp with ⟨%T, %hT, Hat, Hpays⟩
  by_cases hl : i + 1 = (dutiesK k 0).card
  · have e1 : mp X W c k a (i + 1) = iprop(atPos ER (cell (c, k)) 1 ∅ 0 ∗ bigSep (dutiesK k 0) fun e => payK X W (c, k) e) := if_pos hl
    iapply (Rounds.wp_wait_rest_token 𝒱₀ ER (Rd X W) (c : Thread nD τ) none (κ := κ (c, k)) (sm := semOf k)
        hw (Set.mem_univ _) u (O := owed c t) (W := Wt) (R := 0) (m := a * i) (T := T)
        (by rw [hexp, ← hl, Nat.mul_add, Nat.mul_one])) $$ [Hc HO Hat]
    · isplitr; · iexact HI
      isplitl [Hc]; · iexact Hc
      isplitl [HO]; · iexact HO
      isplitr; · iapply (mayWait c (semOf k) u t hu hlt); iexact Hlev
      iexact Hat
    iintro ⟨HO, Hat, -, Hpay⟩
    rw [wp_ret]
    imodintro
    iapply HQ
    isplitl [HO]; · iexists _; iexact HO
    iapply (Entails.of_eq e1.symm)
    isplitl [Hat]; · iexact Hat
    iapply (Entails.of_eq (sep_sdiff hT.1 _).symm)
    isplitl [Hpays]; · iexact Hpays
    iapply (Entails.of_eq (show bigSep ((Rd X W).duties ((c : Thread nD τ), semOf k) 0 \ T) (fun d => (Rd X W).payload ((c : Thread nD τ), semOf k) 0 d) = bigSep (dutiesK k 0 \ T) (fun e => payK X W (c, k) e) by rw [hdut, hpay]))
    iexact Hpay
  · have e1 : mp X W c k a (i + 1) = iprop(∃ T : Finset Ev, ⌜T ⊆ dutiesK k 0 ∧ (a = 1 → i + 1 ≤ T.card)⌝ ∗ atPos ER (cell (c, k)) 0 T (a * (i + 1)) ∗ bigSep T fun e => payK X W (c, k) e) := if_neg hl
    iapply (Rounds.wp_wait 𝒱₀ ER (Rd X W) (c : Thread nD τ) none (κ := κ (c, k)) (sm := semOf k)
        hw (Set.mem_univ _) (cr := Finsupp.single u a) (O := owed c t) (W := Wt) {(semOf k, u)} (R := 0) (m := a * i) (T := T)
        (by rw [Util.total_single]) (image_single_subset _ _ _)) $$ [Hc HO Hat]
    · isplitr; · iexact HI
      isplitl [Hc]; · iexact Hc
      isplitl [HO]; · iexact HO
      isplitr; · iapply (mayWait c (semOf k) u t hu hlt); iexact Hlev
      iexact Hat
    iintro %S ⟨%hS, HO, Hat, Hpay⟩
    rw [wp_ret]
    imodintro
    iapply HQ
    isplitl [HO]; · iexists _; iexact HO
    rw [hdut, hexp] at hS
    iapply (Entails.of_eq e1.symm)
    iexists S
    isplitr
    · ipureintro
      refine ⟨hS.2.1, fun h1 => ?_⟩
      have h2 := hS.2.2
      rw [h1, Nat.one_mul, Nat.one_mul, Finset.card_sdiff_of_subset hS.2.1] at h2
      have := Finset.card_le_card hS.2.1
      omega
    isplitl [Hat]; · rw [Nat.mul_add, Nat.mul_one]; iexact Hat
    iapply (Entails.of_eq (sep_sdiff hS.1 _).symm)
    isplitl [Hpays]; · iexact Hpays
    iapply (Entails.of_eq (hpay _)); iexact Hpay

theorem rect_ne {s : Shape} (r : Rect s) (h : ∀ a, 0 < r.shape.size a) : r.set.Nonempty :=
  ⟨r.emb (fun a => ⟨0, h a⟩), by rw [← Rect.map_emb_univ]; exact Finset.mem_map_of_mem _ (Finset.mem_univ _)⟩

/-- What is released. -/
theorem fupd_release {n : Dev nD} {e : Ev} (hok : Ok e) (hdm : isDma e = true) :
    iprop(Cx X W κ ν ∗ readerAt ES ((n, e) : Ky) 0 ∗ land ((n, e) : Ky)) ⊢ (|={Set.univ}=> released ES ((n, e) : Ky) 1 : sProp 𝕄) := by
  have hfalse : iprop(land ((n, e) : Ky) ∗ land ((n, e) : Ky)) ⊢ (False : sProp 𝕄) := by
    cases e with
    | send ph r g => cases ph
                     · exact slot_slot_false (ℓ := (n : Thread nD τ).loc cc0_scratch0) (rect_ne (slotR r (par g)) (show ∀ a, 0 < S1x1x128x512.size a by decide))
                     · exact slot_slot_false (ℓ := (n : Thread nD τ).loc cc0_scratch1) (rect_ne (halfR (relG n r (g + 1)) (hfL r)) (show ∀ a, 0 < S128x1024.size a by decide))
    | amax i => exact slot_slot_false (ℓ := (n : Thread nD τ).loc cc0_scratch2) (rect_ne (rowR (peerInv i n)) (show ∀ a, 0 < S1x128.size a by decide))
    | bar n => cases hdm
    | credit ph r e => cases hdm
  iintro ⟨#HC, Hr, Hl⟩
  ihave #HIs := (Cx_slot X W κ ν (mem_keys (n := n) hok hdm)) $$ HC
  imod (slot_release ES (k := ((n, e) : Ky)) (Set.mem_univ _) hfalse 0) $$ [Hr Hl] with ⟨-, H⟩
  · isplitr; · iexact HIs
    isplitl [Hr] <;> iassumption
  imodintro
  iexact H

end Cert.KernelIdeal.Px

end
-- ==== Proof.Rings.lean ====
/-
  One ring of either phase, before each of its steps: what it waits with, what it pays, and the rules for its receipt,
  its credit returned, its credit taken and its own copy's end.
-/
module

public import proofs.«01_k».proof.Proof.Prims
public import Idealize.SL.BI.BigOpNat

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

theorem Tri.framed {X : Dev nD → S4096x128.Idx → Elt F .f32} {W : Dev nD → S128x2048.Idx → Elt F .f32} {κ : Ck → ℕ} {ν : Ky → ℕ} {c : Dev nD} {P P' : sProp 𝕄} {p : Pg F}
    (h : Tri X W κ ν c P p P') (Y : sProp 𝕄) : Tri X W κ ν c iprop(P ∗ Y) p iprop(P' ∗ Y) := Tri.frame h

theorem Tri.seqw {X : Dev nD → S4096x128.Idx → Elt F .f32} {W : Dev nD → S128x2048.Idx → Elt F .f32} {κ : Ck → ℕ} {ν : Ky → ℕ} {c : Dev nD} {P P' : sProp 𝕄} {p q : Pg F}
    (R : sProp 𝕄) (h : Tri X W κ ν c P p R) (h' : Tri X W κ ν c R q P') : Tri X W κ ν c P (p >>= fun _ => q) P' := Tri.seq h h'

/-! ### Times -/

/-- No event is paid at a time that would be a credit's or a copy's beyond the last. -/
def Okw : Ev → Prop
  | .bar _ => True
  | .credit false r e => e ≤ 30
  | .credit true r e => e ≤ 15
  | .send false r g => g ≤ 31
  | .send true r g => g ≤ 16
  | .amax i => i < 31
theorem Okw_of {e : Ev} (h : Ok e) : Okw e := by
  have hl := len_le; have hlt := len_true
  cases e with
  | bar n => trivial
  | credit ph r e => simp only [Ok] at h; cases ph
                     · have := hl false r; simp only [Okw]; omega
                     · have := hlt r; simp only [Okw]; omega
  | send ph r e => simp only [Ok] at h; cases ph
                   · have := hl false r; simp only [Okw]; omega
                   · have := hlt r; simp only [Okw]; omega
  | amax i => exact h

theorem timew_inj {a b : Ev} (ha : Okw a) (hb : Okw b) (h : time a = time b) : a = b := by
  have key : ∀ {r r' : Fin 4} {e e' : ℕ}, 8 * e + 2 * r.val = 8 * e' + 2 * r'.val → r = r' ∧ e = e' := by
    intro r r' e e' h
    have h1 := r.isLt; have h2 := r'.isLt
    exact ⟨Fin.ext (by omega), by omega⟩
  cases a with
  | bar n => cases b with
    | bar n' => cases n <;> cases n' <;> simp [time] at h ⊢
    | credit ph r e => cases ph <;> cases n <;> simp only [time, base, if_true, if_false, Bool.false_eq_true] at h <;> omega
    | send ph r e => cases ph <;> cases n <;> simp only [time, base, if_true, if_false, Bool.false_eq_true] at h <;> omega
    | amax i => cases n <;> simp only [time, base, if_true, if_false, Bool.false_eq_true] at h <;> omega
  | credit ph r e => cases b with
    | bar n => cases ph <;> cases n <;> simp only [time, base, if_true, if_false, Bool.false_eq_true] at h <;> omega
    | credit ph' r' e' =>
      cases ph <;> cases ph' <;> simp only [time, base, Okw] at h ha hb
      · obtain ⟨rfl, h4⟩ := key (show 8 * (e + 1) + 2 * r.val = 8 * (e' + 1) + 2 * r'.val by omega)
        rw [show e = e' by omega]
      · omega
      · omega
      · obtain ⟨rfl, h4⟩ := key (show 8 * (e + 1) + 2 * r.val = 8 * (e' + 1) + 2 * r'.val by omega)
        rw [show e = e' by omega]
    | send ph' r' e' => cases ph <;> cases ph' <;> simp only [time, base, Okw] at h ha hb <;> omega
    | amax i => cases ph <;> simp only [time, base, Okw] at h ha hb <;> omega
  | send ph r e => cases b with
    | bar n => cases ph <;> cases n <;> simp only [time, base, if_true, if_false, Bool.false_eq_true] at h <;> omega
    | send ph' r' e' =>
      cases ph <;> cases ph' <;> simp only [time, base, Okw] at h ha hb
      · obtain ⟨rfl, rfl⟩ := key (show 8 * e + 2 * r.val = 8 * e' + 2 * r'.val by omega)
        rfl
      · omega
      · omega
      · obtain ⟨rfl, rfl⟩ := key (show 8 * e + 2 * r.val = 8 * e' + 2 * r'.val by omega)
        rfl
    | credit ph' r' e' => cases ph <;> cases ph' <;> simp only [time, base, Okw] at h ha hb <;> omega
    | amax i => cases ph <;> simp only [time, base, Okw] at h ha hb <;> omega
  | amax i => cases b with
    | bar n => cases n <;> simp only [time, base, if_true, if_false, Bool.false_eq_true] at h <;> omega
    | credit ph r e => cases ph <;> simp only [time, base, Okw] at h ha hb <;> omega
    | send ph r e => cases ph <;> simp only [time, base, Okw] at h ha hb <;> omega
    | amax i' => simp only [time] at h; rw [show i = i' by omega]

/-- Nothing is paid at the time of an event that is not. -/
theorem ow_none (c : Dev nD) {e : Ev} (hw : Okw e) (hn : ¬ Ok e) : (ow c (time e) : sProp 𝕄) = ow c (time e + 1) :=
  ow_skip c (Nat.le_succ _) fun e' h' ⟨h1, h2⟩ => by
    have := timew_inj (Okw_of h') hw (by omega)
    exact hn (this ▸ h')

/-! ### Positions on the two cells of a ring -/

def pos2 (c : Dev nD) (mk : Fin 2 → Option Ow) (d : ℕ) : sProp 𝕄 :=
  iprop(atPos ER (cell (c, mk 0)) ((d + 1) / 2) ∅ 0 ∗ atPos ER (cell (c, mk 1)) (d / 2) ∅ 0)
theorem pos2_at (c : Dev nD) (mk : Fin 2 → Option Ow) (d : ℕ) :
    (pos2 c mk d : sProp 𝕄) ⊢ iprop(atPos ER (cell (c, mk (par d))) (d / 2) ∅ 0 ∗ atPos ER (cell (c, mk (par (d + 1)))) ((d + 1) / 2) ∅ 0) := by
  unfold pos2
  rcases Nat.even_or_odd' d with ⟨m, rfl | rfl⟩
  · rw [show par (2 * m) = 0 from Fin.ext (by first | (simp [par]; done) | (simp [par]; omega)), show par (2 * m + 1) = 1 from Fin.ext (by first | (simp [par]; done) | (simp [par]; omega)),
      show 2 * m / 2 = m by omega, show (2 * m + 1) / 2 = m by omega]
  · rw [show par (2 * m + 1) = 1 from Fin.ext (by first | (simp [par]; done) | (simp [par]; omega)), show par (2 * m + 1 + 1) = 0 from Fin.ext (by first | (simp [par]; done) | (simp [par]; omega))]
    iintro ⟨H1, H2⟩; isplitl [H2] <;> iassumption
theorem pos2_next (c : Dev nD) (mk : Fin 2 → Option Ow) (d : ℕ) :
    iprop(atPos ER (cell (c, mk (par d))) (d / 2 + 1) ∅ 0 ∗ atPos ER (cell (c, mk (par (d + 1)))) ((d + 1) / 2) ∅ 0) ⊢ (pos2 c mk (d + 1) : sProp 𝕄) := by
  unfold pos2
  rcases Nat.even_or_odd' d with ⟨m, rfl | rfl⟩
  · rw [show par (2 * m) = 0 from Fin.ext (by first | (simp [par]; done) | (simp [par]; omega)), show par (2 * m + 1) = 1 from Fin.ext (by first | (simp [par]; done) | (simp [par]; omega)),
      show 2 * m / 2 + 1 = m + 1 by omega, show (2 * m + 1 + 1) / 2 = m + 1 by omega]
  · rw [show par (2 * m + 1) = 1 from Fin.ext (by first | (simp [par]; done) | (simp [par]; omega)), show par (2 * m + 1 + 1) = 0 from Fin.ext (by first | (simp [par]; done) | (simp [par]; omega)),
      show (2 * m + 1) / 2 + 1 = m + 1 by omega, show (2 * m + 1 + 1) / 2 = m + 1 by omega, show (2 * m + 1 + 1 + 1) / 2 = m + 1 by omega]
    iintro ⟨H1, H2⟩; isplitl [H2] <;> iassumption

/-! ### The parts of a ring's state -/

abbrev rcvK (ph : Bool) (r : Fin 4) (s : Fin 2) : Option Ow := some (.rcv ph r s)
abbrev sndK (ph : Bool) (r : Fin 4) (s : Fin 2) : Option Ow := some (.snd ph r s)
abbrev crK (ph : Bool) (r : Fin 4) : Option Ow := some (.cr ph r)

/-- What it receives with, before step `g`; -/
def Rcv (c : Dev nD) (ph : Bool) (r : Fin 4) (g : ℕ) : sProp 𝕄 :=
  iprop((bigSep (Finset.Ico g (len ph r)) fun j => cred (tallyAt (cell (c, rcvK ph r (par j))) (some (.send ph r j)) (crd ph))) ∗ pos2 c (rcvK ph r) g)
/-- what it returns credits with: the tokens, and, in the reduce-scatter, the slots' counts; -/
def croAt (c : Dev nD) (ph : Bool) (r : Fin 4) (e : ℕ) : sProp 𝕄 :=
  iprop(dutyTok ER (cell (src r c, crK ph r)) 0 (.credit ph r e) ∗ if ph = true then iprop(emp) else readerAt ES ((c, .send ph r (e + 2)) : Ky) 0)
def Cro (c : Dev nD) (ph : Bool) (r : Fin 4) (g : ℕ) : sProp 𝕄 :=
  iprop((bigSep (Finset.Ico g (len ph r - 2)) fun e => croAt c ph r e) ∗ bigSep (Finset.range g) fun j => ready c ph r (j + 2))
/-- the tokens of a copy; -/
def tokAt (c : Dev nD) (ph : Bool) (r : Fin 4) (j : ℕ) : sProp 𝕄 :=
  iprop(dutyTok ER (cell (c, sndK ph r (par j))) (j / 2) (.send ph r j) ∗ dutyTok ER (cell (dst r c, rcvK ph r (par j))) (j / 2) (.send ph r j)
    ∗ writeTok ES ((dst r c, .send ph r j) : Ky) 1)
def ccr (c : Dev nD) (ph : Bool) (r : Fin 4) (k : ℕ) : sProp 𝕄 := cred (tallyAt (cell (c, crK ph r)) (some (.credit ph r k)) 1)
def scr (c : Dev nD) (ph : Bool) (r : Fin 4) (j : ℕ) : sProp 𝕄 := cred (tallyAt (cell (c, sndK ph r (par j))) none (crd ph))

section
variable (X : Dev nD → S4096x128.Idx → Elt F .f32) (W : Dev nD → S128x2048.Idx → Elt F .f32)
/-- what it sends with: before the first copy, -/
def Ini (c : Dev nD) (ph : Bool) (r : Fin 4) : sProp 𝕄 :=
  iprop((bigSep (Finset.Ico 0 (len ph r)) fun j => tokAt c ph r j) ∗ (bigSep (Finset.Ico 0 (len ph r - 2)) fun k => ccr c ph r k)
    ∗ pos2 c (sndK ph r) 0 ∗ mp X W c (crK ph r) 1 0)
/-- after the copies up to `g`, -/
def Snd (c : Dev nD) (ph : Bool) (r : Fin 4) (g : ℕ) : sProp 𝕄 :=
  iprop((bigSep (Finset.Ico (g + 1) (len ph r)) fun j => tokAt c ph r j) ∗ (bigSep (Finset.Ico (g - 1) (len ph r - 2)) fun k => ccr c ph r k)
    ∗ pos2 c (sndK ph r) (g - 1) ∗ mp X W c (crK ph r) 1 (g - 1) ∗ bigSep (Finset.Ico (g - 1) (g + 1)) fun j => scr c ph r j)
/-- and just before the copy of `g + 1`. -/
def Pre (c : Dev nD) (ph : Bool) (r : Fin 4) (g : ℕ) : sProp 𝕄 :=
  iprop((bigSep (Finset.Ico (g + 1) (len ph r)) fun j => tokAt c ph r j) ∗ (bigSep (Finset.Ico g (len ph r - 2)) fun k => ccr c ph r k)
    ∗ pos2 c (sndK ph r) g ∗ mp X W c (crK ph r) 1 g ∗ scr c ph r g
    ∗ reached ER (cell (c, sndK ph r (par (g + 1)))) ((g + 1) / 2) ∗ ready (dst r c) ph r (g + 1))
end

variable {X : Dev nD → S4096x128.Idx → Elt F .f32} {W : Dev nD → S128x2048.Idx → Elt F .f32}
variable {κ : Ck → ℕ} {ν : Ky → ℕ} {c : Dev nD} {ph : Bool} {r : Fin 4} {g : ℕ}

theorem par_two (g : ℕ) : par (g + 2) = par g := Fin.ext (by simp [par])
theorem half_two (g : ℕ) : (g + 2) / 2 = g / 2 + 1 := by omega

/-! ### A receipt -/

theorem tri_recv (hg : g < len ph r) {sm : SemLoc sig} (hsm : sm = semOf (rcvK ph r (par g))) {k' : ℕ} (hk : k' = crd ph)
    {w : TpuEff nD τ sig (Elt F) Λ₀ .tc PUnit} (hw : ∀ K : PUnit → sProp 𝕄, wpE (defs₀ (F := F)) 𝒱₀ (c : Thread nD τ) none Set.univ w K = waitSpec (c : Thread nD τ) Set.univ sm k' K)
    {t : ℕ} (ht : time (.send ph r g) < t) :
    Tri X W κ ν c iprop(Rcv c ph r g ∗ ow c t) (Prog.lift w)
      iprop(Rcv c ph r (g + 1) ∗ ow c t ∗ reached ER (cell (c, rcvK ph r (par g))) (g / 2 + 1) ∗ payR X W c (.send ph r g)) := by
  have h := tr_wait_one (X := X) (W := W) (κ := κ) (ν := ν) (c := c) (duties_rcv hg) hsm (hk.trans (show crd ph = amt (.send ph r g) from rfl)) hw (some (.send ph r g)) t
    (Finset.mem_insert_of_mem (Finset.mem_image_of_mem _ ((mem_evs _).mpr hg))) ht
  have e1 := bigSep_Ico_succ_bot hg (fun j => (cred (tallyAt (cell (c, rcvK ph r (par j))) (some (.send ph r j)) (crd ph)) : sProp 𝕄))
  have e2 : payK X W (c, rcvK ph r (par g)) (.send ph r g) = payR X W c (.send ph r g) := payK_rcv (.send ph r g)
  refine (h.framed (iprop((bigSep (Finset.Ico (g + 1) (len ph r)) fun j => cred (tallyAt (cell (c, rcvK ph r (par j))) (some (.send ph r j)) (crd ph)))
    ∗ atPos ER (cell (c, rcvK ph r (par (g + 1)))) ((g + 1) / 2) ∅ 0))).conseq ?_ ?_
  · unfold Rcv
    iintro ⟨⟨Hc, Hp⟩, HO⟩
    ihave Hc := (Entails.of_eq e1) $$ Hc
    icases Hc with ⟨Hc0, Hc⟩
    ihave Hp := (pos2_at c (rcvK ph r) g) $$ Hp
    icases Hp with ⟨Hp0, Hp⟩
    isplitl [Hc0 HO Hp0]
    · isplitl [Hc0]; · iexact Hc0
      isplitl [HO] <;> iassumption
    isplitl [Hc] <;> iassumption
  · unfold Rcv
    iintro ⟨⟨HO, Hp0, #Hr, Hpay⟩, Hc, Hp⟩
    isplitl [Hc Hp0 Hp]
    · isplitl [Hc]; · iexact Hc
      iapply (pos2_next c (rcvK ph r) g)
      isplitl [Hp0] <;> iassumption
    isplitl [HO]; · iexact HO
    isplitr; · iexact Hr
    iapply (Entails.of_eq e2); iexact Hpay

/-! ### The end of a copy of one's own -/

theorem tri_drain (hg : g < len ph r) {sm : SemLoc sig} (hsm : sm = semOf (sndK ph r (par g))) {k' : ℕ} (hk : k' = crd ph)
    {w : TpuEff nD τ sig (Elt F) Λ₀ .tc PUnit} (hw : ∀ K : PUnit → sProp 𝕄, wpE (defs₀ (F := F)) 𝒱₀ (c : Thread nD τ) none Set.univ w K = waitSpec (c : Thread nD τ) Set.univ sm k' K)
    {t : ℕ} (ht : 0 < t) :
    Tri X W κ ν c iprop(scr c ph r g ∗ pos2 c (sndK ph r) g ∗ ow c t) (Prog.lift w)
      iprop(pos2 c (sndK ph r) (g + 1) ∗ ow c t ∗ reached ER (cell (c, sndK ph r (par g))) (g / 2 + 1) ∗ payS X W c (.send ph r g)) := by
  have h := tr_wait_one (X := X) (W := W) (κ := κ) (ν := ν) (c := c) (duties_snd hg) hsm (hk.trans (show crd ph = amt (.send ph r g) from rfl)) hw none t
    (Finset.mem_insert_self _ _) ht
  have e2 : payK X W (c, sndK ph r (par g)) (.send ph r g) = payS X W c (.send ph r g) := payK_snd (e := .send ph r g) rfl
  refine (h.framed (atPos ER (cell (c, sndK ph r (par (g + 1)))) ((g + 1) / 2) ∅ 0)).conseq ?_ ?_
  · unfold scr
    iintro ⟨Hc, Hp, HO⟩
    ihave Hp := (pos2_at c (sndK ph r) g) $$ Hp
    icases Hp with ⟨Hp0, Hp⟩
    isplitl [Hc HO Hp0]
    · isplitl [Hc]; · iexact Hc
      isplitl [HO] <;> iassumption
    iexact Hp
  · iintro ⟨⟨HO, Hp0, #Hr, Hpay⟩, Hp⟩
    isplitl [Hp0 Hp]
    · iapply (pos2_next c (sndK ph r) g)
      isplitl [Hp0] <;> iassumption
    isplitl [HO]; · iexact HO
    isplitr; · iexact Hr
    iapply (Entails.of_eq e2); iexact Hpay

/-! ### Credits -/

/-- What a credit is returned for: in the reduce-scatter the slot, in the all-gather nothing (it was released on entering). -/
def free (c : Dev nD) (ph : Bool) (r : Fin 4) (g : ℕ) : sProp 𝕄 :=
  if ph = true then released ES ((c, .send ph r (g + 2)) : Ky) 1 else land ((c, .send ph r (g + 2)) : Ky)

theorem tri_credit (hg : g + 2 < len ph r) (n : Dev nD) (hn : n = src r c) {sm : Sem sig} (hsm : SemLoc.reg sm = semOf (crK ph r)) {t' : ℕ} (ht : t' = time (.credit ph r g) + 1) :
    Tri X W κ ν c iprop(Cro c ph r g ∗ reached ER (cell (c, rcvK ph r (par g))) (g / 2 + 1) ∗ free c ph r g ∗ ow c (time (.credit ph r g))) (semSignalWord n sm 1#32)
      iprop(Cro c ph r (g + 1) ∗ ow c t') := by
  have h := tr_signal (X := X) (W := W) (κ := κ) (ν := ν) (c := c) (e := .credit ph r g) hg n hn hsm rfl ht
  have hrel : iprop(Cx X W κ ν ∗ (if ph = true then iprop(emp) else readerAt ES ((c, .send ph r (g + 2)) : Ky) 0) ∗ free c ph r g)
      ⊢ (|={Set.univ}=> released ES ((c, .send ph r (g + 2)) : Ky) 1 : sProp 𝕄) := by
    unfold free
    cases ph with
    | false => exact fupd_release (e := .send false r (g + 2)) hg rfl
    | true => rw [if_pos rfl, if_pos rfl]; iintro ⟨-, -, H⟩; imodintro; iexact H
  have e1 := bigSep_Ico_succ_bot (show g < len ph r - 2 by omega) (fun e => croAt (F := F) c ph r e)
  have e2 := bigSep_range_succ g (fun j => ready (F := F) c ph r (j + 2))
  have e3 : payR X W (src r c) (.credit ph r g) = credits c ph r g := by show credits (dst r (src r c)) ph r g = _; rw [dst_src]
  refine Tri.pre ((h.framed (iprop((bigSep (Finset.Ico (g + 1) (len ph r - 2)) fun e => croAt c ph r e) ∗ bigSep (Finset.range (g + 1)) fun j => ready c ph r (j + 2)))).post ?_) ?_
  · unfold Cro
    iintro ⟨HO, Hc, #Hr⟩
    isplitl [Hc]
    · isplitl [Hc]; · iexact Hc
      iexact Hr
    iexact HO
  · unfold Cro
    iintro ⟨#HC, ⟨Hc, #Hrs⟩, #Hr, Hf, HO⟩
    ihave Hc := (Entails.of_eq e1) $$ Hc
    unfold croAt
    icases Hc with ⟨⟨Ht, Hrd⟩, Hc⟩
    imod hrel $$ [Hrd Hf] with #Hrel
    · isplitr; · iexact HC
      isplitl [Hrd] <;> iassumption
    have hrr : iprop((bigSep (Finset.range g) fun j => ready c ph r (j + 2)) ∗ released ES ((c, .send ph r (g + 2)) : Ky) 1 ∗ reached ER (cell (c, rcvK ph r (par g))) (g / 2 + 1))
        ⊢ (bigSep (Finset.range (g + 1)) fun j => ready (F := F) c ph r (j + 2)) := by
      rw [e2]; unfold ready; rw [par_two, half_two]
      iintro ⟨H1, H2, H3⟩
      isplitl [H2 H3]
      · isplitl [H2] <;> iassumption
      iexact H1
    ihave #Hall := hrr $$ []
    · isplitr; · iexact Hrs
      isplitr; · iexact Hrel
      iexact Hr
    imodintro
    isplitl [HO Ht]
    · isplitl [HO]; · iexact HO
      isplitl [Ht]; · iexact Ht
      isplitr; · iapply (Cx_reached X W κ ν (src r c, crK ph r)); iexact HC
      iapply (Entails.of_eq e3.symm); unfold credits; iexact Hall
    isplitl [Hc]; · iexact Hc
    iexact Hall

theorem cr_card (ph : Bool) (r : Fin 4) : (dutiesK (crK ph r) 0).card = len ph r - 2 := by
  show (if 0 = 0 then (Finset.range (len ph r - 2)).image (Ev.credit ph r) else ∅).card = _
  rw [if_pos rfl, Finset.card_image_of_injective _ (fun a b h => by injection h), Finset.card_range]
theorem cr_mem {e : Ev} (ph : Bool) (r : Fin 4) : e ∈ dutiesK (crK ph r) 0 ↔ ∃ k, k + 2 < len ph r ∧ e = .credit ph r k := by
  show e ∈ (if 0 = 0 then (Finset.range (len ph r - 2)).image (Ev.credit ph r) else ∅) ↔ _
  rw [if_pos rfl, Finset.mem_image]
  simp only [Finset.mem_range]
  constructor
  · rintro ⟨a, h, rfl⟩; exact ⟨a, by omega, rfl⟩
  · rintro ⟨a, h, rfl⟩; exact ⟨a, by omega, rfl⟩

theorem pay_credit (k k' : ℕ) (h : k' ≤ k) : payK X W (c, crK ph r) (.credit ph r k) ⊢ ready (dst r c) ph r (k' + 2) := by
  have : payK X W (c, crK ph r) (.credit ph r k) = credits (dst r c) ph r k := payK_rcv (.credit ph r k)
  rw [this]; unfold credits
  exact sep_elim (i := k') (Finset.mem_range.mpr (by omega)) (fun j => ready (F := F) (dst r c) ph r (j + 2))

theorem pay_cr_ps {T : Finset Ev} (h : T ⊆ dutiesK (crK ph r) 0) : (bigSep T fun e => payK X W (c, crK ph r) e) ⊢
    iprop((bigSep T fun e => payK X W (c, crK ph r) e) ∗ ∀ k', ⌜∃ k, k' ≤ k ∧ Ev.credit ph r k ∈ T⌝ -∗ ready (dst r c) ph r (k' + 2)) := by
  have hp : ∀ e ∈ T, payK X W (c, crK ph r) e = payR X W c e := by
    intro e he; obtain ⟨k, -, rfl⟩ := (cr_mem ph r).mp (h he); exact payK_rcv (.credit ph r k)
  have hps : (bigSep T fun e => payK X W (c, crK ph r) e) = bigSep T fun e => (match e with | .credit ph' r' k => credits (dst r' c) ph' r' k | _ => (iprop(emp) : sProp 𝕄)) :=
    bigSep_congr fun e he => by rw [hp e he]; obtain ⟨k, -, rfl⟩ := (cr_mem ph r).mp (h he); rfl
  have hk : ∀ k' k, k' ≤ k → Ev.credit ph r k ∈ T → (bigSep T fun e => (match e with | .credit ph' r' k => credits (dst r' c) ph' r' k | _ => (iprop(emp) : sProp 𝕄))) ⊢ ready (dst r c) ph r (k' + 2) := by
    intro k' k h1 h2
    refine (sep_elim h2 _).trans ?_
    unfold credits
    exact sep_elim (i := k') (Finset.mem_range.mpr (by omega)) (fun j => ready (F := F) (dst r c) ph r (j + 2))
  haveI : BI.Persistent (bigSep T fun e => (match e with | .credit ph' r' k => credits (dst r' c) ph' r' k | _ => (iprop(emp) : sProp 𝕄))) := by
    haveI : ∀ e : Ev, BI.Persistent (match e with | .credit ph' r' k => credits (F := F) (dst r' c) ph' r' k | _ => (iprop(emp) : sProp 𝕄)) := by
      intro e; cases e <;> infer_instance
    infer_instance
  rw [hps]
  iintro #H
  isplitr; · iexact H
  iintro %k' %hh
  obtain ⟨k, h1, h2⟩ := hh
  iapply (hk k' k h1 h2); iexact H

theorem tri_cwait {k : ℕ} (hk : k + 2 < len ph r) {sm : Sem sig} (hsm : SemLoc.reg sm = semOf (crK ph r)) {t : ℕ} (ht : time (.credit ph r k) < t) :
    Tri X W κ ν c iprop(mp X W c (crK ph r) 1 k ∗ ccr c ph r k ∗ ow c t) (semWaitWord sm 1#32)
      iprop(mp X W c (crK ph r) 1 (k + 1) ∗ ready (dst r c) ph r (k + 2) ∗ ow c t) := by
  have h := tr_wait_multi (X := X) (W := W) (κ := κ) (ν := ν) (c := c) (k := crK ph r) (a := 1) (i := k)
    (fun e he => by obtain ⟨k, -, rfl⟩ := (cr_mem ph r).mp he; rfl) (by rw [cr_card]; omega) hsm
    (w := .semWait sm (1#32).toInt) (fun K => rfl)
    (some (.credit ph r k)) t (Finset.mem_insert_of_mem (Finset.mem_image_of_mem _ ((mem_evs _).mpr hk))) ht
  refine h.conseq ?_ ?_
  · unfold ccr
    iintro ⟨Hm, Hc, HO⟩
    isplitl [Hc]; · iexact Hc
    isplitl [HO] <;> iassumption
  · iintro ⟨HO, Hm⟩
    have key : mp X W c (crK ph r) 1 (k + 1) ⊢ iprop(mp X W c (crK ph r) 1 (k + 1) ∗ ready (dst r c) ph r (k + 2)) := by
      unfold mp
      split
      · iintro ⟨Hp, H⟩
        ihave H := (pay_cr_ps (c := c) (Finset.Subset.refl _)) $$ H
        icases H with ⟨H, Hr⟩
        isplitl [Hp H]
        · isplitl [Hp] <;> iassumption
        iapply Hr
        ipureintro; exact ⟨k, Nat.le_refl _, (cr_mem ph r).mpr ⟨k, hk, rfl⟩⟩
      · iintro ⟨%T, %hT, Hp, H⟩
        ihave H := (pay_cr_ps (c := c) hT.1) $$ H
        icases H with ⟨H, Hr⟩
        isplitl [Hp H]
        · iexists T
          isplitr; · ipureintro; exact hT
          isplitl [Hp] <;> iassumption
        iapply Hr
        ipureintro
        by_contra hn
        have hsub : T ⊆ (Finset.range k).image (Ev.credit ph r) := by
          intro e he
          obtain ⟨k', hk', rfl⟩ := (cr_mem ph r).mp (hT.1 he)
          refine Finset.mem_image_of_mem _ (Finset.mem_range.mpr ?_)
          by_contra h'
          exact hn ⟨k', by omega, he⟩
        have h1 := Finset.card_le_card hsub
        have h2 := Finset.card_image_le (s := Finset.range k) (f := Ev.credit ph r)
        rw [Finset.card_range] at h2
        have h3 := hT.2 rfl
        omega
    ihave Hm := key $$ Hm
    icases Hm with ⟨Hm, Hr⟩
    isplitl [Hm]; · iexact Hm
    isplitl [Hr] <;> iassumption

/-! ### Sending -/

/-- The credit of the step before and the end of the copy before, when there are such. -/
theorem tri_presend (h0 : 0 < g) (hg : g + 1 < len ph r) {smc : Sem sig} (hsmc : SemLoc.reg smc = semOf (crK ph r))
    {sm : SemLoc sig} (hsm : sm = semOf (sndK ph r (par (g - 1)))) {k' : ℕ} (hk : k' = crd ph)
    {w : TpuEff nD τ sig (Elt F) Λ₀ .tc PUnit} (hw : ∀ K : PUnit → sProp 𝕄, wpE (defs₀ (F := F)) 𝒱₀ (c : Thread nD τ) none Set.univ w K = waitSpec (c : Thread nD τ) Set.univ sm k' K)
    {t : ℕ} (ht : time (.credit ph r (g - 1)) < t) :
    Tri X W κ ν c iprop(Snd X W c ph r g ∗ ow c t) (semWaitWord smc 1#32 >>= fun _ => Prog.lift w)
      iprop(Pre X W c ph r g ∗ payS X W c (.send ph r (g - 1)) ∗ ow c t) := by
  obtain ⟨k, rfl⟩ : ∃ k, g = k + 1 := ⟨g - 1, by omega⟩
  rw [Nat.add_sub_cancel] at hsm ht ⊢
  have h1 := tri_cwait (X := X) (W := W) (κ := κ) (ν := ν) (c := c) (ph := ph) (r := r) (k := k) (by omega) hsmc ht
  have h2 := tri_drain (X := X) (W := W) (κ := κ) (ν := ν) (c := c) (ph := ph) (r := r) (g := k) (by omega) hsm hk hw (t := t) (Nat.lt_of_le_of_lt (Nat.zero_le _) ht)
  have e1 := bigSep_Ico_succ_bot (show k < len ph r - 2 by omega) (fun k => ccr (F := F) c ph r k)
  have e2 := bigSep_Ico_succ_bot (show k < k + 1 + 1 by omega) (fun k => scr (F := F) c ph r k)
  have e3 := bigSep_Ico_succ_bot (show k + 1 < k + 1 + 1 by omega) (fun k => scr (F := F) c ph r k)
  refine Tri.seqw (iprop((mp X W c (crK ph r) 1 (k + 1) ∗ ready (dst r c) ph r (k + 2) ∗ ow c t)
      ∗ (bigSep (Finset.Ico (k + 1 + 1) (len ph r)) fun j => tokAt c ph r j) ∗ (bigSep (Finset.Ico (k + 1) (len ph r - 2)) fun k => ccr c ph r k)
      ∗ pos2 c (sndK ph r) k ∗ scr c ph r k ∗ scr c ph r (k + 1))) ((h1.framed _).conseq ?_ (Entails.refl _)) ?_
  · unfold Snd
    rw [Nat.add_sub_cancel]
    iintro ⟨⟨Ht, Hc, Hp, Hm, Hs⟩, HO⟩
    ihave Hc := (Entails.of_eq e1) $$ Hc
    icases Hc with ⟨Hc0, Hc⟩
    ihave Hs := (Entails.of_eq e2) $$ Hs
    icases Hs with ⟨Hs0, Hs⟩
    ihave Hs := (Entails.of_eq e3) $$ Hs
    icases Hs with ⟨Hs1, -⟩
    isplitl [Hm Hc0 HO]
    · isplitl [Hm]; · iexact Hm
      isplitl [Hc0] <;> iassumption
    isplitl [Ht]; · iexact Ht
    isplitl [Hc]; · iexact Hc
    isplitl [Hp]; · iexact Hp
    isplitl [Hs0] <;> iassumption
  · refine (h2.framed (iprop(mp X W c (crK ph r) 1 (k + 1) ∗ ready (dst r c) ph r (k + 2)
      ∗ (bigSep (Finset.Ico (k + 1 + 1) (len ph r)) fun j => tokAt c ph r j) ∗ (bigSep (Finset.Ico (k + 1) (len ph r - 2)) fun k => ccr c ph r k)
      ∗ scr c ph r (k + 1)))).conseq ?_ ?_
    · iintro ⟨⟨Hm, Hr, HO⟩, Ht, Hc, Hp, Hs0, Hs1⟩
      isplitl [Hs0 Hp HO]
      · isplitl [Hs0]; · iexact Hs0
        isplitl [Hp] <;> iassumption
      isplitl [Hm]; · iexact Hm
      isplitl [Hr]; · iexact Hr
      isplitl [Ht]; · iexact Ht
      isplitl [Hc] <;> iassumption
    · unfold Pre
      rw [show k + 1 + 1 = k + 2 from rfl, par_two, half_two]
      iintro ⟨⟨Hp, HO, #Hrr, Hpay⟩, Hm, Hr, Ht, Hc, Hs1⟩
      isplitl [Hp Hm Hr Ht Hc Hs1]
      · isplitl [Ht]; · iexact Ht
        isplitl [Hc]; · iexact Hc
        isplitl [Hp]; · iexact Hp
        isplitl [Hm]; · iexact Hm
        isplitl [Hs1]; · iexact Hs1
        isplitr; · iexact Hrr
        iexact Hr
      isplitl [Hpay] <;> iassumption

theorem mem_first {n : Dev nD} {e : Ev} (hok : Ok e) (h : first e = true) : entered n ⊢ (released ES ((n, e) : Ky) 1 : sProp 𝕄) := by
  unfold entered
  exact sep_elim (i := e) (Finset.mem_filter.mpr ⟨(mem_evs e).mpr hok, h⟩) (fun e => (released ES ((n, e) : Ky) 1 : sProp 𝕄))

/-- The first two copies need no credit. -/
theorem ready_first {n : Dev nD} {j : ℕ} (hj : j < 2) : iprop(Cx X W κ ν ∗ entered n) ⊢ ready n ph r j := by
  unfold ready
  have h1 : entered n ⊢ (released ES ((n, .send ph r j) : Ky) 1 : sProp 𝕄) := mem_first (show j < len ph r by have := len_ge ph r; omega)
    (by cases ph with
        | false => exact decide_eq_true hj
        | true => rfl)
  iintro ⟨#HC, #HE⟩
  isplitr; · iapply h1; iexact HE
  rw [show j / 2 = 0 by omega]
  iapply (Cx_reached X W κ ν (n, rcvK ph r (par j))); iexact HC

theorem pre_zero : iprop(Cx X W κ ν ∗ Snd X W c ph r 0 ∗ entered (dst r c)) ⊢ Pre X W c ph r 0 := by
  have e3 := bigSep_Ico_succ_bot (show 0 < 0 + 1 by omega) (fun k => scr (F := F) c ph r k)
  unfold Snd Pre
  iintro ⟨#HC, ⟨Ht, Hc, Hp, Hm, Hs⟩, #HE⟩
  ihave Hs := (Entails.of_eq e3) $$ Hs
  icases Hs with ⟨Hs1, -⟩
  isplitl [Ht]; · iexact Ht
  isplitl [Hc]; · iexact Hc
  isplitl [Hp]; · iexact Hp
  isplitl [Hm]; · iexact Hm
  isplitl [Hs1]; · iexact Hs1
  isplitr; · iapply (Cx_reached X W κ ν (c, sndK ph r (par (0 + 1)))); iexact HC
  iapply (ready_first (X := X) (W := W) (κ := κ) (ν := ν) (show 0 + 1 < 2 by omega))
  isplitr; · iexact HC
  iexact HE

/-- A copy sent, given the rule for its operation. -/
theorem tri_next {Sp Z : sProp 𝕄} {p : Pg F} {t' : ℕ} (hg : g + 1 < len ph r)
    (h : Tri X W κ ν c iprop(Sp ∗ Z ∗ ow c (time (.send ph r (g + 1))) ∗ tokAt c ph r (g + 1)
        ∗ reached ER (cell (c, sndK ph r (par (g + 1)))) ((g + 1) / 2) ∗ ready (dst r c) ph r (g + 1)) p
      iprop(scr c ph r (g + 1) ∗ ow c t')) :
    Tri X W κ ν c iprop(Pre X W c ph r g ∗ Sp ∗ Z ∗ ow c (time (.send ph r (g + 1)))) p iprop(Snd X W c ph r (g + 1) ∗ ow c t') := by
  have e1 := bigSep_Ico_succ_bot hg (fun k => tokAt (F := F) c ph r k)
  have e2 := bigSep_Ico_succ_bot (show g < g + 1 + 1 by omega) (fun k => scr (F := F) c ph r k)
  have e3 := bigSep_Ico_succ_bot (show g + 1 < g + 1 + 1 by omega) (fun k => scr (F := F) c ph r k)
  have e4 : bigSep (Finset.Ico (g + 1 + 1) (g + 1 + 1)) (fun k => scr (F := F) c ph r k) = iprop(emp) := by rw [Finset.Ico_self]; exact bigSep_empty
  refine (h.framed (iprop((bigSep (Finset.Ico (g + 1 + 1) (len ph r)) fun j => tokAt c ph r j) ∗ (bigSep (Finset.Ico g (len ph r - 2)) fun k => ccr c ph r k)
    ∗ pos2 c (sndK ph r) g ∗ mp X W c (crK ph r) 1 g ∗ scr c ph r g))).conseq ?_ ?_
  · unfold Pre
    iintro ⟨⟨Ht, Hc, Hp, Hm, Hs, #Hr, #Hrd⟩, HS, HZ, HO⟩
    ihave Ht := (Entails.of_eq e1) $$ Ht
    icases Ht with ⟨Ht0, Ht⟩
    isplitl [HS HZ HO Ht0]
    · isplitl [HS]; · iexact HS
      isplitl [HZ]; · iexact HZ
      isplitl [HO]; · iexact HO
      isplitl [Ht0]; · iexact Ht0
      isplitr; · iexact Hr
      iexact Hrd
    isplitl [Ht]; · iexact Ht
    isplitl [Hc]; · iexact Hc
    isplitl [Hp]; · iexact Hp
    isplitl [Hm] <;> iassumption
  · unfold Snd
    rw [Nat.add_sub_cancel]
    iintro ⟨⟨Hs1, HO⟩, Ht, Hc, Hp, Hm, Hs⟩
    isplitl [Hs1 Ht Hc Hp Hm Hs]
    · isplitl [Ht]; · iexact Ht
      isplitl [Hc]; · iexact Hc
      isplitl [Hp]; · iexact Hp
      isplitl [Hm]; · iexact Hm
      iapply (Entails.of_eq e2.symm)
      isplitl [Hs]; · iexact Hs
      iapply (Entails.of_eq e3.symm)
      isplitl [Hs1]; · iexact Hs1
      iapply (Entails.of_eq e4.symm); iempintro
    iexact HO

theorem tri_first {Sp Z : sProp 𝕄} {p : Pg F} {t' : ℕ}
    (h : Tri X W κ ν c iprop(Sp ∗ Z ∗ ow c (time (.send ph r 0)) ∗ tokAt c ph r 0
        ∗ reached ER (cell (c, sndK ph r (par 0))) (0 / 2) ∗ ready (dst r c) ph r 0) p
      iprop(scr c ph r 0 ∗ ow c t')) :
    Tri X W κ ν c iprop(Ini X W c ph r ∗ entered (dst r c) ∗ Sp ∗ Z ∗ ow c (time (.send ph r 0))) p iprop(Snd X W c ph r 0 ∗ ow c t') := by
  have hl := len_ge ph r
  have e1 := bigSep_Ico_succ_bot (show 0 < len ph r by omega) (fun k => tokAt (F := F) c ph r k)
  have e3 := bigSep_Ico_succ_bot (show 0 < 0 + 1 by omega) (fun k => scr (F := F) c ph r k)
  have e4 : bigSep (Finset.Ico (0 + 1) (0 + 1)) (fun k => scr (F := F) c ph r k) = iprop(emp) := by rw [Finset.Ico_self]; exact bigSep_empty
  refine Tri.pre ((h.framed (iprop((bigSep (Finset.Ico (0 + 1) (len ph r)) fun j => tokAt c ph r j) ∗ (bigSep (Finset.Ico 0 (len ph r - 2)) fun k => ccr c ph r k)
    ∗ pos2 c (sndK ph r) 0 ∗ mp X W c (crK ph r) 1 0))).post ?_) ?_
  · unfold Snd
    iintro ⟨⟨Hs1, HO⟩, Ht, Hc, Hp, Hm⟩
    isplitl [Hs1 Ht Hc Hp Hm]
    · isplitl [Ht]; · iexact Ht
      isplitl [Hc]; · iexact Hc
      isplitl [Hp]; · iexact Hp
      isplitl [Hm]; · iexact Hm
      iapply (Entails.of_eq e3.symm)
      isplitl [Hs1]; · iexact Hs1
      iapply (Entails.of_eq e4.symm); iempintro
    iexact HO
  · unfold Ini
    iintro ⟨#HC, ⟨Ht, Hc, Hp, Hm⟩, #HE, HS, HZ, HO⟩
    ihave Ht := (Entails.of_eq e1) $$ Ht
    icases Ht with ⟨Ht0, Ht⟩
    imodintro
    isplitl [HS HZ HO Ht0]
    · isplitl [HS]; · iexact HS
      isplitl [HZ]; · iexact HZ
      isplitl [HO]; · iexact HO
      isplitl [Ht0]; · iexact Ht0
      isplitr; · iapply (Cx_reached X W κ ν (c, sndK ph r (par 0))); iexact HC
      iapply (ready_first (X := X) (W := W) (κ := κ) (ν := ν) (show 0 < 2 by omega))
      isplitr; · iexact HC
      iexact HE
    isplitl [Ht]; · iexact Ht
    isplitl [Hc]; · iexact Hc
    isplitl [Hp] <;> iassumption

end Cert.KernelIdeal.Px

end
-- ==== Proof.Mem.lean ====
/-
  The kernel's memory operations on the pieces of its buffers: where each piece's elements lie, and what each group of
  loads and stores leaves.
-/
module

public import proofs.«01_k».proof.Proof.Rings
public import Idealize.ShloMosaic.Lib.Pipeline.Value

@[expose] public section

set_option maxRecDepth 16384
set_option maxHeartbeats 800000

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

/-! ### Where elements lie -/

theorem idx2 {m n : ℕ} {x y : (⟨2, ![m, n]⟩ : Shape).Idx} (h0 : (x 0).val = (y 0).val) (h1 : (x 1).val = (y 1).val) : x = y := by
  funext a; fin_cases a
  · exact Fin.ext h0
  · exact Fin.ext h1

theorem mem_rect2 {R C p q a b : ℕ} {inb : ∀ x, (![p, q] : Fin 2 → ℕ) x + (![a, b] : Fin 2 → ℕ) x ≤ (⟨2, ![R, C]⟩ : Shape).size x} {i : (⟨2, ![R, C]⟩ : Shape).Idx} :
    i ∈ (Rect.unit (s := ⟨2, ![R, C]⟩) ![p, q] ![a, b] inb).set ↔ (p ≤ (i 0).val ∧ (i 0).val < p + a) ∧ (q ≤ (i 1).val ∧ (i 1).val < q + b) := by
  rw [Rect.mem_set_unit]
  exact ⟨fun h => ⟨h 0, h 1⟩, fun h x => by fin_cases x; exact h.1; exact h.2⟩

theorem mem_piece {k : Fin 32} {r : Fin 4} {i : S4096x2048.Idx} :
    i ∈ (pieceR k r).set ↔ (128 * k.val ≤ (i 0).val ∧ (i 0).val < 128 * k.val + 128) ∧ (512 * r.val ≤ (i 1).val ∧ (i 1).val < 512 * r.val + 512) := mem_rect2
theorem mem_half {k : Fin 32} {h : Fin 2} {i : S4096x2048.Idx} :
    i ∈ (halfR k h).set ↔ (128 * k.val ≤ (i 0).val ∧ (i 0).val < 128 * k.val + 128) ∧ (1024 * h.val ≤ (i 1).val ∧ (i 1).val < 1024 * h.val + 1024) := mem_rect2
theorem mem_chunk {k : Fin 32} {i : S4096x2048.Idx} :
    i ∈ (chunkR k).set ↔ (128 * k.val ≤ (i 0).val ∧ (i 0).val < 128 * k.val + 128) ∧ (0 ≤ (i 1).val ∧ (i 1).val < 0 + 2048) := mem_rect2
theorem mem_row {d : Dev nD} {i : S32x128.Idx} :
    i ∈ (rowR d).set ↔ (d.val ≤ (i 0).val ∧ (i 0).val < d.val + 1) ∧ (0 ≤ (i 1).val ∧ (i 1).val < 0 + 128) := mem_rect2
theorem mem_slot {r : Fin 4} {s : Fin 2} {i : S4x2x128x512.Idx} : i ∈ (slotR r s).set ↔ (i 0).val = r.val ∧ (i 1).val = s.val := by
  rw [Rect.mem_set_unit]
  have h2 : (i 2).val < 128 := (i 2).isLt
  have h3 : (i 3).val < 512 := (i 3).isLt
  constructor
  · intro h
    have h0 : r.val ≤ (i 0).val ∧ (i 0).val < r.val + 1 := h 0
    have h1 : s.val ≤ (i 1).val ∧ (i 1).val < s.val + 1 := h 1
    omega
  · intro ⟨h0, h1⟩ a
    fin_cases a
    · exact (show r.val ≤ (i 0).val ∧ (i 0).val < r.val + 1 by omega)
    · exact (show s.val ≤ (i 1).val ∧ (i 1).val < s.val + 1 by omega)
    · exact (show 0 ≤ (i 2).val ∧ (i 2).val < 0 + 128 by omega)
    · exact (show 0 ≤ (i 3).val ∧ (i 3).val < 0 + 512 by omega)

theorem piece_disj {k k' : Fin 32} {r r' : Fin 4} (h : k ≠ k' ∨ r ≠ r') : Disjoint (pieceR k r).set (pieceR k' r').set := by
  rw [Finset.disjoint_left]
  intro i h1 h2
  rw [mem_piece] at h1 h2
  rcases h with h | h
  · exact h (Fin.ext (by omega))
  · exact h (Fin.ext (by omega))
theorem half_pieces (k : Fin 32) (h : Fin 2) : (halfR k h).set = (pieceR k ⟨2 * h.val, by omega⟩).set ∪ (pieceR k ⟨2 * h.val + 1, by omega⟩).set := by
  ext i; rw [Finset.mem_union, mem_half, mem_piece, mem_piece]
  show _ ↔ (_ ∧ 512 * (2 * h.val) ≤ _ ∧ _ < 512 * (2 * h.val) + 512) ∨ (_ ∧ 512 * (2 * h.val + 1) ≤ _ ∧ _ < 512 * (2 * h.val + 1) + 512)
  omega
theorem chunk_halves (k : Fin 32) : (chunkR k).set = (halfR k 0).set ∪ (halfR k 1).set := by
  ext i; rw [Finset.mem_union, mem_half, mem_half, mem_chunk]
  show _ ↔ (_ ∧ 1024 * 0 ≤ _ ∧ _ < 1024 * 0 + 1024) ∨ (_ ∧ 1024 * 1 ≤ _ ∧ _ < 1024 * 1 + 1024)
  omega
theorem half_disj {k k' : Fin 32} {h h' : Fin 2} (hh : k ≠ k' ∨ h ≠ h') : Disjoint (halfR k h).set (halfR k' h').set := by
  rw [Finset.disjoint_left]
  intro i h1 h2
  rw [mem_half] at h1 h2
  rcases hh with h | h
  · exact h (Fin.ext (by omega))
  · exact h (Fin.ext (by omega))
theorem row_disj {d d' : Dev nD} (h : d ≠ d') : Disjoint (rowR d).set (rowR d').set := by
  rw [Finset.disjoint_left]
  intro i h1 h2
  rw [mem_row] at h1 h2
  exact h (Fin.ext (by omega))
theorem slot_disj {r r' : Fin 4} {s s' : Fin 2} (h : r ≠ r' ∨ s ≠ s') : Disjoint (slotR r s).set (slotR r' s').set := by
  rw [Finset.disjoint_left]
  intro i h1 h2
  rw [mem_slot] at h1 h2
  rcases h with h | h
  · exact h (Fin.ext (by omega))
  · exact h (Fin.ext (by omega))

theorem of_emb {s : Shape} {R : Rect s} {i : s.Idx} (h : i ∈ R.set) : ∃ j, R.emb j = i := by
  rw [← Rect.map_emb_univ, Finset.mem_map] at h; obtain ⟨j, -, e⟩ := h; exact ⟨j, e⟩
theorem emb_mem {s : Shape} (R : Rect s) (j : R.shape.Idx) : R.emb j ∈ R.set := by
  rw [← Rect.map_emb_univ]; exact Finset.mem_map_of_mem _ (Finset.mem_univ _)

theorem chunkOf_mem_piece {k : Fin 32} {r : Fin 4} {i : S4096x2048.Idx} (h : i ∈ (pieceR k r).set) : chunkOf i = k ∧ ringOf i = r := by
  rw [mem_piece] at h
  exact ⟨Fin.ext (by show (i 0).val / 128 = k.val; omega), Fin.ext (by show (i 1).val / 512 = r.val; omega)⟩
theorem chunkOf_half (k : Fin 32) (h : Fin 2) (j : S128x1024.Idx) : chunkOf ((halfR k h).emb j) = k ∧ halfOf ((halfR k h).emb j) = h ∧ inHalf ((halfR k h).emb j) = j := by
  have h0 : (((halfR k h).emb j) 0).val = 128 * k.val + 1 * (j 0).val := rfl
  have h1 : (((halfR k h).emb j) 1).val = 1024 * h.val + 1 * (j 1).val := rfl
  have l0 : (j 0).val < 128 := (j 0).isLt
  have l1 : (j 1).val < 1024 := (j 1).isLt
  refine ⟨Fin.ext ?_, Fin.ext ?_, idx2 ?_ ?_⟩
  · show (((halfR k h).emb j) 0).val / 128 = _; omega
  · show (((halfR k h).emb j) 1).val / 1024 = _; omega
  · show (((halfR k h).emb j) 0).val % 128 = _; omega
  · show (((halfR k h).emb j) 1).val % 1024 = _; omega
theorem chunkOf_chunk (k : Fin 32) (j : S128x2048.Idx) : chunkOf ((chunkR k).emb j) = k ∧ inChunk ((chunkR k).emb j) = j := by
  have h0 : (((chunkR k).emb j) 0).val = 128 * k.val + 1 * (j 0).val := rfl
  have h1 : (((chunkR k).emb j) 1).val = 0 + 1 * (j 1).val := rfl
  have l0 : (j 0).val < 128 := (j 0).isLt
  refine ⟨Fin.ext ?_, idx2 ?_ ?_⟩
  · show (((chunkR k).emb j) 0).val / 128 = _; omega
  · show (((chunkR k).emb j) 0).val % 128 = _; omega
  · show (((chunkR k).emb j) 1).val = _; omega

/-! ### The slots -/

/-- An element of a piece as one of the slot's box. -/
def unsq (j : S128x512.Idx) : S1x1x128x512.Idx := fun a => match a with
  | ⟨0, _⟩ => ⟨0, Nat.one_pos⟩
  | ⟨1, _⟩ => ⟨0, Nat.one_pos⟩
  | ⟨2, _⟩ => ⟨(j 0).val, (j 0).isLt⟩
  | ⟨3, _⟩ => ⟨(j 1).val, (j 1).isLt⟩
theorem reshape_unsq (h : S128x512.numel = S1x1x128x512.numel) (j : S128x512.Idx) : Shape.reshapeEquiv h j = unsq j :=
  Shape.reshapeEquiv_eq_of_rowMajor h (by
    rw [Shape.rowMajor_val_four, Shape.rowMajor_val_two]
    show (((0 * 1 + 0) * 128 + (j 0).val) * 512 + (j 1).val) = (j 0).val * 512 + (j 1).val
    simp only [Nat.zero_mul, Nat.zero_add])
theorem inSlot_emb (r : Fin 4) (s : Fin 2) (j : S128x512.Idx) : inSlot ((slotR r s).emb (unsq j)) = j :=
  idx2 (by show 0 + 1 * (j 0).val = _; omega) (by show 0 + 1 * (j 1).val = _; omega)
theorem slotM_set (r : Fin 4) (s : Fin 2) : (slotM A0 r s).view.set = (slotR r s).set :=
  (View.set_reshape _ _).trans (View.set_slice_whole cc0_scratch0 (slotR r s))
theorem sumPiece_apply (v : Vec F S128x512 .f32) (u : Vec F S1x1x128x512 .f32) (j : S128x512.Idx) : sumPiece v u j = FloatOps.addf (v j) (u (unsq j)) := by
  unfold sumPiece
  rw [shapeCast_self]
  show FloatOps.addf (v j) (u (Shape.reshapeEquiv _ j)) = _
  rw [reshape_unsq]

/-! ### Values -/

section
variable (X : Dev nD → S4096x128.Idx → Elt F .f32) (W : Dev nD → S128x2048.Idx → Elt F .f32)

theorem prodV_half (c : Dev nD) {k : Fin 32} (h : Fin 2) (hk : k ≠ rel c 0 0) (j : S128x1024.Idx) :
    prodV X W c ((halfR k h).emb j) = prodHalf (fun j => X c ((xR k).emb j)) (fun j => W c ((wR h).emb j)) j := by
  obtain ⟨h1, h2, h3⟩ := chunkOf_half k h j
  unfold prodV; rw [h1, h2, h3, if_neg hk]
theorem prodV_chunk (c : Dev nD) (j : S128x2048.Idx) :
    prodV X W c ((chunkR (rel c 0 0)).emb j) = prodAll (fun j => X c ((xR (rel c 0 0)).emb j)) (fun j => W c (wAllR.emb j)) j := by
  obtain ⟨h1, h3⟩ := chunkOf_chunk (rel c 0 0) j
  unfold prodV; rw [h1, h3, if_pos rfl]
theorem sumV_piece (c : Dev nD) (r : Fin 4) (s : Fin 2) (g : ℕ) (j : S128x512.Idx) :
    sumV X W r (g + 1) c ((pieceR (rel c r (g + 1)) r).emb j)
      = sumPiece (fun j => prodV X W c ((pieceR (rel c r (g + 1)) r).emb j)) (fun j => slotV X W c r g ((slotR r s).emb j)) j := by
  rw [sumPiece_apply]
  show FloatOps.addf _ (sumV X W r g (src r c) _) = FloatOps.addf _ (sumV X W r g (src r c) ((pieceR (rel c r (g + 1)) r).emb (inSlot ((slotR r s).emb (unsq j)))))
  rw [inSlot_emb]
theorem red_dev : ∀ (c : Dev nD) (r : Fin 4), (if r.val < 2 then devAt (rel c r 31 - 1) else devAt (rel c r 31 + 1)) = c := by decide
theorem redV_piece (c : Dev nD) (r : Fin 4) {i : S4096x2048.Idx} (h : i ∈ (pieceR (rel c r 31) r).set) : sumV X W r 31 c i = redV X W i := by
  obtain ⟨h1, h2⟩ := chunkOf_mem_piece h
  unfold redV; rw [h1, h2, red_dev]
theorem maxV_row (d : Dev nD) (j : S1x128.Idx) : maxV X W ((rowR d).emb j) =
    maxRow (fun j => redV X W ((halfR (relG d 0 0) 0).emb j)) (fun j => redV X W ((halfR (relG d 1 0) 1).emb j)) j := by
  have l0 : (j 0).val < 1 := (j 0).isLt
  have h0 : (((rowR d).emb j) 0).val = d.val + 1 * (j 0).val := rfl
  have h1 : (((rowR d).emb j) 1).val = 0 + 1 * (j 1).val := rfl
  have e : (⟨(((rowR d).emb j) 0).val, (((rowR d).emb j) 0).isLt⟩ : Dev nD) = d := Fin.ext (by show (((rowR d).emb j) 0).val = d.val; omega)
  have e' : inRow ((rowR d).emb j) = j := idx2 (by show 0 = _; omega) (by show (((rowR d).emb j) 1).val = _; omega)
  unfold maxV halfV; rw [e, e']
theorem quantV_half (k : Fin 32) (h : Fin 2) (j : S128x1024.Idx) :
    quantV X W ((halfR k h).emb j) = quantise (scaleV X W) (fun j => redV X W ((halfR k h).emb j)) j := by
  obtain ⟨h1, h2, h3⟩ := chunkOf_half k h j
  unfold quantV halfV; rw [h1, h2, h3]
theorem outV_half (k : Fin 32) (h : Fin 2) (j : S128x1024.Idx) :
    outV X W ((halfR k h).emb j) = dequantise (scaleV X W) (fun j => quantV X W ((halfR k h).emb j)) j := by
  obtain ⟨h1, h2, h3⟩ := chunkOf_half k h j
  unfold outV halfV; rw [h1, h2, h3]
end

/-! ### Writes through a rectangle of a whole buffer -/

theorem write_o {R : Rect S4096x2048} (f G : S4096x2048.Idx → Elt F .f32) (w : R.shape.Idx → Elt F .f32) (h : ∀ j, G (R.emb j) = w j) :
    ∀ i ∈ R.set, ((oM.access R).write (Elt F) f w Finset.univ) i = G i := by
  intro i hi; obtain ⟨j, rfl⟩ := of_emb hi
  exact ((oM.access R).write_emb_of_mem f w (Finset.mem_univ j)).trans (h j).symm
theorem write_q {R : Rect S4096x2048} (f G : S4096x2048.Idx → Elt F .fp8e4m3) (w : R.shape.Idx → Elt F .fp8e4m3) (h : ∀ j, G (R.emb j) = w j) :
    ∀ i ∈ R.set, ((qM.access R).write (Elt F) f w Finset.univ) i = G i := by
  intro i hi; obtain ⟨j, rfl⟩ := of_emb hi
  exact ((qM.access R).write_emb_of_mem f w (Finset.mem_univ j)).trans (h j).symm
theorem write_a {R : Rect S32x128} (f G : S32x128.Idx → Elt F .f32) (w : R.shape.Idx → Elt F .f32) (h : ∀ j, G (R.emb j) = w j) :
    ∀ i ∈ R.set, ((aM.access R).write (Elt F) f w Finset.univ) i = G i := by
  intro i hi; obtain ⟨j, rfl⟩ := of_emb hi
  exact ((aM.access R).write_emb_of_mem f w (Finset.mem_univ j)).trans (h j).symm
theorem write_o_off {R : Rect S4096x2048} (f : S4096x2048.Idx → Elt F .f32) (w : R.shape.Idx → Elt F .f32) {i : S4096x2048.Idx} (hi : i ∉ R.set) :
    ((oM.access R).write (Elt F) f w Finset.univ) i = f i :=
  (oM.access R).write_of_not_mem f w Finset.univ (fun h => hi (by rw [← View.set_slice_whole cc0_stg2_0 R]; exact h))

theorem set_o (R : Rect S4096x2048) : (oM.access R).set = R.set := View.set_slice_whole cc0_stg2_0 R
theorem set_q (R : Rect S4096x2048) : (qM.access R).set = R.set := View.set_slice_whole cc0_scratch1 R
theorem set_a (R : Rect S32x128) : (aM.access R).set = R.set := View.set_slice_whole cc0_scratch2 R
theorem set_c (R : Rect S4x2x128x512) : (cM.access R).set = R.set := View.set_slice_whole cc0_scratch0 R
theorem set_x (R : Rect S4096x128) : (xM.access R).set = R.set := View.set_slice_whole cc0_stg0_0 R
theorem set_w (R : Rect S128x2048) : (wM.access R).set = R.set := View.set_slice_whole cc0_stg1_0 R

variable {X : Dev nD → S4096x128.Idx → Elt F .f32} {W : Dev nD → S128x2048.Idx → Elt F .f32}
variable {κ : Ck → ℕ} {ν : Ky → ℕ} {c : Dev nD}

def xP (c : Dev nD) (f : S4096x128.Idx → Elt F .f32) : sProp 𝕄 := ((c : Thread nD τ).loc cc0_stg0_0) ↦{fullShare} f
def wP (c : Dev nD) (f : S128x2048.Idx → Elt F .f32) : sProp 𝕄 := ((c : Thread nD τ).loc cc0_stg1_0) ↦{fullShare} f
/-- A rectangle of the result, of the quantised buffer. -/
def oR (c : Dev nD) (S : Finset S4096x2048.Idx) (f : S4096x2048.Idx → Elt F .f32) : sProp 𝕄 := ((c : Thread nD τ).loc cc0_stg2_0) ↦[S]{fullShare} f
def oRG (c : Dev nD) (S : Finset S4096x2048.Idx) : sProp 𝕄 := iprop(∃ f, oR c S f)

theorem oR_congr {S : Finset S4096x2048.Idx} {f g : S4096x2048.Idx → Elt F .f32} (h : ∀ i ∈ S, f i = g i) : (oR c S f : sProp 𝕄) = oR c S g := pointsTo_congr h

/-! ### One load, one store -/

attribute [local irreducible] prodHalf prodAll maxRow sumPiece quantise dequantise prodV redV maxV quantV outV scaleV

variable {Q : PUnit → sProp (MT nD τ sig Ix (Elt F) ℕ UU ℕ)}

theorem ld_o {R : Rect S4096x2048} {S : Finset S4096x2048.Idx} (hS : R.set ⊆ S) {f : S4096x2048.Idx → Elt F .f32} {h : oM.view.LoadsAt R.toLoadRect}
    {k : (R.shape.Idx → Elt F .f32) → Pg F} :
    oR c S f ⊢ iprop((oR c S f -∗ WP c (k fun j => f (R.emb j)) Q) -∗ WP c (Prog.lift (.load oM R.toLoadRect h) >>= k) Q) :=
  wp_load_rect 𝒱₀ (c : Thread nD τ) none Set.univ (m := oM) (r := R) ((set_o R).le.trans hS)
theorem ld_q {R : Rect S4096x2048} {f : S4096x2048.Idx → Elt F .fp8e4m3} {q : PosShare TreeShare} {h : qM.view.LoadsAt R.toLoadRect}
    {k : (R.shape.Idx → Elt F .fp8e4m3) → Pg F} :
    (((c : Thread nD τ).loc cc0_scratch1) ↦[R.set]{q} f) ⊢ iprop(((((c : Thread nD τ).loc cc0_scratch1) ↦[R.set]{q} f) -∗ WP c (k fun j => f (R.emb j)) Q)
      -∗ WP c (Prog.lift (.load qM R.toLoadRect h) >>= k) Q) :=
  wp_load_rect 𝒱₀ (c : Thread nD τ) none Set.univ (m := qM) (r := R) (set_q R).le
theorem ld_a {R : Rect S32x128} {S : Finset S32x128.Idx} (hS : R.set ⊆ S) {f : S32x128.Idx → Elt F .f32} {q : PosShare TreeShare} {h : aM.view.LoadsAt R.toLoadRect}
    {k : (R.shape.Idx → Elt F .f32) → Pg F} :
    (((c : Thread nD τ).loc cc0_scratch2) ↦[S]{q} f) ⊢ iprop(((((c : Thread nD τ).loc cc0_scratch2) ↦[S]{q} f) -∗ WP c (k fun j => f (R.emb j)) Q)
      -∗ WP c (Prog.lift (.load aM R.toLoadRect h) >>= k) Q) :=
  wp_load_rect 𝒱₀ (c : Thread nD τ) none Set.univ (m := aM) (r := R) ((set_a R).le.trans hS)
theorem ld_c {R : Rect S4x2x128x512} {f : S4x2x128x512.Idx → Elt F .f32} {h : cM.view.LoadsAt R.toLoadRect}
    {k : (R.shape.Idx → Elt F .f32) → Pg F} :
    (((c : Thread nD τ).loc cc0_scratch0) ↦[R.set]{fullShare} f) ⊢ iprop(((((c : Thread nD τ).loc cc0_scratch0) ↦[R.set]{fullShare} f) -∗ WP c (k fun j => f (R.emb j)) Q)
      -∗ WP c (Prog.lift (.load cM R.toLoadRect h) >>= k) Q) :=
  wp_load_rect 𝒱₀ (c : Thread nD τ) none Set.univ (m := cM) (r := R) (set_c R).le
theorem ld_x {R : Rect S4096x128} {f : S4096x128.Idx → Elt F .f32} {h : xM.view.LoadsAt R.toLoadRect} {k : (R.shape.Idx → Elt F .f32) → Pg F} :
    xP c f ⊢ iprop((xP c f -∗ WP c (k fun j => f (R.emb j)) Q) -∗ WP c (Prog.lift (.load xM R.toLoadRect h) >>= k) Q) :=
  wp_load_rect 𝒱₀ (c : Thread nD τ) none Set.univ (m := xM) (r := R) (Finset.subset_univ _)
theorem ld_w {R : Rect S128x2048} {f : S128x2048.Idx → Elt F .f32} {h : wM.view.LoadsAt R.toLoadRect} {k : (R.shape.Idx → Elt F .f32) → Pg F} :
    wP c f ⊢ iprop((wP c f -∗ WP c (k fun j => f (R.emb j)) Q) -∗ WP c (Prog.lift (.load wM R.toLoadRect h) >>= k) Q) :=
  wp_load_rect 𝒱₀ (c : Thread nD τ) none Set.univ (m := wM) (r := R) (Finset.subset_univ _)

theorem st_o {R : Rect S4096x2048} {f G : S4096x2048.Idx → Elt F .f32} {w : R.shape.Idx → Elt F .f32} (hG : ∀ j, G (R.emb j) = w j)
    {h : (oM.access R).Stores Finset.univ} {h' : (Finset.univ : Finset R.shape.Idx) = Finset.univ ∨ ∀ a, R.stride a = 1} :
    oR c R.set f ⊢ iprop((oR c R.set G -∗ Q ⟨⟩) -∗ WP c (Prog.lift (.store oM R w Finset.univ h h')) Q) := by
  rw [← oR_congr (write_o f G w hG)]
  unfold oR
  iintro Ho HQ
  iapply (wp_store 𝒱₀ (c : Thread nD τ) none Set.univ (m := oM) (r := R) (Mk := Finset.univ) (set_o R).le) $$ Ho
  iintro Ho
  rw [wp_ret]
  imodintro
  iapply HQ; iexact Ho
theorem st_o_all {R : Rect S4096x2048} {f : S4096x2048.Idx → Elt F .f32} {w : R.shape.Idx → Elt F .f32}
    {h : (oM.access R).Stores Finset.univ} {h' : (Finset.univ : Finset R.shape.Idx) = Finset.univ ∨ ∀ a, R.stride a = 1} :
    oR c Finset.univ f ⊢ iprop((oR c Finset.univ ((oM.access R).write (Elt F) f w Finset.univ) -∗ Q ⟨⟩) -∗ WP c (Prog.lift (.store oM R w Finset.univ h h')) Q) := by
  unfold oR
  iintro Ho HQ
  iapply (wp_store 𝒱₀ (c : Thread nD τ) none Set.univ (m := oM) (r := R) (Mk := Finset.univ) (Finset.subset_univ _)) $$ Ho
  iintro Ho
  rw [wp_ret]
  imodintro
  iapply HQ; iexact Ho
theorem st_a {R : Rect S32x128} {f G : S32x128.Idx → Elt F .f32} {w : R.shape.Idx → Elt F .f32} (hG : ∀ j, G (R.emb j) = w j)
    {h : (aM.access R).Stores Finset.univ} {h' : (Finset.univ : Finset R.shape.Idx) = Finset.univ ∨ ∀ a, R.stride a = 1} :
    (((c : Thread nD τ).loc cc0_scratch2) ↦[R.set]{fullShare} f) ⊢ iprop(((((c : Thread nD τ).loc cc0_scratch2) ↦[R.set]{fullShare} G) -∗ Q ⟨⟩)
      -∗ WP c (Prog.lift (.store aM R w Finset.univ h h')) Q) := by
  have e := pointsTo_congr (nD := nD) (τ := τ) (sig := sig) (Ix := Ix) (Val := Elt F) (Name := ℕ) (U := UU) (Lvl := ℕ) (ℓ := (c : Thread nD τ).loc cc0_scratch2) (q := fullShare) (write_a f G w hG)
  rw [← e]
  iintro Ho HQ
  iapply (wp_store 𝒱₀ (c : Thread nD τ) none Set.univ (m := aM) (r := R) (Mk := Finset.univ) (set_a R).le) $$ Ho
  iintro Ho
  rw [wp_ret]
  imodintro
  iapply HQ; iexact Ho
theorem st_q {R : Rect S4096x2048} {f G : S4096x2048.Idx → Elt F .fp8e4m3} {w : R.shape.Idx → Elt F .fp8e4m3} (hG : ∀ j, G (R.emb j) = w j)
    {h : (qM.access R).Stores Finset.univ} {h' : (Finset.univ : Finset R.shape.Idx) = Finset.univ ∨ ∀ a, R.stride a = 1} {k : PUnit → Pg F} :
    (((c : Thread nD τ).loc cc0_scratch1) ↦[R.set]{fullShare} f) ⊢ iprop(((((c : Thread nD τ).loc cc0_scratch1) ↦[R.set]{fullShare} G) -∗ WP c (k ⟨⟩) Q)
      -∗ WP c (Prog.lift (.store qM R w Finset.univ h h') >>= k) Q) := by
  have e := pointsTo_congr (nD := nD) (τ := τ) (sig := sig) (Ix := Ix) (Val := Elt F) (Name := ℕ) (U := UU) (Lvl := ℕ) (ℓ := (c : Thread nD τ).loc cc0_scratch1) (q := fullShare) (write_q f G w hG)
  rw [← e]
  exact wp_store 𝒱₀ (c : Thread nD τ) none Set.univ (m := qM) (r := R) (Mk := Finset.univ) (set_q R).le

/-- The accumulation. -/
theorem tri_acc {k : Fin 32} {r : Fin 4} {s : Fin 2} {off : Fin 2 → ℕ} (hoff : off = ![128 * k.val, 512 * r.val]) {inb : ∀ a, off a + S128x512.size a ≤ S4096x2048.size a}
    {h1 h2 h3 h4 h5} {f G : S4096x2048.Idx → Elt F .f32} {u : S4x2x128x512.Idx → Elt F .f32}
    (hG : ∀ j, G ((pieceR k r).emb j) = sumPiece (fun j => f ((pieceR k r).emb j)) (fun j => u ((slotR r s).emb j)) j) :
    Tri X W κ ν c iprop(oR c (pieceR k r).set f ∗ cP c r s u)
      (do
        let v : Vec F S128x512 .f32 ← Prog.lift (.load oM (Rect.unit (s := S4096x2048) off S128x512.size inb).toLoadRect h1)
        let u : Vec F S1x1x128x512 .f32 ← Prog.lift (.load cM (Rect.unit (s := S4x2x128x512) ![r.val, s.val, 0, 0] S1x1x128x512.size (inbC r s)).toLoadRect h2)
        let _ : Vec F S128x512 .f32 ← Prog.lift (.load oM (Rect.unit (s := S4096x2048) off S128x512.size inb).toLoadRect h3)
        Prog.lift (.store oM (Rect.unit (s := S4096x2048) off S128x512.size inb) (sumPiece v u) Finset.univ h4 h5))
      iprop(oR c (pieceR k r).set G ∗ cP c r s u) := by
  subst hoff
  intro Q
  unfold cP
  iintro ⟨-, ⟨Ho, Hc⟩, HQ⟩
  iapply (ld_o (R := pieceR k r) (Finset.Subset.refl _)) $$ Ho
  iintro Ho
  iapply (ld_c (R := slotR r s)) $$ Hc
  iintro Hc
  iapply (ld_o (R := pieceR k r) (Finset.Subset.refl _)) $$ Ho
  iintro Ho
  iapply (st_o (R := pieceR k r) hG) $$ Ho
  iintro Ho
  iapply HQ
  isplitl [Ho] <;> iassumption

/-- A half chunk of the product. -/
theorem tri_gemm {k : Fin 32} (h : Fin 2) (hk : k ≠ rel c 0 0) {o1 o2 ow : Fin 2 → ℕ} (e1 : o1 = ![128 * k.val, 0]) (e2 : o2 = ![128 * k.val, 1024 * h.val]) (ew : ow = ![0, 1024 * h.val])
    {i1 : ∀ a, o1 a + S128x128.size a ≤ S4096x128.size a} {i2 : ∀ a, o2 a + S128x1024.size a ≤ S4096x2048.size a} {iw : ∀ a, ow a + S128x1024.size a ≤ S128x2048.size a}
    {h1 h2 h3 h4 h5} :
    Tri X W κ ν c iprop(oRG c (halfR k h).set ∗ xP c (X c) ∗ wP c (W c))
      (do
        let v : Vec F S128x128 .f32 ← Prog.lift (.load xM (Rect.unit (s := S4096x128) o1 S128x128.size i1).toLoadRect h1)
        let u : Vec F S128x1024 .f32 ← Prog.lift (.load wM (Rect.unit (s := S128x2048) ow S128x1024.size iw).toLoadRect h2)
        let _ : Vec F S128x1024 .f32 ← Prog.lift (.load oM (Rect.unit (s := S4096x2048) o2 S128x1024.size i2).toLoadRect h3)
        Prog.lift (.store oM (Rect.unit (s := S4096x2048) o2 S128x1024.size i2) (prodHalf v u) Finset.univ h4 h5))
      iprop(oR c (halfR k h).set (prodV X W c) ∗ xP c (X c) ∗ wP c (W c)) := by
  subst e1 e2 ew
  intro Q
  unfold oRG
  iintro ⟨-, ⟨⟨%f, Ho⟩, Hx, Hw⟩, HQ⟩
  iapply (ld_x (R := xR k)) $$ Hx
  iintro Hx
  iapply (ld_w (R := wR h)) $$ Hw
  iintro Hw
  iapply (ld_o (R := halfR k h) (Finset.Subset.refl _)) $$ Ho
  iintro Ho
  iapply (st_o (R := halfR k h) (prodV_half X W c h hk)) $$ Ho
  iintro Ho
  iapply HQ
  isplitl [Ho]; · iexact Ho
  isplitl [Hx] <;> iassumption

/-- The own chunk of the product. -/
theorem tri_gemmOwn {o1 o2 : Fin 2 → ℕ} (e1 : o1 = ![128 * (rel c 0 0).val, 0]) (e2 : o2 = ![128 * (rel c 0 0).val, 0])
    {i1 : ∀ a, o1 a + S128x128.size a ≤ S4096x128.size a} {i2 : ∀ a, o2 a + S128x2048.size a ≤ S4096x2048.size a} {iw : ∀ a, (![0, 0] : Fin 2 → ℕ) a + S128x2048.size a ≤ S128x2048.size a}
    {h1 h2 h3 h4 h5} :
    Tri X W κ ν c iprop(oRG c (chunkR (rel c 0 0)).set ∗ xP c (X c) ∗ wP c (W c))
      (do
        let v : Vec F S128x128 .f32 ← Prog.lift (.load xM (Rect.unit (s := S4096x128) o1 S128x128.size i1).toLoadRect h1)
        let u : Vec F S128x2048 .f32 ← Prog.lift (.load wM (Rect.unit (s := S128x2048) ![0, 0] S128x2048.size iw).toLoadRect h2)
        let _ : Vec F S128x2048 .f32 ← Prog.lift (.load oM (Rect.unit (s := S4096x2048) o2 S128x2048.size i2).toLoadRect h3)
        Prog.lift (.store oM (Rect.unit (s := S4096x2048) o2 S128x2048.size i2) (prodAll v u) Finset.univ h4 h5))
      iprop(oR c (chunkR (rel c 0 0)).set (prodV X W c) ∗ xP c (X c) ∗ wP c (W c)) := by
  subst e1 e2
  intro Q
  unfold oRG
  iintro ⟨-, ⟨⟨%f, Ho⟩, Hx, Hw⟩, HQ⟩
  iapply (ld_x (R := xR (rel c 0 0))) $$ Hx
  iintro Hx
  iapply (ld_w (R := wAllR)) $$ Hw
  iintro Hw
  iapply (ld_o (R := chunkR (rel c 0 0)) (Finset.Subset.refl _)) $$ Ho
  iintro Ho
  iapply (st_o (R := chunkR (rel c 0 0)) (prodV_chunk X W c)) $$ Ho
  iintro Ho
  iapply HQ
  isplitl [Ho]; · iexact Ho
  isplitl [Hx] <;> iassumption

/-- The own maximum. -/
theorem tri_amOwn {o1 o2 oa : Fin 2 → ℕ} (e1 : o1 = ![128 * (relG c 0 0).val, 0]) (e2 : o2 = ![128 * (relG c 1 0).val, 1024]) (ea : oa = ![c.val, 0])
    {i1 : ∀ a, o1 a + S128x1024.size a ≤ S4096x2048.size a} {i2 : ∀ a, o2 a + S128x1024.size a ≤ S4096x2048.size a} {ia : ∀ a, oa a + S1x128.size a ≤ S32x128.size a}
    {h1 h2 h3 h4 h5} :
    Tri X W κ ν c iprop(aG c c ∗ oR c (halfR (relG c 0 0) 0).set (redV X W) ∗ oR c (halfR (relG c 1 0) 1).set (redV X W))
      (do
        let v : Vec F S128x1024 .f32 ← Prog.lift (.load oM (Rect.unit (s := S4096x2048) o1 S128x1024.size i1).toLoadRect h1)
        let u : Vec F S128x1024 .f32 ← Prog.lift (.load oM (Rect.unit (s := S4096x2048) o2 S128x1024.size i2).toLoadRect h2)
        let _ : Vec F S1x128 .f32 ← Prog.lift (.load aM (Rect.unit (s := S32x128) oa S1x128.size ia).toLoadRect h3)
        Prog.lift (.store aM (Rect.unit (s := S32x128) oa S1x128.size ia) (maxRow v u) Finset.univ h4 h5))
      iprop(aP c c fullShare (maxV X W) ∗ oR c (halfR (relG c 0 0) 0).set (redV X W) ∗ oR c (halfR (relG c 1 0) 1).set (redV X W)) := by
  subst e1 e2 ea
  intro Q
  unfold aG aP
  iintro ⟨-, ⟨⟨%f, Ha⟩, Ho, Hp⟩, HQ⟩
  iapply (ld_o (R := halfR (relG c 0 0) 0) (Finset.Subset.refl _)) $$ Ho
  iintro Ho
  iapply (ld_o (R := halfR (relG c 1 0) 1) (Finset.Subset.refl _)) $$ Hp
  iintro Hp
  iapply (ld_a (R := rowR c) (Finset.Subset.refl _)) $$ Ha
  iintro Ha
  iapply (st_a (R := rowR c) (maxV_row X W c)) $$ Ha
  iintro Ha
  iapply HQ
  isplitl [Ha]; · iexact Ha
  isplitl [Ho] <;> iassumption

/-- The result whole, done on `S`, the reduced product still on `T`. -/
def oW (X : Dev nD → S4096x128.Idx → Elt F .f32) (W : Dev nD → S128x2048.Idx → Elt F .f32) (c : Dev nD) (S T : Finset S4096x2048.Idx) : sProp 𝕄 :=
  iprop(∃ f, ⌜(∀ i ∈ S, f i = outV X W i) ∧ ∀ i ∈ T, f i = redV X W i⌝ ∗ oR c Finset.univ f)

/-- A half chunk quantised. -/
theorem tri_quant {S T : Finset S4096x2048.Idx} {k : Fin 32} (h : Fin 2) (hT : (halfR k h).set ⊆ T) {off : Fin 2 → ℕ} (e1 : off = ![128 * k.val, 1024 * h.val])
    {hb : ∀ a, off a + S128x1024.size a ≤ S4096x2048.size a} {hp : (Rect.unit (s := S4096x2048) off S128x1024.size hb).PackedRows (EltTy.packing .fp8e4m3)} :
    Tri X W κ ν c iprop(oW X W c S T ∗ qG c k h) (quantAt A0 off hb hp (scaleV X W))
      iprop(oW X W c (S ∪ (halfR k h).set) (T \ (halfR k h).set) ∗ qP c k h fullShare (quantV X W)) := by
  subst e1
  intro Q
  unfold oW qG qP quantAt
  iintro ⟨-, ⟨⟨%f, %hf, Ho⟩, %g, Hq⟩, HQ⟩
  have hw : (fun j => f ((halfR k h).emb j)) = fun j => redV X W ((halfR k h).emb j) := funext fun j => hf.2 _ (hT (emb_mem _ j))
  iapply (ld_o (R := halfR k h) (Finset.subset_univ _)) $$ Ho
  iintro Ho
  iapply (ld_q (R := halfR k h)) $$ Hq
  iintro Hq
  iapply (st_q (R := halfR k h) (fun j => by rw [hw]; exact quantV_half X W k h j)) $$ Hq
  iintro Hq
  iapply (ld_q (R := halfR k h)) $$ Hq
  iintro Hq
  iapply (ld_o (R := halfR k h) (Finset.subset_univ _)) $$ Ho
  iintro Ho
  iapply (st_o_all (R := halfR k h)) $$ Ho
  iintro Ho
  iapply HQ
  isplitl [Ho]
  · iexists ((oM.access (halfR k h)).write (Elt F) f (dequantise (scaleV X W) (fun j => quantV X W ((halfR k h).emb j))) Finset.univ)
    isplitr
    · ipureintro
      constructor
      · intro i hi
        by_cases h' : i ∈ (halfR k h).set
        · exact write_o f (outV X W) _ (outV_half X W k h) i h'
        · rw [write_o_off f _ h']
          exact hf.1 i ((Finset.mem_union.mp hi).resolve_right h')
      · intro i hi
        rw [Finset.mem_sdiff] at hi
        rw [write_o_off f _ hi.2]
        exact hf.2 i hi.1
    iexact Ho
  iexact Hq

/-- A received half chunk into the result. -/
theorem tri_out {S T : Finset S4096x2048.Idx} {k : Fin 32} (h : Fin 2) {q : PosShare TreeShare} {off : Fin 2 → ℕ} (e1 : off = ![128 * k.val, 1024 * h.val])
    {hb : ∀ a, off a + S128x1024.size a ≤ S4096x2048.size a} {h1 h2 h3 h4} :
    Tri X W κ ν c iprop(oW X W c S T ∗ qP c k h q (quantV X W))
      (do
        let u : Vec F S128x1024 .fp8e4m3 ← Prog.lift (.load qM (Rect.unit (s := S4096x2048) off S128x1024.size hb).toLoadRect h1)
        let _ : Vec F S128x1024 .f32 ← Prog.lift (.load oM (Rect.unit (s := S4096x2048) off S128x1024.size hb).toLoadRect h2)
        Prog.lift (.store oM (Rect.unit (s := S4096x2048) off S128x1024.size hb) (dequantise (scaleV X W) u) Finset.univ h3 h4))
      iprop(oW X W c (S ∪ (halfR k h).set) (T \ (halfR k h).set) ∗ qP c k h q (quantV X W)) := by
  subst e1
  intro Q
  unfold oW qP
  iintro ⟨-, ⟨⟨%f, %hf, Ho⟩, Hq⟩, HQ⟩
  iapply (ld_q (R := halfR k h)) $$ Hq
  iintro Hq
  iapply (ld_o (R := halfR k h) (Finset.subset_univ _)) $$ Ho
  iintro Ho
  iapply (st_o_all (R := halfR k h)) $$ Ho
  iintro Ho
  iapply HQ
  isplitl [Ho]
  · iexists ((oM.access (halfR k h)).write (Elt F) f (dequantise (scaleV X W) (fun j => quantV X W ((halfR k h).emb j))) Finset.univ)
    isplitr
    · ipureintro
      constructor
      · intro i hi
        by_cases h' : i ∈ (halfR k h).set
        · exact write_o f (outV X W) _ (outV_half X W k h) i h'
        · rw [write_o_off f _ h']
          exact hf.1 i ((Finset.mem_union.mp hi).resolve_right h')
      · intro i hi
        rw [Finset.mem_sdiff] at hi
        rw [write_o_off f _ hi.2]
        exact hf.2 i hi.1
    iexact Ho
  iexact Hq

end Cert.KernelIdeal.Px

end
-- ==== Proof.Scatter.lean ====
/-
  A step of a ring of the reduce-scatter.
-/
module

public import proofs.«01_k».proof.Proof.Mem

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### What a copy leaves -/

theorem write_slot {r : Fin 4} {s : Fin 2} (f G : S4x2x128x512.Idx → Elt F .f32) (w : S128x512.Idx → Elt F .f32) (h : ∀ j, G ((slotR r s).emb (unsq j)) = w j) :
    ∀ i ∈ (slotM A0 r s).view.set, ((slotM A0 r s).view.write (Elt F) f w Finset.univ) i = G i := by
  intro i hi
  obtain ⟨j, -, rfl⟩ := Finset.mem_map.mp hi
  refine ((slotM A0 r s).view.write_emb_of_mem f w (Finset.mem_univ j)).trans ?_
  have e : (slotM A0 r s).view.emb j = (slotR r s).emb (unsq j) := congrArg (slotR r s).emb (reshape_unsq _ j)
  rw [e, h j]; rfl

theorem payR_slot {r : Fin 4} {j : ℕ} (k : Fin 32) (hk : k = rel c r j) (f : S4x2x128x512.Idx → Elt F .f32) :
    ∀ i ∈ (slotM A0 r (par j)).view.set,
      ((slotM A0 r (par j)).view.write (Elt F) f ((oM.slice (pieceR k r) (fun _ => rfl)).view.read (Elt F) (sumV X W r j c)) Finset.univ) i = slotV X W (dst r c) r j i := by
  subst hk
  refine write_slot f _ _ fun x => ?_
  unfold slotV
  rw [inSlot_emb, src_dst, rel_dst]
  rfl

/-- A piece sent along ring `r`. -/
theorem tri_rsSend {r : Fin 4} {j : ℕ} (hj : j < 31) {off : Fin 2 → ℕ} (hoff : off = ![128 * (rel c r j).val, 512 * r.val])
    {inb : ∀ a, off a + S128x512.size a ≤ S4096x2048.size a} {n : Dev nD} (hn : n = dst r c) {t' : ℕ} (ht : t' = time (.send false r j) + 1)
    {hsc : (slotM A0 r (par j)).view.ref.isScScratch = false}
    {hsrc : (oM.slice (Rect.unit (s := S4096x2048) off S128x512.size inb) (fun _ => rfl)).view.WordExact} {hdst : (slotM A0 r (par j)).view.WordExact}
    {hsem : DmaTarget.Typed .vmem (.dma (sem2 cc0_scratch4 r (par j))) (.remote (Dev.tc n : Thread nD τ) (slotM A0 r (par j)) (.dma (sem2 cc0_scratch3 r (par j))) hsc)} :
    Tri X W κ ν c iprop(oR c (pieceR (rel c r j) r).set (sumV X W r j c) ∗ heardOf r c (j + 1) ∗ ow c (time (.send false r j)) ∗ tokAt c false r j
        ∗ reached ER (cell (c, sndK false r (par j))) (j / 2) ∗ ready (dst r c) false r j)
      (Prog.lift (.enqueueDma (oM.slice (Rect.unit (s := S4096x2048) off S128x512.size inb) (fun _ => rfl))
        (.remote (Dev.tc n : Thread nD τ) (slotM A0 r (par j)) (.dma (sem2 cc0_scratch3 r (par j))) hsc) (.dma (sem2 cc0_scratch4 r (par j))) hsrc hdst hsem))
      iprop(scr c false r j ∗ ow c t') := by
  subst hoff
  have hset : (oM.slice (pieceR (rel c r j) r) (fun _ => rfl) : Memref sig .tc .vmem S128x512 .f32).view.set = (pieceR (rel c r j) r).set := set_o _
  have h := tr_send (X := X) (W := W) (κ := κ) (ν := ν) (c := c) (e := .send false r j) (show Ok (.send false r j) from hj) rfl n hn
    (src := oM.slice (pieceR (rel c r j) r) (fun _ => rfl)) (dst := slotM A0 r (par j)) (sS := .dma (sem2 cc0_scratch3 r (par j))) (sem := .dma (sem2 cc0_scratch4 r (par j)))
    (rsS_eq r (par j)) (rsR_eq r (par j)) (hsc := hsc) (hsrc := hsrc) (hdst := hdst) (hsem := hsem) (qs := fullShare) (fs := sumV X W r j c) (Z := heardOf r c (j + 1)) ht rfl
    (by show cG n r (par j) ⊢ _
        unfold cG cP
        iintro ⟨%f, H⟩; iexists f
        rw [slotM_set]; iexact H)
    (by show _ ⊢ oG c (rel c r j) r
        unfold oG oP
        iintro H; iexists (sumV X W r j c)
        rw [← hset]; iexact H)
    (by intro fd
        subst hn
        show _ ⊢ iprop(cP (dst r c) r (par j) (slotV X W (dst r c) r j) ∗ heardOf r (src r (dst r c)) (j + 1))
        rw [src_dst]
        unfold cP
        have e := pointsTo_congr (nD := nD) (τ := τ) (sig := sig) (Ix := Ix) (Val := Elt F) (Name := ℕ) (U := UU) (Lvl := ℕ) (ℓ := (dst r c : Thread nD τ).loc cc0_scratch0) (q := fullShare) (payR_slot (X := X) (W := W) (c := c) (r := r) (j := j) _ rfl fd)
        rw [slotM_set] at e
        iintro ⟨H, HZ⟩
        isplitl [H]
        · iapply (Entails.of_eq e); rw [← slotM_set]; iexact H
        iexact HZ)
  refine h.conseq ?_ (Entails.refl _)
  unfold tokAt ready oR
  rw [hset]
  iintro ⟨Hs, HZ, HO, ⟨Ht1, Ht2, Hw⟩, Hr1, Hr2, Hr3⟩
  isplitl [Hs]; · iexact Hs
  isplitl [HZ]; · iexact HZ
  isplitl [HO]; · iexact HO
  isplitl [Ht1]; · iexact Ht1
  isplitl [Ht2]; · iexact Ht2
  isplitl [Hw]; · iexact Hw
  isplitl [Hr1]; · iexact Hr1
  isplitl [Hr3]; · iexact Hr3
  iexact Hr2

/-! ### A step of a ring -/

/-- The credit returned at a step, -/
def crPart (d : Dev nD) (r : Fin 4) (g : ℕ) : Pg F := if g < 29 then semSignalWord (srcD d r) (sem4 cc0_scratch5 r) 1#32 else pure ⟨⟩
/-- the copy sent at a step, before it the credit and the end of the copy before. -/
def preP (d : Dev nD) (r : Fin 4) (g : ℕ) (h : g < 30) : Pg F :=
  if h1 : 0 < g then semWaitWord (sem4 cc0_scratch5 r) 1#32 >>= fun _ => rsWaitS A0 d r ⟨g - 1, by omega⟩ else pure ⟨⟩
def sndPart (d : Dev nD) (r : Fin 4) (g : ℕ) : Pg F :=
  if h : g < 30 then preP d r g h >>= fun _ => rsSend A0 d r ⟨g + 1, by omega⟩ else pure ⟨⟩
theorem rsRing_eq (d : Dev nD) (r : Fin 4) (g : Fin 31) :
    (rsRing A0 d r g : Pg F) = rsWaitR A0 d r g >>= fun _ => rsAcc A0 d r g >>= fun _ => crPart d r g.val >>= fun _ => sndPart d r g.val := by
  unfold rsRing crPart sndPart preP
  by_cases h1 : g.val < 29
  · by_cases h2 : g.val < 30
    · by_cases h3 : 0 < g.val
      · simp only [if_pos h1, dif_pos h2, dif_pos h3]; rfl
      · simp only [if_pos h1, dif_pos h2, dif_neg h3]; rfl
    · simp only [if_pos h1, dif_neg h2]
  · by_cases h2 : g.val < 30
    · by_cases h3 : 0 < g.val
      · simp only [if_neg h1, dif_pos h2, dif_pos h3]; rfl
      · simp only [if_neg h1, dif_pos h2, dif_neg h3]; rfl
    · simp only [if_neg h1, dif_neg h2]; rfl

section
variable (X : Dev nD → S4096x128.Idx → Elt F .f32) (W : Dev nD → S128x2048.Idx → Elt F .f32)
/-- A ring of the reduce-scatter before step `g`, -/
def RSt (c : Dev nD) (r : Fin 4) (g : ℕ) : sProp 𝕄 := iprop(Rcv c false r g ∗ Cro c false r (min g 29) ∗ Snd X W c false r (min g 30))
/-- what a step gives back, -/
def back (c : Dev nD) (r : Fin 4) (g : ℕ) : sProp 𝕄 :=
  iprop((if 0 < g ∧ g < 30 then oG c (rel c r (g - 1)) r else emp) ∗ (if g = 30 then oR c (pieceR (rel c r 31) r).set (sumV X W r 31 c) else emp)
    ∗ (if 29 ≤ g then cG c r (par g) else emp) ∗ heardOf r c (g + 2))
end
/-- and when it is. -/
def tau (g : ℕ) (r : Fin 4) : ℕ := 16 + 8 * g + 2 * r.val

theorem tau_credit (g : ℕ) (r : Fin 4) : time (.credit false r g) = tau g r := by simp only [time, base, tau, Bool.false_eq_true, if_false]; omega
theorem tau_send (g : ℕ) (r : Fin 4) : time (.send false r (g + 1)) = tau g r + 1 := by simp only [time, base, tau, Bool.false_eq_true, if_false]; omega
theorem tau_recv (g : ℕ) (r : Fin 4) : time (.send false r g) < tau g r := by simp only [time, base, tau, Bool.false_eq_true, if_false]; omega

theorem heard_succ (r : Fin 4) (c : Dev nD) (g : ℕ) : iprop(entered c ∗ heardOf r (src r c) g) ⊢ (heardOf r c (g + 1) : sProp 𝕄) := by
  unfold heardOf
  refine BI.bigSep_intro_persistent fun j hj => ?_
  obtain _ | j := j
  · iintro ⟨#H1, #H2⟩; iexact H1
  · have h : j ∈ Finset.range g := by rw [Finset.mem_range] at hj ⊢; omega
    iintro ⟨#H1, #H2⟩
    iapply (sep_elim h fun j => entered (F := F) ((src r)^[j] (src r c)))
    iexact H2

theorem tri_rsRing {r : Fin 4} (g : Fin 31) :
    Tri X W κ ν c iprop(RSt X W c r g ∗ oR c (pieceR (rel c r (g + 1)) r).set (prodV X W c) ∗ entered c ∗ entered (dst r c) ∗ ow c (tau g r))
      (rsRing A0 c r g) iprop(RSt X W c r (g + 1) ∗ back X W c r g ∗ ow c (tau g r + 2)) := by
  rw [rsRing_eq]
  have hg := g.isLt
  refine Tri.seqw iprop((Rcv c false r (g.val + 1) ∗ ow c (tau g r) ∗ reached ER (cell (c, rcvK false r (par g))) (g.val / 2 + 1) ∗ payR X W c (.send false r g))
    ∗ Cro c false r (min g.val 29) ∗ Snd X W c false r (min g.val 30) ∗ oR c (pieceR (rel c r (g + 1)) r).set (prodV X W c) ∗ entered c ∗ entered (dst r c)) ?_ ?_
  · refine ((tri_recv (X := X) (W := W) (κ := κ) (ν := ν) (c := c) (ph := false) (r := r) (g := g) hg (rsR_eq r (par g)) rfl ?_ (tau_recv g r)).framed _).conseq ?_ (Entails.refl _)
    · exact fun K => rfl
    unfold RSt
    iintro ⟨⟨H1, H2, H3⟩, H4, H5, H6, H7⟩
    isplitl [H1 H7]
    · isplitl [H1] <;> iassumption
    isplitl [H2]; · iexact H2
    isplitl [H3]; · iexact H3
    isplitl [H4]; · iexact H4
    isplitl [H5] <;> iassumption
  refine Tri.seqw iprop((oR c (pieceR (rel c r (g + 1)) r).set (sumV X W r (g + 1) c) ∗ cP c r (par g) (slotV X W c r g))
    ∗ Rcv c false r (g.val + 1) ∗ ow c (tau g r) ∗ reached ER (cell (c, rcvK false r (par g))) (g.val / 2 + 1) ∗ heardOf r c (g.val + 2)
    ∗ Cro c false r (min g.val 29) ∗ Snd X W c false r (min g.val 30) ∗ entered (dst r c)) ?_ ?_
  · refine ((tri_acc (X := X) (W := W) (κ := κ) (ν := ν) (c := c) (k := rel c r (g + 1)) (r := r) (s := par g) (accOff_eq c r g) (inb := accOff_inb c r g)
      (f := prodV X W c) (u := slotV X W c r g) (sumV_piece X W c r (par g) g)).framed _).conseq ?_ (Entails.refl _)
    show iprop((_ ∗ _ ∗ _ ∗ (cP c r (par g) (slotV X W c r g) ∗ heardOf r (src r c) (g.val + 1))) ∗ _) ⊢ _
    iintro ⟨⟨H1, H2, H3, H4, H5⟩, H6, H7, H8, H9, H10⟩
    isplitl [H8 H4]
    · isplitl [H8] <;> iassumption
    isplitl [H1]; · iexact H1
    isplitl [H2]; · iexact H2
    isplitl [H3]; · iexact H3
    isplitl [H5 H9]
    · iapply (heard_succ r c (g.val + 1)); isplitl [H9] <;> iassumption
    isplitl [H6]; · iexact H6
    isplitl [H7] <;> iassumption
  refine Tri.seqw iprop((Cro c false r (min (g.val + 1) 29) ∗ ow c (tau g r + 1) ∗ if 29 ≤ g.val then cG c r (par g) else emp)
    ∗ oR c (pieceR (rel c r (g + 1)) r).set (sumV X W r (g + 1) c) ∗ Rcv c false r (g.val + 1) ∗ heardOf r c (g.val + 2)
    ∗ Snd X W c false r (min g.val 30) ∗ entered (dst r c)) ?_ ?_
  · unfold crPart
    by_cases h1 : g.val < 29
    · rw [if_pos h1, if_neg (by omega : ¬ 29 ≤ g.val), Nat.min_eq_left (by omega : g.val ≤ 29), Nat.min_eq_left (by omega : g.val + 1 ≤ 29)]
      refine ((tri_credit (X := X) (W := W) (κ := κ) (ν := ν) (c := c) (ph := false) (r := r) (g := g) (show g.val + 2 < 31 by omega) _ (srcD_eq c r) (rsC_eq r) rfl).framed
        iprop(oR c (pieceR (rel c r (g + 1)) r).set (sumV X W r (g + 1) c) ∗ Rcv c false r (g.val + 1) ∗ heardOf r c (g.val + 2)
          ∗ Snd X W c false r (min g.val 30) ∗ entered (dst r c))).conseq ?_ ?_
      · have e : (ow c (tau g r) : sProp 𝕄) = ow c (time (.credit false r g)) := by rw [tau_credit]
        have e2 : cP c r (par g.val) (slotV X W c r g.val) ⊢ free c false r g.val := by
          show _ ⊢ cG c r (par (g.val + 2))
          rw [par_two]; unfold cG
          iintro H; iexists _; iexact H
        iintro ⟨⟨H1, H2⟩, H3, H4, H5, H6, H7, H8, H9⟩
        isplitl [H7 H5 H2 H4]
        · isplitl [H7]; · iexact H7
          isplitl [H5]; · iexact H5
          isplitl [H2]; · iapply e2; iexact H2
          iapply (Entails.of_eq e); iexact H4
        isplitl [H1]; · iexact H1
        isplitl [H3]; · iexact H3
        isplitl [H6]; · iexact H6
        isplitl [H8] <;> iassumption
      · rw [tau_credit]
        iintro ⟨⟨H1, H2⟩, H3⟩
        isplitl [H1 H2]
        · isplitl [H1]; · iexact H1
          isplitl [H2]; · iexact H2
          iempintro
        iexact H3
    · rw [if_neg h1, if_pos (by omega : 29 ≤ g.val), Nat.min_eq_right (by omega : 29 ≤ g.val), Nat.min_eq_right (by omega : 29 ≤ g.val + 1)]
      refine Tri.pre (Tri.skip (F := F) (X := X) (W := W)) ?_
      have e : (ow c (tau g r) : sProp 𝕄) = ow c (tau g r + 1) := by
        rw [← tau_credit]
        exact ow_none (F := F) c (e := .credit false r g) (show g.val ≤ 30 by omega) (show ¬ (g.val + 2 < 31) by omega)
      iintro ⟨-, ⟨H1, H2⟩, H3, H4, H5, H6, H7, H8, H9⟩
      imodintro
      isplitl [H7 H4 H2]
      · isplitl [H7]; · iexact H7
        isplitl [H4]; · iapply (Entails.of_eq e); iexact H4
        unfold cG; iexists _; iexact H2
      isplitl [H1]; · iexact H1
      isplitl [H3]; · iexact H3
      isplitl [H6]; · iexact H6
      isplitl [H8] <;> iassumption
  unfold sndPart
  by_cases h2 : g.val < 30
  · rw [dif_pos h2, Nat.min_eq_left (by omega : g.val ≤ 30)]
    refine Tri.seqw iprop((Pre X W c false r g ∗ (oR c (pieceR (rel c r (g + 1)) r).set (sumV X W r (g + 1) c) ∗ heardOf r c (g.val + 2) ∗ ow c (time (.send false r (g + 1)))))
      ∗ (if 0 < g.val ∧ g.val < 30 then oG c (rel c r (g.val - 1)) r else emp) ∗ Cro c false r (min (g.val + 1) 29) ∗ (if 29 ≤ g.val then cG c r (par g) else emp) ∗ Rcv c false r (g.val + 1) ∗ heardOf r c (g.val + 2)) ?_ ?_
    · unfold preP
      by_cases h0 : 0 < g.val
      · rw [dif_pos h0, if_pos (show 0 < g.val ∧ g.val < 30 from ⟨h0, h2⟩)]
        refine ((tri_presend (X := X) (W := W) (κ := κ) (ν := ν) (c := c) (ph := false) (r := r) (g := g) h0 (show g.val + 1 < 31 by omega) (rsC_eq r) (rsS_eq r (par (g.val - 1))) rfl
          ?_ (t := tau g r + 1) (by rw [tau_credit]; unfold tau; omega)).framed
          iprop((Cro c false r (min (g.val + 1) 29) ∗ if 29 ≤ g.val then cG c r (par g) else emp)
    ∗ oR c (pieceR (rel c r (g + 1)) r).set (sumV X W r (g + 1) c) ∗ Rcv c false r (g.val + 1) ∗ heardOf r c (g.val + 2))).conseq ?_ ?_
        · exact fun K => rfl
        · iintro ⟨⟨H1, H2, H3⟩, H4, H5, H6, H7, H8⟩
          isplitl [H7 H2]
          · isplitl [H7] <;> iassumption
          isplitl [H1 H3]
          · isplitl [H1] <;> iassumption
          isplitl [H4]; · iexact H4
          isplitl [H5] <;> iassumption
        · have e : (ow c (tau g r + 1) : sProp 𝕄) = ow c (time (.send false r (g + 1))) := by rw [tau_send]
          show iprop((_ ∗ oG c (rel c r (g.val - 1)) r ∗ _) ∗ _) ⊢ _
          iintro ⟨⟨H1, H2, H3⟩, ⟨H4, H5⟩, H6, H7, #H8⟩
          isplitl [H1 H6 H3]
          · isplitl [H1]; · iexact H1
            isplitl [H6]; · iexact H6
            isplitr; · iexact H8
            iapply (Entails.of_eq e); iexact H3
          isplitl [H2]; · iexact H2
          isplitl [H4]; · iexact H4
          isplitl [H5]; · iexact H5
          isplitl [H7]; · iexact H7
          iexact H8
      · rw [dif_neg h0, if_neg (show ¬ (0 < g.val ∧ g.val < 30) from fun h => h0 h.1)]
        refine Tri.pre (Tri.skip (F := F) (X := X) (W := W)) ?_
        have e : (ow c (tau g r + 1) : sProp 𝕄) = ow c (time (.send false r (g + 1))) := by rw [tau_send]
        have e0 : g.val = 0 := by omega
        have e1 : iprop(Cx X W κ ν ∗ Snd X W c false r g ∗ entered (dst r c)) ⊢ Pre X W c false r g.val := by rw [e0]; exact pre_zero
        iintro ⟨#HC, ⟨H1, H2, H3⟩, H4, H5, #H6, H7, H8⟩
        imodintro
        isplitl [H7 H8 H4 H2]
        · isplitl [H7 H8]
          · iapply e1
            isplitr; · iexact HC
            isplitl [H7] <;> iassumption
          isplitl [H4]; · iexact H4
          isplitr; · iexact H6
          iapply (Entails.of_eq e); iexact H2
        isplitr; · iempintro
        isplitl [H1]; · iexact H1
        isplitl [H3]; · iexact H3
        isplitl [H5]; · iexact H5
        iexact H6
    · refine ((tri_next (X := X) (W := W) (κ := κ) (ν := ν) (c := c) (ph := false) (r := r) (g := g) (Z := heardOf r c (g.val + 2)) (show g.val + 1 < 31 by omega)
        (tri_rsSend (X := X) (W := W) (κ := κ) (ν := ν) (c := c) (r := r) (j := g.val + 1) (by omega) (srcOff_eq c r ⟨g.val + 1, by omega⟩) (inb := srcOff_inb c r ⟨g.val + 1, by omega⟩) (dstD_eq c r) rfl)).framed _).conseq
        (Entails.refl _) ?_
      unfold RSt back
      rw [Nat.min_eq_left (by omega : g.val + 1 ≤ 30), tau_send, if_neg (show ¬ g.val = 30 by omega)]
      iintro ⟨⟨H1, H2⟩, H3, H4, H5, H6, H7⟩
      isplitl [H6 H4 H1]
      · isplitl [H6]; · iexact H6
        isplitl [H4] <;> iassumption
      isplitl [H3 H5 H7]
      · isplitl [H3]; · iexact H3
        isplitr; · iempintro
        isplitl [H5] <;> iassumption
      iexact H2
  · have h30 : g.val = 30 := by omega
    rw [dif_neg h2]
    refine Tri.pre (Tri.skip (F := F) (X := X) (W := W)) ?_
    unfold RSt back
    have e : (ow c (tau g r + 1) : sProp 𝕄) = ow c (tau g r + 2) := by
      rw [← tau_send]
      exact (ow_none (F := F) c (e := .send false r (g.val + 1)) (show g.val + 1 ≤ 31 by omega) (show ¬ (g.val + 1 < 31) by omega)).trans (by rw [tau_send])
    rw [if_pos h30, if_neg (show ¬ (0 < g.val ∧ g.val < 30) from fun h => h2 h.2), Nat.min_eq_right (by omega : 30 ≤ g.val + 1), Nat.min_eq_right (by omega : 30 ≤ g.val)]
    have e31 : (oR c (pieceR (rel c r (g.val + 1)) r).set (sumV X W r (g.val + 1) c) : sProp 𝕄) = oR c (pieceR (rel c r 31) r).set (sumV X W r 31 c) := by rw [show g.val + 1 = 31 by omega]
    iintro ⟨-, ⟨H1, H2, H3⟩, H4, H5, H6, H7, H8⟩
    imodintro
    isplitl [H5 H1 H7]
    · isplitl [H5]; · iexact H5
      isplitl [H1] <;> iassumption
    isplitl [H4 H3 H6]
    · isplitr; · iempintro
      isplitl [H4]; · iapply (Entails.of_eq e31); iexact H4
      isplitl [H3] <;> iassumption
    iapply (Entails.of_eq e); iexact H2

end Cert.KernelIdeal.Px

end
-- ==== Proof.Steps.lean ====
/-
  The steps of the reduce-scatter.
-/
module

public import proofs.«01_k».proof.Proof.Scatter

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

/-! ### Four rings in turn -/

section Four
variable {X : Dev nD → S4096x128.Idx → Elt F .f32} {W : Dev nD → S128x2048.Idx → Elt F .f32} {κ : Ck → ℕ} {ν : Ky → ℕ} {c : Dev nD}

abbrev four (A : Fin 4 → sProp 𝕄) : sProp 𝕄 := iprop(A 0 ∗ A 1 ∗ A 2 ∗ A 3)

theorem tri_four {A B : Fin 4 → sProp 𝕄} {E : sProp 𝕄} [BI.Persistent E] {T : ℕ → sProp 𝕄} {p : Fin 4 → Pg F}
    (h : ∀ r : Fin 4, Tri X W κ ν c iprop(A r ∗ E ∗ T r.val) (p r) iprop(B r ∗ T (r.val + 1))) :
    Tri X W κ ν c iprop(four A ∗ E ∗ T 0) (p 0 >>= fun _ => p 1 >>= fun _ => p 2 >>= fun _ => p 3) iprop(four B ∗ T 4) := by
  have h0 : Tri X W κ ν c iprop(A 0 ∗ E ∗ T 0) (p 0) iprop(B 0 ∗ T 1) := h 0
  have h1 : Tri X W κ ν c iprop(A 1 ∗ E ∗ T 1) (p 1) iprop(B 1 ∗ T 2) := h 1
  have h2 : Tri X W κ ν c iprop(A 2 ∗ E ∗ T 2) (p 2) iprop(B 2 ∗ T 3) := h 2
  have h3 : Tri X W κ ν c iprop(A 3 ∗ E ∗ T 3) (p 3) iprop(B 3 ∗ T 4) := h 3
  refine Tri.seqw iprop((B 0 ∗ T 1) ∗ A 1 ∗ A 2 ∗ A 3 ∗ E) ((h0.framed iprop(A 1 ∗ A 2 ∗ A 3 ∗ E)).conseq ?_ (Entails.refl _)) ?_
  · iintro ⟨⟨H0, H1, H2, H3⟩, #HE, HT⟩
    isplitl [H0 HT]
    · isplitl [H0]; · iexact H0
      isplitr; · iexact HE
      iexact HT
    isplitl [H1]; · iexact H1
    isplitl [H2]; · iexact H2
    isplitl [H3]; · iexact H3
    iexact HE
  refine Tri.seqw iprop((B 1 ∗ T 2) ∗ B 0 ∗ A 2 ∗ A 3 ∗ E) ((h1.framed iprop(B 0 ∗ A 2 ∗ A 3 ∗ E)).conseq ?_ (Entails.refl _)) ?_
  · iintro ⟨⟨H0, HT⟩, H1, H2, H3, #HE⟩
    isplitl [H1 HT]
    · isplitl [H1]; · iexact H1
      isplitr; · iexact HE
      iexact HT
    isplitl [H0]; · iexact H0
    isplitl [H2]; · iexact H2
    isplitl [H3]; · iexact H3
    iexact HE
  refine Tri.seqw iprop((B 2 ∗ T 3) ∗ B 0 ∗ B 1 ∗ A 3 ∗ E) ((h2.framed iprop(B 0 ∗ B 1 ∗ A 3 ∗ E)).conseq ?_ (Entails.refl _)) ?_
  · iintro ⟨⟨H1, HT⟩, H0, H2, H3, #HE⟩
    isplitl [H2 HT]
    · isplitl [H2]; · iexact H2
      isplitr; · iexact HE
      iexact HT
    isplitl [H0]; · iexact H0
    isplitl [H1]; · iexact H1
    isplitl [H3]; · iexact H3
    iexact HE
  refine (h3.framed iprop(B 0 ∗ B 1 ∗ B 2)).conseq ?_ ?_
  · iintro ⟨⟨H2, HT⟩, H0, H1, H3, #HE⟩
    isplitl [H3 HT]
    · isplitl [H3]; · iexact H3
      isplitr; · iexact HE
      iexact HT
    isplitl [H0]; · iexact H0
    isplitl [H1] <;> iassumption
  · iintro ⟨⟨H3, HT⟩, H0, H1, H2⟩
    isplitl [H0 H1 H2 H3]
    · isplitl [H0]; · iexact H0
      isplitl [H1]; · iexact H1
      isplitl [H2] <;> iassumption
    iexact HT

/-- The same in the middle of a program. -/
theorem tri_four_then {A B : Fin 4 → sProp 𝕄} {E : sProp 𝕄} [BI.Persistent E] {T : ℕ → sProp 𝕄} {p : Fin 4 → Pg F} {q : Pg F} (Y : sProp 𝕄) {R : sProp 𝕄}
    (h : ∀ r : Fin 4, Tri X W κ ν c iprop(A r ∗ E ∗ T r.val) (p r) iprop(B r ∗ T (r.val + 1)))
    (hq : Tri X W κ ν c iprop((four B ∗ T 4) ∗ Y) q R) :
    Tri X W κ ν c iprop((four A ∗ E ∗ T 0) ∗ Y) (p 0 >>= fun _ => p 1 >>= fun _ => p 2 >>= fun _ => p 3 >>= fun _ => q) R := by
  have e : (p 0 >>= fun _ => p 1 >>= fun _ => p 2 >>= fun _ => p 3 >>= fun _ => q) = ((p 0 >>= fun _ => p 1 >>= fun _ => p 2 >>= fun _ => p 3) >>= fun _ => q) := by
    simp only [bind_assoc]
  rw [e]
  exact Tri.seqw _ ((tri_four h).framed Y) hq
end Four

/-! ### The pieces a step needs -/

theorem join_half (c : Dev nD) (k : Fin 32) (h : Fin 2) {r r' : Fin 4} (hr : r = ⟨2 * h.val, by omega⟩) (hr' : r' = ⟨2 * h.val + 1, by omega⟩) :
    iprop(oG c k r ∗ oG c k r') ⊢ (oRG c (halfR k h).set : sProp 𝕄) := by
  subst hr hr'
  have hd : Disjoint (pieceR k ⟨2 * h.val, by omega⟩).set (pieceR k ⟨2 * h.val + 1, by omega⟩).set := piece_disj (Or.inr (by simp [Fin.ext_iff]))
  unfold oG oP oRG oR
  iintro ⟨⟨%f, H1⟩, ⟨%g, H2⟩⟩
  iexists _
  rw [half_pieces]
  iapply (pointsTo_join hd)
  isplitl [H1]; · iexact H1
  iexact H2

theorem split_half (c : Dev nD) (k : Fin 32) (h : Fin 2) {r r' : Fin 4} (hr : r = ⟨2 * h.val, by omega⟩) (hr' : r' = ⟨2 * h.val + 1, by omega⟩) (f : S4096x2048.Idx → Elt F .f32) :
    (oR c (halfR k h).set f : sProp 𝕄) = iprop(oR c (pieceR k r).set f ∗ oR c (pieceR k r').set f) := by
  subst hr hr'
  have hd : Disjoint (pieceR k ⟨2 * h.val, by omega⟩).set (pieceR k ⟨2 * h.val + 1, by omega⟩).set := piece_disj (Or.inr (by simp [Fin.ext_iff]))
  unfold oR
  rw [half_pieces]
  exact BI.Entails.antisymm (pointsTo_union hd).1 (pointsTo_union hd).2

/-- The pieces of ring `r` in hand before step `g`. -/
def pset (g : ℕ) : Finset ℕ := (Finset.range 32).filter fun j => (j + 1 < g ∧ j < 29) ∨ g < j
theorem mem_pset {g j : ℕ} : j ∈ pset g ↔ j < 32 ∧ ((j + 1 < g ∧ j < 29) ∨ g < j) := by unfold pset; rw [Finset.mem_filter, Finset.mem_range]
theorem pset_next {g : ℕ} (hg : g < 31) : g + 1 ∈ pset g := mem_pset.mpr ⟨by omega, Or.inr (by omega)⟩
theorem pset_succ {g : ℕ} (h0 : 0 < g) (hg : g < 30) : pset (g + 1) = insert (g - 1) ((pset g).erase (g + 1)) := by
  ext j; simp only [Finset.mem_insert, Finset.mem_erase, mem_pset]; omega
theorem pset_succ' {g : ℕ} (h : ¬ (0 < g ∧ g < 30)) (hg : g < 31) : pset (g + 1) = (pset g).erase (g + 1) := by
  ext j; simp only [Finset.mem_erase, mem_pset]; omega

section Step
variable (X : Dev nD → S4096x128.Idx → Elt F .f32) (W : Dev nD → S128x2048.Idx → Elt F .f32)
/-- What has come back for good, -/
def kept (c : Dev nD) (r : Fin 4) (g : ℕ) : sProp 𝕄 :=
  iprop((if 30 ≤ g then cG c r (par 29) else emp) ∗ (if 31 ≤ g then iprop(oR c (pieceR (rel c r 31) r).set (sumV X W r 31 c) ∗ cG c r (par 30)) else emp) ∗ heardOf r c (g + 1))
/-- a ring with its pieces, -/
def Ring (c : Dev nD) (r : Fin 4) (g : ℕ) : sProp 𝕄 := iprop(RSt X W c r g ∗ (bigSep (pset g) fun j => oG c (rel c r j) r) ∗ kept X W c r g)
/-- one of them taken out. -/
def RingO (c : Dev nD) (r : Fin 4) (g : ℕ) : sProp 𝕄 := iprop(RSt X W c r g ∗ (bigSep ((pset g).erase (g + 1)) fun j => oG c (rel c r j) r) ∗ kept X W c r g)
/-- Who has entered. -/
def Ent (c : Dev nD) : sProp 𝕄 := iprop(entered c ∗ entered (nxt c) ∗ entered (prv c))
end Step
instance Ent_ps (c : Dev nD) : BI.Persistent (Ent (F := F) c) := by unfold Ent; infer_instance
theorem Ent_dst (c : Dev nD) (r : Fin 4) : (Ent c : sProp 𝕄) ⊢ entered (dst r c) := by
  unfold Ent dst
  split
  · iintro ⟨-, H, -⟩; iexact H
  · iintro ⟨-, -, H⟩; iexact H
theorem Ent_own (c : Dev nD) : (Ent c : sProp 𝕄) ⊢ entered c := by
  unfold Ent
  iintro ⟨H, -⟩; iexact H

variable {X : Dev nD → S4096x128.Idx → Elt F .f32} {W : Dev nD → S128x2048.Idx → Elt F .f32}
variable {κ : Ck → ℕ} {ν : Ky → ℕ} {c : Dev nD}

theorem ring_open (r : Fin 4) {g : ℕ} (hg : g < 31) : (Ring X W c r g : sProp 𝕄) = iprop(RSt X W c r g ∗ (oG c (rel c r (g + 1)) r ∗ (bigSep ((pset g).erase (g + 1)) fun j => oG c (rel c r j) r)) ∗ kept X W c r g) := by
  unfold Ring; rw [sep_erase (pset_next hg)]

theorem kept_next (r : Fin 4) {g : ℕ} (hg : g < 31) :
    iprop(kept X W c r g ∗ (if g = 30 then oR c (pieceR (rel c r 31) r).set (sumV X W r 31 c) else emp) ∗ (if 29 ≤ g then cG c r (par g) else emp) ∗ heardOf r c (g + 2))
      ⊢ (kept X W c r (g + 1) : sProp 𝕄) := by
  unfold kept
  by_cases h1 : g = 30
  · subst h1
    rw [if_pos (by omega : 30 ≤ 30), if_neg (by omega : ¬ 31 ≤ 30), if_pos rfl, if_pos (by omega : 29 ≤ 30), if_pos (by omega : 30 ≤ 30 + 1), if_pos (by omega : 31 ≤ 30 + 1)]
    iintro ⟨⟨H1, -, -⟩, H2, H3, H4⟩
    isplitl [H1]; · iexact H1
    isplitl [H2 H3]
    · isplitl [H2] <;> iassumption
    iexact H4
  · by_cases h2 : g = 29
    · subst h2
      rw [if_neg (by omega : ¬ 30 ≤ 29), if_neg (by omega : ¬ 31 ≤ 29), if_neg (by omega : ¬ 29 = 30), if_pos (by omega : 29 ≤ 29), if_pos (by omega : 30 ≤ 29 + 1), if_neg (by omega : ¬ 31 ≤ 29 + 1)]
      iintro ⟨⟨-, -, -⟩, -, H3, H4⟩
      isplitl [H3]; · iexact H3
      isplitr; · iempintro
      iexact H4
    · rw [if_neg (by omega : ¬ 30 ≤ g), if_neg (by omega : ¬ 31 ≤ g), if_neg h1, if_neg (by omega : ¬ 29 ≤ g), if_neg (by omega : ¬ 30 ≤ g + 1), if_neg (by omega : ¬ 31 ≤ g + 1)]
      iintro ⟨⟨-, -, -⟩, -, -, H4⟩
      isplitr; · iempintro
      isplitr; · iempintro
      iexact H4

theorem ring_close (r : Fin 4) {g : ℕ} (hg : g < 31) :
    iprop(RSt X W c r (g + 1) ∗ back X W c r g ∗ (bigSep ((pset g).erase (g + 1)) fun j => oG c (rel c r j) r) ∗ kept X W c r g) ⊢ (Ring X W c r (g + 1) : sProp 𝕄) := by
  unfold Ring back
  have hk := kept_next (X := X) (W := W) (c := c) r hg
  by_cases h : 0 < g ∧ g < 30
  · have hn : g - 1 ∉ (pset g).erase (g + 1) := by rw [Finset.mem_erase, mem_pset]; omega
    have e : bigSep (insert (g - 1) ((pset g).erase (g + 1))) (fun j => oG (F := F) c (rel c r j) r) = iprop(oG c (rel c r (g - 1)) r ∗ bigSep ((pset g).erase (g + 1)) fun j => oG c (rel c r j) r) := bigSep_insert hn
    rw [pset_succ h.1 h.2, e, if_pos h]
    iintro ⟨H1, ⟨H2, H3, H4, H5⟩, H6, H7⟩
    isplitl [H1]; · iexact H1
    isplitl [H2 H6]
    · isplitl [H2] <;> iassumption
    iapply hk
    isplitl [H7]; · iexact H7
    isplitl [H3]; · iexact H3
    isplitl [H4] <;> iassumption
  · rw [pset_succ' h hg, if_neg h]
    iintro ⟨H1, ⟨-, H3, H4, H5⟩, H6, H7⟩
    isplitl [H1]; · iexact H1
    isplitl [H6]; · iexact H6
    iapply hk
    isplitl [H7]; · iexact H7
    isplitl [H3]; · iexact H3
    isplitl [H4] <;> iassumption

theorem tri_ring (g : Fin 31) (r : Fin 4) :
    Tri X W κ ν c iprop((RingO X W c r g ∗ oR c (pieceR (rel c r (g + 1)) r).set (prodV X W c)) ∗ Ent c ∗ ow c (16 + 8 * g.val + 2 * r.val))
      (rsRing A0 c r g) iprop(Ring X W c r (g + 1) ∗ ow c (16 + 8 * g.val + 2 * (r.val + 1))) := by
  refine ((tri_rsRing (X := X) (W := W) (κ := κ) (ν := ν) (c := c) (r := r) g).framed iprop((bigSep ((pset g).erase (g + 1)) fun j => oG c (rel c r j) r) ∗ kept X W c r g)).conseq ?_ ?_
  · unfold RingO
    have h1 := Ent_own (F := F) c
    have h2 := Ent_dst (F := F) c r
    iintro ⟨⟨⟨H1, H2, H3⟩, H4⟩, #HE, H5⟩
    isplitl [H1 H4 H5]
    · isplitl [H1]; · iexact H1
      isplitl [H4]; · iexact H4
      isplitr; · iapply h1; iexact HE
      isplitr; · iapply h2; iexact HE
      iexact H5
    isplitl [H2] <;> iassumption
  · have h := ring_close (X := X) (W := W) (c := c) r g.isLt
    iintro ⟨⟨H1, H2, H3⟩, H4, H5⟩
    isplitl [H1 H2 H4 H5]
    · iapply h
      isplitl [H1]; · iexact H1
      isplitl [H2]; · iexact H2
      isplitl [H4] <;> iassumption
    · iexact H3

theorem rel_ne (c : Dev nD) (r : Fin 4) (g : Fin 31) : rel c r (g.val + 1) ≠ rel c 0 0 :=
  (by decide +kernel : ∀ (c : Dev nD) (r : Fin 4) (g : Fin 31), rel c r (g.val + 1) ≠ rel c 0 0) c r g

/-- A half chunk of the product. -/
theorem tri_gemmPair (g : ℕ) (h : Fin 2) {r r' : Fin 4} (hr : r = ⟨2 * h.val, by omega⟩) (hr' : r' = ⟨2 * h.val + 1, by omega⟩) (hg : g < 31) {p : Pg F} (he : rel c r' (g + 1) = rel c r (g + 1))
    (ht : Tri X W κ ν c iprop(oRG c (halfR (rel c r (g + 1)) h).set ∗ xP c (X c) ∗ wP c (W c)) p
      iprop(oR c (halfR (rel c r (g + 1)) h).set (prodV X W c) ∗ xP c (X c) ∗ wP c (W c))) :
    Tri X W κ ν c iprop((Ring X W c r g ∗ Ring X W c r' g) ∗ xP c (X c) ∗ wP c (W c)) p
      iprop(((RingO X W c r g ∗ oR c (pieceR (rel c r (g + 1)) r).set (prodV X W c)) ∗ (RingO X W c r' g ∗ oR c (pieceR (rel c r' (g + 1)) r').set (prodV X W c)))
        ∗ xP c (X c) ∗ wP c (W c)) := by
  refine (ht.framed iprop(RingO X W c r g ∗ RingO X W c r' g)).conseq ?_ ?_
  · have hj := join_half (F := F) c (rel c r (g + 1)) h hr hr'
    rw [ring_open r hg, ring_open r' hg, he]
    unfold RingO
    iintro ⟨⟨⟨H1, ⟨H2, H3⟩, H4⟩, ⟨H5, ⟨H6, H7⟩, H8⟩⟩, H9, H10⟩
    isplitl [H2 H6 H9 H10]
    · isplitl [H2 H6]
      · iapply hj
        isplitl [H2] <;> iassumption
      isplitl [H9] <;> iassumption
    isplitl [H1 H3 H4]
    · isplitl [H1]; · iexact H1
      isplitl [H3] <;> iassumption
    isplitl [H5]; · iexact H5
    isplitl [H7] <;> iassumption
  · rw [he, split_half c (rel c r (g + 1)) h hr hr']
    iintro ⟨⟨⟨H1, H2⟩, H3, H4⟩, H5, H6⟩
    isplitl [H1 H2 H5 H6]
    · isplitl [H1 H5]
      · isplitl [H5] <;> iassumption
      isplitl [H6] <;> iassumption
    isplitl [H3] <;> iassumption

theorem tri_rsStep (g : Fin 31) :
    Tri X W κ ν c iprop((four (fun r => Ring X W c r g.val) ∗ xP c (X c) ∗ wP c (W c)) ∗ Ent c ∗ ow c (16 + 8 * g.val))
      (rsStep A0 c g) iprop((four (fun r => Ring X W c r (g.val + 1)) ∗ xP c (X c) ∗ wP c (W c)) ∗ Ent c ∗ ow c (16 + 8 * (g.val + 1))) := by
  unfold rsStep
  refine Tri.seqw iprop((((RingO X W c 0 g ∗ oR c (pieceR (rel c 0 (g.val + 1)) 0).set (prodV X W c)) ∗ (RingO X W c 1 g ∗ oR c (pieceR (rel c 1 (g.val + 1)) 1).set (prodV X W c)))
        ∗ xP c (X c) ∗ wP c (W c)) ∗ (Ring X W c 2 g.val ∗ Ring X W c 3 g.val) ∗ Ent c ∗ ow c (16 + 8 * g.val)) ?_ ?_
  · refine ((tri_gemmPair (X := X) (W := W) (κ := κ) (ν := ν) (c := c) g.val 0 (r := 0) (r' := 1) rfl rfl g.isLt rfl
      (tri_gemm 0 (rel_ne c 0 g) (off7_eq c g) (off8_eq c g) rfl)).framed _).conseq ?_ (Entails.refl _)
    iintro ⟨⟨⟨H0, H1, H2, H3⟩, H4, H5⟩, H6, H7⟩
    isplitl [H0 H1 H4 H5]
    · isplitl [H0 H1]
      · isplitl [H0] <;> iassumption
      isplitl [H4] <;> iassumption
    isplitl [H2 H3]
    · isplitl [H2] <;> iassumption
    isplitl [H6] <;> iassumption
  refine Tri.seqw iprop((((RingO X W c 2 g ∗ oR c (pieceR (rel c 2 (g.val + 1)) 2).set (prodV X W c)) ∗ (RingO X W c 3 g ∗ oR c (pieceR (rel c 3 (g.val + 1)) 3).set (prodV X W c)))
        ∗ xP c (X c) ∗ wP c (W c)) ∗ ((RingO X W c 0 g ∗ oR c (pieceR (rel c 0 (g.val + 1)) 0).set (prodV X W c)) ∗ (RingO X W c 1 g ∗ oR c (pieceR (rel c 1 (g.val + 1)) 1).set (prodV X W c))) ∗ Ent c ∗ ow c (16 + 8 * g.val)) ?_ ?_
  · refine ((tri_gemmPair (X := X) (W := W) (κ := κ) (ν := ν) (c := c) g.val 1 (r := 2) (r' := 3) rfl rfl g.isLt rfl
      (tri_gemm 1 (rel_ne c 2 g) (off9_eq c g) (off10_eq c g) rfl)).framed _).conseq ?_ (Entails.refl _)
    iintro ⟨⟨H1, H4, H5⟩, H2, H6, H7⟩
    isplitl [H2 H4 H5]
    · isplitl [H2]; · iexact H2
      isplitl [H4] <;> iassumption
    isplitl [H1]; · iexact H1
    isplitl [H6] <;> iassumption
  refine ((tri_four (X := X) (W := W) (κ := κ) (ν := ν) (c := c) (E := Ent c) (T := fun n => ow c (16 + 8 * g.val + 2 * n))
    (p := fun r => rsRing A0 c r g) (fun r => tri_ring (X := X) (W := W) (κ := κ) (ν := ν) (c := c) g r)).framed iprop(xP c (X c) ∗ wP c (W c) ∗ Ent c)).conseq ?_ ?_
  · iintro ⟨⟨⟨H2, H3⟩, H4, H5⟩, ⟨H0, H1⟩, #H6, H7⟩
    isplitl [H0 H1 H2 H3 H7]
    · isplitl [H0 H1 H2 H3]
      · isplitl [H0]; · iexact H0
        isplitl [H1]; · iexact H1
        isplitl [H2] <;> iassumption
      isplitr; · iexact H6
      iexact H7
    isplitl [H4]; · iexact H4
    isplitl [H5]; · iexact H5
    iexact H6
  · iintro ⟨⟨H1, H2⟩, H3, H4, H5⟩
    isplitl [H1 H3 H4]
    · isplitl [H1]; · iexact H1
      isplitl [H3] <;> iassumption
    isplitl [H5]; · iexact H5
    iexact H2

theorem tri_rsLoop :
    Tri X W κ ν c iprop((four (fun r => Ring X W c r 0) ∗ xP c (X c) ∗ wP c (W c)) ∗ Ent c ∗ ow c 16)
      (loop (fun g => if h : g < 31 then rsStep A0 c ⟨g, h⟩ else pure ⟨⟩) 0 31) iprop((four (fun r => Ring X W c r 31) ∗ xP c (X c) ∗ wP c (W c)) ∗ Ent c ∗ ow c 264) :=
  Tri.iter (I := fun g => iprop((four (fun r => Ring X W c r g) ∗ xP c (X c) ∗ wP c (W c)) ∗ Ent c ∗ ow c (16 + 8 * g))) 0 31 fun g _ hg => by
    have h : g < 31 := by omega
    simp only [dif_pos h]
    exact tri_rsStep ⟨g, h⟩

end Cert.KernelIdeal.Px

end
-- ==== Proof.Exchange.lean ====
/-
  The barrier, the first copies and the exchange of the maxima.
-/
module

public import proofs.«01_k».proof.Proof.Steps

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### The barrier -/

/-- What the barrier needs, -/
def Bar0 (c : Dev nD) : sProp 𝕄 :=
  iprop(atPos ER (cell (c, none)) 0 ∅ 0 ∗ (cred (tallyAt (cell (c, none)) (some (.bar false)) 1) ∗ cred (tallyAt (cell (c, none)) (some (.bar true)) 1))
    ∗ (dutyTok ER (cell (prv c, none)) 0 (.bar false) ∗ dutyTok ER (cell (nxt c, none)) 0 (.bar true)))
/-- and what the device releases on entering. -/
def Opn (c : Dev nD) : sProp 𝕄 := bigSep (evs.filter fun e => first e = true) fun e => iprop(readerAt ES ((c, e) : Ky) 0 ∗ land ((c, e) : Ky))

theorem first_dma {e : Ev} (h : first e = true) : isDma e = true := by
  cases e <;> first | rfl | cases h

theorem open_first (c : Dev nD) : iprop(Cx X W κ ν ∗ Opn c) ⊢ (|={Set.univ}=> entered c : sProp 𝕄) := by
  unfold Opn entered
  refine (BI.bigSep_with_persistent (Ψ := fun e => iprop(|={Set.univ}=> released ES ((c, e) : Ky) 1)) fun e he => ?_).trans (BI.bigSep_fupd _ _)
  rw [Finset.mem_filter, mem_evs] at he
  exact fupd_release he.1 (first_dma he.2)

theorem tri_barWait {t : ℕ} (ht : 2 < t) :
    Tri X W κ ν c iprop((cred (tallyAt (cell (c, none)) (some (.bar false)) 1) ∗ cred (tallyAt (cell (c, none)) (some (.bar true)) 1)) ∗ ow c t ∗ atPos ER (cell (c, none)) 0 ∅ 0)
      (semWaitWord barS 2#32)
      iprop(ow c t ∗ atPos ER (cell (c, none)) 1 ∅ 0 ∗ entered (nxt c) ∗ entered (prv c)) := by
  have hsm : SemLoc.reg barS = semOf none := bar_eq
  intro Q
  unfold ow
  iintro ⟨#HC, ⟨⟨Hc1, Hc2⟩, ⟨%Wt, HO⟩, Hat⟩, HQ⟩
  ihave #HI := (Cx_inv X W κ ν (c, none)) $$ HC
  ihave #Hlev := (Cx_lev X W κ ν) $$ HC
  have hcell : cell (c, none) = ((c : Thread nD τ), SemLoc.reg barS) := by unfold cell; rw [hsm]
  have hjoin : iprop(cred (tallyAt (cell (c, none)) (some (Ev.bar false)) 1) ∗ cred (tallyAt (cell (c, none)) (some (Ev.bar true)) 1))
      ⊢ (cred (tallyOn (cell (c, none)) (Finsupp.single (some (Ev.bar false)) 1 + Finsupp.single (some (Ev.bar true)) 1)) : sProp 𝕄) := by
    rw [tallyOn_add]; exact (cred_add _ _).2
  have hexp : 0 + 2 = (Rd X W).expect ((c : Thread nD τ), SemLoc.reg barS) 0 := by
    have := Rd_expect X W (c, none) 0; rw [hcell] at this; rw [this]; rfl
  have hdut : (Rd X W).duties ((c : Thread nD τ), SemLoc.reg barS) 0 = {.bar false, .bar true} := by
    have := Rd_duties X W (c, none) 0; rw [hcell] at this; rw [this]; rfl
  have hmay : (levAts L lv : sProp 𝕄) ⊢ MayOwe (c : Thread nD τ)
      (({some (Ev.bar false), some (Ev.bar true)} : Finset Ix).image fun u => (SemLoc.reg barS, u)) (owed c t) :=
    MayOwe.of_cut (L := L) (lev := lv) 2
      (fun p hp => by
        obtain ⟨u, hu, rfl⟩ := Finset.mem_image.mp hp
        show u ∈ L _; unfold L; rw [if_pos rfl]
        rw [Finset.mem_insert, Finset.mem_singleton] at hu
        rcases hu with rfl | rfl <;> exact Finset.mem_insert_of_mem (Finset.mem_image_of_mem _ ((mem_evs _).mpr trivial)))
      (fun g u hg => by
        obtain ⟨e, h1, h2, rfl, rfl⟩ := owed_at hg
        rw [L_cell]; exact Finset.mem_insert_of_mem (Finset.mem_image_of_mem _ ((mem_evs e).mpr h1)))
      (fun p hp => by
        obtain ⟨u, hu, rfl⟩ := Finset.mem_image.mp hp
        rw [Finset.mem_insert, Finset.mem_singleton] at hu
        rcases hu with rfl | rfl
        · show time (.bar false) ≤ 2; decide
        · show time (.bar true) ≤ 2; decide)
      (fun g u hg => by
        obtain ⟨e, h1, h2, rfl, rfl⟩ := owed_at hg
        show _ < time e; omega)
  have hpay : bigSep ((Rd X W).duties ((c : Thread nD τ), SemLoc.reg barS) 0 \ ∅) (fun d => (Rd X W).payload ((c : Thread nD τ), SemLoc.reg barS) 0 d)
      = iprop(entered (nxt c) ∗ entered (prv c)) := by
    have h1 := Rd_payload X W (c, none) 0 (.bar false); have h2 := Rd_payload X W (c, none) 0 (.bar true)
    rw [hcell] at h1 h2
    have h3 : bigSep ({Ev.bar false, Ev.bar true} : Finset Ev) (fun d => (Rd X W).payload ((c : Thread nD τ), SemLoc.reg barS) 0 d)
        = iprop((Rd X W).payload ((c : Thread nD τ), SemLoc.reg barS) 0 (.bar false) ∗ bigSep {Ev.bar true} fun d => (Rd X W).payload ((c : Thread nD τ), SemLoc.reg barS) 0 d) :=
      bigSep_insert (by decide)
    rw [hdut, Finset.sdiff_empty, h3, bigSep_singleton, h1, h2]; rfl
  ihave Hc := hjoin $$ [Hc1 Hc2]
  · isplitl [Hc1] <;> iassumption
  rw [hcell]
  iapply (Rounds.wp_wait_rest 𝒱₀ ER (Rd X W) (c : Thread nD τ) none (κ := κ (c, none)) (sm := SemLoc.reg barS) (w := .semWait barS (2#32).toInt) (k' := 2) (Es := Set.univ)
      (fun K => rfl) (Set.mem_univ _) (cr := Finsupp.single (some (Ev.bar false)) 1 + Finsupp.single (some (Ev.bar true)) 1)
      (({some (Ev.bar false), some (Ev.bar true)} : Finset Ix).image fun u => (SemLoc.reg barS, u)) (O := owed c t) (W := Wt) (R := 0) (m := 0) (T := ∅)
      hexp (by rw [Idealize.SL.Util.total_add, Idealize.SL.Util.total_single, Idealize.SL.Util.total_single])
      (Finset.image_subset_image (Finsupp.support_add.trans (Finset.union_subset (Finsupp.support_single_subset.trans (by simp)) (Finsupp.support_single_subset.trans (by simp)))))) $$ [Hc HO Hat]
  · isplitr; · iexact HI
    isplitl [Hc]; · iexact Hc
    isplitl [HO]; · iexact HO
    isplitr; · iapply hmay; iexact Hlev
    iexact Hat
  iintro ⟨HO, Hat, -, Hpay⟩
  rw [wp_ret]
  imodintro
  iapply HQ
  isplitl [HO]; · iexists _; iexact HO
  isplitl [Hat]; · iexact Hat
  iapply (Entails.of_eq hpay); iexact Hpay

theorem tri_barrier : Tri X W κ ν c iprop(Bar0 c ∗ Opn c ∗ ow c 1) (barrier c) iprop(atPos ER (cell (c, none)) 1 ∅ 0 ∗ Ent c ∗ ow c 8) := by
  unfold barrier Bar0
  have t1 := tr_signal (X := X) (W := W) (κ := κ) (ν := ν) (c := c) (e := .bar false) trivial (prvD c) (dev1_eq Facts₀.k0_dev1_lt c) bar_eq rfl rfl
  have t2 := tr_signal (X := X) (W := W) (κ := κ) (ν := ν) (c := c) (e := .bar true) trivial (nxtD c) (dev2_eq Facts₀.k0_dev2_lt c) bar_eq rfl rfl
  have p1 : payR X W (tgt c (.bar false)) (.bar false) = entered c := by show entered (payer (tgt c (.bar false)) (.bar false)) = _; rw [payer_tgt]
  have p2 : payR X W (tgt c (.bar true)) (.bar true) = entered c := by show entered (payer (tgt c (.bar true)) (.bar true)) = _; rw [payer_tgt]
  rw [p1] at t1
  rw [p2] at t2
  refine Tri.seqw iprop(ow c 2 ∗ (atPos ER (cell (c, none)) 0 ∅ 0 ∗ (cred (tallyAt (cell (c, none)) (some (.bar false)) 1) ∗ cred (tallyAt (cell (c, none)) (some (.bar true)) 1))
    ∗ dutyTok ER (cell (nxt c, none)) 0 (.bar true) ∗ entered c ∗ reached ER (cell (nxt c, none)) 0)) ((t1.framed _).pre ?_) ?_
  · have h := open_first (X := X) (W := W) (κ := κ) (ν := ν) c
    have hr1 := Cx_reached X W κ ν (prv c, none)
    have hr2 := Cx_reached X W κ ν (nxt c, none)
    iintro ⟨#HC, ⟨Hat, Hc, Hd1, Hd2⟩, Hop, HO⟩
    imod h $$ [Hop] with #HE
    · isplitr; · iexact HC
      iexact Hop
    imodintro
    isplitl [HO Hd1]
    · isplitl [HO]; · iexact HO
      isplitl [Hd1]; · iexact Hd1
      isplitr; · iapply hr1; iexact HC
      iexact HE
    isplitl [Hat]; · iexact Hat
    isplitl [Hc]; · iexact Hc
    isplitl [Hd2]; · iexact Hd2
    isplitr; · iexact HE
    iapply hr2; iexact HC
  refine Tri.seqw iprop(ow c 3 ∗ (atPos ER (cell (c, none)) 0 ∅ 0 ∗ (cred (tallyAt (cell (c, none)) (some (.bar false)) 1) ∗ cred (tallyAt (cell (c, none)) (some (.bar true)) 1))
    ∗ entered c)) ((t2.framed _).conseq ?_ (Entails.refl _)) ?_
  · iintro ⟨HO, Hat, Hc, Hd2, #HE, #Hr⟩
    isplitl [HO Hd2]
    · isplitl [HO]; · iexact HO
      isplitl [Hd2]; · iexact Hd2
      isplitr; · iexact Hr
      iexact HE
    isplitl [Hat]; · iexact Hat
    isplitl [Hc]; · iexact Hc
    iexact HE
  refine (((tri_barWait (X := X) (W := W) (κ := κ) (ν := ν) (c := c) (t := 3) (by omega)).framed (entered c))).conseq ?_ ?_
  · iintro ⟨HO, Hat, Hc, #HE⟩
    isplitl [HO Hat Hc]
    · isplitl [Hc]; · iexact Hc
      isplitl [HO] <;> iassumption
    iexact HE
  · have e : (ow c 3 : sProp 𝕄) = ow c 8 := ow_skip c (by omega) fun e _ h => by
      cases e with
      | bar n => cases n <;> simp [time] at h
      | credit ph r e => cases ph <;> simp only [time, base] at h <;> omega
      | send ph r e => cases ph <;> simp only [time, base] at h <;> omega
      | amax i => simp only [time] at h; omega
    unfold Ent
    iintro ⟨⟨HO, Hat, H1, H2⟩, HE⟩
    isplitl [Hat]; · iexact Hat
    isplitl [H1 H2 HE]
    · isplitl [HE]; · iexact HE
      isplitl [H1] <;> iassumption
    iapply (Entails.of_eq e); iexact HO

/-! ### The first copies -/

/-- A ring with its first piece computed, before its first copy, -/
def Ring0 (X : Dev nD → S4096x128.Idx → Elt F .f32) (W : Dev nD → S128x2048.Idx → Elt F .f32) (c : Dev nD) (r : Fin 4) : sProp 𝕄 :=
  iprop(Rcv c false r 0 ∗ Cro c false r 0 ∗ Ini X W c false r ∗ (bigSep (pset 0) fun j => oG c (rel c r j) r))

theorem ow_pre (r : Fin 4) : (ow c (8 + 2 * r.val) : sProp 𝕄) = ow c (time (.send false r 0)) := by
  have : time (.send false r 0) = 8 + 2 * r.val + 1 := by simp only [time, base]
  rw [this]
  refine ow_skip c (by omega) fun e _ h => ?_
  have hr := r.isLt
  cases e with
  | bar n => cases n <;> simp only [time, if_true, Bool.false_eq_true, if_false] at h <;> omega
  | credit ph r' e => cases ph <;> simp only [time, base] at h <;> omega
  | send ph r' e => cases ph <;> simp only [time, base] at h <;> omega
  | amax i => simp only [time] at h; omega

theorem heard_one (r : Fin 4) (c : Dev nD) : (entered c : sProp 𝕄) ⊢ heardOf r c 1 := by
  unfold heardOf
  rw [Finset.range_one, bigSep_singleton]; exact Entails.refl _

theorem sum_zero (X : Dev nD → S4096x128.Idx → Elt F .f32) (W : Dev nD → S128x2048.Idx → Elt F .f32) (r : Fin 4) (c : Dev nD) : sumV X W r 0 c = prodV X W c := by unfold sumV; rfl

theorem tri_first_send (r : Fin 4) :
    Tri X W κ ν c iprop((Ring0 X W c r ∗ oR c (pieceR (rel c r 0) r).set (prodV X W c)) ∗ Ent c ∗ ow c (8 + 2 * r.val))
      (rsSend A0 c r ⟨0, by decide⟩) iprop(Ring X W c r 0 ∗ ow c (8 + 2 * (r.val + 1))) := by
  have h := tri_first (X := X) (W := W) (κ := κ) (ν := ν) (c := c) (ph := false) (r := r) (Z := heardOf r c 1) (p := rsSend A0 c r ⟨0, by decide⟩)
    (tri_rsSend (X := X) (W := W) (κ := κ) (ν := ν) (c := c) (r := r) (j := 0) (by omega) (srcOff_eq c r ⟨0, by omega⟩) (inb := srcOff_inb c r ⟨0, by omega⟩) (dstD_eq c r) rfl)
  rw [sum_zero] at h
  refine (h.framed iprop(Rcv c false r 0 ∗ Cro c false r 0 ∗ (bigSep (pset 0) fun j => oG c (rel c r j) r) ∗ heardOf r c 1)).conseq ?_ ?_
  · have h1 := (Ent_own (F := F) c).trans (heard_one r c)
    have h2 := Ent_dst (F := F) c r
    unfold Ring0
    iintro ⟨⟨⟨H1, H2, H3, H4⟩, H5⟩, #HE, HO⟩
    isplitl [H3 H5 HO]
    · isplitl [H3]; · iexact H3
      isplitr; · iapply h2; iexact HE
      isplitl [H5]; · iexact H5
      isplitr; · iapply h1; iexact HE
      iapply (Entails.of_eq (ow_pre r)); iexact HO
    isplitl [H1]; · iexact H1
    isplitl [H2]; · iexact H2
    isplitl [H4]; · iexact H4
    iapply h1; iexact HE
  · have e : time (.send false r 0) + 1 = 8 + 2 * (r.val + 1) := by simp only [time, base]; omega
    rw [e]
    unfold Ring RSt kept
    rw [if_neg (by omega : ¬ 30 ≤ 0), if_neg (by omega : ¬ 31 ≤ 0)]
    iintro ⟨⟨H1, H2⟩, H3, H4, H5, H6⟩
    isplitl [H1 H3 H4 H5 H6]
    · isplitl [H3 H4 H1]
      · isplitl [H3]; · iexact H3
        isplitl [H4]; · iexact H4
        iexact H1
      isplitl [H5]; · iexact H5
      isplitr; · iempintro
      isplitr; · iempintro
      iexact H6
    iexact H2

theorem split_chunk (c : Dev nD) (k : Fin 32) (f : S4096x2048.Idx → Elt F .f32) :
    (oR c (chunkR k).set f : sProp 𝕄) = iprop((oR c (pieceR k 0).set f ∗ oR c (pieceR k 1).set f) ∗ (oR c (pieceR k 2).set f ∗ oR c (pieceR k 3).set f)) := by
  rw [← split_half c k 0 (r := 0) (r' := 1) rfl rfl f, ← split_half c k 1 (r := 2) (r' := 3) rfl rfl f]
  have hd : Disjoint (halfR k 0).set (halfR k 1).set := half_disj (Or.inr (by decide))
  unfold oR
  rw [chunk_halves]
  exact BI.Entails.antisymm (pointsTo_union hd).1 (pointsTo_union hd).2

theorem rel_zero (c : Dev nD) (r : Fin 4) : rel c r 0 = rel c 0 0 := (by decide +kernel : ∀ (c : Dev nD) (r : Fin 4), rel c r 0 = rel c 0 0) c r

/-! ### The maxima -/

/-- The tokens of a maximum sent. -/
def amTok (c : Dev nD) (i : ℕ) : sProp 𝕄 :=
  iprop(dutyTok ER (cell (c, some .ams)) 0 (.amax i) ∗ dutyTok ER (cell (peerOf i c, some .amr)) 0 (.amax i) ∗ writeTok ES ((peerOf i c, .amax i) : Ky) 1)

theorem peer_back : ∀ (c : Dev nD) (i : Fin 31), (src 0)^[(pos c - pos (peerOf i.val c)).val] c = peerOf i.val c := by decide +kernel
theorem heard_peer (c : Dev nD) {i : ℕ} (hi : i < 31) : (heardOf 0 c 32 : sProp 𝕄) ⊢ entered (peerOf i c) := by
  unfold heardOf
  have h := sep_elim (s := Finset.range 32) (i := (pos c - pos (peerOf i c)).val) (Finset.mem_range.mpr (pos c - pos (peerOf i c)).isLt) (fun j => (entered ((src 0)^[j] c) : sProp 𝕄))
  rw [peer_back c ⟨i, hi⟩] at h
  exact h

theorem tri_amSend {i : ℕ} (hi : i < 31) {off : Fin 2 → ℕ} (hoff : off = ![c.val, 0]) {inb : ∀ a, off a + S1x128.size a ≤ S32x128.size a} {n : Dev nD} (hn : n = peerOf i c)
    {hsc} {hsrc} {hdst} {hsem} :
    Tri X W κ ν c iprop(aP c c (Transfers.shareTokN fullShare i) (maxV X W) ∗ ow c (264 + i) ∗ amTok c i ∗ entered (peerOf i c))
      (Prog.lift (.enqueueDma (aM.slice (Rect.unit (s := S32x128) off S1x128.size inb) (fun _ => rfl))
        (.remote (Dev.tc n : Thread nD τ) (aM.slice (Rect.unit (s := S32x128) off S1x128.size inb) (fun _ => rfl)) (.dma (sem1 cc0_scratch6)) hsc) (.dma (sem1 cc0_scratch7)) hsrc hdst hsem))
      iprop(cred (tallyAt (cell (c, some .ams)) none (amt (.amax 0))) ∗ ow c (264 + (i + 1))) := by
  subst hoff
  have hset : (aM.slice (rowR c) (fun _ => rfl) : Memref sig .tc .vmem S1x128 .f32).view.set = (rowR c).set := set_a _
  have h := tr_send (X := X) (W := W) (κ := κ) (ν := ν) (c := c) (e := .amax i) (show Ok (.amax i) from hi) rfl n hn
    (src := aM.slice (rowR c) (fun _ => rfl)) (dst := aM.slice (rowR c) (fun _ => rfl)) (sS := .dma (sem1 cc0_scratch6)) (sem := .dma (sem1 cc0_scratch7))
    amS_eq amR_eq (hsc := hsc) (hsrc := hsrc) (hdst := hdst) (hsem := hsem) (qs := Transfers.shareTokN fullShare i) (fs := maxV X W) (Z := iprop(emp)) rfl rfl
    (by subst hn
        show aG (peerOf i c) (peerInv i (peerOf i c)) ⊢ _
        rw [peerInv_peerOf]
        unfold aG aP
        iintro ⟨%f, H⟩; iexists f
        rw [hset]; iexact H)
    (by show _ ⊢ aP c c (Transfers.shareTokN fullShare i) (maxV X W)
        unfold aP
        rw [← hset])
    (by intro fd
        subst hn
        show _ ⊢ aP (peerOf i c) (peerInv i (peerOf i c)) fullShare (maxV X W)
        rw [peerInv_peerOf]
        unfold aP
        have e := pointsTo_congr (nD := nD) (τ := τ) (sig := sig) (Ix := Ix) (Val := Elt F) (Name := ℕ) (U := UU) (Lvl := ℕ) (ℓ := (peerOf i c : Thread nD τ).loc cc0_scratch2) (q := fullShare)
          (write_a (R := rowR c) fd (maxV X W) ((aM.slice (rowR c) (fun _ => rfl)).view.read (Elt F) (maxV X W)) (fun j => rfl))
        iintro ⟨H, -⟩
        iapply (Entails.of_eq e); rw [← hset]; iexact H)
  refine (h.conseq (P := iprop(Cx X W κ ν ∗ aP c c (Transfers.shareTokN fullShare i) (maxV X W) ∗ ow c (264 + i) ∗ amTok c i ∗ entered (peerOf i c))) ?_ (Entails.refl _)).pre ?_
  · unfold amTok aP
    rw [hset]
    have h1 := Cx_reached X W κ ν (c, some .ams)
    have h2 := Cx_reached X W κ ν (peerOf i c, some .amr)
    have h3 := mem_first (F := F) (n := peerOf i c) (e := .amax i) hi rfl
    iintro ⟨#HC, Hs, HO, ⟨Ht1, Ht2, Hw⟩, #HE⟩
    isplitl [Hs]; · iexact Hs
    isplitr; · iempintro
    isplitl [HO]; · iexact HO
    isplitl [Ht1]; · iexact Ht1
    isplitl [Ht2]; · iexact Ht2
    isplitl [Hw]; · iexact Hw
    isplitr; · iapply h1; iexact HC
    isplitr; · iapply h2; iexact HC
    iapply h3; iexact HE
  · iintro ⟨#HC, H⟩
    imodintro
    isplitr; · iexact HC
    iexact H

theorem am_card (k : Option Ow) (h : k = some .ams ∨ k = some .amr) : (dutiesK k 0).card = 31 := by
  rcases h with rfl | rfl <;> rfl
theorem am_mem {k : Option Ow} (h : k = some .ams ∨ k = some .amr) {e : Ev} (he : e ∈ dutiesK k 0) : amt e = amt (.amax 0) := by
  rcases h with rfl | rfl <;>
  · simp only [dutiesK, if_true, Finset.mem_image] at he
    obtain ⟨i, -, rfl⟩ := he
    rfl

theorem tri_amSends :
    Tri X W κ ν c iprop((bigSep (Finset.Ico 0 31) fun i => amTok c i) ∗ (bigSep (Finset.Ico 0 31) fun i => aP c c (Transfers.shareTokN fullShare i) (maxV X W)) ∗ heardOf 0 c 32 ∗ ow c 264)
      (loop (fun i => amSend A0 c i) 0 31)
      iprop((bigSep (Finset.Ico 0 31) fun _ => cred (tallyAt (cell (c, some .ams)) none (amt (.amax 0)))) ∗ ow c 295) := by
  have h := Tri.iter (X := X) (W := W) (κ := κ) (ν := ν) (c := c) (f := fun i => amSend A0 c i)
    (I := fun i => iprop((bigSep (Finset.Ico i 31) fun i => amTok c i) ∗ (bigSep (Finset.Ico i 31) fun i => aP c c (Transfers.shareTokN fullShare i) (maxV X W)) ∗ heardOf 0 c 32
      ∗ (bigSep (Finset.Ico 0 i) fun _ => cred (tallyAt (cell (c, some .ams)) none (amt (.amax 0)))) ∗ ow c (264 + i))) 0 31 (fun i _ hi => ?_)
  · refine h.conseq ?_ ?_
    · have e : bigSep (Finset.Ico 0 0) (fun _ : ℕ => (cred (tallyAt (cell (c, some .ams)) none (amt (.amax 0))) : sProp 𝕄)) = iprop(emp) := by rw [Finset.Ico_self]; exact bigSep_empty
      show _ ⊢ iprop(_ ∗ _ ∗ _ ∗ bigSep (Finset.Ico 0 0) _ ∗ ow c 264)
      rw [e]
      iintro ⟨H1, H2, H3, H4⟩
      isplitl [H1]; · iexact H1
      isplitl [H2]; · iexact H2
      isplitl [H3]; · iexact H3
      isplitr; · iempintro
      iexact H4
    · iintro ⟨-, -, -, H1, H2⟩
      isplitl [H1] <;> iassumption
  · have hi' : i < 31 := by omega
    have e1 := bigSep_Ico_succ_bot hi' (fun i => amTok (F := F) c i)
    have e2 := bigSep_Ico_succ_bot hi' (fun i => aP c c (Transfers.shareTokN fullShare i) (maxV X W))
    have e3 := bigSep_Ico_succ_top (show 0 ≤ i by omega) (fun _ => (cred (tallyAt (cell (c, some .ams)) none (amt (.amax 0))) : sProp 𝕄))
    refine ((tri_amSend (X := X) (W := W) (κ := κ) (ν := ν) (c := c) hi' (off18_eq c) (inb := Facts₀.k0_off18_inb c) (peer_eq c i hi')).framed
      iprop((bigSep (Finset.Ico (i + 1) 31) fun i => amTok c i) ∗ (bigSep (Finset.Ico (i + 1) 31) fun i => aP c c (Transfers.shareTokN fullShare i) (maxV X W)) ∗ heardOf 0 c 32
      ∗ (bigSep (Finset.Ico 0 i) fun _ => cred (tallyAt (cell (c, some .ams)) none (amt (.amax 0)))))).conseq ?_ ?_
    · rw [e1, e2]
      have h3 := heard_peer (F := F) c hi'
      iintro ⟨⟨H1, H2⟩, ⟨H3, H4⟩, #H5, H6, H7⟩
      isplitl [H1 H3 H7]
      · isplitl [H3]; · iexact H3
        isplitl [H7]; · iexact H7
        isplitl [H1]; · iexact H1
        iapply h3; iexact H5
      isplitl [H2]; · iexact H2
      isplitl [H4]; · iexact H4
      isplitr; · iexact H5
      iexact H6
    · rw [e3]
      iintro ⟨⟨H1, H2⟩, H3, H4, H5, H6⟩
      isplitl [H3]; · iexact H3
      isplitl [H4]; · iexact H4
      isplitl [H5]; · iexact H5
      isplitl [H1 H6]
      · isplitl [H1]; · iexact H1
        iexact H6
      iexact H2

/-- The waits of the exchange, on either semaphore. -/
theorem tri_amWaits {k : Option Ow} (hk : k = some .ams ∨ k = some .amr) {sm : SemLoc sig} (hsm : sm = semOf k) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm (amt (.amax 0)) K)
    (u : ℕ → Ix) (hu : ∀ i, i < 31 → u i ∈ insert none (evs.image some) ∧ lv (cell (c, k)) (u i) < 295) :
    Tri X W κ ν c iprop((bigSep (Finset.Ico 0 31) fun i => cred (tallyAt (cell (c, k)) (u i) (amt (.amax 0)))) ∗ atPos ER (cell (c, k)) 0 ∅ 0 ∗ ow c 295)
      (loop (fun _ => Prog.lift w) 0 31)
      iprop((atPos ER (cell (c, k)) 1 ∅ 0 ∗ bigSep (dutiesK k 0) fun e => payK X W (c, k) e) ∗ ow c 295) := by
  have h := Tri.iter (X := X) (W := W) (κ := κ) (ν := ν) (c := c) (f := fun _ => Prog.lift w)
    (I := fun i => iprop((bigSep (Finset.Ico i 31) fun i => cred (tallyAt (cell (c, k)) (u i) (amt (.amax 0)))) ∗ mp X W c k (amt (.amax 0)) i ∗ ow c 295)) 0 31 (fun i _ hi => ?_)
  · refine h.conseq ?_ ?_
    · have hz := mp_zero (X := X) (W := W) (c := c) (k := k) (a := amt (.amax 0)) (by rw [am_card k hk]; decide)
      iintro ⟨H1, H2, H3⟩
      isplitl [H1]; · iexact H1
      isplitl [H2]; · iapply hz; iexact H2
      iexact H3
    · unfold mp
      rw [if_pos (by rw [am_card k hk])]
      iintro ⟨-, H1, H2⟩
      isplitl [H1] <;> iassumption
  · have hi' : i < 31 := by omega
    have e1 := bigSep_Ico_succ_bot hi' (fun i => (cred (tallyAt (cell (c, k)) (u i) (amt (.amax 0))) : sProp 𝕄))
    refine ((tr_wait_multi (X := X) (W := W) (κ := κ) (ν := ν) (c := c) (k := k) (a := amt (.amax 0)) (i := i) (fun e he => am_mem hk he) (by rw [am_card k hk]; exact hi') hsm hw (u i) 295 (hu i hi').1 (hu i hi').2).framed
      (bigSep (Finset.Ico (i + 1) 31) fun i => cred (tallyAt (cell (c, k)) (u i) (amt (.amax 0))))).conseq ?_ ?_
    · rw [e1]
      iintro ⟨⟨H1, H2⟩, H3, H4⟩
      isplitl [H1 H3 H4]
      · isplitl [H1]; · iexact H1
        isplitl [H4] <;> iassumption
      iexact H2
    · iintro ⟨⟨H1, H2⟩, H3⟩
      isplitl [H3]; · iexact H3
      isplitl [H2] <;> iassumption

end Cert.KernelIdeal.Px

end
-- ==== Proof.Cut.lean ====
/-
  The buffers cut into pieces and put together.
-/
module

public import proofs.«01_k».proof.Proof.Exchange

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

/-! ### The result buffer cut into pieces, and put together -/

section Cut
variable (c : Dev nD)

/-- The pieces `A` of ring `r`. -/
def Us (r : Fin 4) (A : Finset ℕ) : Finset S4096x2048.Idx := A.biUnion fun j => (pieceR (rel c r j) r).set
theorem piece_iff {k : Fin 32} {r : Fin 4} {i : S4096x2048.Idx} : i ∈ (pieceR k r).set ↔ chunkOf i = k ∧ ringOf i = r := by
  constructor
  · exact chunkOf_mem_piece
  · rintro ⟨rfl, rfl⟩
    rw [mem_piece]
    have h0 : (i 0).val < 4096 := (i 0).isLt
    have h1 : (i 1).val < 2048 := (i 1).isLt
    have e1 : (chunkOf i).val = (i 0).val / 128 := rfl
    have e2 : (ringOf i).val = (i 1).val / 512 := rfl
    omega
theorem mem_Us {r : Fin 4} {A : Finset ℕ} {i : S4096x2048.Idx} : i ∈ Us c r A ↔ ringOf i = r ∧ ∃ j ∈ A, chunkOf i = rel c r j := by
  unfold Us; rw [Finset.mem_biUnion]
  constructor
  · rintro ⟨j, hj, h⟩; rw [piece_iff] at h; exact ⟨h.2, j, hj, h.1⟩
  · rintro ⟨h, j, hj, h'⟩; exact ⟨j, hj, piece_iff.mpr ⟨h', h⟩⟩
theorem Us_disj {r r' : Fin 4} (h : r ≠ r') (A B : Finset ℕ) : Disjoint (Us c r A) (Us c r' B) := by
  rw [Finset.disjoint_left]; intro i h1 h2
  rw [mem_Us] at h1 h2; exact h (h1.1.symm.trans h2.1)
theorem rel_inj : ∀ (c : Dev nD) (r : Fin 4) (j j' : Fin 32), rel c r j.val = rel c r j'.val → j = j' := by decide +kernel
theorem Us_pair {r : Fin 4} {A : Finset ℕ} (hA : ∀ j ∈ A, j < 32) :
    ∀ j ∈ A, ∀ j' ∈ A, j ≠ j' → Disjoint (pieceR (rel c r j) r).set (pieceR (rel c r j') r).set := fun j hj j' hj' hn =>
  piece_disj (.inl fun h => hn (congrArg Fin.val (rel_inj c r ⟨j, hA j hj⟩ ⟨j', hA j' hj'⟩ h)))
theorem split_Us {r : Fin 4} {A : Finset ℕ} (hA : ∀ j ∈ A, j < 32) (f : S4096x2048.Idx → Elt F .f32) :
    oR c (Us c r A) f ⊢ (bigSep A fun j => oG c (rel c r j) r : sProp 𝕄) := by
  unfold oR Us
  rw [pointsTo_biUnion A _ (Us_pair c hA)]
  refine bigSep_mono fun j _ => ?_
  have h : (oP c (rel c r j) r f : sProp 𝕄) ⊢ oG c (rel c r j) r := by
    unfold oG
    iintro H; iexists f; iexact H
  exact h
theorem join_Us {r : Fin 4} {A : Finset ℕ} (hA : ∀ j ∈ A, j < 32) :
    (bigSep A fun j => oG c (rel c r j) r : sProp 𝕄) ⊢ oRG c (Us c r A) := by
  have : Nonempty (S4096x2048.Idx → Elt F .f32) := ⟨fun _ => (FloatOps.ofBits .f32 0 : F .f32)⟩
  have h1 := BI.bigSep_exists_pi (M := 𝕄) (Y := fun _ : ℕ => (S4096x2048.Idx → Elt F .f32)) A (fun j f => oP c (rel c r j) r f)
  have h2 : ∀ fs : ℕ → (S4096x2048.Idx → Elt F .f32), (bigSep A fun j => oP c (rel c r j) r (fs j) : sProp 𝕄)
      ⊢ iprop(∃ g, ⌜∀ j ∈ A, ∀ i ∈ (pieceR (rel c r j) r).set, g i = fs j i⌝ ∗ oR c (Us c r A) g) := fun fs =>
    pointsTo_biUnion_join (ℓ := (c : Thread nD τ).loc cc0_stg2_0) (q := fullShare) A (fun j => (pieceR (rel c r j) r).set) fs (fs 0) (Us_pair c hA)
  refine (show (bigSep A fun j => oG c (rel c r j) r : sProp 𝕄) ⊢ _ from h1).trans ?_
  iintro ⟨%fs, H⟩
  ihave H2 := (h2 fs) $$ H
  icases H2 with ⟨%g, -, H2⟩
  unfold oRG
  iexists g; iexact H2
theorem oR_union {S T : Finset S4096x2048.Idx} (h : Disjoint S T) (f : S4096x2048.Idx → Elt F .f32) : (oR c (S ∪ T) f : sProp 𝕄) = iprop(oR c S f ∗ oR c T f) :=
  BI.Entails.antisymm (pointsTo_union h).1 (pointsTo_union h).2
theorem oRG_union {S T : Finset S4096x2048.Idx} (h : Disjoint S T) : iprop(oRG c S ∗ oRG c T) ⊢ (oRG c (S ∪ T) : sProp 𝕄) := by
  unfold oRG oR
  iintro ⟨⟨%f, H1⟩, ⟨%g, H2⟩⟩
  iexists _
  iapply (pointsTo_join h)
  isplitl [H1] <;> iassumption

theorem chunk_iff {k : Fin 32} {i : S4096x2048.Idx} : i ∈ (chunkR k).set ↔ chunkOf i = k := by
  rw [mem_chunk, Fin.ext_iff]
  have h0 : (i 0).val < 4096 := (i 0).isLt
  have h1 : (i 1).val < 2048 := (i 1).isLt
  have e1 : (chunkOf i).val = (i 0).val / 128 := rfl
  omega
theorem half_iff {k : Fin 32} {h : Fin 2} {i : S4096x2048.Idx} : i ∈ (halfR k h).set ↔ chunkOf i = k ∧ (ringOf i).val / 2 = h.val := by
  rw [mem_half, Fin.ext_iff]
  have h0 : (i 0).val < 4096 := (i 0).isLt
  have h1 : (i 1).val < 2048 := (i 1).isLt
  have e1 : (chunkOf i).val = (i 0).val / 128 := rfl
  have e2 : (ringOf i).val = (i 1).val / 512 := rfl
  omega

theorem rel_surj0 : ∀ (c : Dev nD) (r : Fin 4) (k : Fin 32), k = rel c 0 0 ∨ ∃ j : Fin 32, 0 < j.val ∧ k = rel c r j.val := by decide +kernel
theorem rel_surj31 : ∀ (c : Dev nD) (r : Fin 4) (k : Fin 32), k = rel c r 31 ∨ ∃ j : Fin 32, j.val < 31 ∧ k = rel c r j.val := by decide +kernel
theorem own_half : ∀ (c : Dev nD) (r : Fin 4), rel c r 31 = if r.val / 2 = 0 then relG c 0 0 else relG c 1 0 := by decide +kernel

theorem cover0 : (Finset.univ : Finset S4096x2048.Idx) = (chunkR (rel c 0 0)).set ∪ (Us c 0 (pset 0) ∪ (Us c 1 (pset 0) ∪ (Us c 2 (pset 0) ∪ Us c 3 (pset 0)))) := by
  ext i
  simp only [Finset.mem_univ, true_iff, Finset.mem_union]
  rcases rel_surj0 c (ringOf i) (chunkOf i) with h | ⟨j, h1, h2⟩
  · exact .inl (chunk_iff.mpr h)
  · have key : ∀ r, ringOf i = r → i ∈ Us c r (pset 0) := fun r hr =>
      (mem_Us c).mpr ⟨hr, j.val, mem_pset.mpr ⟨j.isLt, .inr h1⟩, by rw [← hr]; exact h2⟩
    right
    have hr : ringOf i = 0 ∨ ringOf i = 1 ∨ ringOf i = 2 ∨ ringOf i = 3 := (by decide : ∀ r : Fin 4, r = 0 ∨ r = 1 ∨ r = 2 ∨ r = 3) _
    rcases hr with h | h | h | h
    · exact .inl (key _ h)
    · exact .inr (.inl (key _ h))
    · exact .inr (.inr (.inl (key _ h)))
    · exact .inr (.inr (.inr (key _ h)))

theorem disj0 (r : Fin 4) : Disjoint (chunkR (rel c 0 0)).set (Us c r (pset 0)) := by
  rw [Finset.disjoint_left]; intro i h1 h2
  rw [chunk_iff] at h1
  obtain ⟨-, j, hj, h2⟩ := (mem_Us c).mp h2
  rw [mem_pset] at hj
  have := rel_inj c r ⟨j, hj.1⟩ 0 (by rw [← h2, h1]; exact (rel_zero c r).symm)
  have := congrArg Fin.val this
  simp at this
  omega

theorem split_out (f : S4096x2048.Idx → Elt F .f32) :
    oR c Finset.univ f ⊢ (iprop(oRG c (chunkR (rel c 0 0)).set ∗ four fun r => bigSep (pset 0) fun j => oG c (rel c r j) r) : sProp 𝕄) := by
  have hA : ∀ j ∈ pset 0, j < 32 := fun j hj => (mem_pset.mp hj).1
  have d1 := Us_disj c (r := 2) (r' := 3) (by decide) (pset 0) (pset 0)
  have d2 : Disjoint (Us c 1 (pset 0)) (Us c 2 (pset 0) ∪ Us c 3 (pset 0)) := Finset.disjoint_union_right.mpr ⟨Us_disj c (by decide) _ _, Us_disj c (by decide) _ _⟩
  have d3 : Disjoint (Us c 0 (pset 0)) (Us c 1 (pset 0) ∪ (Us c 2 (pset 0) ∪ Us c 3 (pset 0))) :=
    Finset.disjoint_union_right.mpr ⟨Us_disj c (by decide) _ _, Finset.disjoint_union_right.mpr ⟨Us_disj c (by decide) _ _, Us_disj c (by decide) _ _⟩⟩
  have d4 : Disjoint (chunkR (rel c 0 0)).set (Us c 0 (pset 0) ∪ (Us c 1 (pset 0) ∪ (Us c 2 (pset 0) ∪ Us c 3 (pset 0)))) :=
    Finset.disjoint_union_right.mpr ⟨disj0 c 0, Finset.disjoint_union_right.mpr ⟨disj0 c 1, Finset.disjoint_union_right.mpr ⟨disj0 c 2, disj0 c 3⟩⟩⟩
  rw [cover0 c, oR_union c d4, oR_union c d3, oR_union c d2, oR_union c d1]
  have s0 := split_Us (F := F) c (r := 0) hA f
  have s1 := split_Us (F := F) c (r := 1) hA f
  have s2 := split_Us (F := F) c (r := 2) hA f
  have s3 := split_Us (F := F) c (r := 3) hA f
  iintro ⟨H, H0, H1, H2, H3⟩
  isplitl [H]; · unfold oRG; iexists f; iexact H
  isplitl [H0]; · iapply s0; iexact H0
  isplitl [H1]; · iapply s1; iexact H1
  isplitl [H2]; · iapply s2; iexact H2
  iapply s3; iexact H3

/-- The device's own halves. -/
def ownT : Finset S4096x2048.Idx := (halfR (relG c 0 0) 0).set ∪ (halfR (relG c 1 0) 1).set
theorem ownT_iff {i : S4096x2048.Idx} : i ∈ ownT c ↔ chunkOf i = rel c (ringOf i) 31 := by
  unfold ownT
  rw [Finset.mem_union, half_iff, half_iff, own_half]
  have hr := (ringOf i).isLt
  have e0 : ((0 : Fin 2) : ℕ) = 0 := rfl
  have e1 : ((1 : Fin 2) : ℕ) = 1 := rfl
  rw [e0, e1]
  by_cases h : (ringOf i).val / 2 = 0
  · rw [if_pos h]
    constructor
    · rintro (h' | h'); · exact h'.1
      · exact absurd (h.symm.trans h'.2) (by decide)
    · exact fun h' => .inl ⟨h', h⟩
  · rw [if_neg h]
    constructor
    · rintro (h' | h'); · exact absurd h'.2 h
      · exact h'.1
    · exact fun h' => .inr ⟨h', by omega⟩
theorem own_disj : Disjoint (halfR (relG c 0 0) 0).set (halfR (relG c 1 0) 1).set := half_disj (.inr (by decide))

theorem cover31 : (Finset.univ : Finset S4096x2048.Idx) = (Us c 0 (Finset.range 31) ∪ (Us c 1 (Finset.range 31) ∪ (Us c 2 (Finset.range 31) ∪ Us c 3 (Finset.range 31)))) ∪ ownT c := by
  ext i
  simp only [Finset.mem_univ, true_iff, Finset.mem_union]
  rcases rel_surj31 c (ringOf i) (chunkOf i) with h | ⟨j, h1, h2⟩
  · exact .inr ((ownT_iff c).mpr h)
  · have key : ∀ r, ringOf i = r → i ∈ Us c r (Finset.range 31) := fun r hr =>
      (mem_Us c).mpr ⟨hr, j.val, Finset.mem_range.mpr h1, by rw [← hr]; exact h2⟩
    left
    have hr : ringOf i = 0 ∨ ringOf i = 1 ∨ ringOf i = 2 ∨ ringOf i = 3 := (by decide : ∀ r : Fin 4, r = 0 ∨ r = 1 ∨ r = 2 ∨ r = 3) _
    rcases hr with h | h | h | h
    · exact .inl (key _ h)
    · exact .inr (.inl (key _ h))
    · exact .inr (.inr (.inl (key _ h)))
    · exact .inr (.inr (.inr (key _ h)))
theorem disj31 (r : Fin 4) : Disjoint (Us c r (Finset.range 31)) (ownT c) := by
  rw [Finset.disjoint_left]; intro i h1 h2
  rw [ownT_iff] at h2
  obtain ⟨hr, j, hj, h1⟩ := (mem_Us c).mp h1
  rw [Finset.mem_range] at hj
  rw [hr, h1] at h2
  have := congrArg Fin.val (rel_inj c r ⟨j, by omega⟩ 31 h2)
  simp at this
  omega

theorem join_out (X : Dev nD → S4096x128.Idx → Elt F .f32) (W : Dev nD → S128x2048.Idx → Elt F .f32) :
    iprop((four fun r => bigSep (Finset.range 31) fun j => oG c (rel c r j) r) ∗ oR c (halfR (relG c 0 0) 0).set (redV X W) ∗ oR c (halfR (relG c 1 0) 1).set (redV X W))
      ⊢ (oW X W c ∅ (ownT c) : sProp 𝕄) := by
  have hA : ∀ j ∈ Finset.range 31, j < 32 := fun j hj => by rw [Finset.mem_range] at hj; omega
  have d1 := Us_disj c (r := 2) (r' := 3) (by decide) (Finset.range 31) (Finset.range 31)
  have d2 : Disjoint (Us c 1 (Finset.range 31)) (Us c 2 (Finset.range 31) ∪ Us c 3 (Finset.range 31)) := Finset.disjoint_union_right.mpr ⟨Us_disj c (by decide) _ _, Us_disj c (by decide) _ _⟩
  have d3 : Disjoint (Us c 0 (Finset.range 31)) (Us c 1 (Finset.range 31) ∪ (Us c 2 (Finset.range 31) ∪ Us c 3 (Finset.range 31))) :=
    Finset.disjoint_union_right.mpr ⟨Us_disj c (by decide) _ _, Finset.disjoint_union_right.mpr ⟨Us_disj c (by decide) _ _, Us_disj c (by decide) _ _⟩⟩
  have d4 : Disjoint (Us c 0 (Finset.range 31) ∪ (Us c 1 (Finset.range 31) ∪ (Us c 2 (Finset.range 31) ∪ Us c 3 (Finset.range 31)))) (ownT c) :=
    Finset.disjoint_union_left.mpr ⟨disj31 c 0, Finset.disjoint_union_left.mpr ⟨disj31 c 1, Finset.disjoint_union_left.mpr ⟨disj31 c 2, disj31 c 3⟩⟩⟩
  have s0 := join_Us (F := F) c (r := 0) hA
  have s1 := join_Us (F := F) c (r := 1) hA
  have s2 := join_Us (F := F) c (r := 2) hA
  have s3 := join_Us (F := F) c (r := 3) hA
  have j1 := oRG_union (F := F) c d1
  have j2 := oRG_union (F := F) c d2
  have j3 := oRG_union (F := F) c d3
  have e := oR_union c (own_disj c) (redV X W)
  have j4 : iprop(oRG c (Us c 0 (Finset.range 31) ∪ (Us c 1 (Finset.range 31) ∪ (Us c 2 (Finset.range 31) ∪ Us c 3 (Finset.range 31)))) ∗ oR c (ownT c) (redV X W)) ⊢ (oW X W c ∅ (ownT c) : sProp 𝕄) := by
    unfold oRG oW
    iintro ⟨⟨%f, H1⟩, H2⟩
    iexists ((ownT c).piecewise (redV X W) f)
    isplitr
    · ipureintro
      exact ⟨fun i hi => absurd hi (Finset.notMem_empty i), fun i hi => Finset.piecewise_eq_of_mem _ _ _ hi⟩
    have hj : iprop(oR c (Us c 0 (Finset.range 31) ∪ (Us c 1 (Finset.range 31) ∪ (Us c 2 (Finset.range 31) ∪ Us c 3 (Finset.range 31)))) f ∗ oR c (ownT c) (redV X W))
        ⊢ (oR c Finset.univ ((ownT c).piecewise (redV X W) f) : sProp 𝕄) := by
      rw [cover31 c]; unfold oR; exact pointsTo_join d4
    iapply hj
    isplitl [H1] <;> iassumption
  iintro ⟨⟨H0, H1, H2, H3⟩, H4, H5⟩
  iapply j4
  isplitl [H0 H1 H2 H3]
  · iapply j3
    isplitl [H0]; · iapply s0; iexact H0
    iapply j2
    isplitl [H1]; · iapply s1; iexact H1
    iapply j1
    isplitl [H2]; · iapply s2; iexact H2
    iapply s3; iexact H3
  · iapply (Entails.of_eq e.symm)
    isplitl [H4] <;> iassumption
end Cut

variable {X : Dev nD → S4096x128.Idx → Elt F .f32} {W : Dev nD → S128x2048.Idx → Elt F .f32}
variable {κ : Ck → ℕ} {ν : Ky → ℕ} {c : Dev nD}

/-! ### The maxima together -/

def aW (c : Dev nD) (f : S32x128.Idx → Elt F .f32) : sProp 𝕄 := ((c : Thread nD τ).loc cc0_scratch2) ↦{fullShare} f

theorem peers_all : ∀ (c d : Dev nD), d = c ∨ ∃ i : Fin 31, d = peerInv i.val c := by decide +kernel
theorem peers_ne : ∀ (c : Dev nD) (i : Fin 31), c ≠ peerInv i.val c := by decide +kernel
theorem peers_inj : ∀ (c : Dev nD) (i j : Fin 31), peerInv i.val c = peerInv j.val c → i = j := by decide +kernel

theorem rows_cover (c : Dev nD) : (Finset.univ : Finset S32x128.Idx) = (rowR c).set ∪ (Finset.range 31).biUnion fun i => (rowR (peerInv i c)).set := by
  ext j
  simp only [Finset.mem_univ, true_iff, Finset.mem_union, Finset.mem_biUnion, Finset.mem_range]
  have hj : ∀ d : Dev nD, d = (⟨(j 0).val, (j 0).isLt⟩ : Fin 32) → j ∈ (rowR d).set := fun d hd => by
    subst hd; rw [mem_row]
    have h1 : (j 1).val < 128 := (j 1).isLt
    show ((j 0).val ≤ _ ∧ _ < (j 0).val + 1) ∧ _
    omega
  rcases peers_all c (⟨(j 0).val, (j 0).isLt⟩ : Fin 32) with h | ⟨i, h⟩
  · exact .inl (hj c h.symm)
  · exact .inr ⟨i.val, i.isLt, hj _ h.symm⟩

theorem join_rows (c : Dev nD) (f : S32x128.Idx → Elt F .f32) :
    (aW c f : sProp 𝕄) = iprop(aP c c fullShare f ∗ bigSep (Finset.range 31) fun i => aP c (peerInv i c) fullShare f) := by
  have hd : Disjoint (rowR c).set ((Finset.range 31).biUnion fun i => (rowR (peerInv i c)).set) := by
    rw [Finset.disjoint_biUnion_right]
    intro i hi
    exact row_disj (peers_ne c ⟨i, Finset.mem_range.mp hi⟩)
  have hp : ∀ i ∈ Finset.range 31, ∀ j ∈ Finset.range 31, i ≠ j → Disjoint (rowR (peerInv i c)).set (rowR (peerInv j c)).set := fun i hi j hj hn =>
    row_disj fun h => hn (congrArg Fin.val (peers_inj c ⟨i, Finset.mem_range.mp hi⟩ ⟨j, Finset.mem_range.mp hj⟩ h))
  unfold aW aP
  rw [rows_cover c]
  refine (BI.Entails.antisymm (pointsTo_union hd).1 (pointsTo_union hd).2).trans ?_
  rw [pointsTo_biUnion _ _ hp]

theorem row_share (c : Dev nD) (f : S32x128.Idx → Elt F .f32) :
    (aP c c fullShare f : sProp 𝕄) = iprop(aP c c (Transfers.shareDrop fullShare 31) f ∗ bigSep (Finset.Ico 0 31) fun i => aP c c (Transfers.shareTokN fullShare i) f) := by
  rw [← Finset.range_eq_Ico]
  unfold aP
  exact BI.Entails.antisymm (Transfers.pointsTo_toks_range _ _).1 (Transfers.pointsTo_toks_range _ _).2

theorem am_pays (c : Dev nD) : (bigSep (dutiesK (some .ams) 0) fun e => payK X W (c, some .ams) e) = bigSep (Finset.Ico 0 31) fun i => aP c c (Transfers.shareTokN fullShare i) (maxV X W) := by
  have h : dutiesK (some .ams) 0 = (Finset.range 31).image Ev.amax := by simp only [dutiesK, if_true]
  rw [h, BI.bigSep_image_of_injOn (fun a _ b _ h => by cases h; rfl), Finset.range_eq_Ico]
  rfl
theorem am_payr (c : Dev nD) : (bigSep (dutiesK (some .amr) 0) fun e => payK X W (c, some .amr) e) = bigSep (Finset.range 31) fun i => aP c (peerInv i c) fullShare (maxV X W) := by
  have h : dutiesK (some .amr) 0 = (Finset.range 31).image Ev.amax := by simp only [dutiesK, if_true]
  rw [h, BI.bigSep_image_of_injOn (fun a _ b _ h => by cases h; rfl)]
  rfl

end Cert.KernelIdeal.Px

end
-- ==== Proof.Reduce.lean ====
/-
  Everything before the quantisation.
-/
module

public import proofs.«01_k».proof.Proof.Cut

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### The last copies -/

section St
variable (X : Dev nD → S4096x128.Idx → Elt F .f32) (W : Dev nD → S128x2048.Idx → Elt F .f32)
/-- The sending side of a ring after its last copy, after one of the two is over, after both. -/
def Dr (c : Dev nD) (r : Fin 4) : sProp 𝕄 := iprop(scr c false r 30 ∗ pos2 c (sndK false r) 30 ∗ oG c (rel c r 29) r ∗ mp X W c (crK false r) 1 29)
def DrE (c : Dev nD) (r : Fin 4) : sProp 𝕄 := iprop(pos2 c (sndK false r) 31 ∗ oG c (rel c r 29) r ∗ oG c (rel c r 30) r ∗ mp X W c (crK false r) 1 29)
end St

theorem tri_drain29 (r : Fin 4) : Tri X W κ ν c iprop(Snd X W c false r 30 ∗ emp ∗ ow c 295) (rsWaitS A0 c r ⟨29, by decide⟩) iprop(Dr X W c r ∗ ow c 295) := by
  refine ((tri_drain (X := X) (W := W) (κ := κ) (ν := ν) (c := c) (ph := false) (r := r) (g := 29) (show 29 < 31 by omega) (rsS_eq r (par 29)) rfl ?_ (t := 295) (by omega)).framed
    iprop(scr c false r 30 ∗ mp X W c (crK false r) 1 29)).conseq ?_ ?_
  · exact fun K => rfl
  · have e1 := bigSep_Ico_succ_bot (show 29 < 31 by omega) (fun k => scr (F := F) c false r k)
    have e2 := bigSep_Ico_succ_bot (show 30 < 31 by omega) (fun k => scr (F := F) c false r k)
    unfold Snd
    rw [show 30 - 1 = 29 from rfl, show 30 + 1 = 31 from rfl, e1, e2]
    iintro ⟨⟨-, -, H1, H2, H3, H4, -⟩, -, H5⟩
    isplitl [H3 H1 H5]
    · isplitl [H3]; · iexact H3
      isplitl [H1] <;> iassumption
    isplitl [H4] <;> iassumption
  · unfold Dr
    show iprop((_ ∗ _ ∗ _ ∗ oG c (rel c r 29) r) ∗ _) ⊢ _
    iintro ⟨⟨H1, H2, -, H3⟩, H4, H5⟩
    isplitl [H1 H3 H4 H5]
    · isplitl [H4]; · iexact H4
      isplitl [H1]; · iexact H1
      isplitl [H3] <;> iassumption
    iexact H2

theorem tri_drain30 (r : Fin 4) : Tri X W κ ν c iprop(Dr X W c r ∗ emp ∗ ow c 295) (rsWaitS A0 c r ⟨30, by decide⟩) iprop(DrE X W c r ∗ ow c 295) := by
  refine ((tri_drain (X := X) (W := W) (κ := κ) (ν := ν) (c := c) (ph := false) (r := r) (g := 30) (show 30 < 31 by omega) (rsS_eq r (par 30)) rfl ?_ (t := 295) (by omega)).framed
    iprop(oG c (rel c r 29) r ∗ mp X W c (crK false r) 1 29)).conseq ?_ ?_
  · exact fun K => rfl
  · unfold Dr
    iintro ⟨⟨H1, H2, H3, H4⟩, -, H5⟩
    isplitl [H1 H2 H5]
    · isplitl [H1]; · iexact H1
      isplitl [H2] <;> iassumption
    isplitl [H3] <;> iassumption
  · unfold DrE
    show iprop((_ ∗ _ ∗ _ ∗ oG c (rel c r 30) r) ∗ _) ⊢ _
    iintro ⟨⟨H1, H2, -, H3⟩, H4, H5⟩
    isplitl [H1 H3 H4 H5]
    · isplitl [H1]; · iexact H1
      isplitl [H4]; · iexact H4
      isplitl [H3] <;> iassumption
    iexact H2

/-! ### Everything before the quantisation -/

section St
variable (X : Dev nD → S4096x128.Idx → Elt F .f32) (W : Dev nD → S128x2048.Idx → Elt F .f32)
/-- A ring of the reduce-scatter at the start, -/
def RsB (c : Dev nD) (r : Fin 4) : sProp 𝕄 := iprop(Rcv c false r 0 ∗ Cro c false r 0 ∗ Ini X W c false r)
/-- and at the end. -/
def RsE (c : Dev nD) (r : Fin 4) : sProp 𝕄 :=
  iprop(pos2 c (rcvK false r) 31 ∗ pos2 c (sndK false r) 31 ∗ atPos ER (cell (c, crK false r)) 1 ∅ 0 ∗ cG c r 0 ∗ cG c r 1)
/-- What is left of it while the maxima are exchanged. -/
def RsM (c : Dev nD) (r : Fin 4) : sProp 𝕄 := iprop(pos2 c (rcvK false r) 31 ∗ (bigSep (pset 31) fun j => oG c (rel c r j) r) ∗ cG c r 0 ∗ cG c r 1)
/-- The exchange of the maxima at the start, -/
def AmB (c : Dev nD) : sProp 𝕄 :=
  iprop((bigSep (Finset.Ico 0 31) fun i => amTok c i) ∗ (bigSep (Finset.Ico 0 31) fun i => cred (tallyAt (cell (c, some .amr)) (some (.amax i)) (amt (.amax 0))))
    ∗ atPos ER (cell (c, some .ams)) 0 ∅ 0 ∗ atPos ER (cell (c, some .amr)) 0 ∅ 0)
/-- and at the end. -/
def AmE (c : Dev nD) : sProp 𝕄 := iprop(atPos ER (cell (c, some .ams)) 1 ∅ 0 ∗ atPos ER (cell (c, some .amr)) 1 ∅ 0)
end St

theorem ring_31 (r : Fin 4) : (Ring X W c r 31 : sProp 𝕄) ⊢ iprop(RsM c r ∗ Snd X W c false r 30 ∗ oR c (pieceR (rel c r 31) r).set (redV X W) ∗ heardOf r c 32) := by
  have e : (oR c (pieceR (rel c r 31) r).set (sumV X W r 31 c) : sProp 𝕄) = oR c (pieceR (rel c r 31) r).set (redV X W) := oR_congr fun i hi => (redV_piece _ _ c r hi)
  unfold Ring RSt kept RsM Rcv
  rw [if_pos (by omega : 30 ≤ 31), if_pos (by omega : 31 ≤ 31), e, show par 29 = 1 from rfl, show par 30 = 0 from rfl, show min 31 30 = 30 from rfl]
  iintro ⟨⟨⟨-, H1⟩, -, H2⟩, H3, H4, ⟨H5, H6⟩, H7⟩
  isplitl [H1 H3 H4 H6]
  · isplitl [H1]; · iexact H1
    isplitl [H3]; · iexact H3
    isplitl [H6] <;> iassumption
  isplitl [H2]; · iexact H2
  isplitl [H5] <;> iassumption

theorem own01 : ∀ c : Dev nD, rel c 0 31 = relG c 0 0 ∧ rel c 1 31 = relG c 0 0 ∧ rel c 2 31 = relG c 1 0 ∧ rel c 3 31 = relG c 1 0 := by decide +kernel

theorem own_halves (c : Dev nD) (f : S4096x2048.Idx → Elt F .f32) :
    (four fun r => oR c (pieceR (rel c r 31) r).set f : sProp 𝕄) = iprop((oR c (pieceR (rel c 0 31) 0).set f ∗ oR c (pieceR (rel c 1 31) 1).set f ∗ oR c (pieceR (rel c 2 31) 2).set f ∗ oR c (pieceR (rel c 3 31) 3).set f)) := rfl

theorem pset_31 : Finset.range 31 = insert 29 (insert 30 (pset 31)) := by
  ext j; rw [Finset.mem_insert, Finset.mem_insert, mem_pset, Finset.mem_range]; omega
theorem range_pieces (c : Dev nD) (r : Fin 4) :
    iprop(oG c (rel c r 29) r ∗ oG c (rel c r 30) r ∗ bigSep (pset 31) fun j => oG c (rel c r j) r) ⊢ (bigSep (Finset.range 31) fun j => oG c (rel c r j) r : sProp 𝕄) := by
  have h1 : bigSep (insert 29 (insert 30 (pset 31))) (fun j => oG (F := F) c (rel c r j) r) = iprop(oG c (rel c r 29) r ∗ bigSep (insert 30 (pset 31)) fun j => oG c (rel c r j) r) :=
    bigSep_insert (by rw [Finset.mem_insert, mem_pset]; omega)
  have h2 : bigSep (insert 30 (pset 31)) (fun j => oG (F := F) c (rel c r j) r) = iprop(oG c (rel c r 30) r ∗ bigSep (pset 31) fun j => oG c (rel c r j) r) :=
    bigSep_insert (by rw [mem_pset]; omega)
  rw [pset_31, h1, h2]

theorem mp_end (r : Fin 4) : mp X W c (crK false r) 1 29 ⊢ (atPos ER (cell (c, crK false r)) 1 ∅ 0 : sProp 𝕄) := by
  unfold mp
  rw [if_pos (by rw [cr_card]; rfl)]
  iintro ⟨H, -⟩; iexact H

/-- One ring's own ends. -/
theorem ring_end (r : Fin 4) : iprop(RsM c r ∗ DrE X W c r) ⊢ (iprop(RsE c r ∗ bigSep (Finset.range 31) fun j => oG c (rel c r j) r) : sProp 𝕄) := by
  have h1 := range_pieces (F := F) c r
  have h2 := mp_end (X := X) (W := W) (c := c) r
  unfold RsM DrE RsE
  iintro ⟨⟨H1, H2, H3, H4⟩, H5, H6, H7, H8⟩
  isplitl [H1 H5 H8 H3 H4]
  · isplitl [H1]; · iexact H1
    isplitl [H5]; · iexact H5
    isplitl [H8]; · iapply h2; iexact H8
    isplitl [H3] <;> iassumption
  iapply h1
  isplitl [H6]; · iexact H6
  isplitl [H7] <;> iassumption

section St
variable (X : Dev nD → S4096x128.Idx → Elt F .f32) (W : Dev nD → S128x2048.Idx → Elt F .f32)
/-- What the first part ends with. -/
def RedE (c : Dev nD) : sProp 𝕄 :=
  iprop(Ent c ∗ xP c (X c) ∗ wP c (W c) ∗ atPos ER (cell (c, none)) 1 ∅ 0 ∗ four (fun r => RsE c r) ∗ AmE c ∗ aW c (maxV X W) ∗ oW X W c ∅ (ownT c) ∗ ow c 295)
end St

theorem tri_drains (Y : sProp 𝕄) :
    Tri X W κ ν c iprop((four (fun r => Snd X W c false r 30) ∗ emp ∗ ow c 295) ∗ Y)
      (rsDrain A0 c ⟨29, by decide⟩ >>= fun _ => rsDrain A0 c ⟨30, by decide⟩) iprop((four (fun r => DrE X W c r) ∗ ow c 295) ∗ Y) := by
  refine Tri.seqw iprop((four (fun r => Dr X W c r) ∗ emp ∗ ow c 295) ∗ Y) ?_ ?_
  · refine ((tri_four (X := X) (W := W) (κ := κ) (ν := ν) (c := c) (E := iprop(emp)) (T := fun _ => ow c 295) (p := fun r => rsWaitS A0 c r ⟨29, by decide⟩)
      (fun r => tri_drain29 r)).framed Y).conseq (Entails.refl _) ?_
    iintro ⟨⟨H1, H2⟩, H3⟩
    isplitl [H1 H2]
    · isplitl [H1]; · iexact H1
      isplitr; · iempintro
      iexact H2
    iexact H3
  · exact (tri_four (X := X) (W := W) (κ := κ) (ν := ν) (c := c) (E := iprop(emp)) (T := fun _ => ow c 295) (p := fun r => rsWaitS A0 c r ⟨30, by decide⟩)
      (fun r => tri_drain30 r)).framed Y

theorem tri_reduce {f : S4096x2048.Idx → Elt F .f32} :
    Tri X W κ ν c iprop(Bar0 c ∗ Opn c ∗ ow c 1 ∗ xP c (X c) ∗ wP c (W c) ∗ four (fun r => RsB X W c r) ∗ AmB c ∗ oR c Finset.univ f ∗ aG c c)
      (reduce A0 c) (RedE X W c) := by
  unfold reduce
  -- the barrier
  refine Tri.seqw iprop((atPos ER (cell (c, none)) 1 ∅ 0 ∗ Ent c ∗ ow c 8) ∗ xP c (X c) ∗ wP c (W c) ∗ four (fun r => RsB X W c r) ∗ AmB c ∗ oR c Finset.univ f ∗ aG c c)
    ((tri_barrier.framed _).conseq ?_ (Entails.refl _)) ?_
  · iintro ⟨H1, H2, H3, H4⟩
    isplitl [H1 H2 H3]
    · isplitl [H1]; · iexact H1
      isplitl [H2] <;> iassumption
    iexact H4
  -- the device's own chunk
  refine Tri.seqw iprop((oR c (chunkR (rel c 0 0)).set (prodV X W c) ∗ xP c (X c) ∗ wP c (W c))
    ∗ (four fun r => bigSep (pset 0) fun j => oG c (rel c r j) r) ∗ (atPos ER (cell (c, none)) 1 ∅ 0 ∗ Ent c ∗ ow c 8) ∗ four (fun r => RsB X W c r) ∗ AmB c ∗ aG c c)
    (((tri_gemmOwn (off1_eq c) (off2_eq c)).framed _).conseq ?_ (Entails.refl _)) ?_
  · have h := split_out c f
    iintro ⟨H1, H2, H3, H4, H5, H6, H7⟩
    ihave H6 := h $$ H6
    icases H6 with ⟨H8, H9⟩
    isplitl [H8 H2 H3]
    · isplitl [H8]; · iexact H8
      isplitl [H2] <;> iassumption
    isplitl [H9]; · iexact H9
    isplitl [H1]; · iexact H1
    isplitl [H4]; · iexact H4
    isplitl [H5] <;> iassumption
  -- the first copies
  refine Tri.conseq (P₁ := iprop((four (fun r => iprop(Ring0 X W c r ∗ oR c (pieceR (rel c r 0) r).set (prodV X W c))) ∗ Ent c ∗ ow c (8 + 2 * 0)) ∗ xP c (X c) ∗ wP c (W c) ∗ Ent c ∗ atPos ER (cell (c, none)) 1 ∅ 0 ∗ AmB c ∗ aG c c))
    (tri_four_then (X := X) (W := W) (κ := κ) (ν := ν) (c := c) (E := Ent c) (T := fun n => ow c (8 + 2 * n)) (p := fun r => rsSend A0 c r ⟨0, by decide⟩) _ (fun r => tri_first_send r) ?_) ?_ (Entails.refl _)
  rotate_left
  · have e0 := rel_zero c 1
    have e1 := rel_zero c 2
    have e2 := rel_zero c 3
    rw [split_chunk]
    unfold RsB Ring0
    have q1 : (oR c (pieceR (rel c 0 0) 1).set (prodV X W c) : sProp 𝕄) = oR c (pieceR (rel c 1 0) 1).set (prodV X W c) := by rw [e0]
    have q2 : (oR c (pieceR (rel c 0 0) 2).set (prodV X W c) : sProp 𝕄) = oR c (pieceR (rel c 2 0) 2).set (prodV X W c) := by rw [e1]
    have q3 : (oR c (pieceR (rel c 0 0) 3).set (prodV X W c) : sProp 𝕄) = oR c (pieceR (rel c 3 0) 3).set (prodV X W c) := by rw [e2]
    iintro ⟨⟨⟨⟨P0, P1⟩, P2, P3⟩, Hx, Hw⟩, ⟨B0, B1, B2, B3⟩, ⟨Hb, #HE, HO⟩, ⟨⟨A01, A02, A03⟩, ⟨A11, A12, A13⟩, ⟨A21, A22, A23⟩, ⟨A31, A32, A33⟩⟩, Ham, Ha⟩
    isplitl [P0 P1 P2 P3 B0 B1 B2 B3 A01 A02 A03 A11 A12 A13 A21 A22 A23 A31 A32 A33 HO]
    · isplitl [P0 P1 P2 P3 B0 B1 B2 B3 A01 A02 A03 A11 A12 A13 A21 A22 A23 A31 A32 A33]
      · isplitl [P0 B0 A01 A02 A03]
        · isplitl [B0 A01 A02 A03]
          · isplitl [A01]; · iexact A01
            isplitl [A02]; · iexact A02
            isplitl [A03] <;> iassumption
          iexact P0
        isplitl [P1 B1 A11 A12 A13]
        · isplitl [B1 A11 A12 A13]
          · isplitl [A11]; · iexact A11
            isplitl [A12]; · iexact A12
            isplitl [A13] <;> iassumption
          iapply (Entails.of_eq q1); iexact P1
        isplitl [P2 B2 A21 A22 A23]
        · isplitl [B2 A21 A22 A23]
          · isplitl [A21]; · iexact A21
            isplitl [A22]; · iexact A22
            isplitl [A23] <;> iassumption
          iapply (Entails.of_eq q2); iexact P2
        · isplitl [B3 A31 A32 A33]
          · isplitl [A31]; · iexact A31
            isplitl [A32]; · iexact A32
            isplitl [A33] <;> iassumption
          iapply (Entails.of_eq q3); iexact P3
      isplitr; · iexact HE
      iexact HO
    isplitl [Hx]; · iexact Hx
    isplitl [Hw]; · iexact Hw
    isplitr; · iexact HE
    isplitl [Hb]; · iexact Hb
    isplitl [Ham] <;> iassumption
  -- the rings
  refine Tri.seqw iprop(((four (fun r => Ring X W c r 31) ∗ xP c (X c) ∗ wP c (W c)) ∗ Ent c ∗ ow c 264) ∗ atPos ER (cell (c, none)) 1 ∅ 0 ∗ AmB c ∗ aG c c)
    ((tri_rsLoop.framed _).conseq ?_ (Entails.refl _)) ?_
  · iintro ⟨⟨H1, H2⟩, H3, H4, H5, H6⟩
    isplitl [H1 H2 H3 H4 H5]
    · isplitl [H1 H3 H4]
      · isplitl [H1]; · iexact H1
        isplitl [H3] <;> iassumption
      isplitl [H5] <;> iassumption
    iexact H6
  -- the device's own maximum
  refine Tri.seqw iprop((aP c c fullShare (maxV X W) ∗ oR c (halfR (relG c 0 0) 0).set (redV X W) ∗ oR c (halfR (relG c 1 0) 1).set (redV X W))
    ∗ four (fun r => iprop(RsM c r ∗ Snd X W c false r 30)) ∗ heardOf 0 c 32 ∗ xP c (X c) ∗ wP c (W c) ∗ Ent c ∗ ow c 264 ∗ atPos ER (cell (c, none)) 1 ∅ 0 ∗ AmB c)
    (((tri_amOwn (off15_eq c) (off16_eq c) (off17_eq c)).framed _).conseq ?_ (Entails.refl _)) ?_
  · have r0 := ring_31 (X := X) (W := W) (c := c) 0
    have r1 := ring_31 (X := X) (W := W) (c := c) 1
    have r2 := ring_31 (X := X) (W := W) (c := c) 2
    have r3 := ring_31 (X := X) (W := W) (c := c) 3
    obtain ⟨o0, o1, o2, o3⟩ := own01 c
    rw [o0] at r0
    rw [o1] at r1
    rw [o2] at r2
    rw [o3] at r3
    have e0 := split_half c (relG c 0 0) 0 (r := 0) (r' := 1) rfl rfl (redV X W)
    have e1 := split_half c (relG c 1 0) 1 (r := 2) (r' := 3) rfl rfl (redV X W)
    iintro ⟨⟨⟨⟨R0, R1, R2, R3⟩, Hx, Hw⟩, HE, HO⟩, Hb, Ham, Ha⟩
    ihave R0 := r0 $$ R0
    ihave R1 := r1 $$ R1
    ihave R2 := r2 $$ R2
    ihave R3 := r3 $$ R3
    icases R0 with ⟨M0, S0, P0, G0⟩
    icases R1 with ⟨M1, S1, P1, -⟩
    icases R2 with ⟨M2, S2, P2, -⟩
    icases R3 with ⟨M3, S3, P3, -⟩
    isplitl [Ha P0 P1 P2 P3]
    · isplitl [Ha]; · iexact Ha
      isplitl [P0 P1]
      · iapply (Entails.of_eq e0.symm)
        isplitl [P0] <;> iassumption
      · iapply (Entails.of_eq e1.symm)
        isplitl [P2] <;> iassumption
    isplitl [M0 M1 M2 M3 S0 S1 S2 S3]
    · isplitl [M0 S0]
      · isplitl [M0] <;> iassumption
      isplitl [M1 S1]
      · isplitl [M1] <;> iassumption
      isplitl [M2 S2]
      · isplitl [M2] <;> iassumption
      isplitl [M3] <;> iassumption
    isplitl [G0]; · iexact G0
    isplitl [Hx]; · iexact Hx
    isplitl [Hw]; · iexact Hw
    isplitl [HE]; · iexact HE
    isplitl [HO]; · iexact HO
    isplitl [Hb] <;> iassumption
  -- the maxima sent
  refine Tri.seqw iprop(((bigSep (Finset.Ico 0 31) fun _ => cred (tallyAt (cell (c, some .ams)) none (amt (.amax 0)))) ∗ ow c 295)
    ∗ aP c c (Transfers.shareDrop fullShare 31) (maxV X W)
    ∗ (bigSep (Finset.Ico 0 31) fun i => cred (tallyAt (cell (c, some .amr)) (some (.amax i)) (amt (.amax 0))))
    ∗ atPos ER (cell (c, some .ams)) 0 ∅ 0 ∗ atPos ER (cell (c, some .amr)) 0 ∅ 0
    ∗ (oR c (halfR (relG c 0 0) 0).set (redV X W) ∗ oR c (halfR (relG c 1 0) 1).set (redV X W))
    ∗ four (fun r => iprop(RsM c r ∗ Snd X W c false r 30)) ∗ xP c (X c) ∗ wP c (W c) ∗ Ent c ∗ atPos ER (cell (c, none)) 1 ∅ 0)
    ((tri_amSends.framed _).conseq ?_ (Entails.refl _)) ?_
  · unfold AmB
    rw [row_share c (maxV X W)]
    iintro ⟨⟨⟨H1, H2⟩, H3, H4⟩, H5, H6, H7, H8, H9, H10, H11, A1, A2, A3, A4⟩
    isplitl [A1 H2 H6 H10]
    · isplitl [A1]; · iexact A1
      isplitl [H2]; · iexact H2
      isplitl [H6] <;> iassumption
    isplitl [H1]; · iexact H1
    isplitl [A2]; · iexact A2
    isplitl [A3]; · iexact A3
    isplitl [A4]; · iexact A4
    isplitl [H3 H4]
    · isplitl [H3] <;> iassumption
    isplitl [H5]; · iexact H5
    isplitl [H7]; · iexact H7
    isplitl [H8]; · iexact H8
    isplitl [H9] <;> iassumption
  refine Tri.seqw iprop(((atPos ER (cell (c, some .ams)) 1 ∅ 0 ∗ bigSep (dutiesK (some .ams) 0) fun e => payK X W (c, some .ams) e) ∗ ow c 295)
    ∗ aP c c (Transfers.shareDrop fullShare 31) (maxV X W)
    ∗ (bigSep (Finset.Ico 0 31) fun i => cred (tallyAt (cell (c, some .amr)) (some (.amax i)) (amt (.amax 0))))
    ∗ atPos ER (cell (c, some .amr)) 0 ∅ 0
    ∗ (oR c (halfR (relG c 0 0) 0).set (redV X W) ∗ oR c (halfR (relG c 1 0) 1).set (redV X W))
    ∗ four (fun r => iprop(RsM c r ∗ Snd X W c false r 30)) ∗ xP c (X c) ∗ wP c (W c) ∗ Ent c ∗ atPos ER (cell (c, none)) 1 ∅ 0)
    (((tri_amWaits (X := X) (W := W) (κ := κ) (ν := ν) (c := c) (k := some .ams) (.inl rfl) amS_eq ?_ (fun _ => none) (fun i _ => ⟨Finset.mem_insert_self _ _, show 0 < 295 by omega⟩)).framed _).conseq ?_ (Entails.refl _)) ?_
  · exact fun K => rfl
  · iintro ⟨⟨H1, H2⟩, H3, H4, H5, H6⟩
    isplitl [H1 H2 H5]
    · isplitl [H1]; · iexact H1
      isplitl [H5] <;> iassumption
    isplitl [H3]; · iexact H3
    isplitl [H4] <;> iassumption
  refine Tri.seqw iprop(((atPos ER (cell (c, some .amr)) 1 ∅ 0 ∗ bigSep (dutiesK (some .amr) 0) fun e => payK X W (c, some .amr) e) ∗ ow c 295)
    ∗ (atPos ER (cell (c, some .ams)) 1 ∅ 0 ∗ bigSep (dutiesK (some .ams) 0) fun e => payK X W (c, some .ams) e)
    ∗ aP c c (Transfers.shareDrop fullShare 31) (maxV X W)
    ∗ (oR c (halfR (relG c 0 0) 0).set (redV X W) ∗ oR c (halfR (relG c 1 0) 1).set (redV X W))
    ∗ four (fun r => iprop(RsM c r ∗ Snd X W c false r 30)) ∗ xP c (X c) ∗ wP c (W c) ∗ Ent c ∗ atPos ER (cell (c, none)) 1 ∅ 0)
    (((tri_amWaits (X := X) (W := W) (κ := κ) (ν := ν) (c := c) (k := some .amr) (.inr rfl) amR_eq ?_ (fun i => some (.amax i))
      (fun i hi => ⟨Finset.mem_insert_of_mem (Finset.mem_image_of_mem _ ((mem_evs _).mpr hi)), show 264 + i < 295 by omega⟩)).framed _).conseq ?_ (Entails.refl _)) ?_
  · exact fun K => rfl
  · iintro ⟨⟨H1, H2⟩, H3, H4, H5, H6⟩
    isplitl [H4 H2 H5]
    · isplitl [H4]; · iexact H4
      isplitl [H5] <;> iassumption
    isplitl [H1]; · iexact H1
    isplitl [H3] <;> iassumption
  -- the last copies
  refine (tri_drains (X := X) (W := W) (κ := κ) (ν := ν) (c := c) iprop(four (fun r => RsM c r) ∗ aW c (maxV X W) ∗ AmE c
    ∗ (oR c (halfR (relG c 0 0) 0).set (redV X W) ∗ oR c (halfR (relG c 1 0) 1).set (redV X W)) ∗ xP c (X c) ∗ wP c (W c) ∗ Ent c ∗ atPos ER (cell (c, none)) 1 ∅ 0)).conseq ?_ ?_
  · rw [am_pays, am_payr, join_rows, row_share]
    unfold AmE
    iintro ⟨⟨⟨H1, H2⟩, HO⟩, ⟨H3, H4⟩, H5, H6, ⟨⟨M0, S0⟩, ⟨M1, S1⟩, ⟨M2, S2⟩, ⟨M3, S3⟩⟩, H7⟩
    isplitl [S0 S1 S2 S3 HO]
    · isplitl [S0 S1 S2 S3]
      · isplitl [S0]; · iexact S0
        isplitl [S1]; · iexact S1
        isplitl [S2] <;> iassumption
      isplitr; · iempintro
      iexact HO
    isplitl [M0 M1 M2 M3]
    · isplitl [M0]; · iexact M0
      isplitl [M1]; · iexact M1
      isplitl [M2] <;> iassumption
    isplitl [H2 H4 H5]
    · isplitl [H4 H5]
      · isplitl [H5] <;> iassumption
      iexact H2
    isplitl [H1 H3]
    · isplitl [H3] <;> iassumption
    isplitl [H6] <;> iassumption
  · have f0 := ring_end (X := X) (W := W) (c := c) 0
    have f1 := ring_end (X := X) (W := W) (c := c) 1
    have f2 := ring_end (X := X) (W := W) (c := c) 2
    have f3 := ring_end (X := X) (W := W) (c := c) 3
    have hj := join_out c X W
    unfold RedE
    iintro ⟨⟨⟨D0, D1, D2, D3⟩, HO⟩, ⟨M0, M1, M2, M3⟩, Ha, HA, ⟨P0, P1⟩, Hx, Hw, HE, Hb⟩
    ihave E0 := f0 $$ [M0 D0]
    · isplitl [M0] <;> iassumption
    ihave E1 := f1 $$ [M1 D1]
    · isplitl [M1] <;> iassumption
    ihave E2 := f2 $$ [M2 D2]
    · isplitl [M2] <;> iassumption
    ihave E3 := f3 $$ [M3 D3]
    · isplitl [M3] <;> iassumption
    icases E0 with ⟨E0, Q0⟩
    icases E1 with ⟨E1, Q1⟩
    icases E2 with ⟨E2, Q2⟩
    icases E3 with ⟨E3, Q3⟩
    isplitl [HE]; · iexact HE
    isplitl [Hx]; · iexact Hx
    isplitl [Hw]; · iexact Hw
    isplitl [Hb]; · iexact Hb
    isplitl [E0 E1 E2 E3]
    · isplitl [E0]; · iexact E0
      isplitl [E1]; · iexact E1
      isplitl [E2] <;> iassumption
    isplitl [HA]; · iexact HA
    isplitl [Ha]; · iexact Ha
    isplitl [P0 P1 Q0 Q1 Q2 Q3]
    · iapply hj
      isplitl [Q0 Q1 Q2 Q3]
      · isplitl [Q0]; · iexact Q0
        isplitl [Q1]; · iexact Q1
        isplitl [Q2] <;> iassumption
      isplitl [P0] <;> iassumption
    iexact HO

end Cert.KernelIdeal.Px

end
-- ==== Proof.Lane.lean ====
/-
  A lane of the all-gather.
-/
module

public import proofs.«01_k».proof.Proof.Reduce

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### A copy of the all-gather -/

theorem set_qs (R : Rect S4096x2048) {s : Shape} (hs : ∀ a, R.stride a = 1) : (qM.slice R hs).view.set = R.set := View.set_slice_whole cc0_scratch1 R
theorem hfL_val (r : Fin 4) : (hfL r).val = r.val % 2 := rfl

theorem tri_agSend {r : Fin 4} {j : ℕ} (hj : j < len true r) {off : Fin 2 → ℕ} (hoff : off = ![128 * (relG c r j).val, 1024 * (r.val % 2)])
    {inb : ∀ a, off a + S128x1024.size a ≤ S4096x2048.size a} {n : Dev nD} (hn : n = dst r c) {t' : ℕ} (ht : t' = time (.send true r j) + 1)
    {hsc : (qM.slice (Rect.unit (s := S4096x2048) off S128x1024.size inb) (fun _ => rfl)).view.ref.isScScratch = false}
    {hsrc hdst : (qM.slice (Rect.unit (s := S4096x2048) off S128x1024.size inb) (fun _ => rfl)).view.WordExact}
    {hsem : DmaTarget.Typed .vmem (.dma (sem2 cc0_scratch9 r (par j))) (.remote (Dev.tc n : Thread nD τ) (qM.slice (Rect.unit (s := S4096x2048) off S128x1024.size inb) (fun _ => rfl)) (.dma (sem2 cc0_scratch8 r (par j))) hsc)} :
    Tri X W κ ν c iprop(qP c (relG c r j) (hfL r) (shr r) (quantV X W) ∗ emp ∗ ow c (time (.send true r j)) ∗ tokAt c true r j
        ∗ reached ER (cell (c, sndK true r (par j))) (j / 2) ∗ ready (dst r c) true r j)
      (Prog.lift (.enqueueDma (qM.slice (Rect.unit (s := S4096x2048) off S128x1024.size inb) (fun _ => rfl))
        (.remote (Dev.tc n : Thread nD τ) (qM.slice (Rect.unit (s := S4096x2048) off S128x1024.size inb) (fun _ => rfl)) (.dma (sem2 cc0_scratch8 r (par j))) hsc) (.dma (sem2 cc0_scratch9 r (par j))) hsrc hdst hsem))
      iprop(scr c true r j ∗ ow c t') := by
  subst hoff
  have hset : (qM.slice (halfR (relG c r j) (hfL r)) (fun _ => rfl) : Memref sig .tc .vmem S128x1024 .fp8e4m3).view.set = (halfR (relG c r j) (hfL r)).set := set_q _
  have h := tr_send (X := X) (W := W) (κ := κ) (ν := ν) (c := c) (e := .send true r j) (show Ok (.send true r j) from hj) rfl n hn
    (src := qM.slice (halfR (relG c r j) (hfL r)) (fun _ => rfl)) (dst := qM.slice (halfR (relG c r j) (hfL r)) (fun _ => rfl)) (sS := .dma (sem2 cc0_scratch8 r (par j))) (sem := .dma (sem2 cc0_scratch9 r (par j)))
    (agS_eq r (par j)) (agR_eq r (par j)) (hsc := hsc) (hsrc := hsrc) (hdst := hdst) (hsem := hsem) (qs := shr r) (fs := quantV X W) (Z := iprop(emp)) ht rfl
    (by subst hn
        show qG (dst r c) (relG (dst r c) r (j + 1)) (hfL r) ⊢ _
        rw [relG_dst]
        unfold qG qP
        iintro ⟨%f, H⟩; iexists f
        rw [hset]; iexact H)
    (by show _ ⊢ qP c (relG c r j) (hfL r) (shr r) (quantV X W)
        unfold qP
        rw [← hset])
    (by intro fd
        subst hn
        show _ ⊢ qP (dst r c) (relG (dst r c) r (j + 1)) (hfL r) fullShare (quantV X W)
        rw [relG_dst]
        unfold qP
        have e := pointsTo_congr (nD := nD) (τ := τ) (sig := sig) (Ix := Ix) (Val := Elt F) (Name := ℕ) (U := UU) (Lvl := ℕ) (ℓ := (dst r c : Thread nD τ).loc cc0_scratch1) (q := fullShare)
          (write_q (R := halfR (relG c r j) (hfL r)) fd (quantV X W) (fun j' => quantV X W ((halfR (relG c r j) (hfL r)).emb j')) (fun _ => rfl))
        iintro ⟨H, -⟩
        iapply (Entails.of_eq e); rw [← hset]; iexact H)
  refine h.conseq ?_ (Entails.refl _)
  unfold tokAt ready qP
  rw [hset]
  iintro ⟨Hs, HZ, HO, ⟨Ht1, Ht2, Hw⟩, Hr1, Hr2, Hr3⟩
  isplitl [Hs]; · iexact Hs
  isplitl [HZ]; · iexact HZ
  isplitl [HO]; · iexact HO
  isplitl [Ht1]; · iexact Ht1
  isplitl [Ht2]; · iexact Ht2
  isplitl [Hw]; · iexact Hw
  isplitl [Hr1]; · iexact Hr1
  isplitl [Hr3]; · iexact Hr3
  iexact Hr2

/-! ### A lane's step -/

/-- The credit returned at a step, -/
def crPartG (d : Dev nD) (r : Fin 4) (t : ℕ) : Pg F := if t + 2 < len true r then semSignalWord (srcD d r) (sem4 cc0_scratch10 r) 1#32 else pure ⟨⟩
/-- the copy sent at a step, before it the credit and the end of the copy before. -/
def prePG (d : Dev nD) (r : Fin 4) (t : ℕ) (h : t < len true r) : Pg F :=
  if h1 : 0 < t then semWaitWord (sem4 cc0_scratch10 r) 1#32 >>= fun _ => agWaitS A0 d r (t - 1) (by omega) else pure ⟨⟩
def sndPartG (d : Dev nD) (r : Fin 4) (t : ℕ) (h : t < len true r) : Pg F :=
  if h' : t + 1 < len true r then prePG d r t h >>= fun _ => agSend A0 d r (t + 1) h' else pure ⟨⟩
theorem agLane_eq (d : Dev nD) (sc : F .f32) (r : Fin 4) (t : ℕ) (h : t < len true r) :
    (agLane A0 d sc r t h : Pg F) = agWaitR A0 d r t h >>= fun _ => crPartG d r t >>= fun _ => sndPartG d r t h >>= fun _ => agOut A0 d sc r t h := by
  unfold agLane crPartG sndPartG prePG
  by_cases h1 : t + 2 < len true r
  · by_cases h2 : t + 1 < len true r
    · by_cases h3 : 0 < t
      · simp only [if_pos h1, dif_pos h2, dif_pos h3]; rfl
      · simp only [if_pos h1, dif_pos h2, dif_neg h3]; rfl
    · simp only [if_pos h1, dif_neg h2]; rfl
  · by_cases h2 : t + 1 < len true r
    · by_cases h3 : 0 < t
      · simp only [if_neg h1, dif_pos h2, dif_pos h3]; rfl
      · simp only [if_neg h1, dif_pos h2, dif_neg h3]; rfl
    · simp only [if_neg h1, dif_neg h2]; rfl

section St
variable (X : Dev nD → S4096x128.Idx → Elt F .f32) (W : Dev nD → S128x2048.Idx → Elt F .f32)
/-- What is kept of a received piece, -/
def keepQ (c : Dev nD) (r : Fin 4) (j : ℕ) : sProp 𝕄 := qP c (relG c r (j + 1)) (hfL r) (if j + 1 < len true r then shrC r else fullShare) (quantV X W)
/-- what comes back of a sent one, -/
def retQ (c : Dev nD) (r : Fin 4) (j : ℕ) : sProp 𝕄 := qP c (relG c r j) (hfL r) (shr r) (quantV X W)
/-- a lane before step `t`. -/
def LSt (c : Dev nD) (r : Fin 4) (t : ℕ) : sProp 𝕄 :=
  iprop(Rcv c true r t ∗ Cro c true r (min t (len true r - 2)) ∗ Snd X W c true r (min t (len true r - 1))
    ∗ (bigSep (Finset.range t) fun j => keepQ X W c r j) ∗ bigSep (Finset.range (min t (len true r - 1) - 1)) fun j => retQ X W c r j)
end St
/-- When it is. -/
def tauG (t : ℕ) (r : Fin 4) : ℕ := 304 + 8 * t + 2 * r.val

theorem tauG_credit (t : ℕ) (r : Fin 4) : time (.credit true r t) = tauG t r := by simp only [time, base, tauG]; omega
theorem tauG_send (t : ℕ) (r : Fin 4) : time (.send true r (t + 1)) = tauG t r + 1 := by simp only [time, base, tauG]; omega
theorem tauG_recv (t : ℕ) (r : Fin 4) : time (.send true r t) < tauG t r := by simp only [time, base, tauG]; omega

theorem share_split (c : Dev nD) (k : Fin 32) (h : Fin 2) (r : Fin 4) (f : S4096x2048.Idx → Elt F .fp8e4m3) :
    (qP c k h fullShare f : sProp 𝕄) = iprop(qP c k h (shr r) f ∗ qP c k h (shrC r) f) := by
  unfold qP shr shrC
  have e := BI.Entails.antisymm (pointsTo_share (nD := nD) (τ := τ) (sig := sig) (Ix := Ix) (Val := Elt F) (Name := ℕ) (U := UU) (Lvl := ℕ) (ℓ := (c : Thread nD τ).loc cc0_scratch1) (I := (halfR k h).set) (f := f) (PosShare.mem_left_op_right fullShare)).1
    (pointsTo_share (PosShare.mem_left_op_right fullShare)).2
  split
  · exact e
  · have s : ∀ A B : sProp 𝕄, iprop(A ∗ B) ⊢ iprop(B ∗ A) := fun A B => by
      iintro ⟨H1, H2⟩; isplitl [H2] <;> iassumption
    exact e.trans (BI.Entails.antisymm (s _ _) (s _ _))

theorem keep_last (r : Fin 4) {t : ℕ} (h : ¬ t + 1 < len true r) : keepQ X W c r t = (qP c (relG c r (t + 1)) (hfL r) fullShare (quantV X W) : sProp 𝕄) := by
  unfold keepQ; rw [if_neg h]
theorem keep_mid (r : Fin 4) {t : ℕ} (h : t + 1 < len true r) : keepQ X W c r t = (qP c (relG c r (t + 1)) (hfL r) (shrC r) (quantV X W) : sProp 𝕄) := by
  unfold keepQ; rw [if_pos h]

theorem tri_agPre (r : Fin 4) {t : ℕ} (ht : t < len true r) (h2 : t + 1 < len true r) :
    Tri X W κ ν c iprop(Snd X W c true r t ∗ entered (dst r c) ∗ (bigSep (Finset.range (t - 1)) fun j => retQ X W c r j) ∗ ow c (tauG t r + 1)) (prePG c r t ht)
      iprop(Pre X W c true r t ∗ ow c (tauG t r + 1) ∗ bigSep (Finset.range t) fun j => retQ X W c r j) := by
  unfold prePG
  by_cases h0 : 0 < t
  · rw [dif_pos h0]
    have e : bigSep (Finset.range t) (fun j => retQ X W c r j) = iprop(retQ X W c r (t - 1) ∗ bigSep (Finset.range (t - 1)) fun j => retQ X W c r j) := by
      conv_lhs => rw [show t = t - 1 + 1 by omega]
      exact bigSep_range_succ (t - 1) fun j => retQ X W c r j
    rw [e]
    refine ((tri_presend (X := X) (W := W) (κ := κ) (ν := ν) (c := c) (ph := true) (r := r) (g := t) h0 h2 (agC_eq r) (agS_eq r (par (t - 1))) rfl
          ?_ (t := tauG t r + 1) (by rw [tauG_credit]; unfold tauG; omega)).framed (bigSep (Finset.range (t - 1)) fun j => retQ X W c r j)).conseq ?_ ?_
    · exact fun K => rfl
    · iintro ⟨H1, -, H2, H3⟩
      isplitl [H1 H3]
      · isplitl [H1] <;> iassumption
      iexact H2
    · show iprop((_ ∗ retQ X W c r (t - 1) ∗ _) ∗ _) ⊢ _
      iintro ⟨⟨H1, H2, H3⟩, H4⟩
      isplitl [H1]; · iexact H1
      isplitl [H3]; · iexact H3
      isplitl [H2] <;> iassumption
  · have e0 : t = 0 := by omega
    subst e0
    rw [dif_neg h0]
    refine Tri.pre (Tri.skip (F := F) (X := X) (W := W)) ?_
    iintro ⟨#HC, H1, H2, H3, H4⟩
    imodintro
    isplitl [H1 H2]
    · iapply (pre_zero (X := X) (W := W) (κ := κ) (ν := ν))
      isplitr; · iexact HC
      isplitl [H1] <;> iassumption
    isplitl [H4] <;> iassumption

theorem tri_agLane (r : Fin 4) {t : ℕ} (ht : t < len true r) {S : Finset S4096x2048.Idx} :
    Tri X W κ ν c iprop(LSt X W c r t ∗ entered c ∗ entered (dst r c) ∗ ow c (tauG t r) ∗ oW X W c S ∅)
      (agLane A0 c (scaleV X W) r t ht) iprop(LSt X W c r (t + 1) ∗ ow c (tauG t r + 2) ∗ oW X W c (S ∪ (halfR (relG c r (t + 1)) (hfL r)).set) (∅ \ (halfR (relG c r (t + 1)) (hfL r)).set)) := by
  rw [agLane_eq]
  have hl := len_ge true r
  have hl' := len_true r
  have ek := bigSep_range_succ t (fun j => keepQ X W c r j)
  refine Tri.seqw iprop((Rcv c true r (t + 1) ∗ ow c (tauG t r) ∗ reached ER (cell (c, rcvK true r (par t))) (t / 2 + 1) ∗ payR X W c (.send true r t))
    ∗ Cro c true r (min t (len true r - 2)) ∗ Snd X W c true r (min t (len true r - 1)) ∗ (bigSep (Finset.range t) fun j => keepQ X W c r j)
    ∗ (bigSep (Finset.range (min t (len true r - 1) - 1)) fun j => retQ X W c r j) ∗ entered c ∗ entered (dst r c) ∗ oW X W c S ∅) ?_ ?_
  · refine ((tri_recv (X := X) (W := W) (κ := κ) (ν := ν) (c := c) (ph := true) (r := r) (g := t) ht (agR_eq r (par t)) rfl ?_ (tauG_recv t r)).framed _).conseq ?_ (Entails.refl _)
    · exact fun K => rfl
    unfold LSt
    iintro ⟨⟨H1, H2, H3, H4, H5⟩, H6, H7, H8, H9⟩
    isplitl [H1 H8]
    · isplitl [H1] <;> iassumption
    isplitl [H2]; · iexact H2
    isplitl [H3]; · iexact H3
    isplitl [H4]; · iexact H4
    isplitl [H5]; · iexact H5
    isplitl [H6]; · iexact H6
    isplitl [H7] <;> iassumption
  refine Tri.seqw iprop((Cro c true r (min (t + 1) (len true r - 2)) ∗ ow c (tauG t r + 1)) ∗ payR X W c (.send true r t) ∗ Rcv c true r (t + 1)
    ∗ Snd X W c true r (min t (len true r - 1)) ∗ (bigSep (Finset.range t) fun j => keepQ X W c r j)
    ∗ (bigSep (Finset.range (min t (len true r - 1) - 1)) fun j => retQ X W c r j) ∗ entered (dst r c) ∗ oW X W c S ∅) ?_ ?_
  · unfold crPartG
    by_cases h1 : t + 2 < len true r
    · rw [if_pos h1, Nat.min_eq_left (by omega : t ≤ len true r - 2), Nat.min_eq_left (by omega : t + 1 ≤ len true r - 2)]
      refine ((tri_credit (X := X) (W := W) (κ := κ) (ν := ν) (c := c) (ph := true) (r := r) (g := t) h1 _ (srcD_eq c r) (agC_eq r) rfl).framed
        iprop(payR X W c (.send true r t) ∗ Rcv c true r (t + 1)
          ∗ Snd X W c true r (min t (len true r - 1)) ∗ (bigSep (Finset.range t) fun j => keepQ X W c r j)
          ∗ (bigSep (Finset.range (min t (len true r - 1) - 1)) fun j => retQ X W c r j) ∗ entered (dst r c) ∗ oW X W c S ∅)).conseq ?_ ?_
      · have e : (ow c (tauG t r) : sProp 𝕄) = ow c (time (.credit true r t)) := by rw [tauG_credit]
        have e2 : entered c ⊢ (free c true r t : sProp 𝕄) := mem_first (show Ok (.send true r (t + 2)) from h1) rfl
        iintro ⟨⟨H1, H2, H3, H4⟩, H5, H6, H7, H8, H9, H10, H11⟩
        isplitl [H5 H3 H9 H2]
        · isplitl [H5]; · iexact H5
          isplitl [H3]; · iexact H3
          isplitl [H9]; · iapply e2; iexact H9
          iapply (Entails.of_eq e); iexact H2
        isplitl [H4]; · iexact H4
        isplitl [H1]; · iexact H1
        isplitl [H6]; · iexact H6
        isplitl [H7]; · iexact H7
        isplitl [H8]; · iexact H8
        isplitl [H10] <;> iassumption
      · rw [tauG_credit]
    · rw [if_neg h1, Nat.min_eq_right (by omega : len true r - 2 ≤ t), Nat.min_eq_right (by omega : len true r - 2 ≤ t + 1)]
      refine Tri.pre (Tri.skip (F := F) (X := X) (W := W)) ?_
      have e : (ow c (tauG t r) : sProp 𝕄) = ow c (tauG t r + 1) := by
        rw [← tauG_credit]
        exact ow_none (F := F) c (e := .credit true r t) (show t ≤ 15 by omega) h1
      iintro ⟨-, ⟨H1, H2, H3, H4⟩, H5, H6, H7, H8, H9, H10, H11⟩
      imodintro
      isplitl [H5 H2]
      · isplitl [H5]; · iexact H5
        iapply (Entails.of_eq e); iexact H2
      isplitl [H4]; · iexact H4
      isplitl [H1]; · iexact H1
      isplitl [H6]; · iexact H6
      isplitl [H7]; · iexact H7
      isplitl [H8]; · iexact H8
      isplitl [H10] <;> iassumption
  refine Tri.seqw iprop((oW X W c S ∅ ∗ keepQ X W c r t) ∗ (Cro c true r (min (t + 1) (len true r - 2)) ∗ ow c (tauG t r + 2)) ∗ Rcv c true r (t + 1)
    ∗ Snd X W c true r (min (t + 1) (len true r - 1)) ∗ (bigSep (Finset.range t) fun j => keepQ X W c r j)
    ∗ (bigSep (Finset.range (min (t + 1) (len true r - 1) - 1)) fun j => retQ X W c r j)) ?_ ?_
  · unfold sndPartG
    by_cases h2 : t + 1 < len true r
    · rw [dif_pos h2, Nat.min_eq_left (by omega : t ≤ len true r - 1), Nat.min_eq_left (by omega : t + 1 ≤ len true r - 1), Nat.add_sub_cancel, keep_mid r h2]
      refine Tri.seqw _ (((tri_agPre r ht h2).framed iprop(Cro c true r (min (t + 1) (len true r - 2)) ∗ payR X W c (.send true r t) ∗ Rcv c true r (t + 1)
        ∗ (bigSep (Finset.range t) fun j => keepQ X W c r j) ∗ oW X W c S ∅)).conseq ?_ (Entails.refl _)) ?_
      · iintro ⟨⟨H1, H2⟩, H3, H4, H5, H6, H7, H8, H9⟩
        isplitl [H5 H8 H7 H2]
        · isplitl [H5]; · iexact H5
          isplitl [H8]; · iexact H8
          isplitl [H7] <;> iassumption
        isplitl [H1]; · iexact H1
        isplitl [H3]; · iexact H3
        isplitl [H4]; · iexact H4
        isplitl [H6] <;> iassumption
      refine ((tri_next (X := X) (W := W) (κ := κ) (ν := ν) (c := c) (ph := true) (r := r) (g := t) (Z := iprop(emp)) h2
        (tri_agSend (X := X) (W := W) (κ := κ) (ν := ν) (c := c) (r := r) (j := t + 1) h2 (agOff_eq c r (t + 1) h2) (inb := agOff_inb c r (t + 1) h2) (dstD_eq c r) rfl)).framed
          iprop(qP c (relG c r (t + 1)) (hfL r) (shrC r) (quantV X W) ∗ (bigSep (Finset.range t) fun j => retQ X W c r j) ∗ Cro c true r (min (t + 1) (len true r - 2)) ∗ Rcv c true r (t + 1)
        ∗ (bigSep (Finset.range t) fun j => keepQ X W c r j) ∗ oW X W c S ∅)).conseq ?_ ?_
      · have e : (ow c (tauG t r + 1) : sProp 𝕄) = ow c (time (.send true r (t + 1))) := by rw [tauG_send]
        have e2 : payR X W c (.send true r t) ⊢ iprop(qP c (relG c r (t + 1)) (hfL r) (shr r) (quantV X W) ∗ qP c (relG c r (t + 1)) (hfL r) (shrC r) (quantV X W)) :=
          Entails.of_eq (share_split c (relG c r (t + 1)) (hfL r) r (quantV X W))
        iintro ⟨⟨H1, H2, H3⟩, H4, H5, H6, H7, H8⟩
        ihave H5 := e2 $$ H5
        icases H5 with ⟨H5, H9⟩
        isplitl [H1 H5 H2]
        · isplitl [H1]; · iexact H1
          isplitl [H5]; · iexact H5
          isplitr; · iempintro
          iapply (Entails.of_eq e); iexact H2
        isplitl [H9]; · iexact H9
        isplitl [H3]; · iexact H3
        isplitl [H4]; · iexact H4
        isplitl [H6]; · iexact H6
        isplitl [H7] <;> iassumption
      · rw [tauG_send]
        iintro ⟨⟨H1, H2⟩, H3, H4, H5, H6, H7, H8⟩
        isplitl [H8 H3]
        · isplitl [H8] <;> iassumption
        isplitl [H5 H2]
        · isplitl [H5] <;> iassumption
        isplitl [H6]; · iexact H6
        isplitl [H1]; · iexact H1
        isplitl [H7] <;> iassumption
    · rw [dif_neg h2, Nat.min_eq_right (by omega : len true r - 1 ≤ t), Nat.min_eq_right (by omega : len true r - 1 ≤ t + 1), keep_last r h2]
      refine Tri.pre (Tri.skip (F := F) (X := X) (W := W)) ?_
      have e : (ow c (tauG t r + 1) : sProp 𝕄) = ow c (tauG t r + 2) := by
        rw [← tauG_send]
        exact (ow_none (F := F) c (e := .send true r (t + 1)) (show t + 1 ≤ 16 by omega) h2).trans (by rw [tauG_send])
      have e9 : payR X W c (.send true r t) ⊢ (qP c (relG c r (t + 1)) (hfL r) fullShare (quantV X W) : sProp 𝕄) := Entails.of_eq rfl
      iintro ⟨-, ⟨H1, H2⟩, H3, H4, H5, H6, H7, H8, H9⟩
      imodintro
      isplitl [H9 H3]
      · isplitl [H9]; · iexact H9
        iapply e9; iexact H3
      isplitl [H1 H2]
      · isplitl [H1]; · iexact H1
        iapply (Entails.of_eq e); iexact H2
      isplitl [H4]; · iexact H4
      isplitl [H5]; · iexact H5
      isplitl [H6] <;> iassumption
  · unfold LSt
    rw [ek]
    unfold keepQ
    refine ((tri_out (X := X) (W := W) (κ := κ) (ν := ν) (c := c) (S := S) (T := ∅) (k := relG c r (t + 1)) (hfL r) (agIn_eq c r t ht) (hb := agIn_inb c r t ht)).framed _).conseq (Entails.refl _) ?_
    iintro ⟨⟨H1, H2⟩, ⟨H3, H4⟩, H5, H6, H7, H8⟩
    isplitl [H5 H3 H6 H2 H7 H8]
    · isplitl [H5]; · iexact H5
      isplitl [H3]; · iexact H3
      isplitl [H6]; · iexact H6
      isplitl [H2 H7]
      · isplitl [H2] <;> iassumption
      iexact H8
    isplitl [H4] <;> iassumption

end Cert.KernelIdeal.Px

end
-- ==== Proof.Gather.lean ====
/-
  The all-gather.
-/
module

public import proofs.«01_k».proof.Proof.Lane

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### The halves by lane -/

/-- The half chunks a device receives, by lane and step. -/
def lanes : Finset (Fin 4 × ℕ) :=
  (Finset.range 16).image (fun j => ((0 : Fin 4), j)) ∪ ((Finset.range 16).image (fun j => ((1 : Fin 4), j))
    ∪ ((Finset.range 15).image (fun j => ((2 : Fin 4), j)) ∪ (Finset.range 15).image (fun j => ((3 : Fin 4), j))))
theorem mem_lanes {x : Fin 4 × ℕ} : x ∈ lanes ↔ x.2 < len true x.1 := by
  obtain ⟨r, j⟩ := x
  unfold lanes
  simp only [Finset.mem_union, Finset.mem_image, Finset.mem_range, Prod.mk.injEq]
  fin_cases r
  · show _ ↔ j < 16
    constructor
    · rintro (⟨a, h, -, rfl⟩ | ⟨a, h, h', -⟩ | ⟨a, h, h', -⟩ | ⟨a, h, h', -⟩)
      · exact h
      all_goals exact absurd h' (by decide)
    · intro h; exact .inl ⟨j, h, rfl, rfl⟩
  · show _ ↔ j < 16
    constructor
    · rintro (⟨a, h, h', -⟩ | ⟨a, h, -, rfl⟩ | ⟨a, h, h', -⟩ | ⟨a, h, h', -⟩)
      · exact absurd h' (by decide)
      · exact h
      all_goals exact absurd h' (by decide)
    · intro h; exact .inr (.inl ⟨j, h, rfl, rfl⟩)
  · show _ ↔ j < 15
    constructor
    · rintro (⟨a, h, h', -⟩ | ⟨a, h, h', -⟩ | ⟨a, h, -, rfl⟩ | ⟨a, h, h', -⟩)
      · exact absurd h' (by decide)
      · exact absurd h' (by decide)
      · exact h
      · exact absurd h' (by decide)
    · intro h; exact .inr (.inr (.inl ⟨j, h, rfl, rfl⟩))
  · show _ ↔ j < 15
    constructor
    · rintro (⟨a, h, h', -⟩ | ⟨a, h, h', -⟩ | ⟨a, h, h', -⟩ | ⟨a, h, -, rfl⟩)
      · exact absurd h' (by decide)
      · exact absurd h' (by decide)
      · exact absurd h' (by decide)
      · exact h
    · intro h; exact .inr (.inr (.inr ⟨j, h, rfl, rfl⟩))
theorem lanes_card : lanes.card ≤ 62 := by decide +kernel

/-- The half chunk of a lane's step. -/
def at2 (c : Dev nD) (x : Fin 4 × ℕ) : Fin 32 × Fin 2 := (relG c x.1 (x.2 + 1), hfL x.1)

theorem at2_onto : ∀ (p k : Fin 32) (h : Fin 2), k = (if h.val % 2 = 0 then p + 1 else p - 1) + - Fin.ofNat 32 0 ∨
    ((p - k).val < 99 ∧ ((∃ j : Fin 16, (if h.val % 2 = 0 then p + 1 else p - 1) + - Fin.ofNat 32 (j.val + 1) = k) ∨ ∃ j : Fin 15, (if h.val % 2 = 0 then p + 1 else p - 1) + Fin.ofNat 32 (j.val + 1) = k)) := by
  decide +kernel

theorem at2_cases (c : Dev nD) (k : Fin 32) (h : Fin 2) : (k = relG c 0 0 ∧ h = 0) ∨ (k = relG c 1 0 ∧ h = 1) ∨ ∃ x ∈ lanes, at2 c x = (k, h) := by
  have H := at2_onto (pos c) k h
  obtain rfl | rfl : h = 0 ∨ h = 1 := by omega
  · rcases H with H | ⟨-, ⟨j, H⟩ | ⟨j, H⟩⟩
    · exact .inl ⟨H, rfl⟩
    · exact .inr (.inr ⟨(0, j.val), mem_lanes.mpr (show j.val < 16 from j.isLt), by unfold at2; exact Prod.ext H rfl⟩)
    · exact .inr (.inr ⟨(2, j.val), mem_lanes.mpr (show j.val < 15 from j.isLt), Prod.ext (by show relG c 2 (j.val + 1) = k; unfold relG; rw [if_pos (by decide), if_neg (by decide)]; rw [if_pos (by decide)] at H; exact H) (show hfL 2 = 0 by decide)⟩)
  · rcases H with H | ⟨-, ⟨j, H⟩ | ⟨j, H⟩⟩
    · exact .inr (.inl ⟨H, rfl⟩)
    · exact .inr (.inr ⟨(1, j.val), mem_lanes.mpr (show j.val < 16 from j.isLt), by unfold at2; exact Prod.ext H rfl⟩)
    · exact .inr (.inr ⟨(3, j.val), mem_lanes.mpr (show j.val < 15 from j.isLt), Prod.ext (by show relG c 3 (j.val + 1) = k; unfold relG; rw [if_neg (by decide), if_neg (by decide)]; rw [if_neg (by decide)] at H; exact H) (show hfL 3 = 1 by decide)⟩)

theorem at2_univ (c : Dev nD) : (Finset.univ : Finset (Fin 32 × Fin 2)) = insert (relG c 0 0, 0) (insert (relG c 1 0, 1) (lanes.image (at2 c))) := by
  refine (Finset.eq_univ_of_forall fun x => ?_).symm
  obtain ⟨k, h⟩ := x
  rw [Finset.mem_insert, Finset.mem_insert, Finset.mem_image, Prod.mk.injEq, Prod.mk.injEq]
  exact at2_cases c k h

theorem at2_card (c : Dev nD) : 62 ≤ (lanes.image (at2 c)).card ∧ (relG c 0 0, (0 : Fin 2)) ∉ insert (relG c 1 0, (1 : Fin 2)) (lanes.image (at2 c)) ∧ (relG c 1 0, (1 : Fin 2)) ∉ lanes.image (at2 c) := by
  have h64 : (Finset.univ : Finset (Fin 32 × Fin 2)).card = 64 := by rw [Finset.card_univ, Fintype.card_prod, Fintype.card_fin, Fintype.card_fin]
  have hle : (lanes.image (at2 c)).card ≤ 62 := Finset.card_image_le.trans lanes_card
  rw [at2_univ c] at h64
  have h1 := Finset.card_insert_le (relG c 0 0, (0 : Fin 2)) (insert (relG c 1 0, 1) (lanes.image (at2 c)))
  have h2 := Finset.card_insert_le (relG c 1 0, (1 : Fin 2)) (lanes.image (at2 c))
  refine ⟨by omega, fun hm => ?_, fun hm => ?_⟩
  · rw [Finset.insert_eq_of_mem hm] at h64; omega
  · rw [Finset.insert_eq_of_mem hm] at h64 h1 h2
    omega

theorem at2_inj (c : Dev nD) : Set.InjOn (at2 c) lanes := by
  rw [← Finset.card_image_iff]
  exact le_antisymm Finset.card_image_le (lanes_card.trans (at2_card c).1)

/-- The quantised buffer whole. -/
def qW (c : Dev nD) (f : S4096x2048.Idx → Elt F .fp8e4m3) : sProp 𝕄 := ((c : Thread nD τ).loc cc0_scratch1) ↦{fullShare} f

theorem half_pair : Set.PairwiseDisjoint (↑(Finset.univ : Finset (Fin 32 × Fin 2))) (fun x : Fin 32 × Fin 2 => (halfR x.1 x.2).set) := by
  intro x _ y _ hxy
  refine half_disj ?_
  by_contra hn
  rw [not_or, not_not, not_not] at hn
  exact hxy (Prod.ext hn.1 hn.2)
theorem half_cover : (Finset.univ : Finset S4096x2048.Idx) = Finset.univ.biUnion (fun x : Fin 32 × Fin 2 => (halfR x.1 x.2).set) := by
  refine (Finset.eq_univ_of_forall fun i => ?_).symm
  rw [Finset.mem_biUnion]
  exact ⟨(chunkOf i, ⟨(ringOf i).val / 2, by omega⟩), Finset.mem_univ _, half_iff.mpr ⟨rfl, rfl⟩⟩

theorem lanes_four (Φ : Fin 4 → ℕ → sProp 𝕄) : bigSep lanes (fun x => Φ x.1 x.2) = four fun r => bigSep (Finset.range (len true r)) fun j => Φ r j := by
  have inj : ∀ (r : Fin 4) (s : Set ℕ), Set.InjOn (fun j : ℕ => (r, j)) s := fun r s a _ b _ h => congrArg Prod.snd h
  have dis : ∀ {a b : Fin 4 × ℕ}, a.1 ≠ b.1 → a ≠ b := fun h e => h (congrArg Prod.fst e)
  unfold lanes
  rw [BI.bigSep_union, BI.bigSep_union, BI.bigSep_union, BI.bigSep_image_of_injOn (inj 0 _), BI.bigSep_image_of_injOn (inj 1 _), BI.bigSep_image_of_injOn (inj 2 _), BI.bigSep_image_of_injOn (inj 3 _)]
  · rfl
  · rw [Finset.disjoint_left]; intro x hx hy
    simp only [Finset.mem_image, Finset.mem_union] at hx hy
    obtain ⟨a, -, rfl⟩ := hx
    obtain ⟨b, -, h⟩ := hy
    exact absurd (show (3 : Fin 4) = 2 from congrArg Prod.fst h) (by decide)
  · rw [Finset.disjoint_left]; intro x hx hy
    simp only [Finset.mem_image, Finset.mem_union] at hx hy
    obtain ⟨a, -, rfl⟩ := hx
    rcases hy with ⟨b, -, h⟩ | ⟨b, -, h⟩
    · exact absurd (show (2 : Fin 4) = 1 from congrArg Prod.fst h) (by decide)
    · exact absurd (show (3 : Fin 4) = 1 from congrArg Prod.fst h) (by decide)
  · rw [Finset.disjoint_left]; intro x hx hy
    simp only [Finset.mem_image, Finset.mem_union] at hx hy
    obtain ⟨a, -, rfl⟩ := hx
    rcases hy with ⟨b, -, h⟩ | ⟨b, -, h⟩ | ⟨b, -, h⟩
    · exact absurd (show (1 : Fin 4) = 0 from congrArg Prod.fst h) (by decide)
    · exact absurd (show (2 : Fin 4) = 0 from congrArg Prod.fst h) (by decide)
    · exact absurd (show (3 : Fin 4) = 0 from congrArg Prod.fst h) (by decide)

theorem split_q (c : Dev nD) (f : S4096x2048.Idx → Elt F .fp8e4m3) :
    (qW c f : sProp 𝕄) = iprop(qP c (relG c 0 0) 0 fullShare f ∗ qP c (relG c 1 0) 1 fullShare f ∗ four fun r => bigSep (Finset.range (len true r)) fun j => qP c (relG c r (j + 1)) (hfL r) fullShare f) := by
  have e : (qW c f : sProp 𝕄) = bigSep (Finset.univ : Finset (Fin 32 × Fin 2)) fun x => qP c x.1 x.2 fullShare f := by
    unfold qW qP
    rw [half_cover]
    exact pointsTo_biUnion _ _ half_pair
  have h1 : bigSep (insert (relG c 0 0, 0) (insert (relG c 1 0, 1) (lanes.image (at2 c)))) (fun x : Fin 32 × Fin 2 => qP (F := F) c x.1 x.2 fullShare f)
      = iprop(qP c (relG c 0 0) 0 fullShare f ∗ bigSep (insert (relG c 1 0, 1) (lanes.image (at2 c))) fun x => qP c x.1 x.2 fullShare f) := bigSep_insert (at2_card c).2.1
  have h2 : bigSep (insert (relG c 1 0, 1) (lanes.image (at2 c))) (fun x : Fin 32 × Fin 2 => qP (F := F) c x.1 x.2 fullShare f)
      = iprop(qP c (relG c 1 0) 1 fullShare f ∗ bigSep (lanes.image (at2 c)) fun x => qP c x.1 x.2 fullShare f) := bigSep_insert (at2_card c).2.2
  rw [e, at2_univ c, h1, h2, BI.bigSep_image_of_injOn (at2_inj c)]
  exact congrArg (fun Z => iprop(qP c (relG c 0 0) 0 fullShare f ∗ qP c (relG c 1 0) 1 fullShare f ∗ Z)) (lanes_four fun r j => qP c (relG c r (j + 1)) (hfL r) fullShare f)

/-! ### What is done of the result -/

open Classical in
/-- What is done of the result at a time. -/
def dn (c : Dev nD) (n : ℕ) : Finset S4096x2048.Idx :=
  Finset.univ.filter fun i => i ∈ ownT c ∨ ∃ (r : Fin 4) (j : ℕ), j < len true r ∧ tauG j r < n ∧ i ∈ (halfR (relG c r (j + 1)) (hfL r)).set
theorem mem_dn {n : ℕ} {i : S4096x2048.Idx} : i ∈ dn c n ↔ i ∈ ownT c ∨ ∃ (r : Fin 4) (j : ℕ), j < len true r ∧ tauG j r < n ∧ i ∈ (halfR (relG c r (j + 1)) (hfL r)).set := by
  unfold dn; rw [Finset.mem_filter]; exact ⟨fun h => h.2, fun h => ⟨Finset.mem_univ _, h⟩⟩
theorem tauG_parts {j j' : ℕ} {r r' : Fin 4} (h : tauG j r = tauG j' r') : j = j' ∧ r = r' := by
  unfold tauG at h
  have h1 := r.isLt; have h2 := r'.isLt
  exact ⟨by omega, Fin.ext (by omega)⟩
theorem tauG_near {j j' : ℕ} {r r' : Fin 4} (h : tauG j r < tauG j' r' + 2) (h' : ¬ tauG j r < tauG j' r') : tauG j r = tauG j' r' := by
  unfold tauG at h h' ⊢; omega
theorem dn_next (r : Fin 4) (t : ℕ) : dn c (tauG t r + 2) ⊆ dn c (tauG t r) ∪ (halfR (relG c r (t + 1)) (hfL r)).set := by
  intro i hi
  rw [Finset.mem_union, mem_dn]
  rcases mem_dn.mp hi with h | ⟨r', j, h1, h2, h3⟩
  · exact .inl (.inl h)
  · by_cases h : tauG j r' < tauG t r
    · exact .inl (.inr ⟨r', j, h1, h, h3⟩)
    · obtain ⟨rfl, rfl⟩ := tauG_parts (tauG_near h2 h)
      exact .inr h3
theorem dn_skip (r : Fin 4) {t : ℕ} (ht : ¬ t < len true r) : dn c (tauG t r + 2) ⊆ dn c (tauG t r) := by
  intro i hi
  rcases mem_dn.mp hi with h | ⟨r', j, h1, h2, h3⟩
  · exact mem_dn.mpr (.inl h)
  · by_cases h : tauG j r' < tauG t r
    · exact mem_dn.mpr (.inr ⟨r', j, h1, h, h3⟩)
    · obtain ⟨rfl, rfl⟩ := tauG_parts (tauG_near h2 h)
      exact absurd h1 ht
theorem dn_start : dn c 304 ⊆ ownT c := by
  intro i hi
  rcases mem_dn.mp hi with h | ⟨r', j, h1, h2, h3⟩
  · exact h
  · unfold tauG at h2; omega
theorem dn_end (i : S4096x2048.Idx) : i ∈ dn c 432 := by
  have hl := len_true
  obtain ⟨x, -, hx⟩ := Finset.mem_biUnion.mp (half_cover ▸ Finset.mem_univ i)
  obtain ⟨k, h⟩ := x
  rw [mem_dn]
  rcases at2_cases c k h with ⟨rfl, rfl⟩ | ⟨rfl, rfl⟩ | ⟨⟨r, j⟩, h1, h2⟩
  · exact .inl (Finset.mem_union_left _ hx)
  · exact .inl (Finset.mem_union_right _ hx)
  · have e1 : relG c r (j + 1) = k := congrArg Prod.fst h2
    have e2 : hfL r = h := congrArg Prod.snd h2
    have hj : j < len true r := mem_lanes.mp h1
    refine .inr ⟨r, j, hj, ?_, ?_⟩
    · have h3 := hl r; have h4 := r.isLt
      unfold tauG; omega
    · rw [e1, e2]; exact hx

theorem oW_mono {S S' T T' : Finset S4096x2048.Idx} (hS : S' ⊆ S) (hT : T' ⊆ T) : oW X W c S T ⊢ oW X W c S' T' := by
  unfold oW
  iintro ⟨%f, %h, H⟩
  iexists f
  isplitr
  · ipureintro; exact ⟨fun i hi => h.1 i (hS hi), fun i hi => h.2 i (hT hi)⟩
  iexact H
theorem oW_end : oW X W c (dn c 432) ∅ ⊢ oR c Finset.univ (outV X W) := by
  unfold oW
  iintro ⟨%f, %h, H⟩
  have e : f = outV X W := funext fun i => h.1 i (dn_end i)
  subst e
  iexact H

/-! ### The steps -/

def lanePart (d : Dev nD) (sc : F .f32) (t : ℕ) (r : Fin 4) : Pg F := if h : t < len true r then agLane A0 d sc r t h else pure ⟨⟩

section St
variable (X : Dev nD → S4096x128.Idx → Elt F .f32) (W : Dev nD → S128x2048.Idx → Elt F .f32)
/-- A lane before step `t`, which may be beyond its last. -/
def LaneS (c : Dev nD) (t : ℕ) (r : Fin 4) : sProp 𝕄 := LSt X W c r (min t (len true r))
end St

theorem tri_lanePart {t : ℕ} (h16 : t < 16) (r : Fin 4) :
    Tri X W κ ν c iprop(LaneS X W c t r ∗ Ent c ∗ (ow c (304 + 8 * t + 2 * r.val) ∗ oW X W c (dn c (304 + 8 * t + 2 * r.val)) ∅)) (lanePart c (scaleV X W) t r)
      iprop(LaneS X W c (t + 1) r ∗ (ow c (304 + 8 * t + 2 * (r.val + 1)) ∗ oW X W c (dn c (304 + 8 * t + 2 * (r.val + 1))) ∅)) := by
  have e1 : 304 + 8 * t + 2 * r.val = tauG t r := rfl
  have e2 : 304 + 8 * t + 2 * (r.val + 1) = tauG t r + 2 := by unfold tauG; omega
  rw [e1, e2]
  unfold lanePart LaneS
  by_cases h : t < len true r
  · rw [dif_pos h, Nat.min_eq_left (by omega : t ≤ len true r), Nat.min_eq_left (by omega : t + 1 ≤ len true r)]
    refine (tri_agLane (X := X) (W := W) (κ := κ) (ν := ν) (c := c) r h (S := dn c (tauG t r))).conseq ?_ ?_
    · have h1 := Ent_own (F := F) c
      have h2 := Ent_dst (F := F) c r
      iintro ⟨H1, #HE, H2, H3⟩
      isplitl [H1]; · iexact H1
      isplitr; · iapply h1; iexact HE
      isplitr; · iapply h2; iexact HE
      isplitl [H2] <;> iassumption
    · have h3 : oW X W c (dn c (tauG t r) ∪ (halfR (relG c r (t + 1)) (hfL r)).set) (∅ \ (halfR (relG c r (t + 1)) (hfL r)).set) ⊢ oW X W c (dn c (tauG t r + 2)) ∅ :=
        oW_mono (dn_next r t) (Finset.empty_subset _)
      iintro ⟨H1, H2, H3⟩
      isplitl [H1]; · iexact H1
      isplitl [H2]; · iexact H2
      iapply h3; iexact H3
  · rw [dif_neg h, Nat.min_eq_right (by omega : len true r ≤ t), Nat.min_eq_right (by omega : len true r ≤ t + 1)]
    refine Tri.pre (Tri.skip (F := F) (X := X) (W := W)) ?_
    have e : (ow c (tauG t r) : sProp 𝕄) = ow c (tauG t r + 2) := by
      have a1 : (ow c (tauG t r) : sProp 𝕄) = ow c (tauG t r + 1) := by
        rw [← tauG_credit]
        exact ow_none (F := F) c (e := .credit true r t) (show t ≤ 15 by omega) (show ¬ (t + 2 < len true r) by omega)
      have a2 : (ow c (tauG t r + 1) : sProp 𝕄) = ow c (tauG t r + 2) := by
        rw [← tauG_send]
        exact (ow_none (F := F) c (e := .send true r (t + 1)) (show t + 1 ≤ 16 by omega) (show ¬ (t + 1 < len true r) by omega)).trans (by rw [tauG_send])
      rw [a1, a2]
    have h3 : oW X W c (dn c (tauG t r)) ∅ ⊢ oW X W c (dn c (tauG t r + 2)) ∅ := oW_mono (dn_skip r h) (Finset.empty_subset _)
    iintro ⟨-, H1, -, H2, H3⟩
    imodintro
    isplitl [H1]; · iexact H1
    isplitl [H2]; · iapply (Entails.of_eq e); iexact H2
    iapply h3; iexact H3

/-- A part that may be left out, with what follows. -/
theorem opt_then {b : Prop} [Decidable b] (a : b → Pg F) (q : Pg F) :
    (if h : b then a h >>= fun _ => q else q) = (if h : b then a h else pure ⟨⟩) >>= fun _ => q := by
  by_cases h : b
  · rw [dif_pos h, dif_pos h]
  · rw [dif_neg h, dif_neg h]; rfl
theorem agStep_parts (d : Dev nD) (sc : F .f32) (t : ℕ) :
    (agStep A0 d sc t : Pg F) = lanePart d sc t 0 >>= fun _ => lanePart d sc t 1 >>= fun _ => lanePart d sc t 2 >>= fun _ => lanePart d sc t 3 := by
  unfold lanePart
  rw [← opt_then (fun h => agLane A0 d sc 0 t h), ← opt_then (fun h => agLane A0 d sc 1 t h), ← opt_then (fun h => agLane A0 d sc 2 t h)]
  rfl

theorem tri_agLoop :
    Tri X W κ ν c iprop(four (fun r => LaneS X W c 0 r) ∗ Ent c ∗ ow c 304 ∗ oW X W c (dn c 304) ∅) (loop (fun t => agStep A0 c (scaleV X W) t) 0 16)
      iprop(four (fun r => LaneS X W c 16 r) ∗ Ent c ∗ ow c 432 ∗ oW X W c (dn c 432) ∅) :=
  Tri.iter (I := fun t => iprop(four (fun r => LaneS X W c t r) ∗ Ent c ∗ ow c (304 + 8 * t) ∗ oW X W c (dn c (304 + 8 * t)) ∅)) 0 16 fun t _ ht => by
    have h : t < 16 := by omega
    rw [agStep_parts]
    refine ((tri_four (X := X) (W := W) (κ := κ) (ν := ν) (c := c) (E := Ent c) (T := fun n => iprop(ow c (304 + 8 * t + 2 * n) ∗ oW X W c (dn c (304 + 8 * t + 2 * n)) ∅))
      (p := fun r => lanePart c (scaleV X W) t r) (fun r => tri_lanePart h r)).framed iprop(Ent c)).conseq ?_ ?_
    · iintro ⟨H1, #HE, H2⟩
      isplitl [H1 H2]
      · isplitl [H1]; · iexact H1
        isplitr; · iexact HE
        iexact H2
      iexact HE
    · iintro ⟨⟨H1, H2⟩, HE⟩
      isplitl [H1]; · iexact H1
      isplitl [HE]; · iexact HE
      iexact H2

/-! ### The first copies, and the last -/

theorem ow_start (c : Dev nD) : (ow c 295 : sProp 𝕄) = ow c 296 :=
  ow_skip c (by omega) fun e he ⟨h1, h2⟩ => by
    have h := time_lt he
    have hl := len_le; have hlt := len_true
    cases e with
    | bar n => cases n <;> simp [time] at h1 <;> omega
    | credit ph r e =>
      have := r.isLt
      simp only [Ok] at he
      cases ph
      · have := hl false r; simp only [time, base] at h1 h2; omega
      · simp only [time, base] at h1 h2; omega
    | send ph r e =>
      have := r.isLt
      simp only [Ok] at he
      cases ph
      · have := hl false r; simp only [time, base] at h1 h2; omega
      · simp only [time, base] at h1 h2; omega
    | amax i => simp only [Ok] at he; simp only [time] at h1 h2; omega
theorem ow_preG (c : Dev nD) (r : Fin 4) : (ow c (296 + 2 * r.val) : sProp 𝕄) = ow c (time (.send true r 0)) :=
  ow_skip c (by simp only [time, base]; omega) fun e he ⟨h1, h2⟩ => by
    have hr := r.isLt
    have hl := len_le; have hlt := len_true
    cases e with
    | bar n => cases n <;> simp [time] at h1 <;> omega
    | credit ph r' e =>
      have := r'.isLt
      simp only [Ok] at he
      cases ph
      · have := hl false r'; simp only [time, base] at h1 h2; omega
      · simp only [time, base] at h1 h2; omega
    | send ph r' e =>
      have := r'.isLt
      simp only [Ok] at he
      cases ph
      · have := hl false r'; simp only [time, base] at h1 h2; omega
      · simp only [time, base] at h1 h2; omega
    | amax i => simp only [Ok] at he; simp only [time] at h1 h2; omega

section St
variable (X : Dev nD → S4096x128.Idx → Elt F .f32) (W : Dev nD → S128x2048.Idx → Elt F .f32)
/-- A lane at its start. -/
def LaneB (c : Dev nD) (r : Fin 4) : sProp 𝕄 := iprop(Rcv c true r 0 ∗ Cro c true r 0 ∗ Ini X W c true r)
/-- A lane whose copies are over. -/
def LaneE (c : Dev nD) (r : Fin 4) : sProp 𝕄 :=
  iprop(pos2 c (rcvK true r) (len true r) ∗ pos2 c (sndK true r) (len true r) ∗ atPos ER (cell (c, crK true r)) 1 ∅ 0
    ∗ (bigSep (Finset.range (len true r)) fun j => keepQ X W c r j) ∗ bigSep (Finset.range (len true r)) fun j => retQ X W c r j)
end St

theorem tri_agFirst (r : Fin 4) (h : 0 < len true r) :
    Tri X W κ ν c iprop((LaneB X W c r ∗ qP c (relG c r 0) (hfL r) (shr r) (quantV X W)) ∗ Ent c ∗ ow c (296 + 2 * r.val)) (agSend A0 c r 0 h)
      iprop(LaneS X W c 0 r ∗ ow c (296 + 2 * (r.val + 1))) := by
  refine ((tri_first (X := X) (W := W) (κ := κ) (ν := ν) (c := c) (ph := true) (r := r) (Z := iprop(emp))
    (tri_agSend (X := X) (W := W) (κ := κ) (ν := ν) (c := c) (r := r) (j := 0) h (agOff_eq c r 0 h) (inb := agOff_inb c r 0 h) (dstD_eq c r) rfl)).framed iprop(Rcv c true r 0 ∗ Cro c true r 0)).conseq ?_ ?_
  · have h2 := Ent_dst (F := F) c r
    have e := Entails.of_eq (ow_preG (F := F) c r)
    unfold LaneB
    iintro ⟨⟨⟨H1, H2, H3⟩, H4⟩, HE, H5⟩
    isplitl [H3 H4 HE H5]
    · isplitl [H3]; · iexact H3
      isplitl [HE]; · iapply h2; iexact HE
      isplitl [H4]; · iexact H4
      isplitr; · iempintro
      iapply e; iexact H5
    isplitl [H1] <;> iassumption
  · have e : (ow c (time (.send true r 0) + 1) : sProp 𝕄) = ow c (296 + 2 * (r.val + 1)) := by
      have : time (.send true r 0) + 1 = 296 + 2 * (r.val + 1) := by simp only [time, base]; omega
      rw [this]
    have k0 : (iprop(emp) : sProp 𝕄) ⊢ bigSep (Finset.range 0) fun j => keepQ X W c r j := by
      rw [Finset.range_zero]; exact (Entails.of_eq BI.bigSep_empty.symm)
    have k1 : (iprop(emp) : sProp 𝕄) ⊢ bigSep (Finset.range 0) fun j => retQ X W c r j := by
      rw [Finset.range_zero]; exact (Entails.of_eq BI.bigSep_empty.symm)
    unfold LaneS LSt
    rw [Nat.zero_min, Nat.zero_min, Nat.zero_min, Nat.zero_sub]
    iintro ⟨⟨H1, H2⟩, H3, H4⟩
    isplitl [H1 H3 H4]
    · isplitl [H3]; · iexact H3
      isplitl [H4]; · iexact H4
      isplitl [H1]; · iexact H1
      isplitr; · iapply k0; iempintro
      iapply k1; iempintro
    iapply (Entails.of_eq e); iexact H2

theorem mp_endG (r : Fin 4) : mp X W c (crK true r) 1 (len true r - 2) ⊢ (atPos ER (cell (c, crK true r)) 1 ∅ 0 : sProp 𝕄) := by
  unfold mp
  rw [if_pos (by rw [cr_card])]
  iintro ⟨H, -⟩; iexact H

theorem tri_agLast (r : Fin 4) (h1 : len true r - 2 < len true r) (h2 : len true r - 1 < len true r) :
    Tri X W κ ν c iprop(LaneS X W c 16 r ∗ ow c 432) (agWaitS A0 c r (len true r - 2) h1 >>= fun _ => agWaitS A0 c r (len true r - 1) h2) iprop(LaneE X W c r ∗ ow c 432) := by
  have hl := len_ge true r
  have hl' := len_true r
  have es : len true r - 2 + 1 = len true r - 1 := by omega
  have es' : len true r - 1 + 1 = len true r := by omega
  have e1 := bigSep_Ico_succ_bot (show len true r - 2 < len true r by omega) (fun k => scr (F := F) c true r k)
  have e2 := bigSep_Ico_succ_bot (show len true r - 1 < len true r by omega) (fun k => scr (F := F) c true r k)
  rw [es] at e1
  have r1 := bigSep_range_succ (len true r - 2) (fun j => retQ X W c r j)
  have r2 := bigSep_range_succ (len true r - 1) (fun j => retQ X W c r j)
  rw [es] at r1
  rw [es'] at r2
  have hm := mp_endG (X := X) (W := W) (c := c) r
  have t1 := (tri_drain (X := X) (W := W) (κ := κ) (ν := ν) (c := c) (ph := true) (r := r) (g := len true r - 2) h1 (agS_eq r (par (len true r - 2))) rfl
    (w := .waitDma2 (sem2 cc0_scratch8 r (par (len true r - 2))) (agM A0 c r (len true r - 2) h1) (agM A0 c r (len true r - 2) h1)
    (A0.hq.wordExact_slice rfl _ (agOff_words c r (len true r - 2) h1)) (A0.hq.wordExact_slice rfl _ (agOff_words c r (len true r - 2) h1))) (fun K => rfl) (t := 432) (by omega))
  have t2 := (tri_drain (X := X) (W := W) (κ := κ) (ν := ν) (c := c) (ph := true) (r := r) (g := len true r - 1) h2 (agS_eq r (par (len true r - 1))) rfl
    (w := .waitDma2 (sem2 cc0_scratch8 r (par (len true r - 1))) (agM A0 c r (len true r - 1) h2) (agM A0 c r (len true r - 1) h2)
    (A0.hq.wordExact_slice rfl _ (agOff_words c r (len true r - 1) h2)) (A0.hq.wordExact_slice rfl _ (agOff_words c r (len true r - 1) h2))) (fun K => rfl) (t := 432) (by omega))
  rw [es] at t1
  rw [es'] at t2
  refine Tri.seqw iprop((pos2 c (sndK true r) (len true r - 1) ∗ ow c 432 ∗ retQ X W c r (len true r - 2)) ∗ scr c true r (len true r - 1) ∗ pos2 c (rcvK true r) (len true r)
    ∗ atPos ER (cell (c, crK true r)) 1 ∅ 0 ∗ (bigSep (Finset.range (len true r)) fun j => keepQ X W c r j) ∗ bigSep (Finset.range (len true r - 2)) fun j => retQ X W c r j) ((t1.framed
      iprop(scr c true r (len true r - 1) ∗ pos2 c (rcvK true r) (len true r)
      ∗ atPos ER (cell (c, crK true r)) 1 ∅ 0 ∗ (bigSep (Finset.range (len true r)) fun j => keepQ X W c r j) ∗ bigSep (Finset.range (len true r - 2)) fun j => retQ X W c r j)).conseq ?_ ?_)
    ((t2.framed iprop(retQ X W c r (len true r - 2) ∗ pos2 c (rcvK true r) (len true r)
      ∗ atPos ER (cell (c, crK true r)) 1 ∅ 0 ∗ (bigSep (Finset.range (len true r)) fun j => keepQ X W c r j) ∗ bigSep (Finset.range (len true r - 2)) fun j => retQ X W c r j)).conseq ?_ ?_)
  · unfold LaneS LSt Snd Rcv
    rw [Nat.min_eq_right (by omega : len true r ≤ 16), Nat.min_eq_right (by omega : len true r - 1 ≤ len true r), es', show len true r - 1 - 1 = len true r - 2 by omega, e1, e2]
    iintro ⟨⟨⟨-, H1⟩, -, ⟨-, -, H2, H3, H4, H5, -⟩, H6, H7⟩, HO⟩
    isplitl [H4 H2 HO]
    · isplitl [H4]; · iexact H4
      isplitl [H2] <;> iassumption
    isplitl [H5]; · iexact H5
    isplitl [H1]; · iexact H1
    isplitl [H3]; · iapply hm; iexact H3
    isplitl [H6] <;> iassumption
  · show iprop((_ ∗ _ ∗ _ ∗ retQ X W c r (len true r - 2)) ∗ _) ⊢ _
    iintro ⟨⟨H1, H2, -, H3⟩, H4⟩
    isplitl [H1 H2 H3]
    · isplitl [H1]; · iexact H1
      isplitl [H2] <;> iassumption
    iexact H4
  · iintro ⟨⟨H1, H2, H3⟩, H4, H5⟩
    isplitl [H4 H1 H2]
    · isplitl [H4]; · iexact H4
      isplitl [H1] <;> iassumption
    isplitl [H3] <;> iassumption
  · show iprop((_ ∗ _ ∗ _ ∗ retQ X W c r (len true r - 1)) ∗ _) ⊢ _
    unfold LaneE
    rw [r2, r1]
    iintro ⟨⟨H1, H2, -, H3⟩, H4, H5, H6, H7, H8⟩
    isplitl [H1 H3 H4 H5 H6 H7 H8]
    · isplitl [H5]; · iexact H5
      isplitl [H1]; · iexact H1
      isplitl [H6]; · iexact H6
      isplitl [H7]; · iexact H7
      isplitl [H3]; · iexact H3
      isplitl [H4] <;> iassumption
    iexact H2

theorem tri_agDrain :
    Tri X W κ ν c iprop(four (fun r => LaneS X W c 16 r) ∗ ow c 432) (agDrain A0 c) iprop(four (fun r => LaneE X W c r) ∗ ow c 432) := by
  have e : (agDrain A0 c : Pg F) = (agWaitS A0 c 0 14 (by decide) >>= fun _ => agWaitS A0 c 0 15 (by decide)) >>= fun _ => (agWaitS A0 c 1 14 (by decide) >>= fun _ => agWaitS A0 c 1 15 (by decide))
      >>= fun _ => (agWaitS A0 c 2 13 (by decide) >>= fun _ => agWaitS A0 c 2 14 (by decide)) >>= fun _ => (agWaitS A0 c 3 13 (by decide) >>= fun _ => agWaitS A0 c 3 14 (by decide)) := by
    simp only [bind_assoc]; rfl
  rw [e]
  have hd : ∀ r : Fin 4, Tri X W κ ν c iprop(LaneS X W c 16 r ∗ emp ∗ ow c 432)
      (agWaitS A0 c r (len true r - 2) (by have := len_ge true r; omega) >>= fun _ => agWaitS A0 c r (len true r - 1) (by have := len_ge true r; omega)) iprop(LaneE X W c r ∗ ow c 432) := by
    intro r
    refine Tri.pre (tri_agLast (X := X) (W := W) (κ := κ) (ν := ν) (c := c) r (by have := len_ge true r; omega) (by have := len_ge true r; omega)) ?_
    iintro ⟨-, H1, -, H2⟩
    imodintro
    isplitl [H1] <;> iassumption
  have h := tri_four (X := X) (W := W) (κ := κ) (ν := ν) (c := c) (A := fun r => LaneS X W c 16 r) (B := fun r => LaneE X W c r) (E := iprop(emp)) (T := fun _ => ow c 432)
    (p := fun r => agWaitS A0 c r (len true r - 2) (by have := len_ge true r; omega) >>= fun _ => agWaitS A0 c r (len true r - 1) (by have := len_ge true r; omega)) hd
  refine h.conseq ?_ (Entails.refl _)
  iintro ⟨H1, H2⟩
  isplitl [H1]; · iexact H1
  isplitr; · iempintro
  iexact H2

theorem tri_gather :
    Tri X W κ ν c iprop(four (fun r => iprop(LaneB X W c r ∗ qP c (relG c r 0) (hfL r) (shr r) (quantV X W))) ∗ Ent c ∗ ow c 295 ∗ oW X W c (ownT c) ∅) (gather A0 c (scaleV X W))
      iprop(four (fun r => LaneE X W c r) ∗ ow c 432 ∗ oR c Finset.univ (outV X W)) := by
  unfold gather
  refine Tri.conseq (P₁ := iprop((four (fun r => iprop(LaneB X W c r ∗ qP c (relG c r 0) (hfL r) (shr r) (quantV X W))) ∗ Ent c ∗ ow c (296 + 2 * 0)) ∗ Ent c ∗ oW X W c (ownT c) ∅))
    (tri_four_then (X := X) (W := W) (κ := κ) (ν := ν) (c := c) (E := Ent c) (T := fun n => ow c (296 + 2 * n)) (p := fun r => agSend A0 c r 0 (by have := len_ge true r; omega)) _ (fun r => tri_agFirst r _) ?_) ?_ (Entails.refl _)
  rotate_left
  · rw [ow_start]
    iintro ⟨H1, #HE, H2, H3⟩
    isplitl [H1 H2]
    · isplitl [H1]; · iexact H1
      isplitr; · iexact HE
      iexact H2
    isplitr; · iexact HE
    iexact H3
  refine Tri.seqw iprop(four (fun r => LaneS X W c 16 r) ∗ Ent c ∗ ow c 432 ∗ oW X W c (dn c 432) ∅) (tri_agLoop.conseq ?_ (Entails.refl _)) ?_
  · have h3 : oW X W c (ownT c) ∅ ⊢ oW X W c (dn c 304) ∅ := oW_mono dn_start (Finset.empty_subset _)
    iintro ⟨⟨H1, H2⟩, H3, H4⟩
    isplitl [H1]; · iexact H1
    isplitl [H3]; · iexact H3
    isplitl [H2]; · iexact H2
    iapply h3; iexact H4
  · refine (tri_agDrain.framed iprop(oR c Finset.univ (outV X W))).conseq ?_ ?_
    · have h := oW_end (X := X) (W := W) (c := c)
      iintro ⟨H1, -, H2, H3⟩
      isplitl [H1 H2]
      · isplitl [H1] <;> iassumption
      iapply h; iexact H3
    · iintro ⟨⟨H1, H2⟩, H3⟩
      isplitl [H1]; · iexact H1
      isplitl [H2] <;> iassumption

end Cert.KernelIdeal.Px

end
-- ==== Proof.Whole.lean ====
/-
  The body of the kernel as one triple.
-/
module

public import proofs.«01_k».proof.Proof.Gather

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### The quantised buffer whole again -/

theorem range_shift (n : ℕ) (Φ : ℕ → sProp 𝕄) : bigSep (Finset.range (n + 1)) Φ = iprop(Φ 0 ∗ bigSep (Finset.range n) fun j => Φ (j + 1)) := by
  have e : Finset.Ico 1 (n + 1) = (Finset.range n).image (· + 1) := by
    ext j; rw [Finset.mem_Ico, Finset.mem_image]
    constructor
    · intro h; exact ⟨j - 1, Finset.mem_range.mpr (by omega), by omega⟩
    · rintro ⟨a, h, rfl⟩; rw [Finset.mem_range] at h; omega
  have h := bigSep_Ico_succ_bot (show 0 < n + 1 by omega) Φ
  rw [← Finset.range_eq_Ico] at h
  rw [h, e, BI.bigSep_image_of_injOn (fun a _ b _ h => Nat.add_right_cancel h)]

theorem lane_join (r : Fin 4) :
    iprop((bigSep (Finset.range (len true r)) fun j => keepQ X W c r j) ∗ bigSep (Finset.range (len true r)) fun j => retQ X W c r j)
      ⊢ (iprop(retQ X W c r 0 ∗ bigSep (Finset.range (len true r)) fun j => qP c (relG c r (j + 1)) (hfL r) fullShare (quantV X W)) : sProp 𝕄) := by
  have hl := len_ge true r
  obtain ⟨n, hn⟩ : ∃ n, len true r = n + 1 := ⟨len true r - 1, by omega⟩
  have ek := bigSep_range_succ n (fun j => keepQ X W c r j)
  have eq := bigSep_range_succ n (fun j => (qP c (relG c r (j + 1)) (hfL r) fullShare (quantV X W) : sProp 𝕄))
  have er := range_shift n (fun j => retQ X W c r j)
  have em : bigSep (Finset.range n) (fun j => (qP c (relG c r (j + 1)) (hfL r) fullShare (quantV X W) : sProp 𝕄))
      = iprop((bigSep (Finset.range n) fun j => retQ X W c r (j + 1)) ∗ bigSep (Finset.range n) fun j => keepQ X W c r j) := by
    rw [← bigSep_sep']
    refine bigSep_congr fun j hj => ?_
    rw [Finset.mem_range] at hj
    rw [keep_mid r (by omega), share_split c _ _ r]
    rfl
  rw [hn, ek, eq, er, em, keep_last r (by omega)]
  iintro ⟨⟨H1, H2⟩, H3, H4⟩
  isplitl [H3]; · iexact H3
  isplitl [H1]; · iexact H1
  isplitl [H4] <;> iassumption

theorem relG_two : ∀ c : Dev nD, relG c 2 0 = relG c 0 0 ∧ relG c 3 0 = relG c 1 0 := by decide +kernel

section St
variable (X : Dev nD → S4096x128.Idx → Elt F .f32) (W : Dev nD → S128x2048.Idx → Elt F .f32)
/-- A lane's counts at the end. -/
def LaneP (c : Dev nD) (r : Fin 4) : sProp 𝕄 :=
  iprop(pos2 c (rcvK true r) (len true r) ∗ pos2 c (sndK true r) (len true r) ∗ atPos ER (cell (c, crK true r)) 1 ∅ 0)
end St

theorem own_shares (f : S4096x2048.Idx → Elt F .fp8e4m3) :
    (four fun r => qP c (relG c r 0) (hfL r) (shr r) f : sProp 𝕄) = iprop(qP c (relG c 0 0) 0 (shr 0) f ∗ qP c (relG c 1 0) 1 (shr 1) f ∗ qP c (relG c 0 0) 0 (shrC 0) f ∗ qP c (relG c 1 0) 1 (shrC 1) f) := by
  show iprop(qP c (relG c 0 0) 0 (shr 0) f ∗ qP c (relG c 1 0) 1 (shr 1) f ∗ qP c (relG c 2 0) 0 (shr 2) f ∗ qP c (relG c 3 0) 1 (shr 3) f) = _
  rw [(relG_two c).1, (relG_two c).2]
  rfl

theorem lanes_join : (four fun r => LaneE X W c r) ⊢ (iprop((four fun r => LaneP c r) ∗ qW c (quantV X W)) : sProp 𝕄) := by
  have j0 := lane_join (X := X) (W := W) (c := c) 0
  have j1 := lane_join (X := X) (W := W) (c := c) 1
  have j2 := lane_join (X := X) (W := W) (c := c) 2
  have j3 := lane_join (X := X) (W := W) (c := c) 3
  have eo : (iprop(retQ X W c 0 0 ∗ retQ X W c 1 0 ∗ retQ X W c 2 0 ∗ retQ X W c 3 0) : sProp 𝕄) = _ := own_shares (c := c) (quantV X W)
  unfold LaneE LaneP
  rw [split_q c (quantV X W), share_split c (relG c 0 0) 0 0, share_split c (relG c 1 0) 1 1]
  iintro ⟨⟨A0, A1, A2, A3, A4⟩, ⟨B0, B1, B2, B3, B4⟩, ⟨C0, C1, C2, C3, C4⟩, ⟨D0, D1, D2, D3, D4⟩⟩
  ihave A := j0 $$ [A3 A4]
  · isplitl [A3] <;> iassumption
  ihave B := j1 $$ [B3 B4]
  · isplitl [B3] <;> iassumption
  ihave C := j2 $$ [C3 C4]
  · isplitl [C3] <;> iassumption
  ihave D := j3 $$ [D3 D4]
  · isplitl [D3] <;> iassumption
  icases A with ⟨A3, A4⟩
  icases B with ⟨B3, B4⟩
  icases C with ⟨C3, C4⟩
  icases D with ⟨D3, D4⟩
  ihave O := (Entails.of_eq eo) $$ [A3 B3 C3 D3]
  · isplitl [A3]; · iexact A3
    isplitl [B3]; · iexact B3
    isplitl [C3] <;> iassumption
  icases O with ⟨O0, O1, O2, O3⟩
  isplitl [A0 A1 A2 B0 B1 B2 C0 C1 C2 D0 D1 D2]
  · isplitl [A0 A1 A2]
    · isplitl [A0]; · iexact A0
      isplitl [A1] <;> iassumption
    isplitl [B0 B1 B2]
    · isplitl [B0]; · iexact B0
      isplitl [B1] <;> iassumption
    isplitl [C0 C1 C2]
    · isplitl [C0]; · iexact C0
      isplitl [C1] <;> iassumption
    isplitl [D0]; · iexact D0
    isplitl [D1] <;> iassumption
  isplitl [O0 O2]
  · isplitl [O0] <;> iassumption
  isplitl [O1 O3]
  · isplitl [O1] <;> iassumption
  isplitl [A4]; · iexact A4
  isplitl [B4]; · iexact B4
  isplitl [C4] <;> iassumption

/-! ### The body -/

section St
variable (X : Dev nD → S4096x128.Idx → Elt F .f32) (W : Dev nD → S128x2048.Idx → Elt F .f32)
/-- What the protocol gives a device to start with, -/
def Start0 (c : Dev nD) : sProp 𝕄 := iprop(Bar0 c ∗ four (fun r => RsB X W c r) ∗ AmB c ∗ four (fun r => LaneB X W c r))
/-- and what it ends with. -/
def End0 (c : Dev nD) : sProp 𝕄 :=
  iprop(atPos ER (cell (c, none)) 1 ∅ 0
    ∗ (four fun r => iprop(pos2 c (rcvK false r) 31 ∗ pos2 c (sndK false r) 31 ∗ atPos ER (cell (c, crK false r)) 1 ∅ 0)) ∗ AmE c ∗ four (fun r => LaneP c r))
/-- The kernel's own buffers at the end. -/
def Bufs (c : Dev nD) : sProp 𝕄 := iprop((four fun r => iprop(cG c r 0 ∗ cG c r 1)) ∗ qW c (quantV X W) ∗ aW c (maxV X W))
end St

theorem ld_all {f : S32x128.Idx → Elt F .f32} {h : aM.view.LoadsAt (Rect.unit (s := S32x128) ![0, 0] S32x128.size Facts₀.inb_S32x128_S32x128_0_0).toLoadRect}
    {k : (S32x128.Idx → Elt F .f32) → Pg F} {R Y : sProp 𝕄}
    (hk : Tri X W κ ν c iprop(aW c f ∗ Y) (k fun j => f ((Rect.unit (s := S32x128) ![0, 0] S32x128.size Facts₀.inb_S32x128_S32x128_0_0).emb j)) R) :
    Tri X W κ ν c iprop(aW c f ∗ Y) (Prog.lift (.load aM (Rect.unit (s := S32x128) ![0, 0] S32x128.size Facts₀.inb_S32x128_S32x128_0_0).toLoadRect h) >>= k) R := by
  intro Q
  iintro ⟨#HC, ⟨Ha, HY⟩, HQ⟩
  unfold aW
  iapply (ld_a (R := Rect.unit (s := S32x128) ![0, 0] S32x128.size Facts₀.inb_S32x128_S32x128_0_0) (Finset.subset_univ _)) $$ Ha
  iintro Ha
  iapply (hk Q)
  isplitr; · iexact HC
  isplitl [Ha HY]
  · isplitl [Ha]; · unfold aW; iexact Ha
    iexact HY
  iexact HQ

theorem half_own1 : (halfR (relG c 1 0) 1).set ⊆ ownT c \ (halfR (relG c 0 0) 0).set := by
  intro i hi
  rw [Finset.mem_sdiff]
  exact ⟨Finset.mem_union_right _ hi, fun h => Finset.disjoint_left.mp (own_disj (c := c)) h hi⟩

theorem tail_at {P P' : sProp 𝕄} {s s' : F .f32} (h : s = s')
    (H : Tri X W κ ν c P (quantAt A0 (k0_off15 c) (Facts₀.k0_off15_inb c) (Facts₀.k0_off15_packedfp8e4m3 c) s' >>= fun _ =>
        quantAt A0 (k0_off16 c) (Facts₀.k0_off16_inb c) (Facts₀.k0_off16_packedfp8e4m3 c) s' >>= fun _ => gather A0 c s') P') :
    Tri X W κ ν c P (quantAt A0 (k0_off15 c) (Facts₀.k0_off15_inb c) (Facts₀.k0_off15_packedfp8e4m3 c) s >>= fun _ =>
        quantAt A0 (k0_off16 c) (Facts₀.k0_off16_inb c) (Facts₀.k0_off16_packedfp8e4m3 c) s >>= fun _ => gather A0 c s) P' := by
  subst h; exact H

theorem tri_tail {f : S4096x2048.Idx → Elt F .f32} :
    Tri X W κ ν c iprop(aW c (maxV X W) ∗ oW X W c ∅ (ownT c) ∗ qG c (relG c 0 0) 0 ∗ qG c (relG c 1 0) 1 ∗ four (fun r => LaneB X W c r) ∗ Ent c ∗ ow c 295)
      (do
        let am : Vec F S32x128 .f32 ← Prog.lift (.load A0.am (Rect.unit (s := S32x128) ![0, 0] S32x128.size Facts₀.inb_S32x128_S32x128_0_0).toLoadRect (View.loadsAt_vmem Facts₀.h_S32x128))
        quantAt A0 (k0_off15 c) (Facts₀.k0_off15_inb c) (Facts₀.k0_off15_packedfp8e4m3 c) (scaleOf am)
        quantAt A0 (k0_off16 c) (Facts₀.k0_off16_inb c) (Facts₀.k0_off16_packedfp8e4m3 c) (scaleOf am)
        gather A0 c (scaleOf am))
      iprop((four fun r => LaneP c r) ∗ qW c (quantV X W) ∗ aW c (maxV X W) ∗ oR c Finset.univ (outV X W) ∗ ow c 432) := by
  refine ld_all ?_
  have hs : scaleOf (fun j => maxV X W ((Rect.unit (s := S32x128) ![0, 0] S32x128.size Facts₀.inb_S32x128_S32x128_0_0).emb j)) = scaleV X W := by unfold scaleV; rfl
  refine tail_at hs ?_
  refine Tri.seqw iprop((oW X W c (∅ ∪ (halfR (relG c 0 0) 0).set) (ownT c \ (halfR (relG c 0 0) 0).set) ∗ qP c (relG c 0 0) 0 fullShare (quantV X W))
    ∗ aW c (maxV X W) ∗ qG c (relG c 1 0) 1 ∗ four (fun r => LaneB X W c r) ∗ Ent c ∗ ow c 295)
    (((tri_quant (X := X) (W := W) (κ := κ) (ν := ν) (c := c) (S := ∅) 0 (Finset.subset_union_left) (off15_eq c)).framed _).conseq ?_ (Entails.refl _)) ?_
  · iintro ⟨H1, H2, H3, H4⟩
    isplitl [H2 H3]
    · isplitl [H2]; · iexact H2
      iexact H3
    isplitl [H1] <;> iassumption
  refine Tri.seqw iprop((oW X W c (∅ ∪ (halfR (relG c 0 0) 0).set ∪ (halfR (relG c 1 0) 1).set) ((ownT c \ (halfR (relG c 0 0) 0).set) \ (halfR (relG c 1 0) 1).set) ∗ qP c (relG c 1 0) 1 fullShare (quantV X W))
    ∗ qP c (relG c 0 0) 0 fullShare (quantV X W) ∗ aW c (maxV X W) ∗ four (fun r => LaneB X W c r) ∗ Ent c ∗ ow c 295)
    (((tri_quant (X := X) (W := W) (κ := κ) (ν := ν) (c := c) 1 half_own1 (off16_eq c)).framed _).conseq ?_ (Entails.refl _)) ?_
  · iintro ⟨⟨H1, H2⟩, H3, H4, H5⟩
    isplitl [H1 H4]
    · isplitl [H1] <;> iassumption
    isplitl [H2]; · iexact H2
    isplitl [H3] <;> iassumption
  refine (tri_gather.framed iprop(aW c (maxV X W))).conseq ?_ ?_
  · have hm : oW X W c (∅ ∪ (halfR (relG c 0 0) 0).set ∪ (halfR (relG c 1 0) 1).set) ((ownT c \ (halfR (relG c 0 0) 0).set) \ (halfR (relG c 1 0) 1).set) ⊢ oW X W c (ownT c) ∅ :=
      oW_mono (by rw [Finset.empty_union]; exact Finset.Subset.refl _) (Finset.empty_subset _)
    have eo := own_shares (c := c) (quantV X W)
    rw [share_split c (relG c 0 0) 0 0, share_split c (relG c 1 0) 1 1]
    iintro ⟨⟨H1, H2, H3⟩, ⟨H4, H5⟩, H6, ⟨L0, L1, L2, L3⟩, H8, H9⟩
    ihave O := (Entails.of_eq eo.symm) $$ [H2 H3 H4 H5]
    · isplitl [H4]; · iexact H4
      isplitl [H2]; · iexact H2
      isplitl [H5] <;> iassumption
    icases O with ⟨O0, O1, O2, O3⟩
    isplitl [H1 L0 L1 L2 L3 O0 O1 O2 O3 H8 H9]
    · isplitl [L0 L1 L2 L3 O0 O1 O2 O3]
      · isplitl [L0 O0]
        · isplitl [L0] <;> iassumption
        isplitl [L1 O1]
        · isplitl [L1] <;> iassumption
        isplitl [L2 O2]
        · isplitl [L2] <;> iassumption
        isplitl [L3] <;> iassumption
      isplitl [H8]; · iexact H8
      isplitl [H9]; · iexact H9
      iapply hm; iexact H1
    iexact H6
  · have hj := lanes_join (X := X) (W := W) (c := c)
    iintro ⟨⟨H1, H2, H3⟩, H4⟩
    ihave H1 := hj $$ H1
    icases H1 with ⟨H1, H5⟩
    isplitl [H1]; · iexact H1
    isplitl [H5]; · iexact H5
    isplitl [H4]; · iexact H4
    isplitl [H3] <;> iassumption

/-- The body once the device's number is known. -/
def bodyAt (d : Dev nD) : Pg F := reduce A0 d >>= fun _ => (do
        let am : Vec F S32x128 .f32 ← Prog.lift (.load A0.am (Rect.unit (s := S32x128) ![0, 0] S32x128.size Facts₀.inb_S32x128_S32x128_0_0).toLoadRect (View.loadsAt_vmem Facts₀.h_S32x128))
        quantAt A0 (k0_off15 d) (Facts₀.k0_off15_inb d) (Facts₀.k0_off15_packedfp8e4m3 d) (scaleOf am)
        quantAt A0 (k0_off16 d) (Facts₀.k0_off16_inb d) (Facts₀.k0_off16_packedfp8e4m3 d) (scaleOf am)
        gather A0 d (scaleOf am))
theorem tri_key {f : S4096x2048.Idx → Elt F .f32} :
    Tri X W κ ν c iprop(Start0 X W c ∗ Opn c ∗ ow c 1 ∗ xP c (X c) ∗ wP c (W c) ∗ oR c Finset.univ f ∗ aG c c ∗ qG c (relG c 0 0) 0 ∗ qG c (relG c 1 0) 1)
      (bodyAt c) iprop(End0 c ∗ Bufs X W c ∗ xP c (X c) ∗ wP c (W c) ∗ oR c Finset.univ (outV X W) ∗ ow c 432) := by
  unfold bodyAt
  refine Tri.seqw iprop(RedE X W c ∗ qG c (relG c 0 0) 0 ∗ qG c (relG c 1 0) 1 ∗ four (fun r => LaneB X W c r)) (((tri_reduce (f := f)).framed _).conseq ?_ (Entails.refl _)) ?_
  · unfold Start0
    iintro ⟨⟨H1, H2, H3, H4⟩, H5, H6, H7, H8, H9, H10, H11, H12⟩
    isplitl [H1 H2 H3 H5 H6 H7 H8 H9 H10]
    · isplitl [H1]; · iexact H1
      isplitl [H5]; · iexact H5
      isplitl [H6]; · iexact H6
      isplitl [H7]; · iexact H7
      isplitl [H8]; · iexact H8
      isplitl [H2]; · iexact H2
      isplitl [H3]; · iexact H3
      isplitl [H9] <;> iassumption
    isplitl [H11]; · iexact H11
    isplitl [H12] <;> iassumption
  · refine ((tri_tail (f := f)).framed iprop(xP c (X c) ∗ wP c (W c) ∗ atPos ER (cell (c, none)) 1 ∅ 0 ∗ four (fun r => RsE c r) ∗ AmE c)).conseq ?_ ?_
    · unfold RedE
      iintro ⟨⟨H1, H2, H3, H4, H5, H6, H7, H8, H9⟩, H10, H11, H12⟩
      isplitl [H1 H7 H8 H9 H10 H11 H12]
      · isplitl [H7]; · iexact H7
        isplitl [H8]; · iexact H8
        isplitl [H10]; · iexact H10
        isplitl [H11]; · iexact H11
        isplitl [H12]; · iexact H12
        isplitl [H1] <;> iassumption
      isplitl [H2]; · iexact H2
      isplitl [H3]; · iexact H3
      isplitl [H4]; · iexact H4
      isplitl [H5] <;> iassumption
    · unfold RsE End0 Bufs
      iintro ⟨⟨H1, H2, H3, H4, H5⟩, H6, H7, H8, ⟨⟨A1, A2, A3, A4, A5⟩, ⟨B1, B2, B3, B4, B5⟩, ⟨C1, C2, C3, C4, C5⟩, ⟨D1, D2, D3, D4, D5⟩⟩, H9⟩
      isplitl [H8 A1 A2 A3 B1 B2 B3 C1 C2 C3 D1 D2 D3 H9 H1]
      · isplitl [H8]; · iexact H8
        isplitl [A1 A2 A3 B1 B2 B3 C1 C2 C3 D1 D2 D3]
        · isplitl [A1 A2 A3]
          · isplitl [A1]; · iexact A1
            isplitl [A2] <;> iassumption
          isplitl [B1 B2 B3]
          · isplitl [B1]; · iexact B1
            isplitl [B2] <;> iassumption
          isplitl [C1 C2 C3]
          · isplitl [C1]; · iexact C1
            isplitl [C2] <;> iassumption
          isplitl [D1]; · iexact D1
          isplitl [D2] <;> iassumption
        isplitl [H9] <;> iassumption
      isplitl [A4 A5 B4 B5 C4 C5 D4 D5 H2 H3]
      · isplitl [A4 A5 B4 B5 C4 C5 D4 D5]
        · isplitl [A4 A5]
          · isplitl [A4] <;> iassumption
          isplitl [B4 B5]
          · isplitl [B4] <;> iassumption
          isplitl [C4 C5]
          · isplitl [C4] <;> iassumption
          isplitl [D4] <;> iassumption
        isplitl [H2] <;> iassumption
      isplitl [H6]; · iexact H6
      isplitl [H7]; · iexact H7
      isplitl [H4] <;> iassumption

theorem body_at : body A0 = (Prog.lift .deviceId >>= bodyAt : Pg F) := rfl
theorem wp_dev (k : Dev nD → Pg F) (Q : PUnit → sProp 𝕄) : WP c (Prog.lift .deviceId >>= k) Q = WP c (k c) Q := by
  simp only [Prog.lift, Prog.bind_op, Prog.bind_ret, wp_deviceId]

theorem tri_body {f : S4096x2048.Idx → Elt F .f32} :
    Tri X W κ ν c iprop(Start0 X W c ∗ Opn c ∗ ow c 1 ∗ xP c (X c) ∗ wP c (W c) ∗ oR c Finset.univ f ∗ aG c c ∗ qG c (relG c 0 0) 0 ∗ qG c (relG c 1 0) 1)
      (body A0) iprop(End0 c ∗ Bufs X W c ∗ xP c (X c) ∗ wP c (W c) ∗ oR c Finset.univ (outV X W) ∗ ow c 432) := by
  intro Q
  rw [body_at, wp_dev]
  exact tri_key Q

end Cert.KernelIdeal.Px

end
-- ==== Proof.Deal.lean ====
/-
  What each device starts with, dealt from the launch.
-/
module

public import proofs.«01_k».proof.Proof.Whole

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-- Over a disjoint family of sets, all at once is each in turn. -/
theorem big_family {I J : Type} [DecidableEq I] [DecidableEq J] (t : J → Finset I) (Φ : I → sProp 𝕄) (hd : ∀ a b, a ≠ b → Disjoint (t a) (t b)) (s : Finset J) :
    bigSep (s.biUnion t) Φ = bigSep s fun j => bigSep (t j) Φ := by
  induction s using Finset.induction_on with
  | empty => rfl
  | insert a s ha ih =>
    have e : bigSep (insert a s) (fun j => bigSep (t j) Φ) = iprop(bigSep (t a) Φ ∗ bigSep s fun j => bigSep (t j) Φ) := bigSep_insert ha
    rw [Finset.biUnion_insert, e, ← ih]
    exact bigSep_union ((Finset.disjoint_biUnion_right _ _ _).mpr fun b hb => hd a b fun h => ha (h ▸ hb))

/-! ### The events by kind -/

abbrev Pr : Type := Bool × Fin 4

theorem by_ring (Ψ : Pr → sProp 𝕄) : bigSep Finset.univ Ψ = iprop((four fun r => Ψ (false, r)) ∗ four fun r => Ψ (true, r)) := by
  have h4 : ∀ Φ : Fin 4 → sProp 𝕄, bigSep Finset.univ Φ = four fun r => Φ r := fun Φ => bigSep_univ_eq_bigSepL [0, 1, 2, 3] (by decide) (by decide) Φ
  have h2 : ∀ Φ : Bool → sProp 𝕄, bigSep Finset.univ Φ = iprop(Φ false ∗ Φ true) := fun Φ => bigSep_univ_eq_bigSepL [false, true] (by decide) (by decide) Φ
  rw [bigSep_univ_prod, h2, h4, h4]

def crE (x : Pr) : Finset Ev := (Finset.Ico 0 (len x.1 x.2 - 2)).image (Ev.credit x.1 x.2)
def sdE (x : Pr) : Finset Ev := (Finset.Ico 0 (len x.1 x.2)).image (Ev.send x.1 x.2)
def brE : Finset Ev := {.bar false, .bar true}
def amE : Finset Ev := (Finset.Ico 0 31).image Ev.amax

theorem mem_crE {x : Pr} {e : Ev} : e ∈ crE x ↔ ∃ k, k + 2 < len x.1 x.2 ∧ e = .credit x.1 x.2 k := by
  unfold crE; rw [Finset.mem_image]
  constructor
  · rintro ⟨k, hk, rfl⟩; rw [Finset.mem_Ico] at hk; exact ⟨k, by omega, rfl⟩
  · rintro ⟨k, hk, rfl⟩; exact ⟨k, Finset.mem_Ico.mpr (by omega), rfl⟩
theorem mem_sdE {x : Pr} {e : Ev} : e ∈ sdE x ↔ ∃ k, k < len x.1 x.2 ∧ e = .send x.1 x.2 k := by
  unfold sdE; rw [Finset.mem_image]
  constructor
  · rintro ⟨k, hk, rfl⟩; rw [Finset.mem_Ico] at hk; exact ⟨k, by omega, rfl⟩
  · rintro ⟨k, hk, rfl⟩; exact ⟨k, Finset.mem_Ico.mpr (by omega), rfl⟩
theorem mem_amE {e : Ev} : e ∈ amE ↔ ∃ k, k < 31 ∧ e = .amax k := by
  unfold amE; rw [Finset.mem_image]
  constructor
  · rintro ⟨k, hk, rfl⟩; rw [Finset.mem_Ico] at hk; exact ⟨k, by omega, rfl⟩
  · rintro ⟨k, hk, rfl⟩; exact ⟨k, Finset.mem_Ico.mpr (by omega), rfl⟩
theorem mem_brE {e : Ev} : e ∈ brE ↔ ∃ b, e = .bar b := by
  unfold brE; rw [Finset.mem_insert, Finset.mem_singleton]
  constructor
  · rintro (rfl | rfl) <;> exact ⟨_, rfl⟩
  · rintro ⟨_ | _, rfl⟩ <;> simp

theorem evs_cut : evs = brE ∪ ((Finset.univ : Finset Pr).biUnion crE ∪ ((Finset.univ : Finset Pr).biUnion sdE ∪ amE)) := by
  ext e
  simp only [mem_evs, Finset.mem_union, Finset.mem_biUnion, Finset.mem_univ, true_and, mem_crE, mem_sdE, mem_amE, mem_brE]
  cases e with
  | bar n => exact ⟨fun _ => .inl ⟨n, rfl⟩, fun _ => trivial⟩
  | credit ph r k =>
    constructor
    · intro h; exact .inr (.inl ⟨(ph, r), k, h, rfl⟩)
    · rintro (⟨b, h⟩ | ⟨x, j, h, he⟩ | ⟨x, j, h, he⟩ | ⟨j, h, he⟩)
      · cases h
      · cases he; exact h
      · cases he
      · cases he
  | send ph r k =>
    constructor
    · intro h; exact .inr (.inr (.inl ⟨(ph, r), k, h, rfl⟩))
    · rintro (⟨b, h⟩ | ⟨x, j, h, he⟩ | ⟨x, j, h, he⟩ | ⟨j, h, he⟩)
      · cases h
      · cases he
      · cases he; exact h
      · cases he
  | amax k =>
    constructor
    · intro h; exact .inr (.inr (.inr ⟨k, h, rfl⟩))
    · rintro (⟨b, h⟩ | ⟨x, j, h, he⟩ | ⟨x, j, h, he⟩ | ⟨j, h, he⟩)
      · cases h
      · cases he
      · cases he
      · cases he; exact h

theorem evs_split (Φ : Ev → sProp 𝕄) :
    bigSep evs Φ = iprop((Φ (.bar false) ∗ Φ (.bar true))
      ∗ (bigSep Finset.univ fun x : Pr => bigSep (Finset.Ico 0 (len x.1 x.2 - 2)) fun k => Φ (.credit x.1 x.2 k))
      ∗ (bigSep Finset.univ fun x : Pr => bigSep (Finset.Ico 0 (len x.1 x.2)) fun k => Φ (.send x.1 x.2 k))
      ∗ bigSep (Finset.Ico 0 31) fun i => Φ (.amax i)) := by
  have d1 : Disjoint brE ((Finset.univ : Finset Pr).biUnion crE ∪ ((Finset.univ : Finset Pr).biUnion sdE ∪ amE)) := by
    rw [Finset.disjoint_left]; intro e he
    simp only [Finset.mem_union, Finset.mem_biUnion, Finset.mem_univ, true_and, mem_crE, mem_sdE, mem_amE, mem_brE] at he ⊢
    obtain ⟨b, rfl⟩ := he
    rintro (⟨x, j, h, he⟩ | ⟨x, j, h, he⟩ | ⟨j, h, he⟩) <;> cases he
  have d2 : Disjoint ((Finset.univ : Finset Pr).biUnion crE) ((Finset.univ : Finset Pr).biUnion sdE ∪ amE) := by
    rw [Finset.disjoint_left]; intro e he
    simp only [Finset.mem_union, Finset.mem_biUnion, Finset.mem_univ, true_and, mem_crE, mem_sdE, mem_amE] at he ⊢
    obtain ⟨x, k, h, rfl⟩ := he
    rintro (⟨x, j, h, he⟩ | ⟨j, h, he⟩) <;> cases he
  have d3 : Disjoint ((Finset.univ : Finset Pr).biUnion sdE) amE := by
    rw [Finset.disjoint_left]; intro e he
    simp only [Finset.mem_biUnion, Finset.mem_univ, true_and, mem_sdE, mem_amE] at he ⊢
    obtain ⟨x, k, h, rfl⟩ := he
    rintro ⟨j, h, he⟩; cases he
  have p1 : ∀ x y, x ≠ y → Disjoint (crE x) (crE y) := by
    intro x y hn
    refine Finset.disjoint_left.mpr fun e he hf => ?_
    obtain ⟨k, -, rfl⟩ := mem_crE.mp he
    obtain ⟨j, -, h⟩ := mem_crE.mp hf
    rw [Ev.credit.injEq] at h
    exact hn (Prod.ext h.1 h.2.1)
  have p2 : ∀ x y, x ≠ y → Disjoint (sdE x) (sdE y) := by
    intro x y hn
    refine Finset.disjoint_left.mpr fun e he hf => ?_
    obtain ⟨k, -, rfl⟩ := mem_sdE.mp he
    obtain ⟨j, -, h⟩ := mem_sdE.mp hf
    rw [Ev.send.injEq] at h
    exact hn (Prod.ext h.1 h.2.1)
  have e0 : bigSep brE Φ = iprop(Φ (.bar false) ∗ Φ (.bar true)) := by
    have : bigSep (insert (Ev.bar false) {Ev.bar true}) Φ = iprop(Φ (.bar false) ∗ bigSep {Ev.bar true} Φ) := bigSep_insert (by decide)
    unfold brE; rw [this, bigSep_singleton]
  have e1 : ∀ x : Pr, bigSep (crE x) Φ = bigSep (Finset.Ico 0 (len x.1 x.2 - 2)) fun k => Φ (.credit x.1 x.2 k) := fun x => by
    unfold crE; rw [BI.bigSep_image_of_injOn (fun a _ b _ h => by rw [Ev.credit.injEq] at h; exact h.2.2)]
  have e2 : ∀ x : Pr, bigSep (sdE x) Φ = bigSep (Finset.Ico 0 (len x.1 x.2)) fun k => Φ (.send x.1 x.2 k) := fun x => by
    unfold sdE; rw [BI.bigSep_image_of_injOn (fun a _ b _ h => by rw [Ev.send.injEq] at h; exact h.2.2)]
  have e3 : bigSep amE Φ = bigSep (Finset.Ico 0 31) fun i => Φ (.amax i) := by
    unfold amE; rw [BI.bigSep_image_of_injOn (fun a _ b _ h => by rw [Ev.amax.injEq] at h; exact h)]
  rw [evs_cut, bigSep_union d1, bigSep_union d2, bigSep_union d3, big_family _ _ p1, big_family _ _ p2, e0, e3,
    bigSep_congr fun x _ => e1 x, bigSep_congr fun x _ => e2 x]
  rfl

theorem emp_all {I : Type} (s : Finset I) (Φ : I → sProp 𝕄) (h : ∀ i, Φ i = iprop(emp)) : bigSep s Φ = iprop(emp) := by
  rw [bigSep_congr fun i _ => h i]; exact bigSep_emp_const s
theorem sep_emps (A : sProp 𝕄) : iprop(emp ∗ A) = A := by
  have h : (iprop(emp ∗ A) : sProp 𝕄) ⊢ A := by iintro ⟨-, H⟩; iexact H
  have h' : A ⊢ (iprop(emp ∗ A) : sProp 𝕄) := by iintro H; isplitr; iempintro; iexact H
  exact BI.Entails.antisymm h h'
theorem sep_emps_r (A : sProp 𝕄) : iprop(A ∗ emp) = A := by
  have h : (iprop(A ∗ emp) : sProp 𝕄) ⊢ A := by iintro ⟨H, -⟩; iexact H
  have h' : A ⊢ (iprop(A ∗ emp) : sProp 𝕄) := by iintro H; isplitl; iexact H; iempintro
  exact BI.Entails.antisymm h h'

/-- Those that are copies, -/
theorem dma_split (Φ : Ev → sProp 𝕄) :
    bigSep (evs.filter fun e => isDma e = true) Φ = iprop((bigSep Finset.univ fun x : Pr => bigSep (Finset.Ico 0 (len x.1 x.2)) fun k => Φ (.send x.1 x.2 k))
      ∗ bigSep (Finset.Ico 0 31) fun i => Φ (.amax i)) := by
  rw [bigSep_filter, evs_split]
  simp only [isDma, if_true, Bool.false_eq_true, if_false]
  show (iprop((emp ∗ emp) ∗ (bigSep Finset.univ fun x : Pr => bigSep (Finset.Ico 0 (len x.1 x.2 - 2)) fun k => (iprop(emp) : sProp 𝕄)) ∗ _) : sProp 𝕄) = _
  have h : (bigSep Finset.univ fun x : Pr => bigSep (Finset.Ico 0 (len x.1 x.2 - 2)) fun k => (iprop(emp) : sProp 𝕄)) = iprop(emp) :=
    emp_all _ _ fun x => emp_all _ _ fun _ => rfl
  rw [h, sep_emps, sep_emps, sep_emps]

/-- and those whose landing is released at the start. -/
theorem first_split (Φ : Ev → sProp 𝕄) :
    bigSep (evs.filter fun e => first e = true) Φ = iprop((four fun r => iprop(Φ (.send false r 0) ∗ Φ (.send false r 1)))
      ∗ (four fun r => bigSep (Finset.Ico 0 (len true r)) fun k => Φ (.send true r k)) ∗ bigSep (Finset.Ico 0 31) fun i => Φ (.amax i)) := by
  rw [bigSep_filter, evs_split, by_ring fun x : Pr => bigSep (Finset.Ico 0 (len x.1 x.2)) _]
  have h : (bigSep Finset.univ fun x : Pr => bigSep (Finset.Ico 0 (len x.1 x.2 - 2)) fun k => (iprop(emp) : sProp 𝕄)) = iprop(emp) :=
    emp_all _ _ fun x => emp_all _ _ fun _ => rfl
  have h2 : ∀ r, (bigSep (Finset.Ico 0 (len false r)) fun k => (if k < 2 then Φ (.send false r k) else iprop(emp) : sProp 𝕄)) = iprop(Φ (.send false r 0) ∗ Φ (.send false r 1)) := fun r => by
    rw [len_false, bigSep_Ico_succ_bot (by omega), bigSep_Ico_succ_bot (by omega)]
    have : (bigSep (Finset.Ico (0 + 1 + 1) 31) fun k => (if k < 2 then Φ (.send false r k) else iprop(emp) : sProp 𝕄)) = iprop(emp) := by
      rw [bigSep_congr fun k hk => if_neg (show ¬ k < 2 from by rw [Finset.mem_Ico] at hk; omega)]; exact bigSep_emp_const _
    rw [this, if_pos (show 0 < 2 by omega), if_pos (show 0 + 1 < 2 by omega), sep_emps_r]
  simp only [first, if_true, Bool.false_eq_true, if_false, decide_eq_true_eq]
  show (iprop((emp ∗ emp) ∗ (bigSep Finset.univ fun x : Pr => bigSep (Finset.Ico 0 (len x.1 x.2 - 2)) fun k => (iprop(emp) : sProp 𝕄))
    ∗ ((four fun r => bigSep (Finset.Ico 0 (len false r)) fun k => (if k < 2 then Φ (.send false r k) else iprop(emp) : sProp 𝕄)) ∗ _) ∗ _) : sProp 𝕄) = _
  rw [h, sep_emps, sep_emps, sep_emps]
  simp only [h2]
  exact BI.Entails.antisymm BI.sep_assoc BI.sep_assoc'

/-! ### The cells of a device by kind -/

theorem ow_split (Φ : Option Ow → sProp 𝕄) :
    bigSep Finset.univ Φ = iprop(Φ none ∗ (bigSep Finset.univ fun x : Pr => iprop(Φ (sndK x.1 x.2 0) ∗ Φ (sndK x.1 x.2 1)))
      ∗ (bigSep Finset.univ fun x : Pr => iprop(Φ (rcvK x.1 x.2 0) ∗ Φ (rcvK x.1 x.2 1))) ∗ (bigSep Finset.univ fun x : Pr => Φ (crK x.1 x.2))
      ∗ Φ (some .ams) ∗ Φ (some .amr)) := by
  have hc : (Finset.univ : Finset (Option Ow)) = insert none ((Finset.univ : Finset Pr).biUnion (fun x => {sndK x.1 x.2 0, sndK x.1 x.2 1})
      ∪ ((Finset.univ : Finset Pr).biUnion (fun x => {rcvK x.1 x.2 0, rcvK x.1 x.2 1}) ∪ ((Finset.univ : Finset Pr).biUnion (fun x => {crK x.1 x.2}) ∪ {some .ams, some .amr}))) := by
    decide +kernel
  rw [hc]
  have s0 : ∀ (a : Option Ow) (S : Finset (Option Ow)), a ∉ S → bigSep (insert a S) Φ = iprop(Φ a ∗ bigSep S Φ) := fun a S h => bigSep_insert h
  rw [s0 _ _ (by decide +kernel), bigSep_union (by decide +kernel), bigSep_union (by decide +kernel), bigSep_union (by decide +kernel),
    big_family _ _ (by decide +kernel : ∀ x y : Pr, x ≠ y → Disjoint ({sndK x.1 x.2 0, sndK x.1 x.2 1} : Finset (Option Ow)) {sndK y.1 y.2 0, sndK y.1 y.2 1}),
    big_family _ _ (by decide +kernel : ∀ x y : Pr, x ≠ y → Disjoint ({rcvK x.1 x.2 0, rcvK x.1 x.2 1} : Finset (Option Ow)) {rcvK y.1 y.2 0, rcvK y.1 y.2 1}),
    big_family _ _ (by decide +kernel : ∀ x y : Pr, x ≠ y → Disjoint ({crK x.1 x.2} : Finset (Option Ow)) {crK y.1 y.2}),
    s0 _ _ (by decide +kernel : (some Ow.ams : Option Ow) ∉ ({some .amr} : Finset (Option Ow))), bigSep_singleton,
    bigSep_congr fun x _ => (s0 (sndK x.1 x.2 0) {sndK x.1 x.2 1} ((by decide +kernel : ∀ x : Pr, sndK x.1 x.2 0 ∉ ({sndK x.1 x.2 1} : Finset (Option Ow))) x)),
    bigSep_congr fun x _ => (s0 (rcvK x.1 x.2 0) {rcvK x.1 x.2 1} ((by decide +kernel : ∀ x : Pr, rcvK x.1 x.2 0 ∉ ({rcvK x.1 x.2 1} : Finset (Option Ow))) x))]
  simp only [bigSep_singleton]
  rfl

/-! ### The start, dealt -/

/-- What the launch deals device `c`. -/
def Lin (c : Dev nD) : sProp 𝕄 :=
  iprop((bigSep Finset.univ fun o : Option Ow => atPos ER (cell (c, o)) 0 ∅ 0)
    ∗ (bigSep evs fun e => dutyTok ER (cell (tgt c e, kind e)) (rnd e) e)
    ∗ (bigSep (evs.filter fun e => isDma e = true) fun e => dutyTok ER (cell (c, skind e)) (rnd e) e)
    ∗ (bigSep (evs.filter fun e => isDma e = true) fun e => readerAt ES ((c, e) : Ky) 0)
    ∗ bigSep (evs.filter fun e => isDma e = true) fun e => writeTok ES ((tgt c e, e) : Ky) 1)
/-- The credits of what is paid to it. -/
def Crs (c : Dev nD) : sProp 𝕄 := bigSep evs fun e => cred (tallyAt (cell (c, kind e)) (some e) (amt e))

theorem crs_intro (c : Dev nD) : (launchCred (fun d => owed d 1) c : sProp 𝕄) ⊢ Crs c := by
  have h : (fun d : Dev nD => owed d 1) = fun d => ∑ e ∈ evs, owe d e := funext fun d => by
    unfold owed
    rw [Finset.filter_true_of_mem fun e _ => Nat.succ_le_of_lt (time_pos e)]
  rw [h, launchCred_sum]
  unfold Crs
  refine bigSep_mono fun e _ => ?_
  exact launchCred_tallyAt (semOf (kind e)) (fun d => tgt d e) (fun d => payer d e) (fun d => tgt_payer d e) (fun d => payer_tgt d e) (some e) (amt e) c

end Cert.KernelIdeal.Px

end
-- ==== Proof.Open.lean ====
/-
  A device's start and end, from what it is dealt to what it hands back.
-/
module

public import proofs.«01_k».proof.Proof.Deal

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

/-! ### One ring's share of what is dealt -/

section St
variable (X : Dev nD → S4096x128.Idx → Elt F .f32) (W : Dev nD → S128x2048.Idx → Elt F .f32)
def RingP (c : Dev nD) (x : Pr) : sProp 𝕄 := iprop(Rcv c x.1 x.2 0 ∗ Cro c x.1 x.2 0 ∗ Ini X W c x.1 x.2)
/-- The counts of the landings it releases on entering. -/
def Rds (c : Dev nD) (x : Pr) : sProp 𝕄 :=
  if x.1 = true then bigSep (Finset.Ico 0 (len x.1 x.2)) fun k => readerAt ES ((c, .send x.1 x.2 k) : Ky) 0
  else iprop(readerAt ES ((c, .send x.1 x.2 0) : Ky) 0 ∗ readerAt ES ((c, .send x.1 x.2 1) : Ky) 0)
end St

/-- One at a time, -/
abbrev q1 (c : Dev nD) (x : Pr) : sProp 𝕄 := iprop(atPos ER (cell (c, sndK x.1 x.2 0)) 0 ∅ 0 ∗ atPos ER (cell (c, sndK x.1 x.2 1)) 0 ∅ 0)
abbrev q2 (c : Dev nD) (x : Pr) : sProp 𝕄 := iprop(atPos ER (cell (c, rcvK x.1 x.2 0)) 0 ∅ 0 ∗ atPos ER (cell (c, rcvK x.1 x.2 1)) 0 ∅ 0)
abbrev q3 (c : Dev nD) (x : Pr) : sProp 𝕄 := atPos ER (cell (c, crK x.1 x.2)) 0 ∅ 0
abbrev q4 (c : Dev nD) (x : Pr) : sProp 𝕄 := bigSep (Finset.Ico 0 (len x.1 x.2 - 2)) fun k => dutyTok ER (cell (src x.2 c, crK x.1 x.2)) 0 (.credit x.1 x.2 k)
abbrev q5 (c : Dev nD) (x : Pr) : sProp 𝕄 := bigSep (Finset.Ico 0 (len x.1 x.2)) fun k => dutyTok ER (cell (dst x.2 c, rcvK x.1 x.2 (par k))) (k / 2) (.send x.1 x.2 k)
abbrev q6 (c : Dev nD) (x : Pr) : sProp 𝕄 := bigSep (Finset.Ico 0 (len x.1 x.2)) fun k => dutyTok ER (cell (c, sndK x.1 x.2 (par k))) (k / 2) (.send x.1 x.2 k)
abbrev q7 (c : Dev nD) (x : Pr) : sProp 𝕄 := bigSep (Finset.Ico 0 (len x.1 x.2)) fun k => readerAt ES ((c, .send x.1 x.2 k) : Ky) 0
abbrev q8 (c : Dev nD) (x : Pr) : sProp 𝕄 := bigSep (Finset.Ico 0 (len x.1 x.2)) fun k => writeTok ES ((dst x.2 c, .send x.1 x.2 k) : Ky) 1
abbrev q9 (c : Dev nD) (x : Pr) : sProp 𝕄 := bigSep (Finset.Ico 0 (len x.1 x.2 - 2)) fun k => ccr c x.1 x.2 k
abbrev q10 (c : Dev nD) (x : Pr) : sProp 𝕄 := bigSep (Finset.Ico 0 (len x.1 x.2)) fun j => cred (tallyAt (cell (c, rcvK x.1 x.2 (par j))) (some (.send x.1 x.2 j)) (crd x.1))

theorem cr_count (ph : Bool) (r : Fin 4) : (dutiesK (crK ph r) 0).card ≠ 0 := by
  have h : Ev.credit ph r 0 ∈ dutiesK (crK ph r) 0 := mem_duties (e := .credit ph r 0) (show 0 + 2 < len ph r from by have := len_ge ph r; omega)
  exact fun h0 => absurd (Finset.card_eq_zero.mp h0 ▸ h) (Finset.notMem_empty _)

theorem tok_zip (c : Dev nD) (ph : Bool) (r : Fin 4) : (bigSep (Finset.Ico 0 (len ph r)) fun j => tokAt c ph r j : sProp 𝕄) = iprop(q6 c (ph, r) ∗ q5 c (ph, r) ∗ q8 c (ph, r)) := by
  unfold tokAt
  rw [bigSep_sep', bigSep_sep']

/-- the counts of a ring's landings part into those released on entering and those released with a credit. -/
theorem rd_cut (c : Dev nD) (ph : Bool) (r : Fin 4) : (iprop(q4 c (ph, r) ∗ q7 c (ph, r)) : sProp 𝕄) ⊢ iprop(Rds c (ph, r) ∗ bigSep (Finset.Ico 0 (len ph r - 2)) fun e => croAt c ph r e) := by
  unfold croAt Rds
  cases ph with
  | true =>
    simp only [if_true]
    have e : (bigSep (Finset.Ico 0 (len true r - 2)) fun e => (iprop(dutyTok ER (cell (src r c, crK true r)) 0 (.credit true r e) ∗ emp) : sProp 𝕄))
        = bigSep (Finset.Ico 0 (len true r - 2)) fun e => dutyTok ER (cell (src r c, crK true r)) 0 (.credit true r e) := bigSep_congr fun e _ => sep_emps_r _
    iintro ⟨H1, H2⟩
    isplitl [H2]; iexact H2
    iapply (Entails.of_eq e.symm)
    iexact H1
  | false =>
    simp only [Bool.false_eq_true, if_false]
    have e : (bigSep (Finset.Ico 0 (len false r - 2)) fun e => (iprop(dutyTok ER (cell (src r c, crK false r)) 0 (.credit false r e) ∗ readerAt ES ((c, .send false r (e + 2)) : Ky) 0) : sProp 𝕄))
        = iprop((bigSep (Finset.Ico 0 (len false r - 2)) fun e => dutyTok ER (cell (src r c, crK false r)) 0 (.credit false r e))
          ∗ bigSep (Finset.Ico 0 (len false r - 2)) fun e => readerAt ES ((c, .send false r (e + 2)) : Ky) 0) := bigSep_sep' _ _ _
    have e2 : (bigSep (Finset.Ico 0 (len false r)) fun k => (readerAt ES ((c, .send false r k) : Ky) 0 : sProp 𝕄))
        = iprop(readerAt ES ((c, .send false r 0) : Ky) 0 ∗ readerAt ES ((c, .send false r 1) : Ky) 0 ∗ bigSep (Finset.Ico 0 (len false r - 2)) fun e => readerAt ES ((c, .send false r (e + 2)) : Ky) 0) := by
      rw [len_false, ← Finset.range_eq_Ico, ← Finset.range_eq_Ico]
      exact (range_shift 30 _).trans (congrArg _ (range_shift 29 _))
    iintro ⟨H1, H2⟩
    ihave H2 := (Entails.of_eq e2) $$ H2
    icases H2 with ⟨H2, H3, H4⟩
    isplitl [H2 H3]
    · isplitl [H2] <;> iassumption
    iapply (Entails.of_eq e.symm)
    isplitl [H1] <;> iassumption

theorem ring_in (c : Dev nD) (x : Pr) :
    (iprop(q1 c x ∗ q2 c x ∗ q3 c x ∗ q4 c x ∗ q5 c x ∗ q6 c x ∗ q7 c x ∗ q8 c x ∗ q9 c x ∗ q10 c x) : sProp 𝕄) ⊢ iprop(RingP X W c x ∗ Rds c x) := by
  obtain ⟨ph, r⟩ := x
  unfold RingP Rcv Cro Ini
  iintro ⟨H1, H2, H3, H4, H5, H6, H7, H8, H9, H10⟩
  ihave H := (rd_cut c ph r) $$ [H4 H7]
  · isplitl [H4] <;> iassumption
  icases H with ⟨HR, HC⟩
  isplitr [HR]
  · isplitl [H10 H2]
    · isplitl [H10]; iexact H10
      unfold pos2; iexact H2
    isplitl [HC]
    · isplitl [HC]; iexact HC
      rw [Finset.range_zero, bigSep_empty]; iempintro
    isplitl [H5 H6 H8]
    · iapply (Entails.of_eq (tok_zip c ph r).symm)
      isplitl [H6]; iexact H6
      isplitl [H5] <;> iassumption
    isplitl [H9]; iexact H9
    isplitl [H1]
    · unfold pos2; iexact H1
    iapply (mp_zero (cr_count ph r)); iexact H3
  iexact HR

theorem zip10 {I : Type} (f1 f2 f3 f4 f5 f6 f7 f8 f9 f10 : I → sProp 𝕄) (s : Finset I) :
    (bigSep s fun x => (iprop(f1 x ∗ f2 x ∗ f3 x ∗ f4 x ∗ f5 x ∗ f6 x ∗ f7 x ∗ f8 x ∗ f9 x ∗ f10 x) : sProp 𝕄))
      = iprop(bigSep s f1 ∗ bigSep s f2 ∗ bigSep s f3 ∗ bigSep s f4 ∗ bigSep s f5 ∗ bigSep s f6 ∗ bigSep s f7 ∗ bigSep s f8 ∗ bigSep s f9 ∗ bigSep s f10) := by
  rw [bigSep_sep', bigSep_sep', bigSep_sep', bigSep_sep', bigSep_sep', bigSep_sep', bigSep_sep', bigSep_sep', bigSep_sep']

theorem rings_in (c : Dev nD) :
    (iprop(bigSep Finset.univ (q1 c) ∗ bigSep Finset.univ (q2 c) ∗ bigSep Finset.univ (q3 c) ∗ bigSep Finset.univ (q4 c) ∗ bigSep Finset.univ (q5 c)
      ∗ bigSep Finset.univ (q6 c) ∗ bigSep Finset.univ (q7 c) ∗ bigSep Finset.univ (q8 c) ∗ bigSep Finset.univ (q9 c) ∗ bigSep Finset.univ (q10 c)) : sProp 𝕄)
    ⊢ iprop(((four fun r => RsB X W c r) ∗ four fun r => LaneB X W c r) ∗ (four fun r => iprop(readerAt ES ((c, .send false r 0) : Ky) 0 ∗ readerAt ES ((c, .send false r 1) : Ky) 0))
      ∗ four fun r => bigSep (Finset.Ico 0 (len true r)) fun k => readerAt ES ((c, .send true r k) : Ky) 0) := by
  have e : (bigSep Finset.univ fun x : Pr => (iprop(q1 c x ∗ q2 c x ∗ q3 c x ∗ q4 c x ∗ q5 c x ∗ q6 c x ∗ q7 c x ∗ q8 c x ∗ q9 c x ∗ q10 c x) : sProp 𝕄)) = _ := zip10 (q1 c) (q2 c) (q3 c) (q4 c) (q5 c) (q6 c) (q7 c) (q8 c) (q9 c) (q10 c) _
  refine (Entails.of_eq e.symm).trans ((bigSep_mono fun x _ => ring_in (X := X) (W := W) c x).trans ?_)
  have e2 : (bigSep Finset.univ fun x : Pr => (iprop(RingP X W c x ∗ Rds c x) : sProp 𝕄))
      = iprop(((four fun r => RsB X W c r) ∗ four fun r => LaneB X W c r) ∗ (four fun r => iprop(readerAt ES ((c, .send false r 0) : Ky) 0 ∗ readerAt ES ((c, .send false r 1) : Ky) 0))
      ∗ four fun r => bigSep (Finset.Ico 0 (len true r)) fun k => readerAt ES ((c, .send true r k) : Ky) 0) := by
    rw [bigSep_sep', by_ring, by_ring]
    simp only [Rds, if_true, Bool.false_eq_true, if_false]
    rfl
  exact Entails.of_eq e2

/-! ### All of it -/

abbrev dmaE : Finset Ev := evs.filter fun e => isDma e = true

theorem start_of (c : Dev nD) : (iprop(Lin c ∗ Crs c) : sProp 𝕄) ⊢ iprop(Start0 X W c ∗ bigSep (evs.filter fun e => first e = true) fun e => readerAt ES ((c, e) : Ky) 0) := by
  have eA : (bigSep Finset.univ fun o : Option Ow => (atPos ER (cell (c, o)) 0 ∅ 0 : sProp 𝕄))
      = iprop(atPos ER (cell (c, none)) 0 ∅ 0 ∗ bigSep Finset.univ (q1 c) ∗ bigSep Finset.univ (q2 c) ∗ bigSep Finset.univ (q3 c) ∗ atPos ER (cell (c, some .ams)) 0 ∅ 0 ∗ atPos ER (cell (c, some .amr)) 0 ∅ 0) := ow_split _
  have eB : (bigSep evs fun e => (dutyTok ER (cell (tgt c e, kind e)) (rnd e) e : sProp 𝕄))
      = iprop((dutyTok ER (cell (prv c, none)) 0 (.bar false) ∗ dutyTok ER (cell (nxt c, none)) 0 (.bar true)) ∗ bigSep Finset.univ (q4 c) ∗ bigSep Finset.univ (q5 c)
        ∗ bigSep (Finset.Ico 0 31) fun i => dutyTok ER (cell (peerOf i c, some .amr)) 0 (.amax i)) := evs_split _
  have eC : (bigSep dmaE fun e => (dutyTok ER (cell (c, skind e)) (rnd e) e : sProp 𝕄))
      = iprop(bigSep Finset.univ (q6 c) ∗ bigSep (Finset.Ico 0 31) fun i => dutyTok ER (cell (c, some .ams)) 0 (.amax i)) := dma_split _
  have eD : (bigSep dmaE fun e => (readerAt ES ((c, e) : Ky) 0 : sProp 𝕄))
      = iprop(bigSep Finset.univ (q7 c) ∗ bigSep (Finset.Ico 0 31) fun i => readerAt ES ((c, .amax i) : Ky) 0) := dma_split _
  have eE : (bigSep dmaE fun e => (writeTok ES ((tgt c e, e) : Ky) 1 : sProp 𝕄))
      = iprop(bigSep Finset.univ (q8 c) ∗ bigSep (Finset.Ico 0 31) fun i => writeTok ES ((peerOf i c, .amax i) : Ky) 1) := dma_split _
  have eF : (Crs c : sProp 𝕄) = iprop((cred (tallyAt (cell (c, none)) (some (.bar false)) 1) ∗ cred (tallyAt (cell (c, none)) (some (.bar true)) 1))
      ∗ bigSep Finset.univ (q9 c) ∗ bigSep Finset.univ (q10 c) ∗ bigSep (Finset.Ico 0 31) fun i => cred (tallyAt (cell (c, some .amr)) (some (.amax i)) (amt (.amax 0)))) := evs_split _
  have eG : (bigSep (Finset.Ico 0 31) fun i => amTok c i : sProp 𝕄) = iprop((bigSep (Finset.Ico 0 31) fun i => dutyTok ER (cell (c, some .ams)) 0 (.amax i))
      ∗ (bigSep (Finset.Ico 0 31) fun i => dutyTok ER (cell (peerOf i c, some .amr)) 0 (.amax i)) ∗ bigSep (Finset.Ico 0 31) fun i => writeTok ES ((peerOf i c, .amax i) : Ky) 1) := by
    unfold amTok
    rw [bigSep_sep', bigSep_sep']
  have eH : (bigSep (evs.filter fun e => first e = true) fun e => (readerAt ES ((c, e) : Ky) 0 : sProp 𝕄)) = _ := first_split _
  unfold Lin Start0 Bar0 AmB
  iintro ⟨⟨A, B, C, D, E⟩, G⟩
  ihave A := (Entails.of_eq eA) $$ A
  ihave B := (Entails.of_eq eB) $$ B
  ihave C := (Entails.of_eq eC) $$ C
  ihave D := (Entails.of_eq eD) $$ D
  ihave E := (Entails.of_eq eE) $$ E
  ihave G := (Entails.of_eq eF) $$ G
  icases A with ⟨A0, A1, A2, A3, A4, A5⟩
  icases B with ⟨B0, B1, B2, B3⟩
  icases C with ⟨C1, C2⟩
  icases D with ⟨D1, D2⟩
  icases E with ⟨E1, E2⟩
  icases G with ⟨G0, G1, G2, G3⟩
  ihave H := (rings_in (X := X) (W := W) c) $$ [A1 A2 A3 B1 B2 C1 D1 E1 G1 G2]
  · isplitl [A1]; iexact A1
    isplitl [A2]; iexact A2
    isplitl [A3]; iexact A3
    isplitl [B1]; iexact B1
    isplitl [B2]; iexact B2
    isplitl [C1]; iexact C1
    isplitl [D1]; iexact D1
    isplitl [E1]; iexact E1
    isplitl [G1] <;> iassumption
  icases H with ⟨⟨H1, H2⟩, H3, H4⟩
  isplitr [H3 H4 D2]
  · isplitl [A0 B0 G0]
    · isplitl [A0]; iexact A0
      isplitl [G0]; iexact G0
      iexact B0
    isplitl [H1]; iexact H1
    isplitr [H2]
    · isplitl [B3 C2 E2]
      · iapply (Entails.of_eq eG.symm)
        isplitl [C2]; iexact C2
        isplitl [B3] <;> iassumption
      isplitl [G3]; iexact G3
      isplitl [A4] <;> iassumption
    iexact H2
  iapply (Entails.of_eq eH.symm)
  isplitl [H3]; iexact H3
  isplitl [H4] <;> iassumption

/-! ### The buffers at the start and at the end -/

def cW (c : Dev nD) (f : S4x2x128x512.Idx → Elt F .f32) : sProp 𝕄 := ((c : Thread nD τ).loc cc0_scratch0) ↦{fullShare} f

theorem slots_cover : (Finset.univ : Finset S4x2x128x512.Idx) = (Finset.univ : Finset (Fin 4 × Fin 2)).biUnion fun x => (slotR x.1 x.2).set := by
  ext i
  simp only [Finset.mem_univ, true_iff, Finset.mem_biUnion, true_and]
  exact ⟨(i 0, i 1), mem_slot.mpr ⟨rfl, rfl⟩⟩
theorem slots_apart (x y : Fin 4 × Fin 2) (h : x ≠ y) : Disjoint (slotR x.1 x.2).set (slotR y.1 y.2).set := by
  refine slot_disj ?_
  by_contra hn
  rw [not_or, not_not, not_not] at hn
  exact h (Prod.ext hn.1 hn.2)
theorem by_slot (Φ : Fin 4 → Fin 2 → sProp 𝕄) : (bigSep Finset.univ fun x : Fin 4 × Fin 2 => Φ x.1 x.2) = four fun r => iprop(Φ r 0 ∗ Φ r 1) := by
  have h4 : ∀ Φ : Fin 4 → sProp 𝕄, bigSep Finset.univ Φ = four fun r => Φ r := fun Φ => bigSep_univ_eq_bigSepL [0, 1, 2, 3] (by decide) (by decide) Φ
  have h2 : ∀ Φ : Fin 2 → sProp 𝕄, bigSep Finset.univ Φ = iprop(Φ 0 ∗ Φ 1) := fun Φ => bigSep_univ_eq_bigSepL [0, 1] (by decide) (by decide) Φ
  rw [bigSep_univ_prod, h4]
  simp only [h2]
theorem comm_cut (c : Dev nD) (f : S4x2x128x512.Idx → Elt F .f32) : (cW c f : sProp 𝕄) ⊢ four fun r => iprop(cG c r 0 ∗ cG c r 1) := by
  have e : (cW c f : sProp 𝕄) = bigSep Finset.univ fun x : Fin 4 × Fin 2 => cP c x.1 x.2 f := by
    unfold cW cP
    rw [slots_cover]
    exact pointsTo_biUnion _ _ fun x _ y _ h => slots_apart x y h
  refine (Entails.of_eq e).trans ?_
  have h : (bigSep Finset.univ fun x : Fin 4 × Fin 2 => cP c x.1 x.2 f : sProp 𝕄) ⊢ bigSep Finset.univ fun x : Fin 4 × Fin 2 => cG c x.1 x.2 :=
    bigSep_mono fun x _ => by
      have : (cP c x.1 x.2 f : sProp 𝕄) ⊢ cG c x.1 x.2 := by unfold cG; iintro H; iexists f; iexact H
      exact this
  exact h.trans (Entails.of_eq (by_slot fun r s => cG c r s))
theorem comm_join (c : Dev nD) : (four fun r => iprop(cG c r 0 ∗ cG c r 1)) ⊢ (iprop(∃ f, cW c f) : sProp 𝕄) := by
  refine (Entails.of_eq (by_slot fun r s => cG c r s).symm).trans ?_
  have : Nonempty (S4x2x128x512.Idx → Elt F .f32) := ⟨fun _ => (FloatOps.ofBits .f32 0 : F .f32)⟩
  have h0 : (bigSep Finset.univ fun x : Fin 4 × Fin 2 => (cG c x.1 x.2 : sProp 𝕄)) ⊢ iprop(∃ fs : Fin 4 × Fin 2 → S4x2x128x512.Idx → Elt F .f32, bigSep Finset.univ fun x => cP c x.1 x.2 (fs x)) := by
    unfold cG
    exact bigSep_exists_pi (Y := fun _ => S4x2x128x512.Idx → Elt F .f32) Finset.univ fun (x : Fin 4 × Fin 2) f => cP c x.1 x.2 f
  refine h0.trans ?_
  have h : ∀ fs : Fin 4 × Fin 2 → S4x2x128x512.Idx → Elt F .f32, (bigSep Finset.univ fun x : Fin 4 × Fin 2 => cP c x.1 x.2 (fs x) : sProp 𝕄) ⊢ iprop(∃ f, cW c f) := fun fs => by
    have hj := pointsTo_biUnion_join (Ix := Ix) (Name := ℕ) (U := UU) (Lvl := ℕ) (ℓ := ((c : Thread nD τ).loc cc0_scratch0)) (q := fullShare) (Val := Elt F) (Finset.univ : Finset (Fin 4 × Fin 2)) (fun x => (slotR x.1 x.2).set) fs (fs (0, 0)) fun x _ y _ h => slots_apart x y h
    have hc : (Finset.univ : Finset (Fin 4 × Fin 2)).biUnion (fun x => (slotR x.1 x.2).set) = Finset.univ := slots_cover.symm
    have ec : (bigSep Finset.univ fun x : Fin 4 × Fin 2 => cP c x.1 x.2 (fs x) : sProp 𝕄)
        = bigSep Finset.univ fun x : Fin 4 × Fin 2 => ((c : Thread nD τ).loc cc0_scratch0) ↦[(slotR x.1 x.2).set]{fullShare} fs x := bigSep_congr fun x _ => by unfold cP; rfl
    iintro H
    ihave H := (Entails.of_eq ec) $$ H
    ihave H := hj $$ H
    icases H with ⟨%g, -, H⟩
    iexists g
    unfold cW
    iapply (Entails.of_eq (congrArg (fun S => (((c : Thread nD τ).loc cc0_scratch0) ↦[S]{fullShare} g : sProp 𝕄)) hc))
    iexact H
  iintro ⟨%fs, H⟩
  iapply (h fs); iexact H

/-- What the kernel's own buffers give on entering. -/
theorem lands_of (c : Dev nD) (f : S4x2x128x512.Idx → Elt F .f32) (g : S4096x2048.Idx → Elt F .fp8e4m3) (k : S32x128.Idx → Elt F .f32) :
    (iprop(cW c f ∗ qW c g ∗ aW c k) : sProp 𝕄) ⊢ iprop((bigSep (evs.filter fun e => first e = true) fun e => land ((c, e) : Ky)) ∗ aG c c ∗ qG c (relG c 0 0) 0 ∗ qG c (relG c 1 0) 1) := by
  have e : (bigSep (evs.filter fun e => first e = true) fun e => land ((c, e) : Ky) : sProp 𝕄) = iprop((four fun r => iprop(cG c r 0 ∗ cG c r 1))
      ∗ (four fun r => bigSep (Finset.range (len true r)) fun k => qG c (relG c r (k + 1)) (hfL r)) ∗ bigSep (Finset.range 31) fun i => aG c (peerInv i c)) := by
    rw [first_split]
    simp only [Finset.range_eq_Ico]
    rfl
  have hq : ∀ k h, (qP c k h fullShare g : sProp 𝕄) ⊢ qG c k h := fun k h => by unfold qG; iintro H; iexists g; iexact H
  have ha : ∀ d, (aP c d fullShare k : sProp 𝕄) ⊢ aG c d := fun d => by unfold aG; iintro H; iexists k; iexact H
  have hqs : ∀ r, (bigSep (Finset.range (len true r)) fun j => qP c (relG c r (j + 1)) (hfL r) fullShare g : sProp 𝕄) ⊢ bigSep (Finset.range (len true r)) fun k => qG c (relG c r (k + 1)) (hfL r) :=
    fun r => bigSep_mono fun j _ => hq _ _
  have has : (bigSep (Finset.range 31) fun i => aP c (peerInv i c) fullShare k : sProp 𝕄) ⊢ bigSep (Finset.range 31) fun i => aG c (peerInv i c) := bigSep_mono fun i _ => ha _
  iintro ⟨Hc, Hq, Ha⟩
  ihave Hc := (comm_cut c f) $$ Hc
  ihave Hq := (Entails.of_eq (split_q c g)) $$ Hq
  ihave Ha := (Entails.of_eq (join_rows c k)) $$ Ha
  icases Hq with ⟨Q0, Q1, Q2, Q3, Q4, Q5⟩
  icases Ha with ⟨A0, A1⟩
  isplitr [Q0 Q1 A0]
  · iapply (Entails.of_eq e.symm)
    isplitl [Hc]; iexact Hc
    isplitr [A1]
    · isplitl [Q2]; iapply (hqs 0); iexact Q2
      isplitl [Q3]; iapply (hqs 1); iexact Q3
      isplitl [Q4]; iapply (hqs 2); iexact Q4
      iapply (hqs 3); iexact Q5
    iapply has; iexact A1
  isplitl [A0]; iapply (ha c); iexact A0
  isplitl [Q0]; iapply (hq (relG c 0 0) 0); iexact Q0
  iapply (hq (relG c 1 0) 1); iexact Q1

theorem opn_of (c : Dev nD) : (iprop((bigSep (evs.filter fun e => first e = true) fun e => readerAt ES ((c, e) : Ky) 0)
    ∗ bigSep (evs.filter fun e => first e = true) fun e => land ((c, e) : Ky)) : sProp 𝕄) ⊢ Opn c := by
  unfold Opn
  exact Entails.of_eq (bigSep_sep' _ _ _).symm

/-! ### The cells at the end -/

/-- The round each cell ends in. -/
def fin (o : Option Ow) : ℕ := match o with
  | some (.snd ph r s) => (len ph r + 1 - s.val) / 2
  | some (.rcv ph r s) => (len ph r + 1 - s.val) / 2
  | _ => 1
theorem fin_end (o : Option Ow) (ρ : ℕ) (h : fin o ≤ ρ) : dutiesK o ρ = ∅ := by
  rcases o with _ | (⟨ph, r, s⟩ | ⟨ph, r, s⟩ | ⟨ph, r⟩ | _ | _)
  · exact if_neg (show ρ ≠ 0 from by have : 1 ≤ ρ := h; omega)
  · have h' : (len ph r + 1 - s.val) / 2 ≤ ρ := h
    exact if_neg (by have := s.isLt; omega)
  · have h' : (len ph r + 1 - s.val) / 2 ≤ ρ := h
    exact if_neg (by have := s.isLt; omega)
  · exact if_neg (show ρ ≠ 0 from by have : 1 ≤ ρ := h; omega)
  · exact if_neg (show ρ ≠ 0 from by have : 1 ≤ ρ := h; omega)
  · exact if_neg (show ρ ≠ 0 from by have : 1 ≤ ρ := h; omega)

theorem end_all (c : Dev nD) : (End0 c : sProp 𝕄) ⊢ bigSep Finset.univ fun o : Option Ow => atPos ER (cell (c, o)) (fin o) ∅ 0 := by
  have hs : ∀ ph r, (iprop(atPos ER (cell (c, sndK ph r 0)) (fin (sndK ph r 0)) ∅ 0 ∗ atPos ER (cell (c, sndK ph r 1)) (fin (sndK ph r 1)) ∅ 0) : sProp 𝕄) = pos2 c (sndK ph r) (len ph r) := fun ph r => rfl
  have hr : ∀ ph r, (iprop(atPos ER (cell (c, rcvK ph r 0)) (fin (rcvK ph r 0)) ∅ 0 ∗ atPos ER (cell (c, rcvK ph r 1)) (fin (rcvK ph r 1)) ∅ 0) : sProp 𝕄) = pos2 c (rcvK ph r) (len ph r) := fun ph r => rfl
  have e : (bigSep Finset.univ fun o : Option Ow => (atPos ER (cell (c, o)) (fin o) ∅ 0 : sProp 𝕄)) = iprop(atPos ER (cell (c, none)) 1 ∅ 0
      ∗ ((four fun r => pos2 c (sndK false r) 31) ∗ four fun r => pos2 c (sndK true r) (len true r)) ∗ ((four fun r => pos2 c (rcvK false r) 31) ∗ four fun r => pos2 c (rcvK true r) (len true r))
      ∗ ((four fun r => atPos ER (cell (c, crK false r)) 1 ∅ 0) ∗ four fun r => atPos ER (cell (c, crK true r)) 1 ∅ 0) ∗ atPos ER (cell (c, some .ams)) 1 ∅ 0 ∗ atPos ER (cell (c, some .amr)) 1 ∅ 0) := by
    rw [ow_split]
    simp only [hs, hr]
    rw [by_ring, by_ring, by_ring]
    rfl
  have h : (End0 c : sProp 𝕄) ⊢ iprop(atPos ER (cell (c, none)) 1 ∅ 0
      ∗ ((four fun r => pos2 c (sndK false r) 31) ∗ four fun r => pos2 c (sndK true r) (len true r)) ∗ ((four fun r => pos2 c (rcvK false r) 31) ∗ four fun r => pos2 c (rcvK true r) (len true r))
      ∗ ((four fun r => atPos ER (cell (c, crK false r)) 1 ∅ 0) ∗ four fun r => atPos ER (cell (c, crK true r)) 1 ∅ 0) ∗ atPos ER (cell (c, some .ams)) 1 ∅ 0 ∗ atPos ER (cell (c, some .amr)) 1 ∅ 0) := by
    unfold End0 AmE LaneP
    iintro ⟨A, ⟨⟨R0, S0, C0⟩, ⟨R1, S1, C1⟩, ⟨R2, S2, C2⟩, R3, S3, C3⟩, ⟨M1, M2⟩, ⟨T0, U0, V0⟩, ⟨T1, U1, V1⟩, ⟨T2, U2, V2⟩, T3, U3, V3⟩
    isplitl [A]; iexact A
    isplitl [S0 S1 S2 S3 U0 U1 U2 U3]
    · isplitl [S0 S1 S2 S3]
      · isplitl [S0]; iexact S0
        isplitl [S1]; iexact S1
        isplitl [S2] <;> iassumption
      isplitl [U0]; iexact U0
      isplitl [U1]; iexact U1
      isplitl [U2] <;> iassumption
    isplitl [R0 R1 R2 R3 T0 T1 T2 T3]
    · isplitl [R0 R1 R2 R3]
      · isplitl [R0]; iexact R0
        isplitl [R1]; iexact R1
        isplitl [R2] <;> iassumption
      isplitl [T0]; iexact T0
      isplitl [T1]; iexact T1
      isplitl [T2] <;> iassumption
    isplitr [M1 M2]
    · isplitl [C0 C1 C2 C3]
      · isplitl [C0]; iexact C0
        isplitl [C1]; iexact C1
        isplitl [C2] <;> iassumption
      isplitl [V0]; iexact V0
      isplitl [V1]; iexact V1
      isplitl [V2] <;> iassumption
    isplitl [M1] <;> iassumption
  exact h.trans (Entails.of_eq e.symm)

/-- Every cell is at rest at the end. -/
theorem close_all (c : Dev nD) : (iprop(Cx X W κ ν ∗ End0 c) : sProp 𝕄) ⊢ |={Set.univ}=> bigSep Finset.univ fun o : Option Ow => semVal (cell (c, o)) 0 := by
  have hc : ∀ o : Option Ow, (iprop(Cx X W κ ν ∗ atPos ER (cell (c, o)) (fin o) ∅ 0) : sProp 𝕄) ⊢ |={Set.univ}=> semVal (cell (c, o)) 0 := fun o => by
    iintro ⟨#HC, H⟩
    ihave HI := (Cx_inv (X := X) (W := W) (κ := κ) (ν := ν) (c, o)) $$ HC
    iapply (Rounds.cell_close ER (Rd X W) (Set.mem_univ _) (g := cell (c, o)) (hu := fun h => h) (R := fin o) (fun ρ hρ => by rw [Rd_duties]; exact fin_end o ρ hρ))
    isplitl [HI] <;> iassumption
  have h : (iprop(Cx X W κ ν ∗ bigSep Finset.univ fun o : Option Ow => atPos ER (cell (c, o)) (fin o) ∅ 0) : sProp 𝕄) ⊢ |={Set.univ}=> bigSep Finset.univ fun o : Option Ow => semVal (cell (c, o)) 0 :=
    (BI.bigSep_with_persistent (Ψ := fun o => iprop(|={Set.univ}=> semVal (cell (c, o)) 0)) fun o _ => hc o).trans (BI.bigSep_fupd _ _)
  iintro ⟨#HC, HE⟩
  ihave HE := (end_all c) $$ HE
  iapply h
  isplitr [HE]; iexact HC
  iexact HE

end Cert.KernelIdeal.Px

end
-- ==== Proof.Fund.lean ====
/-
  The protocol's resources, dealt and its cells opened.
-/
module

public import proofs.«01_k».proof.Proof.Open

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F] [Facts]

local notation "𝕄" => MT nD τ sig Ix (Elt F) ℕ UU ℕ

attribute [local irreducible] prodHalf prodAll maxRow sumPiece quantise dequantise prodV redV maxV quantV outV scaleV slotV sumV

variable {X : Dev nD → S4096x128.Idx → Elt F .f32} {W : Dev nD → S128x2048.Idx → Elt F .f32}
variable {κ : Ck → ℕ} {ν : Ky → ℕ} {c : Dev nD}

theorem big_comm {I J : Type} [DecidableEq I] (s : Finset I) (t : Finset J) (Φ : I → J → sProp 𝕄) :
    (bigSep s fun a => bigSep t fun b => Φ a b) = bigSep t fun b => bigSep s fun a => Φ a b := by
  induction s using Finset.induction_on with
  | empty => rw [bigSep_empty]; exact (emp_all t _ fun _ => bigSep_empty).symm
  | insert a s ha ih =>
    have e : (bigSep (insert a s) fun a => bigSep t fun b => Φ a b) = iprop((bigSep t fun b => Φ a b) ∗ bigSep s fun a => bigSep t fun b => Φ a b) := bigSep_insert ha
    have e2 : ∀ b, (bigSep (insert a s) fun a => Φ a b) = iprop(Φ a b ∗ bigSep s fun a => Φ a b) := fun b => bigSep_insert ha
    rw [e, ih]; simp only [e2]; rw [bigSep_sep']
theorem big_prod {I J : Type} [DecidableEq I] [DecidableEq J] (s : Finset I) (t : Finset J) (Φ : I × J → sProp 𝕄) :
    bigSep (s ×ˢ t) Φ = bigSep s fun a => bigSep t fun b => Φ (a, b) := by
  rw [Finset.product_eq_biUnion, big_family _ _ (fun a b h => Finset.disjoint_left.mpr fun x hx hy => ?_)]
  · exact bigSep_congr fun a _ => BI.bigSep_image_of_injOn (f := fun b => (a, b)) (fun b _ b' _ h => congrArg Prod.snd h) Φ
  · obtain ⟨_, -, rfl⟩ := Finset.mem_image.mp hx
    obtain ⟨_, -, h'⟩ := Finset.mem_image.mp hy
    exact h (congrArg Prod.fst h').symm

/-! ### The protocol's first element -/

def cellsF : Finset (GSem nD τ sig) := Finset.univ.map ⟨cell, cell_inj⟩
def tokA (x : Dev nD × Ev) : GSem nD τ sig × ℕ × Ev := (cell (x.1, kind x.2), rnd x.2, x.2)
def tokB (x : Dev nD × Ev) : GSem nD τ sig × ℕ × Ev := (cell (x.1, skind x.2), rnd x.2, x.2)
theorem tokA_inj : Function.Injective tokA := fun x y h => by
  have h1 : cell (x.1, kind x.2) = cell (y.1, kind y.2) := congrArg Prod.fst h
  have h2 : x.2 = y.2 := congrArg (fun t => t.2.2) h
  exact Prod.ext (congrArg (fun k : Ck => k.1) (cell_inj h1)) h2
theorem tokB_inj : Function.Injective tokB := fun x y h => by
  have h1 : cell (x.1, skind x.2) = cell (y.1, skind y.2) := congrArg Prod.fst h
  have h2 : x.2 = y.2 := congrArg (fun t => t.2.2) h
  exact Prod.ext (congrArg (fun k : Ck => k.1) (cell_inj h1)) h2
def setA : Finset (GSem nD τ sig × ℕ × Ev) := ((Finset.univ : Finset (Dev nD)) ×ˢ evs).map ⟨tokA, tokA_inj⟩
def setB : Finset (GSem nD τ sig × ℕ × Ev) := ((Finset.univ : Finset (Dev nD)) ×ˢ dmaE).map ⟨tokB, tokB_inj⟩
theorem two_kinds {e : Ev} (h : isDma e = true) : kind e ≠ skind e := by
  cases e with
  | bar n => cases h
  | credit ph r k => cases h
  | send ph r k => intro h'; cases h'
  | amax k => intro h'; cases h'
theorem sets_apart : Disjoint setA setB := by
  rw [Finset.disjoint_left]
  intro t ha hb
  unfold setA at ha; unfold setB at hb
  rw [Finset.mem_map] at ha hb
  obtain ⟨x, -, rfl⟩ := ha
  obtain ⟨y, hy, h⟩ := hb
  have hd : isDma y.2 = true := (Finset.mem_filter.mp (Finset.mem_product.mp hy).2).2
  have h' : tokB y = tokA x := h
  have h1 : cell (y.1, skind y.2) = cell (x.1, kind x.2) := congrArg Prod.fst h'
  have h2 : y.2 = x.2 := congrArg (fun t => t.2.2) h'
  have h3 : skind y.2 = kind x.2 := congrArg Prod.snd (cell_inj h1)
  rw [← h2] at h3
  exact two_kinds hd h3.symm

/-- What a device gives each device it pays is, over all devices, what each is paid. -/
theorem turn (S : Finset Ev) (Φ : Dev nD → Ev → sProp 𝕄) : (bigSep Finset.univ fun c => bigSep S fun e => Φ c e) = bigSep Finset.univ fun c => bigSep S fun e => Φ (tgt c e) e := by
  rw [big_comm, big_comm Finset.univ S]
  exact bigSep_congr fun e _ => bigSep_univ_equiv (swap e) fun c => Φ c e

section St
variable (X : Dev nD → S4096x128.Idx → Elt F .f32) (W : Dev nD → S128x2048.Idx → Elt F .f32)
/-- What every device may read. -/
def Rec : sProp 𝕄 := iprop((bigSep Finset.univ fun k : Ck => reached ER (cell k) 0) ∗ ∃ ν : Ky → ℕ, bigSep keys fun k => slotInv ES (ν k) k (land k))
instance Rec_ps : BI.Persistent (Rec : sProp 𝕄) := by unfold Rec; infer_instance
def G0 (c : Dev nD) : sProp 𝕄 := iprop((bigSep Finset.univ fun o : Option Ow => roundState ER (Rd X W) (cell (c, o)) 0) ∗ Rec ∗ Lin c)
/-- The shared records but for the levels. -/
def CxI (κ : Ck → ℕ) (ν : Ky → ℕ) : sProp 𝕄 := iprop((bigSep Finset.univ fun k : Ck => cellInv ER (Rd X W) (κ k) (cell k))
    ∗ (bigSep keys fun k => slotInv ES (ν k) k (land k)) ∗ (bigSep Finset.univ fun k : Ck => reached ER (cell k) 0))
instance CxI_ps (κ : Ck → ℕ) (ν : Ky → ℕ) : BI.Persistent (CxI X W κ ν) := by unfold CxI; infer_instance
def G1 (c : Dev nD) : sProp 𝕄 := iprop(∃ κ : Ck → ℕ, ∃ ν : Ky → ℕ, CxI X W κ ν ∗ Lin c)
end St

theorem ring_fund : (BI.own (ER (initOf cellsF (setA ∪ setB))) : sProp 𝕄) ⊢ |==> iprop((bigSep Finset.univ fun c : Dev nD => bigSep Finset.univ fun o : Option Ow => roundState ER (Rd X W) (cell (c, o)) 0)
    ∗ (bigSep Finset.univ fun k : Ck => reached ER (cell k) 0) ∗ (bigSep Finset.univ fun c : Dev nD => bigSep Finset.univ fun o : Option Ow => atPos ER (cell (c, o)) 0 ∅ 0)
    ∗ (bigSep Finset.univ fun c : Dev nD => bigSep evs fun e => dutyTok ER (cell (tgt c e, kind e)) (rnd e) e)
    ∗ bigSep Finset.univ fun c : Dev nD => bigSep dmaE fun e => dutyTok ER (cell (c, skind e)) (rnd e) e) := by
  refine (Rounds.fund ER (Rd X W) cellsF (setA ∪ setB)).trans (BI.bupd_mono ?_)
  have eS : (bigSep cellsF fun g => (roundState ER (Rd X W) g 0 : sProp 𝕄)) = bigSep Finset.univ fun c : Dev nD => bigSep Finset.univ fun o : Option Ow => roundState ER (Rd X W) (cell (c, o)) 0 := by
    unfold cellsF; rw [bigSep_map]; exact bigSep_univ_prod _
  have eR : (bigSep cellsF fun g => (reached ER g 0 : sProp 𝕄)) = bigSep Finset.univ fun k : Ck => reached ER (cell k) 0 := by
    unfold cellsF; rw [bigSep_map]; rfl
  have eP : (bigSep cellsF fun g => (atPos ER g 0 ∅ 0 : sProp 𝕄)) = bigSep Finset.univ fun c : Dev nD => bigSep Finset.univ fun o : Option Ow => atPos ER (cell (c, o)) 0 ∅ 0 := by
    unfold cellsF; rw [bigSep_map]; exact bigSep_univ_prod _
  have eA : (bigSep setA fun x => (dutyTok ER x.1 x.2.1 x.2.2 : sProp 𝕄)) = bigSep Finset.univ fun c : Dev nD => bigSep evs fun e => dutyTok ER (cell (tgt c e, kind e)) (rnd e) e := by
    unfold setA; rw [bigSep_map, big_prod]
    exact turn evs fun c e => dutyTok ER (cell (c, kind e)) (rnd e) e
  have eB : (bigSep setB fun x => (dutyTok ER x.1 x.2.1 x.2.2 : sProp 𝕄)) = bigSep Finset.univ fun c : Dev nD => bigSep dmaE fun e => dutyTok ER (cell (c, skind e)) (rnd e) e := by
    unfold setB; rw [bigSep_map, big_prod]; rfl
  have eU : (bigSep (setA ∪ setB) fun x => (dutyTok ER x.1 x.2.1 x.2.2 : sProp 𝕄)) = iprop((bigSep setA fun x => dutyTok ER x.1 x.2.1 x.2.2) ∗ bigSep setB fun x => dutyTok ER x.1 x.2.1 x.2.2) := bigSep_union sets_apart
  rw [eU, eS, eR, eP, eA, eB]
  exact BI.Entails.refl _

theorem slot_fund : (BI.own (ES (initSlots keys 1)) : sProp 𝕄) ⊢ |={Set.univ}=> iprop((∃ ν : Ky → ℕ, bigSep keys fun k => slotInv ES (ν k) k (land k))
    ∗ (bigSep Finset.univ fun c : Dev nD => bigSep dmaE fun e => readerAt ES ((c, e) : Ky) 0) ∗ bigSep Finset.univ fun c : Dev nD => bigSep dmaE fun e => writeTok ES ((tgt c e, e) : Ky) 1) := by
  refine (Release.slots_init (Es := Set.univ) ES keys 1 (fun k => (land k : sProp 𝕄)) ∅).trans (BI.fupd_mono ?_)
  have eR : (bigSep keys fun k => (readerAt ES k 0 : sProp 𝕄)) = bigSep Finset.univ fun c : Dev nD => bigSep dmaE fun e => readerAt ES ((c, e) : Ky) 0 := by
    unfold keys; rw [big_prod]
  have eW : (bigSep (keys ×ˢ Finset.range 1) fun x => (writeTok ES x.1 (x.2 + 1) : sProp 𝕄)) = bigSep Finset.univ fun c : Dev nD => bigSep dmaE fun e => writeTok ES ((tgt c e, e) : Ky) 1 := by
    rw [big_prod]
    have h1 : ∀ k : Ky, (bigSep (Finset.range 1) fun j => (writeTok ES k (j + 1) : sProp 𝕄)) = writeTok ES k 1 := fun k => by
      rw [Finset.range_one, bigSep_singleton]
    simp only [h1]
    unfold keys; rw [big_prod]
    exact turn dmaE fun c e => writeTok ES ((c, e) : Ky) 1
  iintro ⟨%ν, -, HI, HR, HW⟩
  isplitl [HI]; iexists ν; iexact HI
  isplitl [HR]
  · iapply (Entails.of_eq eR); iexact HR
  iapply (Entails.of_eq eW); iexact HW

theorem lin_join : (iprop((bigSep Finset.univ fun c : Dev nD => bigSep Finset.univ fun o : Option Ow => atPos ER (cell (c, o)) 0 ∅ 0)
    ∗ (bigSep Finset.univ fun c : Dev nD => bigSep evs fun e => dutyTok ER (cell (tgt c e, kind e)) (rnd e) e)
    ∗ (bigSep Finset.univ fun c : Dev nD => bigSep dmaE fun e => dutyTok ER (cell (c, skind e)) (rnd e) e)
    ∗ (bigSep Finset.univ fun c : Dev nD => bigSep dmaE fun e => readerAt ES ((c, e) : Ky) 0)
    ∗ bigSep Finset.univ fun c : Dev nD => bigSep dmaE fun e => writeTok ES ((tgt c e, e) : Ky) 1) : sProp 𝕄) = bigSep Finset.univ fun c => Lin c := by
  unfold Lin
  rw [bigSep_sep', bigSep_sep', bigSep_sep', bigSep_sep']

/-- The launch's element dealt to the devices. -/
theorem deal (a : UR) : (ownU ((a, (initOf cellsF (setA ∪ setB), initSlots keys 1)) : UU) : sProp 𝕄) ⊢ |={Set.univ}=> iprop(BI.own (EP a) ∗ bigSep Finset.univ fun c => G0 X W c) := by
  have hs : (ownU ((a, (initOf cellsF (setA ∪ setB), initSlots keys 1)) : UU) : sProp 𝕄) ⊢ iprop(BI.own (EP a) ∗ BI.own (ER (initOf cellsF (setA ∪ setB))) ∗ BI.own (ES (initSlots keys 1))) := by
    refine (own_pair_emb (uEmb (nD := nD) (sig := sig) (Ix := Ix) (Val := Elt F) (Name := ℕ) (U := UU) (Lvl := ℕ)).toEmb a (initOf cellsF (setA ∪ setB), initSlots keys 1)).trans ?_
    exact BI.sep_mono_r (own_pair_emb _ _ _)
  have eG : (bigSep Finset.univ fun c => (G0 X W c : sProp 𝕄)) = iprop((bigSep Finset.univ fun c : Dev nD => bigSep Finset.univ fun o : Option Ow => roundState ER (Rd X W) (cell (c, o)) 0)
      ∗ (bigSep Finset.univ fun c : Dev nD => Rec) ∗ bigSep Finset.univ fun c => Lin c) := by
    unfold G0
    rw [bigSep_sep', bigSep_sep']
  iintro H
  ihave H := hs $$ H
  icases H with ⟨HP, HR, HS⟩
  imod (ring_fund (X := X) (W := W)) $$ HR with ⟨H1, H2, H3, H4, H5⟩
  imod (slot_fund (F := F)) $$ HS with ⟨H6, H7, H8⟩
  imodintro
  isplitl [HP]; iexact HP
  iapply (Entails.of_eq eG.symm)
  isplitl [H1]; iexact H1
  isplitl [H2 H6]
  · iapply (BI.bigSep_of_persistent (Finset.univ : Finset (Dev nD)) (Rec : sProp 𝕄))
    unfold Rec
    isplitl [H2] <;> iassumption
  iapply (Entails.of_eq lin_join)
  isplitl [H3]; iexact H3
  isplitl [H4]; iexact H4
  isplitl [H5]; iexact H5
  isplitl [H7] <;> iassumption

/-! ### The cells opened -/

def osem (k : Ow) : SemLoc sig := semOf (some k)
theorem sems_all (c : Dev nD) : (bigSep Finset.univ fun o : Option Ow => (semVal (cell (c, o)) 0 : sProp 𝕄)) = iprop(unscopedSems0 c ∗ Pipeline.ownSems0 osem c) := by
  have hu : (unscopedSems0 c : sProp 𝕄) = semVal (cell (c, none)) 0 := by
    unfold unscopedSems0; rw [bigSep_eq_bigSepL_of_eq [semOf none] (by decide +kernel) (by decide)]; rfl
  have he : (Finset.univ : Finset (Option Ow)).erase none = Finset.univ.map Function.Embedding.some := by decide +kernel
  rw [bigSep_univ_at _ none, he, bigSep_map, hu]
  rfl

theorem cells_open : (iprop((bigSep Finset.univ fun c : Dev nD => bigSep Finset.univ fun o : Option Ow => semVal (cell (c, o)) 0)
    ∗ bigSep Finset.univ fun c : Dev nD => bigSep Finset.univ fun o : Option Ow => roundState ER (Rd X W) (cell (c, o)) 0) : sProp 𝕄)
    ⊢ |={Set.univ}=> iprop(∃ κ : Ck → ℕ, bigSep Finset.univ fun k : Ck => cellInv ER (Rd X W) (κ k) (cell k)) := by
  have e1 : ∀ Φ : Ck → sProp 𝕄, (bigSep Finset.univ fun c : Dev nD => bigSep Finset.univ fun o : Option Ow => Φ (c, o)) = bigSep Finset.univ Φ := fun Φ => (bigSep_univ_prod _).symm
  have e2 : (iprop((bigSep Finset.univ fun k : Ck => semVal (cell k) 0) ∗ bigSep Finset.univ fun k : Ck => roundState ER (Rd X W) (cell k) 0) : sProp 𝕄)
      = bigSep Finset.univ fun k : Ck => iprop(semVal (cell k) 0 ∗ roundState ER (Rd X W) (cell k) 0) := (bigSep_sep' _ _ _).symm
  rw [e1 fun k => semVal (cell k) 0, e1 fun k => roundState ER (Rd X W) (cell k) 0, e2]
  have h : (bigSep Finset.univ fun k : Ck => (iprop(semVal (cell k) 0 ∗ roundState ER (Rd X W) (cell k) 0) : sProp 𝕄))
      ⊢ |={Set.univ}=> bigSep Finset.univ fun k : Ck => iprop(∃ n : ℕ, cellInv ER (Rd X W) n (cell k)) :=
    (bigSep_mono fun k _ => (Rounds.body_intro ER (Rd X W) (cell k)).trans inv_alloc).trans (bigSep_fupd _ _)
  have h2 : (bigSep Finset.univ fun k : Ck => (iprop(∃ n : ℕ, cellInv ER (Rd X W) n (cell k)) : sProp 𝕄)) ⊢ iprop(∃ κ : Ck → ℕ, bigSep Finset.univ fun k : Ck => cellInv ER (Rd X W) (κ k) (cell k)) :=
    bigSep_exists_pi (Y := fun _ => ℕ) Finset.univ fun (k : Ck) n => cellInv ER (Rd X W) n (cell k)
  exact h.trans (BI.fupd_mono h2)

theorem glob : (bigSep Finset.univ fun c : Dev nD => (iprop(Pipeline.ownSems0 osem c ∗ unscopedSems0 c ∗ G0 X W c) : sProp 𝕄)) ⊢ |={Set.univ}=> bigSep Finset.univ fun c => G1 X W c := by
  have e : (bigSep Finset.univ fun c : Dev nD => (iprop(Pipeline.ownSems0 osem c ∗ unscopedSems0 c ∗ G0 X W c) : sProp 𝕄))
      ⊢ iprop((bigSep Finset.univ fun c : Dev nD => bigSep Finset.univ fun o : Option Ow => semVal (cell (c, o)) 0)
        ∗ (bigSep Finset.univ fun c : Dev nD => bigSep Finset.univ fun o : Option Ow => roundState ER (Rd X W) (cell (c, o)) 0)
        ∗ (bigSep Finset.univ fun c : Dev nD => Rec) ∗ bigSep Finset.univ fun c => Lin c) := by
    rw [← bigSep_sep', ← bigSep_sep', ← bigSep_sep']
    refine bigSep_mono fun c _ => ?_
    have h : (iprop(Pipeline.ownSems0 osem c ∗ unscopedSems0 c ∗ G0 X W c) : sProp 𝕄) ⊢ iprop((bigSep Finset.univ fun o : Option Ow => semVal (cell (c, o)) 0)
        ∗ (bigSep Finset.univ fun o : Option Ow => roundState ER (Rd X W) (cell (c, o)) 0) ∗ Rec ∗ Lin c) := by
      unfold G0
      iintro ⟨H1, H2, H3⟩
      isplitl [H1 H2]
      · iapply (Entails.of_eq (sems_all c).symm)
        isplitl [H2] <;> iassumption
      iexact H3
    exact h
  have hr : (bigSep Finset.univ fun c : Dev nD => (Rec : sProp 𝕄)) ⊢ Rec := bigSep_elim (Finset.mem_univ (0 : Dev nD))
  iintro H
  ihave H := e $$ H
  icases H with ⟨H1, H2, H3, H4⟩
  imod (cells_open (X := X) (W := W)) $$ [H1 H2] with ⟨%κ, #HI⟩
  · isplitl [H1] <;> iassumption
  ihave H3 := hr $$ H3
  unfold Rec
  icases H3 with ⟨#HR, %ν, #HS⟩
  imodintro
  have h : (iprop(CxI X W κ ν ∗ bigSep Finset.univ fun c => Lin c) : sProp 𝕄) ⊢ bigSep Finset.univ fun c => G1 X W c :=
    BI.bigSep_with_persistent (Ψ := fun c => G1 X W c) fun c _ => by
      have h1 : (iprop(CxI X W κ ν ∗ Lin c) : sProp 𝕄) ⊢ G1 X W c := by
        unfold G1
        iintro ⟨H1, H2⟩
        iexists κ, ν
        isplitl [H1] <;> iassumption
      exact h1
  iapply h
  isplitr [H4]
  · unfold CxI
    isplitr; iexact HI
    isplitr; iexact HS
    iexact HR
  iexact H4

end Cert.KernelIdeal.Px

end
-- ==== Proof.FactsI.lean ====
/-
  The side conditions the program states, proved: every offset inside its buffer, every device one of the mesh's, by
  evaluation over the devices and the steps.
-/
module

public import proofs.«01_k».proof.KernelIdeal

@[expose] public section

set_option maxRecDepth 16384

namespace Cert.KernelIdeal.Ok

open Cert.KernelIdeal
open Idealize.ShloMosaic Idealize.SL.Sem

theorem h_S128x128 : 0 < S128x128.numel := by decide
theorem shapeCasts_S128x128_S128x128 : S128x128.ShapeCasts S128x128 := by decide
theorem inb_S128x2048_S128x2048_0_0 : ∀ a, (![0, 0] : Fin 2 → Nat) a + S128x2048.size a ≤ S128x2048.size a := by decide
theorem h_S128x2048 : 0 < S128x2048.numel := by decide
theorem shapeCasts_S128x2048_S128x2048 : S128x2048.ShapeCasts S128x2048 := by decide
theorem inb_S4x2_S1x1_0_0 : ∀ a, (![0, 0] : Fin 2 → Nat) a + S1x1.size a ≤ S4x2.size a := by decide
theorem squeezes_S1x1_S_ : S1x1.Squeezes S_ := by decide
theorem inb_S4x2x128x512_S1x1x128x512_0_0_0_0 : ∀ a, (![0, 0, 0, 0] : Fin 4 → Nat) a + S1x1x128x512.size a ≤ S4x2x128x512.size a := by decide
theorem squeezes_S1x1x128x512_S128x512 : S1x1x128x512.Squeezes S128x512 := by decide
theorem inb_S4x2_S1x1_1_0 : ∀ a, (![1, 0] : Fin 2 → Nat) a + S1x1.size a ≤ S4x2.size a := by decide
theorem inb_S4x2x128x512_S1x1x128x512_1_0_0_0 : ∀ a, (![1, 0, 0, 0] : Fin 4 → Nat) a + S1x1x128x512.size a ≤ S4x2x128x512.size a := by decide
theorem inb_S4x2_S1x1_2_0 : ∀ a, (![2, 0] : Fin 2 → Nat) a + S1x1.size a ≤ S4x2.size a := by decide
theorem inb_S4x2x128x512_S1x1x128x512_2_0_0_0 : ∀ a, (![2, 0, 0, 0] : Fin 4 → Nat) a + S1x1x128x512.size a ≤ S4x2x128x512.size a := by decide
theorem inb_S4x2_S1x1_3_0 : ∀ a, (![3, 0] : Fin 2 → Nat) a + S1x1.size a ≤ S4x2.size a := by decide
theorem inb_S4x2x128x512_S1x1x128x512_3_0_0_0 : ∀ a, (![3, 0, 0, 0] : Fin 4 → Nat) a + S1x1x128x512.size a ≤ S4x2x128x512.size a := by decide
theorem inb_S128x2048_S128x1024_0_0 : ∀ a, (![0, 0] : Fin 2 → Nat) a + S128x1024.size a ≤ S128x2048.size a := by decide
theorem h_S128x1024 : 0 < S128x1024.numel := by decide
theorem shapeCasts_S128x1024_S128x1024 : S128x1024.ShapeCasts S128x1024 := by decide
theorem inb_S128x2048_S128x1024_0_1024 : ∀ a, (![0, 1024] : Fin 2 → Nat) a + S128x1024.size a ≤ S128x2048.size a := by decide
theorem h_S128x512 : 0 < S128x512.numel := by decide
theorem shapeCasts_S128x512_S128x512 : S128x512.ShapeCasts S128x512 := by decide
theorem h_S1x1x128x512 : 0 < S1x1x128x512.numel := by decide
theorem shapeCasts_S1x1x128x512_S128x512 : S1x1x128x512.ShapeCasts S128x512 := by decide
theorem inb_S4_S1_0 : ∀ a, (![0] : Fin 1 → Nat) a + S1.size a ≤ S4.size a := by decide
theorem squeezes_S1_S_ : S1.Squeezes S_ := by decide
theorem inb_S4x2_S1x1_0_1 : ∀ a, (![0, 1] : Fin 2 → Nat) a + S1x1.size a ≤ S4x2.size a := by decide
theorem inb_S4x2x128x512_S1x1x128x512_0_1_0_0 : ∀ a, (![0, 1, 0, 0] : Fin 4 → Nat) a + S1x1x128x512.size a ≤ S4x2x128x512.size a := by decide
theorem inb_S4_S1_1 : ∀ a, (![1] : Fin 1 → Nat) a + S1.size a ≤ S4.size a := by decide
theorem inb_S4x2_S1x1_1_1 : ∀ a, (![1, 1] : Fin 2 → Nat) a + S1x1.size a ≤ S4x2.size a := by decide
theorem inb_S4x2x128x512_S1x1x128x512_1_1_0_0 : ∀ a, (![1, 1, 0, 0] : Fin 4 → Nat) a + S1x1x128x512.size a ≤ S4x2x128x512.size a := by decide
theorem inb_S4_S1_2 : ∀ a, (![2] : Fin 1 → Nat) a + S1.size a ≤ S4.size a := by decide
theorem inb_S4x2_S1x1_2_1 : ∀ a, (![2, 1] : Fin 2 → Nat) a + S1x1.size a ≤ S4x2.size a := by decide
theorem inb_S4x2x128x512_S1x1x128x512_2_1_0_0 : ∀ a, (![2, 1, 0, 0] : Fin 4 → Nat) a + S1x1x128x512.size a ≤ S4x2x128x512.size a := by decide
theorem inb_S4_S1_3 : ∀ a, (![3] : Fin 1 → Nat) a + S1.size a ≤ S4.size a := by decide
theorem inb_S4x2_S1x1_3_1 : ∀ a, (![3, 1] : Fin 2 → Nat) a + S1x1.size a ≤ S4x2.size a := by decide
theorem inb_S4x2x128x512_S1x1x128x512_3_1_0_0 : ∀ a, (![3, 1, 0, 0] : Fin 4 → Nat) a + S1x1x128x512.size a ≤ S4x2x128x512.size a := by decide
theorem shapeCasts_S128x1024_S1x128x1024 : S128x1024.ShapeCasts S1x128x1024 := by decide
theorem reduces_S1x128x1024_S1 : S1x128x1024.Reduces [1, 2] S1 := by decide
theorem shapeCasts_S1_S1x1x1 : S1.ShapeCasts S1x1x1 := by decide
theorem inpos_S1x1x1_p0_0_0 : ∀ a, (![0, 0, 0] : Fin 3 → Nat) a < S1x1x1.size a := by decide
theorem h_S1x128 : 0 < S1x128.numel := by decide
theorem shapeCasts_S1x128_S1x128 : S1x128.ShapeCasts S1x128 := by decide
theorem inb_S1_S1_0 : ∀ a, (![0] : Fin 1 → Nat) a + S1.size a ≤ S1.size a := by decide
theorem inb_S32x128_S32x128_0_0 : ∀ a, (![0, 0] : Fin 2 → Nat) a + S32x128.size a ≤ S32x128.size a := by decide
theorem h_S32x128 : 0 < S32x128.numel := by decide
theorem shapeCasts_S32x128_S1x32x128 : S32x128.ShapeCasts S1x32x128 := by decide
theorem reduces_S1x32x128_S1 : S1x32x128.Reduces [1, 2] S1 := by decide
theorem bitsLt_fp8e4m3_f32 : FTy.bits .fp8e4m3 < FTy.bits .f32 := by decide
theorem dot_S128x128_S128x2048_S128x2048_1_0_0_1_n_n_wf : DotDims.WF S128x128 S128x2048 S128x2048 [1] [0] [0] [1] [] [] := by decide
theorem dot_S128x128_S128x1024_S128x1024_1_0_0_1_n_n_wf : DotDims.WF S128x128 S128x1024 S128x1024 [1] [0] [0] [1] [] [] := by decide
theorem hcc0_scratch5 : 0 + S4.numel ≤ 9 := by decide
theorem hcc0_scratch10 : 4 + S4.numel ≤ 9 := by decide
theorem hcc0_scratch3 : 3 + S4x2.numel ≤ 37 := by decide
theorem hcc0_scratch4 : 11 + S4x2.numel ≤ 37 := by decide
theorem hcc0_scratch6 : 19 + S1.numel ≤ 37 := by decide
theorem hcc0_scratch7 : 20 + S1.numel ≤ 37 := by decide
theorem hcc0_scratch8 : 21 + S4x2.numel ≤ 37 := by decide
theorem hcc0_scratch9 : 29 + S4x2.numel ≤ 37 := by decide
theorem k0_dev1_lt : ∀ d0 : Dev nD, (k0_dev1 d0) < nD := by decide +kernel
theorem k0_dev2_lt : ∀ d0 : Dev nD, (k0_dev2 d0) < nD := by decide +kernel
theorem k0_off1_inb : ∀ d0 : Dev nD, ∀ a, (k0_off1 d0) a + S128x128.size a ≤ S4096x128.size a := by decide +kernel
theorem k0_off2_inb : ∀ d0 : Dev nD, ∀ a, (k0_off2 d0) a + S128x2048.size a ≤ S4096x2048.size a := by decide +kernel
theorem k0_off3_inb : ∀ d0 : Dev nD, ∀ (r : Fin 31), ∀ a, (k0_off3 d0 (BitVec.ofNat 32 r.val)) a + S128x512.size a ≤ S4096x2048.size a := by decide +kernel
theorem k0_dev3_lt : ∀ d0 : Dev nD, (k0_dev3 d0) < nD := by decide +kernel
theorem k0_off4_inb : ∀ d0 : Dev nD, ∀ (r : Fin 31), ∀ a, (k0_off4 d0 (BitVec.ofNat 32 r.val)) a + S128x512.size a ≤ S4096x2048.size a := by decide +kernel
theorem k0_dev4_lt : ∀ d0 : Dev nD, (k0_dev4 d0) < nD := by decide +kernel
theorem k0_off5_inb : ∀ d0 : Dev nD, ∀ (r : Fin 31), ∀ a, (k0_off5 d0 (BitVec.ofNat 32 r.val)) a + S128x512.size a ≤ S4096x2048.size a := by decide +kernel
theorem k0_dev5_lt : ∀ d0 : Dev nD, (k0_dev5 d0) < nD := by decide +kernel
theorem k0_off6_inb : ∀ d0 : Dev nD, ∀ (r : Fin 31), ∀ a, (k0_off6 d0 (BitVec.ofNat 32 r.val)) a + S128x512.size a ≤ S4096x2048.size a := by decide +kernel
theorem k0_dev6_lt : ∀ d0 : Dev nD, (k0_dev6 d0) < nD := by decide +kernel
theorem k0_off7_inb : ∀ d0 : Dev nD, ∀ (r : Fin 31), ∀ a, (k0_off7 d0 (BitVec.ofNat 32 r.val)) a + S128x128.size a ≤ S4096x128.size a := by decide +kernel
theorem k0_off8_inb : ∀ d0 : Dev nD, ∀ (r : Fin 31), ∀ a, (k0_off8 d0 (BitVec.ofNat 32 r.val)) a + S128x1024.size a ≤ S4096x2048.size a := by decide +kernel
theorem k0_off9_inb : ∀ d0 : Dev nD, ∀ (r : Fin 31), ∀ a, (k0_off9 d0 (BitVec.ofNat 32 r.val)) a + S128x128.size a ≤ S4096x128.size a := by decide +kernel
theorem k0_off10_inb : ∀ d0 : Dev nD, ∀ (r : Fin 31), ∀ a, (k0_off10 d0 (BitVec.ofNat 32 r.val)) a + S128x1024.size a ≤ S4096x2048.size a := by decide +kernel
theorem k0_off11_inb : ∀ d0 : Dev nD, ∀ (r : Fin 31), ∀ a, (k0_off11 d0 (BitVec.ofNat 32 r.val)) a + S128x512.size a ≤ S4096x2048.size a := by decide +kernel
theorem k0_dev7_lt : ∀ d0 : Dev nD, (k0_dev7 d0) < nD := by decide +kernel
theorem k0_dev8_lt : ∀ d0 : Dev nD, (k0_dev8 d0) < nD := by decide +kernel
theorem k0_off12_inb : ∀ d0 : Dev nD, ∀ (r : Fin 31), ∀ a, (k0_off12 d0 (BitVec.ofNat 32 r.val)) a + S128x512.size a ≤ S4096x2048.size a := by decide +kernel
theorem k0_dev9_lt : ∀ d0 : Dev nD, (k0_dev9 d0) < nD := by decide +kernel
theorem k0_dev10_lt : ∀ d0 : Dev nD, (k0_dev10 d0) < nD := by decide +kernel
theorem k0_off13_inb : ∀ d0 : Dev nD, ∀ (r : Fin 31), ∀ a, (k0_off13 d0 (BitVec.ofNat 32 r.val)) a + S128x512.size a ≤ S4096x2048.size a := by decide +kernel
theorem k0_dev11_lt : ∀ d0 : Dev nD, (k0_dev11 d0) < nD := by decide +kernel
theorem k0_dev12_lt : ∀ d0 : Dev nD, (k0_dev12 d0) < nD := by decide +kernel
theorem k0_off14_inb : ∀ d0 : Dev nD, ∀ (r : Fin 31), ∀ a, (k0_off14 d0 (BitVec.ofNat 32 r.val)) a + S128x512.size a ≤ S4096x2048.size a := by decide +kernel
theorem k0_dev13_lt : ∀ d0 : Dev nD, (k0_dev13 d0) < nD := by decide +kernel
theorem k0_dev14_lt : ∀ d0 : Dev nD, (k0_dev14 d0) < nD := by decide +kernel
theorem k0_dev15_lt : ∀ d0 : Dev nD, (k0_dev15 d0) < nD := by decide +kernel
theorem k0_dev16_lt : ∀ d0 : Dev nD, (k0_dev16 d0) < nD := by decide +kernel
theorem k0_dev17_lt : ∀ d0 : Dev nD, (k0_dev17 d0) < nD := by decide +kernel
theorem k0_dev18_lt : ∀ d0 : Dev nD, (k0_dev18 d0) < nD := by decide +kernel
theorem k0_dev19_lt : ∀ d0 : Dev nD, (k0_dev19 d0) < nD := by decide +kernel
theorem k0_dev20_lt : ∀ d0 : Dev nD, (k0_dev20 d0) < nD := by decide +kernel
theorem k0_dev21_lt : ∀ d0 : Dev nD, (k0_dev21 d0) < nD := by decide +kernel
theorem k0_dev22_lt : ∀ d0 : Dev nD, (k0_dev22 d0) < nD := by decide +kernel
theorem k0_dev23_lt : ∀ d0 : Dev nD, (k0_dev23 d0) < nD := by decide +kernel
theorem k0_dev24_lt : ∀ d0 : Dev nD, (k0_dev24 d0) < nD := by decide +kernel
theorem k0_dev25_lt : ∀ d0 : Dev nD, (k0_dev25 d0) < nD := by decide +kernel
theorem k0_dev26_lt : ∀ d0 : Dev nD, (k0_dev26 d0) < nD := by decide +kernel
theorem k0_dev27_lt : ∀ d0 : Dev nD, (k0_dev27 d0) < nD := by decide +kernel
theorem k0_dev28_lt : ∀ d0 : Dev nD, (k0_dev28 d0) < nD := by decide +kernel
theorem k0_dev29_lt : ∀ d0 : Dev nD, (k0_dev29 d0) < nD := by decide +kernel
theorem k0_dev30_lt : ∀ d0 : Dev nD, (k0_dev30 d0) < nD := by decide +kernel
theorem k0_dev31_lt : ∀ d0 : Dev nD, (k0_dev31 d0) < nD := by decide +kernel
theorem k0_dev32_lt : ∀ d0 : Dev nD, (k0_dev32 d0) < nD := by decide +kernel
theorem k0_dev33_lt : ∀ d0 : Dev nD, (k0_dev33 d0) < nD := by decide +kernel
theorem k0_dev34_lt : ∀ d0 : Dev nD, (k0_dev34 d0) < nD := by decide +kernel
theorem k0_dev35_lt : ∀ d0 : Dev nD, (k0_dev35 d0) < nD := by decide +kernel
theorem k0_dev36_lt : ∀ d0 : Dev nD, (k0_dev36 d0) < nD := by decide +kernel
theorem k0_dev37_lt : ∀ d0 : Dev nD, (k0_dev37 d0) < nD := by decide +kernel
theorem k0_dev38_lt : ∀ d0 : Dev nD, (k0_dev38 d0) < nD := by decide +kernel
theorem k0_dev39_lt : ∀ d0 : Dev nD, (k0_dev39 d0) < nD := by decide +kernel
theorem k0_dev40_lt : ∀ d0 : Dev nD, (k0_dev40 d0) < nD := by decide +kernel
theorem k0_dev41_lt : ∀ d0 : Dev nD, (k0_dev41 d0) < nD := by decide +kernel
theorem k0_dev42_lt : ∀ d0 : Dev nD, (k0_dev42 d0) < nD := by decide +kernel
theorem k0_dev43_lt : ∀ d0 : Dev nD, (k0_dev43 d0) < nD := by decide +kernel
theorem k0_dev44_lt : ∀ d0 : Dev nD, (k0_dev44 d0) < nD := by decide +kernel
theorem k0_dev45_lt : ∀ d0 : Dev nD, (k0_dev45 d0) < nD := by decide +kernel
theorem k0_dev46_lt : ∀ d0 : Dev nD, (k0_dev46 d0) < nD := by decide +kernel
theorem k0_dev47_lt : ∀ d0 : Dev nD, (k0_dev47 d0) < nD := by decide +kernel
theorem k0_dev48_lt : ∀ d0 : Dev nD, (k0_dev48 d0) < nD := by decide +kernel
theorem k0_dev49_lt : ∀ d0 : Dev nD, (k0_dev49 d0) < nD := by decide +kernel
theorem k0_dev50_lt : ∀ d0 : Dev nD, (k0_dev50 d0) < nD := by decide +kernel
theorem k0_dev51_lt : ∀ d0 : Dev nD, (k0_dev51 d0) < nD := by decide +kernel
theorem k0_dev52_lt : ∀ d0 : Dev nD, (k0_dev52 d0) < nD := by decide +kernel
theorem k0_dev53_lt : ∀ d0 : Dev nD, (k0_dev53 d0) < nD := by decide +kernel
theorem k0_dev54_lt : ∀ d0 : Dev nD, (k0_dev54 d0) < nD := by decide +kernel
theorem k0_dev55_lt : ∀ d0 : Dev nD, (k0_dev55 d0) < nD := by decide +kernel
theorem k0_dev56_lt : ∀ d0 : Dev nD, (k0_dev56 d0) < nD := by decide +kernel
theorem k0_dev57_lt : ∀ d0 : Dev nD, (k0_dev57 d0) < nD := by decide +kernel
theorem k0_dev58_lt : ∀ d0 : Dev nD, (k0_dev58 d0) < nD := by decide +kernel
theorem k0_dev59_lt : ∀ d0 : Dev nD, (k0_dev59 d0) < nD := by decide +kernel
theorem k0_dev60_lt : ∀ d0 : Dev nD, (k0_dev60 d0) < nD := by decide +kernel
theorem k0_dev61_lt : ∀ d0 : Dev nD, (k0_dev61 d0) < nD := by decide +kernel
theorem k0_dev62_lt : ∀ d0 : Dev nD, (k0_dev62 d0) < nD := by decide +kernel
theorem k0_dev63_lt : ∀ d0 : Dev nD, (k0_dev63 d0) < nD := by decide +kernel
theorem k0_dev64_lt : ∀ d0 : Dev nD, (k0_dev64 d0) < nD := by decide +kernel
theorem k0_dev65_lt : ∀ d0 : Dev nD, (k0_dev65 d0) < nD := by decide +kernel
theorem k0_dev66_lt : ∀ d0 : Dev nD, (k0_dev66 d0) < nD := by decide +kernel
theorem k0_dev67_lt : ∀ d0 : Dev nD, (k0_dev67 d0) < nD := by decide +kernel
theorem k0_dev68_lt : ∀ d0 : Dev nD, (k0_dev68 d0) < nD := by decide +kernel
theorem k0_dev69_lt : ∀ d0 : Dev nD, (k0_dev69 d0) < nD := by decide +kernel
theorem k0_dev70_lt : ∀ d0 : Dev nD, (k0_dev70 d0) < nD := by decide +kernel
theorem k0_dev71_lt : ∀ d0 : Dev nD, (k0_dev71 d0) < nD := by decide +kernel
theorem k0_dev72_lt : ∀ d0 : Dev nD, (k0_dev72 d0) < nD := by decide +kernel
theorem k0_dev73_lt : ∀ d0 : Dev nD, (k0_dev73 d0) < nD := by decide +kernel
theorem k0_dev74_lt : ∀ d0 : Dev nD, (k0_dev74 d0) < nD := by decide +kernel
theorem k0_dev75_lt : ∀ d0 : Dev nD, (k0_dev75 d0) < nD := by decide +kernel
theorem k0_dev76_lt : ∀ d0 : Dev nD, (k0_dev76 d0) < nD := by decide +kernel
theorem k0_dev77_lt : ∀ d0 : Dev nD, (k0_dev77 d0) < nD := by decide +kernel
theorem k0_dev78_lt : ∀ d0 : Dev nD, (k0_dev78 d0) < nD := by decide +kernel
theorem k0_dev79_lt : ∀ d0 : Dev nD, (k0_dev79 d0) < nD := by decide +kernel
theorem k0_dev80_lt : ∀ d0 : Dev nD, (k0_dev80 d0) < nD := by decide +kernel
theorem k0_dev81_lt : ∀ d0 : Dev nD, (k0_dev81 d0) < nD := by decide +kernel
theorem k0_dev82_lt : ∀ d0 : Dev nD, (k0_dev82 d0) < nD := by decide +kernel
theorem k0_dev83_lt : ∀ d0 : Dev nD, (k0_dev83 d0) < nD := by decide +kernel
theorem k0_dev84_lt : ∀ d0 : Dev nD, (k0_dev84 d0) < nD := by decide +kernel
theorem k0_dev85_lt : ∀ d0 : Dev nD, (k0_dev85 d0) < nD := by decide +kernel
theorem k0_dev86_lt : ∀ d0 : Dev nD, (k0_dev86 d0) < nD := by decide +kernel
theorem k0_dev87_lt : ∀ d0 : Dev nD, (k0_dev87 d0) < nD := by decide +kernel
theorem k0_dev88_lt : ∀ d0 : Dev nD, (k0_dev88 d0) < nD := by decide +kernel
theorem k0_dev89_lt : ∀ d0 : Dev nD, (k0_dev89 d0) < nD := by decide +kernel
theorem k0_dev90_lt : ∀ d0 : Dev nD, (k0_dev90 d0) < nD := by decide +kernel
theorem k0_dev91_lt : ∀ d0 : Dev nD, (k0_dev91 d0) < nD := by decide +kernel
theorem k0_dev92_lt : ∀ d0 : Dev nD, (k0_dev92 d0) < nD := by decide +kernel
theorem k0_dev93_lt : ∀ d0 : Dev nD, (k0_dev93 d0) < nD := by decide +kernel
theorem k0_dev94_lt : ∀ d0 : Dev nD, (k0_dev94 d0) < nD := by decide +kernel
theorem k0_dev95_lt : ∀ d0 : Dev nD, (k0_dev95 d0) < nD := by decide +kernel
theorem k0_dev96_lt : ∀ d0 : Dev nD, (k0_dev96 d0) < nD := by decide +kernel
theorem k0_dev97_lt : ∀ d0 : Dev nD, (k0_dev97 d0) < nD := by decide +kernel
theorem k0_dev98_lt : ∀ d0 : Dev nD, (k0_dev98 d0) < nD := by decide +kernel
theorem k0_dev99_lt : ∀ d0 : Dev nD, (k0_dev99 d0) < nD := by decide +kernel
theorem k0_dev100_lt : ∀ d0 : Dev nD, (k0_dev100 d0) < nD := by decide +kernel
theorem k0_dev101_lt : ∀ d0 : Dev nD, (k0_dev101 d0) < nD := by decide +kernel
theorem k0_dev102_lt : ∀ d0 : Dev nD, (k0_dev102 d0) < nD := by decide +kernel
theorem k0_dev103_lt : ∀ d0 : Dev nD, (k0_dev103 d0) < nD := by decide +kernel
theorem k0_dev104_lt : ∀ d0 : Dev nD, (k0_dev104 d0) < nD := by decide +kernel
theorem k0_dev105_lt : ∀ d0 : Dev nD, (k0_dev105 d0) < nD := by decide +kernel
theorem k0_dev106_lt : ∀ d0 : Dev nD, (k0_dev106 d0) < nD := by decide +kernel
theorem k0_dev107_lt : ∀ d0 : Dev nD, (k0_dev107 d0) < nD := by decide +kernel
theorem k0_dev108_lt : ∀ d0 : Dev nD, (k0_dev108 d0) < nD := by decide +kernel
theorem k0_dev109_lt : ∀ d0 : Dev nD, (k0_dev109 d0) < nD := by decide +kernel
theorem k0_dev110_lt : ∀ d0 : Dev nD, (k0_dev110 d0) < nD := by decide +kernel
theorem k0_dev111_lt : ∀ d0 : Dev nD, (k0_dev111 d0) < nD := by decide +kernel
theorem k0_dev112_lt : ∀ d0 : Dev nD, (k0_dev112 d0) < nD := by decide +kernel
theorem k0_dev113_lt : ∀ d0 : Dev nD, (k0_dev113 d0) < nD := by decide +kernel
theorem k0_dev114_lt : ∀ d0 : Dev nD, (k0_dev114 d0) < nD := by decide +kernel
theorem k0_dev115_lt : ∀ d0 : Dev nD, (k0_dev115 d0) < nD := by decide +kernel
theorem k0_dev116_lt : ∀ d0 : Dev nD, (k0_dev116 d0) < nD := by decide +kernel
theorem k0_dev117_lt : ∀ d0 : Dev nD, (k0_dev117 d0) < nD := by decide +kernel
theorem k0_dev118_lt : ∀ d0 : Dev nD, (k0_dev118 d0) < nD := by decide +kernel
theorem k0_dev119_lt : ∀ d0 : Dev nD, (k0_dev119 d0) < nD := by decide +kernel
theorem k0_dev120_lt : ∀ d0 : Dev nD, (k0_dev120 d0) < nD := by decide +kernel
theorem k0_dev121_lt : ∀ d0 : Dev nD, (k0_dev121 d0) < nD := by decide +kernel
theorem k0_dev122_lt : ∀ d0 : Dev nD, (k0_dev122 d0) < nD := by decide +kernel
theorem k0_dev123_lt : ∀ d0 : Dev nD, (k0_dev123 d0) < nD := by decide +kernel
theorem k0_dev124_lt : ∀ d0 : Dev nD, (k0_dev124 d0) < nD := by decide +kernel
theorem k0_dev125_lt : ∀ d0 : Dev nD, (k0_dev125 d0) < nD := by decide +kernel
theorem k0_dev126_lt : ∀ d0 : Dev nD, (k0_dev126 d0) < nD := by decide +kernel
theorem k0_dev127_lt : ∀ d0 : Dev nD, (k0_dev127 d0) < nD := by decide +kernel
theorem k0_dev128_lt : ∀ d0 : Dev nD, (k0_dev128 d0) < nD := by decide +kernel
theorem k0_dev129_lt : ∀ d0 : Dev nD, (k0_dev129 d0) < nD := by decide +kernel
theorem k0_dev130_lt : ∀ d0 : Dev nD, (k0_dev130 d0) < nD := by decide +kernel
theorem k0_dev131_lt : ∀ d0 : Dev nD, (k0_dev131 d0) < nD := by decide +kernel
theorem k0_dev132_lt : ∀ d0 : Dev nD, (k0_dev132 d0) < nD := by decide +kernel
theorem k0_dev133_lt : ∀ d0 : Dev nD, (k0_dev133 d0) < nD := by decide +kernel
theorem k0_dev134_lt : ∀ d0 : Dev nD, (k0_dev134 d0) < nD := by decide +kernel
theorem k0_dev135_lt : ∀ d0 : Dev nD, (k0_dev135 d0) < nD := by decide +kernel
theorem k0_dev136_lt : ∀ d0 : Dev nD, (k0_dev136 d0) < nD := by decide +kernel
theorem k0_dev137_lt : ∀ d0 : Dev nD, (k0_dev137 d0) < nD := by decide +kernel
theorem k0_dev138_lt : ∀ d0 : Dev nD, (k0_dev138 d0) < nD := by decide +kernel
theorem k0_dev139_lt : ∀ d0 : Dev nD, (k0_dev139 d0) < nD := by decide +kernel
theorem k0_dev140_lt : ∀ d0 : Dev nD, (k0_dev140 d0) < nD := by decide +kernel
theorem k0_dev141_lt : ∀ d0 : Dev nD, (k0_dev141 d0) < nD := by decide +kernel
theorem k0_dev142_lt : ∀ d0 : Dev nD, (k0_dev142 d0) < nD := by decide +kernel
theorem k0_dev143_lt : ∀ d0 : Dev nD, (k0_dev143 d0) < nD := by decide +kernel
theorem k0_dev144_lt : ∀ d0 : Dev nD, (k0_dev144 d0) < nD := by decide +kernel
theorem k0_dev145_lt : ∀ d0 : Dev nD, (k0_dev145 d0) < nD := by decide +kernel
theorem k0_dev146_lt : ∀ d0 : Dev nD, (k0_dev146 d0) < nD := by decide +kernel
theorem k0_dev147_lt : ∀ d0 : Dev nD, (k0_dev147 d0) < nD := by decide +kernel
theorem k0_dev148_lt : ∀ d0 : Dev nD, (k0_dev148 d0) < nD := by decide +kernel
theorem k0_dev149_lt : ∀ d0 : Dev nD, (k0_dev149 d0) < nD := by decide +kernel
theorem k0_dev150_lt : ∀ d0 : Dev nD, (k0_dev150 d0) < nD := by decide +kernel
theorem k0_dev151_lt : ∀ d0 : Dev nD, (k0_dev151 d0) < nD := by decide +kernel
theorem k0_dev152_lt : ∀ d0 : Dev nD, (k0_dev152 d0) < nD := by decide +kernel
theorem k0_dev153_lt : ∀ d0 : Dev nD, (k0_dev153 d0) < nD := by decide +kernel
theorem k0_dev154_lt : ∀ d0 : Dev nD, (k0_dev154 d0) < nD := by decide +kernel
theorem k0_dev155_lt : ∀ d0 : Dev nD, (k0_dev155 d0) < nD := by decide +kernel
theorem k0_dev156_lt : ∀ d0 : Dev nD, (k0_dev156 d0) < nD := by decide +kernel
theorem k0_dev157_lt : ∀ d0 : Dev nD, (k0_dev157 d0) < nD := by decide +kernel
theorem k0_dev158_lt : ∀ d0 : Dev nD, (k0_dev158 d0) < nD := by decide +kernel
theorem k0_dev159_lt : ∀ d0 : Dev nD, (k0_dev159 d0) < nD := by decide +kernel
theorem k0_dev160_lt : ∀ d0 : Dev nD, (k0_dev160 d0) < nD := by decide +kernel
theorem k0_dev161_lt : ∀ d0 : Dev nD, (k0_dev161 d0) < nD := by decide +kernel
theorem k0_dev162_lt : ∀ d0 : Dev nD, (k0_dev162 d0) < nD := by decide +kernel
theorem k0_dev163_lt : ∀ d0 : Dev nD, (k0_dev163 d0) < nD := by decide +kernel
theorem k0_dev164_lt : ∀ d0 : Dev nD, (k0_dev164 d0) < nD := by decide +kernel
theorem k0_dev165_lt : ∀ d0 : Dev nD, (k0_dev165 d0) < nD := by decide +kernel
theorem k0_dev166_lt : ∀ d0 : Dev nD, (k0_dev166 d0) < nD := by decide +kernel
theorem k0_dev167_lt : ∀ d0 : Dev nD, (k0_dev167 d0) < nD := by decide +kernel
theorem k0_dev168_lt : ∀ d0 : Dev nD, (k0_dev168 d0) < nD := by decide +kernel
theorem k0_dev169_lt : ∀ d0 : Dev nD, (k0_dev169 d0) < nD := by decide +kernel
theorem k0_dev170_lt : ∀ d0 : Dev nD, (k0_dev170 d0) < nD := by decide +kernel
theorem k0_dev171_lt : ∀ d0 : Dev nD, (k0_dev171 d0) < nD := by decide +kernel
theorem k0_dev172_lt : ∀ d0 : Dev nD, (k0_dev172 d0) < nD := by decide +kernel
theorem k0_dev173_lt : ∀ d0 : Dev nD, (k0_dev173 d0) < nD := by decide +kernel
theorem k0_dev174_lt : ∀ d0 : Dev nD, (k0_dev174 d0) < nD := by decide +kernel
theorem k0_dev175_lt : ∀ d0 : Dev nD, (k0_dev175 d0) < nD := by decide +kernel
theorem k0_dev176_lt : ∀ d0 : Dev nD, (k0_dev176 d0) < nD := by decide +kernel
theorem k0_dev177_lt : ∀ d0 : Dev nD, (k0_dev177 d0) < nD := by decide +kernel
theorem k0_dev178_lt : ∀ d0 : Dev nD, (k0_dev178 d0) < nD := by decide +kernel
theorem k0_dev179_lt : ∀ d0 : Dev nD, (k0_dev179 d0) < nD := by decide +kernel
theorem k0_dev180_lt : ∀ d0 : Dev nD, (k0_dev180 d0) < nD := by decide +kernel
theorem k0_dev181_lt : ∀ d0 : Dev nD, (k0_dev181 d0) < nD := by decide +kernel
theorem k0_dev182_lt : ∀ d0 : Dev nD, (k0_dev182 d0) < nD := by decide +kernel
theorem k0_dev183_lt : ∀ d0 : Dev nD, (k0_dev183 d0) < nD := by decide +kernel
theorem k0_dev184_lt : ∀ d0 : Dev nD, (k0_dev184 d0) < nD := by decide +kernel
theorem k0_dev185_lt : ∀ d0 : Dev nD, (k0_dev185 d0) < nD := by decide +kernel
theorem k0_dev186_lt : ∀ d0 : Dev nD, (k0_dev186 d0) < nD := by decide +kernel
theorem k0_dev187_lt : ∀ d0 : Dev nD, (k0_dev187 d0) < nD := by decide +kernel
theorem k0_dev188_lt : ∀ d0 : Dev nD, (k0_dev188 d0) < nD := by decide +kernel
theorem k0_dev189_lt : ∀ d0 : Dev nD, (k0_dev189 d0) < nD := by decide +kernel
theorem k0_dev190_lt : ∀ d0 : Dev nD, (k0_dev190 d0) < nD := by decide +kernel
theorem k0_dev191_lt : ∀ d0 : Dev nD, (k0_dev191 d0) < nD := by decide +kernel
theorem k0_dev192_lt : ∀ d0 : Dev nD, (k0_dev192 d0) < nD := by decide +kernel
theorem k0_dev193_lt : ∀ d0 : Dev nD, (k0_dev193 d0) < nD := by decide +kernel
theorem k0_dev194_lt : ∀ d0 : Dev nD, (k0_dev194 d0) < nD := by decide +kernel
theorem k0_dev195_lt : ∀ d0 : Dev nD, (k0_dev195 d0) < nD := by decide +kernel
theorem k0_dev196_lt : ∀ d0 : Dev nD, (k0_dev196 d0) < nD := by decide +kernel
theorem k0_dev197_lt : ∀ d0 : Dev nD, (k0_dev197 d0) < nD := by decide +kernel
theorem k0_dev198_lt : ∀ d0 : Dev nD, (k0_dev198 d0) < nD := by decide +kernel
theorem k0_dev199_lt : ∀ d0 : Dev nD, (k0_dev199 d0) < nD := by decide +kernel
theorem k0_dev200_lt : ∀ d0 : Dev nD, (k0_dev200 d0) < nD := by decide +kernel
theorem k0_dev201_lt : ∀ d0 : Dev nD, (k0_dev201 d0) < nD := by decide +kernel
theorem k0_dev202_lt : ∀ d0 : Dev nD, (k0_dev202 d0) < nD := by decide +kernel
theorem k0_dev203_lt : ∀ d0 : Dev nD, (k0_dev203 d0) < nD := by decide +kernel
theorem k0_dev204_lt : ∀ d0 : Dev nD, (k0_dev204 d0) < nD := by decide +kernel
theorem k0_dev205_lt : ∀ d0 : Dev nD, (k0_dev205 d0) < nD := by decide +kernel
theorem k0_dev206_lt : ∀ d0 : Dev nD, (k0_dev206 d0) < nD := by decide +kernel
theorem k0_dev207_lt : ∀ d0 : Dev nD, (k0_dev207 d0) < nD := by decide +kernel
theorem k0_dev208_lt : ∀ d0 : Dev nD, (k0_dev208 d0) < nD := by decide +kernel
theorem k0_dev209_lt : ∀ d0 : Dev nD, (k0_dev209 d0) < nD := by decide +kernel
theorem k0_dev210_lt : ∀ d0 : Dev nD, (k0_dev210 d0) < nD := by decide +kernel
theorem k0_dev211_lt : ∀ d0 : Dev nD, (k0_dev211 d0) < nD := by decide +kernel
theorem k0_dev212_lt : ∀ d0 : Dev nD, (k0_dev212 d0) < nD := by decide +kernel
theorem k0_dev213_lt : ∀ d0 : Dev nD, (k0_dev213 d0) < nD := by decide +kernel
theorem k0_dev214_lt : ∀ d0 : Dev nD, (k0_dev214 d0) < nD := by decide +kernel
theorem k0_dev215_lt : ∀ d0 : Dev nD, (k0_dev215 d0) < nD := by decide +kernel
theorem k0_dev216_lt : ∀ d0 : Dev nD, (k0_dev216 d0) < nD := by decide +kernel
theorem k0_dev217_lt : ∀ d0 : Dev nD, (k0_dev217 d0) < nD := by decide +kernel
theorem k0_dev218_lt : ∀ d0 : Dev nD, (k0_dev218 d0) < nD := by decide +kernel
theorem k0_dev219_lt : ∀ d0 : Dev nD, (k0_dev219 d0) < nD := by decide +kernel
theorem k0_dev220_lt : ∀ d0 : Dev nD, (k0_dev220 d0) < nD := by decide +kernel
theorem k0_dev221_lt : ∀ d0 : Dev nD, (k0_dev221 d0) < nD := by decide +kernel
theorem k0_dev222_lt : ∀ d0 : Dev nD, (k0_dev222 d0) < nD := by decide +kernel
theorem k0_dev223_lt : ∀ d0 : Dev nD, (k0_dev223 d0) < nD := by decide +kernel
theorem k0_dev224_lt : ∀ d0 : Dev nD, (k0_dev224 d0) < nD := by decide +kernel
theorem k0_dev225_lt : ∀ d0 : Dev nD, (k0_dev225 d0) < nD := by decide +kernel
theorem k0_dev226_lt : ∀ d0 : Dev nD, (k0_dev226 d0) < nD := by decide +kernel
theorem k0_dev227_lt : ∀ d0 : Dev nD, (k0_dev227 d0) < nD := by decide +kernel
theorem k0_dev228_lt : ∀ d0 : Dev nD, (k0_dev228 d0) < nD := by decide +kernel
theorem k0_dev229_lt : ∀ d0 : Dev nD, (k0_dev229 d0) < nD := by decide +kernel
theorem k0_dev230_lt : ∀ d0 : Dev nD, (k0_dev230 d0) < nD := by decide +kernel
theorem k0_dev231_lt : ∀ d0 : Dev nD, (k0_dev231 d0) < nD := by decide +kernel
theorem k0_dev232_lt : ∀ d0 : Dev nD, (k0_dev232 d0) < nD := by decide +kernel
theorem k0_dev233_lt : ∀ d0 : Dev nD, (k0_dev233 d0) < nD := by decide +kernel
theorem k0_dev234_lt : ∀ d0 : Dev nD, (k0_dev234 d0) < nD := by decide +kernel
theorem k0_dev235_lt : ∀ d0 : Dev nD, (k0_dev235 d0) < nD := by decide +kernel
theorem k0_dev236_lt : ∀ d0 : Dev nD, (k0_dev236 d0) < nD := by decide +kernel
theorem k0_dev237_lt : ∀ d0 : Dev nD, (k0_dev237 d0) < nD := by decide +kernel
theorem k0_dev238_lt : ∀ d0 : Dev nD, (k0_dev238 d0) < nD := by decide +kernel
theorem k0_dev239_lt : ∀ d0 : Dev nD, (k0_dev239 d0) < nD := by decide +kernel
theorem k0_dev240_lt : ∀ d0 : Dev nD, (k0_dev240 d0) < nD := by decide +kernel
theorem k0_dev241_lt : ∀ d0 : Dev nD, (k0_dev241 d0) < nD := by decide +kernel
theorem k0_dev242_lt : ∀ d0 : Dev nD, (k0_dev242 d0) < nD := by decide +kernel
theorem k0_off15_inb : ∀ d0 : Dev nD, ∀ a, (k0_off15 d0) a + S128x1024.size a ≤ S4096x2048.size a := by decide +kernel
theorem k0_off16_inb : ∀ d0 : Dev nD, ∀ a, (k0_off16 d0) a + S128x1024.size a ≤ S4096x2048.size a := by decide +kernel
theorem k0_off17_inb : ∀ d0 : Dev nD, ∀ a, (k0_off17 d0) a + S1x128.size a ≤ S32x128.size a := by decide +kernel
theorem k0_off18_inb : ∀ d0 : Dev nD, ∀ a, (k0_off18 d0) a + S1x128.size a ≤ S32x128.size a := by decide +kernel
theorem k0_dev243_lt : ∀ d0 : Dev nD, (k0_dev243 d0) < nD := by decide +kernel
theorem k0_dev244_lt : ∀ d0 : Dev nD, (k0_dev244 d0) < nD := by decide +kernel
theorem k0_dev245_lt : ∀ d0 : Dev nD, (k0_dev245 d0) < nD := by decide +kernel
theorem k0_dev246_lt : ∀ d0 : Dev nD, (k0_dev246 d0) < nD := by decide +kernel
theorem k0_dev247_lt : ∀ d0 : Dev nD, (k0_dev247 d0) < nD := by decide +kernel
theorem k0_dev248_lt : ∀ d0 : Dev nD, (k0_dev248 d0) < nD := by decide +kernel
theorem k0_dev249_lt : ∀ d0 : Dev nD, (k0_dev249 d0) < nD := by decide +kernel
theorem k0_dev250_lt : ∀ d0 : Dev nD, (k0_dev250 d0) < nD := by decide +kernel
theorem k0_dev251_lt : ∀ d0 : Dev nD, (k0_dev251 d0) < nD := by decide +kernel
theorem k0_dev252_lt : ∀ d0 : Dev nD, (k0_dev252 d0) < nD := by decide +kernel
theorem k0_dev253_lt : ∀ d0 : Dev nD, (k0_dev253 d0) < nD := by decide +kernel
theorem k0_dev254_lt : ∀ d0 : Dev nD, (k0_dev254 d0) < nD := by decide +kernel
theorem k0_dev255_lt : ∀ d0 : Dev nD, (k0_dev255 d0) < nD := by decide +kernel
theorem k0_dev256_lt : ∀ d0 : Dev nD, (k0_dev256 d0) < nD := by decide +kernel
theorem k0_dev257_lt : ∀ d0 : Dev nD, (k0_dev257 d0) < nD := by decide +kernel
theorem k0_dev258_lt : ∀ d0 : Dev nD, (k0_dev258 d0) < nD := by decide +kernel
theorem k0_dev259_lt : ∀ d0 : Dev nD, (k0_dev259 d0) < nD := by decide +kernel
theorem k0_dev260_lt : ∀ d0 : Dev nD, (k0_dev260 d0) < nD := by decide +kernel
theorem k0_dev261_lt : ∀ d0 : Dev nD, (k0_dev261 d0) < nD := by decide +kernel
theorem k0_dev262_lt : ∀ d0 : Dev nD, (k0_dev262 d0) < nD := by decide +kernel
theorem k0_dev263_lt : ∀ d0 : Dev nD, (k0_dev263 d0) < nD := by decide +kernel
theorem k0_dev264_lt : ∀ d0 : Dev nD, (k0_dev264 d0) < nD := by decide +kernel
theorem k0_dev265_lt : ∀ d0 : Dev nD, (k0_dev265 d0) < nD := by decide +kernel
theorem k0_dev266_lt : ∀ d0 : Dev nD, (k0_dev266 d0) < nD := by decide +kernel
theorem k0_dev267_lt : ∀ d0 : Dev nD, (k0_dev267 d0) < nD := by decide +kernel
theorem k0_dev268_lt : ∀ d0 : Dev nD, (k0_dev268 d0) < nD := by decide +kernel
theorem k0_dev269_lt : ∀ d0 : Dev nD, (k0_dev269 d0) < nD := by decide +kernel
theorem k0_dev270_lt : ∀ d0 : Dev nD, (k0_dev270 d0) < nD := by decide +kernel
theorem k0_dev271_lt : ∀ d0 : Dev nD, (k0_dev271 d0) < nD := by decide +kernel
theorem k0_dev272_lt : ∀ d0 : Dev nD, (k0_dev272 d0) < nD := by decide +kernel
theorem k0_dev273_lt : ∀ d0 : Dev nD, (k0_dev273 d0) < nD := by decide +kernel
theorem k0_off15_packedfp8e4m3 : ∀ d0 : Dev nD, (Rect.unit (s := S4096x2048) (k0_off15 d0) S128x1024.size (k0_off15_inb d0)).PackedRows (EltTy.packing .fp8e4m3) := by decide +kernel
theorem k0_off16_packedfp8e4m3 : ∀ d0 : Dev nD, (Rect.unit (s := S4096x2048) (k0_off16 d0) S128x1024.size (k0_off16_inb d0)).PackedRows (EltTy.packing .fp8e4m3) := by decide +kernel
theorem k0_off19_inb : ∀ d0 : Dev nD, ∀ (r : Fin 16), ∀ a, (k0_off19 d0 (BitVec.ofNat 32 r.val)) a + S128x1024.size a ≤ S4096x2048.size a := by decide +kernel
theorem k0_off19_wordsfp8e4m3 : ∀ d0 : Dev nD, ∀ (r : Fin 16), (Rect.unit (s := S4096x2048) (k0_off19 d0 (BitVec.ofNat 32 r.val)) S128x1024.size (k0_off19_inb d0 r)).WholeWords (EltTy.packing .fp8e4m3) := by decide +kernel
theorem k0_dev274_lt : ∀ d0 : Dev nD, (k0_dev274 d0) < nD := by decide +kernel
theorem k0_off20_inb : ∀ d0 : Dev nD, ∀ (r : Fin 16), ∀ a, (k0_off20 d0 (BitVec.ofNat 32 r.val)) a + S128x1024.size a ≤ S4096x2048.size a := by decide +kernel
theorem k0_off20_wordsfp8e4m3 : ∀ d0 : Dev nD, ∀ (r : Fin 16), (Rect.unit (s := S4096x2048) (k0_off20 d0 (BitVec.ofNat 32 r.val)) S128x1024.size (k0_off20_inb d0 r)).WholeWords (EltTy.packing .fp8e4m3) := by decide +kernel
theorem k0_dev275_lt : ∀ d0 : Dev nD, (k0_dev275 d0) < nD := by decide +kernel
theorem k0_off21_inb : ∀ d0 : Dev nD, ∀ (r : Fin 15), ∀ a, (k0_off21 d0 (BitVec.ofNat 32 r.val)) a + S128x1024.size a ≤ S4096x2048.size a := by decide +kernel
theorem k0_off21_wordsfp8e4m3 : ∀ d0 : Dev nD, ∀ (r : Fin 15), (Rect.unit (s := S4096x2048) (k0_off21 d0 (BitVec.ofNat 32 r.val)) S128x1024.size (k0_off21_inb d0 r)).WholeWords (EltTy.packing .fp8e4m3) := by decide +kernel
theorem k0_dev276_lt : ∀ d0 : Dev nD, (k0_dev276 d0) < nD := by decide +kernel
theorem k0_off22_inb : ∀ d0 : Dev nD, ∀ (r : Fin 15), ∀ a, (k0_off22 d0 (BitVec.ofNat 32 r.val)) a + S128x1024.size a ≤ S4096x2048.size a := by decide +kernel
theorem k0_off22_wordsfp8e4m3 : ∀ d0 : Dev nD, ∀ (r : Fin 15), (Rect.unit (s := S4096x2048) (k0_off22 d0 (BitVec.ofNat 32 r.val)) S128x1024.size (k0_off22_inb d0 r)).WholeWords (EltTy.packing .fp8e4m3) := by decide +kernel
theorem k0_dev277_lt : ∀ d0 : Dev nD, (k0_dev277 d0) < nD := by decide +kernel
theorem k0_dev278_lt : ∀ d0 : Dev nD, (k0_dev278 d0) < nD := by decide +kernel
theorem k0_dev279_lt : ∀ d0 : Dev nD, (k0_dev279 d0) < nD := by decide +kernel
theorem k0_off23_inb : ∀ d0 : Dev nD, ∀ (r : Fin 16), ∀ a, (k0_off23 d0 (BitVec.ofNat 32 r.val)) a + S128x1024.size a ≤ S4096x2048.size a := by decide +kernel
theorem k0_dev280_lt : ∀ d0 : Dev nD, (k0_dev280 d0) < nD := by decide +kernel
theorem k0_dev281_lt : ∀ d0 : Dev nD, (k0_dev281 d0) < nD := by decide +kernel
theorem k0_off24_inb : ∀ d0 : Dev nD, ∀ (r : Fin 16), ∀ a, (k0_off24 d0 (BitVec.ofNat 32 r.val)) a + S128x1024.size a ≤ S4096x2048.size a := by decide +kernel
theorem k0_dev282_lt : ∀ d0 : Dev nD, (k0_dev282 d0) < nD := by decide +kernel
theorem k0_dev283_lt : ∀ d0 : Dev nD, (k0_dev283 d0) < nD := by decide +kernel
theorem k0_off25_inb : ∀ d0 : Dev nD, ∀ (r : Fin 15), ∀ a, (k0_off25 d0 (BitVec.ofNat 32 r.val)) a + S128x1024.size a ≤ S4096x2048.size a := by decide +kernel
theorem k0_dev284_lt : ∀ d0 : Dev nD, (k0_dev284 d0) < nD := by decide +kernel
theorem k0_dev285_lt : ∀ d0 : Dev nD, (k0_dev285 d0) < nD := by decide +kernel
theorem k0_off26_inb : ∀ d0 : Dev nD, ∀ (r : Fin 15), ∀ a, (k0_off26 d0 (BitVec.ofNat 32 r.val)) a + S128x1024.size a ≤ S4096x2048.size a := by decide +kernel
theorem k0_dev286_lt : ∀ d0 : Dev nD, (k0_dev286 d0) < nD := by decide +kernel
theorem k0_dev287_lt : ∀ d0 : Dev nD, (k0_dev287 d0) < nD := by decide +kernel
theorem k0_dev288_lt : ∀ d0 : Dev nD, (k0_dev288 d0) < nD := by decide +kernel
theorem k0_dev289_lt : ∀ d0 : Dev nD, (k0_dev289 d0) < nD := by decide +kernel
theorem k0_dev290_lt : ∀ d0 : Dev nD, (k0_dev290 d0) < nD := by decide +kernel
theorem k0_dev291_lt : ∀ d0 : Dev nD, (k0_dev291 d0) < nD := by decide +kernel
theorem k0_dev292_lt : ∀ d0 : Dev nD, (k0_dev292 d0) < nD := by decide +kernel
theorem k0_dev293_lt : ∀ d0 : Dev nD, (k0_dev293 d0) < nD := by decide +kernel
theorem k0_dev294_lt : ∀ d0 : Dev nD, (k0_dev294 d0) < nD := by decide +kernel
theorem k0_dev295_lt : ∀ d0 : Dev nD, (k0_dev295 d0) < nD := by decide +kernel
theorem k0_dev296_lt : ∀ d0 : Dev nD, (k0_dev296 d0) < nD := by decide +kernel
theorem k0_dev297_lt : ∀ d0 : Dev nD, (k0_dev297 d0) < nD := by decide +kernel
theorem k0_dev298_lt : ∀ d0 : Dev nD, (k0_dev298 d0) < nD := by decide +kernel
theorem k0_dev299_lt : ∀ d0 : Dev nD, (k0_dev299 d0) < nD := by decide +kernel
theorem k0_dev300_lt : ∀ d0 : Dev nD, (k0_dev300 d0) < nD := by decide +kernel
theorem k0_dev301_lt : ∀ d0 : Dev nD, (k0_dev301 d0) < nD := by decide +kernel
theorem k0_dev302_lt : ∀ d0 : Dev nD, (k0_dev302 d0) < nD := by decide +kernel
theorem k0_dev303_lt : ∀ d0 : Dev nD, (k0_dev303 d0) < nD := by decide +kernel
theorem k0_dev304_lt : ∀ d0 : Dev nD, (k0_dev304 d0) < nD := by decide +kernel
theorem k0_dev305_lt : ∀ d0 : Dev nD, (k0_dev305 d0) < nD := by decide +kernel
theorem k0_dev306_lt : ∀ d0 : Dev nD, (k0_dev306 d0) < nD := by decide +kernel
theorem k0_dev307_lt : ∀ d0 : Dev nD, (k0_dev307 d0) < nD := by decide +kernel
theorem k0_dev308_lt : ∀ d0 : Dev nD, (k0_dev308 d0) < nD := by decide +kernel
theorem k0_dev309_lt : ∀ d0 : Dev nD, (k0_dev309 d0) < nD := by decide +kernel
theorem k0_dev310_lt : ∀ d0 : Dev nD, (k0_dev310 d0) < nD := by decide +kernel
theorem k0_dev311_lt : ∀ d0 : Dev nD, (k0_dev311 d0) < nD := by decide +kernel
theorem k0_dev312_lt : ∀ d0 : Dev nD, (k0_dev312 d0) < nD := by decide +kernel
theorem k0_dev313_lt : ∀ d0 : Dev nD, (k0_dev313 d0) < nD := by decide +kernel
theorem k0_dev314_lt : ∀ d0 : Dev nD, (k0_dev314 d0) < nD := by decide +kernel
theorem k0_dev315_lt : ∀ d0 : Dev nD, (k0_dev315 d0) < nD := by decide +kernel
theorem k0_dev316_lt : ∀ d0 : Dev nD, (k0_dev316 d0) < nD := by decide +kernel
theorem k0_dev317_lt : ∀ d0 : Dev nD, (k0_dev317 d0) < nD := by decide +kernel
theorem k0_dev318_lt : ∀ d0 : Dev nD, (k0_dev318 d0) < nD := by decide +kernel
theorem k0_dev319_lt : ∀ d0 : Dev nD, (k0_dev319 d0) < nD := by decide +kernel
theorem k0_dev320_lt : ∀ d0 : Dev nD, (k0_dev320 d0) < nD := by decide +kernel
theorem k0_dev321_lt : ∀ d0 : Dev nD, (k0_dev321 d0) < nD := by decide +kernel
theorem k0_dev322_lt : ∀ d0 : Dev nD, (k0_dev322 d0) < nD := by decide +kernel
theorem k0_dev323_lt : ∀ d0 : Dev nD, (k0_dev323 d0) < nD := by decide +kernel
theorem k0_dev324_lt : ∀ d0 : Dev nD, (k0_dev324 d0) < nD := by decide +kernel
theorem k0_dev325_lt : ∀ d0 : Dev nD, (k0_dev325 d0) < nD := by decide +kernel
theorem k0_dev326_lt : ∀ d0 : Dev nD, (k0_dev326 d0) < nD := by decide +kernel
theorem k0_dev327_lt : ∀ d0 : Dev nD, (k0_dev327 d0) < nD := by decide +kernel
theorem k0_dev328_lt : ∀ d0 : Dev nD, (k0_dev328 d0) < nD := by decide +kernel
theorem k0_dev329_lt : ∀ d0 : Dev nD, (k0_dev329 d0) < nD := by decide +kernel
theorem k0_dev330_lt : ∀ d0 : Dev nD, (k0_dev330 d0) < nD := by decide +kernel
theorem k0_dev331_lt : ∀ d0 : Dev nD, (k0_dev331 d0) < nD := by decide +kernel
theorem k0_dev332_lt : ∀ d0 : Dev nD, (k0_dev332 d0) < nD := by decide +kernel
theorem k0_dev333_lt : ∀ d0 : Dev nD, (k0_dev333 d0) < nD := by decide +kernel
theorem k0_dev334_lt : ∀ d0 : Dev nD, (k0_dev334 d0) < nD := by decide +kernel
theorem k0_dev335_lt : ∀ d0 : Dev nD, (k0_dev335 d0) < nD := by decide +kernel
theorem k0_dev336_lt : ∀ d0 : Dev nD, (k0_dev336 d0) < nD := by decide +kernel
theorem k0_dev337_lt : ∀ d0 : Dev nD, (k0_dev337 d0) < nD := by decide +kernel
theorem k0_dev338_lt : ∀ d0 : Dev nD, (k0_dev338 d0) < nD := by decide +kernel
theorem k0_dev339_lt : ∀ d0 : Dev nD, (k0_dev339 d0) < nD := by decide +kernel
theorem k0_dev340_lt : ∀ d0 : Dev nD, (k0_dev340 d0) < nD := by decide +kernel
theorem k0_dev341_lt : ∀ d0 : Dev nD, (k0_dev341 d0) < nD := by decide +kernel
theorem k0_dev342_lt : ∀ d0 : Dev nD, (k0_dev342 d0) < nD := by decide +kernel
theorem k0_dev343_lt : ∀ d0 : Dev nD, (k0_dev343 d0) < nD := by decide +kernel
theorem k0_dev344_lt : ∀ d0 : Dev nD, (k0_dev344 d0) < nD := by decide +kernel
theorem k0_dev345_lt : ∀ d0 : Dev nD, (k0_dev345 d0) < nD := by decide +kernel
theorem k0_dev346_lt : ∀ d0 : Dev nD, (k0_dev346 d0) < nD := by decide +kernel
theorem k0_dev347_lt : ∀ d0 : Dev nD, (k0_dev347 d0) < nD := by decide +kernel
theorem k0_dev348_lt : ∀ d0 : Dev nD, (k0_dev348 d0) < nD := by decide +kernel
theorem k0_dev349_lt : ∀ d0 : Dev nD, (k0_dev349 d0) < nD := by decide +kernel
theorem k0_dev350_lt : ∀ d0 : Dev nD, (k0_dev350 d0) < nD := by decide +kernel
theorem k0_dev351_lt : ∀ d0 : Dev nD, (k0_dev351 d0) < nD := by decide +kernel
theorem k0_dev352_lt : ∀ d0 : Dev nD, (k0_dev352 d0) < nD := by decide +kernel
theorem k0_dev353_lt : ∀ d0 : Dev nD, (k0_dev353 d0) < nD := by decide +kernel
theorem k0_dev354_lt : ∀ d0 : Dev nD, (k0_dev354 d0) < nD := by decide +kernel
theorem k0_dev355_lt : ∀ d0 : Dev nD, (k0_dev355 d0) < nD := by decide +kernel
theorem k0_dev356_lt : ∀ d0 : Dev nD, (k0_dev356 d0) < nD := by decide +kernel
theorem k0_dev357_lt : ∀ d0 : Dev nD, (k0_dev357 d0) < nD := by decide +kernel
theorem k0_dev358_lt : ∀ d0 : Dev nD, (k0_dev358 d0) < nD := by decide +kernel
theorem k0_dev359_lt : ∀ d0 : Dev nD, (k0_dev359 d0) < nD := by decide +kernel
theorem k0_dev360_lt : ∀ d0 : Dev nD, (k0_dev360 d0) < nD := by decide +kernel
theorem k0_dev361_lt : ∀ d0 : Dev nD, (k0_dev361 d0) < nD := by decide +kernel
theorem k0_dev362_lt : ∀ d0 : Dev nD, (k0_dev362 d0) < nD := by decide +kernel
theorem k0_dev363_lt : ∀ d0 : Dev nD, (k0_dev363 d0) < nD := by decide +kernel
theorem k0_dev364_lt : ∀ d0 : Dev nD, (k0_dev364 d0) < nD := by decide +kernel
theorem k0_dev365_lt : ∀ d0 : Dev nD, (k0_dev365 d0) < nD := by decide +kernel
theorem k0_dev366_lt : ∀ d0 : Dev nD, (k0_dev366 d0) < nD := by decide +kernel
theorem k0_dev367_lt : ∀ d0 : Dev nD, (k0_dev367 d0) < nD := by decide +kernel
theorem k0_dev368_lt : ∀ d0 : Dev nD, (k0_dev368 d0) < nD := by decide +kernel
theorem k0_dev369_lt : ∀ d0 : Dev nD, (k0_dev369 d0) < nD := by decide +kernel
theorem k0_dev370_lt : ∀ d0 : Dev nD, (k0_dev370 d0) < nD := by decide +kernel
theorem k0_dev371_lt : ∀ d0 : Dev nD, (k0_dev371 d0) < nD := by decide +kernel
theorem k0_dev372_lt : ∀ d0 : Dev nD, (k0_dev372 d0) < nD := by decide +kernel
theorem k0_dev373_lt : ∀ d0 : Dev nD, (k0_dev373 d0) < nD := by decide +kernel
theorem k0_dev374_lt : ∀ d0 : Dev nD, (k0_dev374 d0) < nD := by decide +kernel
theorem k0_dev375_lt : ∀ d0 : Dev nD, (k0_dev375 d0) < nD := by decide +kernel
theorem k0_dev376_lt : ∀ d0 : Dev nD, (k0_dev376 d0) < nD := by decide +kernel
theorem k0_dev377_lt : ∀ d0 : Dev nD, (k0_dev377 d0) < nD := by decide +kernel
theorem k0_dev378_lt : ∀ d0 : Dev nD, (k0_dev378 d0) < nD := by decide +kernel
theorem k0_dev379_lt : ∀ d0 : Dev nD, (k0_dev379 d0) < nD := by decide +kernel
theorem k0_dev380_lt : ∀ d0 : Dev nD, (k0_dev380 d0) < nD := by decide +kernel
theorem k0_dev381_lt : ∀ d0 : Dev nD, (k0_dev381 d0) < nD := by decide +kernel
theorem k0_dev382_lt : ∀ d0 : Dev nD, (k0_dev382 d0) < nD := by decide +kernel
theorem k0_dev383_lt : ∀ d0 : Dev nD, (k0_dev383 d0) < nD := by decide +kernel
theorem k0_dev384_lt : ∀ d0 : Dev nD, (k0_dev384 d0) < nD := by decide +kernel
theorem k0_dev385_lt : ∀ d0 : Dev nD, (k0_dev385 d0) < nD := by decide +kernel
theorem k0_dev386_lt : ∀ d0 : Dev nD, (k0_dev386 d0) < nD := by decide +kernel
theorem k0_dev387_lt : ∀ d0 : Dev nD, (k0_dev387 d0) < nD := by decide +kernel
theorem k0_dev388_lt : ∀ d0 : Dev nD, (k0_dev388 d0) < nD := by decide +kernel
theorem k0_dev389_lt : ∀ d0 : Dev nD, (k0_dev389 d0) < nD := by decide +kernel
theorem hstage0_0 : ∀ j, (stage0_0 j).IsWhole := fun | 0 => Memref.isWhole_whole _ | ⟨_ + 1, h⟩ => absurd h (Nat.not_lt.2 (Nat.le_add_left _ _))
theorem hstage0_1 : ∀ j, (stage0_1 j).IsWhole := fun | 0 => Memref.isWhole_whole _ | ⟨_ + 1, h⟩ => absurd h (Nat.not_lt.2 (Nat.le_add_left _ _))
theorem hstage0_2 : ∀ j, (stage0_2 j).IsWhole := fun | 0 => Memref.isWhole_whole _ | ⟨_ + 1, h⟩ => absurd h (Nat.not_lt.2 (Nat.le_add_left _ _))

instance facts₀ : Cert.KernelIdeal.Facts₀ where
  h_S128x128 := @h_S128x128
  shapeCasts_S128x128_S128x128 := @shapeCasts_S128x128_S128x128
  inb_S128x2048_S128x2048_0_0 := @inb_S128x2048_S128x2048_0_0
  h_S128x2048 := @h_S128x2048
  shapeCasts_S128x2048_S128x2048 := @shapeCasts_S128x2048_S128x2048
  inb_S4x2_S1x1_0_0 := @inb_S4x2_S1x1_0_0
  squeezes_S1x1_S_ := @squeezes_S1x1_S_
  inb_S4x2x128x512_S1x1x128x512_0_0_0_0 := @inb_S4x2x128x512_S1x1x128x512_0_0_0_0
  squeezes_S1x1x128x512_S128x512 := @squeezes_S1x1x128x512_S128x512
  inb_S4x2_S1x1_1_0 := @inb_S4x2_S1x1_1_0
  inb_S4x2x128x512_S1x1x128x512_1_0_0_0 := @inb_S4x2x128x512_S1x1x128x512_1_0_0_0
  inb_S4x2_S1x1_2_0 := @inb_S4x2_S1x1_2_0
  inb_S4x2x128x512_S1x1x128x512_2_0_0_0 := @inb_S4x2x128x512_S1x1x128x512_2_0_0_0
  inb_S4x2_S1x1_3_0 := @inb_S4x2_S1x1_3_0
  inb_S4x2x128x512_S1x1x128x512_3_0_0_0 := @inb_S4x2x128x512_S1x1x128x512_3_0_0_0
  inb_S128x2048_S128x1024_0_0 := @inb_S128x2048_S128x1024_0_0
  h_S128x1024 := @h_S128x1024
  shapeCasts_S128x1024_S128x1024 := @shapeCasts_S128x1024_S128x1024
  inb_S128x2048_S128x1024_0_1024 := @inb_S128x2048_S128x1024_0_1024
  h_S128x512 := @h_S128x512
  shapeCasts_S128x512_S128x512 := @shapeCasts_S128x512_S128x512
  h_S1x1x128x512 := @h_S1x1x128x512
  shapeCasts_S1x1x128x512_S128x512 := @shapeCasts_S1x1x128x512_S128x512
  inb_S4_S1_0 := @inb_S4_S1_0
  squeezes_S1_S_ := @squeezes_S1_S_
  inb_S4x2_S1x1_0_1 := @inb_S4x2_S1x1_0_1
  inb_S4x2x128x512_S1x1x128x512_0_1_0_0 := @inb_S4x2x128x512_S1x1x128x512_0_1_0_0
  inb_S4_S1_1 := @inb_S4_S1_1
  inb_S4x2_S1x1_1_1 := @inb_S4x2_S1x1_1_1
  inb_S4x2x128x512_S1x1x128x512_1_1_0_0 := @inb_S4x2x128x512_S1x1x128x512_1_1_0_0
  inb_S4_S1_2 := @inb_S4_S1_2
  inb_S4x2_S1x1_2_1 := @inb_S4x2_S1x1_2_1
  inb_S4x2x128x512_S1x1x128x512_2_1_0_0 := @inb_S4x2x128x512_S1x1x128x512_2_1_0_0
  inb_S4_S1_3 := @inb_S4_S1_3
  inb_S4x2_S1x1_3_1 := @inb_S4x2_S1x1_3_1
  inb_S4x2x128x512_S1x1x128x512_3_1_0_0 := @inb_S4x2x128x512_S1x1x128x512_3_1_0_0
  shapeCasts_S128x1024_S1x128x1024 := @shapeCasts_S128x1024_S1x128x1024
  reduces_S1x128x1024_S1 := @reduces_S1x128x1024_S1
  shapeCasts_S1_S1x1x1 := @shapeCasts_S1_S1x1x1
  inpos_S1x1x1_p0_0_0 := @inpos_S1x1x1_p0_0_0
  h_S1x128 := @h_S1x128
  shapeCasts_S1x128_S1x128 := @shapeCasts_S1x128_S1x128
  inb_S1_S1_0 := @inb_S1_S1_0
  inb_S32x128_S32x128_0_0 := @inb_S32x128_S32x128_0_0
  h_S32x128 := @h_S32x128
  shapeCasts_S32x128_S1x32x128 := @shapeCasts_S32x128_S1x32x128
  reduces_S1x32x128_S1 := @reduces_S1x32x128_S1
  bitsLt_fp8e4m3_f32 := @bitsLt_fp8e4m3_f32
  dot_S128x128_S128x2048_S128x2048_1_0_0_1_n_n_wf := @dot_S128x128_S128x2048_S128x2048_1_0_0_1_n_n_wf
  dot_S128x128_S128x1024_S128x1024_1_0_0_1_n_n_wf := @dot_S128x128_S128x1024_S128x1024_1_0_0_1_n_n_wf
  hcc0_scratch5 := @hcc0_scratch5
  hcc0_scratch10 := @hcc0_scratch10
  hcc0_scratch3 := @hcc0_scratch3
  hcc0_scratch4 := @hcc0_scratch4
  hcc0_scratch6 := @hcc0_scratch6
  hcc0_scratch7 := @hcc0_scratch7
  hcc0_scratch8 := @hcc0_scratch8
  hcc0_scratch9 := @hcc0_scratch9
  k0_dev1_lt := @k0_dev1_lt
  k0_dev2_lt := @k0_dev2_lt
  k0_off1_inb := @k0_off1_inb
  k0_off2_inb := @k0_off2_inb
  k0_off3_inb := @k0_off3_inb
  k0_dev3_lt := @k0_dev3_lt
  k0_off4_inb := @k0_off4_inb
  k0_dev4_lt := @k0_dev4_lt
  k0_off5_inb := @k0_off5_inb
  k0_dev5_lt := @k0_dev5_lt
  k0_off6_inb := @k0_off6_inb
  k0_dev6_lt := @k0_dev6_lt
  k0_off7_inb := @k0_off7_inb
  k0_off8_inb := @k0_off8_inb
  k0_off9_inb := @k0_off9_inb
  k0_off10_inb := @k0_off10_inb
  k0_off11_inb := @k0_off11_inb
  k0_dev7_lt := @k0_dev7_lt
  k0_dev8_lt := @k0_dev8_lt
  k0_off12_inb := @k0_off12_inb
  k0_dev9_lt := @k0_dev9_lt
  k0_dev10_lt := @k0_dev10_lt
  k0_off13_inb := @k0_off13_inb
  k0_dev11_lt := @k0_dev11_lt
  k0_dev12_lt := @k0_dev12_lt
  k0_off14_inb := @k0_off14_inb
  k0_dev13_lt := @k0_dev13_lt
  k0_dev14_lt := @k0_dev14_lt
  k0_dev15_lt := @k0_dev15_lt
  k0_dev16_lt := @k0_dev16_lt
  k0_dev17_lt := @k0_dev17_lt
  k0_dev18_lt := @k0_dev18_lt
  k0_dev19_lt := @k0_dev19_lt
  k0_dev20_lt := @k0_dev20_lt
  k0_dev21_lt := @k0_dev21_lt
  k0_dev22_lt := @k0_dev22_lt
  k0_dev23_lt := @k0_dev23_lt
  k0_dev24_lt := @k0_dev24_lt
  k0_dev25_lt := @k0_dev25_lt
  k0_dev26_lt := @k0_dev26_lt
  k0_dev27_lt := @k0_dev27_lt
  k0_dev28_lt := @k0_dev28_lt
  k0_dev29_lt := @k0_dev29_lt
  k0_dev30_lt := @k0_dev30_lt
  k0_dev31_lt := @k0_dev31_lt
  k0_dev32_lt := @k0_dev32_lt
  k0_dev33_lt := @k0_dev33_lt
  k0_dev34_lt := @k0_dev34_lt
  k0_dev35_lt := @k0_dev35_lt
  k0_dev36_lt := @k0_dev36_lt
  k0_dev37_lt := @k0_dev37_lt
  k0_dev38_lt := @k0_dev38_lt
  k0_dev39_lt := @k0_dev39_lt
  k0_dev40_lt := @k0_dev40_lt
  k0_dev41_lt := @k0_dev41_lt
  k0_dev42_lt := @k0_dev42_lt
  k0_dev43_lt := @k0_dev43_lt
  k0_dev44_lt := @k0_dev44_lt
  k0_dev45_lt := @k0_dev45_lt
  k0_dev46_lt := @k0_dev46_lt
  k0_dev47_lt := @k0_dev47_lt
  k0_dev48_lt := @k0_dev48_lt
  k0_dev49_lt := @k0_dev49_lt
  k0_dev50_lt := @k0_dev50_lt
  k0_dev51_lt := @k0_dev51_lt
  k0_dev52_lt := @k0_dev52_lt
  k0_dev53_lt := @k0_dev53_lt
  k0_dev54_lt := @k0_dev54_lt
  k0_dev55_lt := @k0_dev55_lt
  k0_dev56_lt := @k0_dev56_lt
  k0_dev57_lt := @k0_dev57_lt
  k0_dev58_lt := @k0_dev58_lt
  k0_dev59_lt := @k0_dev59_lt
  k0_dev60_lt := @k0_dev60_lt
  k0_dev61_lt := @k0_dev61_lt
  k0_dev62_lt := @k0_dev62_lt
  k0_dev63_lt := @k0_dev63_lt
  k0_dev64_lt := @k0_dev64_lt
  k0_dev65_lt := @k0_dev65_lt
  k0_dev66_lt := @k0_dev66_lt
  k0_dev67_lt := @k0_dev67_lt
  k0_dev68_lt := @k0_dev68_lt
  k0_dev69_lt := @k0_dev69_lt
  k0_dev70_lt := @k0_dev70_lt
  k0_dev71_lt := @k0_dev71_lt
  k0_dev72_lt := @k0_dev72_lt
  k0_dev73_lt := @k0_dev73_lt
  k0_dev74_lt := @k0_dev74_lt
  k0_dev75_lt := @k0_dev75_lt
  k0_dev76_lt := @k0_dev76_lt
  k0_dev77_lt := @k0_dev77_lt
  k0_dev78_lt := @k0_dev78_lt
  k0_dev79_lt := @k0_dev79_lt
  k0_dev80_lt := @k0_dev80_lt
  k0_dev81_lt := @k0_dev81_lt
  k0_dev82_lt := @k0_dev82_lt
  k0_dev83_lt := @k0_dev83_lt
  k0_dev84_lt := @k0_dev84_lt
  k0_dev85_lt := @k0_dev85_lt
  k0_dev86_lt := @k0_dev86_lt
  k0_dev87_lt := @k0_dev87_lt
  k0_dev88_lt := @k0_dev88_lt
  k0_dev89_lt := @k0_dev89_lt
  k0_dev90_lt := @k0_dev90_lt
  k0_dev91_lt := @k0_dev91_lt
  k0_dev92_lt := @k0_dev92_lt
  k0_dev93_lt := @k0_dev93_lt
  k0_dev94_lt := @k0_dev94_lt
  k0_dev95_lt := @k0_dev95_lt
  k0_dev96_lt := @k0_dev96_lt
  k0_dev97_lt := @k0_dev97_lt
  k0_dev98_lt := @k0_dev98_lt
  k0_dev99_lt := @k0_dev99_lt
  k0_dev100_lt := @k0_dev100_lt
  k0_dev101_lt := @k0_dev101_lt
  k0_dev102_lt := @k0_dev102_lt
  k0_dev103_lt := @k0_dev103_lt
  k0_dev104_lt := @k0_dev104_lt
  k0_dev105_lt := @k0_dev105_lt
  k0_dev106_lt := @k0_dev106_lt
  k0_dev107_lt := @k0_dev107_lt
  k0_dev108_lt := @k0_dev108_lt
  k0_dev109_lt := @k0_dev109_lt
  k0_dev110_lt := @k0_dev110_lt
  k0_dev111_lt := @k0_dev111_lt
  k0_dev112_lt := @k0_dev112_lt
  k0_dev113_lt := @k0_dev113_lt
  k0_dev114_lt := @k0_dev114_lt
  k0_dev115_lt := @k0_dev115_lt
  k0_dev116_lt := @k0_dev116_lt
  k0_dev117_lt := @k0_dev117_lt
  k0_dev118_lt := @k0_dev118_lt
  k0_dev119_lt := @k0_dev119_lt
  k0_dev120_lt := @k0_dev120_lt
  k0_dev121_lt := @k0_dev121_lt
  k0_dev122_lt := @k0_dev122_lt
  k0_dev123_lt := @k0_dev123_lt
  k0_dev124_lt := @k0_dev124_lt
  k0_dev125_lt := @k0_dev125_lt
  k0_dev126_lt := @k0_dev126_lt
  k0_dev127_lt := @k0_dev127_lt
  k0_dev128_lt := @k0_dev128_lt
  k0_dev129_lt := @k0_dev129_lt
  k0_dev130_lt := @k0_dev130_lt
  k0_dev131_lt := @k0_dev131_lt
  k0_dev132_lt := @k0_dev132_lt
  k0_dev133_lt := @k0_dev133_lt
  k0_dev134_lt := @k0_dev134_lt
  k0_dev135_lt := @k0_dev135_lt
  k0_dev136_lt := @k0_dev136_lt
  k0_dev137_lt := @k0_dev137_lt
  k0_dev138_lt := @k0_dev138_lt
  k0_dev139_lt := @k0_dev139_lt
  k0_dev140_lt := @k0_dev140_lt
  k0_dev141_lt := @k0_dev141_lt
  k0_dev142_lt := @k0_dev142_lt
  k0_dev143_lt := @k0_dev143_lt
  k0_dev144_lt := @k0_dev144_lt
  k0_dev145_lt := @k0_dev145_lt
  k0_dev146_lt := @k0_dev146_lt
  k0_dev147_lt := @k0_dev147_lt
  k0_dev148_lt := @k0_dev148_lt
  k0_dev149_lt := @k0_dev149_lt
  k0_dev150_lt := @k0_dev150_lt
  k0_dev151_lt := @k0_dev151_lt
  k0_dev152_lt := @k0_dev152_lt
  k0_dev153_lt := @k0_dev153_lt
  k0_dev154_lt := @k0_dev154_lt
  k0_dev155_lt := @k0_dev155_lt
  k0_dev156_lt := @k0_dev156_lt
  k0_dev157_lt := @k0_dev157_lt
  k0_dev158_lt := @k0_dev158_lt
  k0_dev159_lt := @k0_dev159_lt
  k0_dev160_lt := @k0_dev160_lt
  k0_dev161_lt := @k0_dev161_lt
  k0_dev162_lt := @k0_dev162_lt
  k0_dev163_lt := @k0_dev163_lt
  k0_dev164_lt := @k0_dev164_lt
  k0_dev165_lt := @k0_dev165_lt
  k0_dev166_lt := @k0_dev166_lt
  k0_dev167_lt := @k0_dev167_lt
  k0_dev168_lt := @k0_dev168_lt
  k0_dev169_lt := @k0_dev169_lt
  k0_dev170_lt := @k0_dev170_lt
  k0_dev171_lt := @k0_dev171_lt
  k0_dev172_lt := @k0_dev172_lt
  k0_dev173_lt := @k0_dev173_lt
  k0_dev174_lt := @k0_dev174_lt
  k0_dev175_lt := @k0_dev175_lt
  k0_dev176_lt := @k0_dev176_lt
  k0_dev177_lt := @k0_dev177_lt
  k0_dev178_lt := @k0_dev178_lt
  k0_dev179_lt := @k0_dev179_lt
  k0_dev180_lt := @k0_dev180_lt
  k0_dev181_lt := @k0_dev181_lt
  k0_dev182_lt := @k0_dev182_lt
  k0_dev183_lt := @k0_dev183_lt
  k0_dev184_lt := @k0_dev184_lt
  k0_dev185_lt := @k0_dev185_lt
  k0_dev186_lt := @k0_dev186_lt
  k0_dev187_lt := @k0_dev187_lt
  k0_dev188_lt := @k0_dev188_lt
  k0_dev189_lt := @k0_dev189_lt
  k0_dev190_lt := @k0_dev190_lt
  k0_dev191_lt := @k0_dev191_lt
  k0_dev192_lt := @k0_dev192_lt
  k0_dev193_lt := @k0_dev193_lt
  k0_dev194_lt := @k0_dev194_lt
  k0_dev195_lt := @k0_dev195_lt
  k0_dev196_lt := @k0_dev196_lt
  k0_dev197_lt := @k0_dev197_lt
  k0_dev198_lt := @k0_dev198_lt
  k0_dev199_lt := @k0_dev199_lt
  k0_dev200_lt := @k0_dev200_lt
  k0_dev201_lt := @k0_dev201_lt
  k0_dev202_lt := @k0_dev202_lt
  k0_dev203_lt := @k0_dev203_lt
  k0_dev204_lt := @k0_dev204_lt
  k0_dev205_lt := @k0_dev205_lt
  k0_dev206_lt := @k0_dev206_lt
  k0_dev207_lt := @k0_dev207_lt
  k0_dev208_lt := @k0_dev208_lt
  k0_dev209_lt := @k0_dev209_lt
  k0_dev210_lt := @k0_dev210_lt
  k0_dev211_lt := @k0_dev211_lt
  k0_dev212_lt := @k0_dev212_lt
  k0_dev213_lt := @k0_dev213_lt
  k0_dev214_lt := @k0_dev214_lt
  k0_dev215_lt := @k0_dev215_lt
  k0_dev216_lt := @k0_dev216_lt
  k0_dev217_lt := @k0_dev217_lt
  k0_dev218_lt := @k0_dev218_lt
  k0_dev219_lt := @k0_dev219_lt
  k0_dev220_lt := @k0_dev220_lt
  k0_dev221_lt := @k0_dev221_lt
  k0_dev222_lt := @k0_dev222_lt
  k0_dev223_lt := @k0_dev223_lt
  k0_dev224_lt := @k0_dev224_lt
  k0_dev225_lt := @k0_dev225_lt
  k0_dev226_lt := @k0_dev226_lt
  k0_dev227_lt := @k0_dev227_lt
  k0_dev228_lt := @k0_dev228_lt
  k0_dev229_lt := @k0_dev229_lt
  k0_dev230_lt := @k0_dev230_lt
  k0_dev231_lt := @k0_dev231_lt
  k0_dev232_lt := @k0_dev232_lt
  k0_dev233_lt := @k0_dev233_lt
  k0_dev234_lt := @k0_dev234_lt
  k0_dev235_lt := @k0_dev235_lt
  k0_dev236_lt := @k0_dev236_lt
  k0_dev237_lt := @k0_dev237_lt
  k0_dev238_lt := @k0_dev238_lt
  k0_dev239_lt := @k0_dev239_lt
  k0_dev240_lt := @k0_dev240_lt
  k0_dev241_lt := @k0_dev241_lt
  k0_dev242_lt := @k0_dev242_lt
  k0_off15_inb := @k0_off15_inb
  k0_off16_inb := @k0_off16_inb
  k0_off17_inb := @k0_off17_inb
  k0_off18_inb := @k0_off18_inb
  k0_dev243_lt := @k0_dev243_lt
  k0_dev244_lt := @k0_dev244_lt
  k0_dev245_lt := @k0_dev245_lt
  k0_dev246_lt := @k0_dev246_lt
  k0_dev247_lt := @k0_dev247_lt
  k0_dev248_lt := @k0_dev248_lt
  k0_dev249_lt := @k0_dev249_lt
  k0_dev250_lt := @k0_dev250_lt
  k0_dev251_lt := @k0_dev251_lt
  k0_dev252_lt := @k0_dev252_lt
  k0_dev253_lt := @k0_dev253_lt
  k0_dev254_lt := @k0_dev254_lt
  k0_dev255_lt := @k0_dev255_lt
  k0_dev256_lt := @k0_dev256_lt
  k0_dev257_lt := @k0_dev257_lt
  k0_dev258_lt := @k0_dev258_lt
  k0_dev259_lt := @k0_dev259_lt
  k0_dev260_lt := @k0_dev260_lt
  k0_dev261_lt := @k0_dev261_lt
  k0_dev262_lt := @k0_dev262_lt
  k0_dev263_lt := @k0_dev263_lt
  k0_dev264_lt := @k0_dev264_lt
  k0_dev265_lt := @k0_dev265_lt
  k0_dev266_lt := @k0_dev266_lt
  k0_dev267_lt := @k0_dev267_lt
  k0_dev268_lt := @k0_dev268_lt
  k0_dev269_lt := @k0_dev269_lt
  k0_dev270_lt := @k0_dev270_lt
  k0_dev271_lt := @k0_dev271_lt
  k0_dev272_lt := @k0_dev272_lt
  k0_dev273_lt := @k0_dev273_lt
  k0_off15_packedfp8e4m3 := @k0_off15_packedfp8e4m3
  k0_off16_packedfp8e4m3 := @k0_off16_packedfp8e4m3
  k0_off19_inb := @k0_off19_inb
  k0_off19_wordsfp8e4m3 := @k0_off19_wordsfp8e4m3
  k0_dev274_lt := @k0_dev274_lt
  k0_off20_inb := @k0_off20_inb
  k0_off20_wordsfp8e4m3 := @k0_off20_wordsfp8e4m3
  k0_dev275_lt := @k0_dev275_lt
  k0_off21_inb := @k0_off21_inb
  k0_off21_wordsfp8e4m3 := @k0_off21_wordsfp8e4m3
  k0_dev276_lt := @k0_dev276_lt
  k0_off22_inb := @k0_off22_inb
  k0_off22_wordsfp8e4m3 := @k0_off22_wordsfp8e4m3
  k0_dev277_lt := @k0_dev277_lt
  k0_dev278_lt := @k0_dev278_lt
  k0_dev279_lt := @k0_dev279_lt
  k0_off23_inb := @k0_off23_inb
  k0_dev280_lt := @k0_dev280_lt
  k0_dev281_lt := @k0_dev281_lt
  k0_off24_inb := @k0_off24_inb
  k0_dev282_lt := @k0_dev282_lt
  k0_dev283_lt := @k0_dev283_lt
  k0_off25_inb := @k0_off25_inb
  k0_dev284_lt := @k0_dev284_lt
  k0_dev285_lt := @k0_dev285_lt
  k0_off26_inb := @k0_off26_inb
  k0_dev286_lt := @k0_dev286_lt
  k0_dev287_lt := @k0_dev287_lt
  k0_dev288_lt := @k0_dev288_lt
  k0_dev289_lt := @k0_dev289_lt
  k0_dev290_lt := @k0_dev290_lt
  k0_dev291_lt := @k0_dev291_lt
  k0_dev292_lt := @k0_dev292_lt
  k0_dev293_lt := @k0_dev293_lt
  k0_dev294_lt := @k0_dev294_lt
  k0_dev295_lt := @k0_dev295_lt
  k0_dev296_lt := @k0_dev296_lt
  k0_dev297_lt := @k0_dev297_lt
  k0_dev298_lt := @k0_dev298_lt
  k0_dev299_lt := @k0_dev299_lt
  k0_dev300_lt := @k0_dev300_lt
  k0_dev301_lt := @k0_dev301_lt
  k0_dev302_lt := @k0_dev302_lt
  k0_dev303_lt := @k0_dev303_lt
  k0_dev304_lt := @k0_dev304_lt
  k0_dev305_lt := @k0_dev305_lt
  k0_dev306_lt := @k0_dev306_lt
  k0_dev307_lt := @k0_dev307_lt
  k0_dev308_lt := @k0_dev308_lt
  k0_dev309_lt := @k0_dev309_lt
  k0_dev310_lt := @k0_dev310_lt
  k0_dev311_lt := @k0_dev311_lt
  k0_dev312_lt := @k0_dev312_lt
  k0_dev313_lt := @k0_dev313_lt
  k0_dev314_lt := @k0_dev314_lt
  k0_dev315_lt := @k0_dev315_lt
  k0_dev316_lt := @k0_dev316_lt
  k0_dev317_lt := @k0_dev317_lt
  k0_dev318_lt := @k0_dev318_lt
  k0_dev319_lt := @k0_dev319_lt
  k0_dev320_lt := @k0_dev320_lt
  k0_dev321_lt := @k0_dev321_lt
  k0_dev322_lt := @k0_dev322_lt
  k0_dev323_lt := @k0_dev323_lt
  k0_dev324_lt := @k0_dev324_lt
  k0_dev325_lt := @k0_dev325_lt
  k0_dev326_lt := @k0_dev326_lt
  k0_dev327_lt := @k0_dev327_lt
  k0_dev328_lt := @k0_dev328_lt
  k0_dev329_lt := @k0_dev329_lt
  k0_dev330_lt := @k0_dev330_lt
  k0_dev331_lt := @k0_dev331_lt
  k0_dev332_lt := @k0_dev332_lt
  k0_dev333_lt := @k0_dev333_lt
  k0_dev334_lt := @k0_dev334_lt
  k0_dev335_lt := @k0_dev335_lt
  k0_dev336_lt := @k0_dev336_lt
  k0_dev337_lt := @k0_dev337_lt
  k0_dev338_lt := @k0_dev338_lt
  k0_dev339_lt := @k0_dev339_lt
  k0_dev340_lt := @k0_dev340_lt
  k0_dev341_lt := @k0_dev341_lt
  k0_dev342_lt := @k0_dev342_lt
  k0_dev343_lt := @k0_dev343_lt
  k0_dev344_lt := @k0_dev344_lt
  k0_dev345_lt := @k0_dev345_lt
  k0_dev346_lt := @k0_dev346_lt
  k0_dev347_lt := @k0_dev347_lt
  k0_dev348_lt := @k0_dev348_lt
  k0_dev349_lt := @k0_dev349_lt
  k0_dev350_lt := @k0_dev350_lt
  k0_dev351_lt := @k0_dev351_lt
  k0_dev352_lt := @k0_dev352_lt
  k0_dev353_lt := @k0_dev353_lt
  k0_dev354_lt := @k0_dev354_lt
  k0_dev355_lt := @k0_dev355_lt
  k0_dev356_lt := @k0_dev356_lt
  k0_dev357_lt := @k0_dev357_lt
  k0_dev358_lt := @k0_dev358_lt
  k0_dev359_lt := @k0_dev359_lt
  k0_dev360_lt := @k0_dev360_lt
  k0_dev361_lt := @k0_dev361_lt
  k0_dev362_lt := @k0_dev362_lt
  k0_dev363_lt := @k0_dev363_lt
  k0_dev364_lt := @k0_dev364_lt
  k0_dev365_lt := @k0_dev365_lt
  k0_dev366_lt := @k0_dev366_lt
  k0_dev367_lt := @k0_dev367_lt
  k0_dev368_lt := @k0_dev368_lt
  k0_dev369_lt := @k0_dev369_lt
  k0_dev370_lt := @k0_dev370_lt
  k0_dev371_lt := @k0_dev371_lt
  k0_dev372_lt := @k0_dev372_lt
  k0_dev373_lt := @k0_dev373_lt
  k0_dev374_lt := @k0_dev374_lt
  k0_dev375_lt := @k0_dev375_lt
  k0_dev376_lt := @k0_dev376_lt
  k0_dev377_lt := @k0_dev377_lt
  k0_dev378_lt := @k0_dev378_lt
  k0_dev379_lt := @k0_dev379_lt
  k0_dev380_lt := @k0_dev380_lt
  k0_dev381_lt := @k0_dev381_lt
  k0_dev382_lt := @k0_dev382_lt
  k0_dev383_lt := @k0_dev383_lt
  k0_dev384_lt := @k0_dev384_lt
  k0_dev385_lt := @k0_dev385_lt
  k0_dev386_lt := @k0_dev386_lt
  k0_dev387_lt := @k0_dev387_lt
  k0_dev388_lt := @k0_dev388_lt
  k0_dev389_lt := @k0_dev389_lt
  hstage0_0 := @hstage0_0
  hstage0_1 := @hstage0_1
  hstage0_2 := @hstage0_2

instance facts : Cert.KernelIdeal.Facts where

end Cert.KernelIdeal.Ok

end
-- ==== Proof.Run.lean ====
/-
  The run of the kernel on the mesh.
-/
module

public import proofs.«01_k».proof.Proof.Fund
public import proofs.«01_k».proof.Proof.FactsI
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.KernelIdeal.Px

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Pipeline

variable {F : FTy → Type} [FloatOps F]

local notation "𝕄" => MT nD τ sig Ix (Elt F) ℕ UU ℕ

attribute [local irreducible] prodHalf prodAll maxRow sumPiece quantise dequantise prodV redV maxV quantV outV scaleV slotV sumV

/-! ## The layout the launch needs -/

abbrev semTab : Fin 1 → List (DmaSem sig) := fun | 0 => Pipeline.specSems spec0 | ⟨_ + 1, h⟩ => absurd h (Nat.not_lt.2 (Nat.le_add_left _ _))
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint
theorem winFacts0 : Pipeline.WinFacts spec0 := by decide
theorem arr_whole0 : ∀ w : Fin 3, (spec0 w).arr.IsWhole := fun | 0 => Memref.isWhole_whole _ | 1 => Memref.isWhole_whole _ | 2 => Memref.isWhole_whole _ | ⟨_ + 3, h⟩ => absurd h (Nat.not_lt.2 (Nat.le_add_left _ _))
theorem stage_whole0 : ∀ (w : Fin 3) (s : Fin (spec0 w).nbuf), ((spec0 w).stage s).IsWhole :=
  fun | 0 => fun _ => Memref.isWhole_whole _ | 1 => fun _ => Memref.isWhole_whole _ | 2 => fun _ => Memref.isWhole_whole _ | ⟨_ + 3, h⟩ => absurd h (Nat.not_lt.2 (Nat.le_add_left _ _))
theorem bigSep_W (Φ : Fin cfg0.W → sProp 𝕄) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ
theorem scopedRest0 (c : Dev nD) : (Pipeline.scopedRest spec0 c : sProp 𝕄) = iprop((∃ f, cW c f) ∗ (∃ f, qW c f) ∗ ∃ f, aW c f) :=
  Pipeline.scopedRest_eq_of_list spec0 c [cc0_scratch0, cc0_scratch1, cc0_scratch2] (by decide) (by decide)
theorem ownSemFacts : Pipeline.OwnSemFacts spec0 osem := by decide +kernel

theorem grid0_N : grid0.N = 1 := by decide
theorem cfg0_N : cfg0.N = 1 := grid0_N
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The data of the one region -/

variable (m : (ℓ : Loc nD τ sig) → Buf (Elt F) ℓ) (ρ : Dev nD → PrngReg)

def s₀ : MemSt nD τ sig (Elt F) := ⟨m, fun _ => 0, ρ⟩
/-- The blocks the devices hold. -/
def xs (c : Dev nD) : S4096x128.Idx → Elt F .f32 := (win0_0.blk t₀).view.read (Elt F) ((s₀ m ρ).mem ((c : Thread nD τ).loc main_arg0))
def ws (c : Dev nD) : S128x2048.Idx → Elt F .f32 := (win0_1.blk t₀).view.read (Elt F) ((s₀ m ρ).mem ((c : Thread nD τ).loc main_arg1))

def O₀ (c : Dev nD) : CellTallies nD τ sig Ix := owed c 1

def start (c : Dev nD) : sProp 𝕄 := iprop((∃ κ : Ck → ℕ, ∃ ν : Ky → ℕ, Cx (xs m ρ) (ws m ρ) κ ν ∗ Lin c) ∗ Crs c)
def Φ₀ (c : Dev nD) : sProp 𝕄 := iprop(start m ρ c ∗ (∃ f, cW c f) ∗ (∃ f, qW c f) ∗ ∃ f, aW c f)
def Φ₁ (c : Dev nD) : sProp 𝕄 := iprop((bigSep Finset.univ fun o : Option Ow => semVal (cell (c, o)) 0) ∗ (∃ f, cW c f) ∗ (∃ f, qW c f) ∗ ∃ f, aW c f)

def dats (_ : Fin 1) (c : Dev nD) : Dat τ (Elt F) Ix ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => outV (xs m ρ) (ws m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Ix) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 := iprop(∃ f : Buf (Elt F) (((c : Dev nD) : Thread nD τ).loc b), ⌜f = X⌝ ∗ (((c : Thread nD τ).loc b) ↦{fullShare} f))

/-! ## The body -/

def Post (c : Dev nD) : sProp 𝕄 := iprop(Φ₁ c ∗ ow c 432 ∗ xP c (xs m ρ c) ∗ wP c (ws m ρ c) ∗ oR c Finset.univ (outV (xs m ρ) (ws m ρ)))

theorem end_of (c : Dev nD) {κ : Ck → ℕ} {ν : Ky → ℕ} :
    (iprop(Cx (xs m ρ) (ws m ρ) κ ν ∗ End0 c ∗ Bufs (xs m ρ) (ws m ρ) c ∗ xP c (xs m ρ c) ∗ wP c (ws m ρ c) ∗ oR c Finset.univ (outV (xs m ρ) (ws m ρ)) ∗ ow c 432) : sProp 𝕄) ⊢ |={Set.univ}=> Post m ρ c := by
  unfold Bufs Post Φ₁
  iintro ⟨#HC, HE, ⟨Hc, Hq, Ha⟩, Hx, Hw, Ho, HO⟩
  imod (close_all (X := xs m ρ) (W := ws m ρ) (κ := κ) (ν := ν) c) $$ [HE] with HZ
  · isplitr [HE]; iexact HC
    iexact HE
  imodintro
  isplitl [HZ Hc Hq Ha]
  · isplitl [HZ]; iexact HZ
    isplitl [Hc]; iapply (comm_join c); iexact Hc
    isplitl [Hq]; iexists _; iexact Hq
    iexists _; iexact Ha
  isplitl [HO]; iexact HO
  isplitl [Hx]; iexact Hx
  isplitl [Hw] <;> iassumption

theorem sound_body (c : Dev nD) (f : S4096x2048.Idx → Elt F .f32) :
    (iprop(Φ₀ m ρ c ∗ ow c 1 ∗ xP c (xs m ρ c) ∗ wP c (ws m ρ c) ∗ oR c Finset.univ f) : sProp 𝕄) ⊢ WP c (body A0) (fun _ => Post m ρ c) := by
  unfold Φ₀ start
  iintro ⟨⟨⟨⟨%κ, %ν, #HC, HL⟩, HR⟩, ⟨%f0, Hc⟩, ⟨%f1, Hq⟩, %f2, Ha⟩, HO, Hx, Hw, Ho⟩
  iapply (wp_fupd frame (wpE (defs₀ (F := F)) 𝒱₀ (c : Thread nD τ) none) Set.univ (body A0) (fun _ => Post m ρ c))
  iapply (tri_body (X := xs m ρ) (W := ws m ρ) (κ := κ) (ν := ν) (c := c) (f := f) (fun _ => iprop(|={Set.univ}=> Post m ρ c)))
  ihave HS := (start_of (X := xs m ρ) (W := ws m ρ) c) $$ [HL HR]
  · isplitl [HL] <;> iassumption
  icases HS with ⟨HS, HD⟩
  ihave HB := (lands_of c f0 f1 f2) $$ [Hc Hq Ha]
  · isplitl [Hc]; iexact Hc
    isplitl [Hq] <;> iassumption
  icases HB with ⟨HB, Ha, Hq0, Hq1⟩
  ihave HP := (opn_of c) $$ [HD HB]
  · isplitl [HD] <;> iassumption
  isplitr; iexact HC
  isplitr []
  · isplitl [HS]; iexact HS
    isplitl [HP]; iexact HP
    isplitl [HO]; iexact HO
    isplitl [Hx]; iexact Hx
    isplitl [Hw]; iexact Hw
    isplitl [Ho]; iexact Ho
    isplitl [Ha]; iexact Ha
    isplitl [Hq0] <;> iassumption
  iintro HE
  iapply (end_of m ρ c (κ := κ) (ν := ν))
  isplitr [HE]; iexact HC
  iexact HE

def bodyPre' (c : Dev nD) : sProp 𝕄 :=
  iprop(Φ₀ m ρ c ∗ (dats m ρ 0 c).owesAt none t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost' (c : Dev nD) : sProp 𝕄 :=
  iprop(Φ₁ c ∗ (dats m ρ 0 c).owesAt none t₀.succ ∗ stg c cc0_stg0_0 (xs m ρ c) ∗ stg c cc0_stg1_0 (ws m ρ c) ∗ stg c cc0_stg2_0 (outV (xs m ρ) (ws m ρ)))

theorem post_of (c : Dev nD) : (Post m ρ c : sProp 𝕄) ⊢ bodyPost' m ρ c := by
  unfold Post bodyPost' ow Dat.owesAt Pipeline.owesWithin
  rw [show (dats m ρ 0 c).owed t₀.succ = 0 from rfl, owed_end]
  unfold xP wP oR
  iintro ⟨H, ⟨%Wt, HO⟩, Hx, Hw, Ho⟩
  isplitl [H]; iexact H
  isplitl [HO]
  · iexists Wt
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_run' (c : Dev nD) : (bodyPre' m ρ c : sProp 𝕄) ⊢ WP c (body A0) (fun _ => Post m ρ c) := by
  have h : ∀ f, (iprop(Φ₀ m ρ c ∗ ow c 1 ∗ xP c (xs m ρ c) ∗ wP c (ws m ρ c) ∗ oR c Finset.univ f) : sProp 𝕄) ⊢ WP c (body A0) (fun _ => Post m ρ c) := sound_body m ρ c
  unfold bodyPre' Dat.owesAt Pipeline.owesWithin
  rw [show (dats m ρ 0 c).owed t₀.castSucc = O₀ c from rfl]
  iintro ⟨HΦ, ⟨%Wt, -, HO⟩, ⟨%d0, %g0, %hg0, Hx⟩, ⟨%d1, %g1, %hg1, Hw⟩, %d2, %g2, -, Ho⟩
  have hx : g0 = xs m ρ c := by rw [hg0]; unfold Dat.before; rw [if_pos (fetch_0 t₀)]; rfl
  have hw : g1 = ws m ρ c := by rw [hg1]; unfold Dat.before; rw [if_pos (fetch_1 t₀)]; rfl
  subst hx; subst hw
  iapply (h g2)
  isplitl [HΦ]; iexact HΦ
  isplitl [HO]
  · unfold ow; iexists Wt; iexact HO
  isplitl [Hx]; unfold xP; iexact Hx
  isplitl [Hw]; unfold wP; iexact Hw
  unfold oR; iexact Ho

theorem body_run (c : Dev nD) : (bodyPre' m ρ c : sProp 𝕄) ⊢ WP c (body A0) (fun _ => bodyPost' m ρ c) := by
  refine BI.Entails.trans (body_run' m ρ c) (wp_mono frame (wpE (defs₀ (F := F)) 𝒱₀ (c : Thread nD τ) none) Set.univ fun _ => post_of m ρ c)

theorem body_is : cc0_body (F := F) (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 cc0_scratch9 cc0_scratch10 = body A0 := body_eq ..

theorem body_full (c : Dev nD) : (bodyPre' m ρ c : sProp 𝕄) ⊢ WP c (cc0_body (F := F) (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 cc0_scratch9 cc0_scratch10) (fun _ => bodyPost' m ρ c) := by
  rw [body_is]; exact body_run m ρ c

set_option maxRecDepth 100000 in
attribute [local irreducible] cc0_body in
theorem body_obligation (c : Dev nD) : BodyObligation (dats (F := F) m ρ 0 c) (defs₀ (F := F)) 𝒱₀ none Set.univ := fun t => by
  rw [fin_N t]
  rw [bigSep_W, bigSep_W]
  simp only [owns_whole_eq]
  exact body_full m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf cellsF (setA ∪ setB), initSlots keys 1))

theorem start_intro (c : Dev nD) :
    iprop(Pipeline.unscopedRestP Pipeline.Prefetch.none spec0 c (fun b => m ((c : Thread nD τ).loc b)) ∗ levAts L lv
        ∗ Pipeline.launchCred O₀ c ∗ prngReg c (ρ c) ∗ G1 (xs m ρ) (ws m ρ) c)
      ⊢ (|={Set.univ}=> iprop(start m ρ c ∗ emp) : sProp 𝕄) := by
  unfold start G1 CxI Cx
  iintro ⟨-, Hlev, Hcr, -, %κ, %ν, ⟨H1, H2, H3⟩, HL⟩
  have hc : (Pipeline.launchCred O₀ c : sProp 𝕄) ⊢ Crs c := crs_intro c
  ihave Hc := hc $$ Hcr
  imodintro
  isplitl
  · isplitr [Hc]
    · iexists κ, ν
      isplitr [HL]
      · isplitl [Hlev]; iexact Hlev
        isplitl [H1]; iexact H1
        isplitl [H2] <;> iassumption
      iexact HL
    iexact Hc
  · iempintro

theorem phi0_intro (c : Dev nD) :
    (iprop(start m ρ c ∗ Pipeline.prefHeld Pipeline.Prefetch.none c (fun _ => fullShare.right) (fun k => k.elim0) ∗ Pipeline.scopedRest spec0 c) : sProp 𝕄)
      ⊢ (dats m ρ 0 c).Φ 0 := by
  rw [show (dats m ρ 0 c).Φ 0 = Φ₀ m ρ c from rfl, scopedRest0]
  unfold Φ₀
  iintro ⟨Hs, -, Hr⟩
  isplitl [Hs] <;> iassumption

theorem phi1_exit (c : Dev nD) :
    ((dats m ρ 0 c).Φ (Fin.last cfg0.N) : sProp 𝕄) ⊢ iprop(unscopedSems0 c ∗ Pipeline.ownSems0 osem c ∗ Pipeline.scopedRest spec0 c) := by
  rw [show (dats m ρ 0 c).Φ (Fin.last cfg0.N) = Φ₁ c from rfl, scopedRest0]
  unfold Φ₁
  iintro ⟨Hz, Hr⟩
  ihave Hz := (Entails.of_eq (sems_all c)) $$ Hz
  icases Hz with ⟨Hu, Ho⟩
  isplitl [Hu]; iexact Hu
  isplitl [Ho] <;> iassumption

theorem waits (c : Dev nD) : (levAts L lv : sProp 𝕄) ⊢ Pipeline.cellsWaits cfgs (dats m ρ) none 0 c :=
  Pipeline.cellsWaits_intro cfgs (dats m ρ) none 0 c fun w s t => by
    rcases t with ⟨_ | _, ht⟩
    · exact mayWait c _ none 1 (Finset.mem_insert_self _ _) Nat.one_pos
    · have h : (levAts L lv : sProp 𝕄) ⊢ MayWait (c : Thread nD τ) (.dma (((cfgs 0).win w).sem s)) none 0 := by rw [MayWait_zero]; iintro -; iempintro
      exact h

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r => ∀ c : Dev nD, ∀ w : Fin cfg0.W, r.2.mem ((cfg0.win w).arr.view.loc (c : Thread nD τ)) = finalA m ρ c w

set_option maxRecDepth 100000 in
attribute [local irreducible] cc0_body in
/-- Every execution ends, with the windows' arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) none cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G0 (xs m ρ) (ws m ρ)) (G' := G1 (xs m ρ) (ws m ρ)) (u₀ := u₀)
    (hu₀ := deal (X := xs m ρ) (W := ws m ρ) _)
    (hglob := glob (X := xs m ρ) (W := ws m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

end Cert.KernelIdeal.Px

end
-- ==== Proof.Same.lean ====
/-
  The two printed programs are one text: what is proved of one is proved of the other.
-/
module

public import proofs.«01_k».proof.Proof.Run
public import proofs.«01_k».proof.Proof.FactsK
public import proofs.«01_k».proof.Kernel
public import proofs.«01_k».proof.KernelIdeal

@[expose] public section

set_option maxRecDepth 100000

noncomputable section

namespace Cert.Same

open Idealize.ShloMosaic Idealize.ShloMosaic.TcCoe
open Idealize.SL Idealize.SL.Sem

variable {F : FTy → Type} [FloatOps F]

/-- The idealized program runs, its arguments and every counter as at the start; -/
theorem frame_ideal (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.Px.final_x m ρ c), (h.1 c (1 : Fin 3)).trans (Cert.KernelIdeal.Px.final_w m ρ c)⟩, h.2⟩)
    (Cert.KernelIdeal.Px.run_main m ρ)

theorem same_body : @Cert.Kernel.cc0_body F _ Cert.Kernel.Ok.facts = @Cert.KernelIdeal.cc0_body F _ Cert.KernelIdeal.Ok.facts := rfl
theorem same_defs₀ : Cert.Kernel.defs₀ (F := F) = Cert.KernelIdeal.defs₀ (F := F) := by
  unfold Cert.Kernel.defs₀ Cert.KernelIdeal.defs₀
  refine congrArg Defs.onTc (funext fun l => funext fun a => ?_)
  obtain rfl : l = 0 := Subsingleton.elim _ _
  obtain ⟨t, s⟩ := a
  rfl
theorem same_defs : Cert.Kernel.defs (F := F) = Cert.KernelIdeal.defs (F := F) :=
  congrArg (Idealize.ShloMosaic.Pipeline.defs (Cert.KernelIdeal.pcfgs (F := F))) same_defs₀

/-- and so does the program it was printed from. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  by
  have h := frame_ideal (F := F) m ρ
  rw [← same_defs] at h
  exact h

end Cert.Same

end
-- ==== Proof.Value.lean ====
/-
  The value over the extended reals: the reduced product is the product of the whole arrays, the scale is the largest
  magnitude of it over 448, and the result is the quotient by the scale times the scale.
-/
module

public import proofs.«01_k».proof.Proof.Cut
public import Idealize.ShloMosaic.Lib.MatmulPlain
public import Idealize.ShloMosaic.Lib.Layout
public import Idealize.ShloMosaic.Lib.Pipeline.Value
public import Idealize.ShloMosaic.PureOps.Reduce

@[expose] public section

set_option maxRecDepth 16384

noncomputable section

namespace Cert.KernelIdeal.Px

open Cert.KernelIdeal
open Idealize.ShloMosaic Idealize.ShloMosaic.TcCoe Idealize.ShloMosaic.ValueIdx
open scoped BigOperators

/-! ### Constants -/

theorem zero_bits : Ideal.ofBits .f32 0x00000000#32 = 0 := by
  simp [Ideal.ofBits, Ideal.ieee]
theorem bot_bits : Ideal.ofBits .f32 0xFF800000#32 = ⊥ := by
  simp [Ideal.ofBits, Ideal.ieee]
theorem top_bits : Ideal.ofBits .f32 0x43E00000#32 = ((448 : ℝ) : EReal) := by
  simp [Ideal.ofBits, Ideal.ieee]; rw [← EReal.coe_mul]; norm_num
theorem neg_bits : Ideal.ofBits .f32 0xC3E00000#32 = ((-448 : ℝ) : EReal) := by
  simp [Ideal.ofBits, Ideal.ieee]; rw [← EReal.coe_mul]; norm_num

/-! ### Products -/

variable [Facts]

theorem prodHalf_apply (v : Vec Ideal S128x128 .f32) (u : Vec Ideal S128x1024 .f32) (j : S128x1024.Idx) :
    prodHalf (F := Ideal) v u j = ∑ k : Fin 128, (v (ix2 (j 0) k) : EReal) * u (ix2 k (j 1)) := by
  unfold prodHalf
  rw [shapeCast_self, shapeCast_self]
  conv_lhs => rw [eq_ix2 j]
  refine (Ideal.matmul_plain_apply (M := 128) (K := 128) (N := 1024) none v u _ (j 0) (j 1)).trans ?_
  rw [show (constant (F := Ideal) S128x1024 .f32 0x00000000#32) (ix2 (j 0) (j 1)) = (0 : EReal) from zero_bits, zero_add]
theorem prodAll_apply (v : Vec Ideal S128x128 .f32) (u : Vec Ideal S128x2048 .f32) (j : S128x2048.Idx) :
    prodAll (F := Ideal) v u j = ∑ k : Fin 128, (v (ix2 (j 0) k) : EReal) * u (ix2 k (j 1)) := by
  unfold prodAll
  rw [shapeCast_self, shapeCast_self]
  conv_lhs => rw [eq_ix2 j]
  refine (Ideal.matmul_plain_apply (M := 128) (K := 128) (N := 2048) none v u _ (j 0) (j 1)).trans ?_
  rw [show (constant (F := Ideal) S128x2048 .f32 0x00000000#32) (ix2 (j 0) (j 1)) = (0 : EReal) from zero_bits, zero_add]

section Vals
variable (X : Dev nD → S4096x128.Idx → EReal) (W : Dev nD → S128x2048.Idx → EReal)

theorem prodV_apply (c : Dev nD) (i : S4096x2048.Idx) :
    prodV (F := Ideal) X W c i = ∑ k : Fin 128, X c (ix2 (i 0) k) * W c (ix2 k (i 1)) := by
  have hx (k : Fin 128) : (xR (chunkOf i)).emb (ix2 ⟨(i 0).val % 128, Nat.mod_lt _ (by decide)⟩ k) = (ix2 (i 0) k : S4096x128.Idx) := by
    funext a; apply Fin.ext
    match a with
    | ⟨0, _⟩ => show 128 * ((i 0).val / 128) + 1 * ((i 0).val % 128) = (i 0).val; omega
    | ⟨1, _⟩ => show 0 + 1 * k.val = k.val; omega
  unfold prodV
  split
  · refine (prodAll_apply _ _ _).trans (Finset.sum_congr rfl fun k _ => ?_)
    refine congrArg₂ (· * ·) (congrArg (X c) (hx k)) (congrArg (W c) ?_)
    funext a; apply Fin.ext
    match a with
    | ⟨0, _⟩ => show 0 + 1 * k.val = k.val; omega
    | ⟨1, _⟩ => show 0 + 1 * (i 1).val = (i 1).val; omega
  · refine (prodHalf_apply _ _ _).trans (Finset.sum_congr rfl fun k _ => ?_)
    refine congrArg₂ (· * ·) (congrArg (X c) (hx k)) (congrArg (W c) ?_)
    funext a; apply Fin.ext
    match a with
    | ⟨0, _⟩ => show 0 + 1 * k.val = k.val; omega
    | ⟨1, _⟩ => show 1024 * ((i 1).val / 1024) + 1 * ((i 1).val % 1024) = (i 1).val; omega

/-! ### Sums along a ring -/

theorem sumV_apply (r : Fin 4) (g : ℕ) (c : Dev nD) (i : S4096x2048.Idx) :
    sumV (F := Ideal) X W r g c i = ∑ j ∈ Finset.range (g + 1), (prodV (F := Ideal) X W ((src r)^[j] c) i : EReal) := by
  induction g generalizing c with
  | zero => simp [sumV]
  | succ g ih =>
    rw [Finset.sum_range_succ']
    show (prodV (F := Ideal) X W c i : EReal) + sumV (F := Ideal) X W r g (src r c) i = _
    rw [ih (src r c), add_comm]
    rfl

theorem pos_iter (r : Fin 4) (j : ℕ) (c : Dev nD) : pos ((src r)^[j] c) = rel c r j := by
  induction j generalizing c with
  | zero => unfold rel; split <;> simp
  | succ j ih => rw [Function.iterate_succ_apply, ih, rel_src]

theorem iter_bij (r : Fin 4) (c : Dev nD) : Function.Bijective (fun j : Fin 32 => ((src r)^[j.val] c : Dev nD)) :=
  (Function.Injective.bijective_of_nat_card_le (fun j j' h => rel_inj c r j j' (by rw [← pos_iter, ← pos_iter]; exact congrArg pos h)) (by simp [nD]))

theorem sum_ring (r : Fin 4) (c : Dev nD) (f : Dev nD → EReal) : ∑ j ∈ Finset.range 32, f ((src r)^[j] c) = ∑ d : Dev nD, f d := by
  rw [Finset.sum_range]
  exact (iter_bij r c).sum_comp f

theorem redV_sum (i : S4096x2048.Idx) :
    redV (F := Ideal) X W i = ∑ d : Dev nD, ∑ k : Fin 128, X d (ix2 (i 0) k) * W d (ix2 k (i 1)) := by
  unfold redV
  rw [sumV_apply, sum_ring (ringOf i) _ (fun d => prodV (F := Ideal) X W d i)]
  exact Finset.sum_congr rfl fun d _ => prodV_apply X W d i

end Vals

/-- The product of the whole arrays. -/
def dotV (a : (⟨2, ![4096, 4096]⟩ : Shape).Idx → EReal) (b : (⟨2, ![4096, 2048]⟩ : Shape).Idx → EReal) (i : S4096x2048.Idx) : EReal :=
  ∑ k : Fin 4096, a (ix2 (i 0) k) * b (ix2 k (i 1))

theorem redV_dot {X : Dev nD → S4096x128.Idx → EReal} {W : Dev nD → S128x2048.Idx → EReal}
    {a : (⟨2, ![4096, 4096]⟩ : Shape).Idx → EReal} {b : (⟨2, ![4096, 2048]⟩ : Shape).Idx → EReal}
    (hX : ∀ c : Dev nD, X c = Layout.block ⟨2, ![4096, 128]⟩ ⟨2, ![4096, 4096]⟩ 1 32 c a)
    (hW : ∀ c : Dev nD, W c = Layout.block ⟨2, ![128, 2048]⟩ ⟨2, ![4096, 2048]⟩ 0 32 c b) (i : S4096x2048.Idx) :
    redV (F := Ideal) X W i = dotV a b i := by
  rw [redV_sum]
  unfold dotV
  rw [← (finProdFinEquiv (m := 32) (n := 128)).sum_comp, Fintype.sum_prod_type]
  refine Finset.sum_congr rfl fun d _ => Finset.sum_congr rfl fun k _ => ?_
  rw [hX, hW, Layout.block_apply, Layout.block_apply]
  refine congrArg₂ (· * ·) (congrArg a ?_) (congrArg b ?_)
  · funext x; apply Fin.ext
    rw [Layout.Tiles.idx_val]
    match x with
    | ⟨0, _⟩ => rfl
    | ⟨1, _⟩ => show d.val * 128 + k.val = k.val + 128 * d.val; omega
  · funext x; apply Fin.ext
    rw [Layout.Tiles.idx_val]
    match x with
    | ⟨0, _⟩ => show d.val * 128 + k.val = k.val + 128 * d.val; omega
    | ⟨1, _⟩ => rfl

end Cert.KernelIdeal.Px

end
-- ==== Proof.Scale.lean ====
/-
  The scale and the result over the extended reals: the largest magnitude of the reduced product is one value however it is
  taken, and a quotient by the scale needs no clipping.
-/
module

public import proofs.«01_k».proof.Proof.Value

@[expose] public section

set_option maxRecDepth 16384

noncomputable section

namespace Cert.KernelIdeal.Px

open Cert.KernelIdeal
open Idealize.ShloMosaic Idealize.ShloMosaic.TcCoe Idealize.ShloMosaic.ValueIdx
open scoped BigOperators

/-- A magnitude. -/
def mag (y : EReal) : EReal := max y (-y)

/-! ### No clipping -/

theorem div_scale (M : EReal) : Ideal.div M ((448 : ℝ) : EReal) = M * ((448⁻¹ : ℝ) : EReal) := by
  unfold Ideal.div
  rw [if_neg (by rw [EReal.coe_eq_zero]; norm_num), ← EReal.coe_inv]

/-- The quotient by the scale, clipped, times the scale. -/
def clipped (y s : EReal) : EReal := min ((448 : ℝ) : EReal) (max ((-448 : ℝ) : EReal) (Ideal.div y s)) * s

theorem clip_free {y M : EReal} (h : mag y ≤ M) : Ideal.div y (Ideal.div M ((448 : ℝ) : EReal)) * Ideal.div M ((448 : ℝ) : EReal) = clipped y (Ideal.div M ((448 : ℝ) : EReal)) := by
  unfold clipped
  rw [div_scale]
  have h1 : y ≤ M := (le_max_left _ _).trans h
  have h2 : -y ≤ M := (le_max_right _ _).trans h
  have h0 : 0 ≤ M := by
    rcases le_total 0 y with hy | hy
    · exact hy.trans h1
    · exact (EReal.neg_nonneg.mpr hy).trans h2
  induction M with
  | bot => exact absurd h0 (by simp)
  | top =>
    have e : ((⊤ : EReal) * ((448⁻¹ : ℝ) : EReal)) = ⊤ := EReal.top_mul_coe_of_pos (by norm_num)
    rw [e]
    have z : Ideal.div y ⊤ = 0 := by unfold Ideal.div; rw [if_neg (by simp), EReal.inv_top, mul_zero]
    rw [z]
    have e1 : max ((-448 : ℝ) : EReal) 0 = 0 := max_eq_right (by exact_mod_cast (by norm_num : (-448 : ℝ) ≤ 0))
    have e2 : min ((448 : ℝ) : EReal) 0 = 0 := min_eq_right (by exact_mod_cast (by norm_num : (0 : ℝ) ≤ 448))
    rw [e1, e2]
  | coe m =>
    have m0 : (0 : ℝ) ≤ m := by exact_mod_cast h0
    rw [← EReal.coe_mul]
    rcases m0.eq_or_lt with rfl | mp
    · simp
    · have hs : (0 : ℝ) < m * 448⁻¹ := by positivity
      have y1 : y ≠ ⊤ := fun e => by rw [e] at h1; exact absurd h1 (by simp)
      have y2 : y ≠ ⊥ := fun e => by rw [e] at h2; exact absurd h2 (by simp)
      lift y to ℝ using ⟨y1, y2⟩
      have g1 : y ≤ m := by exact_mod_cast h1
      have g2 : -y ≤ m := by exact_mod_cast h2
      congr 1
      have e : Ideal.div (y : EReal) ((m * 448⁻¹ : ℝ) : EReal) = ((y * (m * 448⁻¹)⁻¹ : ℝ) : EReal) := by
        unfold Ideal.div
        rw [if_neg (by rw [EReal.coe_eq_zero]; exact hs.ne'), ← EReal.coe_inv, ← EReal.coe_mul]
      rw [e]
      have l1 : y * (m * 448⁻¹)⁻¹ ≤ 448 := by
        rw [← div_eq_mul_inv, div_le_iff₀ hs]; linarith
      have l2 : -448 ≤ y * (m * 448⁻¹)⁻¹ := by
        rw [← div_eq_mul_inv, le_div_iff₀ hs]; linarith
      rw [max_eq_right (EReal.coe_le_coe_iff.mpr l2), min_eq_right (EReal.coe_le_coe_iff.mpr l1)]

/-! ### Largest magnitudes -/

instance maxComm : Std.Commutative (FloatOps.maximumf (F := Ideal) (φ := .f32)) := ⟨fun a b => max_comm (α := EReal) a b⟩
instance maxAssoc : Std.Associative (FloatOps.maximumf (F := Ideal) (φ := .f32)) := ⟨fun a b c => max_assoc (α := EReal) a b c⟩

theorem red_le {s : Shape} {axes : List (Fin s.rank)} (v : FVec Ideal s .f32) (h : s.Reduces axes ⟨1, ![1]⟩) (hφ : FKind.Formats .f32)
    (hacc : (0xFF800000#32 : BitVec _) = FKind.maximumf.neutral .f32 hφ) (j : (⟨1, ![1]⟩ : Shape).Idx) (e : EReal) :
    ((multiReduction .maximumf axes ⟨1, ![1]⟩ v 0xFF800000#32 h hφ hacc j : EReal) ≤ e) ↔ ∀ i, (v i : EReal) ≤ e := by
  rw [multiReduction_maximumf_eq_fold]
  refine (Finset.fold_max_le (β := EReal) (f := v) e).trans ?_
  have hb : (FloatOps.ofBits (F := Ideal) .f32 0xFF800000#32 : EReal) = ⊥ := bot_bits
  constructor
  · intro hh i
    refine hh.2 i (Finset.mem_filter.mpr ⟨Finset.mem_univ _, ?_⟩)
    funext a; apply Fin.ext
    have ha := a.isLt
    match a with
    | ⟨0, _⟩ =>
      have l1 : (h.drop i ⟨0, ha⟩).val < 1 := (h.drop i ⟨0, ha⟩).isLt
      have l2 : (j ⟨0, ha⟩).val < 1 := (j ⟨0, ha⟩).isLt
      omega
  · intro hh
    exact ⟨by rw [hb]; exact bot_le, fun i _ => hh i⟩

theorem extract_cast {s t : Shape} {α : Type} (v : s.Idx → α) (h : s.ShapeCasts t) (p : Fin t.rank → ℕ) (hp : ∀ a, p a < t.size a) :
    extractAt p (shapeCast t v h) hp = v (Shape.reshapeEquiv h fun a => ⟨p a, hp a⟩) := rfl

theorem scalar_div (x : EReal) : (Scalar.divf (F := Ideal) (φ := .f32) x (Scalar.ofBits .f32 0x43E00000#32) : EReal) = Ideal.div x ((448 : ℝ) : EReal) := by
  rw [← top_bits]; rfl

theorem scalar_max (x y : EReal) : (Scalar.maximumf (F := Ideal) (φ := .f32) x y : EReal) = max x y := rfl

theorem abs_apply {s : Shape} (v : FVec Ideal s .f32) (i : s.Idx) : (absf v i : EReal) = mag (v i) := rfl

theorem cast_all {s t : Shape} (v : s.Idx → EReal) (h : s.ShapeCasts t) (e : EReal) : (∀ j, shapeCast t v h j ≤ e) ↔ ∀ i, v i ≤ e := by
  constructor
  · intro hh i
    have := hh ((Shape.reshapeEquiv h).symm i)
    unfold shapeCast at this
    rwa [Equiv.apply_symm_apply] at this
  · intro hh j; exact hh _

section
variable [Facts]

theorem maxHalf_le (v : Vec Ideal S128x1024 .f32) (e : EReal) : ((maxHalf (F := Ideal) v : EReal) ≤ e) ↔ ∀ j, mag (v j) ≤ e := by
  unfold maxHalf
  rw [extract_cast, shapeCast_self]
  refine (red_le _ _ _ _ _ e).trans ?_
  refine (cast_all (fun i => absf (F := Ideal) v i) _ e).trans ?_
  simp only [abs_apply]

theorem maxRow_le (v u : Vec Ideal S128x1024 .f32) (j : S1x128.Idx) (e : EReal) :
    ((maxRow (F := Ideal) v u j : EReal) ≤ e) ↔ (∀ k, mag (v k) ≤ e) ∧ ∀ k, mag (u k) ≤ e := by
  unfold maxRow
  rw [shapeCast_self, broadcast_apply, scalar_max, max_le_iff, maxHalf_le, maxHalf_le]

theorem scaleOf_max (v : Vec Ideal S32x128 .f32) :
    ∃ M : EReal, (scaleOf (F := Ideal) v : EReal) = Ideal.div M ((448 : ℝ) : EReal) ∧ ∀ e, M ≤ e ↔ ∀ j, (v j : EReal) ≤ e := by
  unfold scaleOf
  rw [extract_cast, scalar_div]
  refine ⟨_, rfl, fun e => ?_⟩
  refine (red_le _ _ _ _ _ e).trans ?_
  exact cast_all v _ e

variable (X : Dev nD → S4096x128.Idx → EReal) (W : Dev nD → S128x2048.Idx → EReal)

theorem covers : ∀ k : Fin 32, relG (devAt (k - 1)) 0 0 = k ∧ relG (devAt (k + 1)) 1 0 = k := by decide +kernel

theorem emb_inHalf (i : S4096x2048.Idx) : (halfR (chunkOf i) (halfOf i)).emb (inHalf i) = i := by
  refine idx2 ?_ ?_
  · show 128 * ((i 0).val / 128) + 1 * ((i 0).val % 128) = (i 0).val; omega
  · show 1024 * ((i 1).val / 1024) + 1 * ((i 1).val % 1024) = (i 1).val; omega

theorem scaleV_max :
    ∃ M : EReal, (scaleV (F := Ideal) X W : EReal) = Ideal.div M ((448 : ℝ) : EReal) ∧ ∀ e, M ≤ e ↔ ∀ i, mag (redV (F := Ideal) X W i) ≤ e := by
  obtain ⟨M, h1, h2⟩ := scaleOf_max (fun j => maxV (F := Ideal) X W ((Rect.unit (s := S32x128) ![0, 0] S32x128.size Facts₀.inb_S32x128_S32x128_0_0).emb j))
  refine ⟨M, h1, fun e => (h2 e).trans ⟨fun h i => ?_, fun h j => ?_⟩⟩
  · have hi := emb_inHalf i
    have hrow (d : Dev nD) : (∀ k, mag (halfV (F := Ideal) (redV (F := Ideal) X W) (relG d 0 0) 0 k) ≤ e) ∧ ∀ k, mag (halfV (F := Ideal) (redV (F := Ideal) X W) (relG d 1 0) 1 k) ≤ e := by
      have := (maxRow_le _ _ _ e).mp (h (ix2 (⟨d.val, d.isLt⟩ : Fin 32) (⟨0, by decide⟩ : Fin 128)))
      have hd : (⟨(((Rect.unit (s := S32x128) ![0, 0] S32x128.size Facts₀.inb_S32x128_S32x128_0_0).emb (ix2 (⟨d.val, d.isLt⟩ : Fin 32) (⟨0, by decide⟩ : Fin 128))) 0).val, Fin.isLt _⟩ : Dev nD) = d := by
        apply Fin.ext; show 0 + 1 * d.val = d.val; omega
      rw [hd] at this
      exact this
    have l1 : (i 1).val < 2048 := (i 1).isLt
    have hh : halfOf i = 0 ∨ halfOf i = 1 := by generalize halfOf i = x; revert x; decide
    rcases hh with hh | hh
    · have := (hrow (devAt (chunkOf i - 1))).1 (inHalf i)
      rw [(covers _).1] at this
      unfold halfV at this
      rw [hh] at hi
      rwa [hi] at this
    · have := (hrow (devAt (chunkOf i + 1))).2 (inHalf i)
      rw [(covers _).2] at this
      unfold halfV at this
      rw [hh] at hi
      rwa [hi] at this
  · exact (maxRow_le _ _ _ e).mpr ⟨fun k => h _, fun k => h _⟩

theorem quantV_apply (i : S4096x2048.Idx) : (quantV (F := Ideal) X W i : EReal) = Ideal.div (redV (F := Ideal) X W i) (scaleV (F := Ideal) X W) := by
  unfold quantV quantise
  rw [shapeCast_self, shapeCast_self]
  show Ideal.div (redV (F := Ideal) X W _) _ = _
  rw [emb_inHalf]
  rfl

theorem outV_apply (i : S4096x2048.Idx) : (outV (F := Ideal) X W i : EReal) = Ideal.div (redV (F := Ideal) X W i) (scaleV (F := Ideal) X W) * scaleV (F := Ideal) X W := by
  rw [← quantV_apply]
  unfold outV dequantise
  show (quantV (F := Ideal) X W _ : EReal) * _ = _
  rw [emb_inHalf]
  rfl

/-- The result: the quotients by a 448th of the largest magnitude, clipped, times it. -/
theorem outV_clipped : ∃ M : EReal, (∀ e, M ≤ e ↔ ∀ i, mag (redV (F := Ideal) X W i) ≤ e) ∧
    ∀ i, (outV (F := Ideal) X W i : EReal) = clipped (redV (F := Ideal) X W i) (Ideal.div M ((448 : ℝ) : EReal)) := by
  obtain ⟨M, h1, h2⟩ := scaleV_max X W
  refine ⟨M, h2, fun i => ?_⟩
  rw [outV_apply, h1]
  exact clip_free ((h2 M).mp le_rfl i)

end

end Cert.KernelIdeal.Px

end
-- ==== Proof.Refer.lean ====
/-
  The run of the reference: its one result is the product clipped at a 448th of its largest magnitude.
-/
module

public import proofs.«01_k».proof.Proof.Scale
public import proofs.«01_k».proof.Proof.Gen.ReferenceIdeal.Frame
public import Idealize.ShloMosaic.Lib.Pipeline.ValueKit.Basic

@[expose] public section

set_option maxRecDepth 16384

noncomputable section

namespace Cert.ReferenceIdeal.Rx

open Cert.ReferenceIdeal Cert.ReferenceIdeal.Gen
open Cert.KernelIdeal.Px (mag clipped dotV red_le cast_all extract_cast scalar_div abs_apply zero_bits top_bits neg_bits)
open Idealize.ShloMosaic Idealize.ShloMosaic.TcCoe Idealize.ShloMosaic.ValueIdx Idealize.ShloMosaic.Pipeline
open Idealize.SL Idealize.SL.Sem
open scoped BigOperators

/-! ### The payload -/

theorem dot_apply (a : Vec Ideal S4096x4096 .f32) (b : Vec Ideal S4096x2048 .f32) (i : S4096x2048.Idx) :
    (matmul (φ₁ := .f32) (φ₂ := .f32) dot_S4096x4096_S4096x2048_S4096x2048_1_0_0_1_n_n none a b (constant (F := Ideal) S4096x2048 .f32 0x00000000#32) i : EReal) = dotV a b i := by
  conv_lhs => rw [eq_ix2 i]
  refine (Ideal.matmul_plain_apply (M := 4096) (K := 4096) (N := 2048) none a b _ (i 0) (i 1)).trans ?_
  rw [show (constant (F := Ideal) S4096x2048 .f32 0x00000000#32) (ix2 (i 0) (i 1)) = (0 : EReal) from zero_bits, zero_add]
  rfl

/-- What the payload does to a product `y` at a scale. -/
theorem clip_apply (y : FVec Ideal S4096x2048 .f32) (s : Ideal .f32) (i : S4096x2048.Idx) :
    (mulf (extf .f32 (truncf .fp8e4m3 (minimumf (broadcast S4096x2048 (Scalar.ofBits .f32 0x43E00000#32)) (maximumf (broadcast S4096x2048 (Scalar.ofBits .f32 0xC3E00000#32)) (divf y (broadcast S4096x2048 s)))) bitsLt_fp8e4m3_f32) bitsLt_fp8e4m3_f32) (broadcast S4096x2048 s) i : EReal)
      = clipped (y i) s := by
  unfold clipped
  rw [← top_bits, ← neg_bits]
  rfl

theorem pay_clipped (a : Vec Ideal S4096x4096 .f32) (b : Vec Ideal S4096x2048 .f32) :
    ∃ M : EReal, (∀ e, M ≤ e ↔ ∀ i : S4096x2048.Idx, mag (dotV a b i) ≤ e) ∧
      ∀ i, (k0_pay1 (F := Ideal) a b i : EReal) = clipped (dotV a b i) (Ideal.div M ((448 : ℝ) : EReal)) := by
  unfold k0_pay1
  dsimp only
  rw [extract_cast, scalar_div]
  refine ⟨_, fun e => ?_, fun i => (clip_apply _ _ i).trans (by rw [dot_apply])⟩
  refine (red_le _ _ _ _ _ e).trans ?_
  refine (cast_all (fun i => absf (F := Ideal) (matmul (φ₁ := .f32) (φ₂ := .f32) dot_S4096x4096_S4096x2048_S4096x2048_1_0_0_1_n_n none a b (constant (F := Ideal) S4096x2048 .f32 0x00000000#32)) i) _ e).trans ?_
  simp only [abs_apply, dot_apply]

/-! ### The run -/

variable {F : FTy → Type} [FloatOps F] (m : (ℓ : Loc nD τ sig) → Buf (Elt F) ℓ) (ρ : Dev nD → PrngReg)

def t₀ : Fin cfg0.N := ⟨0, by decide⟩

theorem blk_0 (c : Dev nD) : iblk m c (0 : Fin 3) t₀ = m ((c : Thread nD τ).loc main_arg0) := by
  funext i
  refine congrArg (m ((c : Thread nD τ).loc main_arg0)) ?_
  funext a; apply Fin.ext
  match a with
  | ⟨0, _⟩ => show 0 + 1 * (i 0).val = (i 0).val; omega
  | ⟨1, _⟩ => show 0 + 1 * (i 1).val = (i 1).val; omega
theorem blk_1 (c : Dev nD) : iblk m c (1 : Fin 3) t₀ = m ((c : Thread nD τ).loc main_arg1) := by
  funext i
  refine congrArg (m ((c : Thread nD τ).loc main_arg1)) ?_
  funext a; apply Fin.ext
  match a with
  | ⟨0, _⟩ => show 0 + 1 * (i 0).val = (i 0).val; omega
  | ⟨1, _⟩ => show 0 + 1 * (i 1).val = (i 1).val; omega

theorem out_pay (a : Vec F S4096x4096 .f32) (b : Vec F S4096x2048 .f32) : out0_2 a b = k0_pay1 a b := by
  unfold out0_2
  rw [View.canon_cons_unit_lit, View.ld_unit_lit, View.ld_unit_lit]
  all_goals (intro a; match a with | ⟨0, _⟩ => rfl | ⟨1, _⟩ => rfl)

theorem final_o (c : Dev nD) : (dats (F := F) m 0 c).arrAt (2 : Fin 3) cfg0.N
    = k0_pay1 (m ((c : Thread nD τ).loc main_arg0)) (m ((c : Thread nD τ).loc main_arg1)) := by
  have h := (dats (F := F) m 0 c).arrAt_succ (2 : Fin 3) t₀
  rw [if_pos (flush0_2 t₀)] at h
  refine h.trans ?_
  funext i
  have hr := congrFun (View.read_write_univ (v := ((cfg0.win (2 : Fin 3)).blk t₀).view) (Val := Elt F) ((dats (F := F) m 0 c).arrAt (2 : Fin 3) t₀) ((dats (F := F) m 0 c).flushed (2 : Fin 3) t₀)) i
  have he : i = ((cfg0.win (2 : Fin 3)).blk t₀).view.emb i := by
    funext a; apply Fin.ext
    match a with
    | ⟨0, _⟩ => show (i 0).val = 0 + 1 * (i 0).val; omega
    | ⟨1, _⟩ => show (i 1).val = 0 + 1 * (i 1).val; omega
  refine ((congrArg _ he).trans hr).trans ?_
  show (dats (F := F) m 0 c).after (2 : Fin 3) t₀ i = _
  rw [after0_2, out_pay, blk_0, blk_1]

/-- Every execution ends with the result at the payload of the arguments, those unchanged. -/
theorem run_pay : θ_run defs (onTc (τ := τ) (main (F := F))) ⟨m, fun _ => 0, ρ⟩ (fun r => ∀ c : Dev nD,
    r.2.mem ((c.tc : Thread nD τ).loc main_v0) = k0_pay1 (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).1 (2 : Fin 3)).trans (final_o m c),
    ((h c).1 (0 : Fin 3)).trans (((dats m 0 c).arrAt_in (0 : Fin 3) rfl _).trans (A_eq m c (0 : Fin 3))),
    ((h c).1 (1 : Fin 3)).trans (((dats m 0 c).arrAt_in (1 : Fin 3) rfl _).trans (A_eq m c (1 : Fin 3)))⟩) (run_main m ρ)

end Cert.ReferenceIdeal.Rx

end
-- ==== Proof.Equal.lean ====
/-
  The value claim: what every device ends with is what the reference computes of the whole arrays.
-/
module

public import proofs.«01_k».proof.Proof.Run
public import proofs.«01_k».proof.Proof.Refer

@[expose] public section

set_option maxRecDepth 16384

noncomputable section

namespace Cert.KernelIdeal.Px

open Cert.KernelIdeal
open Idealize.ShloMosaic Idealize.ShloMosaic.TcCoe Idealize.ShloMosaic.Pipeline
open Idealize.SL Idealize.SL.Sem

section Final
variable {F : FTy → Type} [FloatOps F] (m : (ℓ : Loc nD τ sig) → Buf (Elt F) ℓ) (ρ : Dev nD → PrngReg)

/-- The result's array ends at the result; -/
theorem final_o (c : Dev nD) : finalA m ρ c (2 : Fin 3) = outV (xs m ρ) (ws m ρ) := by
  have h := (dats (F := F) m ρ 0 c).arrAt_succ (2 : Fin 3) t₀
  rw [if_pos (by rfl)] at h
  refine h.trans ?_
  funext i
  have hr := congrFun (View.read_write_univ (v := ((cfg0.win (2 : Fin 3)).blk t₀).view) (Val := Elt F) ((dats (F := F) m ρ 0 c).arrAt (2 : Fin 3) t₀) ((dats (F := F) m ρ 0 c).flushed (2 : Fin 3) t₀)) i
  have he : i = ((cfg0.win (2 : Fin 3)).blk t₀).view.emb i := by
    funext a; apply Fin.ext
    match a with
    | ⟨0, _⟩ => show (i 0).val = 0 + 1 * (i 0).val; omega
    | ⟨1, _⟩ => show (i 1).val = 0 + 1 * (i 1).val; omega
  exact (congrArg _ he).trans hr
/-- the argument's blocks are the arguments. -/
theorem xs_eq (c : Dev nD) : xs m ρ c = m ((c : Thread nD τ).loc main_arg0) := by
  funext i
  refine congrArg (m ((c : Thread nD τ).loc main_arg0)) ?_
  funext a; apply Fin.ext
  match a with
  | ⟨0, _⟩ => show 0 + 1 * (i 0).val = (i 0).val; omega
  | ⟨1, _⟩ => show 0 + 1 * (i 1).val = (i 1).val; omega
theorem ws_eq (c : Dev nD) : ws m ρ c = m ((c : Thread nD τ).loc main_arg1) := by
  funext i
  refine congrArg (m ((c : Thread nD τ).loc main_arg1)) ?_
  funext a; apply Fin.ext
  match a with
  | ⟨0, _⟩ => show 0 + 1 * (i 0).val = (i 0).val; omega
  | ⟨1, _⟩ => show 0 + 1 * (i 1).val = (i 1).val; omega

/-- Every execution ends with every device's result at the result, the arguments unchanged. -/
theorem run_out : θ_run defs (onTc (τ := τ) (main (F := F))) ⟨m, fun _ => 0, ρ⟩ (fun r => ∀ c : Dev nD,
    r.2.mem ((c.tc : Thread nD τ).loc main_v1) = outV (xs m ρ) (ws m ρ)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h.1 c (2 : Fin 3)).trans (final_o m ρ c),
    (h.1 c (0 : Fin 3)).trans (final_x m ρ c), (h.1 c (1 : Fin 3)).trans (final_w m ρ c)⟩) (run_main m ρ)

end Final

/-- The kernel's result of blocks is the reference's of the whole. -/
theorem outV_pay {X : Dev nD → S4096x128.Idx → EReal} {W : Dev nD → S128x2048.Idx → EReal}
    {a : Vec Ideal Cert.ReferenceIdeal.S4096x4096 .f32} {b : Vec Ideal Cert.ReferenceIdeal.S4096x2048 .f32}
    (hX : ∀ c : Dev nD, X c = Layout.block ⟨2, ![4096, 128]⟩ ⟨2, ![4096, 4096]⟩ 1 32 c a)
    (hW : ∀ c : Dev nD, W c = Layout.block ⟨2, ![128, 2048]⟩ ⟨2, ![4096, 2048]⟩ 0 32 c b) :
    outV (F := Ideal) X W = Cert.ReferenceIdeal.Gen.k0_pay1 (F := Ideal) a b := by
  obtain ⟨M, hM, h⟩ := outV_clipped X W
  obtain ⟨M', hM', h'⟩ := Cert.ReferenceIdeal.Rx.pay_clipped a b
  have hd (i) : redV (F := Ideal) X W i = dotV a b i := redV_dot hX hW i
  have e : M = M' := eq_of_forall_ge_iff fun x => by rw [hM, hM']; simp only [hd]
  funext i
  refine (h i).trans (Eq.trans ?_ (h' i).symm)
  rw [hd, e]

/-- From blocks of the whole arrays every device ends with the reference's result of the whole arrays. -/
theorem algebraic (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hb : ∀ c : Dev nD,
      m ((c.tc : Thread nD τ).loc main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) :
    ∃ v0 : Buf (Elt Ideal) (((0 : Dev Cert.ReferenceIdeal.nD).tc : Thread Cert.ReferenceIdeal.nD Cert.ReferenceIdeal.τ).loc Cert.ReferenceIdeal.main_v0),
      θ_run (defs (F := Ideal)) (onTc (τ := τ) (main (F := Ideal))) ⟨m, fun _ => 0, g⟩ (fun r => ∀ c : Dev nD,
        r.2.mem ((c.tc : Thread nD τ).loc main_v1) = v0
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
        r.2.mem (((0 : Dev Cert.ReferenceIdeal.nD).tc : Thread Cert.ReferenceIdeal.nD Cert.ReferenceIdeal.τ).loc Cert.ReferenceIdeal.main_v0) = v0
        ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have e := outV_pay (X := xs m g) (W := ws m g) (fun c => (xs_eq m g c).trans (hb c).1) (fun c => (ws_eq m g c).trans (hb c).2)
  refine ⟨_, ?_, (θ_run Cert.ReferenceIdeal.defs _ _).mono (fun _ h => h 0) (Cert.ReferenceIdeal.Rx.run_pay m' g')⟩
  refine (θ_run defs _ _).mono (fun _ h c => ?_) (run_out m g)
  exact ⟨(h c).1.trans e, (h c).2⟩

end Cert.KernelIdeal.Px

end
-- ==== Proof.lean ====
/- The claims, gathered. -/
module

public import proofs.«01_k».proof.Defs
public import proofs.«01_k».proof.Proof.Same
public import proofs.«01_k».proof.Proof.Equal
public import proofs.«01_k».proof.Proof.Gen.ReferenceIdeal.Frame

@[expose] public section

noncomputable section

theorem Cert.Proof.claim : Cert.Claim :=
  ⟨Cert.Kernel.Ok.facts, Cert.KernelIdeal.Ok.facts, Cert.ReferenceIdeal.Gen.facts,
    fun m g _ => Cert.Same.frame_kernel m g,
    fun m g _ => Cert.Same.frame_ideal m g,
    fun m g _ => Cert.ReferenceIdeal.Gen.frame m g,
    trivial,
    fun m g m' g' _ hb => Cert.KernelIdeal.Px.algebraic m g m' g' hb⟩

end
